-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v382) = v0 c
          ∧ r.2.mem ((c.tc : Thread Cert.Reference3Ideal.nD Cert.Reference3Ideal.τ).loc Cert.Reference3Ideal.main_v383) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v38_0)) (v1 : (c : Dev Cert.Kernel5Ideal.nD) → Buf (Elt Ideal) ((c.tc : Thread Cert.Kernel5Ideal.nD Cert.Kernel5Ideal.τ).loc Cert.Kernel5Ideal.main_v38_1)) (v2 : (c : Dev Cert.Kernel5Ideal.nD) → Buf (Elt Ideal) ((c.tc : Thread Cert.Kernel5Ideal.nD Cert.Kernel5Ideal.τ).loc Cert.Kernel5Ideal.main_v38_2)) (v3 : (c : Dev Cert.Kernel5Ideal.nD) → Buf (Elt Ideal) ((c.tc : Thread Cert.Kernel5Ideal.nD Cert.Kernel5Ideal.τ).loc Cert.Kernel5Ideal.main_v38_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_0) = v0 c
          ∧ r.2.mem ((c.tc : Thread Cert.Kernel5Ideal.nD Cert.Kernel5Ideal.τ).loc Cert.Kernel5Ideal.main_v38_1) = v1 c
          ∧ r.2.mem ((c.tc : Thread Cert.Kernel5Ideal.nD Cert.Kernel5Ideal.τ).loc Cert.Kernel5Ideal.main_v38_2) = v2 c
          ∧ r.2.mem ((c.tc : Thread Cert.Kernel5Ideal.nD Cert.Kernel5Ideal.τ).loc Cert.Kernel5Ideal.main_v38_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v123) = v0 c
          ∧ r.2.mem ((c.tc : Thread Cert.Reference5Ideal.nD Cert.Reference5Ideal.τ).loc Cert.Reference5Ideal.main_v125) = v1 c
          ∧ r.2.mem ((c.tc : Thread Cert.Reference5Ideal.nD Cert.Reference5Ideal.τ).loc Cert.Reference5Ideal.main_v126) = v2 c
          ∧ r.2.mem ((c.tc : Thread Cert.Reference5Ideal.nD Cert.Reference5Ideal.τ).loc Cert.Reference5Ideal.main_v127) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_v93) = v2 c
          ∧ r.2.mem ((c.tc : Thread Cert.Reference6Ideal.nD Cert.Reference6Ideal.τ).loc Cert.Reference6Ideal.main_v94) = v3 c
          ∧ r.2.mem ((c.tc : Thread Cert.Reference6Ideal.nD Cert.Reference6Ideal.τ).loc Cert.Reference6Ideal.main_v95) = v4 c
          ∧ r.2.mem ((c.tc : Thread Cert.Reference6Ideal.nD Cert.Reference6Ideal.τ).loc Cert.Reference6Ideal.main_v96) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v31) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S16x1024 : Shape := ⟨2, ![16, 1024]⟩
abbrev S1024 : Shape := ⟨1, ![1024]⟩
abbrev S1024x2576 : Shape := ⟨2, ![1024, 2576]⟩
abbrev S2x2064x1024 : Shape := ⟨3, ![2, 2064, 1024]⟩
abbrev S2x2064x2576 : Shape := ⟨3, ![2, 2064, 2576]⟩
abbrev S_ : Shape := ⟨0, ![]⟩

class Facts : Prop where
  bcast_S_S16x1024 : S_.BroadcastsInDim S16x1024 (![] : Fin 0 → Fin S16x1024.rank)
  bcast_S_S1024 : S_.BroadcastsInDim S1024 (![] : Fin 0 → Fin S1024.rank)
  bcast_S_S1024x2576 : S_.BroadcastsInDim S1024x2576 (![] : Fin 0 → Fin S1024x2576.rank)
  bcast_S_S2x2064x1024 : S_.BroadcastsInDim S2x2064x1024 (![] : Fin 0 → Fin S2x2064x1024.rank)
  bcast_S_S2x2064x2576 : S_.BroadcastsInDim S2x2064x2576 (![] : Fin 0 → Fin S2x2064x2576.rank)

variable [Facts]

def fn {F : FTy → Type} [FloatOps F] (main_arg0 : FVec F S16x1024 .f32) (main_arg1 : FVec F S1024 .f32) (main_arg2 : FVec F S1024x2576 .f32) (main_arg3 : FVec F S2x2064x1024 .f32) (main_arg4 : FVec F S2x2064x2576 .f32) : IVec S16x1024 1 × IVec S1024 1 × IVec S1024x2576 1 × IVec S2x2064x1024 1 × IVec S2x2064x2576 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2576 .f32 := Host.absf main_arg2
  let main_cst_1 : FVec F S_ .f32 := constant S_ .f32 0x7F800000#32
  let main_v7 : FVec F S1024x2576 .f32 := broadcastInDim S1024x2576 ![] bcast_S_S1024x2576 main_cst_1
  let main_v8 : IVec S1024x2576 1 := cmpf .olt main_v6 main_v7
  let main_v9 : FVec F S2x2064x1024 .f32 := Host.absf main_arg3
  let main_cst_2 : FVec F S_ .f32 := constant S_ .f32 0x7F800000#32
  let main_v10 : FVec F S2x2064x1024 .f32 := broadcastInDim S2x2064x1024 ![] bcast_S_S2x2064x1024 main_cst_2
  let main_v11 : IVec S2x2064x1024 1 := cmpf .olt main_v9 main_v10
  let main_v12 : FVec F S2x2064x2576 .f32 := Host.absf main_arg4
  let main_cst_3 : FVec F S_ .f32 := constant S_ .f32 0x7F800000#32
  let main_v13 : FVec F S2x2064x2576 .f32 := broadcastInDim S2x2064x2576 ![] bcast_S_S2x2064x2576 main_cst_3
  let main_v14 : IVec S2x2064x2576 1 := cmpf .olt main_v12 main_v13
  (main_v2, main_v5, main_v8, main_v11, main_v14)
-- ==== Pre_finite2.lean ====
abbrev S2x2048x1024 : Shape := ⟨3, ![2, 2048, 1024]⟩
abbrev S1024 : Shape := ⟨1, ![1024]⟩
abbrev S1024x2576 : Shape := ⟨2, ![1024, 2576]⟩
abbrev S2x2064x1024 : Shape := ⟨3, ![2, 2064, 1024]⟩
abbrev S2x2064x2576 : Shape := ⟨3, ![2, 2064, 2576]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x2576 : S_.BroadcastsInDim S1024x2576 (![] : Fin 0 → Fin S1024x2576.rank)
  bcast_S_S2x2064x1024 : S_.BroadcastsInDim S2x2064x1024 (![] : Fin 0 → Fin S2x2064x1024.rank)
  bcast_S_S2x2064x2576 : S_.BroadcastsInDim S2x2064x2576 (![] : Fin 0 → Fin S2x2064x2576.rank)

variable [Facts]

def fn {F : FTy → Type} [FloatOps F] (main_arg0 : FVec F S2x2048x1024 .f32) (main_arg1 : FVec F S1024 .f32) (main_arg2 : FVec F S1024x2576 .f32) (main_arg3 : FVec F S2x2064x1024 .f32) (main_arg4 : FVec F S2x2064x2576 .f32) : IVec S2x2048x1024 1 × IVec S1024 1 × IVec S1024x2576 1 × IVec S2x2064x1024 1 × IVec S2x2064x2576 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2576 .f32 := Host.absf main_arg2
  let main_cst_1 : FVec F S_ .f32 := constant S_ .f32 0x7F800000#32
  let main_v7 : FVec F S1024x2576 .f32 := broadcastInDim S1024x2576 ![] bcast_S_S1024x2576 main_cst_1
  let main_v8 : IVec S1024x2576 1 := cmpf .olt main_v6 main_v7
  let main_v9 : FVec F S2x2064x1024 .f32 := Host.absf main_arg3
  let main_cst_2 : FVec F S_ .f32 := constant S_ .f32 0x7F800000#32
  let main_v10 : FVec F S2x2064x1024 .f32 := broadcastInDim S2x2064x1024 ![] bcast_S_S2x2064x1024 main_cst_2
  let main_v11 : IVec S2x2064x1024 1 := cmpf .olt main_v9 main_v10
  let main_v12 : FVec F S2x2064x2576 .f32 := Host.absf main_arg4
  let main_cst_3 : FVec F S_ .f32 := constant S_ .f32 0x7F800000#32
  let main_v13 : FVec F S2x2064x2576 .f32 := broadcastInDim S2x2064x2576 ![] bcast_S_S2x2064x2576 main_cst_3
  let main_v14 : IVec S2x2064x2576 1 := cmpf .olt main_v12 main_v13
  (main_v2, main_v5, main_v8, main_v11, main_v14)
-- ==== Pre_finite3.lean ====
abbrev S2x2064x1024 : Shape := ⟨3, ![2, 2064, 1024]⟩
abbrev S2x2064x256 : Shape := ⟨3, ![2, 2064, 256]⟩
abbrev S2x2064x512 : Shape := ⟨3, ![2, 2064, 512]⟩
abbrev S2x2064x16 : Shape := ⟨3, ![2, 2064, 16]⟩
abbrev S16x256 : Shape := ⟨2, ![16, 256]⟩
abbrev S256 : Shape := ⟨1, ![256]⟩
abbrev S128 : Shape := ⟨1, ![128]⟩
abbrev S_ : Shape := ⟨0, ![]⟩

class Facts : Prop where
  bcast_S_S2x2064x256 : S_.BroadcastsInDim S2x2064x256 (![] : Fin 0 → Fin S2x2064x256.rank)
  bcast_S_S2x2064x512 : S_.BroadcastsInDim S2x2064x512 (![] : Fin 0 → Fin S2x2064x512.rank)
  bcast_S_S2x2064x16 : S_.BroadcastsInDim S2x2064x16 (![] : Fin 0 → Fin S2x2064x16.rank)
  bcast_S_S16x256 : S_.BroadcastsInDim S16x256 (![] : Fin 0 → Fin S16x256.rank)
  bcast_S_S256 : S_.BroadcastsInDim S256 (![] : Fin 0 → Fin S256.rank)
  bcast_S_S128 : S_.BroadcastsInDim S128 (![] : Fin 0 → Fin S128.rank)

variable [Facts]

def fn_part1 {F : FTy → Type} [FloatOps F] (main_arg7 : FVec F S256 .f32) (main_arg8 : FVec F S128 .f32) (main_v2 : IVec S2x2064x256 1) (main_v5 : IVec S2x2064x256 1) (main_v8 : IVec S2x2064x512 1) (main_v11 : IVec S2x2064x512 1) (main_v14 : IVec S2x2064x16 1) (main_v17 : IVec S16x256 1) : IVec S2x2064x256 1 × IVec S2x2064x256 1 × IVec S2x2064x512 1 × IVec S2x2064x512 1 × IVec S2x2064x16 1 × IVec S16x256 1 × IVec S256 1 × IVec S128 1 :=
  let main_v18 : FVec F S256 .f32 := Host.absf main_arg7
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S128 .f32 := Host.absf main_arg8
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  (main_v2, main_v5, main_v8, main_v11, main_v14, main_v17, main_v20, main_v23)

def fn {F : FTy → Type} [FloatOps F] (main_arg0 : FVec F S2x2064x1024 .f32) (main_arg1 : FVec F S2x2064x256 .f32) (main_arg2 : FVec F S2x2064x256 .f32) (main_arg3 : FVec F S2x2064x512 .f32) (main_arg4 : FVec F S2x2064x512 .f32) (main_arg5 : FVec F S2x2064x16 .f32) (main_arg6 : FVec F S16x256 .f32) (main_arg7 : FVec F S256 .f32) (main_arg8 : FVec F S128 .f32) : IVec S2x2064x256 1 × IVec S2x2064x256 1 × IVec S2x2064x512 1 × IVec S2x2064x512 1 × IVec S2x2064x16 1 × IVec S16x256 1 × IVec S256 1 × IVec S128 1 :=
  let main_v0 : FVec F S2x2064x256 .f32 := Host.absf main_arg1
  let main_cst : FVec F S_ .f32 := constant S_ .f32 0x7F800000#32
  let main_v1 : FVec F S2x2064x256 .f32 := broadcastInDim S2x2064x256 ![] bcast_S_S2x2064x256 main_cst
  let main_v2 : IVec S2x2064x256 1 := cmpf .olt main_v0 main_v1
  let main_v3 : FVec F S2x2064x256 .f32 := Host.absf main_arg2
  let main_cst_0 : FVec F S_ .f32 := constant S_ .f32 0x7F800000#32
  let main_v4 : FVec F S2x2064x256 .f32 := broadcastInDim S2x2064x256 ![] bcast_S_S2x2064x256 main_cst_0
  let main_v5 : IVec S2x2064x256 1 := cmpf .olt main_v3 main_v4
  let main_v6 : FVec F S2x2064x512 .f32 := Host.absf main_arg3
  let main_cst_1 : FVec F S_ .f32 := constant S_ .f32 0x7F800000#32
  let main_v7 : FVec F S2x2064x512 .f32 := broadcastInDim S2x2064x512 ![] bcast_S_S2x2064x512 main_cst_1
  let main_v8 : IVec S2x2064x512 1 := cmpf .olt main_v6 main_v7
  let main_v9 : FVec F S2x2064x512 .f32 := Host.absf main_arg4
  let main_cst_2 : FVec F S_ .f32 := constant S_ .f32 0x7F800000#32
  let main_v10 : FVec F S2x2064x512 .f32 := broadcastInDim S2x2064x512 ![] bcast_S_S2x2064x512 main_cst_2
  let main_v11 : IVec S2x2064x512 1 := cmpf .olt main_v9 main_v10
  let main_v12 : FVec F S2x2064x16 .f32 := Host.absf main_arg5
  let main_cst_3 : FVec F S_ .f32 := constant S_ .f32 0x7F800000#32
  let main_v13 : FVec F S2x2064x16 .f32 := broadcastInDim S2x2064x16 ![] bcast_S_S2x2064x16 main_cst_3
  let main_v14 : IVec S2x2064x16 1 := cmpf .olt main_v12 main_v13
  let main_v15 : FVec F S16x256 .f32 := Host.absf main_arg6
  let main_cst_4 : FVec F S_ .f32 := constant S_ .f32 0x7F800000#32
  let main_v16 : FVec F S16x256 .f32 := broadcastInDim S16x256 ![] bcast_S_S16x256 main_cst_4
  let main_v17 : IVec S16x256 1 := cmpf .olt main_v15 main_v16
  fn_part1 (F := F) main_arg7 main_arg8 main_v2 main_v5 main_v8 main_v11 main_v14 main_v17
-- ==== Pre_finite4.lean ====
abbrev S2x2064x1024 : Shape := ⟨3, ![2, 2064, 1024]⟩
abbrev S1024x4096 : Shape := ⟨2, ![1024, 4096]⟩
abbrev S4096x1024 : Shape := ⟨2, ![4096, 1024]⟩
abbrev S_ : Shape := ⟨0, ![]⟩

class Facts : Prop where
  bcast_S_S2x2064x1024 : S_.BroadcastsInDim S2x2064x1024 (![] : Fin 0 → Fin S2x2064x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2x2064x1024 .f32) (main_arg1 : FVec F S1024x4096 .f32) (main_arg2 : FVec F S4096x1024 .f32) (main_arg3 : FVec F S2x2064x1024 .f32) : IVec S2x2064x1024 1 × IVec S1024x4096 1 × IVec S4096x1024 1 × IVec S2x2064x1024 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S2x2064x1024 .f32 := Host.absf main_arg3
  let main_cst_2 : FVec F S_ .f32 := constant S_ .f32 0x7F800000#32
  let main_v10 : FVec F S2x2064x1024 .f32 := broadcastInDim S2x2064x1024 ![] bcast_S_S2x2064x1024 main_cst_2
  let main_v11 : IVec S2x2064x1024 1 := cmpf .olt main_v9 main_v10
  (main_v2, main_v5, main_v8, main_v11)
-- ==== Pre_finite5.lean ====
abbrev S2x2064x1024 : Shape := ⟨3, ![2, 2064, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2x2064x1024 : S_.BroadcastsInDim S2x2064x1024 (![] : Fin 0 → Fin S2x2064x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2x2064x1024 .f32) (main_arg1 : FVec F S1024 .f32) (main_arg2 : FVec F S1024 .f32) (main_arg3 : FVec F S1024x4096 .f32) (main_arg4 : FVec F S4096x1024 .f32) (main_arg5 : FVec F S2x2064x1024 .f32) : IVec S2x2064x1024 1 × IVec S1024 1 × IVec S1024 1 × IVec S1024x4096 1 × IVec S4096x1024 1 × IVec S2x2064x1024 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S2x2064x1024 .f32 := Host.absf main_arg5
  let main_cst_4 : FVec F S_ .f32 := constant S_ .f32 0x7F800000#32
  let main_v16 : FVec F S2x2064x1024 .f32 := broadcastInDim S2x2064x1024 ![] bcast_S_S2x2064x1024 main_cst_4
  let main_v17 : IVec S2x2064x1024 1 := cmpf .olt main_v15 main_v16
  (main_v2, main_v5, main_v8, main_v11, main_v14, main_v17)
-- ==== Pre_finite6.lean ====
abbrev S2x2064x1024 : Shape := ⟨3, ![2, 2064, 1024]⟩
abbrev S1024x4096 : Shape := ⟨2, ![1024, 4096]⟩
abbrev S4096x1024 : Shape := ⟨2, ![4096, 1024]⟩
abbrev S1024 : Shape := ⟨1, ![1024]⟩
abbrev S2x2048x1024 : Shape := ⟨3, ![2, 2048, 1024]⟩
abbrev S_ : Shape := ⟨0, ![]⟩

class Facts : Prop where
  bcast_S_S2x2064x1024 : S_.BroadcastsInDim S2x2064x1024 (![] : Fin 0 → Fin S2x2064x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)
  bcast_S_S2x2048x1024 : S_.BroadcastsInDim S2x2048x1024 (![] : Fin 0 → Fin S2x2048x1024.rank)

variable [Facts]

def fn {F : FTy → Type} [FloatOps F] (main_arg0 : FVec F S2x2064x1024 .f32) (main_arg1 : FVec F S1024x4096 .f32) (main_arg2 : FVec F S4096x1024 .f32) (main_arg3 : FVec F S1024 .f32) (main_arg4 : FVec F S1024 .f32) (main_arg5 : FVec F S2x2048x1024 .f32) : IVec S2x2064x1024 1 × IVec S1024x4096 1 × IVec S4096x1024 1 × IVec S1024 1 × IVec S1024 1 × IVec S2x2048x1024 1 :=
  let main_v0 : FVec F S2x2064x1024 .f32 := Host.absf main_arg0
  let main_cst : FVec F S_ .f32 := constant S_ .f32 0x7F800000#32
  let main_v1 : FVec F S2x2064x1024 .f32 := broadcastInDim S2x2064x1024 ![] bcast_S_S2x2064x1024 main_cst
  let main_v2 : IVec S2x2064x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Kernel.lean ====
abbrev S16x1024 : Shape := ⟨2, ![16, 1024]⟩
abbrev S1024 : Shape := ⟨1, ![1024]⟩
abbrev S1024x2576 : Shape := ⟨2, ![1024, 2576]⟩
abbrev S2x2064x1024 : Shape := ⟨3, ![2, 2064, 1024]⟩
abbrev S2x2064x2576 : Shape := ⟨3, ![2, 2064, 2576]⟩
abbrev S_ : Shape := ⟨0, ![]⟩
abbrev S2x2112x2688 : Shape := ⟨3, ![2, 2112, 2688]⟩
abbrev S4224x2688 : Shape := ⟨2, ![4224, 2688]⟩
abbrev S4224x1024 : Shape := ⟨2, ![4224, 1024]⟩
abbrev S4224x512 : Shape := ⟨2, ![4224, 512]⟩
abbrev S4224x128 : Shape := ⟨2, ![4224, 128]⟩
abbrev S2576x1024 : Shape := ⟨2, ![2576, 1024]⟩
abbrev S2688x1024 : Shape := ⟨2, ![2688, 1024]⟩
abbrev S64x1024 : Shape := ⟨2, ![64, 1024]⟩
abbrev S2x2112x1024 : Shape := ⟨3, ![2, 2112, 1024]⟩
abbrev S1x1024 : Shape := ⟨2, ![1, 1024]⟩
abbrev S8x128 : Shape := ⟨2, ![8, 128]⟩
abbrev S64x512 : Shape := ⟨2, ![64, 512]⟩
abbrev S64x128 : Shape := ⟨2, ![64, 128]⟩
abbrev S1024x1024 : Shape := ⟨2, ![1024, 1024]⟩
abbrev S512x1024 : Shape := ⟨2, ![512, 1024]⟩
abbrev S128x1024 : Shape := ⟨2, ![128, 1024]⟩
abbrev S64x1 : Shape := ⟨2, ![64, 1]⟩
abbrev S64 : Shape := ⟨1, ![64]⟩

abbrev nBuf : Space → Nat
  | .hbm => 32
  | .vmem => 18
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x2576, .f32⟩
  | .hbm, ⟨3, _⟩ => ⟨S2x2064x1024, .f32⟩
  | .hbm, ⟨4, _⟩ => ⟨S2x2064x2576, .f32⟩
  | .hbm, ⟨5, _⟩ => ⟨S_, .i32⟩
  | .hbm, ⟨6, _⟩ => ⟨S_, .f32⟩
  | .hbm, ⟨7, _⟩ => ⟨S2x2112x2688, .f32⟩
  | .hbm, ⟨8, _⟩ => ⟨S4224x2688, .f32⟩
  | .hbm, ⟨9, _⟩ => ⟨S4224x1024, .f32⟩
  | .hbm, ⟨10, _⟩ => ⟨S4224x512, .f32⟩
  | .hbm, ⟨11, _⟩ => ⟨S4224x512, .f32⟩
  | .hbm, ⟨12, _⟩ => ⟨S4224x512, .f32⟩
  | .hbm, ⟨13, _⟩ => ⟨S4224x128, .f32⟩
  | .hbm, ⟨14, _⟩ => ⟨S2576x1024, .f32⟩
  | .hbm, ⟨15, _⟩ => ⟨S_, .i32⟩
  | .hbm, ⟨16, _⟩ => ⟨S_, .f32⟩
  | .hbm, ⟨17, _⟩ => ⟨S2688x1024, .f32⟩
  | .hbm, ⟨18, _⟩ => ⟨S2688x1024, .bf16⟩
  | .hbm, ⟨19, _⟩ => ⟨S_, .i32⟩
  | .hbm, ⟨20, _⟩ => ⟨S_, .f32⟩
  | .hbm, ⟨21, _⟩ => ⟨S64x1024, .f32⟩
  | .hbm, ⟨22, _⟩ => ⟨S_, .i32⟩
  | .hbm, ⟨23, _⟩ => ⟨S_, .f32⟩
  | .hbm, ⟨24, _⟩ => ⟨S2x2112x1024, .f32⟩
  | .hbm, ⟨25, _⟩ => ⟨S4224x1024, .f32⟩
  | .hbm, ⟨26, _⟩ => ⟨S1x1024, .f32⟩
  | .hbm, ⟨27, _⟩ => ⟨S_, .bf16⟩
  | .hbm, ⟨28, _⟩ => ⟨S8x128, .bf16⟩
  | .hbm, ⟨29, _⟩ => ⟨S16x1024, .f32⟩
  | .hbm, ⟨30, _⟩ => ⟨S1x1024, .f32⟩
  | .hbm, ⟨31, _⟩ => ⟨S1x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x128, .f32⟩
  | .local _ .vmem, ⟨11, _⟩ => ⟨S64x128, .f32⟩
  | .local _ .vmem, ⟨12, _⟩ => ⟨S64x1024, .f32⟩
  | .local _ .vmem, ⟨13, _⟩ => ⟨S1x1024, .f32⟩
  | .local _ .vmem, ⟨14, _⟩ => ⟨S2688x1024, .bf16⟩
  | .local _ .vmem, ⟨15, _⟩ => ⟨S16x1024, .f32⟩
  | .local _ .vmem, ⟨16, _⟩ => ⟨S1x1024, .f32⟩
  | .local _ .vmem, ⟨17, _⟩ => ⟨S1x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_c_2 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2688x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16x1024 : Shape := ⟨2, ![16, 1024]⟩
abbrev S1024 : Shape := ⟨1, ![1024]⟩
abbrev S1024x2576 : Shape := ⟨2, ![1024, 2576]⟩
abbrev S2x2064x1024 : Shape := ⟨3, ![2, 2064, 1024]⟩
abbrev S2x2064x2576 : Shape := ⟨3, ![2, 2064, 2576]⟩
abbrev S_ : Shape := ⟨0, ![]⟩
abbrev S1x16x1024 : Shape := ⟨3, ![1, 16, 1024]⟩
abbrev S2x16x1024 : Shape := ⟨3, ![2, 16, 1024]⟩
abbrev S2x16 : Shape := ⟨2, ![2, 16]⟩
abbrev S2x16x1 : Shape := ⟨3, ![2, 16, 1]⟩
abbrev S1x1x1024 : Shape := ⟨3, ![1, 1, 1024]⟩
abbrev S2x16x2576 : Shape := ⟨3, ![2, 16, 2576]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x2576, .f32⟩
  | .hbm, ⟨3, _⟩ => ⟨S2x2064x1024, .f32⟩
  | .hbm, ⟨4, _⟩ => ⟨S2x2064x2576, .f32⟩
  | .hbm, ⟨5, _⟩ => ⟨S_, .f32⟩
  | .hbm, ⟨6, _⟩ => ⟨S1024, .f32⟩
  | .hbm, ⟨7, _⟩ => ⟨S1x16x1024, .f32⟩
  | .hbm, ⟨8, _⟩ => ⟨S2x16x1024, .f32⟩
  | .hbm, ⟨9, _⟩ => ⟨S_, .f32⟩
  | .hbm, ⟨10, _⟩ => ⟨S2x16, .f32⟩
  | .hbm, ⟨11, _⟩ => ⟨S2x16x1, .f32⟩
  | .hbm, ⟨12, _⟩ => ⟨S_, .f32⟩
  | .hbm, ⟨13, _⟩ => ⟨S2x16x1, .f32⟩
  | .hbm, ⟨14, _⟩ => ⟨S2x16x1, .f32⟩
  | .hbm, ⟨15, _⟩ => ⟨S2x16x1024, .f32⟩
  | .hbm, ⟨16, _⟩ => ⟨S2x16x1024, .f32⟩
  | .hbm, ⟨17, _⟩ => ⟨S2x16x1024, .f32⟩
  | .hbm, ⟨18, _⟩ => ⟨S_, .f32⟩
  | .hbm, ⟨19, _⟩ => ⟨S2x16x1024, .f32⟩
  | .hbm, ⟨20, _⟩ => ⟨S2x16x1024, .f32⟩
  | .hbm, ⟨21, _⟩ => ⟨S_, .f32⟩
  | .hbm, ⟨22, _⟩ => ⟨S2x16, .f32⟩
  | .hbm, ⟨23, _⟩ => ⟨S2x16x1, .f32⟩
  | .hbm, ⟨24, _⟩ => ⟨S_, .f32⟩
  | .hbm, ⟨25, _⟩ => ⟨S2x16x1, .f32⟩
  | .hbm, ⟨26, _⟩ => ⟨S2x16x1, .f32⟩
  | .hbm, ⟨27, _⟩ => ⟨S2x16x1024, .f32⟩
  | .hbm, ⟨28, _⟩ => ⟨S2x16x1024, .f32⟩
  | .hbm, ⟨29, _⟩ => ⟨S_, .f32⟩
  | .hbm, ⟨30, _⟩ => ⟨S2x16x1, .f32⟩
  | .hbm, ⟨31, _⟩ => ⟨S2x16x1, .f32⟩
  | .hbm, ⟨32, _⟩ => ⟨S2x16x1, .f32⟩
  | .hbm, ⟨33, _⟩ => ⟨S2x16x1, .f32⟩
  | .hbm, ⟨34, _⟩ => ⟨S_, .f32⟩
  | .hbm, ⟨35, _⟩ => ⟨S2x16x1, .f32⟩
  | .hbm, ⟨36, _⟩ => ⟨S2x16x1, .f32⟩
  | .hbm, ⟨37, _⟩ => ⟨S2x16x1024, .f32⟩
  | .hbm, ⟨38, _⟩ => ⟨S2x16x1024, .f32⟩
  | .hbm, ⟨39, _⟩ => ⟨S1x1x1024, .f32⟩
  | .hbm, ⟨40, _⟩ => ⟨S2x16x1024, .f32⟩
  | .hbm, ⟨41, _⟩ => ⟨S2x16x1024, .f32⟩
  | .hbm, ⟨42, _⟩ => ⟨S1x1x1024, .f32⟩
  | .hbm, ⟨43, _⟩ => ⟨S2x16x1024, .f32⟩
  | .hbm, ⟨44, _⟩ => ⟨S2x16x1024, .f32⟩
  | .hbm, ⟨45, _⟩ => ⟨S_, .f32⟩
  | .hbm, ⟨46, _⟩ => ⟨S2x16x1024, .f32⟩
  | .hbm, ⟨47, _⟩ => ⟨S2x16x1024, .f32⟩
  | .hbm, ⟨48, _⟩ => ⟨S2x16x2576, .f32⟩
  | .hbm, ⟨49, _⟩ => ⟨S2x16x1024, .f32⟩
  | .hbm, ⟨50, _⟩ => ⟨S2x16x2576, .f32⟩
  | .hbm, ⟨51, _⟩ => ⟨S2x16x1024, .f32⟩
  | .hbm, ⟨52, _⟩ => ⟨S_, .f32⟩
  | .hbm, ⟨53, _⟩ => ⟨S2x16x1024, .f32⟩
  | .hbm, ⟨54, _⟩ => ⟨S2x16x1024, .f32⟩
  | .hbm, ⟨55, _⟩ => ⟨S2x16x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S_, .f32⟩
  | .hbm, ⟨60, _⟩ => ⟨S1024, .f32⟩
  | .hbm, ⟨61, _⟩ => ⟨S2x16x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S2x16x1024, .f32⟩
  | .hbm, ⟨66, _⟩ => ⟨S2x16x1024, .f32⟩
  | .hbm, ⟨67, _⟩ => ⟨S_, .f32⟩
  | .hbm, ⟨68, _⟩ => ⟨S1024, .f32⟩
  | .hbm, ⟨69, _⟩ => ⟨S2x16x1024, .f32⟩
  | .hbm, ⟨70, _⟩ => ⟨S_, .f32⟩
  | .hbm, ⟨71, _⟩ => ⟨S2x16, .f32⟩
  | .hbm, ⟨72, _⟩ => ⟨S2x16x1, .f32⟩
  | .hbm, ⟨73, _⟩ => ⟨S2x16x1024, .f32⟩
  | .hbm, ⟨74, _⟩ => ⟨S2x16x1024, .f32⟩
  | .hbm, ⟨75, _⟩ => ⟨S2x16x1, .f32⟩
  | .hbm, ⟨76, _⟩ => ⟨S2x16x1024, .f32⟩
  | .hbm, ⟨77, _⟩ => ⟨S_, .f32⟩
  | .hbm, ⟨78, _⟩ => ⟨S2x16, .f32⟩
  | .hbm, ⟨79, _⟩ => ⟨S2x16x1, .f32⟩
  | .hbm, ⟨80, _⟩ => ⟨S_, .f32⟩
  | .hbm, ⟨81, _⟩ => ⟨S2x16x1, .f32⟩
  | .hbm, ⟨82, _⟩ => ⟨S2x16x1, .f32⟩
  | .hbm, ⟨83, _⟩ => ⟨S_, .f32⟩
  | .hbm, ⟨84, _⟩ => ⟨S2x16, .f32⟩
  | .hbm, ⟨85, _⟩ => ⟨S2x16x1024, .f32⟩
  | .hbm, ⟨86, _⟩ => ⟨S2x16x1024, .f32⟩
  | .hbm, ⟨87, _⟩ => ⟨S2x16x1024, .f32⟩
  | .hbm, ⟨88, _⟩ => ⟨S_, .f32⟩
  | .hbm, ⟨89, _⟩ => ⟨S2x16, .f32⟩
  | .hbm, ⟨90, _⟩ => ⟨S2x16x1, .f32⟩
  | .hbm, ⟨91, _⟩ => ⟨S2x16x1024, .f32⟩
  | .hbm, ⟨92, _⟩ => ⟨S2x16x1, .f32⟩
  | .hbm, ⟨93, _⟩ => ⟨S_, .f32⟩
  | .hbm, ⟨94, _⟩ => ⟨S2x16x1, .f32⟩
  | .hbm, ⟨95, _⟩ => ⟨S2x16x1, .f32⟩
  | .hbm, ⟨96, _⟩ => ⟨S_, .f32⟩
  | .hbm, ⟨97, _⟩ => ⟨S2x16, .f32⟩
  | .hbm, ⟨98, _⟩ => ⟨S2x16x1024, .f32⟩
  | .hbm, ⟨99, _⟩ => ⟨S2x16x1024, .f32⟩
  | .hbm, ⟨100, _⟩ => ⟨S_, .f32⟩
  | .hbm, ⟨101, _⟩ => ⟨S16x1024, .f32⟩
  | .hbm, ⟨102, _⟩ => ⟨S1x16x1024, .f32⟩
  | .hbm, ⟨103, _⟩ => ⟨S_, .f32⟩
  | .hbm, ⟨104, _⟩ => ⟨S16x1024, .f32⟩
  | .hbm, ⟨105, _⟩ => ⟨S1x1024, .f32⟩
  | .hbm, ⟨106, _⟩ => ⟨S1x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩
abbrev main_cst_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_20 : Ref sig .tc := ⟨.hbm, 100, rfl⟩
abbrev main_v74 : Ref sig .tc := ⟨.hbm, 101, rfl⟩
abbrev main_v75 : Ref sig .tc := ⟨.hbm, 102, rfl⟩
abbrev main_cst_21 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel2.lean ====
abbrev S2x2048x1024 : Shape := ⟨3, ![2, 2048, 1024]⟩
abbrev S1024 : Shape := ⟨1, ![1024]⟩
abbrev S1024x2576 : Shape := ⟨2, ![1024, 2576]⟩
abbrev S2x2064x1024 : Shape := ⟨3, ![2, 2064, 1024]⟩
abbrev S2x2064x2576 : Shape := ⟨3, ![2, 2064, 2576]⟩
abbrev S_ : Shape := ⟨0, ![]⟩
abbrev S2x2112x2688 : Shape := ⟨3, ![2, 2112, 2688]⟩
abbrev S4224x2688 : Shape := ⟨2, ![4224, 2688]⟩
abbrev S4224x1024 : Shape := ⟨2, ![4224, 1024]⟩
abbrev S4224x512 : Shape := ⟨2, ![4224, 512]⟩
abbrev S4224x128 : Shape := ⟨2, ![4224, 128]⟩
abbrev S2576x1024 : Shape := ⟨2, ![2576, 1024]⟩
abbrev S2688x1024 : Shape := ⟨2, ![2688, 1024]⟩
abbrev S2x2112x1024 : Shape := ⟨3, ![2, 2112, 1024]⟩
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩

abbrev nBuf : Space → Nat
  | .hbm => 30
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2576, .f32⟩
  | .hbm, ⟨3, _⟩ => ⟨S2x2064x1024, .f32⟩
  | .hbm, ⟨4, _⟩ => ⟨S2x2064x2576, .f32⟩
  | .hbm, ⟨5, _⟩ => ⟨S_, .i32⟩
  | .hbm, ⟨6, _⟩ => ⟨S_, .f32⟩
  | .hbm, ⟨7, _⟩ => ⟨S2x2112x2688, .f32⟩
  | .hbm, ⟨8, _⟩ => ⟨S4224x2688, .f32⟩
  | .hbm, ⟨9, _⟩ => ⟨S4224x1024, .f32⟩
  | .hbm, ⟨10, _⟩ => ⟨S4224x512, .f32⟩
  | .hbm, ⟨11, _⟩ => ⟨S4224x512, .f32⟩
  | .hbm, ⟨12, _⟩ => ⟨S4224x512, .f32⟩
  | .hbm, ⟨13, _⟩ => ⟨S4224x128, .f32⟩
  | .hbm, ⟨14, _⟩ => ⟨S2576x1024, .f32⟩
  | .hbm, ⟨15, _⟩ => ⟨S_, .i32⟩
  | .hbm, ⟨16, _⟩ => ⟨S_, .f32⟩
  | .hbm, ⟨17, _⟩ => ⟨S2688x1024, .f32⟩
  | .hbm, ⟨18, _⟩ => ⟨S2688x1024, .bf16⟩
  | .hbm, ⟨19, _⟩ => ⟨S_, .i32⟩
  | .hbm, ⟨20, _⟩ => ⟨S_, .f32⟩
  | .hbm, ⟨21, _⟩ => ⟨S2x2112x1024, .f32⟩
  | .hbm, ⟨22, _⟩ => ⟨S4224x1024, .f32⟩
  | .hbm, ⟨23, _⟩ => ⟨S4096x1024, .f32⟩
  | .hbm, ⟨24, _⟩ => ⟨S1x1024, .f32⟩
  | .hbm, ⟨25, _⟩ => ⟨S_, .bf16⟩
  | .hbm, ⟨26, _⟩ => ⟨S8x128, .bf16⟩
  | .hbm, ⟨27, _⟩ => ⟨S4096x1024, .f32⟩
  | .hbm, ⟨28, _⟩ => ⟨S1x1024, .f32⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S2688x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult3 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult4 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult5 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult6 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2688x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S2x2048x1024 : Shape := ⟨3, ![2, 2048, 1024]⟩
abbrev S1024 : Shape := ⟨1, ![1024]⟩
abbrev S1024x2576 : Shape := ⟨2, ![1024, 2576]⟩
abbrev S2x2064x1024 : Shape := ⟨3, ![2, 2064, 1024]⟩
abbrev S2x2064x2576 : Shape := ⟨3, ![2, 2064, 2576]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2576 : Shape := ⟨3, ![2, 2048, 2576]⟩
abbrev S4096x1024 : Shape := ⟨2, ![4096, 1024]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2576, .f32⟩
  | .hbm, ⟨3, _⟩ => ⟨S2x2064x1024, .f32⟩
  | .hbm, ⟨4, _⟩ => ⟨S2x2064x2576, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S2x2048x2576, .f32⟩
  | .hbm, ⟨47, _⟩ => ⟨S2x2048x1024, .f32⟩
  | .hbm, ⟨48, _⟩ => ⟨S2x2048x2576, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S_, .f32⟩
  | .hbm, ⟨58, _⟩ => ⟨S1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1, .f32⟩
  | .hbm, ⟨74, _⟩ => ⟨S2x2048x1024, .f32⟩
  | .hbm, ⟨75, _⟩ => ⟨S_, .f32⟩
  | .hbm, ⟨76, _⟩ => ⟨S2x2048, .f32⟩
  | .hbm, ⟨77, _⟩ => ⟨S2x2048x1, .f32⟩
  | .hbm, ⟨78, _⟩ => ⟨S_, .f32⟩
  | .hbm, ⟨79, _⟩ => ⟨S2x2048x1, .f32⟩
  | .hbm, ⟨80, _⟩ => ⟨S2x2048x1, .f32⟩
  | .hbm, ⟨81, _⟩ => ⟨S_, .f32⟩
  | .hbm, ⟨82, _⟩ => ⟨S2x2048, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S_, .f32⟩
  | .hbm, ⟨87, _⟩ => ⟨S2x2048, .f32⟩
  | .hbm, ⟨88, _⟩ => ⟨S2x2048x1, .f32⟩
  | .hbm, ⟨89, _⟩ => ⟨S2x2048x1024, .f32⟩
  | .hbm, ⟨90, _⟩ => ⟨S2x2048x1, .f32⟩
  | .hbm, ⟨91, _⟩ => ⟨S_, .f32⟩
  | .hbm, ⟨92, _⟩ => ⟨S2x2048x1, .f32⟩
  | .hbm, ⟨93, _⟩ => ⟨S2x2048x1, .f32⟩
  | .hbm, ⟨94, _⟩ => ⟨S_, .f32⟩
  | .hbm, ⟨95, _⟩ => ⟨S2x2048, .f32⟩
  | .hbm, ⟨96, _⟩ => ⟨S2x2048x1024, .f32⟩
  | .hbm, ⟨97, _⟩ => ⟨S2x2048x1024, .f32⟩
  | .hbm, ⟨98, _⟩ => ⟨S4096x1024, .f32⟩
  | .hbm, ⟨99, _⟩ => ⟨S1x1024, .f32⟩
  | .hbm, ⟨100, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel3.lean ====
abbrev S2x2064x1024 : Shape := ⟨3, ![2, 2064, 1024]⟩
abbrev S2x2064x256 : Shape := ⟨3, ![2, 2064, 256]⟩
abbrev S2x2064x512 : Shape := ⟨3, ![2, 2064, 512]⟩
abbrev S2x2064x16 : Shape := ⟨3, ![2, 2064, 16]⟩
abbrev S16x256 : Shape := ⟨2, ![16, 256]⟩
abbrev S256 : Shape := ⟨1, ![256]⟩
abbrev S128 : Shape := ⟨1, ![128]⟩
abbrev S2x2064x2576 : Shape := ⟨3, ![2, 2064, 2576]⟩
abbrev S_ : Shape := ⟨0, ![]⟩
abbrev S2x2112x2688 : Shape := ⟨3, ![2, 2112, 2688]⟩
abbrev S4224x2688 : Shape := ⟨2, ![4224, 2688]⟩
abbrev S128x256 : Shape := ⟨2, ![128, 256]⟩
abbrev S1x256 : Shape := ⟨2, ![1, 256]⟩
abbrev S1x128 : Shape := ⟨2, ![1, 128]⟩
abbrev S4224x512 : Shape := ⟨2, ![4224, 512]⟩
abbrev S66x4x128x128 : Shape := ⟨4, ![66, 4, 128, 128]⟩
abbrev S192x512 : Shape := ⟨2, ![192, 512]⟩
abbrev S192x128 : Shape := ⟨2, ![192, 128]⟩
abbrev S3x4x128x128 : Shape := ⟨4, ![3, 4, 128, 128]⟩
abbrev S4x128x128 : Shape := ⟨3, ![4, 128, 128]⟩
abbrev S64x64 : Shape := ⟨2, ![64, 64]⟩
abbrev S64x128 : Shape := ⟨2, ![64, 128]⟩
abbrev S64x256 : Shape := ⟨2, ![64, 256]⟩
abbrev S64x1 : Shape := ⟨2, ![64, 1]⟩
abbrev S128x128 : Shape := ⟨2, ![128, 128]⟩
abbrev S1x128x128 : Shape := ⟨3, ![1, 128, 128]⟩
abbrev S1x1x128x128 : Shape := ⟨4, ![1, 1, 128, 128]⟩
abbrev S64 : Shape := ⟨1, ![64]⟩

abbrev nBuf : Space → Nat
  | .hbm => 22
  | .vmem => 16
  | .smem => 0
  | _ => 0

abbrev bufTy : (tb : Table) → Fin (tcTables nBuf tb) → BufTy
  | .hbm, ⟨0, _⟩ => ⟨S2x2064x1024, .f32⟩
  | .hbm, ⟨1, _⟩ => ⟨S2x2064x256, .f32⟩
  | .hbm, ⟨2, _⟩ => ⟨S2x2064x256, .f32⟩
  | .hbm, ⟨3, _⟩ => ⟨S2x2064x512, .f32⟩
  | .hbm, ⟨4, _⟩ => ⟨S2x2064x512, .f32⟩
  | .hbm, ⟨5, _⟩ => ⟨S2x2064x16, .f32⟩
  | .hbm, ⟨6, _⟩ => ⟨S16x256, .f32⟩
  | .hbm, ⟨7, _⟩ => ⟨S256, .f32⟩
  | .hbm, ⟨8, _⟩ => ⟨S128, .f32⟩
  | .hbm, ⟨9, _⟩ => ⟨S2x2064x2576, .f32⟩
  | .hbm, ⟨10, _⟩ => ⟨S_, .i32⟩
  | .hbm, ⟨11, _⟩ => ⟨S_, .f32⟩
  | .hbm, ⟨12, _⟩ => ⟨S2x2112x2688, .f32⟩
  | .hbm, ⟨13, _⟩ => ⟨S4224x2688, .f32⟩
  | .hbm, ⟨14, _⟩ => ⟨S_, .i32⟩
  | .hbm, ⟨15, _⟩ => ⟨S_, .f32⟩
  | .hbm, ⟨16, _⟩ => ⟨S128x256, .f32⟩
  | .hbm, ⟨17, _⟩ => ⟨S128x256, .bf16⟩
  | .hbm, ⟨18, _⟩ => ⟨S1x256, .f32⟩
  | .hbm, ⟨19, _⟩ => ⟨S1x128, .f32⟩
  | .hbm, ⟨20, _⟩ => ⟨S4224x512, .bf16⟩
  | .hbm, ⟨21, _⟩ => ⟨S66x4x128x128, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x128, .f32⟩
  | .local _ .vmem, ⟨7, _⟩ => ⟨S192x128, .f32⟩
  | .local _ .vmem, ⟨8, _⟩ => ⟨S128x256, .bf16⟩
  | .local _ .vmem, ⟨9, _⟩ => ⟨S1x256, .f32⟩
  | .local _ .vmem, ⟨10, _⟩ => ⟨S1x128, .f32⟩
  | .local _ .vmem, ⟨11, _⟩ => ⟨S192x512, .bf16⟩
  | .local _ .vmem, ⟨12, _⟩ => ⟨S192x512, .bf16⟩
  | .local _ .vmem, ⟨13, _⟩ => ⟨S3x4x128x128, .f32⟩
  | .local _ .vmem, ⟨14, _⟩ => ⟨S3x4x128x128, .f32⟩
  | .local _ .vmem, ⟨15, _⟩ => ⟨S4x128x128, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c20_i32 : BitVec 32 := 20#32
  let c0_i32 : BitVec 32 := 0#32
  ![v1.toNat, c20_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S192x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x2064x1024 : Shape := ⟨3, ![2, 2064, 1024]⟩
abbrev S2x2064x256 : Shape := ⟨3, ![2, 2064, 256]⟩
abbrev S2x2064x512 : Shape := ⟨3, ![2, 2064, 512]⟩
abbrev S2x2064x16 : Shape := ⟨3, ![2, 2064, 16]⟩
abbrev S16x256 : Shape := ⟨2, ![16, 256]⟩
abbrev S256 : Shape := ⟨1, ![256]⟩
abbrev S128 : Shape := ⟨1, ![128]⟩
abbrev S1x1x256 : Shape := ⟨3, ![1, 1, 256]⟩
abbrev S_ : Shape := ⟨0, ![]⟩
abbrev S2x2064x4x64 : Shape := ⟨4, ![2, 2064, 4, 64]⟩
abbrev S2x2064x4x128 : Shape := ⟨4, ![2, 2064, 4, 128]⟩
abbrev S2x2112x4x64 : Shape := ⟨4, ![2, 2112, 4, 64]⟩
abbrev S2x2112x4x128 : Shape := ⟨4, ![2, 2112, 4, 128]⟩
abbrev S2x33x64x4x64 : Shape := ⟨5, ![2, 33, 64, 4, 64]⟩
abbrev S2x4x33x64x64 : Shape := ⟨5, ![2, 4, 33, 64, 64]⟩
abbrev S2x33x64x4x128 : Shape := ⟨5, ![2, 33, 64, 4, 128]⟩
abbrev S2x4x33x64x128 : Shape := ⟨5, ![2, 4, 33, 64, 128]⟩
abbrev S2x4x33x1x64 : Shape := ⟨5, ![2, 4, 33, 1, 64]⟩
abbrev S64x64 : Shape := ⟨2, ![64, 64]⟩
abbrev S2x4x33x64 : Shape := ⟨4, ![2, 4, 33, 64]⟩
abbrev S33x2x4x64 : Shape := ⟨4, ![33, 2, 4, 64]⟩
abbrev S33x2x4x64x128 : Shape := ⟨5, ![33, 2, 4, 64, 128]⟩
abbrev S2x4x64x128 : Shape := ⟨4, ![2, 4, 64, 128]⟩
abbrev S1x2x4x64x128 : Shape := ⟨5, ![1, 2, 4, 64, 128]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S11x2x4x64x128 : Shape := ⟨5, ![11, 2, 4, 64, 128]⟩
abbrev S2x2064x4 : Shape := ⟨3, ![2, 2064, 4]⟩
abbrev S2x2064x4x1 : Shape := ⟨4, ![2, 2064, 4, 1]⟩
abbrev S1x1x1x128 : Shape := ⟨4, ![1, 1, 1, 128]⟩
abbrev S2x33x4x128x64 : Shape := ⟨5, ![2, 33, 4, 128, 64]⟩
abbrev S4 : Shape := ⟨1, ![4]⟩
abbrev S4x1x1 : Shape := ⟨3, ![4, 1, 1]⟩
abbrev S2x33x4x128x128 : Shape := ⟨5, ![2, 33, 4, 128, 128]⟩
abbrev S2x2112x512 : Shape := ⟨3, ![2, 2112, 512]⟩
abbrev S4224x512 : Shape := ⟨2, ![4224, 512]⟩
abbrev S66x4x128x128 : Shape := ⟨4, ![66, 4, 128, 128]⟩

abbrev nBuf : Space → Nat
  | .hbm => 477
  | .vmem => 0
  | .smem => 0
  | _ => 0

abbrev hbmTy0_0 (i : Nat) : BufTy := match i % 128 with
  | 0 => ⟨S2x2064x1024, .f32⟩
  | 1 => ⟨S2x2064x256, .f32⟩
  | 2 => ⟨S2x2064x256, .f32⟩
  | 3 => ⟨S2x2064x512, .f32⟩
  | 4 => ⟨S2x2064x512, .f32⟩
  | 5 => ⟨S2x2064x16, .f32⟩
  | 6 => ⟨S16x256, .f32⟩
  | 7 => ⟨S256, .f32⟩
  | 8 => ⟨S128, .f32⟩
  | 9 => ⟨S2x2064x256, .f32⟩
  | 10 => ⟨S1x1x256, .f32⟩
  | 11 => ⟨S2x2064x256, .f32⟩
  | 12 => ⟨S2x2064x256, .f32⟩
  | 13 => ⟨S2x2064x256, .f32⟩
  | 14 => ⟨S_, .f32⟩
  | 15 => ⟨S2x2064x256, .f32⟩
  | 16 => ⟨S2x2064x256, .f32⟩
  | 17 => ⟨S2x2064x256, .f32⟩
  | 18 => ⟨S2x2064x256, .f32⟩
  | 19 => ⟨S2x2064x256, .i1⟩
  | 20 => ⟨S2x2064x256, .f32⟩
  | 21 => ⟨S2x2064x256, .f32⟩
  | 22 => ⟨S2x2064x256, .f32⟩
  | 23 => ⟨S2x2064x256, .f32⟩
  | 24 => ⟨S2x2064x256, .f32⟩
  | 25 => ⟨S2x2064x256, .f32⟩
  | 26 => ⟨S2x2064x256, .f32⟩
  | 27 => ⟨S2x2064x256, .f32⟩
  | 28 => ⟨S2x2064x256, .f32⟩
  | 29 => ⟨S_, .f32⟩
  | 30 => ⟨S2x2064x256, .f32⟩
  | 31 => ⟨S2x2064x256, .f32⟩
  | 32 => ⟨S2x2064x4x64, .f32⟩
  | 33 => ⟨S2x2064x4x64, .f32⟩
  | 34 => ⟨S2x2064x4x128, .f32⟩
  | 35 => ⟨S2x2064x4x64, .f32⟩
  | 36 => ⟨S_, .i32⟩
  | 37 => ⟨S_, .f32⟩
  | 38 => ⟨S2x2112x4x64, .f32⟩
  | 39 => ⟨S_, .i32⟩
  | 40 => ⟨S_, .f32⟩
  | 41 => ⟨S2x2112x4x64, .f32⟩
  | 42 => ⟨S_, .i32⟩
  | 43 => ⟨S_, .f32⟩
  | 44 => ⟨S2x2112x4x128, .f32⟩
  | 45 => ⟨S_, .i32⟩
  | 46 => ⟨S_, .f32⟩
  | 47 => ⟨S2x2112x4x64, .f32⟩
  | 48 => ⟨S2x33x64x4x64, .f32⟩
  | 49 => ⟨S2x4x33x64x64, .f32⟩
  | 50 => ⟨S2x33x64x4x64, .f32⟩
  | 51 => ⟨S2x4x33x64x64, .f32⟩
  | 52 => ⟨S2x33x64x4x128, .f32⟩
  | 53 => ⟨S2x4x33x64x128, .f32⟩
  | 54 => ⟨S2x33x64x4x64, .f32⟩
  | 55 => ⟨S2x4x33x64x64, .f32⟩
  | 56 => ⟨S_, .f32⟩
  | 57 => ⟨S2x4x33x64x64, .f32⟩
  | 58 => ⟨S2x4x33x64x64, .f32⟩
  | 59 => ⟨S_, .f32⟩
  | 60 => ⟨S_, .f32⟩
  | 61 => ⟨S2x4x33x64x64, .f32⟩
  | 62 => ⟨S2x4x33x1x64, .f32⟩
  | 63 => ⟨S2x4x33x64x64, .f32⟩
  | 64 => ⟨S2x4x33x64x64, .f32⟩
  | 65 => ⟨S2x4x33x64x64, .f32⟩
  | 66 => ⟨S2x4x33x64x64, .f32⟩
  | 67 => ⟨S2x4x33x64x64, .f32⟩
  | 68 => ⟨S2x4x33x64x64, .f32⟩
  | 69 => ⟨S2x4x33x64x64, .f32⟩
  | 70 => ⟨S2x4x33x64x64, .f32⟩
  | 71 => ⟨S2x4x33x64x64, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S2x4x33x64x64, .f32⟩
  | 84 => ⟨S_, .f32⟩
  | 85 => ⟨S_, .f32⟩
  | 86 => ⟨S2x4x33x64x64, .i1⟩
  | 87 => ⟨S2x4x33x64x64, .f32⟩
  | 88 => ⟨S2x4x33x64x64, .f32⟩
  | 89 => ⟨S2x4x33x64x128, .f32⟩
  | 90 => ⟨S2x4x33x64x128, .f32⟩
  | 91 => ⟨S2x4x33x64, .f32⟩
  | 92 => ⟨S2x4x33x64, .f32⟩
  | 93 => ⟨S33x2x4x64, .f32⟩
  | 94 => ⟨S33x2x4x64x128, .f32⟩
  | 95 => ⟨S_, .f32⟩
  | 96 => ⟨S2x4x64x128, .f32⟩
  | 97 => ⟨S1x2x4x64x128, .f32⟩
  | 98 => ⟨S1x2x4x64, .f32⟩
  | 99 => ⟨S2x4x64, .f32⟩
  | 100 => ⟨S2x4x64x1, .f32⟩
  | 101 => ⟨S2x4x64x128, .f32⟩
  | 102 => ⟨S2x4x64x128, .f32⟩
  | 103 => ⟨S1x2x4x64x128, .f32⟩
  | 104 => ⟨S2x4x64x128, .f32⟩
  | 105 => ⟨S2x4x64x128, .f32⟩
  | 106 => ⟨S1x2x4x64x128, .f32⟩
  | 107 => ⟨S1x2x4x64, .f32⟩
  | 108 => ⟨S2x4x64, .f32⟩
  | 109 => ⟨S2x4x64x1, .f32⟩
  | 110 => ⟨S2x4x64x128, .f32⟩
  | 111 => ⟨S2x4x64x128, .f32⟩
  | 112 => ⟨S1x2x4x64x128, .f32⟩
  | 113 => ⟨S2x4x64x128, .f32⟩
  | 114 => ⟨S2x4x64x128, .f32⟩
  | 115 => ⟨S1x2x4x64x128, .f32⟩
  | 116 => ⟨S1x2x4x64, .f32⟩
  | 117 => ⟨S2x4x64, .f32⟩
  | 118 => ⟨S2x4x64x1, .f32⟩
  | 119 => ⟨S2x4x64x128, .f32⟩
  | 120 => ⟨S2x4x64x128, .f32⟩
  | 121 => ⟨S1x2x4x64x128, .f32⟩
  | 122 => ⟨S2x4x64x128, .f32⟩
  | 123 => ⟨S2x4x64x128, .f32⟩
  | 124 => ⟨S1x2x4x64x128, .f32⟩
  | 125 => ⟨S1x2x4x64, .f32⟩
  | 126 => ⟨S2x4x64, .f32⟩
  | 127 => ⟨S2x4x64x1, .f32⟩
  | _ => ⟨S2x2064x1024, .f32⟩

abbrev hbmTy0_1 (i : Nat) : BufTy := match i % 128 with
  | 0 => ⟨S2x4x64x128, .f32⟩
  | 1 => ⟨S2x4x64x128, .f32⟩
  | 2 => ⟨S1x2x4x64x128, .f32⟩
  | 3 => ⟨S2x4x64x128, .f32⟩
  | 4 => ⟨S2x4x64x128, .f32⟩
  | 5 => ⟨S1x2x4x64x128, .f32⟩
  | 6 => ⟨S1x2x4x64, .f32⟩
  | 7 => ⟨S2x4x64, .f32⟩
  | 8 => ⟨S2x4x64x1, .f32⟩
  | 9 => ⟨S2x4x64x128, .f32⟩
  | 10 => ⟨S2x4x64x128, .f32⟩
  | 11 => ⟨S1x2x4x64x128, .f32⟩
  | 12 => ⟨S2x4x64x128, .f32⟩
  | 13 => ⟨S2x4x64x128, .f32⟩
  | 14 => ⟨S1x2x4x64x128, .f32⟩
  | 15 => ⟨S1x2x4x64, .f32⟩
  | 16 => ⟨S2x4x64, .f32⟩
  | 17 => ⟨S2x4x64x1, .f32⟩
  | 18 => ⟨S2x4x64x128, .f32⟩
  | 19 => ⟨S2x4x64x128, .f32⟩
  | 20 => ⟨S1x2x4x64x128, .f32⟩
  | 21 => ⟨S2x4x64x128, .f32⟩
  | 22 => ⟨S2x4x64x128, .f32⟩
  | 23 => ⟨S1x2x4x64x128, .f32⟩
  | 24 => ⟨S1x2x4x64, .f32⟩
  | 25 => ⟨S2x4x64, .f32⟩
  | 26 => ⟨S2x4x64x1, .f32⟩
  | 27 => ⟨S2x4x64x128, .f32⟩
  | 28 => ⟨S2x4x64x128, .f32⟩
  | 29 => ⟨S1x2x4x64x128, .f32⟩
  | 30 => ⟨S2x4x64x128, .f32⟩
  | 31 => ⟨S2x4x64x128, .f32⟩
  | 32 => ⟨S1x2x4x64x128, .f32⟩
  | 33 => ⟨S1x2x4x64, .f32⟩
  | 34 => ⟨S2x4x64, .f32⟩
  | 35 => ⟨S2x4x64x1, .f32⟩
  | 36 => ⟨S2x4x64x128, .f32⟩
  | 37 => ⟨S2x4x64x128, .f32⟩
  | 38 => ⟨S1x2x4x64x128, .f32⟩
  | 39 => ⟨S2x4x64x128, .f32⟩
  | 40 => ⟨S2x4x64x128, .f32⟩
  | 41 => ⟨S1x2x4x64x128, .f32⟩
  | 42 => ⟨S1x2x4x64, .f32⟩
  | 43 => ⟨S2x4x64, .f32⟩
  | 44 => ⟨S2x4x64x1, .f32⟩
  | 45 => ⟨S2x4x64x128, .f32⟩
  | 46 => ⟨S2x4x64x128, .f32⟩
  | 47 => ⟨S1x2x4x64x128, .f32⟩
  | 48 => ⟨S2x4x64x128, .f32⟩
  | 49 => ⟨S2x4x64x128, .f32⟩
  | 50 => ⟨S1x2x4x64x128, .f32⟩
  | 51 => ⟨S1x2x4x64, .f32⟩
  | 52 => ⟨S2x4x64, .f32⟩
  | 53 => ⟨S2x4x64x1, .f32⟩
  | 54 => ⟨S2x4x64x128, .f32⟩
  | 55 => ⟨S2x4x64x128, .f32⟩
  | 56 => ⟨S1x2x4x64x128, .f32⟩
  | 57 => ⟨S2x4x64x128, .f32⟩
  | 58 => ⟨S2x4x64x128, .f32⟩
  | 59 => ⟨S1x2x4x64x128, .f32⟩
  | 60 => ⟨S1x2x4x64, .f32⟩
  | 61 => ⟨S2x4x64, .f32⟩
  | 62 => ⟨S2x4x64x1, .f32⟩
  | 63 => ⟨S2x4x64x128, .f32⟩
  | 64 => ⟨S2x4x64x128, .f32⟩
  | 65 => ⟨S1x2x4x64x128, .f32⟩
  | 66 => ⟨S2x4x64x128, .f32⟩
  | 67 => ⟨S2x4x64x128, .f32⟩
  | 68 => ⟨S1x2x4x64x128, .f32⟩
  | 69 => ⟨S1x2x4x64, .f32⟩
  | 70 => ⟨S2x4x64, .f32⟩
  | 71 => ⟨S2x4x64x1, .f32⟩
  | 72 => ⟨S2x4x64x128, .f32⟩
  | 73 => ⟨S2x4x64x128, .f32⟩
  | 74 => ⟨S1x2x4x64x128, .f32⟩
  | 75 => ⟨S2x4x64x128, .f32⟩
  | 76 => ⟨S2x4x64x128, .f32⟩
  | 77 => ⟨S1x2x4x64x128, .f32⟩
  | 78 => ⟨S1x2x4x64, .f32⟩
  | 79 => ⟨S2x4x64, .f32⟩
  | 80 => ⟨S2x4x64x1, .f32⟩
  | 81 => ⟨S2x4x64x128, .f32⟩
  | 82 => ⟨S2x4x64x128, .f32⟩
  | 83 => ⟨S1x2x4x64x128, .f32⟩
  | 84 => ⟨S2x4x64x128, .f32⟩
  | 85 => ⟨S2x4x64x128, .f32⟩
  | 86 => ⟨S1x2x4x64x128, .f32⟩
  | 87 => ⟨S1x2x4x64, .f32⟩
  | 88 => ⟨S2x4x64, .f32⟩
  | 89 => ⟨S2x4x64x1, .f32⟩
  | 90 => ⟨S2x4x64x128, .f32⟩
  | 91 => ⟨S2x4x64x128, .f32⟩
  | 92 => ⟨S1x2x4x64x128, .f32⟩
  | 93 => ⟨S2x4x64x128, .f32⟩
  | 94 => ⟨S2x4x64x128, .f32⟩
  | 95 => ⟨S1x2x4x64x128, .f32⟩
  | 96 => ⟨S1x2x4x64, .f32⟩
  | 97 => ⟨S2x4x64, .f32⟩
  | 98 => ⟨S2x4x64x1, .f32⟩
  | 99 => ⟨S2x4x64x128, .f32⟩
  | 100 => ⟨S2x4x64x128, .f32⟩
  | 101 => ⟨S1x2x4x64x128, .f32⟩
  | 102 => ⟨S2x4x64x128, .f32⟩
  | 103 => ⟨S2x4x64x128, .f32⟩
  | 104 => ⟨S1x2x4x64x128, .f32⟩
  | 105 => ⟨S1x2x4x64, .f32⟩
  | 106 => ⟨S2x4x64, .f32⟩
  | 107 => ⟨S2x4x64x1, .f32⟩
  | 108 => ⟨S2x4x64x128, .f32⟩
  | 109 => ⟨S2x4x64x128, .f32⟩
  | 110 => ⟨S1x2x4x64x128, .f32⟩
  | 111 => ⟨S2x4x64x128, .f32⟩
  | 112 => ⟨S2x4x64x128, .f32⟩
  | 113 => ⟨S1x2x4x64x128, .f32⟩
  | 114 => ⟨S1x2x4x64, .f32⟩
  | 115 => ⟨S2x4x64, .f32⟩
  | 116 => ⟨S2x4x64x1, .f32⟩
  | 117 => ⟨S2x4x64x128, .f32⟩
  | 118 => ⟨S2x4x64x128, .f32⟩
  | 119 => ⟨S1x2x4x64x128, .f32⟩
  | 120 => ⟨S2x4x64x128, .f32⟩
  | 121 => ⟨S2x4x64x128, .f32⟩
  | 122 => ⟨S1x2x4x64x128, .f32⟩
  | 123 => ⟨S1x2x4x64, .f32⟩
  | 124 => ⟨S2x4x64, .f32⟩
  | 125 => ⟨S2x4x64x1, .f32⟩
  | 126 => ⟨S2x4x64x128, .f32⟩
  | 127 => ⟨S2x4x64x128, .f32⟩
  | _ => ⟨S2x2064x1024, .f32⟩

abbrev hbmTy0_2 (i : Nat) : BufTy := match i % 128 with
  | 0 => ⟨S1x2x4x64x128, .f32⟩
  | 1 => ⟨S2x4x64x128, .f32⟩
  | 2 => ⟨S2x4x64x128, .f32⟩
  | 3 => ⟨S1x2x4x64x128, .f32⟩
  | 4 => ⟨S1x2x4x64, .f32⟩
  | 5 => ⟨S2x4x64, .f32⟩
  | 6 => ⟨S2x4x64x1, .f32⟩
  | 7 => ⟨S2x4x64x128, .f32⟩
  | 8 => ⟨S2x4x64x128, .f32⟩
  | 9 => ⟨S1x2x4x64x128, .f32⟩
  | 10 => ⟨S2x4x64x128, .f32⟩
  | 11 => ⟨S2x4x64x128, .f32⟩
  | 12 => ⟨S1x2x4x64x128, .f32⟩
  | 13 => ⟨S1x2x4x64, .f32⟩
  | 14 => ⟨S2x4x64, .f32⟩
  | 15 => ⟨S2x4x64x1, .f32⟩
  | 16 => ⟨S2x4x64x128, .f32⟩
  | 17 => ⟨S2x4x64x128, .f32⟩
  | 18 => ⟨S1x2x4x64x128, .f32⟩
  | 19 => ⟨S2x4x64x128, .f32⟩
  | 20 => ⟨S2x4x64x128, .f32⟩
  | 21 => ⟨S1x2x4x64x128, .f32⟩
  | 22 => ⟨S1x2x4x64, .f32⟩
  | 23 => ⟨S2x4x64, .f32⟩
  | 24 => ⟨S2x4x64x1, .f32⟩
  | 25 => ⟨S2x4x64x128, .f32⟩
  | 26 => ⟨S2x4x64x128, .f32⟩
  | 27 => ⟨S1x2x4x64x128, .f32⟩
  | 28 => ⟨S2x4x64x128, .f32⟩
  | 29 => ⟨S2x4x64x128, .f32⟩
  | 30 => ⟨S1x2x4x64x128, .f32⟩
  | 31 => ⟨S1x2x4x64, .f32⟩
  | 32 => ⟨S2x4x64, .f32⟩
  | 33 => ⟨S2x4x64x1, .f32⟩
  | 34 => ⟨S2x4x64x128, .f32⟩
  | 35 => ⟨S2x4x64x128, .f32⟩
  | 36 => ⟨S1x2x4x64x128, .f32⟩
  | 37 => ⟨S2x4x64x128, .f32⟩
  | 38 => ⟨S2x4x64x128, .f32⟩
  | 39 => ⟨S1x2x4x64x128, .f32⟩
  | 40 => ⟨S1x2x4x64, .f32⟩
  | 41 => ⟨S2x4x64, .f32⟩
  | 42 => ⟨S2x4x64x1, .f32⟩
  | 43 => ⟨S2x4x64x128, .f32⟩
  | 44 => ⟨S2x4x64x128, .f32⟩
  | 45 => ⟨S1x2x4x64x128, .f32⟩
  | 46 => ⟨S2x4x64x128, .f32⟩
  | 47 => ⟨S2x4x64x128, .f32⟩
  | 48 => ⟨S1x2x4x64x128, .f32⟩
  | 49 => ⟨S1x2x4x64, .f32⟩
  | 50 => ⟨S2x4x64, .f32⟩
  | 51 => ⟨S2x4x64x1, .f32⟩
  | 52 => ⟨S2x4x64x128, .f32⟩
  | 53 => ⟨S2x4x64x128, .f32⟩
  | 54 => ⟨S1x2x4x64x128, .f32⟩
  | 55 => ⟨S2x4x64x128, .f32⟩
  | 56 => ⟨S2x4x64x128, .f32⟩
  | 57 => ⟨S1x2x4x64x128, .f32⟩
  | 58 => ⟨S1x2x4x64, .f32⟩
  | 59 => ⟨S2x4x64, .f32⟩
  | 60 => ⟨S2x4x64x1, .f32⟩
  | 61 => ⟨S2x4x64x128, .f32⟩
  | 62 => ⟨S2x4x64x128, .f32⟩
  | 63 => ⟨S1x2x4x64x128, .f32⟩
  | 64 => ⟨S2x4x64x128, .f32⟩
  | 65 => ⟨S2x4x64x128, .f32⟩
  | 66 => ⟨S1x2x4x64x128, .f32⟩
  | 67 => ⟨S1x2x4x64, .f32⟩
  | 68 => ⟨S2x4x64, .f32⟩
  | 69 => ⟨S2x4x64x1, .f32⟩
  | 70 => ⟨S2x4x64x128, .f32⟩
  | 71 => ⟨S2x4x64x128, .f32⟩
  | 72 => ⟨S1x2x4x64x128, .f32⟩
  | 73 => ⟨S2x4x64x128, .f32⟩
  | 74 => ⟨S2x4x64x128, .f32⟩
  | 75 => ⟨S1x2x4x64x128, .f32⟩
  | 76 => ⟨S1x2x4x64, .f32⟩
  | 77 => ⟨S2x4x64, .f32⟩
  | 78 => ⟨S2x4x64x1, .f32⟩
  | 79 => ⟨S2x4x64x128, .f32⟩
  | 80 => ⟨S2x4x64x128, .f32⟩
  | 81 => ⟨S1x2x4x64x128, .f32⟩
  | 82 => ⟨S2x4x64x128, .f32⟩
  | 83 => ⟨S2x4x64x128, .f32⟩
  | 84 => ⟨S1x2x4x64x128, .f32⟩
  | 85 => ⟨S1x2x4x64, .f32⟩
  | 86 => ⟨S2x4x64, .f32⟩
  | 87 => ⟨S2x4x64x1, .f32⟩
  | 88 => ⟨S2x4x64x128, .f32⟩
  | 89 => ⟨S2x4x64x128, .f32⟩
  | 90 => ⟨S1x2x4x64x128, .f32⟩
  | 91 => ⟨S2x4x64x128, .f32⟩
  | 92 => ⟨S2x4x64x128, .f32⟩
  | 93 => ⟨S1x2x4x64x128, .f32⟩
  | 94 => ⟨S1x2x4x64, .f32⟩
  | 95 => ⟨S2x4x64, .f32⟩
  | 96 => ⟨S2x4x64x1, .f32⟩
  | 97 => ⟨S2x4x64x128, .f32⟩
  | 98 => ⟨S2x4x64x128, .f32⟩
  | 99 => ⟨S1x2x4x64x128, .f32⟩
  | 100 => ⟨S2x4x64x128, .f32⟩
  | 101 => ⟨S2x4x64x128, .f32⟩
  | 102 => ⟨S1x2x4x64x128, .f32⟩
  | 103 => ⟨S1x2x4x64, .f32⟩
  | 104 => ⟨S2x4x64, .f32⟩
  | 105 => ⟨S2x4x64x1, .f32⟩
  | 106 => ⟨S2x4x64x128, .f32⟩
  | 107 => ⟨S2x4x64x128, .f32⟩
  | 108 => ⟨S1x2x4x64x128, .f32⟩
  | 109 => ⟨S2x4x64x128, .f32⟩
  | 110 => ⟨S2x4x64x128, .f32⟩
  | 111 => ⟨S1x2x4x64x128, .f32⟩
  | 112 => ⟨S1x2x4x64, .f32⟩
  | 113 => ⟨S2x4x64, .f32⟩
  | 114 => ⟨S2x4x64x1, .f32⟩
  | 115 => ⟨S2x4x64x128, .f32⟩
  | 116 => ⟨S2x4x64x128, .f32⟩
  | 117 => ⟨S1x2x4x64x128, .f32⟩
  | 118 => ⟨S2x4x64x128, .f32⟩
  | 119 => ⟨S2x4x64x128, .f32⟩
  | 120 => ⟨S1x2x4x64x128, .f32⟩
  | 121 => ⟨S1x2x4x64, .f32⟩
  | 122 => ⟨S2x4x64, .f32⟩
  | 123 => ⟨S2x4x64x1, .f32⟩
  | 124 => ⟨S2x4x64x128, .f32⟩
  | 125 => ⟨S2x4x64x128, .f32⟩
  | 126 => ⟨S1x2x4x64x128, .f32⟩
  | 127 => ⟨S2x4x64x128, .f32⟩
  | _ => ⟨S2x2064x1024, .f32⟩

abbrev hbmTy0_3 (i : Nat) : BufTy := match i % 128 with
  | 0 => ⟨S2x4x64x128, .f32⟩
  | 1 => ⟨S1x2x4x64x128, .f32⟩
  | 2 => ⟨S1x2x4x64, .f32⟩
  | 3 => ⟨S2x4x64, .f32⟩
  | 4 => ⟨S2x4x64x1, .f32⟩
  | 5 => ⟨S2x4x64x128, .f32⟩
  | 6 => ⟨S2x4x64x128, .f32⟩
  | 7 => ⟨S1x2x4x64x128, .f32⟩
  | 8 => ⟨S2x4x64x128, .f32⟩
  | 9 => ⟨S2x4x64x128, .f32⟩
  | 10 => ⟨S11x2x4x64x128, .f32⟩
  | 11 => ⟨S11x2x4x64x128, .f32⟩
  | 12 => ⟨S11x2x4x64x128, .f32⟩
  | 13 => ⟨S33x2x4x64x128, .f32⟩
  | 14 => ⟨S2x4x33x64x128, .f32⟩
  | 15 => ⟨S2x4x33x64x128, .f32⟩
  | 16 => ⟨S2x4x33x64x128, .f32⟩
  | 17 => ⟨S2x33x64x4x128, .f32⟩
  | 18 => ⟨S2x2112x4x128, .f32⟩
  | 19 => ⟨S2x2064x4x128, .f32⟩
  | 20 => ⟨S2x2064x4x128, .f32⟩
  | 21 => ⟨S_, .f32⟩
  | 22 => ⟨S2x2064x4, .f32⟩
  | 23 => ⟨S2x2064x4x1, .f32⟩
  | 24 => ⟨S_, .f32⟩
  | 25 => ⟨S2x2064x4x1, .f32⟩
  | 26 => ⟨S2x2064x4x1, .f32⟩
  | 27 => ⟨S_, .f32⟩
  | 28 => ⟨S2x2064x4x1, .f32⟩
  | 29 => ⟨S2x2064x4x1, .f32⟩
  | 30 => ⟨S2x2064x4x1, .f32⟩
  | 31 => ⟨S2x2064x4x128, .f32⟩
  | 32 => ⟨S2x2064x4x128, .f32⟩
  | 33 => ⟨S1x1x1x128, .f32⟩
  | 34 => ⟨S2x2064x4x128, .f32⟩
  | 35 => ⟨S2x2064x4x128, .f32⟩
  | 36 => ⟨S2x2064x4x128, .f32⟩
  | 37 => ⟨S2x2064x4x128, .f32⟩
  | 38 => ⟨S2x2064x4x128, .f32⟩
  | 39 => ⟨S_, .f32⟩
  | 40 => ⟨S2x2064x4x128, .f32⟩
  | 41 => ⟨S2x2064x4x128, .f32⟩
  | 42 => ⟨S_, .f32⟩
  | 43 => ⟨S2x2064x4x128, .f32⟩
  | 44 => ⟨S2x2064x4x128, .f32⟩
  | 45 => ⟨S2x2064x4x128, .f32⟩
  | 46 => ⟨S2x2064x4x128, .f32⟩
  | 47 => ⟨S2x33x4x128x64, .f32⟩
  | 48 => ⟨S4, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S4, .i32⟩
  | 56 => ⟨S4, .i32⟩
  | 57 => ⟨S_, .i32⟩
  | 58 => ⟨S4, .i32⟩
  | 59 => ⟨S4, .i1⟩
  | 60 => ⟨S_, .i32⟩
  | 61 => ⟨S4, .i32⟩
  | 62 => ⟨S4, .i1⟩
  | 63 => ⟨S_, .i32⟩
  | 64 => ⟨S_, .i1⟩
  | 65 => ⟨S4, .i1⟩
  | 66 => ⟨S4, .i1⟩
  | 67 => ⟨S4, .i1⟩
  | 68 => ⟨S4, .i32⟩
  | 69 => ⟨S4, .i32⟩
  | 70 => ⟨S4, .i32⟩
  | 71 => ⟨S_, .i32⟩
  | 72 => ⟨S4, .i32⟩
  | 73 => ⟨S4, .i1⟩
  | 74 => ⟨S4x1x1, .i1⟩
  | 75 => ⟨S_, .f32⟩
  | 76 => ⟨S_, .f32⟩
  | 77 => ⟨S2x33x4x128x64, .i1⟩
  | 78 => ⟨S2x33x4x128x64, .f32⟩
  | 79 => ⟨S2x33x4x128x64, .f32⟩
  | 80 => ⟨S_, .f32⟩
  | 81 => ⟨S_, .f32⟩
  | 82 => ⟨S2x33x4x128x64, .i1⟩
  | 83 => ⟨S2x33x4x128x64, .f32⟩
  | 84 => ⟨S2x33x4x128x64, .f32⟩
  | 85 => ⟨S2x33x4x128x128, .f32⟩
  | 86 => ⟨S2x2064x512, .f32⟩
  | 87 => ⟨S_, .i32⟩
  | 88 => ⟨S_, .f32⟩
  | 89 => ⟨S2x2112x512, .f32⟩
  | 90 => ⟨S4224x512, .f32⟩
  | 91 => ⟨S4224x512, .bf16⟩
  | 92 => ⟨S66x4x128x128, .f32⟩
  | _ => ⟨S2x2064x1024, .f32⟩

abbrev hbmTy (i : Nat) : BufTy := match i / 128 with
  | 0 => hbmTy0_0 i
  | 1 => hbmTy0_1 i
  | 2 => hbmTy0_2 i
  | 3 => hbmTy0_3 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_call1_v0 : Ref sig .tc := ⟨.hbm, 37, rfl⟩
abbrev main_v11 : Ref sig .tc := ⟨.hbm, 38, rfl⟩
abbrev main_c_0 : Ref sig .tc := ⟨.hbm, 39, rfl⟩
abbrev main_call2_v0 : Ref sig .tc := ⟨.hbm, 40, rfl⟩
abbrev main_v12 : Ref sig .tc := ⟨.hbm, 41, rfl⟩
abbrev main_c_1 : Ref sig .tc := ⟨.hbm, 42, rfl⟩
abbrev main_call3_v0 : Ref sig .tc := ⟨.hbm, 43, rfl⟩
abbrev main_v13 : Ref sig .tc := ⟨.hbm, 44, rfl⟩
abbrev main_c_2 : Ref sig .tc := ⟨.hbm, 45, rfl⟩
abbrev main_call4_v0 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_call5_call0_cst : Ref sig .tc := ⟨.hbm, 59, rfl⟩
abbrev main_call5_call0_v0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_4 : Ref sig .tc := ⟨.hbm, 72, rfl⟩
abbrev main_v36 : Ref sig .tc := ⟨.hbm, 73, rfl⟩
abbrev main_call6_v0 : Ref sig .tc := ⟨.hbm, 74, rfl⟩
abbrev main_call6_c : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_c_0 : Ref sig .tc := ⟨.hbm, 80, rfl⟩
abbrev main_call6_v5 : Ref sig .tc := ⟨.hbm, 81, rfl⟩
abbrev main_v37 : Ref sig .tc := ⟨.hbm, 82, rfl⟩
abbrev main_v38 : Ref sig .tc := ⟨.hbm, 83, rfl⟩
abbrev main_cst_5 : Ref sig .tc := ⟨.hbm, 84, rfl⟩
abbrev main_call7_v0 : Ref sig .tc := ⟨.hbm, 85, rfl⟩
abbrev main_call7_v1 : Ref sig .tc := ⟨.hbm, 86, rfl⟩
abbrev main_call7_v2 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_v352 : Ref sig .tc := ⟨.hbm, 402, rfl⟩
abbrev main_v353 : Ref sig .tc := ⟨.hbm, 403, rfl⟩
abbrev main_v354 : Ref sig .tc := ⟨.hbm, 404, rfl⟩
abbrev main_cst_7 : Ref sig .tc := ⟨.hbm, 405, rfl⟩
abbrev main_v355 : Ref sig .tc := ⟨.hbm, 406, rfl⟩
abbrev main_v356 : Ref sig .tc := ⟨.hbm, 407, rfl⟩
abbrev main_cst_8 : Ref sig .tc := ⟨.hbm, 408, rfl⟩
abbrev main_v357 : Ref sig .tc := ⟨.hbm, 409, rfl⟩
abbrev main_v358 : Ref sig .tc := ⟨.hbm, 410, rfl⟩
abbrev main_cst_9 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_call8_v0 : Ref sig .tc := ⟨.hbm, 421, rfl⟩
abbrev main_call8_v1 : Ref sig .tc := ⟨.hbm, 422, rfl⟩
abbrev main_call8_cst : Ref sig .tc := ⟨.hbm, 423, rfl⟩
abbrev main_call8_v2 : Ref sig .tc := ⟨.hbm, 424, rfl⟩
abbrev main_call8_v3 : Ref sig .tc := ⟨.hbm, 425, rfl⟩
abbrev main_call8_cst_0 : Ref sig .tc := ⟨.hbm, 426, rfl⟩
abbrev main_call8_v4 : Ref sig .tc := ⟨.hbm, 427, rfl⟩
abbrev main_call8_v5 : Ref sig .tc := ⟨.hbm, 428, rfl⟩
abbrev main_v368 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_c_10 : Ref sig .tc := ⟨.hbm, 433, rfl⟩
abbrev main_call9_v0 : Ref sig .tc := ⟨.hbm, 434, rfl⟩
abbrev main_call9_c : Ref sig .tc := ⟨.hbm, 435, rfl⟩
abbrev main_call9_v1 : Ref sig .tc := ⟨.hbm, 436, rfl⟩
abbrev main_call9_c_0 : Ref sig .tc := ⟨.hbm, 437, rfl⟩
abbrev main_call9_v2 : Ref sig .tc := ⟨.hbm, 438, rfl⟩
abbrev main_call9_v3 : Ref sig .tc := ⟨.hbm, 439, rfl⟩
abbrev main_call9_v4 : Ref sig .tc := ⟨.hbm, 440, rfl⟩
abbrev main_call9_c_1 : Ref sig .tc := ⟨.hbm, 441, rfl⟩
abbrev main_call9_v5 : Ref sig .tc := ⟨.hbm, 442, rfl⟩
abbrev main_call9_v6 : Ref sig .tc := ⟨.hbm, 443, rfl⟩
abbrev main_call9_c_2 : Ref sig .tc := ⟨.hbm, 444, rfl⟩
abbrev main_call9_v7 : Ref sig .tc := ⟨.hbm, 445, rfl⟩
abbrev main_call9_v8 : Ref sig .tc := ⟨.hbm, 446, rfl⟩
abbrev main_call9_c_3 : Ref sig .tc := ⟨.hbm, 447, rfl⟩
abbrev main_call9_v9 : Ref sig .tc := ⟨.hbm, 448, rfl⟩
abbrev main_call9_v10 : Ref sig .tc := ⟨.hbm, 449, rfl⟩
abbrev main_call9_v11 : Ref sig .tc := ⟨.hbm, 450, rfl⟩
abbrev main_call9_v12 : Ref sig .tc := ⟨.hbm, 451, rfl⟩
abbrev main_call9_v13 : Ref sig .tc := ⟨.hbm, 452, rfl⟩
abbrev main_call9_v14 : Ref sig .tc := ⟨.hbm, 453, rfl⟩
abbrev main_v372 : Ref sig .tc := ⟨.hbm, 454, rfl⟩
abbrev main_c_11 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_cst_12 : Ref sig .tc := ⟨.hbm, 459, rfl⟩
abbrev main_call10_v0 : Ref sig .tc := ⟨.hbm, 460, rfl⟩
abbrev main_call10_v1 : Ref sig .tc := ⟨.hbm, 461, rfl⟩
abbrev main_call10_v2 : Ref sig .tc := ⟨.hbm, 462, rfl⟩
abbrev main_v376 : Ref sig .tc := ⟨.hbm, 463, rfl⟩
abbrev main_cst_13 : Ref sig .tc := ⟨.hbm, 464, rfl⟩
abbrev main_call11_v0 : Ref sig .tc := ⟨.hbm, 465, rfl⟩
abbrev main_call11_v1 : Ref sig .tc := ⟨.hbm, 466, rfl⟩
abbrev main_call11_v2 : Ref sig .tc := ⟨.hbm, 467, rfl⟩
abbrev main_v377 : Ref sig .tc := ⟨.hbm, 468, rfl⟩
abbrev main_v378 : Ref sig .tc := ⟨.hbm, 469, rfl⟩
abbrev main_v379 : Ref sig .tc := ⟨.hbm, 470, rfl⟩
abbrev main_c_14 : Ref sig .tc := ⟨.hbm, 471, rfl⟩
abbrev main_call12_v0 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩

abbrev nD : Nat := 1
abbrev τ : Topo := Topo.v7x

variable {F : FTy → Type} [FloatOps F]
-- ==== Kernel4.lean ====
abbrev S2x2064x1024 : Shape := ⟨3, ![2, 2064, 1024]⟩
abbrev S1024x4096 : Shape := ⟨2, ![1024, 4096]⟩
abbrev S4096x1024 : Shape := ⟨2, ![4096, 1024]⟩
abbrev S2x2064x4096 : Shape := ⟨3, ![2, 2064, 4096]⟩
abbrev S_ : Shape := ⟨0, ![]⟩
abbrev S2x2112x1024 : Shape := ⟨3, ![2, 2112, 1024]⟩
abbrev S4224x1024 : Shape := ⟨2, ![4224, 1024]⟩
abbrev S2x2112x4096 : Shape := ⟨3, ![2, 2112, 4096]⟩
abbrev S4224x4096 : Shape := ⟨2, ![4224, 4096]⟩
abbrev S8x1024x512 : Shape := ⟨3, ![8, 1024, 512]⟩
abbrev S8x512x1024 : Shape := ⟨3, ![8, 512, 1024]⟩
abbrev S704x1024 : Shape := ⟨2, ![704, 1024]⟩
abbrev S2x1024x512 : Shape := ⟨3, ![2, 1024, 512]⟩
abbrev S2x512x1024 : Shape := ⟨3, ![2, 512, 1024]⟩
abbrev S1x1024x512 : Shape := ⟨3, ![1, 1024, 512]⟩
abbrev S1024x512 : Shape := ⟨2, ![1024, 512]⟩
abbrev S704x512 : Shape := ⟨2, ![704, 512]⟩
abbrev S1x512x1024 : Shape := ⟨3, ![1, 512, 1024]⟩
abbrev S512x1024 : Shape := ⟨2, ![512, 1024]⟩

abbrev nBuf : Space → Nat
  | .hbm => 36
  | .vmem => 14
  | .smem => 0
  | _ => 0

abbrev bufTy : (tb : Table) → Fin (tcTables nBuf tb) → BufTy
  | .hbm, ⟨0, _⟩ => ⟨S2x2064x1024, .f32⟩
  | .hbm, ⟨1, _⟩ => ⟨S1024x4096, .f32⟩
  | .hbm, ⟨2, _⟩ => ⟨S4096x1024, .f32⟩
  | .hbm, ⟨3, _⟩ => ⟨S2x2064x1024, .f32⟩
  | .hbm, ⟨4, _⟩ => ⟨S2x2064x4096, .f32⟩
  | .hbm, ⟨5, _⟩ => ⟨S1024x4096, .f32⟩
  | .hbm, ⟨6, _⟩ => ⟨S2x2064x4096, .f32⟩
  | .hbm, ⟨7, _⟩ => ⟨S_, .f32⟩
  | .hbm, ⟨8, _⟩ => ⟨S2x2064x4096, .f32⟩
  | .hbm, ⟨9, _⟩ => ⟨S2x2064x4096, .f32⟩
  | .hbm, ⟨10, _⟩ => ⟨S_, .f32⟩
  | .hbm, ⟨11, _⟩ => ⟨S2x2064x4096, .f32⟩
  | .hbm, ⟨12, _⟩ => ⟨S2x2064x4096, .f32⟩
  | .hbm, ⟨13, _⟩ => ⟨S2x2064x4096, .f32⟩
  | .hbm, ⟨14, _⟩ => ⟨S_, .i32⟩
  | .hbm, ⟨15, _⟩ => ⟨S_, .f32⟩
  | .hbm, ⟨16, _⟩ => ⟨S2x2112x1024, .f32⟩
  | .hbm, ⟨17, _⟩ => ⟨S4224x1024, .f32⟩
  | .hbm, ⟨18, _⟩ => ⟨S4224x1024, .bf16⟩
  | .hbm, ⟨19, _⟩ => ⟨S_, .i32⟩
  | .hbm, ⟨20, _⟩ => ⟨S_, .f32⟩
  | .hbm, ⟨21, _⟩ => ⟨S2x2112x4096, .f32⟩
  | .hbm, ⟨22, _⟩ => ⟨S4224x4096, .f32⟩
  | .hbm, ⟨23, _⟩ => ⟨S4224x4096, .bf16⟩
  | .hbm, ⟨24, _⟩ => ⟨S_, .i32⟩
  | .hbm, ⟨25, _⟩ => ⟨S_, .f32⟩
  | .hbm, ⟨26, _⟩ => ⟨S2x2112x4096, .f32⟩
  | .hbm, ⟨27, _⟩ => ⟨S4224x4096, .f32⟩
  | .hbm, ⟨28, _⟩ => ⟨S4224x4096, .bf16⟩
  | .hbm, ⟨29, _⟩ => ⟨S_, .i32⟩
  | .hbm, ⟨30, _⟩ => ⟨S_, .f32⟩
  | .hbm, ⟨31, _⟩ => ⟨S2x2112x1024, .f32⟩
  | .hbm, ⟨32, _⟩ => ⟨S4224x1024, .f32⟩
  | .hbm, ⟨33, _⟩ => ⟨S4224x1024, .bf16⟩
  | .hbm, ⟨34, _⟩ => ⟨S8x1024x512, .bf16⟩
  | .hbm, ⟨35, _⟩ => ⟨S8x512x1024, .bf16⟩
  | .local _ .vmem, ⟨0, _⟩ => ⟨S704x1024, .bf16⟩
  | .local _ .vmem, ⟨1, _⟩ => ⟨S704x1024, .bf16⟩
  | .local _ .vmem, ⟨2, _⟩ => ⟨S704x1024, .bf16⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .bf16⟩
  | .local _ .vmem, ⟨7, _⟩ => ⟨S704x1024, .bf16⟩
  | .local _ .vmem, ⟨8, _⟩ => ⟨S2x1024x512, .bf16⟩
  | .local _ .vmem, ⟨9, _⟩ => ⟨S2x1024x512, .bf16⟩
  | .local _ .vmem, ⟨10, _⟩ => ⟨S2x512x1024, .bf16⟩
  | .local _ .vmem, ⟨11, _⟩ => ⟨S2x512x1024, .bf16⟩
  | .local _ .vmem, ⟨12, _⟩ => ⟨S2x1024x512, .f32⟩
  | .local _ .vmem, ⟨13, _⟩ => ⟨S2x512x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v57 : BitVec 1 := Scalar.cmpi .eq arg1 c5_i32
  let v58 : BitVec 32 := Scalar.extui v57
  let c0_i32_43 : BitVec 32 := 0#32
  let v59 : BitVec 1 := Scalar.cmpi .ne v58 c0_i32_43
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S2x2064x1024 : Shape := ⟨3, ![2, 2064, 1024]⟩
abbrev S1024x4096 : Shape := ⟨2, ![1024, 4096]⟩
abbrev S4096x1024 : Shape := ⟨2, ![4096, 1024]⟩
abbrev S2x2064x4096 : Shape := ⟨3, ![2, 2064, 4096]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1024x4096, .f32⟩
  | .hbm, ⟨2, _⟩ => ⟨S4096x1024, .f32⟩
  | .hbm, ⟨3, _⟩ => ⟨S2x2064x1024, .f32⟩
  | .hbm, ⟨4, _⟩ => ⟨S2x2064x4096, .f32⟩
  | .hbm, ⟨5, _⟩ => ⟨S_, .f32⟩
  | .hbm, ⟨6, _⟩ => ⟨S2x2064x4096, .f32⟩
  | .hbm, ⟨7, _⟩ => ⟨S2x2064x4096, .f32⟩
  | .hbm, ⟨8, _⟩ => ⟨S_, .f32⟩
  | .hbm, ⟨9, _⟩ => ⟨S2x2064x4096, .f32⟩
  | .hbm, ⟨10, _⟩ => ⟨S2x2064x4096, .i1⟩
  | .hbm, ⟨11, _⟩ => ⟨S_, .f32⟩
  | .hbm, ⟨12, _⟩ => ⟨S2x2064x4096, .f32⟩
  | .hbm, ⟨13, _⟩ => ⟨S2x2064x4096, .f32⟩
  | .hbm, ⟨14, _⟩ => ⟨S_, .f32⟩
  | .hbm, ⟨15, _⟩ => ⟨S2x2064x4096, .f32⟩
  | .hbm, ⟨16, _⟩ => ⟨S2x2064x4096, .f32⟩
  | .hbm, ⟨17, _⟩ => ⟨S2x2064x1024, .f32⟩
  | .hbm, ⟨18, _⟩ => ⟨S1024x4096, .f32⟩
  | .hbm, ⟨19, _⟩ => ⟨S4096x1024, .f32⟩
  | .hbm, ⟨20, _⟩ => ⟨S2x2064x4096, .f32⟩
  | .hbm, ⟨21, _⟩ => ⟨S2x2064x4096, .f32⟩
  | .hbm, ⟨22, _⟩ => ⟨S_, .f32⟩
  | .hbm, ⟨23, _⟩ => ⟨S2x2064x4096, .f32⟩
  | .hbm, ⟨24, _⟩ => ⟨S2x2064x4096, .f32⟩
  | .hbm, ⟨25, _⟩ => ⟨S4096x1024, .f32⟩
  | .hbm, ⟨26, _⟩ => ⟨S1024x4096, .f32⟩
  | .hbm, ⟨27, _⟩ => ⟨S1024x8x512, .f32⟩
  | .hbm, ⟨28, _⟩ => ⟨S8x1024x512, .f32⟩
  | .hbm, ⟨29, _⟩ => ⟨S8x1024x512, .bf16⟩
  | .hbm, ⟨30, _⟩ => ⟨S8x512x1024, .f32⟩
  | .hbm, ⟨31, _⟩ => ⟨S8x512x1024, .bf16⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel5.lean ====
abbrev S2x2064x1024 : Shape := ⟨3, ![2, 2064, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2064x4096 : Shape := ⟨3, ![2, 2064, 4096]⟩
abbrev S2x2112x4096 : Shape := ⟨3, ![2, 2112, 4096]⟩
abbrev S4224x4096 : Shape := ⟨2, ![4224, 4096]⟩
abbrev S1024x8x512 : Shape := ⟨3, ![1024, 8, 512]⟩
abbrev S8x1024x512 : Shape := ⟨3, ![8, 1024, 512]⟩
abbrev S2x2112x1024 : Shape := ⟨3, ![2, 2112, 1024]⟩
abbrev S4224x1024 : Shape := ⟨2, ![4224, 1024]⟩
abbrev S1x1024 : Shape := ⟨2, ![1, 1024]⟩
abbrev S704x1024 : Shape := ⟨2, ![704, 1024]⟩
abbrev S2x1024x512 : Shape := ⟨3, ![2, 1024, 512]⟩
abbrev S1024x1024 : Shape := ⟨2, ![1024, 1024]⟩
abbrev S512x1024 : Shape := ⟨2, ![512, 1024]⟩
abbrev S704x512 : Shape := ⟨2, ![704, 512]⟩
abbrev S1x1024x512 : Shape := ⟨3, ![1, 1024, 512]⟩
abbrev S1024x512 : Shape := ⟨2, ![1024, 512]⟩
abbrev S352x1024 : Shape := ⟨2, ![352, 1024]⟩
abbrev S352x512 : Shape := ⟨2, ![352, 512]⟩
abbrev S352 : Shape := ⟨1, ![352]⟩
abbrev S352x1 : Shape := ⟨2, ![352, 1]⟩

abbrev nBuf : Space → Nat
  | .hbm => 59
  | .vmem => 20
  | .smem => 0
  | _ => 0

abbrev bufTy : (tb : Table) → Fin (tcTables nBuf tb) → BufTy
  | .hbm, ⟨0, _⟩ => ⟨S2x2064x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S2x2064x1024, .f32⟩
  | .hbm, ⟨6, _⟩ => ⟨S_, .f32⟩
  | .hbm, ⟨7, _⟩ => ⟨S2x2064, .f32⟩
  | .hbm, ⟨8, _⟩ => ⟨S2x2064x1, .f32⟩
  | .hbm, ⟨9, _⟩ => ⟨S_, .f32⟩
  | .hbm, ⟨10, _⟩ => ⟨S2x2064x1, .f32⟩
  | .hbm, ⟨11, _⟩ => ⟨S2x2064x1, .f32⟩
  | .hbm, ⟨12, _⟩ => ⟨S2x2064x1024, .f32⟩
  | .hbm, ⟨13, _⟩ => ⟨S2x2064x1024, .f32⟩
  | .hbm, ⟨14, _⟩ => ⟨S2x2064x1024, .f32⟩
  | .hbm, ⟨15, _⟩ => ⟨S_, .f32⟩
  | .hbm, ⟨16, _⟩ => ⟨S2x2064, .f32⟩
  | .hbm, ⟨17, _⟩ => ⟨S2x2064x1, .f32⟩
  | .hbm, ⟨18, _⟩ => ⟨S_, .f32⟩
  | .hbm, ⟨19, _⟩ => ⟨S2x2064x1, .f32⟩
  | .hbm, ⟨20, _⟩ => ⟨S2x2064x1, .f32⟩
  | .hbm, ⟨21, _⟩ => ⟨S2x2064x1024, .f32⟩
  | .hbm, ⟨22, _⟩ => ⟨S2x2064x1024, .f32⟩
  | .hbm, ⟨23, _⟩ => ⟨S_, .f32⟩
  | .hbm, ⟨24, _⟩ => ⟨S2x2064x1, .f32⟩
  | .hbm, ⟨25, _⟩ => ⟨S2x2064x1, .f32⟩
  | .hbm, ⟨26, _⟩ => ⟨S2x2064x1, .f32⟩
  | .hbm, ⟨27, _⟩ => ⟨S2x2064x1024, .f32⟩
  | .hbm, ⟨28, _⟩ => ⟨S2x2064x1024, .f32⟩
  | .hbm, ⟨29, _⟩ => ⟨S1x1x1024, .f32⟩
  | .hbm, ⟨30, _⟩ => ⟨S2x2064x1024, .f32⟩
  | .hbm, ⟨31, _⟩ => ⟨S2x2064x1024, .f32⟩
  | .hbm, ⟨32, _⟩ => ⟨S1x1x1024, .f32⟩
  | .hbm, ⟨33, _⟩ => ⟨S2x2064x1024, .f32⟩
  | .hbm, ⟨34, _⟩ => ⟨S2x2064x1024, .f32⟩
  | .hbm, ⟨35, _⟩ => ⟨S2x2064x4096, .f32⟩
  | .hbm, ⟨36, _⟩ => ⟨S_, .i32⟩
  | .hbm, ⟨37, _⟩ => ⟨S_, .f32⟩
  | .hbm, ⟨38, _⟩ => ⟨S2x2112x4096, .f32⟩
  | .hbm, ⟨39, _⟩ => ⟨S4224x4096, .f32⟩
  | .hbm, ⟨40, _⟩ => ⟨S4224x4096, .bf16⟩
  | .hbm, ⟨41, _⟩ => ⟨S1024x8x512, .f32⟩
  | .hbm, ⟨42, _⟩ => ⟨S8x1024x512, .f32⟩
  | .hbm, ⟨43, _⟩ => ⟨S8x1024x512, .bf16⟩
  | .hbm, ⟨44, _⟩ => ⟨S_, .i32⟩
  | .hbm, ⟨45, _⟩ => ⟨S_, .f32⟩
  | .hbm, ⟨46, _⟩ => ⟨S2x2112x1024, .f32⟩
  | .hbm, ⟨47, _⟩ => ⟨S4224x1024, .f32⟩
  | .hbm, ⟨48, _⟩ => ⟨S4224x1024, .bf16⟩
  | .hbm, ⟨49, _⟩ => ⟨S4096x1024, .bf16⟩
  | .hbm, ⟨50, _⟩ => ⟨S_, .i32⟩
  | .hbm, ⟨51, _⟩ => ⟨S_, .f32⟩
  | .hbm, ⟨52, _⟩ => ⟨S2x2112x1024, .f32⟩
  | .hbm, ⟨53, _⟩ => ⟨S4224x1024, .f32⟩
  | .hbm, ⟨54, _⟩ => ⟨S1x1024, .f32⟩
  | .hbm, ⟨55, _⟩ => ⟨S4224x4096, .bf16⟩
  | .hbm, ⟨56, _⟩ => ⟨S4224x1024, .f32⟩
  | .hbm, ⟨57, _⟩ => ⟨S1x1024, .f32⟩
  | .hbm, ⟨58, _⟩ => ⟨S1x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .bf16⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S704x1024, .f32⟩
  | .local _ .vmem, ⟨11, _⟩ => ⟨S704x1024, .f32⟩
  | .local _ .vmem, ⟨12, _⟩ => ⟨S1x1024, .f32⟩
  | .local _ .vmem, ⟨13, _⟩ => ⟨S704x1024, .bf16⟩
  | .local _ .vmem, ⟨14, _⟩ => ⟨S704x1024, .bf16⟩
  | .local _ .vmem, ⟨15, _⟩ => ⟨S704x1024, .f32⟩
  | .local _ .vmem, ⟨16, _⟩ => ⟨S704x1024, .f32⟩
  | .local _ .vmem, ⟨17, _⟩ => ⟨S1x1024, .f32⟩
  | .local _ .vmem, ⟨18, _⟩ => ⟨S1x1024, .f32⟩
  | .local _ .vmem, ⟨19, _⟩ => ⟨S704x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call2_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![6, 4], ![false, false]⟩

def k0_cond3 (i : grid0.Coords) : BitVec 1 :=
  let arg1 : BitVec 32 := BitVec.ofNat 32 (i 1).val
  let c3_i32 : BitVec 32 := 3#32
  let v8 : BitVec 1 := Scalar.cmpi .slt arg1 c3_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c3_i32_5 : BitVec 32 := 3#32
  let v11 : BitVec 1 := Scalar.cmpi .eq arg1 c3_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference5Ideal.lean ====
abbrev S2x2064x1024 : Shape := ⟨3, ![2, 2064, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2064x4096 : Shape := ⟨3, ![2, 2064, 4096]⟩
abbrev S2x2112x4096 : Shape := ⟨3, ![2, 2112, 4096]⟩
abbrev S4224x4096 : Shape := ⟨2, ![4224, 4096]⟩
abbrev S2x2112x1024 : Shape := ⟨3, ![2, 2112, 1024]⟩
abbrev S4224x1024 : Shape := ⟨2, ![4224, 1024]⟩
abbrev S1x1024 : Shape := ⟨2, ![1, 1024]⟩

abbrev nBuf : Space → Nat
  | .hbm => 175
  | .vmem => 0
  | .smem => 0
  | _ => 0

abbrev hbmTy0_0 (i : Nat) : BufTy := match i % 128 with
  | 0 => ⟨S2x2064x1024, .f32⟩
  | 1 => ⟨S1024, .f32⟩
  | 2 => ⟨S1024, .f32⟩
  | 3 => ⟨S1024x4096, .f32⟩
  | 4 => ⟨S4096x1024, .f32⟩
  | 5 => ⟨S2x2064x1024, .f32⟩
  | 6 => ⟨S_, .f32⟩
  | 7 => ⟨S2x2064, .f32⟩
  | 8 => ⟨S2x2064x1, .f32⟩
  | 9 => ⟨S_, .f32⟩
  | 10 => ⟨S2x2064x1, .f32⟩
  | 11 => ⟨S2x2064x1, .f32⟩
  | 12 => ⟨S2x2064x1024, .f32⟩
  | 13 => ⟨S2x2064x1024, .f32⟩
  | 14 => ⟨S2x2064x1024, .f32⟩
  | 15 => ⟨S_, .f32⟩
  | 16 => ⟨S2x2064x1024, .f32⟩
  | 17 => ⟨S2x2064x1024, .f32⟩
  | 18 => ⟨S_, .f32⟩
  | 19 => ⟨S2x2064, .f32⟩
  | 20 => ⟨S2x2064x1, .f32⟩
  | 21 => ⟨S_, .f32⟩
  | 22 => ⟨S2x2064x1, .f32⟩
  | 23 => ⟨S2x2064x1, .f32⟩
  | 24 => ⟨S2x2064x1024, .f32⟩
  | 25 => ⟨S2x2064x1024, .f32⟩
  | 26 => ⟨S_, .f32⟩
  | 27 => ⟨S2x2064x1, .f32⟩
  | 28 => ⟨S2x2064x1, .f32⟩
  | 29 => ⟨S2x2064x1, .f32⟩
  | 30 => ⟨S2x2064x1, .f32⟩
  | 31 => ⟨S_, .f32⟩
  | 32 => ⟨S2x2064x1, .f32⟩
  | 33 => ⟨S2x2064x1, .f32⟩
  | 34 => ⟨S2x2064x1024, .f32⟩
  | 35 => ⟨S2x2064x1024, .f32⟩
  | 36 => ⟨S1x1x1024, .f32⟩
  | 37 => ⟨S2x2064x1024, .f32⟩
  | 38 => ⟨S2x2064x1024, .f32⟩
  | 39 => ⟨S1x1x1024, .f32⟩
  | 40 => ⟨S2x2064x1024, .f32⟩
  | 41 => ⟨S2x2064x1024, .f32⟩
  | 42 => ⟨S_, .f32⟩
  | 43 => ⟨S2x2064x1024, .f32⟩
  | 44 => ⟨S2x2064x1024, .f32⟩
  | 45 => ⟨S2x2064x4096, .f32⟩
  | 46 => ⟨S_, .f32⟩
  | 47 => ⟨S2x2064x4096, .f32⟩
  | 48 => ⟨S2x2064x4096, .f32⟩
  | 49 => ⟨S_, .f32⟩
  | 50 => ⟨S2x2064x4096, .f32⟩
  | 51 => ⟨S2x2064x4096, .i1⟩
  | 52 => ⟨S_, .f32⟩
  | 53 => ⟨S2x2064x4096, .f32⟩
  | 54 => ⟨S2x2064x4096, .f32⟩
  | 55 => ⟨S_, .f32⟩
  | 56 => ⟨S2x2064x4096, .f32⟩
  | 57 => ⟨S2x2064x4096, .f32⟩
  | 58 => ⟨S2x2064x1024, .f32⟩
  | 59 => ⟨S2x2064x1024, .f32⟩
  | 60 => ⟨S2x2064x1024, .f32⟩
  | 61 => ⟨S2x2064x1024, .f32⟩
  | 62 => ⟨S2x2064x4096, .f32⟩
  | 63 => ⟨S2x2064x4096, .f32⟩
  | 64 => ⟨S_, .f32⟩
  | 65 => ⟨S2x2064x4096, .f32⟩
  | 66 => ⟨S2x2064x4096, .f32⟩
  | 67 => ⟨S2x2064x1024, .f32⟩
  | 68 => ⟨S_, .f32⟩
  | 69 => ⟨S2x2064x1024, .f32⟩
  | 70 => ⟨S2x2064x1024, .f32⟩
  | 71 => ⟨S2x2064x1024, .f32⟩
  | 72 => ⟨S_, .f32⟩
  | 73 => ⟨S1024, .f32⟩
  | 74 => ⟨S1x1x1024, .f32⟩
  | 75 => ⟨S_, .f32⟩
  | 76 => ⟨S1024, .f32⟩
  | 77 => ⟨S2x2064x1024, .f32⟩
  | 78 => ⟨S_, .f32⟩
  | 79 => ⟨S1024, .f32⟩
  | 80 => ⟨S1x1x1024, .f32⟩
  | 81 => ⟨S2x2064x1024, .f32⟩
  | 82 => ⟨S2x2064x1024, .f32⟩
  | 83 => ⟨S_, .f32⟩
  | 84 => ⟨S1024, .f32⟩
  | 85 => ⟨S2x2064x1024, .f32⟩
  | 86 => ⟨S_, .f32⟩
  | 87 => ⟨S2x2064, .f32⟩
  | 88 => ⟨S2x2064x1, .f32⟩
  | 89 => ⟨S2x2064x1024, .f32⟩
  | 90 => ⟨S2x2064x1024, .f32⟩
  | 91 => ⟨S2x2064x1, .f32⟩
  | 92 => ⟨S2x2064x1024, .f32⟩
  | 93 => ⟨S_, .f32⟩
  | 94 => ⟨S2x2064, .f32⟩
  | 95 => ⟨S2x2064x1, .f32⟩
  | 96 => ⟨S_, .f32⟩
  | 97 => ⟨S2x2064x1, .f32⟩
  | 98 => ⟨S2x2064x1, .f32⟩
  | 99 => ⟨S_, .f32⟩
  | 100 => ⟨S2x2064, .f32⟩
  | 101 => ⟨S2x2064x1024, .f32⟩
  | 102 => ⟨S2x2064x1024, .f32⟩
  | 103 => ⟨S2x2064x1024, .f32⟩
  | 104 => ⟨S_, .f32⟩
  | 105 => ⟨S2x2064, .f32⟩
  | 106 => ⟨S2x2064x1, .f32⟩
  | 107 => ⟨S2x2064x1024, .f32⟩
  | 108 => ⟨S2x2064x1, .f32⟩
  | 109 => ⟨S_, .f32⟩
  | 110 => ⟨S2x2064x1, .f32⟩
  | 111 => ⟨S2x2064x1, .f32⟩
  | 112 => ⟨S_, .f32⟩
  | 113 => ⟨S2x2064, .f32⟩
  | 114 => ⟨S2x2064x1024, .f32⟩
  | 115 => ⟨S2x2064x1024, .f32⟩
  | 116 => ⟨S_, .f32⟩
  | 117 => ⟨S2x2064, .f32⟩
  | 118 => ⟨S2x2064x1, .f32⟩
  | 119 => ⟨S_, .f32⟩
  | 120 => ⟨S2x2064x1, .f32⟩
  | 121 => ⟨S2x2064x1, .f32⟩
  | 122 => ⟨S2x2064x1024, .f32⟩
  | 123 => ⟨S2x2064x1024, .f32⟩
  | 124 => ⟨S2x2064x1024, .f32⟩
  | 125 => ⟨S_, .f32⟩
  | 126 => ⟨S2x2064, .f32⟩
  | 127 => ⟨S2x2064x1, .f32⟩
  | _ => ⟨S2x2064x1024, .f32⟩

abbrev hbmTy0_1 (i : Nat) : BufTy := match i % 128 with
  | 0 => ⟨S_, .f32⟩
  | 1 => ⟨S2x2064x1, .f32⟩
  | 2 => ⟨S2x2064x1, .f32⟩
  | 3 => ⟨S2x2064x1024, .f32⟩
  | 4 => ⟨S2x2064x1024, .f32⟩
  | 5 => ⟨S_, .f32⟩
  | 6 => ⟨S2x2064x1, .f32⟩
  | 7 => ⟨S2x2064x1, .f32⟩
  | 8 => ⟨S2x2064x1, .f32⟩
  | 9 => ⟨S2x2064x1024, .f32⟩
  | 10 => ⟨S2x2064x1024, .f32⟩
  | 11 => ⟨S1x1x1024, .f32⟩
  | 12 => ⟨S2x2064x1024, .f32⟩
  | 13 => ⟨S2x2064x1024, .f32⟩
  | 14 => ⟨S1x1x1024, .f32⟩
  | 15 => ⟨S2x2064x1024, .f32⟩
  | 16 => ⟨S2x2064x1024, .f32⟩
  | 17 => ⟨S2x2064x4096, .f32⟩
  | 18 => ⟨S_, .f32⟩
  | 19 => ⟨S2x2064x4096, .f32⟩
  | 20 => ⟨S2x2064x4096, .f32⟩
  | 21 => ⟨S_, .f32⟩
  | 22 => ⟨S2x2064x4096, .f32⟩
  | 23 => ⟨S2x2064x4096, .i1⟩
  | 24 => ⟨S_, .f32⟩
  | 25 => ⟨S2x2064x4096, .f32⟩
  | 26 => ⟨S2x2064x4096, .f32⟩
  | 27 => ⟨S_, .f32⟩
  | 28 => ⟨S2x2064x4096, .f32⟩
  | 29 => ⟨S2x2064x4096, .f32⟩
  | 30 => ⟨S2x2064x1024, .f32⟩
  | 31 => ⟨S2x2064x4096, .f32⟩
  | 32 => ⟨S2x2064x4096, .f32⟩
  | 33 => ⟨S_, .f32⟩
  | 34 => ⟨S2x2064x4096, .f32⟩
  | 35 => ⟨S2x2064x4096, .f32⟩
  | 36 => ⟨S_, .i32⟩
  | 37 => ⟨S_, .f32⟩
  | 38 => ⟨S2x2112x4096, .f32⟩
  | 39 => ⟨S4224x4096, .f32⟩
  | 40 => ⟨S4224x4096, .bf16⟩
  | 41 => ⟨S_, .i32⟩
  | 42 => ⟨S_, .f32⟩
  | 43 => ⟨S2x2112x1024, .f32⟩
  | 44 => ⟨S4224x1024, .f32⟩
  | 45 => ⟨S1x1024, .f32⟩
  | 46 => ⟨S1x1024, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_cst_19 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_cst_22 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_23 : Ref sig .tc := ⟨.hbm, 116, rfl⟩
abbrev main_v84 : Ref sig .tc := ⟨.hbm, 117, rfl⟩
abbrev main_v85 : Ref sig .tc := ⟨.hbm, 118, rfl⟩
abbrev main_cst_24 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_v92 : Ref sig .tc := ⟨.hbm, 127, rfl⟩
abbrev main_cst_26 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_call1_cst : Ref sig .tc := ⟨.hbm, 146, rfl⟩
abbrev main_call1_v0 : Ref sig .tc := ⟨.hbm, 147, rfl⟩
abbrev main_v109 : Ref sig .tc := ⟨.hbm, 148, rfl⟩
abbrev main_cst_28 : Ref sig .tc := ⟨.hbm, 149, rfl⟩
abbrev main_v110 : Ref sig .tc := ⟨.hbm, 150, rfl⟩
abbrev main_v111 : Ref sig .tc := ⟨.hbm, 151, rfl⟩
abbrev main_cst_29 : Ref sig .tc := ⟨.hbm, 152, rfl⟩
abbrev main_v112 : Ref sig .tc := ⟨.hbm, 153, rfl⟩
abbrev main_v113 : Ref sig .tc := ⟨.hbm, 154, rfl⟩
abbrev main_cst_30 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_31 : Ref sig .tc := ⟨.hbm, 161, rfl⟩
abbrev main_v119 : Ref sig .tc := ⟨.hbm, 162, rfl⟩
abbrev main_v120 : Ref sig .tc := ⟨.hbm, 163, rfl⟩
abbrev main_c : Ref sig .tc := ⟨.hbm, 164, rfl⟩
abbrev main_call2_v0 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_32 : Ref sig .tc := ⟨.hbm, 169, rfl⟩
abbrev main_call3_v0 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩

abbrev nD : Nat := 1
abbrev τ : Topo := Topo.v7x

variable {F : FTy → Type} [FloatOps F]
-- ==== Kernel6.lean ====
abbrev S2x2064x1024 : Shape := ⟨3, ![2, 2064, 1024]⟩
abbrev S1024x4096 : Shape := ⟨2, ![1024, 4096]⟩
abbrev S4096x1024 : Shape := ⟨2, ![4096, 1024]⟩
abbrev S1024 : Shape := ⟨1, ![1024]⟩
abbrev S2x2048x1024 : Shape := ⟨3, ![2, 2048, 1024]⟩
abbrev S1024x8x512 : Shape := ⟨3, ![1024, 8, 512]⟩
abbrev S8x1024x512 : Shape := ⟨3, ![8, 1024, 512]⟩
abbrev S_ : Shape := ⟨0, ![]⟩
abbrev S2x2112x1024 : Shape := ⟨3, ![2, 2112, 1024]⟩
abbrev S4224x1024 : Shape := ⟨2, ![4224, 1024]⟩
abbrev S1x1024 : Shape := ⟨2, ![1, 1024]⟩
abbrev S4224x4096 : Shape := ⟨2, ![4224, 4096]⟩
abbrev S8x128 : Shape := ⟨2, ![8, 128]⟩
abbrev S704x1024 : Shape := ⟨2, ![704, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩
abbrev S704x512 : Shape := ⟨2, ![704, 512]⟩
abbrev S512x1024 : Shape := ⟨2, ![512, 1024]⟩
abbrev S352x1024 : Shape := ⟨2, ![352, 1024]⟩
abbrev S352x512 : Shape := ⟨2, ![352, 512]⟩
abbrev S704x1 : Shape := ⟨2, ![704, 1]⟩
abbrev S352 : Shape := ⟨1, ![352]⟩
abbrev S352x1 : Shape := ⟨2, ![352, 1]⟩
abbrev S1x352x1 : Shape := ⟨3, ![1, 352, 1]⟩
abbrev S1 : Shape := ⟨1, ![1]⟩
abbrev S1x1x1 : Shape := ⟨3, ![1, 1, 1]⟩

abbrev nBuf : Space → Nat
  | .hbm => 24
  | .vmem => 22
  | .smem => 0
  | _ => 0

abbrev bufTy : (tb : Table) → Fin (tcTables nBuf tb) → BufTy
  | .hbm, ⟨0, _⟩ => ⟨S2x2064x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2x2048x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S_, .i32⟩
  | .hbm, ⟨10, _⟩ => ⟨S_, .f32⟩
  | .hbm, ⟨11, _⟩ => ⟨S2x2112x1024, .f32⟩
  | .hbm, ⟨12, _⟩ => ⟨S4224x1024, .f32⟩
  | .hbm, ⟨13, _⟩ => ⟨S4224x1024, .bf16⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4224x4096, .bf16⟩
  | .hbm, ⟨19, _⟩ => ⟨S4224x1024, .f32⟩
  | .hbm, ⟨20, _⟩ => ⟨S4224x1024, .bf16⟩
  | .hbm, ⟨21, _⟩ => ⟨S8x128, .f32⟩
  | .hbm, ⟨22, _⟩ => ⟨S1x1024, .f32⟩
  | .hbm, ⟨23, _⟩ => ⟨S1x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .bf16⟩
  | .local _ .vmem, ⟨3, _⟩ => ⟨S704x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .bf16⟩
  | .local _ .vmem, ⟨13, _⟩ => ⟨S704x1024, .bf16⟩
  | .local _ .vmem, ⟨14, _⟩ => ⟨S704x1024, .f32⟩
  | .local _ .vmem, ⟨15, _⟩ => ⟨S704x1024, .f32⟩
  | .local _ .vmem, ⟨16, _⟩ => ⟨S704x1024, .bf16⟩
  | .local _ .vmem, ⟨17, _⟩ => ⟨S704x1024, .bf16⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | .local _ .vmem, ⟨21, _⟩ => ⟨S704x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨2, ![6, 4], ![false, false]⟩

def k0_mult1 (i : grid0.Coords) : BitVec 32 :=
  let arg0 : BitVec 32 := BitVec.ofNat 32 (i 0).val
  let c704_i32 : BitVec 32 := 704#32
  let v0 : BitVec 32 := Scalar.muli arg0 c704_i32
  let c64_i32 : BitVec 32 := 64#32
  let c704_i32_0 : BitVec 32 := 704#32
  let v1 : BitVec 32 := Scalar.muli arg0 c704_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2112_i32 : BitVec 32 := 2112#32
  let c0_i32_2 : BitVec 32 := 0#32
  let v8 : BitVec 1 := Scalar.cmpi .sgt c2112_i32 c0_i32_2
  let v9 : BitVec 32 := Scalar.extui v8
  let c0_i32_3 : BitVec 32 := 0#32
  let v10 : BitVec 1 := Scalar.cmpi .slt c2112_i32 c0_i32_3
  let v11 : BitVec 32 := Scalar.extui v10
  let v12 : BitVec 32 := Scalar.subi v9 v11
  let v13 : BitVec 1 := Scalar.cmpi .ne v7 v12
  let v14 : BitVec 32 := Scalar.remsi v1 c2112_i32
  let c0_i32_4 : BitVec 32 := 0#32
  let v15 : BitVec 1 := Scalar.cmpi .ne v14 c0_i32_4
  let v16 : BitVec 1 := Scalar.andi v13 v15
  let v2 : BitVec 32 := Scalar.divsi v1 c2112_i32
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let v20 : BitVec 32 := Scalar.muli c64_i32 v19
  let v21 : BitVec 32 := Scalar.subi v0 v20
  let c0_i32_6 : BitVec 32 := 0#32
  let v22 : BitVec 32 := Scalar.maxsi v21 c0_i32_6
  v22
def k0_cond3 (i : grid0.Coords) : BitVec 1 :=
  let arg1 : BitVec 32 := BitVec.ofNat 32 (i 1).val
  let c3_i32 : BitVec 32 := 3#32
  let v8 : BitVec 1 := Scalar.cmpi .slt arg1 c3_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c3_i32_5 : BitVec 32 := 3#32
  let v11 : BitVec 1 := Scalar.cmpi .eq arg1 c3_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c704_i32 : BitVec 32 := 704#32
  let v0 : BitVec 32 := Scalar.muli arg0 c704_i32
  let c704_i32_0 : BitVec 32 := 704#32
  let v1 : BitVec 32 := Scalar.muli arg0 c704_i32_0
  let c2112_i32 : BitVec 32 := 2112#32
  let v2 : BitVec 32 := Scalar.divsi v1 c2112_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2112_i32 c0_i32_2
  let v9 : BitVec 32 := Scalar.extui v8
  let c0_i32_3 : BitVec 32 := 0#32
  let v10 : BitVec 1 := Scalar.cmpi .slt c2112_i32 c0_i32_3
  let v11 : BitVec 32 := Scalar.extui v10
  let v12 : BitVec 32 := Scalar.subi v9 v11
  let v13 : BitVec 1 := Scalar.cmpi .ne v7 v12
  let v14 : BitVec 32 := Scalar.remsi v1 c2112_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c64_i32 : BitVec 32 := 64#32
  let v20 : BitVec 32 := Scalar.muli c64_i32 v19
  let v21 : BitVec 32 := Scalar.subi v0 v20
  let c0_i32_6 : BitVec 32 := 0#32
  let v22 : BitVec 32 := Scalar.maxsi v21 c0_i32_6
  let v23 : BitVec 32 := v22
  let c0_i32_7 : BitVec 32 := 0#32
  let c0_i32_8 : BitVec 32 := 0#32
  ![v23.toNat, c0_i32_7.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference6Ideal.lean ====
abbrev S2x2064x1024 : Shape := ⟨3, ![2, 2064, 1024]⟩
abbrev S1024x4096 : Shape := ⟨2, ![1024, 4096]⟩
abbrev S4096x1024 : Shape := ⟨2, ![4096, 1024]⟩
abbrev S1024 : Shape := ⟨1, ![1024]⟩
abbrev S2x2048x1024 : Shape := ⟨3, ![2, 2048, 1024]⟩
abbrev S2x2064x4096 : Shape := ⟨3, ![2, 2064, 4096]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x2048 : Shape := ⟨2, ![2, 2048]⟩
abbrev S2x2112x4096 : Shape := ⟨3, ![2, 2112, 4096]⟩
abbrev S4224x4096 : Shape := ⟨2, ![4224, 4096]⟩
abbrev S2x2112x1024 : Shape := ⟨3, ![2, 2112, 1024]⟩
abbrev S4224x1024 : Shape := ⟨2, ![4224, 1024]⟩
abbrev S8x128 : Shape := ⟨2, ![8, 128]⟩
abbrev S1x1024 : Shape := ⟨2, ![1, 1024]⟩

abbrev nBuf : Space → Nat
  | .hbm => 139
  | .vmem => 0
  | .smem => 0
  | _ => 0

abbrev hbmTy0_0 (i : Nat) : BufTy := match i % 128 with
  | 0 => ⟨S2x2064x1024, .f32⟩
  | 1 => ⟨S1024x4096, .f32⟩
  | 2 => ⟨S4096x1024, .f32⟩
  | 3 => ⟨S1024, .f32⟩
  | 4 => ⟨S1024, .f32⟩
  | 5 => ⟨S2x2048x1024, .f32⟩
  | 6 => ⟨S2x2064x4096, .f32⟩
  | 7 => ⟨S_, .f32⟩
  | 8 => ⟨S2x2064x1024, .f32⟩
  | 9 => ⟨S2x2064x1024, .f32⟩
  | 10 => ⟨S_, .f32⟩
  | 11 => ⟨S2x2064x4096, .f32⟩
  | 12 => ⟨S2x2064x4096, .f32⟩
  | 13 => ⟨S2x2064x4096, .f32⟩
  | 14 => ⟨S2x2064x1024, .f32⟩
  | 15 => ⟨S2x2064x1024, .f32⟩
  | 16 => ⟨S_, .f32⟩
  | 17 => ⟨S2x2064, .f32⟩
  | 18 => ⟨S2x2064x1, .f32⟩
  | 19 => ⟨S_, .f32⟩
  | 20 => ⟨S2x2064x1, .f32⟩
  | 21 => ⟨S2x2064x1, .f32⟩
  | 22 => ⟨S2x2064x1024, .f32⟩
  | 23 => ⟨S2x2064x1024, .f32⟩
  | 24 => ⟨S2x2064x1024, .f32⟩
  | 25 => ⟨S_, .f32⟩
  | 26 => ⟨S2x2064x1024, .f32⟩
  | 27 => ⟨S2x2064x1024, .f32⟩
  | 28 => ⟨S_, .f32⟩
  | 29 => ⟨S2x2064, .f32⟩
  | 30 => ⟨S2x2064x1, .f32⟩
  | 31 => ⟨S_, .f32⟩
  | 32 => ⟨S2x2064x1, .f32⟩
  | 33 => ⟨S2x2064x1, .f32⟩
  | 34 => ⟨S2x2064x1024, .f32⟩
  | 35 => ⟨S2x2064x1024, .f32⟩
  | 36 => ⟨S_, .f32⟩
  | 37 => ⟨S2x2064x1, .f32⟩
  | 38 => ⟨S2x2064x1, .f32⟩
  | 39 => ⟨S2x2064x1, .f32⟩
  | 40 => ⟨S2x2064x1, .f32⟩
  | 41 => ⟨S_, .f32⟩
  | 42 => ⟨S2x2064x1, .f32⟩
  | 43 => ⟨S2x2064x1, .f32⟩
  | 44 => ⟨S2x2064x1024, .f32⟩
  | 45 => ⟨S2x2064x1024, .f32⟩
  | 46 => ⟨S1x1x1024, .f32⟩
  | 47 => ⟨S2x2064x1024, .f32⟩
  | 48 => ⟨S2x2064x1024, .f32⟩
  | 49 => ⟨S1x1x1024, .f32⟩
  | 50 => ⟨S2x2064x1024, .f32⟩
  | 51 => ⟨S2x2064x1024, .f32⟩
  | 52 => ⟨S2x2048x1024, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048, .f32⟩
  | 60 => ⟨S_, .f32⟩
  | 61 => ⟨S2x2048, .f32⟩
  | 62 => ⟨S2x2048, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S2x2048, .f32⟩
  | 71 => ⟨S_, .f32⟩
  | 72 => ⟨S2x2048, .f32⟩
  | 73 => ⟨S2x2048, .f32⟩
  | 74 => ⟨S2x2048x1024, .f32⟩
  | 75 => ⟨S2x2048x1024, .f32⟩
  | 76 => ⟨S_, .f32⟩
  | 77 => ⟨S2x2064x1024, .f32⟩
  | 78 => ⟨S_, .f32⟩
  | 79 => ⟨S1024, .f32⟩
  | 80 => ⟨S1x1x1024, .f32⟩
  | 81 => ⟨S_, .f32⟩
  | 82 => ⟨S1024, .f32⟩
  | 83 => ⟨S2x2064x1024, .f32⟩
  | 84 => ⟨S_, .f32⟩
  | 85 => ⟨S1024, .f32⟩
  | 86 => ⟨S1x1x1024, .f32⟩
  | 87 => ⟨S2x2064x1024, .f32⟩
  | 88 => ⟨S2x2064x1024, .f32⟩
  | 89 => ⟨S_, .f32⟩
  | 90 => ⟨S1024, .f32⟩
  | 91 => ⟨S2x2064x1024, .f32⟩
  | 92 => ⟨S_, .f32⟩
  | 93 => ⟨S2x2064, .f32⟩
  | 94 => ⟨S2x2064x1, .f32⟩
  | 95 => ⟨S2x2064x1024, .f32⟩
  | 96 => ⟨S2x2064x1024, .f32⟩
  | 97 => ⟨S2x2064x1, .f32⟩
  | 98 => ⟨S2x2064x1024, .f32⟩
  | 99 => ⟨S_, .f32⟩
  | 100 => ⟨S2x2064, .f32⟩
  | 101 => ⟨S2x2064x1, .f32⟩
  | 102 => ⟨S_, .f32⟩
  | 103 => ⟨S2x2064x1, .f32⟩
  | 104 => ⟨S2x2064x1, .f32⟩
  | 105 => ⟨S_, .f32⟩
  | 106 => ⟨S2x2064, .f32⟩
  | 107 => ⟨S2x2064x1024, .f32⟩
  | 108 => ⟨S2x2064x1024, .f32⟩
  | 109 => ⟨S2x2064x1024, .f32⟩
  | 110 => ⟨S_, .f32⟩
  | 111 => ⟨S2x2064, .f32⟩
  | 112 => ⟨S2x2064x1, .f32⟩
  | 113 => ⟨S2x2064x1024, .f32⟩
  | 114 => ⟨S2x2064x1, .f32⟩
  | 115 => ⟨S_, .f32⟩
  | 116 => ⟨S2x2064x1, .f32⟩
  | 117 => ⟨S2x2064x1, .f32⟩
  | 118 => ⟨S_, .f32⟩
  | 119 => ⟨S2x2064, .f32⟩
  | 120 => ⟨S2x2064x1024, .f32⟩
  | 121 => ⟨S2x2064x1024, .f32⟩
  | 122 => ⟨S_, .i32⟩
  | 123 => ⟨S_, .f32⟩
  | 124 => ⟨S2x2112x4096, .f32⟩
  | 125 => ⟨S4224x4096, .f32⟩
  | 126 => ⟨S4224x4096, .bf16⟩
  | 127 => ⟨S_, .i32⟩
  | _ => ⟨S2x2064x1024, .f32⟩

abbrev hbmTy0_1 (i : Nat) : BufTy := match i % 128 with
  | 0 => ⟨S_, .f32⟩
  | 1 => ⟨S2x2112x1024, .f32⟩
  | 2 => ⟨S4224x1024, .f32⟩
  | 3 => ⟨S_, .i32⟩
  | 4 => ⟨S_, .f32⟩
  | 5 => ⟨S2x2112x1024, .f32⟩
  | 6 => ⟨S4224x1024, .f32⟩
  | 7 => ⟨S4224x1024, .bf16⟩
  | 8 => ⟨S8x128, .f32⟩
  | 9 => ⟨S1x1024, .f32⟩
  | 10 => ⟨S1x1024, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_cst_17 : Ref sig .tc := ⟨.hbm, 81, rfl⟩
abbrev main_v55 : Ref sig .tc := ⟨.hbm, 82, rfl⟩
abbrev main_v56 : Ref sig .tc := ⟨.hbm, 83, rfl⟩
abbrev main_cst_18 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_cst_20 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_21 : Ref sig .tc := ⟨.hbm, 99, rfl⟩
abbrev main_v69 : Ref sig .tc := ⟨.hbm, 100, rfl⟩
abbrev main_v70 : Ref sig .tc := ⟨.hbm, 101, rfl⟩
abbrev main_cst_22 : Ref sig .tc := ⟨.hbm, 102, rfl⟩
abbrev main_v71 : Ref sig .tc := ⟨.hbm, 103, rfl⟩
abbrev main_v72 : Ref sig .tc := ⟨.hbm, 104, rfl⟩
abbrev main_cst_23 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_24 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_25 : Ref sig .tc := ⟨.hbm, 115, rfl⟩
abbrev main_v81 : Ref sig .tc := ⟨.hbm, 116, rfl⟩
abbrev main_v82 : Ref sig .tc := ⟨.hbm, 117, rfl⟩
abbrev main_cst_26 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c : Ref sig .tc := ⟨.hbm, 122, rfl⟩
abbrev main_call1_v0 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_27 : Ref sig .tc := ⟨.hbm, 127, rfl⟩
abbrev main_call2_v0 : Ref sig .tc := ⟨.hbm, 128, rfl⟩
abbrev main_v89 : Ref sig .tc := ⟨.hbm, 129, rfl⟩
abbrev main_v90 : Ref sig .tc := ⟨.hbm, 130, rfl⟩
abbrev main_c_28 : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]
-- ==== Kernel7.lean ====
abbrev S2x2064x1024 : Shape := ⟨3, ![2, 2064, 1024]⟩
abbrev S2x2064x512 : Shape := ⟨3, ![2, 2064, 512]⟩
abbrev S1024x1024 : Shape := ⟨2, ![1024, 1024]⟩
abbrev S1024 : Shape := ⟨1, ![1024]⟩
abbrev S_ : Shape := ⟨0, ![]⟩
abbrev S2x2112x1024 : Shape := ⟨3, ![2, 2112, 1024]⟩
abbrev S4224x1024 : Shape := ⟨2, ![4224, 1024]⟩
abbrev S2x2112x512 : Shape := ⟨3, ![2, 2112, 512]⟩
abbrev S4224x512 : Shape := ⟨2, ![4224, 512]⟩
abbrev S1x1024 : Shape := ⟨2, ![1, 1024]⟩
abbrev S704x1024 : Shape := ⟨2, ![704, 1024]⟩
abbrev S704x512 : Shape := ⟨2, ![704, 512]⟩
abbrev S176x512 : Shape := ⟨2, ![176, 512]⟩
abbrev S512x1024 : Shape := ⟨2, ![512, 1024]⟩
abbrev S176x1024 : Shape := ⟨2, ![176, 1024]⟩
abbrev S176 : Shape := ⟨1, ![176]⟩
abbrev S176x1 : Shape := ⟨2, ![176, 1]⟩

abbrev nBuf : Space → Nat
  | .hbm => 26
  | .vmem => 15
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S2x2112x1024, .f32⟩
  | .hbm, ⟨9, _⟩ => ⟨S4224x1024, .f32⟩
  | .hbm, ⟨10, _⟩ => ⟨S_, .i32⟩
  | .hbm, ⟨11, _⟩ => ⟨S_, .f32⟩
  | .hbm, ⟨12, _⟩ => ⟨S2x2112x512, .f32⟩
  | .hbm, ⟨13, _⟩ => ⟨S4224x512, .f32⟩
  | .hbm, ⟨14, _⟩ => ⟨S4224x512, .bf16⟩
  | .hbm, ⟨15, _⟩ => ⟨S_, .i32⟩
  | .hbm, ⟨16, _⟩ => ⟨S_, .f32⟩
  | .hbm, ⟨17, _⟩ => ⟨S2x2112x512, .f32⟩
  | .hbm, ⟨18, _⟩ => ⟨S4224x512, .f32⟩
  | .hbm, ⟨19, _⟩ => ⟨S4224x512, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x1024, .bf16⟩
  | .local _ .vmem, ⟨0, _⟩ => ⟨S704x1024, .f32⟩
  | .local _ .vmem, ⟨1, _⟩ => ⟨S704x1024, .f32⟩
  | .local _ .vmem, ⟨2, _⟩ => ⟨S704x512, .bf16⟩
  | .local _ .vmem, ⟨3, _⟩ => ⟨S704x512, .bf16⟩
  | .local _ .vmem, ⟨4, _⟩ => ⟨S704x512, .bf16⟩
  | .local _ .vmem, ⟨5, _⟩ => ⟨S704x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .bf16⟩
  | .local _ .vmem, ⟨14, _⟩ => ⟨S704x1024, .bf16⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S2x2064x1024 : Shape := ⟨3, ![2, 2064, 1024]⟩
abbrev S2x2064x512 : Shape := ⟨3, ![2, 2064, 512]⟩
abbrev S1024x1024 : Shape := ⟨2, ![1024, 1024]⟩
abbrev S1024 : Shape := ⟨1, ![1024]⟩
abbrev S_ : Shape := ⟨0, ![]⟩
abbrev S2x2112x1024 : Shape := ⟨3, ![2, 2112, 1024]⟩
abbrev S4224x1024 : Shape := ⟨2, ![4224, 1024]⟩
abbrev S4224 : Shape := ⟨1, ![4224]⟩
abbrev S4224x1 : Shape := ⟨2, ![4224, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x2064x1024, .f32⟩
  | .hbm, ⟨7, _⟩ => ⟨S2x2064x1024, .f32⟩
  | .hbm, ⟨8, _⟩ => ⟨S_, .f32⟩
  | .hbm, ⟨9, _⟩ => ⟨S2x2064x1024, .f32⟩
  | .hbm, ⟨10, _⟩ => ⟨S2x2064x1024, .f32⟩
  | .hbm, ⟨11, _⟩ => ⟨S2x2064x1024, .f32⟩
  | .hbm, ⟨12, _⟩ => ⟨S_, .i32⟩
  | .hbm, ⟨13, _⟩ => ⟨S_, .f32⟩
  | .hbm, ⟨14, _⟩ => ⟨S2x2112x1024, .f32⟩
  | .hbm, ⟨15, _⟩ => ⟨S4224x1024, .f32⟩
  | .hbm, ⟨16, _⟩ => ⟨S_, .f32⟩
  | .hbm, ⟨17, _⟩ => ⟨S4224, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224, .f32⟩
  | .hbm, ⟨27, _⟩ => ⟨S4224x1, .f32⟩
  | .hbm, ⟨28, _⟩ => ⟨S_, .f32⟩
  | .hbm, ⟨29, _⟩ => ⟨S4224x1, .f32⟩
  | .hbm, ⟨30, _⟩ => ⟨S4224x1, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S4224x1, .f32⟩
  | .hbm, ⟨35, _⟩ => ⟨S4224x1, .f32⟩
  | .hbm, ⟨36, _⟩ => ⟨S4224x1, .f32⟩
  | .hbm, ⟨37, _⟩ => ⟨S4224x1024, .f32⟩
  | .hbm, ⟨38, _⟩ => ⟨S4224x1024, .f32⟩
  | .hbm, ⟨39, _⟩ => ⟨S1x1024, .f32⟩
  | .hbm, ⟨40, _⟩ => ⟨S4224x1024, .f32⟩
  | .hbm, ⟨41, _⟩ => ⟨S4224x1024, .f32⟩
  | .hbm, ⟨42, _⟩ => ⟨S1x1024, .f32⟩
  | .hbm, ⟨43, _⟩ => ⟨S4224x1024, .f32⟩
  | .hbm, ⟨44, _⟩ => ⟨S4224x1024, .f32⟩
  | .hbm, ⟨45, _⟩ => ⟨S4224x1024, .bf16⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel8.lean ====
abbrev S2x2064x512 : Shape := ⟨3, ![2, 2064, 512]⟩
abbrev S2x2064x1552 : Shape := ⟨3, ![2, 2064, 1552]⟩
abbrev S31x512 : Shape := ⟨2, ![31, 512]⟩
abbrev S512 : Shape := ⟨1, ![512]⟩
abbrev S2x2064x2576 : Shape := ⟨3, ![2, 2064, 2576]⟩
abbrev S_ : Shape := ⟨0, ![]⟩
abbrev S2x2112x2688 : Shape := ⟨3, ![2, 2112, 2688]⟩
abbrev S4224x2688 : Shape := ⟨2, ![4224, 2688]⟩
abbrev S32x512 : Shape := ⟨2, ![32, 512]⟩
abbrev S1x512 : Shape := ⟨2, ![1, 512]⟩
abbrev S4224x512 : Shape := ⟨2, ![4224, 512]⟩
abbrev S704x512 : Shape := ⟨2, ![704, 512]⟩
abbrev S736x512 : Shape := ⟨2, ![736, 512]⟩
abbrev S96x512 : Shape := ⟨2, ![96, 512]⟩
abbrev S64x512 : Shape := ⟨2, ![64, 512]⟩
abbrev S64 : Shape := ⟨1, ![64]⟩
abbrev S64x1 : Shape := ⟨2, ![64, 1]⟩

abbrev nBuf : Space → Nat
  | .hbm => 20
  | .vmem => 17
  | .smem => 0
  | _ => 0

abbrev bufTy : (tb : Table) → Fin (tcTables nBuf tb) → BufTy
  | .hbm, ⟨0, _⟩ => ⟨S2x2064x512, .f32⟩
  | .hbm, ⟨1, _⟩ => ⟨S2x2064x512, .f32⟩
  | .hbm, ⟨2, _⟩ => ⟨S2x2064x1552, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S2x2064x2576, .f32⟩
  | .hbm, ⟨8, _⟩ => ⟨S_, .i32⟩
  | .hbm, ⟨9, _⟩ => ⟨S_, .f32⟩
  | .hbm, ⟨10, _⟩ => ⟨S2x2112x2688, .f32⟩
  | .hbm, ⟨11, _⟩ => ⟨S4224x2688, .f32⟩
  | .hbm, ⟨12, _⟩ => ⟨S_, .i32⟩
  | .hbm, ⟨13, _⟩ => ⟨S_, .f32⟩
  | .hbm, ⟨14, _⟩ => ⟨S32x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S4224x512, .f32⟩
  | .hbm, ⟨19, _⟩ => ⟨S4224x512, .bf16⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S704x512, .f32⟩
  | .local _ .vmem, ⟨13, _⟩ => ⟨S704x512, .f32⟩
  | .local _ .vmem, ⟨14, _⟩ => ⟨S704x512, .bf16⟩
  | .local _ .vmem, ⟨15, _⟩ => ⟨S704x512, .bf16⟩
  | .local _ .vmem, ⟨16, _⟩ => ⟨S736x512, .f32⟩
  | _, _ => ⟨S2x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_16 : BitVec 32 := 0#32
  let c11_i32 : BitVec 32 := 11#32
  let v35 : BitVec 32 := Scalar.addi c0_i32_16 c11_i32
  let c1_i32 : BitVec 32 := 1#32
  ⟨c0_i32_16, v35, c1_i32⟩
def k0_mult1 (k0_t1 : Fin k0_t1_loop.trips) : BitVec 32 :=
  let c0_i32_16 : BitVec 32 := 0#32
  let c1_i32 : BitVec 32 := 1#32
  let arg12 : BitVec 32 := Scf.iv c0_i32_16 c1_i32 k0_t1
  let c64_i32 : BitVec 32 := 64#32
  let v36 : BitVec 32 := Scalar.muli arg12 c64_i32
  v36
def k0_off1 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c64_i32 : BitVec 32 := 64#32
  let v36 : BitVec 32 := Scalar.muli arg12 c64_i32
  let v37 : BitVec 32 := v36
  let v38 : Index := Scalar.indexCast v37
  let c0_18 : Index := 0#32
  ![v38.toNat, 0]
def k0_off2 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c64_i32 : BitVec 32 := 64#32
  let v36 : BitVec 32 := Scalar.muli arg12 c64_i32
  let v37 : BitVec 32 := v36
  let v236 : Index := Scalar.indexCast v37
  let c0_53 : Index := 0#32
  ![v236.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c22_i32 : BitVec 32 := 22#32
  let v0 : BitVec 32 := Scalar.muli arg0 c22_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c22_i32 : BitVec 32 := 22#32
  let v0 : BitVec 32 := Scalar.muli arg0 c22_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S704x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S2x2064x512 : Shape := ⟨3, ![2, 2064, 512]⟩
abbrev S2x2064x1552 : Shape := ⟨3, ![2, 2064, 1552]⟩
abbrev S31x512 : Shape := ⟨2, ![31, 512]⟩
abbrev S512 : Shape := ⟨1, ![512]⟩
abbrev S_ : Shape := ⟨0, ![]⟩
abbrev S2x2112x512 : Shape := ⟨3, ![2, 2112, 512]⟩
abbrev S2x2142x512 : Shape := ⟨3, ![2, 2142, 512]⟩
abbrev S2112 : Shape := ⟨1, ![2112]⟩
abbrev S2112x1 : Shape := ⟨2, ![2112, 1]⟩
abbrev S31 : Shape := ⟨1, ![31]⟩
abbrev S1x31 : Shape := ⟨2, ![1, 31]⟩
abbrev S2112x31 : Shape := ⟨2, ![2112, 31]⟩
abbrev S2112x31x1 : Shape := ⟨3, ![2112, 31, 1]⟩
abbrev S2x2112x31x512 : Shape := ⟨4, ![2, 2112, 31, 512]⟩
abbrev S512x2x2112 : Shape := ⟨3, ![512, 2, 2112]⟩
abbrev S1x1x512 : Shape := ⟨3, ![1, 1, 512]⟩
abbrev S4224x512 : Shape := ⟨2, ![4224, 512]⟩
abbrev S4224 : Shape := ⟨1, ![4224]⟩
abbrev S4224x1 : Shape := ⟨2, ![4224, 1]⟩
abbrev S1x512 : Shape := ⟨2, ![1, 512]⟩

abbrev nBuf : Space → Nat
  | .hbm => 86
  | .vmem => 0
  | .smem => 0
  | _ => 0

abbrev bufTy : (tb : Table) → Fin (tcTables nBuf tb) → BufTy
  | .hbm, ⟨0, _⟩ => ⟨S2x2064x512, .f32⟩
  | .hbm, ⟨1, _⟩ => ⟨S2x2064x512, .f32⟩
  | .hbm, ⟨2, _⟩ => ⟨S2x2064x1552, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S2x2112x512, .f32⟩
  | .hbm, ⟨10, _⟩ => ⟨S_, .i32⟩
  | .hbm, ⟨11, _⟩ => ⟨S_, .f32⟩
  | .hbm, ⟨12, _⟩ => ⟨S2x2112x512, .f32⟩
  | .hbm, ⟨13, _⟩ => ⟨S2x2112x512, .f32⟩
  | .hbm, ⟨14, _⟩ => ⟨S2x2112x512, .f32⟩
  | .hbm, ⟨15, _⟩ => ⟨S_, .f32⟩
  | .hbm, ⟨16, _⟩ => ⟨S2x2112x512, .f32⟩
  | .hbm, ⟨17, _⟩ => ⟨S2x2112x512, .f32⟩
  | .hbm, ⟨18, _⟩ => ⟨S_, .f32⟩
  | .hbm, ⟨19, _⟩ => ⟨S2x2112x512, .f32⟩
  | .hbm, ⟨20, _⟩ => ⟨S2x2112x512, .f32⟩
  | .hbm, ⟨21, _⟩ => ⟨S2x2112x512, .f32⟩
  | .hbm, ⟨22, _⟩ => ⟨S_, .i32⟩
  | .hbm, ⟨23, _⟩ => ⟨S_, .f32⟩
  | .hbm, ⟨24, _⟩ => ⟨S2x2142x512, .f32⟩
  | .hbm, ⟨25, _⟩ => ⟨S2112, .i32⟩
  | .hbm, ⟨26, _⟩ => ⟨S2112x1, .i32⟩
  | .hbm, ⟨27, _⟩ => ⟨S31, .i32⟩
  | .hbm, ⟨28, _⟩ => ⟨S1x31, .i32⟩
  | .hbm, ⟨29, _⟩ => ⟨S2112x31, .i32⟩
  | .hbm, ⟨30, _⟩ => ⟨S2112x31, .i32⟩
  | .hbm, ⟨31, _⟩ => ⟨S2112x31, .i32⟩
  | .hbm, ⟨32, _⟩ => ⟨S_, .i32⟩
  | .hbm, ⟨33, _⟩ => ⟨S2112x31, .i32⟩
  | .hbm, ⟨34, _⟩ => ⟨S2112x31, .i1⟩
  | .hbm, ⟨35, _⟩ => ⟨S_, .i32⟩
  | .hbm, ⟨36, _⟩ => ⟨S2112x31, .i32⟩
  | .hbm, ⟨37, _⟩ => ⟨S2112x31, .i32⟩
  | .hbm, ⟨38, _⟩ => ⟨S2112x31, .i32⟩
  | .hbm, ⟨39, _⟩ => ⟨S2112x31x1, .i32⟩
  | .hbm, ⟨40, _⟩ => ⟨S2x2112x31x512, .f32⟩
  | .hbm, ⟨41, _⟩ => ⟨S512x2x2112, .f32⟩
  | .hbm, ⟨42, _⟩ => ⟨S2x2112x512, .f32⟩
  | .hbm, ⟨43, _⟩ => ⟨S1x1x512, .f32⟩
  | .hbm, ⟨44, _⟩ => ⟨S2x2112x512, .f32⟩
  | .hbm, ⟨45, _⟩ => ⟨S2x2112x512, .f32⟩
  | .hbm, ⟨46, _⟩ => ⟨S4224x512, .f32⟩
  | .hbm, ⟨47, _⟩ => ⟨S_, .f32⟩
  | .hbm, ⟨48, _⟩ => ⟨S4224, .f32⟩
  | .hbm, ⟨49, _⟩ => ⟨S4224x1, .f32⟩
  | .hbm, ⟨50, _⟩ => ⟨S_, .f32⟩
  | .hbm, ⟨51, _⟩ => ⟨S4224x1, .f32⟩
  | .hbm, ⟨52, _⟩ => ⟨S4224x1, .f32⟩
  | .hbm, ⟨53, _⟩ => ⟨S4224x512, .f32⟩
  | .hbm, ⟨54, _⟩ => ⟨S4224x512, .f32⟩
  | .hbm, ⟨55, _⟩ => ⟨S4224x512, .f32⟩
  | .hbm, ⟨56, _⟩ => ⟨S_, .f32⟩
  | .hbm, ⟨57, _⟩ => ⟨S4224, .f32⟩
  | .hbm, ⟨58, _⟩ => ⟨S4224x1, .f32⟩
  | .hbm, ⟨59, _⟩ => ⟨S_, .f32⟩
  | .hbm, ⟨60, _⟩ => ⟨S4224x1, .f32⟩
  | .hbm, ⟨61, _⟩ => ⟨S4224x1, .f32⟩
  | .hbm, ⟨62, _⟩ => ⟨S4224x512, .f32⟩
  | .hbm, ⟨63, _⟩ => ⟨S4224x512, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S4224x1, .f32⟩
  | .hbm, ⟨68, _⟩ => ⟨S4224x512, .f32⟩
  | .hbm, ⟨69, _⟩ => ⟨S4224x512, .f32⟩
  | .hbm, ⟨70, _⟩ => ⟨S1x512, .f32⟩
  | .hbm, ⟨71, _⟩ => ⟨S4224x512, .f32⟩
  | .hbm, ⟨72, _⟩ => ⟨S4224x512, .f32⟩
  | .hbm, ⟨73, _⟩ => ⟨S1x512, .f32⟩
  | .hbm, ⟨74, _⟩ => ⟨S4224x512, .f32⟩
  | .hbm, ⟨75, _⟩ => ⟨S4224x512, .f32⟩
  | .hbm, ⟨76, _⟩ => ⟨S4224x512, .f32⟩
  | .hbm, ⟨77, _⟩ => ⟨S4224x512, .f32⟩
  | .hbm, ⟨78, _⟩ => ⟨S_, .f32⟩
  | .hbm, ⟨79, _⟩ => ⟨S4224x512, .f32⟩
  | .hbm, ⟨80, _⟩ => ⟨S4224x512, .f32⟩
  | .hbm, ⟨81, _⟩ => ⟨S_, .f32⟩
  | .hbm, ⟨82, _⟩ => ⟨S4224x512, .f32⟩
  | .hbm, ⟨83, _⟩ => ⟨S4224x512, .f32⟩
  | .hbm, ⟨84, _⟩ => ⟨S4224x512, .f32⟩
  | .hbm, ⟨85, _⟩ => ⟨S4224x512, .bf16⟩
  | _, _ => ⟨S2x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Kernel9.lean ====
abbrev S16x1024 : Shape := ⟨2, ![16, 1024]⟩
abbrev S1024 : Shape := ⟨1, ![1024]⟩
abbrev S2x2048x1024 : Shape := ⟨3, ![2, 2048, 1024]⟩
abbrev S_ : Shape := ⟨0, ![]⟩
abbrev S64x1024 : Shape := ⟨2, ![64, 1024]⟩
abbrev S2x2112x1024 : Shape := ⟨3, ![2, 2112, 1024]⟩
abbrev S4224x1024 : Shape := ⟨2, ![4224, 1024]⟩
abbrev S1x1024 : Shape := ⟨2, ![1, 1024]⟩
abbrev S64 : Shape := ⟨1, ![64]⟩
abbrev S64x1 : Shape := ⟨2, ![64, 1]⟩

abbrev nBuf : Space → Nat
  | .hbm => 16
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024, .f32⟩
  | .hbm, ⟨3, _⟩ => ⟨S2x2048x1024, .f32⟩
  | .hbm, ⟨4, _⟩ => ⟨S_, .i32⟩
  | .hbm, ⟨5, _⟩ => ⟨S_, .f32⟩
  | .hbm, ⟨6, _⟩ => ⟨S64x1024, .f32⟩
  | .hbm, ⟨7, _⟩ => ⟨S_, .i32⟩
  | .hbm, ⟨8, _⟩ => ⟨S_, .f32⟩
  | .hbm, ⟨9, _⟩ => ⟨S2x2112x1024, .f32⟩
  | .hbm, ⟨10, _⟩ => ⟨S4224x1024, .f32⟩
  | .hbm, ⟨11, _⟩ => ⟨S1x1024, .f32⟩
  | .hbm, ⟨12, _⟩ => ⟨S1x1024, .f32⟩
  | .hbm, ⟨13, _⟩ => ⟨S4224x1024, .bf16⟩
  | .hbm, ⟨14, _⟩ => ⟨S4224x1024, .f32⟩
  | .hbm, ⟨15, _⟩ => ⟨S4224x1024, .bf16⟩
  | .local _ .vmem, ⟨0, _⟩ => ⟨S64x1024, .f32⟩
  | .local _ .vmem, ⟨1, _⟩ => ⟨S1x1024, .f32⟩
  | .local _ .vmem, ⟨2, _⟩ => ⟨S1x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .bf16⟩
  | .local _ .vmem, ⟨6, _⟩ => ⟨S64x1024, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16x1024 : Shape := ⟨2, ![16, 1024]⟩
abbrev S1024 : Shape := ⟨1, ![1024]⟩
abbrev S2x2048x1024 : Shape := ⟨3, ![2, 2048, 1024]⟩
abbrev S_ : Shape := ⟨0, ![]⟩
abbrev S16 : Shape := ⟨1, ![16]⟩
abbrev S16x1 : Shape := ⟨2, ![16, 1]⟩
abbrev S1x1024 : Shape := ⟨2, ![1, 1024]⟩
abbrev S1x16x1024 : Shape := ⟨3, ![1, 16, 1024]⟩
abbrev S2x16x1024 : Shape := ⟨3, ![2, 16, 1024]⟩
abbrev S2x2064x1024 : Shape := ⟨3, ![2, 2064, 1024]⟩
abbrev S2x2112x1024 : Shape := ⟨3, ![2, 2112, 1024]⟩
abbrev S4224x1024 : Shape := ⟨2, ![4224, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S_, .f32⟩
  | .hbm, ⟨8, _⟩ => ⟨S16x1, .f32⟩
  | .hbm, ⟨9, _⟩ => ⟨S16x1, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16, .f32⟩
  | .hbm, ⟨15, _⟩ => ⟨S16x1, .f32⟩
  | .hbm, ⟨16, _⟩ => ⟨S_, .f32⟩
  | .hbm, ⟨17, _⟩ => ⟨S16x1, .f32⟩
  | .hbm, ⟨18, _⟩ => ⟨S16x1, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S16x1024, .f32⟩
  | .hbm, ⟨26, _⟩ => ⟨S16x1024, .f32⟩
  | .hbm, ⟨27, _⟩ => ⟨S1x1024, .f32⟩
  | .hbm, ⟨28, _⟩ => ⟨S16x1024, .f32⟩
  | .hbm, ⟨29, _⟩ => ⟨S16x1024, .f32⟩
  | .hbm, ⟨30, _⟩ => ⟨S1x1024, .f32⟩
  | .hbm, ⟨31, _⟩ => ⟨S16x1024, .f32⟩
  | .hbm, ⟨32, _⟩ => ⟨S16x1024, .f32⟩
  | .hbm, ⟨33, _⟩ => ⟨S1x16x1024, .f32⟩
  | .hbm, ⟨34, _⟩ => ⟨S2x16x1024, .f32⟩
  | .hbm, ⟨35, _⟩ => ⟨S2x2064x1024, .f32⟩
  | .hbm, ⟨36, _⟩ => ⟨S_, .i32⟩
  | .hbm, ⟨37, _⟩ => ⟨S_, .f32⟩
  | .hbm, ⟨38, _⟩ => ⟨S2x2112x1024, .f32⟩
  | .hbm, ⟨39, _⟩ => ⟨S4224x1024, .f32⟩
  | .hbm, ⟨40, _⟩ => ⟨S4224x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel10.lean ====
abbrev S2x2064x1024 : Shape := ⟨3, ![2, 2064, 1024]⟩
abbrev S2x2064x512 : Shape := ⟨3, ![2, 2064, 512]⟩
abbrev S1024x1024 : Shape := ⟨2, ![1024, 1024]⟩
abbrev S_ : Shape := ⟨0, ![]⟩
abbrev S8x128 : Shape := ⟨2, ![8, 128]⟩
abbrev S2x2112x1024 : Shape := ⟨3, ![2, 2112, 1024]⟩
abbrev S4224x1024 : Shape := ⟨2, ![4224, 1024]⟩
abbrev S2x2112x512 : Shape := ⟨3, ![2, 2112, 512]⟩
abbrev S4224x512 : Shape := ⟨2, ![4224, 512]⟩
abbrev S704x1024 : Shape := ⟨2, ![704, 1024]⟩
abbrev S704x512 : Shape := ⟨2, ![704, 512]⟩
abbrev S512x1024 : Shape := ⟨2, ![512, 1024]⟩

abbrev nBuf : Space → Nat
  | .hbm => 23
  | .vmem => 11
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S1024x1024, .f32⟩
  | .hbm, ⟨4, _⟩ => ⟨S_, .f32⟩
  | .hbm, ⟨5, _⟩ => ⟨S8x128, .f32⟩
  | .hbm, ⟨6, _⟩ => ⟨S_, .i32⟩
  | .hbm, ⟨7, _⟩ => ⟨S_, .f32⟩
  | .hbm, ⟨8, _⟩ => ⟨S2x2112x1024, .f32⟩
  | .hbm, ⟨9, _⟩ => ⟨S4224x1024, .f32⟩
  | .hbm, ⟨10, _⟩ => ⟨S_, .i32⟩
  | .hbm, ⟨11, _⟩ => ⟨S_, .f32⟩
  | .hbm, ⟨12, _⟩ => ⟨S2x2112x512, .f32⟩
  | .hbm, ⟨13, _⟩ => ⟨S4224x512, .f32⟩
  | .hbm, ⟨14, _⟩ => ⟨S4224x512, .bf16⟩
  | .hbm, ⟨15, _⟩ => ⟨S_, .i32⟩
  | .hbm, ⟨16, _⟩ => ⟨S_, .f32⟩
  | .hbm, ⟨17, _⟩ => ⟨S2x2112x512, .f32⟩
  | .hbm, ⟨18, _⟩ => ⟨S4224x512, .f32⟩
  | .hbm, ⟨19, _⟩ => ⟨S4224x512, .bf16⟩
  | .hbm, ⟨20, _⟩ => ⟨S1024x1024, .bf16⟩
  | .hbm, ⟨21, _⟩ => ⟨S4224x1024, .f32⟩
  | .hbm, ⟨22, _⟩ => ⟨S1024x1024, .bf16⟩
  | .local _ .vmem, ⟨0, _⟩ => ⟨S704x1024, .f32⟩
  | .local _ .vmem, ⟨1, _⟩ => ⟨S704x1024, .f32⟩
  | .local _ .vmem, ⟨2, _⟩ => ⟨S704x512, .bf16⟩
  | .local _ .vmem, ⟨3, _⟩ => ⟨S704x512, .bf16⟩
  | .local _ .vmem, ⟨4, _⟩ => ⟨S704x512, .bf16⟩
  | .local _ .vmem, ⟨5, _⟩ => ⟨S704x512, .bf16⟩
  | .local _ .vmem, ⟨6, _⟩ => ⟨S1024x1024, .bf16⟩
  | .local _ .vmem, ⟨7, _⟩ => ⟨S704x1024, .f32⟩
  | .local _ .vmem, ⟨8, _⟩ => ⟨S704x1024, .f32⟩
  | .local _ .vmem, ⟨9, _⟩ => ⟨S1024x1024, .bf16⟩
  | .local _ .vmem, ⟨10, _⟩ => ⟨S1024x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v26 : BitVec 1 := Scalar.cmpi .eq arg0 c5_i32
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S2x2064x1024 : Shape := ⟨3, ![2, 2064, 1024]⟩
abbrev S2x2064x512 : Shape := ⟨3, ![2, 2064, 512]⟩
abbrev S1024x1024 : Shape := ⟨2, ![1024, 1024]⟩
abbrev S_ : Shape := ⟨0, ![]⟩
abbrev S2x2112x1024 : Shape := ⟨3, ![2, 2112, 1024]⟩
abbrev S4224x1024 : Shape := ⟨2, ![4224, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S1024x1024, .f32⟩
  | .hbm, ⟨4, _⟩ => ⟨S2x2064x1024, .f32⟩
  | .hbm, ⟨5, _⟩ => ⟨S2x2064x1024, .f32⟩
  | .hbm, ⟨6, _⟩ => ⟨S1024x1024, .f32⟩
  | .hbm, ⟨7, _⟩ => ⟨S1024x1024, .f32⟩
  | .hbm, ⟨8, _⟩ => ⟨S2x2064x1024, .f32⟩
  | .hbm, ⟨9, _⟩ => ⟨S2x2064x512, .f32⟩
  | .hbm, ⟨10, _⟩ => ⟨S2x2064x512, .f32⟩
  | .hbm, ⟨11, _⟩ => ⟨S2x2064x1024, .f32⟩
  | .hbm, ⟨12, _⟩ => ⟨S_, .i32⟩
  | .hbm, ⟨13, _⟩ => ⟨S_, .f32⟩
  | .hbm, ⟨14, _⟩ => ⟨S2x2112x1024, .f32⟩
  | .hbm, ⟨15, _⟩ => ⟨S4224x1024, .f32⟩
  | .hbm, ⟨16, _⟩ => ⟨S1024x1024, .bf16⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel11.lean ====
abbrev S2x2064x1024 : Shape := ⟨3, ![2, 2064, 1024]⟩
abbrev S2x2064x2576 : Shape := ⟨3, ![2, 2064, 2576]⟩
abbrev S_ : Shape := ⟨0, ![]⟩
abbrev S2x2112x2688 : Shape := ⟨3, ![2, 2112, 2688]⟩
abbrev S4224x2688 : Shape := ⟨2, ![4224, 2688]⟩
abbrev S4224x1024 : Shape := ⟨2, ![4224, 1024]⟩
abbrev S4224x512 : Shape := ⟨2, ![4224, 512]⟩
abbrev S4224x128 : Shape := ⟨2, ![4224, 128]⟩
abbrev S2x2112x1024 : Shape := ⟨3, ![2, 2112, 1024]⟩
abbrev S2688x1024 : Shape := ⟨2, ![2688, 1024]⟩
abbrev S704x1024 : Shape := ⟨2, ![704, 1024]⟩
abbrev S704x512 : Shape := ⟨2, ![704, 512]⟩
abbrev S704x128 : Shape := ⟨2, ![704, 128]⟩
abbrev S1024x1024 : Shape := ⟨2, ![1024, 1024]⟩
abbrev S512x1024 : Shape := ⟨2, ![512, 1024]⟩
abbrev S128x1024 : Shape := ⟨2, ![128, 1024]⟩

abbrev nBuf : Space → Nat
  | .hbm => 17
  | .vmem => 13
  | .smem => 0
  | _ => 0

abbrev bufTy : (tb : Table) → Fin (tcTables nBuf tb) → BufTy
  | .hbm, ⟨0, _⟩ => ⟨S2x2064x1024, .f32⟩
  | .hbm, ⟨1, _⟩ => ⟨S2x2064x2576, .f32⟩
  | .hbm, ⟨2, _⟩ => ⟨S_, .i32⟩
  | .hbm, ⟨3, _⟩ => ⟨S_, .f32⟩
  | .hbm, ⟨4, _⟩ => ⟨S2x2112x2688, .f32⟩
  | .hbm, ⟨5, _⟩ => ⟨S4224x2688, .f32⟩
  | .hbm, ⟨6, _⟩ => ⟨S4224x1024, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S4224x128, .f32⟩
  | .hbm, ⟨11, _⟩ => ⟨S_, .i32⟩
  | .hbm, ⟨12, _⟩ => ⟨S_, .f32⟩
  | .hbm, ⟨13, _⟩ => ⟨S2x2112x1024, .f32⟩
  | .hbm, ⟨14, _⟩ => ⟨S4224x1024, .f32⟩
  | .hbm, ⟨15, _⟩ => ⟨S4224x1024, .bf16⟩
  | .hbm, ⟨16, _⟩ => ⟨S2688x1024, .f32⟩
  | .local _ .vmem, ⟨0, _⟩ => ⟨S704x1024, .bf16⟩
  | .local _ .vmem, ⟨1, _⟩ => ⟨S704x1024, .bf16⟩
  | .local _ .vmem, ⟨2, _⟩ => ⟨S704x1024, .f32⟩
  | .local _ .vmem, ⟨3, _⟩ => ⟨S704x1024, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x128, .f32⟩
  | .local _ .vmem, ⟨11, _⟩ => ⟨S704x128, .f32⟩
  | .local _ .vmem, ⟨12, _⟩ => ⟨S2688x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2688x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S2x2064x1024 : Shape := ⟨3, ![2, 2064, 1024]⟩
abbrev S2x2064x2576 : Shape := ⟨3, ![2, 2064, 2576]⟩
abbrev S_ : Shape := ⟨0, ![]⟩
abbrev S1024x2576 : Shape := ⟨2, ![1024, 2576]⟩
abbrev S2576x1024 : Shape := ⟨2, ![2576, 1024]⟩
abbrev S2688x1024 : Shape := ⟨2, ![2688, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S2x2064x2576, .f32⟩
  | .hbm, ⟨2, _⟩ => ⟨S_, .f32⟩
  | .hbm, ⟨3, _⟩ => ⟨S1024x2576, .f32⟩
  | .hbm, ⟨4, _⟩ => ⟨S2x2064x2576, .f32⟩
  | .hbm, ⟨5, _⟩ => ⟨S2576x1024, .f32⟩
  | .hbm, ⟨6, _⟩ => ⟨S1024x2576, .f32⟩
  | .hbm, ⟨7, _⟩ => ⟨S2576x1024, .f32⟩
  | .hbm, ⟨8, _⟩ => ⟨S_, .i32⟩
  | .hbm, ⟨9, _⟩ => ⟨S_, .f32⟩
  | .hbm, ⟨10, _⟩ => ⟨S2688x1024, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel12.lean ====
abbrev S2x2064x1024 : Shape := ⟨3, ![2, 2064, 1024]⟩
abbrev S1024x2576 : Shape := ⟨2, ![1024, 2576]⟩
abbrev S2576x1024 : Shape := ⟨2, ![2576, 1024]⟩
abbrev S_ : Shape := ⟨0, ![]⟩
abbrev S2688x1024 : Shape := ⟨2, ![2688, 1024]⟩
abbrev S2x2112x1024 : Shape := ⟨3, ![2, 2112, 1024]⟩
abbrev S4224x1024 : Shape := ⟨2, ![4224, 1024]⟩
abbrev S4224x2688 : Shape := ⟨2, ![4224, 2688]⟩
abbrev S704x1024 : Shape := ⟨2, ![704, 1024]⟩
abbrev S704x2688 : Shape := ⟨2, ![704, 2688]⟩

abbrev nBuf : Space → Nat
  | .hbm => 13
  | .vmem => 5
  | .smem => 0
  | _ => 0

abbrev bufTy : (tb : Table) → Fin (tcTables nBuf tb) → BufTy
  | .hbm, ⟨0, _⟩ => ⟨S2x2064x1024, .f32⟩
  | .hbm, ⟨1, _⟩ => ⟨S1024x2576, .f32⟩
  | .hbm, ⟨2, _⟩ => ⟨S2576x1024, .f32⟩
  | .hbm, ⟨3, _⟩ => ⟨S_, .i32⟩
  | .hbm, ⟨4, _⟩ => ⟨S_, .f32⟩
  | .hbm, ⟨5, _⟩ => ⟨S2688x1024, .f32⟩
  | .hbm, ⟨6, _⟩ => ⟨S2688x1024, .bf16⟩
  | .hbm, ⟨7, _⟩ => ⟨S_, .i32⟩
  | .hbm, ⟨8, _⟩ => ⟨S_, .f32⟩
  | .hbm, ⟨9, _⟩ => ⟨S2x2112x1024, .f32⟩
  | .hbm, ⟨10, _⟩ => ⟨S4224x1024, .f32⟩
  | .hbm, ⟨11, _⟩ => ⟨S4224x1024, .bf16⟩
  | .hbm, ⟨12, _⟩ => ⟨S4224x2688, .f32⟩
  | .local _ .vmem, ⟨0, _⟩ => ⟨S704x1024, .bf16⟩
  | .local _ .vmem, ⟨1, _⟩ => ⟨S704x1024, .bf16⟩
  | .local _ .vmem, ⟨2, _⟩ => ⟨S2688x1024, .bf16⟩
  | .local _ .vmem, ⟨3, _⟩ => ⟨S704x2688, .f32⟩
  | .local _ .vmem, ⟨4, _⟩ => ⟨S704x2688, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2x2064x1024 : Shape := ⟨3, ![2, 2064, 1024]⟩
abbrev S1024x2576 : Shape := ⟨2, ![1024, 2576]⟩
abbrev S2x2064x2576 : Shape := ⟨3, ![2, 2064, 2576]⟩
abbrev S_ : Shape := ⟨0, ![]⟩
abbrev S2x2112x2688 : Shape := ⟨3, ![2, 2112, 2688]⟩
abbrev S4224x2688 : Shape := ⟨2, ![4224, 2688]⟩

abbrev nBuf : Space → Nat
  | .hbm => 7
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S1024x2576, .f32⟩
  | .hbm, ⟨2, _⟩ => ⟨S2x2064x2576, .f32⟩
  | .hbm, ⟨3, _⟩ => ⟨S_, .i32⟩
  | .hbm, ⟨4, _⟩ => ⟨S_, .f32⟩
  | .hbm, ⟨5, _⟩ => ⟨S2x2112x2688, .f32⟩
  | .hbm, ⟨6, _⟩ => ⟨S4224x2688, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Reals.lean ====
module
public import Idealize.ShloMosaic.Lib.Pipeline.ValueKit
public import Idealize.ShloMosaic.PureOps.Ideal.Laws
@[expose] public section
/-! # Arithmetic of finite extended reals

The ideal programs compute over the extended reals. On finite arguments every operation that they use gives a real number;
the lemmas here say which one, for the operations and for the literals that occur. -/
noncomputable section
namespace Cert.Real
open Idealize.ShloMosaic Idealize
open scoped BigOperators

/-- The literal `2^(1/4)` as single precision rounds it. -/
def alpha : ℝ := 9975792 / 8388608
/-- The literal `1e-5` as single precision rounds it. -/
def eps : ℝ := 10995116 / 1099511627776

theorem eps_pos : 0 < eps := by unfold eps; norm_num

theorem lit_1024 : Ideal.ofBits .f32 0x44800000#32 = ((1024 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_alpha : Ideal.ofBits .f32 0x3F9837F0#32 = (alpha : EReal) := by
  simp [Ideal.ofBits, Ideal.ieee, -EReal.coe_mul, alpha]; norm_num
theorem lit_eps : Ideal.ofBits .f32 0x3727C5AC#32 = (eps : EReal) := by
  simp [Ideal.ofBits, Ideal.ieee, -EReal.coe_mul, eps]; norm_num

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe (x y : ℝ) (hy : y ≠ 0) : Ideal.div (x : EReal) (y : EReal) = ((x / y : ℝ) : EReal) := by
  have h : ((y : ℝ) : EReal) ≠ 0 := by exact_mod_cast hy
  rw [Ideal.div, if_neg h, div_eq_mul_inv, EReal.coe_mul, EReal.coe_inv]

theorem rsqrt_coe_pos (x : ℝ) (h : 0 < x) : Ideal.rsqrt (x : EReal) = (((Real.sqrt x)⁻¹ : ℝ) : EReal) := by
  simp [not_lt.mpr h.le, h.ne']

/-- A sum of squares divided by their number, plus the literal: positive, so that its root is one too. -/
theorem var_eps_pos {n : ℕ} (f : Fin n → ℝ) (d : ℝ) (hd : 0 ≤ d) : 0 < (∑ i, f i * f i) / d + eps :=
  add_pos_of_nonneg_of_pos (div_nonneg (Finset.sum_nonneg fun i _ => mul_self_nonneg _) hd) eps_pos

/-! ## Layer norm of one row, and its gradient -/

section rows
variable {n : ℕ} (x d : Fin n → ℝ)

/-- The mean of a row. -/
def mean : ℝ := (∑ i, x i) / n
/-- The row less its mean. -/
def cen (i : Fin n) : ℝ := x i - mean x
/-- The row's variance. -/
def var : ℝ := (∑ i, cen x i * cen x i) / n
/-- One over the row's standard deviation, the literal `eps` included. -/
def rs : ℝ := (Real.sqrt (var x + eps))⁻¹
/-- The normalised row. -/
def hat (i : Fin n) : ℝ := cen x i * rs x
/-- The gradient of the row before normalisation from that of the normalised row, in the closed form that takes two means. -/
def lnBwd (k : Fin n) : ℝ := rs x * (d k - mean d - hat x k * mean fun i => d i * hat x i)
/-- The same gradient as differentiation writes it: through the quotient, the variance and the mean, one after another. -/
def lnVjp (k : Fin n) : ℝ :=
  let dvar := (∑ i, cen x i * d i) * (-1 / 2 * (rs x / (var x + eps))) / n
  let sq := fun i => dvar * (2 * cen x i)
  (d k * rs x + sq k) + ((∑ i, -(d i * rs x)) + ∑ i, -sq i) / n

theorem var_eps : 0 < var x + eps := var_eps_pos _ _ (Nat.cast_nonneg _)

theorem sum_cen (h : n ≠ 0) : ∑ i, cen x i = 0 := by
  have hn : (n : ℝ) ≠ 0 := Nat.cast_ne_zero.mpr h
  simp only [cen, mean, Finset.sum_sub_distrib, Finset.sum_const, Finset.card_univ, Fintype.card_fin, nsmul_eq_mul]
  field_simp; ring

/-- Both forms of the gradient are the same number. -/
theorem lnVjp_eq (h : n ≠ 0) (k : Fin n) : lnVjp x d k = lnBwd x d k := by
  have hn : (n : ℝ) ≠ 0 := Nat.cast_ne_zero.mpr h
  have hv := var_eps x
  have hs : rs x / (var x + eps) = rs x * rs x * rs x := by
    have e : rs x * rs x = (var x + eps)⁻¹ := by
      rw [rs, ← mul_inv, Real.mul_self_sqrt hv.le]
    rw [e, div_eq_mul_inv, mul_comm]
  have h1 : ∑ i, d i * hat x i = (∑ i, cen x i * d i) * rs x := by
    rw [Finset.sum_mul]; exact Finset.sum_congr rfl fun i _ => by simp only [hat]; ring
  have h2 : ∀ c : ℝ, ∑ i, -(c * (2 * cen x i)) = 0 := fun c => by
    rw [Finset.sum_neg_distrib, ← Finset.mul_sum, ← Finset.mul_sum, sum_cen x h]; ring
  have h3 : ∑ i, -(d i * rs x) = -((∑ i, d i) * rs x) := by rw [Finset.sum_neg_distrib, Finset.sum_mul]
  simp only [lnVjp, lnBwd, h2, h3, hs]
  rw [show (mean fun i => d i * hat x i) = (∑ i, cen x i * d i) * rs x / n by rw [mean, h1]]
  simp only [hat, mean]
  field_simp
  ring

end rows

/-- A sum taken over five runs of columns, the last one filled up with zeros, is the sum over all the columns. -/
theorem sum_runs (f : ℕ → ℝ) (h : ∀ j, 2576 ≤ j → f j = 0) :
    (∑ j : Fin 1024, f j) + (∑ j : Fin 512, f (1024 + j)) + (∑ j : Fin 512, f (1536 + j)) + (∑ j : Fin 512, f (2048 + j))
      + (∑ j : Fin 128, f (2560 + j)) = ∑ j : Fin 2576, f j := by
  have e (a : ℕ) (b : ℕ) : (∑ j : Fin b, f (a + j)) = ∑ j ∈ Finset.range b, f (a + j) := Fin.sum_univ_eq_sum_range (fun j => f (a + j)) b
  have e0 (b : ℕ) : (∑ j : Fin b, f j) = ∑ j ∈ Finset.range b, f j := Fin.sum_univ_eq_sum_range f b
  rw [e, e, e, e, e0, e0, ← Finset.sum_range_add f 1024 512, ← Finset.sum_range_add f 1536 512, ← Finset.sum_range_add f 2048 512,
    ← Finset.sum_range_add f 2560 128]
  rw [show 2560 + 128 = 2576 + 112 from rfl, Finset.sum_range_add]
  simp [h]

end Cert.Real
-- ==== Proof.Layout.lean ====
module
public import Idealize.ShloMosaic.Lib.Pipeline.ValueKit
public import Idealize.ShloMosaic.Lib.KernelVsHost
public import Idealize.ShloMosaic.PureOps.Ideal.Laws
@[expose] public section
/-! # Reading the host's layout operations at one place -/
noncomputable section
namespace Cert.Layout
open Idealize.ShloMosaic Idealize
open scoped BigOperators
variable {α : Type} {u : Shape}

/-- Rows put in front of the second axis and columns after the third. -/
theorem pad3_at {a b c b' c' l h : ℕ} (x : (⟨3, ![a, b, c]⟩ : Shape).Idx → α) (v : u.Idx → α)
    (hp : (⟨3, ![a, b, c]⟩ : Shape).Pads ![0, l, 0] ![0, 0, h] ![0, 0, 0] ⟨3, ![a, b', c']⟩) (hu : 0 < u.numel) (hb : b' = l + b)
    (i : Fin a) (j : Fin b') (k : Fin c') :
    pad ⟨3, ![a, b', c']⟩ ![0, l, 0] ![0, 0, h] ![0, 0, 0] x v hp hu (ix3 i j k)
      = if H : l ≤ j.val ∧ k.val < c then x (ix3 i (⟨j - l, by omega⟩ : Fin b) (⟨k, H.2⟩ : Fin c)) else v (Shape.Idx.first hu) := by
  split_ifs with H
  · refine pad_apply_of_inside _ _ _ x v hp hu _ _ fun d => ?_
    match d with
    | ⟨0, _⟩ => show i.val = 0 + i.val * (0 + 1); omega
    | ⟨1, _⟩ => show j.val = l + (j.val - l) * (0 + 1); omega
    | ⟨2, _⟩ => show k.val = 0 + k.val * (0 + 1); omega
  · by_cases hj : l ≤ j.val
    · refine pad_apply_of_not_inside _ _ _ x v hp hu _ (2 : Fin 3) fun hin => H ⟨hj, ?_⟩
      have : (k.val - 0) / (0 + 1) < c := hin.2.2
      simpa using this
    · exact pad_apply_of_not_inside _ _ _ x v hp hu _ (1 : Fin 3) fun hin => hj hin.1

/-- Rows put in front of the first axis and after it. -/
theorem pad2_at {a b a' l h : ℕ} (x : (⟨2, ![a, b]⟩ : Shape).Idx → α) (v : u.Idx → α)
    (hp : (⟨2, ![a, b]⟩ : Shape).Pads ![l, 0] ![h, 0] ![0, 0] ⟨2, ![a', b]⟩) (hu : 0 < u.numel)
    (i : Fin a') (j : Fin b) :
    pad ⟨2, ![a', b]⟩ ![l, 0] ![h, 0] ![0, 0] x v hp hu (ix2 i j)
      = if H : l ≤ i.val ∧ i.val - l < a then x (ix2 (⟨i - l, H.2⟩ : Fin a) j) else v (Shape.Idx.first hu) := by
  split_ifs with H
  · refine pad_apply_of_inside _ _ _ x v hp hu _ _ fun d => ?_
    match d with
    | ⟨0, _⟩ => show i.val = l + (i.val - l) * (0 + 1); omega
    | ⟨1, _⟩ => show j.val = 0 + j.val * (0 + 1); omega
  · refine pad_apply_of_not_inside _ _ _ x v hp hu _ (0 : Fin 2) fun hin => H ⟨hin.1, ?_⟩
    have : (i.val - l) / (0 + 1) < a := hin.2.2
    simpa using this

/-- Padded rows of a sequence as rows of one matrix. -/
theorem rows_at {a b c n : ℕ} (x : (⟨3, ![a, b, c]⟩ : Shape).Idx → α) (h : (⟨3, ![a, b, c]⟩ : Shape).ShapeCasts ⟨2, ![n, c]⟩) (hn : n = a * b)
    (i : Fin a) (j : Fin b) (k : Fin c) :
    shapeCast ⟨2, ![n, c]⟩ x h (ix2 (⟨i.val * b + j.val, by rw [hn]; nlinarith [i.isLt, j.isLt]⟩ : Fin n) k) = x (ix3 i j k) := by
  refine shapeCast_apply x h _ (ix3 i j k) ?_
  rw [Shape.rowMajor_val_two, Shape.rowMajor_val_three]
  show (i.val * b + j.val) * c + k.val = (i.val * b + j.val) * c + k.val
  rfl

/-- The host's sum of a block over its first two axes. -/
theorem hostReduceAdd_r3_a01 {a b n : ℕ} (h : (⟨3, ![a, b, n]⟩ : Shape).ReducesTo [0, 1] ⟨1, ![n]⟩) (v : (⟨3, ![a, b, n]⟩ : Shape).Idx → EReal) (init : EReal)
    (k : Fin n) : Ideal.hostReduceAdd h v init (ix1 k) = init + ∑ i : Fin a, ∑ j : Fin b, v (ix3 i j k) := by
  refine congrArg (init + ·) ((Finset.sum_filter_eq_sum_of_fiber _ (fun p : Fin a × Fin b => ix3 p.1 p.2 k)
    (fun _ _ e => Prod.ext (congrFun e 0) (congrFun e 1)) (fun i => ?_) v).trans (by simp only [Fintype.sum_prod_type]))
  constructor
  · intro e
    refine ⟨(i 0, i 1), ?_⟩
    funext d; apply Fin.ext
    match d with
    | ⟨0, _⟩ => rfl
    | ⟨1, _⟩ => rfl
    | ⟨2, _⟩ => exact (congrArg Fin.val (congrFun e 0)).symm
  · rintro ⟨p, rfl⟩
    funext d; apply Fin.ext
    match d with
    | ⟨0, _⟩ => rfl

end Cert.Layout
-- ==== Proof.HeadEntry.lean ====
module
public import proofs.«01_k».proof.Proof.Reals
public import proofs.«01_k».proof.Proof.Layout
public import proofs.«01_k».proof.Proof.Gen.KernelIdeal.Value
public import proofs.«01_k».proof.Proof.Gen.KernelIdeal
public import Idealize.ShloMosaic.Lib.Pipeline.ValueKit
@[expose] public section
set_option maxRecDepth 16384
/-! # What the blocks of the projection's gradient hold

The call reads its rows out of arrays that the host pads and reshapes. Each lemma says what one block holds at one place, in
terms of the arguments. -/
noncomputable section
namespace Cert.KernelIdeal.Head
open Cert.KernelIdeal Cert.KernelIdeal.Gen Idealize.ShloMosaic Idealize.ShloMosaic.TcCoe Cert.Real
variable (m : (ℓ : Loc nD τ sig) → Buf (Elt Ideal) ℓ) (c : Dev nD)

/-- The arguments as real numbers. -/
structure Args (x0 : Fin 16 → Fin 1024 → ℝ) (x1 : Fin 1024 → ℝ) (x2 : Fin 1024 → Fin 2576 → ℝ) (x3 : Fin 2 → Fin 2064 → Fin 1024 → ℝ)
    (x4 : Fin 2 → Fin 2064 → Fin 2576 → ℝ) : Prop where
  a0 : ∀ i k, m ((c : Thread nD τ).loc main_arg0) (ix2 i k) = (x0 i k : EReal)
  a1 : ∀ k, m ((c : Thread nD τ).loc main_arg1) (ix1 k) = (x1 k : EReal)
  a2 : ∀ k j, m ((c : Thread nD τ).loc main_arg2) (ix2 k j) = (x2 k j : EReal)
  a3 : ∀ b i k, m ((c : Thread nD τ).loc main_arg3) (ix3 b i k) = (x3 b i k : EReal)
  a4 : ∀ b i j, m ((c : Thread nD τ).loc main_arg4) (ix3 b i j) = (x4 b i j : EReal)

variable {m c} {x0 : Fin 16 → Fin 1024 → ℝ} {x1 : Fin 1024 → ℝ} {x2 : Fin 1024 → Fin 2576 → ℝ} {x3 : Fin 2 → Fin 2064 → Fin 1024 → ℝ}
    {x4 : Fin 2 → Fin 2064 → Fin 2576 → ℝ} (h : Args m c x0 x1 x2 x3 x4)

/-- A function of 2576 columns as one of all column numbers, zero past the end. -/
def col (f : Fin 2576 → ℝ) (j : ℕ) : ℝ := if h : j < 2576 then f ⟨j, h⟩ else 0

/-- Zero, as the host writes it before it pads. -/
abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp

/-- The cotangent of the projection's columns, padded and as rows. -/
abbrev duRows : FVec Ideal S4224x2688 .f32 :=
  shapeCast S4224x2688 (pad S2x2112x2688 ![0, 48, 0] ![0, 0, 112] ![0, 0, 0] (m ((c : Thread nD τ).loc main_arg4)) zeroI
    pads_S2x2064x2576_S2x2112x2688_000_4800_01120 h_S_) shapeCasts_S2x2112x2688_S4224x2688
/-- The cotangent of the residual, padded and as rows. -/
abbrev resRows : FVec Ideal S4224x1024 .f32 :=
  shapeCast S4224x1024 (pad S2x2112x1024 ![0, 48, 0] ![0, 0, 0] ![0, 0, 0] (m ((c : Thread nD τ).loc main_arg3)) zeroI
    pads_S2x2064x1024_S2x2112x1024_000_4800_000 h_S_) shapeCasts_S2x2112x1024_S4224x1024

/-- Row `r` of the token rows of sequence `b` among all the padded rows. -/
abbrev prow (b : Fin 2) (r : Fin 16) : Fin 4224 := ⟨b.val * 2112 + (48 + r.val), by omega⟩

include h in
theorem duRows_at (b : Fin 2) (r : Fin 16) (k : Fin 2688) :
    duRows (m := m) (c := c) (ix2 (prow b r) k) = ((col (x4 b (⟨r, by omega⟩ : Fin 2064)) k : ℝ) : EReal) := by
  refine (Layout.rows_at _ _ rfl b (⟨48 + r, by omega⟩ : Fin 2112) k).trans ((Layout.pad3_at _ _ _ _ rfl _ _ _).trans ?_)
  simp only [Nat.le_add_right, true_and, Nat.add_sub_cancel_left, zeroI_apply, col]
  split_ifs with hk
  · exact h.a4 _ _ _
  · rfl
include h in
theorem resRows_at (b : Fin 2) (r : Fin 16) (k : Fin 1024) :
    resRows (m := m) (c := c) (ix2 (prow b r) k) = ((x3 b (⟨r, by omega⟩ : Fin 2064) k : ℝ) : EReal) := by
  refine (Layout.rows_at _ _ rfl b (⟨48 + r, by omega⟩ : Fin 2112) k).trans ((Layout.pad3_at _ _ _ _ rfl _ _ _).trans ?_)
  simp only [Nat.le_add_right, true_and, Nat.add_sub_cancel_left, k.isLt, dif_pos]
  exact h.a3 _ _ _

/-- Every prepared array as the host computes it. -/
theorem V_all :
    V m c main_v2 = extractStridedSlice S4224x1024 ![0, 0] (duRows (m := m) (c := c)) slices_S4224x2688_S4224x1024_0_0
    ∧ V m c main_v3 = extractStridedSlice S4224x512 ![0, 1024] (duRows (m := m) (c := c)) slices_S4224x2688_S4224x512_0_1024
    ∧ V m c main_v4 = extractStridedSlice S4224x512 ![0, 1536] (duRows (m := m) (c := c)) slices_S4224x2688_S4224x512_0_1536
    ∧ V m c main_v5 = extractStridedSlice S4224x512 ![0, 2048] (duRows (m := m) (c := c)) slices_S4224x2688_S4224x512_0_2048
    ∧ V m c main_v6 = extractStridedSlice S4224x128 ![0, 2560] (duRows (m := m) (c := c)) slices_S4224x2688_S4224x128_0_2560
    ∧ V m c main_v12 = resRows (m := m) (c := c)
    ∧ V m c main_v9 = truncf .bf16 (pad S2688x1024 ![0, 0] ![112, 0] ![0, 0]
        (transpose S2576x1024 [1, 0] (m ((c : Thread nD τ).loc main_arg2)) transposes_S1024x2576_S2576x1024_1_0) zeroI pads_S2576x1024_S2688x1024_01120_000 h_S_) bitsLt_bf16_f32
    ∧ V m c main_v10 = pad S64x1024 ![48, 0] ![0, 0] ![0, 0] (m ((c : Thread nD τ).loc main_arg0)) zeroI pads_S16x1024_S64x1024_4800_000 h_S_
    ∧ V m c main_v13 = broadcastInDim S1x1024 ![1] bcast_S1024_S1x1024_1 (m ((c : Thread nD τ).loc main_arg1)) := by
  simp only [V, hostOps0, hostOps0_1, hostOps0_2, hostOps0_3, hostOps0_4, hostOps0_5, hostOps0_6, hostOps0_7, hostOps0_8, List.flatten_cons, List.flatten_nil, List.cons_append, List.nil_append, List.append_nil]
  refine ⟨?_, ?_, ?_, ?_, ?_, ?_, ?_, ?_, ?_⟩ <;> (entry_read; rfl)

/-- The weight, transposed and with rows of zeros after it. -/
theorem w_at (h : Args m c x0 x1 x2 x3 x4) (j : Fin 2688) (k : Fin 1024) : V m c main_v9 (ix2 j k) = ((col (x2 k) j : ℝ) : EReal) := by
  rw [V_all.2.2.2.2.2.2.1]
  refine (Layout.pad2_at _ _ pads_S2576x1024_S2688x1024_01120_000 _ j k).trans ?_
  simp only [Nat.zero_le, true_and, Nat.sub_zero, zeroI_apply, col]
  split_ifs with hk
  · exact (show transpose S2576x1024 [1, 0] (m ((c : Thread nD τ).loc main_arg2)) transposes_S1024x2576_S2576x1024_1_0 (ix2 (⟨j, hk⟩ : Fin 2576) k)
      = m ((c : Thread nD τ).loc main_arg2) (ix2 k (⟨j, hk⟩ : Fin 2576)) by pointwise).trans (h.a2 _ _)
  · rfl
/-- The learned rows, with rows of zeros in front. -/
theorem head_at (h : Args m c x0 x1 x2 x3 x4) (i : Fin 64) (k : Fin 1024) :
    V m c main_v10 (ix2 i k) = ((if H : 48 ≤ i.val then x0 (⟨i - 48, by omega⟩ : Fin 16) k else 0 : ℝ) : EReal) := by
  rw [V_all.2.2.2.2.2.2.2.1]
  refine (Layout.pad2_at _ _ pads_S16x1024_S64x1024_4800_000 _ i k).trans ?_
  by_cases hi : 48 ≤ i.val
  · rw [dif_pos ⟨hi, by omega⟩, dif_pos hi]; exact h.a0 _ _
  · rw [dif_neg fun H => hi H.1, dif_neg hi, zeroI_apply]; rfl
theorem g_at (h : Args m c x0 x1 x2 x3 x4) (k : Fin 1024) : V m c main_v13 (ix2 0 k) = ((x1 k : ℝ) : EReal) := by
  rw [V_all.2.2.2.2.2.2.2.2]
  exact (show broadcastInDim S1x1024 ![1] bcast_S1024_S1x1024_1 (m ((c : Thread nD τ).loc main_arg1)) (ix2 0 k)
      = m ((c : Thread nD τ).loc main_arg1) (ix1 k) by pointwise).trans (h.a1 _)

end Cert.KernelIdeal.Head
-- ==== Proof.TokensEntry.lean ====
module
public import proofs.«01_k».proof.Proof.HeadEntry
public import proofs.«01_k».proof.Proof.Gen.Kernel2Ideal.Value
public import proofs.«01_k».proof.Proof.Gen.Kernel2Ideal
@[expose] public section
set_option maxRecDepth 16384
/-! # What the blocks of the projection's gradient hold, at the tokens -/
noncomputable section
namespace Cert.Kernel2Ideal.Tokens
open Cert.Kernel2Ideal Cert.Kernel2Ideal.Gen Idealize.ShloMosaic Idealize.ShloMosaic.TcCoe Cert.Real
open Cert.KernelIdeal.Head (col)
variable (m : (ℓ : Loc nD τ sig) → Buf (Elt Ideal) ℓ) (c : Dev nD)

/-- The arguments as real numbers. -/
structure Args (x0 : Fin 2 → Fin 2048 → Fin 1024 → ℝ) (x1 : Fin 1024 → ℝ) (x2 : Fin 1024 → Fin 2576 → ℝ) (x3 : Fin 2 → Fin 2064 → Fin 1024 → ℝ)
    (x4 : Fin 2 → Fin 2064 → Fin 2576 → ℝ) : Prop where
  a0 : ∀ b i k, m ((c : Thread nD τ).loc main_arg0) (ix3 b i k) = (x0 b i k : EReal)
  a1 : ∀ k, m ((c : Thread nD τ).loc main_arg1) (ix1 k) = (x1 k : EReal)
  a2 : ∀ k j, m ((c : Thread nD τ).loc main_arg2) (ix2 k j) = (x2 k j : EReal)
  a3 : ∀ b i k, m ((c : Thread nD τ).loc main_arg3) (ix3 b i k) = (x3 b i k : EReal)
  a4 : ∀ b i j, m ((c : Thread nD τ).loc main_arg4) (ix3 b i j) = (x4 b i j : EReal)

variable {m c} {x0 : Fin 2 → Fin 2048 → Fin 1024 → ℝ} {x1 : Fin 1024 → ℝ} {x2 : Fin 1024 → Fin 2576 → ℝ} {x3 : Fin 2 → Fin 2064 → Fin 1024 → ℝ}
    {x4 : Fin 2 → Fin 2064 → Fin 2576 → ℝ} (h : Args m c x0 x1 x2 x3 x4)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp

abbrev duRows : FVec Ideal S4224x2688 .f32 :=
  shapeCast S4224x2688 (pad S2x2112x2688 ![0, 48, 0] ![0, 0, 112] ![0, 0, 0] (m ((c : Thread nD τ).loc main_arg4)) zeroI
    pads_S2x2064x2576_S2x2112x2688_000_4800_01120 h_S_) shapeCasts_S2x2112x2688_S4224x2688
abbrev resRows : FVec Ideal S4224x1024 .f32 :=
  shapeCast S4224x1024 (pad S2x2112x1024 ![0, 48, 0] ![0, 0, 0] ![0, 0, 0] (m ((c : Thread nD τ).loc main_arg3)) zeroI
    pads_S2x2064x1024_S2x2112x1024_000_4800_000 h_S_) shapeCasts_S2x2112x1024_S4224x1024

/-- Token `p` of a sequence among its rows, the learned ones first. -/
abbrev tok (p : Fin 2048) : Fin 2064 := ⟨16 + p.val, by omega⟩
/-- Token `p` of sequence `b` among all the padded rows. -/
abbrev prow (b : Fin 2) (p : Fin 2048) : Fin 4224 := ⟨b.val * 2112 + (48 + (16 + p.val)), by omega⟩

include h in
theorem duRows_at (b : Fin 2) (p : Fin 2048) (k : Fin 2688) : duRows (m := m) (c := c) (ix2 (prow b p) k) = ((col (x4 b (tok p)) k : ℝ) : EReal) := by
  refine (Layout.rows_at _ _ rfl b (⟨48 + (16 + p), by omega⟩ : Fin 2112) k).trans ((Layout.pad3_at _ _ _ _ rfl _ _ _).trans ?_)
  simp only [Nat.le_add_right, true_and, Nat.add_sub_cancel_left, zeroI_apply, col]
  split_ifs with hk
  · exact h.a4 _ _ _
  · rfl
include h in
theorem resRows_at (b : Fin 2) (p : Fin 2048) (k : Fin 1024) : resRows (m := m) (c := c) (ix2 (prow b p) k) = ((x3 b (tok p) k : ℝ) : EReal) := by
  refine (Layout.rows_at _ _ rfl b (⟨48 + (16 + p), by omega⟩ : Fin 2112) k).trans ((Layout.pad3_at _ _ _ _ rfl _ _ _).trans ?_)
  simp only [Nat.le_add_right, true_and, Nat.add_sub_cancel_left, k.isLt, dif_pos]
  exact h.a3 _ _ _

/-- Every prepared array as the host computes it. -/
theorem V_all :
    V m c main_v2 = extractStridedSlice S4224x1024 ![0, 0] (duRows (m := m) (c := c)) slices_S4224x2688_S4224x1024_0_0
    ∧ V m c main_v3 = extractStridedSlice S4224x512 ![0, 1024] (duRows (m := m) (c := c)) slices_S4224x2688_S4224x512_0_1024
    ∧ V m c main_v4 = extractStridedSlice S4224x512 ![0, 1536] (duRows (m := m) (c := c)) slices_S4224x2688_S4224x512_0_1536
    ∧ V m c main_v5 = extractStridedSlice S4224x512 ![0, 2048] (duRows (m := m) (c := c)) slices_S4224x2688_S4224x512_0_2048
    ∧ V m c main_v6 = extractStridedSlice S4224x128 ![0, 2560] (duRows (m := m) (c := c)) slices_S4224x2688_S4224x128_0_2560
    ∧ V m c main_v11 = resRows (m := m) (c := c)
    ∧ V m c main_v9 = truncf .bf16 (pad S2688x1024 ![0, 0] ![112, 0] ![0, 0]
        (transpose S2576x1024 [1, 0] (m ((c : Thread nD τ).loc main_arg2)) transposes_S1024x2576_S2576x1024_1_0) zeroI pads_S2576x1024_S2688x1024_01120_000 h_S_) bitsLt_bf16_f32
    ∧ V m c main_v12 = shapeCast S4096x1024 (m ((c : Thread nD τ).loc main_arg0)) shapeCasts_S2x2048x1024_S4096x1024
    ∧ V m c main_v13 = broadcastInDim S1x1024 ![1] bcast_S1024_S1x1024_1 (m ((c : Thread nD τ).loc main_arg1)) := by
  simp only [V, hostOps0, hostOps0_1, hostOps0_2, hostOps0_3, hostOps0_4, hostOps0_5, hostOps0_6, List.flatten_cons, List.flatten_nil, List.cons_append, List.nil_append, List.append_nil]
  refine ⟨?_, ?_, ?_, ?_, ?_, ?_, ?_, ?_, ?_⟩ <;> (entry_read; rfl)

/-- The weight, transposed and with rows of zeros after it. -/
theorem w_at (h : Args m c x0 x1 x2 x3 x4) (j : Fin 2688) (k : Fin 1024) : V m c main_v9 (ix2 j k) = ((col (x2 k) j : ℝ) : EReal) := by
  rw [V_all.2.2.2.2.2.2.1]
  refine (Layout.pad2_at _ _ pads_S2576x1024_S2688x1024_01120_000 _ j k).trans ?_
  simp only [Nat.zero_le, true_and, Nat.sub_zero, zeroI_apply, col]
  split_ifs with hk
  · exact (show transpose S2576x1024 [1, 0] (m ((c : Thread nD τ).loc main_arg2)) transposes_S1024x2576_S2576x1024_1_0 (ix2 (⟨j, hk⟩ : Fin 2576) k)
      = m ((c : Thread nD τ).loc main_arg2) (ix2 k (⟨j, hk⟩ : Fin 2576)) by pointwise).trans (h.a2 _ _)
  · rfl
/-- The tokens as rows of one matrix. -/
theorem x_at (h : Args m c x0 x1 x2 x3 x4) (b : Fin 2) (p : Fin 2048) (k : Fin 1024) :
    V m c main_v12 (ix2 (⟨b.val * 2048 + p.val, by omega⟩ : Fin 4096) k) = ((x0 b p k : ℝ) : EReal) := by
  rw [V_all.2.2.2.2.2.2.2.1]
  exact (Layout.rows_at _ _ rfl b p k).trans (h.a0 _ _ _)
theorem g_at (h : Args m c x0 x1 x2 x3 x4) (k : Fin 1024) : V m c main_v13 (ix2 0 k) = ((x1 k : ℝ) : EReal) := by
  rw [V_all.2.2.2.2.2.2.2.2]
  exact (show broadcastInDim S1x1024 ![1] bcast_S1024_S1x1024_1 (m ((c : Thread nD τ).loc main_arg1)) (ix2 0 k)
      = m ((c : Thread nD τ).loc main_arg1) (ix1 k) by pointwise).trans (h.a1 _)

end Cert.Kernel2Ideal.Tokens
-- ==== Proof.HeadKernel.lean ====
module
public import proofs.«01_k».proof.Proof.HeadEntry
@[expose] public section
set_option maxRecDepth 16384
/-! # What the call computes -/
noncomputable section
namespace Cert.KernelIdeal.Head
open Cert.KernelIdeal Cert.KernelIdeal.Gen Idealize.ShloMosaic Idealize.ShloMosaic.TcCoe Cert.Real
variable (m : (ℓ : Loc nD τ sig) → Buf (Elt Ideal) ℓ) (c : Dev nD)

theorem idx : ∀ t : Fin cfg0.N, win0_0.index t = ![t.val * 33, 0] ∧ win0_1.index t = ![t.val * 33, 0] ∧ win0_2.index t = ![t.val * 33, 0] ∧ win0_3.index t = ![t.val * 33, 0] ∧ win0_4.index t = ![t.val * 33, 0] ∧ win0_5.index t = ![t.val * 33, 0] ∧ win0_6.index t = ![0, 0] ∧ win0_7.index t = ![0, 0] ∧ win0_8.index t = ![0, 0] :=
  (by decide +kernel : ∀ t : Fin grid0.N, _)

theorem tlt (t : Fin cfg0.N) : t.val < 2 := by have := t.isLt; simp only [show cfg0.N = 2 from N_0] at this; exact this
/-- The sequence of a grid point. -/
abbrev seq (t : Fin cfg0.N) : Fin 2 := ⟨t.val, tlt t⟩
/-- Row `48 + r` of a chunk. -/
abbrev r48 (r : Fin 16) : Fin 64 := ⟨48 + r.val, by omega⟩

/-- The gradient of the normalised rows, at a grid point: over the 64 rows of the chunk, the 48 padded ones masked. -/
abbrev ds (t : Fin cfg0.N) : FVec Ideal S64x1024 .f32 :=
      (k0_pay9
        (k0_pay6 (iblk m c 0 t) (iblk m c 1 t)
          (View.ld (iblk m c 8 t) (Rect.unit ![0, 0] ![1024, 1024] inb_S2688x1024_S1024x1024_0_0)) (iblk m c 2 t)
          (View.ld (iblk m c 8 t) (Rect.unit ![1024, 0] ![512, 1024] inb_S2688x1024_S512x1024_1024_0)) (iblk m c 3 t)
          (View.ld (iblk m c 8 t) (Rect.unit ![1536, 0] ![512, 1024] inb_S2688x1024_S512x1024_1536_0)))
        (k0_pay7 (iblk m c 4 t))
        (k0_pay8 (View.ld (iblk m c 8 t) (Rect.unit ![2048, 0] ![512, 1024] inb_S2688x1024_S512x1024_2048_0)))
        (constant S64x1024 FTy.f32 0#32) (iblk m c 5 t)
        (View.ld (iblk m c 8 t) (Rect.unit ![2560, 0] ![128, 1024] inb_S2688x1024_S128x1024_2560_0)))

/-! ## The blocks at the token rows -/
theorem b0 (t : Fin cfg0.N) (r : Fin 16) (k : Fin 1024) : iblk m c 0 t (ix2 (r48 r) k) = V m c main_v12 (ix2 (prow (seq t) r) k) := by
  show V m c main_v12 (((cfg0.win 0).blk t).view.emb _) = _; blk_ext [idx t]
theorem b1 (t : Fin cfg0.N) (r : Fin 16) (k : Fin 1024) : iblk m c 1 t (ix2 (r48 r) k) = V m c main_v2 (ix2 (prow (seq t) r) k) := by
  show V m c main_v2 (((cfg0.win 1).blk t).view.emb _) = _; blk_ext [idx t]
theorem b2 (t : Fin cfg0.N) (r : Fin 16) (k : Fin 512) : iblk m c 2 t (ix2 (r48 r) k) = V m c main_v3 (ix2 (prow (seq t) r) k) := by
  show V m c main_v3 (((cfg0.win 2).blk t).view.emb _) = _; blk_ext [idx t]
theorem b3 (t : Fin cfg0.N) (r : Fin 16) (k : Fin 512) : iblk m c 3 t (ix2 (r48 r) k) = V m c main_v4 (ix2 (prow (seq t) r) k) := by
  show V m c main_v4 (((cfg0.win 3).blk t).view.emb _) = _; blk_ext [idx t]
theorem b4 (t : Fin cfg0.N) (r : Fin 16) (k : Fin 512) : iblk m c 4 t (ix2 (r48 r) k) = V m c main_v5 (ix2 (prow (seq t) r) k) := by
  show V m c main_v5 (((cfg0.win 4).blk t).view.emb _) = _; blk_ext [idx t]
theorem b5 (t : Fin cfg0.N) (r : Fin 16) (k : Fin 128) : iblk m c 5 t (ix2 (r48 r) k) = V m c main_v6 (ix2 (prow (seq t) r) k) := by
  show V m c main_v6 (((cfg0.win 5).blk t).view.emb _) = _; blk_ext [idx t]
theorem b6 (t : Fin cfg0.N) (i : Fin 64) (k : Fin 1024) : iblk m c 6 t (ix2 i k) = V m c main_v10 (ix2 i k) := by
  show V m c main_v10 (((cfg0.win 6).blk t).view.emb _) = _; blk_ext [idx t]
theorem b7 (t : Fin cfg0.N) (k : Fin 1024) : iblk m c 7 t (ix2 0 k) = V m c main_v13 (ix2 0 k) := by
  show V m c main_v13 (((cfg0.win 7).blk t).view.emb _) = _; blk_ext [idx t]
theorem b8 (t : Fin cfg0.N) (i : Fin 2688) (k : Fin 1024) : iblk m c 8 t (ix2 i k) = V m c main_v9 (ix2 i k) := by
  show V m c main_v9 (((cfg0.win 8).blk t).view.emb _) = _; blk_ext [idx t]

variable {m c} {x0 : Fin 16 → Fin 1024 → ℝ} {x1 : Fin 1024 → ℝ} {x2 : Fin 1024 → Fin 2576 → ℝ} {x3 : Fin 2 → Fin 2064 → Fin 1024 → ℝ}
    {x4 : Fin 2 → Fin 2064 → Fin 2576 → ℝ} (h : Args m c x0 x1 x2 x3 x4)
include h

theorem u1 (t : Fin cfg0.N) (r : Fin 16) (k : Fin 1024) : iblk m c 1 t (ix2 (r48 r) k) = ((col (x4 (seq t) (⟨r, by omega⟩ : Fin 2064)) k : ℝ) : EReal) := by
  rw [b1, V_all.1]
  refine Eq.trans ?_ (duRows_at h (seq t) r ⟨k.val, by omega⟩); generalize duRows = w; pointwise
theorem u2 (t : Fin cfg0.N) (r : Fin 16) (k : Fin 512) : iblk m c 2 t (ix2 (r48 r) k) = ((col (x4 (seq t) (⟨r, by omega⟩ : Fin 2064)) (1024 + k) : ℝ) : EReal) := by
  rw [b2, V_all.2.1]
  refine Eq.trans ?_ (duRows_at h (seq t) r ⟨1024 + k.val, by omega⟩); generalize duRows = w; pointwise
theorem u3 (t : Fin cfg0.N) (r : Fin 16) (k : Fin 512) : iblk m c 3 t (ix2 (r48 r) k) = ((col (x4 (seq t) (⟨r, by omega⟩ : Fin 2064)) (1536 + k) : ℝ) : EReal) := by
  rw [b3, V_all.2.2.1]
  refine Eq.trans ?_ (duRows_at h (seq t) r ⟨1536 + k.val, by omega⟩); generalize duRows = w; pointwise
theorem u4 (t : Fin cfg0.N) (r : Fin 16) (k : Fin 512) : iblk m c 4 t (ix2 (r48 r) k) = ((col (x4 (seq t) (⟨r, by omega⟩ : Fin 2064)) (2048 + k) : ℝ) : EReal) := by
  rw [b4, V_all.2.2.2.1]
  refine Eq.trans ?_ (duRows_at h (seq t) r ⟨2048 + k.val, by omega⟩); generalize duRows = w; pointwise
theorem u5 (t : Fin cfg0.N) (r : Fin 16) (k : Fin 128) : iblk m c 5 t (ix2 (r48 r) k) = ((col (x4 (seq t) (⟨r, by omega⟩ : Fin 2064)) (2560 + k) : ℝ) : EReal) := by
  rw [b5, V_all.2.2.2.2.1]
  refine Eq.trans ?_ (duRows_at h (seq t) r ⟨2560 + k.val, by omega⟩); generalize duRows = w; pointwise
theorem res (t : Fin cfg0.N) (r : Fin 16) (k : Fin 1024) : iblk m c 0 t (ix2 (r48 r) k) = ((x3 (seq t) (⟨r, by omega⟩ : Fin 2064) k : ℝ) : EReal) := by
  rw [b0, V_all.2.2.2.2.2.1]; exact resRows_at h _ _ _
omit h

/-- The gradient of the normalised row `r` of sequence `b`. -/
def dsR (x2 : Fin 1024 → Fin 2576 → ℝ) (x3 : Fin 2 → Fin 2064 → Fin 1024 → ℝ) (x4 : Fin 2 → Fin 2064 → Fin 2576 → ℝ)
    (b : Fin 2) (r : Fin 16) (k : Fin 1024) : ℝ :=
  (∑ j, x4 b (⟨r, by omega⟩ : Fin 2064) j * x2 k j) + alpha * x3 b (⟨r, by omega⟩ : Fin 2064) k

/-- The gradient of the normalised rows vanishes at a masked row. -/
theorem ds_pad (t : Fin cfg0.N) (i : Fin 64) (hi : i.val < 48) (k : Fin 1024) : ds m c t (ix2 i k) = 0 := by
  unfold ds
  pointwise [k0_pay9, k0_pay6, k0_pay7, k0_pay8]
  rw [(by decide : ∀ i : Fin 64, i.val < 48 → IntOp.cmpi .sge (BitVec.ofNat 32 i.val) 48#32 = 0#1) i hi]
  rfl
include h in
theorem ds_at (t : Fin cfg0.N) (r : Fin 16) (k : Fin 1024) : ds m c t (ix2 (r48 r) k) = ((dsR x2 x3 x4 (seq t) r k : ℝ) : EReal) := by
  unfold ds
  pointwise [k0_pay9, k0_pay6, k0_pay7, k0_pay8]
  rw [(by decide : ∀ r : Fin 16, IntOp.cmpi .sge (BitVec.ofNat 32 (r48 r).val) 48#32 = 1#1) r]
  show _ + _ + _ + _ + _ + _ = _
  simp only [u1 h, u2 h, u3 h, u4 h, u5 h, res h, b8, w_at h, lit_alpha, ← EReal.coe_mul, coe_sum, ← EReal.coe_add, EReal.coe_eq_coe_iff]
  have := sum_runs (fun j => col (x4 (seq t) (⟨r, by omega⟩ : Fin 2064)) j * col (x2 k) j) (fun j hj => by simp [col, not_lt.mpr hj])
  have e (j : Fin 2576) : col (x4 (seq t) (⟨r, by omega⟩ : Fin 2064)) j * col (x2 k) j = x4 (seq t) (⟨r, by omega⟩ : Fin 2064) j * x2 k j := by simp [col]
  simp only [e] at this
  rw [dsR, ← this]; ring

/-! ## The learned rows, normalised -/
include h in
theorem head_row (t : Fin cfg0.N) (r : Fin 16) (k : Fin 1024) : iblk m c 6 t (ix2 (r48 r) k) = ((x0 r k : ℝ) : EReal) := by
  rw [b6, head_at h, dif_pos (Nat.le_add_right 48 r.val)]; simp
theorem n1024 : ((1024 : ℕ) : ℝ) = 1024 := by norm_num
include h in
theorem cen_at (t : Fin cfg0.N) (r : Fin 16) (k : Fin 1024) : k0_pay10 (iblk m c 6 t) (ix2 (r48 r) k) = ((cen (x0 r) k : ℝ) : EReal) := by
  pointwise [k0_pay10]
  simp only [head_row h, lit_1024, coe_sum, div_coe _ _ (by norm_num : (1024 : ℝ) ≠ 0), ← EReal.coe_sub, cen, mean, n1024]
include h in
theorem rs_at (t : Fin cfg0.N) (r : Fin 16) : k0_pay11 (iblk m c 6 t) (ix2 (r48 r) 0) = ((rs (x0 r) : ℝ) : EReal) := by
  unfold k0_pay11
  have := cen_at h t r
  generalize k0_pay10 (iblk m c 6 t) = w at this ⊢
  pointwise
  simp only [this, lit_1024, lit_eps, ← EReal.coe_mul, coe_sum, div_coe _ _ (by norm_num : (1024 : ℝ) ≠ 0), ← EReal.coe_add]
  rw [rsqrt_coe_pos _ (var_eps_pos _ _ (by norm_num))]
  simp only [rs, var, n1024]
include h in
theorem hat_at (t : Fin cfg0.N) (r : Fin 16) (k : Fin 1024) : k0_pay12 (iblk m c 6 t) (ix2 (r48 r) k) = ((hat (x0 r) k : ℝ) : EReal) := by
  unfold k0_pay12
  have e1 := cen_at h t r k
  have e2 := rs_at h t r
  generalize k0_pay10 (iblk m c 6 t) = w at e1 ⊢
  generalize k0_pay11 (iblk m c 6 t) = w' at e2 ⊢
  pointwise
  rw [e1, e2, ← EReal.coe_mul, hat]

/-- A sum over a chunk's 64 rows whose first 48 terms vanish. -/
theorem sum64 (f : Fin 64 → EReal) (h : ∀ i : Fin 64, i.val < 48 → f i = 0) : ∑ i, f i = ∑ r : Fin 16, f (r48 r) := by
  rw [show ∑ i, f i = ∑ i : Fin (48 + 16), f i from rfl, Fin.sum_univ_add]
  rw [Finset.sum_eq_zero fun i _ => h _ i.isLt, zero_add]; rfl

/-! ## What a point adds to each result -/
include h in
theorem step_head (t : Fin cfg0.N) (acc : Vec Ideal S16x1024 .f32) (i : Fin 16) (k : Fin 1024) :
    k0_pay2 (ds m c t) (k0_pay11 (iblk m c 6 t)) (k0_pay12 (iblk m c 6 t)) (iblk m c 7 t) acc (ix2 i k)
      = acc (ix2 i k) + ((lnBwd (x0 i) (fun j => dsR x2 x3 x4 (seq t) i j * x1 j) k : ℝ) : EReal) := by
  have e1 := rs_at h t i
  have e2 := hat_at h t i
  have e3 := ds_at h t i
  generalize k0_pay12 (iblk m c 6 t) = w at e2 ⊢
  generalize k0_pay11 (iblk m c 6 t) = w' at e1 ⊢
  generalize ds m c t = w'' at e3 ⊢
  pointwise [k0_pay2]
  simp only [e1, e2, e3, b7, g_at h, lit_1024, ← EReal.coe_mul, coe_sum, div_coe _ _ (by norm_num : (1024 : ℝ) ≠ 0), ← EReal.coe_sub, lnBwd, mean, n1024]
include h in
theorem step_g (t : Fin cfg0.N) (acc : Vec Ideal S1x1024 .f32) (k : Fin 1024) :
    k0_pay13 (k0_pay6 (iblk m c 0 t) (iblk m c 1 t)
          (View.ld (iblk m c 8 t) (Rect.unit ![0, 0] ![1024, 1024] inb_S2688x1024_S1024x1024_0_0)) (iblk m c 2 t)
          (View.ld (iblk m c 8 t) (Rect.unit ![1024, 0] ![512, 1024] inb_S2688x1024_S512x1024_1024_0)) (iblk m c 3 t)
          (View.ld (iblk m c 8 t) (Rect.unit ![1536, 0] ![512, 1024] inb_S2688x1024_S512x1024_1536_0)))
        (k0_pay7 (iblk m c 4 t))
        (k0_pay8 (View.ld (iblk m c 8 t) (Rect.unit ![2048, 0] ![512, 1024] inb_S2688x1024_S512x1024_2048_0)))
        (constant S64x1024 FTy.f32 0#32) (iblk m c 5 t)
        (View.ld (iblk m c 8 t) (Rect.unit ![2560, 0] ![128, 1024] inb_S2688x1024_S128x1024_2560_0)) (iblk m c 6 t) acc (ix2 0 k)
      = acc (ix2 0 k) + ((∑ r : Fin 16, dsR x2 x3 x4 (seq t) r k * hat (x0 r) k : ℝ) : EReal) := by
  have e2 := fun r => hat_at h t r k
  have e3 := fun r => ds_at h t r k
  have e4 := fun i hi => ds_pad (m := m) (c := c) t i hi k
  unfold k0_pay13
  unfold ds at e3 e4
  generalize k0_pay12 (iblk m c 6 t) = w at e2 ⊢
  generalize k0_pay9 (F := Ideal) _ _ _ _ _ _ = w'' at e3 e4 ⊢
  pointwise
  rw [sum64 _ fun i hi => by rw [e4 i hi, zero_mul]]
  simp only [e2, e3, ← EReal.coe_mul, coe_sum]
include h in
theorem step_b (t : Fin cfg0.N) (acc : Vec Ideal S1x1024 .f32) (k : Fin 1024) :
    k0_pay1 (ds m c t) acc (ix2 0 k) = acc (ix2 0 k) + ((∑ r : Fin 16, dsR x2 x3 x4 (seq t) r k : ℝ) : EReal) := by
  have e3 := fun r => ds_at h t r k
  have e4 := fun i hi => ds_pad (m := m) (c := c) t i hi k
  generalize ds m c t = w'' at e3 e4 ⊢
  pointwise [k0_pay1]
  rw [sum64 _ fun i hi => e4 i hi]
  simp only [e3, coe_sum]

/-! ## The results -/
theorem idx2 {n k : ℕ} (j : (⟨2, ![n, k]⟩ : Shape).Idx) : ∃ (a : Fin n) (b : Fin k), j = ix2 a b := ⟨_, _, Idealize.ShloMosaic.eq_ix2 j⟩
theorem idx1 {k : ℕ} (j : (⟨2, ![1, k]⟩ : Shape).Idx) : ∃ b : Fin k, j = ix2 0 b :=
  ⟨j 1, (Idealize.ShloMosaic.eq_ix2 j).trans (congrArg (fun a : Fin 1 => ix2 (n1 := k) a (j 1)) (Subsingleton.elim (α := Fin 1) _ _))⟩
theorem zero2 (i : Fin 16) (k : Fin 1024) : (k0_pay5 (F := Ideal)) (ix2 i k) = 0 := by pointwise [k0_pay5]
theorem zero1 (k : Fin 1024) : (k0_pay3 (F := Ideal)) (ix2 0 k) = 0 ∧ (k0_pay4 (F := Ideal)) (ix2 0 k) = 0 := by
  constructor
  · pointwise [k0_pay3]
  · pointwise [k0_pay4]

/-- The two points are the two sequences. -/
theorem sum_seq (f : Fin 2 → ℝ) : (0 : EReal) + ∑ p : Fin cfg0.N, ((f (seq p) : ℝ) : EReal) = ((∑ b, f b : ℝ) : EReal) := by
  rw [zero_add, coe_sum, EReal.coe_eq_coe_iff]
  exact Fintype.sum_equiv (finCongr N_0) _ _ fun p => rfl

include h in
/-- The gradient of the learned rows. -/
theorem out9 (i : Fin 16) (k : Fin 1024) : (dats m 0 c).arrAt 9 cfg0.N (ix2 i k)
    = ((∑ b, lnBwd (x0 i) (fun j => dsR x2 x3 x4 b i j * x1 j) k : ℝ) : EReal) := by
  have e := Pipeline.eq_sum_fin_of_reset_step_apply_last (fun n hn => (outsAt0 m c n hn).1) 2 (fun _ => (0 : EReal))
    (fun t j => ((lnBwd (x0 (j 0)) (fun l => dsR x2 x3 x4 (seq t) (j 0) l * x1 l) (j 1) : ℝ) : EReal))
    (fun t ht j => by
      obtain ⟨i, k, rfl⟩ := idx2 j
      rw [outsAt0_A m c t ht]; frame_out
      exact (step_head h t _ _ _).trans (by rw [zero2]; rfl))
    (fun t ht j => by
      obtain ⟨i, k, rfl⟩ := idx2 j
      rw [outsAt0_B m c t ht]; frame_out
      exact step_head h t _ _ _) (le_of_eq N_0) t0_1 rfl (ix2 i k)
  refine (congrFun ((dats m 0 c).arrAt_eq_of_after_last 9 t0_1 (by decide +kernel) (fun j => (outsAt0 m c t0_1.val t0_1.isLt).1 j) fun j => ?_) (ix2 i k)).trans
    (e.trans (sum_seq fun b => lnBwd (x0 i) (fun j => dsR x2 x3 x4 b i j * x1 j) k))
  rw [after0_9]; blk_simp; rfl
include h in
/-- The gradient of the norm's scale, these rows' share. -/
theorem out10 (k : Fin 1024) : (dats m 0 c).arrAt 10 cfg0.N (ix2 0 k)
    = ((∑ b, ∑ r : Fin 16, dsR x2 x3 x4 b r k * hat (x0 r) k : ℝ) : EReal) := by
  have e := Pipeline.eq_sum_fin_of_reset_step_apply_last (fun n hn => (outsAt0 m c n hn).2.1) 2 (fun _ => (0 : EReal))
    (fun t j => ((∑ r : Fin 16, dsR x2 x3 x4 (seq t) r (j 1) * hat (x0 r) (j 1) : ℝ) : EReal))
    (fun t ht j => by
      obtain ⟨k, rfl⟩ := idx1 j
      rw [outsAt0_A m c t ht]; frame_out
      exact (step_g h t _ _).trans (by rw [(zero1 k).1]; rfl))
    (fun t ht j => by
      obtain ⟨k, rfl⟩ := idx1 j
      rw [outsAt0_B m c t ht]; frame_out
      exact step_g h t _ _) (le_of_eq N_0) t0_1 rfl (ix2 0 k)
  refine (congrFun ((dats m 0 c).arrAt_eq_of_after_last 10 t0_1 (by decide +kernel) (fun j => (outsAt0 m c t0_1.val t0_1.isLt).2.1 j) fun j => ?_) (ix2 0 k)).trans
    (e.trans (sum_seq fun b => ∑ r : Fin 16, dsR x2 x3 x4 b r k * hat (x0 r) k))
  rw [after0_10]; blk_simp; rfl
include h in
/-- The gradient of the norm's shift, these rows' share. -/
theorem out11 (k : Fin 1024) : (dats m 0 c).arrAt 11 cfg0.N (ix2 0 k) = ((∑ b, ∑ r : Fin 16, dsR x2 x3 x4 b r k : ℝ) : EReal) := by
  have e := Pipeline.eq_sum_fin_of_reset_step_apply_last (fun n hn => (outsAt0 m c n hn).2.2) 2 (fun _ => (0 : EReal))
    (fun t j => ((∑ r : Fin 16, dsR x2 x3 x4 (seq t) r (j 1) : ℝ) : EReal))
    (fun t ht j => by
      obtain ⟨k, rfl⟩ := idx1 j
      rw [outsAt0_A m c t ht]; frame_out
      exact (step_b h t _ _).trans (by rw [(zero1 k).2]; rfl))
    (fun t ht j => by
      obtain ⟨k, rfl⟩ := idx1 j
      rw [outsAt0_B m c t ht]; frame_out
      exact step_b h t _ _) (le_of_eq N_0) t0_1 rfl (ix2 0 k)
  refine (congrFun ((dats m 0 c).arrAt_eq_of_after_last 11 t0_1 (by decide +kernel) (fun j => (outsAt0 m c t0_1.val t0_1.isLt).2.2 j) fun j => ?_) (ix2 0 k)).trans
    (e.trans (sum_seq fun b => ∑ r : Fin 16, dsR x2 x3 x4 b r k))
  rw [after0_11]; blk_simp; rfl

end Cert.KernelIdeal.Head
-- ==== Proof.TokensKernel.lean ====
module
public import proofs.«01_k».proof.Proof.TokensEntry
public import proofs.«01_k».proof.Proof.HeadKernel
@[expose] public section
set_option maxRecDepth 16384
/-! # What the projection's gradient computes at the tokens -/
noncomputable section
namespace Cert.Kernel2Ideal.Tokens
open Cert.Kernel2Ideal Cert.Kernel2Ideal.Gen Idealize.ShloMosaic Idealize.ShloMosaic.TcCoe Cert.Real
open Cert.KernelIdeal.Head (col idx1 idx2 n1024)
variable (m : (ℓ : Loc nD τ sig) → Buf (Elt Ideal) ℓ) (c : Dev nD)

/-- The row at which the tile of a grid point begins. -/
abbrev row0 (n : ℕ) : ℕ := n / 4 * 2112 + 64 + n % 4 * 512
theorem idx : ∀ t : Fin cfg0.N, win0_0.index t = ![row0 t.val, 0] ∧ win0_1.index t = ![row0 t.val, 0] ∧ win0_2.index t = ![row0 t.val, 0]
    ∧ win0_3.index t = ![row0 t.val, 0] ∧ win0_4.index t = ![row0 t.val, 0] ∧ win0_5.index t = ![row0 t.val, 0] ∧ win0_6.index t = ![t.val, 0]
    ∧ win0_7.index t = ![0, 0] ∧ win0_8.index t = ![0, 0] ∧ win0_9.index t = ![t.val, 0] :=
  (by decide +kernel : ∀ t : Fin grid0.N, _)

theorem tlt (t : Fin cfg0.N) : t.val < 8 := by have := t.isLt; simp only [show cfg0.N = 8 from N_0] at this; exact this
/-- The sequence of a grid point. -/
abbrev seq (t : Fin cfg0.N) : Fin 2 := ⟨t.val / 4, by have := tlt t; omega⟩
/-- The token at row `i` of a grid point's tile. -/
abbrev at_ (t : Fin cfg0.N) (i : Fin 512) : Fin 2048 := ⟨t.val % 4 * 512 + i.val, by omega⟩

/-- The gradient of the normalised rows, at a grid point. -/
abbrev ds (t : Fin cfg0.N) : FVec Ideal S512x1024 .f32 :=
  k0_pay7
    (k0_pay4 (iblk m c 0 t) (iblk m c 1 t)
      (View.ld (iblk m c 8 t) (Rect.unit ![0, 0] ![1024, 1024] inb_S2688x1024_S1024x1024_0_0)) (iblk m c 2 t)
      (View.ld (iblk m c 8 t) (Rect.unit ![1024, 0] ![512, 1024] inb_S2688x1024_S512x1024_1024_0)) (iblk m c 3 t)
      (View.ld (iblk m c 8 t) (Rect.unit ![1536, 0] ![512, 1024] inb_S2688x1024_S512x1024_1536_0)))
    (k0_pay5 (iblk m c 4 t))
    (k0_pay6 (View.ld (iblk m c 8 t) (Rect.unit ![2048, 0] ![512, 1024] inb_S2688x1024_S512x1024_2048_0)))
    (constant S512x1024 FTy.f32 0#32) (iblk m c 5 t)
    (View.ld (iblk m c 8 t) (Rect.unit ![2560, 0] ![128, 1024] inb_S2688x1024_S128x1024_2560_0))

/-! ## The blocks -/
section
theorem row_eq (t : Fin cfg0.N) (i : Fin 512) : row0 t.val + i.val = t.val / 4 * 2112 + (48 + (16 + (t.val % 4 * 512 + i.val))) := by unfold row0; omega
variable (t : Fin cfg0.N) (i : Fin 512)
theorem b0 (k : Fin 1024) : iblk m c 0 t (ix2 i k) = V m c main_v11 (ix2 (prow (seq t) (at_ t i)) k) := by
  show V m c main_v11 (((cfg0.win 0).blk t).view.emb _) = _; blk_ext [idx t]
  · exact (Pipeline.Window.rect_emb_val_off win0_0 t (ix2 i k) 0).trans (by rw [(idx t).1]; exact row_eq t i)
  · exact (Pipeline.Window.rect_emb_val_off win0_0 t (ix2 i k) 1).trans (by rw [(idx t).1]; exact Nat.zero_add _)
theorem b1 (k : Fin 1024) : iblk m c 1 t (ix2 i k) = V m c main_v2 (ix2 (prow (seq t) (at_ t i)) k) := by
  show V m c main_v2 (((cfg0.win 1).blk t).view.emb _) = _; blk_ext [idx t]
  · exact (Pipeline.Window.rect_emb_val_off win0_1 t (ix2 i k) 0).trans (by rw [(idx t).2.1]; exact row_eq t i)
  · exact (Pipeline.Window.rect_emb_val_off win0_1 t (ix2 i k) 1).trans (by rw [(idx t).2.1]; exact Nat.zero_add _)
theorem b2 (k : Fin 512) : iblk m c 2 t (ix2 i k) = V m c main_v3 (ix2 (prow (seq t) (at_ t i)) k) := by
  show V m c main_v3 (((cfg0.win 2).blk t).view.emb _) = _; blk_ext [idx t]
  · exact (Pipeline.Window.rect_emb_val_off win0_2 t (ix2 i k) 0).trans (by rw [(idx t).2.2.1]; exact row_eq t i)
  · exact (Pipeline.Window.rect_emb_val_off win0_2 t (ix2 i k) 1).trans (by rw [(idx t).2.2.1]; exact Nat.zero_add _)
theorem b3 (k : Fin 512) : iblk m c 3 t (ix2 i k) = V m c main_v4 (ix2 (prow (seq t) (at_ t i)) k) := by
  show V m c main_v4 (((cfg0.win 3).blk t).view.emb _) = _; blk_ext [idx t]
  · exact (Pipeline.Window.rect_emb_val_off win0_3 t (ix2 i k) 0).trans (by rw [(idx t).2.2.2.1]; exact row_eq t i)
  · exact (Pipeline.Window.rect_emb_val_off win0_3 t (ix2 i k) 1).trans (by rw [(idx t).2.2.2.1]; exact Nat.zero_add _)
theorem b4 (k : Fin 512) : iblk m c 4 t (ix2 i k) = V m c main_v5 (ix2 (prow (seq t) (at_ t i)) k) := by
  show V m c main_v5 (((cfg0.win 4).blk t).view.emb _) = _; blk_ext [idx t]
  · exact (Pipeline.Window.rect_emb_val_off win0_4 t (ix2 i k) 0).trans (by rw [(idx t).2.2.2.2.1]; exact row_eq t i)
  · exact (Pipeline.Window.rect_emb_val_off win0_4 t (ix2 i k) 1).trans (by rw [(idx t).2.2.2.2.1]; exact Nat.zero_add _)
theorem b5 (k : Fin 128) : iblk m c 5 t (ix2 i k) = V m c main_v6 (ix2 (prow (seq t) (at_ t i)) k) := by
  show V m c main_v6 (((cfg0.win 5).blk t).view.emb _) = _; blk_ext [idx t]
  · exact (Pipeline.Window.rect_emb_val_off win0_5 t (ix2 i k) 0).trans (by rw [(idx t).2.2.2.2.2.1]; exact row_eq t i)
  · exact (Pipeline.Window.rect_emb_val_off win0_5 t (ix2 i k) 1).trans (by rw [(idx t).2.2.2.2.2.1]; exact Nat.zero_add _)
theorem b6 (k : Fin 1024) : iblk m c 6 t (ix2 i k) = V m c main_v12 (ix2 (⟨(seq t).val * 2048 + (at_ t i).val, by omega⟩ : Fin 4096) k) := by
  show V m c main_v12 (((cfg0.win 6).blk t).view.emb _) = _; blk_ext [idx t]
theorem b7 (k : Fin 1024) : iblk m c 7 t (ix2 0 k) = V m c main_v13 (ix2 0 k) := by
  show V m c main_v13 (((cfg0.win 7).blk t).view.emb _) = _; blk_ext [idx t]
theorem b8 (i : Fin 2688) (k : Fin 1024) : iblk m c 8 t (ix2 i k) = V m c main_v9 (ix2 i k) := by
  show V m c main_v9 (((cfg0.win 8).blk t).view.emb _) = _; blk_ext [idx t]
end

variable {m c} {x0 : Fin 2 → Fin 2048 → Fin 1024 → ℝ} {x1 : Fin 1024 → ℝ} {x2 : Fin 1024 → Fin 2576 → ℝ} {x3 : Fin 2 → Fin 2064 → Fin 1024 → ℝ}
    {x4 : Fin 2 → Fin 2064 → Fin 2576 → ℝ} (h : Args m c x0 x1 x2 x3 x4)

include h in
/-- The cotangent's columns, as the five runs hold them. -/
theorem u_at (t : Fin cfg0.N) (i : Fin 512) :
    (∀ k : Fin 1024, iblk m c 1 t (ix2 i k) = ((col (x4 (seq t) (tok (at_ t i))) k : ℝ) : EReal))
    ∧ (∀ k : Fin 512, iblk m c 2 t (ix2 i k) = ((col (x4 (seq t) (tok (at_ t i))) (1024 + k) : ℝ) : EReal))
    ∧ (∀ k : Fin 512, iblk m c 3 t (ix2 i k) = ((col (x4 (seq t) (tok (at_ t i))) (1536 + k) : ℝ) : EReal))
    ∧ (∀ k : Fin 512, iblk m c 4 t (ix2 i k) = ((col (x4 (seq t) (tok (at_ t i))) (2048 + k) : ℝ) : EReal))
    ∧ (∀ k : Fin 128, iblk m c 5 t (ix2 i k) = ((col (x4 (seq t) (tok (at_ t i))) (2560 + k) : ℝ) : EReal)) := by
  have e := duRows_at h (seq t) (at_ t i)
  refine ⟨fun k => ?_, fun k => ?_, fun k => ?_, fun k => ?_, fun k => ?_⟩
  · rw [b1, V_all.1, ← e ⟨k.val, by omega⟩]; generalize duRows = w; pointwise
  · rw [b2, V_all.2.1, ← e ⟨1024 + k.val, by omega⟩]; generalize duRows = w; pointwise
  · rw [b3, V_all.2.2.1, ← e ⟨1536 + k.val, by omega⟩]; generalize duRows = w; pointwise
  · rw [b4, V_all.2.2.2.1, ← e ⟨2048 + k.val, by omega⟩]; generalize duRows = w; pointwise
  · rw [b5, V_all.2.2.2.2.1, ← e ⟨2560 + k.val, by omega⟩]; generalize duRows = w; pointwise
include h in
theorem res (t : Fin cfg0.N) (i : Fin 512) (k : Fin 1024) : iblk m c 0 t (ix2 i k) = ((x3 (seq t) (tok (at_ t i)) k : ℝ) : EReal) := by
  rw [b0, V_all.2.2.2.2.2.1]; exact resRows_at h _ _ _

/-- The gradient of the normalised row of token `p` of sequence `b`. -/
def dsR (x2 : Fin 1024 → Fin 2576 → ℝ) (x3 : Fin 2 → Fin 2064 → Fin 1024 → ℝ) (x4 : Fin 2 → Fin 2064 → Fin 2576 → ℝ)
    (b : Fin 2) (p : Fin 2048) (k : Fin 1024) : ℝ :=
  (∑ j, x4 b (tok p) j * x2 k j) + alpha * x3 b (tok p) k

include h in
theorem ds_at (t : Fin cfg0.N) (i : Fin 512) (k : Fin 1024) : ds m c t (ix2 i k) = ((dsR x2 x3 x4 (seq t) (at_ t i) k : ℝ) : EReal) := by
  obtain ⟨u1, u2, u3, u4, u5⟩ := u_at h t i
  unfold ds
  pointwise [k0_pay7, k0_pay4, k0_pay5, k0_pay6]
  simp only [u1, u2, u3, u4, u5, res h, b8, w_at h, lit_alpha, ← EReal.coe_mul, coe_sum, ← EReal.coe_add, EReal.coe_eq_coe_iff]
  have := sum_runs (fun j => col (x4 (seq t) (tok (at_ t i))) j * col (x2 k) j) (fun j hj => by simp [col, not_lt.mpr hj])
  have e (j : Fin 2576) : col (x4 (seq t) (tok (at_ t i))) j * col (x2 k) j = x4 (seq t) (tok (at_ t i)) j * x2 k j := by simp [col]
  simp only [e] at this
  rw [dsR, ← this]; ring

/-! ## The tokens, normalised -/
include h in
theorem row_at (t : Fin cfg0.N) (i : Fin 512) (k : Fin 1024) : iblk m c 6 t (ix2 i k) = ((x0 (seq t) (at_ t i) k : ℝ) : EReal) := by
  rw [b6]; exact x_at h _ _ _
include h in
theorem cen_at (t : Fin cfg0.N) (i : Fin 512) (k : Fin 1024) : k0_pay8 (iblk m c 6 t) (ix2 i k) = ((cen (x0 (seq t) (at_ t i)) k : ℝ) : EReal) := by
  pointwise [k0_pay8]
  simp only [row_at h, lit_1024, coe_sum, div_coe _ _ (by norm_num : (1024 : ℝ) ≠ 0), ← EReal.coe_sub, cen, mean, n1024]
include h in
theorem rs_at (t : Fin cfg0.N) (i : Fin 512) : k0_pay9 (iblk m c 6 t) (ix2 i 0) = ((rs (x0 (seq t) (at_ t i)) : ℝ) : EReal) := by
  unfold k0_pay9
  have := cen_at h t i
  generalize k0_pay8 (iblk m c 6 t) = w at this ⊢
  pointwise
  simp only [this, lit_1024, lit_eps, ← EReal.coe_mul, coe_sum, div_coe _ _ (by norm_num : (1024 : ℝ) ≠ 0), ← EReal.coe_add]
  rw [rsqrt_coe_pos _ (var_eps_pos _ _ (by norm_num))]
  simp only [rs, var, n1024]
include h in
theorem hat_at (t : Fin cfg0.N) (i : Fin 512) (k : Fin 1024) : k0_pay10 (iblk m c 6 t) (ix2 i k) = ((hat (x0 (seq t) (at_ t i)) k : ℝ) : EReal) := by
  unfold k0_pay10
  have e1 := cen_at h t i k
  have e2 := rs_at h t i
  generalize k0_pay8 (iblk m c 6 t) = w at e1 ⊢
  generalize k0_pay9 (iblk m c 6 t) = w' at e2 ⊢
  pointwise
  rw [e1, e2, ← EReal.coe_mul, hat]

/-! ## What a point stores -/
include h in
theorem step_x (t : Fin cfg0.N) (i : Fin 512) (k : Fin 1024) :
    k0_pay1 (ds m c t) (k0_pay9 (iblk m c 6 t)) (k0_pay10 (iblk m c 6 t)) (iblk m c 7 t) (ix2 i k)
      = ((lnBwd (x0 (seq t) (at_ t i)) (fun j => dsR x2 x3 x4 (seq t) (at_ t i) j * x1 j) k : ℝ) : EReal) := by
  have e1 := rs_at h t i
  have e2 := hat_at h t i
  have e3 := ds_at h t i
  generalize k0_pay10 (iblk m c 6 t) = w at e2 ⊢
  generalize k0_pay9 (iblk m c 6 t) = w' at e1 ⊢
  generalize ds m c t = w'' at e3 ⊢
  pointwise [k0_pay1]
  simp only [e1, e2, e3, b7, g_at h, lit_1024, ← EReal.coe_mul, coe_sum, div_coe _ _ (by norm_num : (1024 : ℝ) ≠ 0), ← EReal.coe_sub, lnBwd, mean, n1024]
include h in
/-- What a point adds to the gradients of the norm's scale and shift. -/
theorem step_gb (t : Fin cfg0.N) (acc : Vec Ideal S1x1024 .f32) (k : Fin 1024) (v27 v30 v32 cst_18 v35 v38)
    (hd : k0_pay7 (F := Ideal) v27 v30 v32 cst_18 v35 v38 = ds m c t) :
    k0_pay11 v27 v30 v32 cst_18 v35 v38 (iblk m c 6 t) acc (ix2 0 k)
        = acc (ix2 0 k) + ((∑ i : Fin 512, dsR x2 x3 x4 (seq t) (at_ t i) k * hat (x0 (seq t) (at_ t i)) k : ℝ) : EReal)
    ∧ k0_pay12 v27 v30 v32 cst_18 v35 v38 acc (ix2 0 k) = acc (ix2 0 k) + ((∑ i : Fin 512, dsR x2 x3 x4 (seq t) (at_ t i) k : ℝ) : EReal) := by
  have e2 := fun i => hat_at h t i k
  have e3 := fun i => ds_at h t i k
  unfold k0_pay11 k0_pay12
  rw [hd]
  generalize k0_pay10 (iblk m c 6 t) = w at e2 ⊢
  generalize ds m c t = w'' at e3 ⊢
  constructor
  · pointwise
    simp only [e2, e3, ← EReal.coe_mul, coe_sum]
  · pointwise
    simp only [e3, coe_sum]

/-! ## The results -/
theorem zero1 (k : Fin 1024) : (k0_pay2 (F := Ideal)) (ix2 0 k) = 0 ∧ (k0_pay3 (F := Ideal)) (ix2 0 k) = 0 := by
  constructor
  · pointwise [k0_pay2]
  · pointwise [k0_pay3]

/-- The tiles of all the points are the tokens of both sequences. -/
theorem sum_tiles (f : Fin 2 → Fin 2048 → ℝ) : (0 : EReal) + ∑ p : Fin cfg0.N, ((∑ i : Fin 512, f (seq p) (at_ p i) : ℝ) : EReal) = ((∑ b, ∑ p, f b p : ℝ) : EReal) := by
  rw [zero_add, coe_sum, EReal.coe_eq_coe_iff]
  rw [← Fintype.sum_prod_type', ← Fintype.sum_prod_type']
  refine Fintype.sum_bijective (fun q : Fin cfg0.N × Fin 512 => (seq q.1, at_ q.1 q.2)) ⟨fun q q' e => ?_, fun q => ?_⟩ _ _ fun q => rfl
  · have h1 : q.1.val / 4 = q'.1.val / 4 := congrArg (fun p : Fin 2 × Fin 2048 => p.1.val) e
    have h2 : q.1.val % 4 * 512 + q.2.val = q'.1.val % 4 * 512 + q'.2.val := congrArg (fun p : Fin 2 × Fin 2048 => p.2.val) e
    have := q.2.isLt
    have := q'.2.isLt
    exact Prod.ext (Fin.ext (by omega)) (Fin.ext (by omega))
  · have h1 := q.1.isLt
    have h2 := q.2.isLt
    exact ⟨(⟨q.1.val * 4 + q.2.val / 512, by rw [show cfg0.N = 8 from N_0]; omega⟩, ⟨q.2.val % 512, by omega⟩),
      Prod.ext (Fin.ext (by show (q.1.val * 4 + q.2.val / 512) / 4 = _; omega))
        (Fin.ext (by show (q.1.val * 4 + q.2.val / 512) % 4 * 512 + q.2.val % 512 = _; omega))⟩

include h in
/-- The gradient of the tokens. -/
theorem out9 (b : Fin 2) (p : Fin 2048) (k : Fin 1024) : (dats m 0 c).arrAt 9 cfg0.N (ix2 (⟨b.val * 2048 + p.val, by omega⟩ : Fin 4096) k)
    = ((lnBwd (x0 b p) (fun j => dsR x2 x3 x4 b p j * x1 j) k : ℝ) : EReal) := by
  let G : S4096x1024.Idx → EReal := fun j =>
    ((lnBwd (x0 ⟨(j 0).val / 2048, by have : (j 0).val < 4096 := (j 0).isLt; omega⟩ ⟨(j 0).val % 2048, by omega⟩)
      (fun l => dsR x2 x3 x4 ⟨(j 0).val / 2048, by have : (j 0).val < 4096 := (j 0).isLt; omega⟩ ⟨(j 0).val % 2048, by omega⟩ l * x1 l) (j 1) : ℝ) : EReal)
  have g (b : Fin 2) (p : Fin 2048) (k : Fin 1024) : G (ix2 (⟨b.val * 2048 + p.val, by omega⟩ : Fin 4096) k)
      = ((lnBwd (x0 b p) (fun j => dsR x2 x3 x4 b p j * x1 j) k : ℝ) : EReal) := by
    have e1 : (⟨(b.val * 2048 + p.val) / 2048, by omega⟩ : Fin 2) = b := Fin.ext (by show (b.val * 2048 + p.val) / 2048 = b.val; omega)
    have e2 : (⟨(b.val * 2048 + p.val) % 2048, by omega⟩ : Fin 2048) = p := Fin.ext (by show (b.val * 2048 + p.val) % 2048 = p.val; omega)
    show ((lnBwd (x0 ⟨(b.val * 2048 + p.val) / 2048, _⟩ ⟨(b.val * 2048 + p.val) % 2048, _⟩)
      (fun j => dsR x2 x3 x4 ⟨(b.val * 2048 + p.val) / 2048, _⟩ ⟨(b.val * 2048 + p.val) % 2048, _⟩ j * x1 j) k : ℝ) : EReal) = _
    rw [e1, e2]
  have e : (dats m 0 c).arrAt 9 cfg0.N = G := by
    refine (dats m 0 c).arrAt_eq_of_covers 9 G (by decide +kernel) fun t hf y => ?_
    obtain ⟨i, k, rfl⟩ : ∃ (i : Fin 512) (k : Fin 1024), y = ix2 i k := idx2 y
    have hs : ((dats m 0 c).after 9 t : S512x1024.Idx → EReal) (ix2 i k) = ((lnBwd (x0 (seq t) (at_ t i)) (fun j => dsR x2 x3 x4 (seq t) (at_ t i) j * x1 j) k : ℝ) : EReal) := by
      rw [after0_9]
      by_cases h0 : t.val % 8 = 0
      · rw [outsAt0_A m c t h0]; frame_out; exact step_x h t i k
      · rw [outsAt0_B m c t h0]; frame_out; exact step_x h t i k
    blk_simp
    refine hs.trans ((g (seq t) (at_ t i) k).symm.trans (congrArg G ?_))
    symm; blk_ext [idx t]
  rw [e, g]
include h in
/-- The gradients of the norm's scale and shift, the tokens' share. -/
theorem out10 (k : Fin 1024) : (dats m 0 c).arrAt 10 cfg0.N (ix2 0 k) = ((∑ b, ∑ p, dsR x2 x3 x4 b p k * hat (x0 b p) k : ℝ) : EReal) := by
  have e := Pipeline.eq_sum_fin_of_reset_step_apply_last (fun n hn => (outsAt0 m c n hn).2.1) 8 (fun _ => (0 : EReal))
    (fun t j => ((∑ i : Fin 512, dsR x2 x3 x4 (seq t) (at_ t i) (j 1) * hat (x0 (seq t) (at_ t i)) (j 1) : ℝ) : EReal))
    (fun t ht j => by
      obtain ⟨k, rfl⟩ := idx1 j
      rw [outsAt0_A m c t ht]; frame_out
      exact (step_gb h t _ _ _ _ _ _ _ _ rfl).1.trans (by rw [(zero1 k).1]; rfl))
    (fun t ht j => by
      obtain ⟨k, rfl⟩ := idx1 j
      rw [outsAt0_B m c t ht]; frame_out
      exact (step_gb h t _ _ _ _ _ _ _ _ rfl).1) (le_of_eq N_0) t0_7 rfl (ix2 0 k)
  refine (congrFun ((dats m 0 c).arrAt_eq_of_after_last 10 t0_7 (by decide +kernel) (fun j => (outsAt0 m c t0_7.val t0_7.isLt).2.1 j) fun j => ?_) (ix2 0 k)).trans
    (e.trans (sum_tiles fun b p => dsR x2 x3 x4 b p k * hat (x0 b p) k))
  rw [after0_10]; blk_simp; rfl
include h in
theorem out11 (k : Fin 1024) : (dats m 0 c).arrAt 11 cfg0.N (ix2 0 k) = ((∑ b, ∑ p, dsR x2 x3 x4 b p k : ℝ) : EReal) := by
  have e := Pipeline.eq_sum_fin_of_reset_step_apply_last (fun n hn => (outsAt0 m c n hn).2.2) 8 (fun _ => (0 : EReal))
    (fun t j => ((∑ i : Fin 512, dsR x2 x3 x4 (seq t) (at_ t i) (j 1) : ℝ) : EReal))
    (fun t ht j => by
      obtain ⟨k, rfl⟩ := idx1 j
      rw [outsAt0_A m c t ht]; frame_out
      exact (step_gb h t _ _ _ _ _ _ _ _ rfl).2.trans (by rw [(zero1 k).2]; rfl))
    (fun t ht j => by
      obtain ⟨k, rfl⟩ := idx1 j
      rw [outsAt0_B m c t ht]; frame_out
      exact (step_gb h t _ _ _ _ _ _ _ _ rfl).2) (le_of_eq N_0) t0_7 rfl (ix2 0 k)
  refine (congrFun ((dats m 0 c).arrAt_eq_of_after_last 11 t0_7 (by decide +kernel) (fun j => (outsAt0 m c t0_7.val t0_7.isLt).2.2 j) fun j => ?_) (ix2 0 k)).trans
    (e.trans (sum_tiles fun b p => dsR x2 x3 x4 b p k))
  rw [after0_11]; blk_simp; rfl

/-- A row of the matrix of all tokens is a token of one sequence. -/
theorem rows2 (j : S4096x1024.Idx) : ∃ (b : Fin 2) (p : Fin 2048) (k : Fin 1024), j = ix2 (⟨b.val * 2048 + p.val, by omega⟩ : Fin 4096) k := by
  obtain ⟨r, k, rfl⟩ := idx2 j
  exact ⟨⟨r.val / 2048, by omega⟩, ⟨r.val % 2048, by omega⟩, k, congrArg (fun r => ix2 r k) (Fin.ext (by show r.val = r.val / 2048 * 2048 + r.val % 2048; omega))⟩

end Cert.Kernel2Ideal.Tokens
-- ==== Proof.TokensReference.lean ====
module
public import proofs.«01_k».proof.Proof.TokensKernel
public import proofs.«01_k».proof.Proof.Gen.Reference2Ideal.Run
public import proofs.«01_k».proof.Proof.Gen.Reference2Ideal.Read
@[expose] public section
set_option maxRecDepth 16384
/-! # What the reference computes

The derivative of the forward lines, read one operation after another as real numbers. -/
noncomputable section
namespace Cert.Reference2Ideal.Tokens
open Cert.Reference2Ideal Cert.Reference2Ideal.Read Idealize.ShloMosaic Idealize.ShloMosaic.TcCoe Cert.Real
open Cert.Kernel2Ideal.Tokens (dsR tok)
open Cert.KernelIdeal.Head (n1024)

/-- The arguments as real numbers. -/
structure Args (X0 : (⟨S2x2048x1024, .f32⟩ : BufTy).Contents (Elt Ideal)) (X1 : (⟨S1024, .f32⟩ : BufTy).Contents (Elt Ideal))
    (X2 : (⟨S1024x2576, .f32⟩ : BufTy).Contents (Elt Ideal)) (X3 : (⟨S2x2064x1024, .f32⟩ : BufTy).Contents (Elt Ideal))
    (X4 : (⟨S2x2064x2576, .f32⟩ : BufTy).Contents (Elt Ideal))
    (x0 : Fin 2 → Fin 2048 → Fin 1024 → ℝ) (x1 : Fin 1024 → ℝ) (x2 : Fin 1024 → Fin 2576 → ℝ) (x3 : Fin 2 → Fin 2064 → Fin 1024 → ℝ)
    (x4 : Fin 2 → Fin 2064 → Fin 2576 → ℝ) : Prop where
  a0 : ∀ b i k, X0 (ix3 b i k) = (x0 b i k : EReal)
  a1 : ∀ k, X1 (ix1 k) = (x1 k : EReal)
  a2 : ∀ k j, X2 (ix2 k j) = (x2 k j : EReal)
  a3 : ∀ b i k, X3 (ix3 b i k) = (x3 b i k : EReal)
  a4 : ∀ b i j, X4 (ix3 b i j) = (x4 b i j : EReal)

variable {X0 : (⟨S2x2048x1024, .f32⟩ : BufTy).Contents (Elt Ideal)} {X1 : (⟨S1024, .f32⟩ : BufTy).Contents (Elt Ideal)}
    {X2 : (⟨S1024x2576, .f32⟩ : BufTy).Contents (Elt Ideal)} {X3 : (⟨S2x2064x1024, .f32⟩ : BufTy).Contents (Elt Ideal)}
    {X4 : (⟨S2x2064x2576, .f32⟩ : BufTy).Contents (Elt Ideal)}
    {x0 : Fin 2 → Fin 2048 → Fin 1024 → ℝ} {x1 : Fin 1024 → ℝ} {x2 : Fin 1024 → Fin 2576 → ℝ} {x3 : Fin 2 → Fin 2064 → Fin 1024 → ℝ}
    {x4 : Fin 2 → Fin 2064 → Fin 2576 → ℝ} (h : Args X0 X1 X2 X3 X4 x0 x1 x2 x3 x4)
include h

/-- The gradient of the normalised rows. -/
theorem ds_at (b : Fin 2) (r : Fin 2048) (k : Fin 1024) : val_main_v38 (F := Ideal) X2 X3 X4 (ix3 b r k) = (dsR x2 x3 x4 b r k : EReal) := by
  pointwise [val_main_v38, val_main_v35, val_main_v37, val_main_v36, val_main_v34, val_main_v33, val_main_cst_8]
  simp only [h.a2, h.a3, h.a4, lit_alpha, ← EReal.coe_mul, coe_sum, ← EReal.coe_add, dsR]
/-- The rows less their means, the two times the forward lines write them. -/
theorem cen_at (b : Fin 2) (r : Fin 2048) (k : Fin 1024) :
    val_main_v6 (F := Ideal) X0 (ix3 b r k) = (cen (x0 b r) k : EReal) ∧ val_main_v15 (F := Ideal) X0 (ix3 b r k) = (cen (x0 b r) k : EReal) := by
  constructor <;>
  · pointwise [val_main_v6, val_main_v5, val_main_v15, val_main_v14, val_main_v4, val_main_v3, val_main_v2, val_main_v1, val_main_cst_0, val_main_cst_1]
    simp only [h.a0, lit_1024, coe_sum, div_coe _ _ (by norm_num : (1024 : ℝ) ≠ 0), ← EReal.coe_sub, cen, mean, n1024]
/-- The variances, the literal added. -/
theorem var_at (b : Fin 2) (r : Fin 2048) : val_main_v17 (F := Ideal) X0 (ix3 b r 0) = ((var (x0 b r) + eps : ℝ) : EReal) := by
  have e := fun k => (cen_at h b r k).1
  pointwise [val_main_v17, val_main_v13, val_main_v16, val_main_v12, val_main_v11, val_main_v10, val_main_v7, val_main_cst_3, val_main_cst_4, val_main_cst_5]
  simp only [e, lit_1024, lit_eps, ← EReal.coe_mul, coe_sum, div_coe _ _ (by norm_num : (1024 : ℝ) ≠ 0), ← EReal.coe_add, var, n1024]
theorem rs_at (b : Fin 2) (r : Fin 2048) : val_main_v18 (F := Ideal) X0 (ix3 b r 0) = (rs (x0 b r) : EReal) := by
  unfold val_main_v18
  have e := var_at h b r
  generalize val_main_v17 (F := Ideal) X0 = w at e ⊢
  pointwise
  rw [e, rsqrt_coe_pos _ (var_eps _), rs]
/-- The derivative of one over the root. -/
theorem rs3_at (b : Fin 2) (r : Fin 2048) : val_main_v21 (F := Ideal) X0 (ix3 b r 0) = ((-1 / 2 * (rs (x0 b r) / (var (x0 b r) + eps)) : ℝ) : EReal) := by
  have e := var_at h b r
  have e' := rs_at h b r
  unfold val_main_v21 val_main_v19
  generalize val_main_v17 (F := Ideal) X0 = w at e ⊢
  generalize val_main_v18 (F := Ideal) X0 = w' at e' ⊢
  pointwise [val_main_v20, val_main_cst_6]
  rw [e, e', lit_neg_half, div_coe _ _ (var_eps _).ne', ← EReal.coe_mul]
theorem hat_at (b : Fin 2) (r : Fin 2048) (k : Fin 1024) : val_main_v23 (F := Ideal) X0 (ix3 b r k) = (hat (x0 b r) k : EReal) := by
  have e := (cen_at h b r k).2
  have e' := rs_at h b r
  unfold val_main_v23 val_main_v22
  generalize val_main_v15 (F := Ideal) X0 = w at e ⊢
  generalize val_main_v18 (F := Ideal) X0 = w' at e' ⊢
  pointwise
  rw [e, e', ← EReal.coe_mul, hat]
/-- The gradient times the scale. -/
theorem d_at (b : Fin 2) (r : Fin 2048) (k : Fin 1024) : val_main_v46 (F := Ideal) X1 X2 X3 X4 (ix3 b r k) = ((dsR x2 x3 x4 b r k * x1 k : ℝ) : EReal) := by
  unfold val_main_v46
  have e := ds_at h b r k
  generalize val_main_v38 (F := Ideal) X2 X3 X4 = w at e ⊢
  pointwise [val_main_v45, val_main_v24]
  rw [e, h.a1, EReal.coe_mul]
/-- The gradient through the variance. -/
theorem sq_at (b : Fin 2) (r : Fin 2048) (k : Fin 1024) : val_main_v61 (F := Ideal) X0 X1 X2 X3 X4 (ix3 b r k)
    = (((∑ i, cen (x0 b r) i * (dsR x2 x3 x4 b r i * x1 i)) * (-1 / 2 * (rs (x0 b r) / (var (x0 b r) + eps))) / 1024 * (2 * cen (x0 b r) k) : ℝ) : EReal) := by
  have e := fun k => (cen_at h b r k).2
  have e' := fun k => (cen_at h b r k).1
  have e1 := rs3_at h b r
  have e2 := d_at h b r
  unfold val_main_v61 val_main_v60 val_main_v59 val_main_v58 val_main_v53 val_main_v50 val_main_v49 val_main_v48 val_main_v9
  generalize val_main_v6 (F := Ideal) X0 = w at e' ⊢
  generalize val_main_v15 (F := Ideal) X0 = w at e ⊢
  generalize val_main_v21 (F := Ideal) X0 = w at e1 ⊢
  generalize val_main_v46 (F := Ideal) X1 X2 X3 X4 = w at e2 ⊢
  pointwise [val_main_v57, val_main_v8, val_main_cst_2, val_main_cst_13, val_main_cst_15, val_main_cst_16]
  simp only [Fin.sum_univ_one, e, e', e1, e2, lit_1024, lit_two, ← EReal.coe_mul, coe_sum, div_coe _ _ (by norm_num : (1024 : ℝ) ≠ 0)]
/-- The gradient of a row, as differentiation writes it. -/
theorem row_at (b : Fin 2) (r : Fin 2048) (k : Fin 1024) : val_main_v71 (F := Ideal) X0 X1 X2 X3 X4 (ix3 b r k)
    = (lnVjp (x0 b r) (fun j => dsR x2 x3 x4 b r j * x1 j) k : EReal) := by
  have e1 := rs_at h b r
  have e2 := d_at h b r
  have e3 := sq_at h b r
  unfold val_main_v71 val_main_v70 val_main_v69 val_main_v68 val_main_v66 val_main_v65 val_main_v64 val_main_v63 val_main_v62 val_main_v56 val_main_v55 val_main_v54 val_main_v52 val_main_v51
  generalize val_main_v18 (F := Ideal) X0 = w at e1 ⊢
  generalize val_main_v46 (F := Ideal) X1 X2 X3 X4 = w at e2 ⊢
  generalize val_main_v61 (F := Ideal) X0 X1 X2 X3 X4 = w at e3 ⊢
  pointwise [val_main_v67, val_main_cst_14, val_main_cst_17, val_main_cst_18, val_main_cst_19]
  simp only [Fin.sum_univ_one, e1, e2, e3, lit_1024, ← EReal.coe_mul, ← EReal.coe_neg, coe_sum, ← EReal.coe_add, div_coe _ _ (by norm_num : (1024 : ℝ) ≠ 0), lnVjp, n1024]

/-- The gradient of the tokens, as rows of one matrix. -/
theorem out0 (b : Fin 2) (r : Fin 2048) (k : Fin 1024) : val_main_v72 (F := Ideal) X0 X1 X2 X3 X4 (ix2 (⟨b.val * 2048 + r.val, by omega⟩ : Fin 4096) k)
    = (lnBwd (x0 b r) (fun j => dsR x2 x3 x4 b r j * x1 j) k : EReal) := by
  rw [← lnVjp_eq _ _ (by norm_num : 1024 ≠ 0), ← row_at h b r k]
  exact Layout.rows_at _ _ rfl b r k
omit h in
/-- The sums over the batch and the rows. -/
theorem sum_rows (w : FVec Ideal S2x2048x1024 .f32) (k : Fin 1024) :
    broadcastInDim S1x1024 ![1] Gen.bcast_S1024_S1x1024_1 (Host.reduceAdd (shapeCast S1x1x1024 (Host.reduceAdd w (constant S_ FTy.f32 0#32)
      Gen.reducesTo_S2x2048x1024_S1024_d0_1 Gen.h_S_) Gen.shapeCasts_S1024_S1x1x1024) (constant S_ FTy.f32 0#32) Gen.reducesTo_S1x1x1024_S1024_d0_1 Gen.h_S_) (ix2 0 k)
      = ∑ b, ∑ r, w (ix3 b r k) := by
  pointwise
  rw [Layout.hostReduceAdd_r3_a01]
  refine (zero_add _).trans (Eq.trans (Finset.sum_congr rfl fun i _ => Finset.sum_congr rfl fun j _ =>
    (show _ = Host.reduceAdd (F := Ideal) w (constant S_ FTy.f32 0#32) Gen.reducesTo_S2x2048x1024_S1024_d0_1 Gen.h_S_ (ix1 k) by pointwise)) ?_)
  simp only [Fin.sum_univ_one]
  pointwise
  rw [Layout.hostReduceAdd_r3_a01, zero_add]
/-- The gradient of the norm's scale. -/
theorem out1 (k : Fin 1024) : val_main_v73 (F := Ideal) X0 X2 X3 X4 (ix2 0 k)
    = ((∑ b, ∑ r : Fin 2048, dsR x2 x3 x4 b r k * hat (x0 b r) k : ℝ) : EReal) := by
  refine (sum_rows (val_main_v42 (F := Ideal) X0 X2 X3 X4) k).trans ?_
  simp only [val_main_v42_apply, hat_at h, ds_at h, coe_sum, Ideal.mulf_def, ← EReal.coe_mul, mul_comm]
/-- The gradient of the norm's shift. -/
theorem out2 (k : Fin 1024) : val_main_v74 (F := Ideal) X2 X3 X4 (ix2 0 k) = ((∑ b, ∑ r : Fin 2048, dsR x2 x3 x4 b r k : ℝ) : EReal) := by
  refine (sum_rows (val_main_v38 (F := Ideal) X2 X3 X4) k).trans ?_
  simp only [ds_at h, coe_sum]
end Cert.Reference2Ideal.Tokens
-- ==== Proof.Finite.lean ====
module
public import proofs.«01_k».proof.Proof.Reals
public import Idealize.ShloMosaic.Lib.Pipeline.ValueKit
@[expose] public section
/-! # Reading a precondition that says an array is finite -/
noncomputable section
namespace Cert.Real
open Idealize.ShloMosaic

theorem inf_lit : Ideal.ofBits .f32 0x7F800000#32 = (⊤ : EReal) := by
  simp [Ideal.ofBits, Ideal.ieee]

/-- Where the absolute value is below infinity, the number is real. -/
theorem finite_at {s z : Shape} (x : FVec Ideal s .f32) (d : Fin z.rank → Fin s.rank) (hb : z.BroadcastsInDim s d)
    (h : cmpf .olt (Host.absf x) (broadcastInDim s d hb (constant z .f32 0x7F800000#32)) = fun _ => 1#1) (i : s.Idx) :
    ∃ r : ℝ, x i = (r : EReal) := by
  have h' : BitVec.ofBool (decide (max (x i) (-x i) < Ideal.ofBits .f32 0x7F800000#32)) = 1#1 := congrFun h i
  rw [inf_lit] at h'
  have hlt : max (x i) (-x i) < ⊤ := by
    by_contra hc
    rw [decide_eq_false hc] at h'
    exact absurd h' (by decide)
  refine ⟨(x i).toReal, (EReal.coe_toReal (ne_of_lt (lt_of_le_of_lt (le_max_left _ _) hlt)) fun hb => ?_).symm⟩
  exact absurd (lt_of_le_of_lt (le_max_right _ _) hlt) (by rw [hb]; simp)
end Cert.Real
-- ==== Proof.TokensClaim.lean ====
module
public import proofs.«01_k».proof.Defs
public import proofs.«01_k».proof.Proof.TokensReference
public import proofs.«01_k».proof.Proof.Finite
public import proofs.«01_k».proof.Proof.Gen.Pre_finite2
public import Idealize.ShloMosaic.Adequacy
public import Idealize.ShloMosaic.Init
@[expose] public section
/-! # The projection's gradient at the tokens: the claims -/
noncomputable section
namespace Cert.Proof.Tokens
open Idealize.ShloMosaic Idealize.SL.Sem Cert.Kernel2

theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The two programs end with equal results where every argument is finite. -/
theorem value : Cert.algebraic_Kernel2Ideal_Reference2Ideal_pre_finite2 := by
  intro m g m' g' hp hm
  have hx (c : Dev Cert.Kernel2Ideal.nD) : ∃ x0 x1 x2 x3 x4, Cert.Kernel2Ideal.Tokens.Args m c x0 x1 x2 x3 x4 := by
    obtain ⟨p0, p1, p2, p3, p4⟩ := hp c
    choose x0 h0 using Cert.Real.finite_at _ _ _ p0
    choose x1 h1 using Cert.Real.finite_at _ _ _ p1
    choose x2 h2 using Cert.Real.finite_at _ _ _ p2
    choose x3 h3 using Cert.Real.finite_at _ _ _ p3
    choose x4 h4 using Cert.Real.finite_at _ _ _ p4
    exact ⟨fun b i k => x0 (ix3 b i k), fun k => x1 (ix1 k), fun k j => x2 (ix2 k j), fun b i k => x3 (ix3 b i k), fun b i j => x4 (ix3 b i j),
      fun b i k => h0 _, fun k => h1 _, fun k j => h2 _, fun b i k => h3 _, fun b i j => h4 _⟩
  choose x0 x1 x2 x3 x4 hk using hx
  have hr (c) : Cert.Reference2Ideal.Tokens.Args _ _ _ _ _ (x0 c) (x1 c) (x2 c) (x3 c) (x4 c) := ⟨fun b i k => (congrFun (hm c).1 _).trans ((hk c).a0 b i k),
    fun k => (congrFun (hm c).2.1 _).trans ((hk c).a1 k), fun k j => (congrFun (hm c).2.2.1 _).trans ((hk c).a2 k j),
    fun b i k => (congrFun (hm c).2.2.2.1 _).trans ((hk c).a3 b i k), fun b i j => (congrFun (hm c).2.2.2.2 _).trans ((hk c).a4 b i j)⟩
  refine ⟨_, _, _, Cert.Kernel2Ideal.Value.run_blocks (F := Ideal) m g,
    (θ_run Cert.Reference2Ideal.defs _ _).mono (fun r h c => ?_) (Cert.Reference2Ideal.Value.run (F := Ideal) m' g')⟩
  obtain ⟨e0, e1, e2, ha⟩ := h c
  refine ⟨(e0.trans (Cert.Reference2Ideal.Read.val_main_v72_eq m' c)).trans (funext fun j => ?_), e1.trans (funext fun j => ?_), e2.trans (funext fun j => ?_), ha⟩
  · obtain ⟨b, p, k, rfl⟩ := Cert.Kernel2Ideal.Tokens.rows2 j
    exact (Cert.Reference2Ideal.Tokens.out0 (hr c) b p k).trans (Cert.Kernel2Ideal.Tokens.out9 (hk c) b p k).symm
  · obtain ⟨k, rfl⟩ := Cert.KernelIdeal.Head.idx1 j
    exact (Cert.Reference2Ideal.Tokens.out1 (hr c) k).trans (Cert.Kernel2Ideal.Tokens.out10 (hk c) k).symm
  · obtain ⟨k, rfl⟩ := Cert.KernelIdeal.Head.idx1 j
    exact (Cert.Reference2Ideal.Tokens.out2 (hr c) k).trans (Cert.Kernel2Ideal.Tokens.out11 (hk c) k).symm
end Cert.Proof.Tokens
-- ==== Proof.GlaModel.lean ====
module
public import proofs.«01_k».proof.Proof.Reals
@[expose] public section
/-! # One chunk of the gated linear attention over the real numbers

A chunk is 64 rows of one sequence; the 256 key columns and the 512 value columns are those of all four heads, one after another. -/
noncomputable section
namespace Cert.Gla
open scoped BigOperators

/-- Key column `d` of head `h`. -/
abbrev kc (h : Fin 4) (d : Fin 64) : Fin 256 := ⟨64 * h.val + d.val, by omega⟩
/-- Value column `e` of head `h`. -/
abbrev vc (h : Fin 4) (e : Fin 128) : Fin 512 := ⟨128 * h.val + e.val, by omega⟩
/-- The logarithm of the logistic function. -/
def lsig (z : ℝ) : ℝ := min z 0 - Real.log (1 + Real.exp (-|z|))
/-- The logistic function. -/
def sigm (x : ℝ) : ℝ := 1 / (1 + Real.exp (-x))

/-- The logarithm of a row's decay, zero at the rows in front. -/
def lg (p : Fin 64 → Prop) [DecidablePred p] (z : Fin 64 → Fin 256 → ℝ) (i : Fin 64) (k : Fin 256) : ℝ := if p i then lsig (z i k) / 16 else 0

section chunk
variable (l q k : Fin 64 → Fin 256 → ℝ) (v : Fin 64 → Fin 512 → ℝ)
def cum (i : Fin 64) (c : Fin 256) : ℝ := ∑ s, if s ≤ i then l s c else 0
def tot (c : Fin 256) : ℝ := ∑ s, l s c
def qe (i : Fin 64) (c : Fin 256) : ℝ := q i c * (1 / 8) * Real.exp (cum l i c)
def ke (i : Fin 64) (c : Fin 256) : ℝ := k i c * Real.exp (-cum l i c)
def kd (i : Fin 64) (c : Fin 256) : ℝ := k i c * Real.exp (tot l c - cum l i c)
/-- How row `i` of a head attends to row `s`. -/
def att (h : Fin 4) (i s : Fin 64) : ℝ := if s ≤ i then ∑ d, qe l q i (kc h d) * ke l k s (kc h d) else 0
/-- The attention's output, given the state before the chunk. -/
def out (S : Fin 4 → Fin 64 → Fin 128 → ℝ) (h : Fin 4) (i : Fin 64) (e : Fin 128) : ℝ :=
  ∑ s, att l q k h i s * v s (vc h e) + ∑ d, qe l q i (kc h d) * S h d e
/-- The state after the chunk. -/
def next (S : Fin 4 → Fin 64 → Fin 128 → ℝ) (h : Fin 4) (d : Fin 64) (e : Fin 128) : ℝ :=
  Real.exp (tot l (kc h d)) * S h d e + ∑ s, kd l k s (kc h d) * v s (vc h e)
end chunk
/-- A row of a head divided by its root mean square, times the gain and the gate. -/
def gated (o gn r : Fin 128 → ℝ) (e : Fin 128) : ℝ := o e * (√((∑ e', o e' * o e') / 128 + Cert.Real.eps))⁻¹ * gn e * (r e * sigm (r e))

theorem lsig_neg (z : ℝ) : -(max (-z) 0 + Real.log (1 + Real.exp (-|-z|))) = lsig z := by
  rw [abs_neg, lsig, neg_add, ← min_neg_neg, neg_neg, neg_zero]; ring

/-- Head `h`'s key columns among the 128 lanes that hold two heads. -/
theorem sum_half (f : Fin 256 → ℝ) (h : Fin 4) :
    ∑ l : Fin 128, (if l.val / 64 = h.val % 2 then f ⟨128 * (h.val / 2) + l.val, by omega⟩ else 0) = ∑ d : Fin 64, f (kc h d) := by
  rw [← Finset.sum_filter]
  refine Finset.sum_bij' (fun l _ => (⟨l.val % 64, Nat.mod_lt _ (by norm_num)⟩ : Fin 64))
    (fun d _ => (⟨64 * (h.val % 2) + d.val, by omega⟩ : Fin 128)) ?_ ?_ ?_ ?_ ?_
  · intro l _; exact Finset.mem_univ _
  · intro d _; rw [Finset.mem_filter]; exact ⟨Finset.mem_univ _, by show (64 * (h.val % 2) + d.val) / 64 = _; omega⟩
  · intro l hl; have := (Finset.mem_filter.1 hl).2; apply Fin.ext; show 64 * (h.val % 2) + l.val % 64 = l.val; omega
  · intro d _; apply Fin.ext; show (64 * (h.val % 2) + d.val) % 64 = d.val; omega
  · intro l hl; have := (Finset.mem_filter.1 hl).2; congr 1; apply Fin.ext; show 128 * (h.val / 2) + l.val = 64 * h.val + l.val % 64; omega

/-! ## The whole attention -/

/-- The arguments as real numbers. -/
structure Inp where
  (q k : Fin 2 → Fin 2064 → Fin 256 → ℝ)
  (v r : Fin 2 → Fin 2064 → Fin 512 → ℝ)
  (gd : Fin 2 → Fin 2064 → Fin 16 → ℝ)
  (gu : Fin 16 → Fin 256 → ℝ)
  (gb : Fin 256 → ℝ)
  (gn : Fin 128 → ℝ)

/-- Row `i` of chunk `n`, 48 rows of zeros standing before each sequence. -/
def pd {w : ℕ} (x : Fin 2 → Fin 2064 → Fin w → ℝ) (b : Fin 2) (n : ℕ) (i : Fin 64) (c : Fin w) : ℝ :=
  if H : 48 ≤ 64 * n + i.val ∧ 64 * n + i.val - 48 < 2064 then x b ⟨64 * n + i.val - 48, H.2⟩ c else 0

namespace Inp
variable (A : Inp) (b : Fin 2)
def z (n : ℕ) (i : Fin 64) (c : Fin 256) : ℝ := ∑ g, pd A.gd b n i g * A.gu g c + A.gb c
def l (n : ℕ) : Fin 64 → Fin 256 → ℝ := lg (fun i => 48 ≤ 64 * n + i.val) (A.z b n)
/-- The state before chunk `n`. -/
def st : ℕ → Fin 4 → Fin 64 → Fin 128 → ℝ
  | 0 => fun _ _ _ => 0
  | n + 1 => next (A.l b n) (pd A.k b n) (pd A.v b n) (st n)
/-- The attention's output at a row of chunk `n`. -/
def o (n : ℕ) (h : Fin 4) (i : Fin 64) (e : Fin 128) : ℝ := out (A.l b n) (pd A.q b n) (pd A.k b n) (pd A.v b n) (A.st b n) h i e
/-- The result at a row of chunk `n`. -/
def res (n : ℕ) (h : Fin 4) (i : Fin 64) (e : Fin 128) : ℝ := gated (A.o b n h i) A.gn (fun e => pd A.r b n i (vc h e)) e
end Inp

/-- Lane `l` of head `h` among the key columns. -/
abbrev ln (h : Fin 4) (l : Fin 128) : Fin 256 := ⟨128 * (h.val / 2) + l.val, by omega⟩
/-- A head's state in the lanes of two heads, transposed, the other head's half zero. -/
def lanes (S : Fin 64 → Fin 128 → ℝ) (h : Fin 4) (e l : Fin 128) : ℝ := if l.val / 64 = h.val % 2 then S ⟨l.val % 64, Nat.mod_lt _ (by norm_num)⟩ e else 0

/-- Only the first 16 of 128 terms. -/
theorem sum_16 (a : Fin 16 → ℝ) : ∑ g : Fin 128, (if H : g.val < 16 then a ⟨g.val, H⟩ else 0) = ∑ g, a g := by
  rw [show ∑ g : Fin 128, (if H : g.val < 16 then a ⟨g.val, H⟩ else 0) = ∑ g : Fin (16 + 112), (if H : g.val < 16 then a ⟨g.val, H⟩ else 0) from rfl, Fin.sum_univ_add]
  simp

end Cert.Gla
-- ==== Proof.GlaChunk.lean ====
module
public import proofs.«01_k».proof.Proof.Layout
public import proofs.«01_k».proof.Proof.Reals
public import proofs.«01_k».proof.Proof.GlaModel
public import proofs.«01_k».proof.Proof.Gen.Kernel3Ideal.Value
public import proofs.«01_k».proof.Proof.Gen.Kernel3Ideal
@[expose] public section
set_option maxRecDepth 16384
/-! # What the attention's kernel does with one chunk -/
noncomputable section
namespace Cert.Kernel3Ideal.Gla
open Cert.Kernel3Ideal Cert.Kernel3Ideal.Gen Idealize.ShloMosaic Idealize.ShloMosaic.TcCoe Cert.Real Cert.Gla

theorem lit_16 : Ideal.ofBits .f32 0x3D800000#32 = ((1 / 16 : ℝ) : EReal) := by
  simp [Ideal.ofBits, Ideal.ieee, -EReal.coe_mul]; norm_num
theorem lit_8 : Ideal.ofBits .f32 0x3E000000#32 = ((1 / 8 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_0 : Ideal.ofBits .f32 0#32 = ((0 : ℝ) : EReal) := by
  simp [Ideal.ofBits, Ideal.ieee, -EReal.coe_mul]

theorem sel_ite (c : Prop) [Decidable c] (a b : EReal) : Scalar.select (if c then 1#1 else 0#1) a b = if c then a else b := by
  split_ifs <;> rfl
theorem ge_eq : ∀ i s : Fin 64, IntOp.cmpi CmpIPredicate.sge (BitVec.ofNat 32 i) (BitVec.ofNat 32 s) = if s ≤ i then 1#1 else 0#1 := by decide +kernel
theorem hi_eq : ∀ l : Fin 128, IntOp.cmpi CmpIPredicate.sge (BitVec.ofNat 32 l) 64#32 = if l.val / 64 = 1 then 1#1 else 0#1 := by decide +kernel
theorem lo_eq : ∀ l : Fin 128, IntOp.cmpi CmpIPredicate.slt (BitVec.ofNat 32 l) 64#32 = if l.val / 64 = 0 then 1#1 else 0#1 := by decide +kernel
theorem coe_ite (c : Prop) [Decidable c] (a b : ℝ) : (if c then ((a : ℝ) : EReal) else ((b : ℝ) : EReal)) = (((if c then a else b) : ℝ) : EReal) := by
  split_ifs <;> rfl

theorem coe_lsig (x : ℝ) : min (x : EReal) 0 - Ideal.log (1 + Ideal.exp (0 - ((|x| : ℝ) : EReal))) = ((lsig x : ℝ) : EReal) := by
  have h : (0 : ℝ) < 1 + Real.exp (-|x|) := by positivity
  have e : (1 : EReal) + Ideal.exp (0 - ((|x| : ℝ) : EReal)) = ((1 + Real.exp (-|x|) : ℝ) : EReal) := by
    rw [zero_sub, ← EReal.coe_neg, Ideal.exp_coe, EReal.coe_add, EReal.coe_one]
  rw [e, lsig, EReal.coe_sub]
  congr 1
  rw [Ideal.log_coe, if_neg (not_le.2 h)]
theorem coe_sigm (x : ℝ) : Ideal.div 1 (1 + Ideal.exp (0 - (x : EReal))) = ((sigm x : ℝ) : EReal) := by
  have h : (1 : ℝ) + Real.exp (-x) ≠ 0 := by positivity
  have e : (1 : EReal) + Ideal.exp (0 - (x : EReal)) = ((1 + Real.exp (-x) : ℝ) : EReal) := by
    rw [zero_sub, ← EReal.coe_neg, Ideal.exp_coe, EReal.coe_add, EReal.coe_one]
  rw [e, ← EReal.coe_one, div_coe _ _ h]; rfl

/-! ## A chunk's operations, one function for each -/
variable {z : FVec Ideal S64x256 .f32} {mk : IVec S64x1 1} {lv cv qv kv : FVec Ideal S64x256 .f32}
  {p : Fin 64 → Prop} [DecidablePred p] {zr lr cr qr kr : Fin 64 → Fin 256 → ℝ}

abbrev lgV (z : FVec Ideal S64x256 .f32) (mk : IVec S64x1 1) : FVec Ideal S64x256 .f32 := k0_pay19 z mk
abbrev cumV (z : FVec Ideal S64x256 .f32) (mk : IVec S64x1 1) : FVec Ideal S64x256 .f32 :=
  k0_pay37 k0_pay8 (k0_pay31 z mk) (k0_pay34 k0_pay8 z mk)

theorem lg_at (hz : ∀ i k, z (ix2 i k) = (zr i k : EReal)) (hm : ∀ i, mk (ix2 i 0) = if p i then 1#1 else 0#1) (i : Fin 64) (k : Fin 256) :
    lgV z mk (ix2 i k) = ((lg p zr i k : ℝ) : EReal) := by
  pointwise [lgV, k0_pay19]
  simp only [hz, hm, sel_ite]
  have e : FloatOps.absf (F := Ideal) (φ := .f32) (zr i k : EReal) = ((|zr i k| : ℝ) : EReal) := rfl
  rw [e, coe_lsig, lit_16, ← EReal.coe_mul, ← EReal.coe_zero, coe_ite, lg, one_div, div_eq_mul_inv]
theorem tri_at (i s : Fin 64) : k0_pay8 (F := Ideal) (ix2 i s) = (((if s ≤ i then 1 else 0) : ℝ) : EReal) := by
  pointwise [k0_pay8]
  rw [ge_eq]
  split_ifs
  · exact congrArg Real.toEReal (by simp : (((1#32 : BitVec 32).toInt : ℤ) : ℝ) = 1)
  · exact congrArg Real.toEReal (by simp : (((0#32 : BitVec 32).toInt : ℤ) : ℝ) = 0)
theorem cum_at (hl : ∀ i k, lgV z mk (ix2 i k) = (lr i k : EReal)) (i : Fin 64) (k : Fin 256) :
    cumV z mk (ix2 i k) = ((cum lr i k : ℝ) : EReal) := by
  pointwise [cumV, k0_pay37, k0_pay34, k0_pay31, k0_pay30, k0_pay29, k0_pay28]
  simp only [hl, tri_at, ← EReal.coe_mul, ← EReal.coe_sub, coe_sum, ← EReal.coe_add, cum]
  congr 1
  simp
theorem tot_at (hl : ∀ i k, lv (ix2 i k) = (lr i k : EReal)) (k : Fin 256) : k0_pay53 lv (ix2 0 k) = ((Real.exp (tot lr k) : ℝ) : EReal) := by
  pointwise [k0_pay53, k0_pay51]
  simp only [hl, coe_sum, tot, Ideal.exp_coe]
theorem qe_at (hc : ∀ i k, cv (ix2 i k) = (cum lr i k : EReal)) (hq : ∀ i k, qv (ix2 i k) = (qr i k : EReal)) (i : Fin 64) (k : Fin 256) :
    k0_pay54 cv qv (ix2 i k) = ((qe lr qr i k : ℝ) : EReal) := by
  pointwise [k0_pay54]
  simp only [hc, hq, lit_8, Ideal.exp_coe, ← EReal.coe_mul, qe]
theorem ke_at (hc : ∀ i k, cv (ix2 i k) = (cum lr i k : EReal)) (hk : ∀ i k, kv (ix2 i k) = (kr i k : EReal)) (i : Fin 64) (k : Fin 256) :
    k0_pay55 cv kv (ix2 i k) = ((ke lr kr i k : ℝ) : EReal) := by
  pointwise [k0_pay55, k0_pay52]
  simp only [hc, hk, zero_sub, ← EReal.coe_neg, Ideal.exp_coe, ← EReal.coe_mul, ke]
theorem kd_at (hl : ∀ i k, lv (ix2 i k) = (lr i k : EReal)) (hc : ∀ i k, cv (ix2 i k) = (cum lr i k : EReal))
    (hk : ∀ i k, kv (ix2 i k) = (kr i k : EReal)) (i : Fin 64) (k : Fin 256) :
    k0_pay56 lv cv kv (ix2 i k) = ((kd lr kr i k : ℝ) : EReal) := by
  pointwise [k0_pay56, k0_pay51, k0_pay52]
  simp only [hl, hc, hk, coe_sum, ← EReal.coe_sub, Ideal.exp_coe, ← EReal.coe_mul, kd, tot]

/-! ## One head of a chunk -/
/-- Head `h`'s half of its 128 lanes. -/
def qeH (x : FVec Ideal S64x256 .f32) : Fin 4 → FVec Ideal S64x128 .bf16
  | 0 => k0_pay102 x | 1 => k0_pay108 x | 2 => k0_pay113 x | 3 => k0_pay118 x
/-- Head `h`'s 128 lanes, those of the other head too. -/
def keH (x : FVec Ideal S64x256 .f32) : Fin 4 → FVec Ideal S64x128 .bf16
  | 0 => k0_pay105 x | 1 => k0_pay110 x | 2 => k0_pay115 x | 3 => k0_pay120 x
/-- A head's state after the chunk. -/
def nextH (gam : FVec Ideal S1x256 .f32) (kdh vh : FVec Ideal S64x128 .bf16) (S : FVec Ideal S128x128 .f32) : Fin 4 → FVec Ideal S128x128 .f32
  | 0 | 1 => k0_pay164 gam (k0_pay142 kdh vh) S
  | 2 | 3 => k0_pay168 gam (k0_pay142 kdh vh) S
abbrev trilV : IVec S64x64 1 := k0_pay57 (iota .tc S64x64 32 [0] iota_S64x64_d0_w32) (iota .tc S64x64 32 [1] iota_S64x64_d1_w32)
abbrev outH (qh kh vh : FVec Ideal S64x128 .bf16) (S : FVec Ideal S128x128 .f32) : FVec Ideal S64x128 .f32 :=
  k0_pay163 qh (k0_pay130 vh (k0_pay122 trilV qh kh)) S

theorem qeH_at (hx : ∀ i k, qv (ix2 i k) = (qr i k : EReal)) (h : Fin 4) (i : Fin 64) (l : Fin 128) :
    qeH qv h (ix2 i l) = (((if l.val / 64 = h.val % 2 then qr i (ln h l) else 0) : ℝ) : EReal) := by
  rw [← coe_ite, ← hx]
  match h with
  | 0 => simp only [qeH]; pointwise [k0_pay102, k0_pay101]; simp [lo_eq, sel_ite, ln]
  | 1 => simp only [qeH]; pointwise [k0_pay108, k0_pay107]; simp [hi_eq, sel_ite, ln]
  | 2 => simp only [qeH]; pointwise [k0_pay113, k0_pay112]; simp [lo_eq, sel_ite, ln]
  | 3 => simp only [qeH]; pointwise [k0_pay118, k0_pay117]; simp [hi_eq, sel_ite, ln]
theorem keH_at (hx : ∀ i k, kv (ix2 i k) = (kr i k : EReal)) (h : Fin 4) (i : Fin 64) (l : Fin 128) :
    keH kv h (ix2 i l) = ((kr i (ln h l) : ℝ) : EReal) := by
  rw [← hx]
  match h with
  | 0 => simp only [keH]; pointwise [k0_pay105]; simp [ln]
  | 1 => simp only [keH]; pointwise [k0_pay110]; simp [ln]
  | 2 => simp only [keH]; pointwise [k0_pay115]; simp [ln]
  | 3 => simp only [keH]; pointwise [k0_pay120]; simp [ln]

variable {qh kh kdh vh : FVec Ideal S64x128 .bf16} {S : FVec Ideal S128x128 .f32} {gam : FVec Ideal S1x256 .f32} {vr : Fin 64 → Fin 512 → ℝ}
  {Sr : Fin 4 → Fin 64 → Fin 128 → ℝ} {h : Fin 4}

/-- The half of the lanes that is zero adds nothing to a sum over them. -/
theorem half (h : Fin 4) (f : Fin 256 → ℝ) (g : Fin 128 → ℝ) (g' : Fin 64 → ℝ) (hg : ∀ d : Fin 64, g ⟨64 * (h.val % 2) + d.val, by omega⟩ = g' d) :
    ∑ l : Fin 128, (if l.val / 64 = h.val % 2 then f (ln h l) else 0) * g l = ∑ d : Fin 64, f (kc h d) * g' d := by
  rw [← sum_half (fun c => f c * g' ⟨c.val % 64, Nat.mod_lt _ (by norm_num)⟩) h |>.trans (Finset.sum_congr rfl fun d _ => by
    congr 2; apply Fin.ext; show (64 * h.val + d.val) % 64 = d.val; omega)]
  refine Finset.sum_congr rfl fun l _ => ?_
  split_ifs with hl
  · rw [← hg]; congr 2; apply Fin.ext; show l.val = 64 * (h.val % 2) + (128 * (h.val / 2) + l.val) % 64; omega
  · exact zero_mul _

theorem out_at (hq : ∀ i l, qh (ix2 i l) = (((if l.val / 64 = h.val % 2 then qe lr qr i (ln h l) else 0) : ℝ) : EReal))
    (hk : ∀ i l, kh (ix2 i l) = ((ke lr kr i (ln h l) : ℝ) : EReal)) (hv : ∀ i e, vh (ix2 i e) = ((vr i (vc h e) : ℝ) : EReal))
    (hS : ∀ e l, S (ix2 e l) = ((lanes (Sr h) h e l : ℝ) : EReal)) (i : Fin 64) (e : Fin 128) :
    outH qh kh vh S (ix2 i e) = ((out lr qr kr vr Sr h i e : ℝ) : EReal) := by
  pointwise [outH, k0_pay163, k0_pay130, k0_pay122, k0_pay57]
  simp only [ge_eq, sel_ite, hq, hk, hv, hS, ← EReal.coe_mul, coe_sum]
  rw [half h _ _ (fun d => Sr h d e) fun d => (if_pos (by show (64 * (h.val % 2) + d.val) / 64 = _; omega)).trans (congrArg (Sr h · e) (Fin.ext (by show (64 * (h.val % 2) + d.val) % 64 = d.val; omega)))]
  simp only [half h _ (fun l => ke lr kr _ (ln h l)) (fun d => ke lr kr _ (kc h d)) fun d => congrArg (ke lr kr _) (Fin.ext (by show 128 * (h.val / 2) + (64 * (h.val % 2) + d.val) = 64 * h.val + d.val; omega))]
  simp only [← EReal.coe_zero, coe_ite, coe_sum, ← EReal.coe_add, out, att, ite_mul, zero_mul]
theorem next_at (hg : ∀ c, gam (ix2 0 c) = ((Real.exp (tot lr c) : ℝ) : EReal))
    (hk : ∀ i l, kdh (ix2 i l) = (((if l.val / 64 = h.val % 2 then kd lr kr i (ln h l) else 0) : ℝ) : EReal)) (hv : ∀ i e, vh (ix2 i e) = ((vr i (vc h e) : ℝ) : EReal))
    (hS : ∀ e l, S (ix2 e l) = ((lanes (Sr h) h e l : ℝ) : EReal)) (e l : Fin 128) :
    nextH gam kdh vh S h (ix2 e l) = ((lanes (next lr kr vr Sr h) h e l : ℝ) : EReal) := by
  have key : nextH gam kdh vh S h (ix2 e l) = S (ix2 e l) * gam (ix2 0 (ln h l)) + ∑ s, vh (ix2 s e) * kdh (ix2 s l) := by
    match h with
    | 0 => simp only [nextH]; pointwise [k0_pay164, k0_pay142]; simp [ln]
    | 1 => simp only [nextH]; pointwise [k0_pay164, k0_pay142]; simp [ln]
    | 2 => simp only [nextH]; pointwise [k0_pay168, k0_pay142]; simp [ln]
    | 3 => simp only [nextH]; pointwise [k0_pay168, k0_pay142]; simp [ln]
  rw [key, hS, hg]
  simp only [hk, hv, ← EReal.coe_mul, coe_sum, ← EReal.coe_add, lanes]
  congr 1
  split_ifs with hl
  · have e1 : ln h l = kc h ⟨l.val % 64, Nat.mod_lt _ (by norm_num)⟩ := by apply Fin.ext; show 128 * (h.val / 2) + l.val = 64 * h.val + l.val % 64; omega
    rw [e1, next, mul_comm]; congr 1; exact Finset.sum_congr rfl fun s _ => mul_comm _ _
  · simp
theorem gated_at {o r : FVec Ideal S64x128 .f32} {gn : FVec Ideal S1x128 .f32} {orr rr gr : Fin 128 → ℝ} {i : Fin 64} (ho : ∀ e, o (ix2 i e) = (orr e : EReal))
    (hr : ∀ e, r (ix2 i e) = (rr e : EReal)) (hg : ∀ e, gn (ix2 0 e) = (gr e : EReal)) (e : Fin 128) :
    k0_pay165 o r gn (ix2 i e) = ((gated orr gr rr e : ℝ) : EReal) := by
  pointwise [k0_pay165]
  simp only [ho, hr, hg, lit_128, lit_eps, ← EReal.coe_mul, coe_sum, div_coe _ _ (by norm_num : (128 : ℝ) ≠ 0), ← EReal.coe_add,
    rsqrt_coe_pos _ (var_eps_pos orr 128 (by norm_num)), coe_sigm, gated]
theorem z_at {gu : FVec Ideal S128x256 .bf16} {bi : FVec Ideal S1x256 .f32} {gd : FVec Ideal S64x128 .f32} {gur : Fin 128 → Fin 256 → ℝ} {bir : Fin 256 → ℝ} {gdr : Fin 64 → Fin 128 → ℝ}
    (h1 : ∀ g c, gu (ix2 g c) = (gur g c : EReal)) (h2 : ∀ c, bi (ix2 0 c) = (bir c : EReal)) (h3 : ∀ i g, gd (ix2 i g) = (gdr i g : EReal)) (i : Fin 64) (c : Fin 256) :
    k0_pay11 (F := Ideal) gu bi gd (ix2 i c) = ((∑ g, gdr i g * gur g c + bir c : ℝ) : EReal) := by
  pointwise [k0_pay11, k0_pay7, k0_pay6]
  simp only [h1, h2, h3, ← EReal.coe_mul, coe_sum, ← EReal.coe_add]
end Cert.Kernel3Ideal.Gla
-- ==== Proof.Running.lean ====
module
public import proofs.«01_k».proof.Proof.Layout
@[expose] public section
/-! # Padding four axes, and running sums -/
noncomputable section
namespace Cert.Layout
open Idealize.ShloMosaic
variable {α : Type} {u : Shape}

/-- Rows in front of the second of four axes. -/
theorem pad4_at {a b c d b' l : ℕ} (x : (⟨4, ![a, b, c, d]⟩ : Shape).Idx → α) (v : u.Idx → α)
    (hp : (⟨4, ![a, b, c, d]⟩ : Shape).Pads ![0, l, 0, 0] ![0, 0, 0, 0] ![0, 0, 0, 0] ⟨4, ![a, b', c, d]⟩) (hu : 0 < u.numel) (hb : b' = l + b)
    (i : Fin a) (j : Fin b') (k : Fin c) (m : Fin d) :
    pad ⟨4, ![a, b', c, d]⟩ ![0, l, 0, 0] ![0, 0, 0, 0] ![0, 0, 0, 0] x v hp hu (ix4 i j k m)
      = if H : l ≤ j.val then x (ix4 i (⟨j - l, by omega⟩ : Fin b) k m) else v (Shape.Idx.first hu) := by
  split_ifs with H
  · refine pad_apply_of_inside _ _ _ x v hp hu _ _ fun e => ?_
    match e with
    | ⟨0, _⟩ => show i.val = 0 + i.val * (0 + 1); omega
    | ⟨1, _⟩ => show j.val = l + (j.val - l) * (0 + 1); omega
    | ⟨2, _⟩ => show k.val = 0 + k.val * (0 + 1); omega
    | ⟨3, _⟩ => show m.val = 0 + m.val * (0 + 1); omega
  · exact pad_apply_of_not_inside _ _ _ x v hp hu _ (1 : Fin 4) fun hin => H hin.1

/-- Adding up a list from a start. -/
theorem foldl_sum {ι : Type} (g : ι → EReal) : ∀ (L : List ι) (v : EReal), L.foldl (fun r n => r + g n) v = v + (L.map g).sum
  | [], v => by simp
  | a :: L, v => by rw [List.foldl_cons, foldl_sum g L, List.map_cons, List.sum_cons, add_assoc]

abbrev W64 : Shape := ⟨5, ![1, 1, 1, 64, 1]⟩
theorem numel64 : W64.numel = 64 := by decide +kernel
theorem symm64 : ∀ (n : Fin 64) , (W64.rowMajor.symm (n.cast numel64.symm) 3).val = n.val := by decide +kernel

/-- The terms up to row `j`, in the order that a window of 64 rows meets them. -/
theorem sum_window (f : Fin 64 → EReal) (j : Fin 64) :
    ∑ n : Fin 64, (if H : 63 ≤ j.val + n.val then f ⟨j.val + n.val - 63, by omega⟩ else 0) = ∑ s, if s ≤ j then f s else 0 := by
  refine Fintype.sum_equiv (Equiv.addLeft (j + 1)) _ _ fun n => ?_
  have hv : ((Equiv.addLeft (j + 1)) n).val = (j.val + 1 + n.val) % 64 := by
    show (j + 1 + n).val = _
    simp only [Fin.val_add]
    have : ((1 : Fin 64)).val = 1 := rfl
    omega
  by_cases H : 63 ≤ j.val + n.val
  · rw [dif_pos H, if_pos (by rw [Fin.le_def, hv]; omega)]
    exact congrArg f (Fin.ext (by rw [hv]; show j.val + n.val - 63 = _; omega))
  · rw [dif_neg H, if_neg (by rw [Fin.le_def, hv]; omega)]

/-- A running sum along the fourth of five axes. -/
theorem cumsum_at {a b c d : ℕ} (x : (⟨5, ![a, b, c, 64, d]⟩ : Shape).Idx → EReal) (init : u.Idx → EReal) (hu : 0 < u.numel) (hi : init (Shape.Idx.first hu) = 0)
    (h : (⟨5, ![a, b, c, 64, d]⟩ : Shape).ReduceWindows (![1, 1, 1, 64, 1] : Fin 5 → ℕ) ![1, 1, 1, 1, 1] ![0, 0, 0, 63, 0] ![0, 0, 0, 0, 0] ⟨5, ![a, b, c, 64, d]⟩)
    (i0 : Fin a) (i1 : Fin b) (i2 : Fin c) (j : Fin 64) (k : Fin d) :
    Host.reduceWindow (· + ·) ![1, 1, 1, 64, 1] ![1, 1, 1, 1, 1] ![0, 0, 0, 63, 0] ![0, 0, 0, 0, 0] x init h hu (ix5 i0 i1 i2 j k)
      = ∑ s, if s ≤ j then x (ix5 i0 i1 i2 s k) else 0 := by
  unfold Host.reduceWindow
  refine (foldl_sum _ _ _).trans ?_
  rw [hi, zero_add, ← Fin.sum_univ_def, ← sum_window (fun s => x (ix5 i0 i1 i2 s k)) j]
  refine Fintype.sum_equiv (finCongr numel64) _ _ fun n => ?_
  have h3 : (W64.rowMajor.symm n 3).val = n.val := symm64 (n.cast numel64)
  have h0 : (W64.rowMajor.symm n 0).val = 0 := Nat.lt_one_iff.mp (W64.rowMajor.symm n 0).isLt
  have h1 : (W64.rowMajor.symm n 1).val = 0 := Nat.lt_one_iff.mp (W64.rowMajor.symm n 1).isLt
  have h2 : (W64.rowMajor.symm n 2).val = 0 := Nat.lt_one_iff.mp (W64.rowMajor.symm n 2).isLt
  have h4 : (W64.rowMajor.symm n 4).val = 0 := Nat.lt_one_iff.mp (W64.rowMajor.symm n 4).isLt
  have hn : n.val < 64 := lt_of_lt_of_eq n.isLt numel64
  have hj := j.isLt
  dsimp only
  split
  · next hin =>
    have q := hin 3
    change 63 ≤ j.val * 1 + (W64.rowMajor.symm n 3).val ∧ j.val * 1 + (W64.rowMajor.symm n 3).val - 63 < 64 at q
    rw [h3] at q
    rw [dif_pos (show 63 ≤ j.val + ((finCongr numel64) n).val by show 63 ≤ j.val + n.val; omega)]
    refine congrArg x (funext fun e => Fin.ext ?_)
    match e with
    | ⟨0, _⟩ => show i0.val * 1 + (W64.rowMajor.symm n 0).val - 0 = i0.val; omega
    | ⟨1, _⟩ => show i1.val * 1 + (W64.rowMajor.symm n 1).val - 0 = i1.val; omega
    | ⟨2, _⟩ => show i2.val * 1 + (W64.rowMajor.symm n 2).val - 0 = i2.val; omega
    | ⟨3, _⟩ => show j.val * 1 + (W64.rowMajor.symm n 3).val - 63 = j.val + n.val - 63; omega
    | ⟨4, _⟩ => show k.val * 1 + (W64.rowMajor.symm n 4).val - 0 = k.val; omega
  · next hin =>
    have hlt : ¬ 63 ≤ j.val + n.val := fun hle => hin fun e => by
      match e with
      | ⟨0, _⟩ => show 0 ≤ i0.val * 1 + (W64.rowMajor.symm n 0).val ∧ i0.val * 1 + (W64.rowMajor.symm n 0).val - 0 < a; omega
      | ⟨1, _⟩ => show 0 ≤ i1.val * 1 + (W64.rowMajor.symm n 1).val ∧ i1.val * 1 + (W64.rowMajor.symm n 1).val - 0 < b; omega
      | ⟨2, _⟩ => show 0 ≤ i2.val * 1 + (W64.rowMajor.symm n 2).val ∧ i2.val * 1 + (W64.rowMajor.symm n 2).val - 0 < c; omega
      | ⟨3, _⟩ => show 63 ≤ j.val * 1 + (W64.rowMajor.symm n 3).val ∧ j.val * 1 + (W64.rowMajor.symm n 3).val - 63 < 64; omega
      | ⟨4, _⟩ => show 0 ≤ k.val * 1 + (W64.rowMajor.symm n 4).val ∧ k.val * 1 + (W64.rowMajor.symm n 4).val - 0 < d; omega
    rw [dif_neg (show ¬ 63 ≤ j.val + ((finCongr numel64) n).val from hlt)]
end Cert.Layout
-- ==== Proof.GlaReference.lean ====
module
public import proofs.«01_k».proof.Proof.GlaChunk
public import proofs.«01_k».proof.Proof.Running
public import proofs.«01_k».proof.Proof.Gen.Reference3Ideal.Run
public import proofs.«01_k».proof.Proof.Gen.Reference3Ideal.Read
@[expose] public section
set_option maxRecDepth 16384
/-! # The attention's reference: the chunks -/
noncomputable section
namespace Cert.Reference3Ideal.Gla
open Cert.Reference3Ideal Cert.Reference3Ideal.Read Idealize.ShloMosaic Idealize.ShloMosaic.TcCoe Cert.Real Cert.Gla
open Cert.Kernel3Ideal.Gla (lit_16 lit_8 lit_128 lit_1 lit_0 ge_eq sel_ite coe_ite coe_lsig coe_sigm)

/-- The arguments as real numbers. -/
structure Args (X1 X2 : (⟨S2x2064x256, .f32⟩ : BufTy).Contents (Elt Ideal)) (X3 X4 : (⟨S2x2064x512, .f32⟩ : BufTy).Contents (Elt Ideal))
    (X5 : (⟨S2x2064x16, .f32⟩ : BufTy).Contents (Elt Ideal)) (X6 : (⟨S16x256, .f32⟩ : BufTy).Contents (Elt Ideal))
    (X7 : (⟨S256, .f32⟩ : BufTy).Contents (Elt Ideal)) (X8 : (⟨S128, .f32⟩ : BufTy).Contents (Elt Ideal)) (A : Inp) : Prop where
  a1 : ∀ b i k, X1 (ix3 b i k) = (A.q b i k : EReal)
  a2 : ∀ b i k, X2 (ix3 b i k) = (A.k b i k : EReal)
  a3 : ∀ b i k, X3 (ix3 b i k) = (A.v b i k : EReal)
  a4 : ∀ b i k, X4 (ix3 b i k) = (A.r b i k : EReal)
  a5 : ∀ b i k, X5 (ix3 b i k) = (A.gd b i k : EReal)
  a6 : ∀ i k, X6 (ix2 i k) = (A.gu i k : EReal)
  a7 : ∀ k, X7 (ix1 k) = (A.gb k : EReal)
  a8 : ∀ k, X8 (ix1 k) = (A.gn k : EReal)

variable {X1 X2 : (⟨S2x2064x256, .f32⟩ : BufTy).Contents (Elt Ideal)} {X3 X4 : (⟨S2x2064x512, .f32⟩ : BufTy).Contents (Elt Ideal)}
    {X5 : (⟨S2x2064x16, .f32⟩ : BufTy).Contents (Elt Ideal)} {X6 : (⟨S16x256, .f32⟩ : BufTy).Contents (Elt Ideal)}
    {X7 : (⟨S256, .f32⟩ : BufTy).Contents (Elt Ideal)} {X8 : (⟨S128, .f32⟩ : BufTy).Contents (Elt Ideal)} {A : Inp} (h : Args X1 X2 X3 X4 X5 X6 X7 X8 A)

theorem zeroI_apply (i : S_.Idx) : sitofp (F := Ideal) FTy.f32 (constantI S_ 32 0#32) i = 0 := by
  show (((0#32 : BitVec 32).toInt : ℝ) : EReal) = 0
  simp

theorem lit_sixteen : Ideal.ofBits .f32 0x41800000#32 = ((16 : ℝ) : EReal) := by
  simp [Ideal.ofBits, Ideal.ieee, -EReal.coe_mul]; norm_num
/-- The padded rows of an argument's columns, by chunks. -/
theorem pad_eq {w : ℕ} {x : Fin 2 → Fin 2064 → Fin w → ℝ} {F : Fin 2064 → EReal} {b : Fin 2} {n : Fin 33} {i : Fin 64} {c : Fin w} (hF : ∀ r, F r = (x b r c : EReal)) :
    (if H : 48 ≤ 64 * n.val + i.val then F ⟨64 * n.val + i.val - 48, by omega⟩ else 0) = ((pd x b n i c : ℝ) : EReal) := by
  unfold pd
  split_ifs with h1 h2 h2
  · exact hF _
  all_goals first | omega | rfl

include h
theorem z_at (b : Fin 2) (i : Fin 2064) (k : Fin 256) : val_main_v3 (F := Ideal) X5 X6 X7 (ix3 b i k) = ((∑ g, A.gd b i g * A.gu g k + A.gb k : ℝ) : EReal) := by
  pointwise [val_main_v3, val_main_v0, val_main_v1, val_main_v2]
  simp only [h.a5, h.a6, h.a7, ← EReal.coe_mul, coe_sum, ← EReal.coe_add]
theorem lg_at (b : Fin 2) (i : Fin 2064) (k : Fin 256) : val_main_v6 (F := Ideal) X5 X6 X7 (ix3 b i k) = ((lsig (∑ g, A.gd b i g * A.gu g k + A.gb k) / 16 : ℝ) : EReal) := by
  have e := z_at h b i k
  generalize hz : (∑ g, A.gd b i g * A.gu g k + A.gb k) = z at e ⊢
  unfold val_main_v6 val_main_v4 val_main_call0_v1 val_main_call0_call0_v4 val_main_call0_call0_v6 val_main_call0_call0_v11 val_main_call0_call0_v1 val_main_call0_call0_v10 val_main_call0_call0_v9
    val_main_call0_call0_v8 val_main_call0_call0_v7 val_main_call0_call0_v3 val_main_call0_v0
  generalize val_main_v3 (F := Ideal) X5 X6 X7 = w at e ⊢
  pointwise [val_main_v5, val_main_cst, val_main_call0_call0_v0, val_main_call0_call0_v2, val_main_call0_call0_v5, val_main_call0_call0_cst]
  have e1 : FloatOps.absf (F := Ideal) (φ := .f32) (-(z : EReal)) = ((|-z| : ℝ) : EReal) := by rw [← EReal.coe_neg]; rfl
  have hp : (0 : ℝ) < 1 + Real.exp (-|-z|) := by positivity
  have e2 : Ideal.log1p (Ideal.exp (-((|-z| : ℝ) : EReal))) = ((Real.log (1 + Real.exp (-|-z|)) : ℝ) : EReal) := by
    rw [← EReal.coe_neg, Ideal.exp_coe, show ∀ x : EReal, Ideal.log1p x = Ideal.log (1 + x) from fun _ => rfl, ← EReal.coe_one, ← EReal.coe_add, Ideal.log_coe, if_neg (not_le.2 hp)]
  rw [e, e1, e2, if_neg (not_not.2 rfl), lit_sixteen, ← EReal.coe_zero, ← EReal.coe_neg, ← EReal.coe_strictMono.monotone.map_max, ← EReal.coe_add, ← EReal.coe_neg,
    div_coe _ _ (by norm_num : (16 : ℝ) ≠ 0), lsig_neg]

/-- The padded rows of the queries, by chunks. -/
theorem q_at (b : Fin 2) (hh : Fin 4) (n : Fin 33) (i : Fin 64) (d : Fin 64) : val_main_v16 (F := Ideal) X1 (ix5 b hh n i d) = ((pd A.q b n i (kc hh d) : ℝ) : EReal) := by
  have e : val_main_v16 (F := Ideal) X1 (ix5 b hh n i d) = val_main_v11 (F := Ideal) X1 (ix4 b (⟨64 * n.val + i.val, by omega⟩ : Fin 2112) hh d) := by
    unfold val_main_v16 val_main_v15
    generalize val_main_v11 (F := Ideal) X1 = w
    pointwise
    exact congrArg w (congrArg (ix4 b · hh d) (Fin.ext (by dsimp only; omega)))
  have e1 (r : Fin 2064) : val_main_v7 (F := Ideal) X1 (ix4 b r hh d) = X1 (ix3 b r (kc hh d)) := by
    pointwise [val_main_v7]
    exact congrArg X1 (congrArg (ix3 b r) (Fin.ext (by dsimp only; omega)))
  rw [e]
  refine (Layout.pad4_at _ _ _ _ rfl _ _ _ _).trans (Eq.trans ?_ (pad_eq (F := fun r => X1 (ix3 b r (kc hh d))) fun r => h.a1 b r _))
  simp only [e1, show val_main_call1_v0 (F := Ideal) (Shape.Idx.first Gen.h_S_) = 0 from zeroI_apply _]
/-- The keys. -/
theorem k_at (b : Fin 2) (hh : Fin 4) (n : Fin 33) (i : Fin 64) (d : Fin 64) : val_main_v18 (F := Ideal) X2 (ix5 b hh n i d) = ((pd A.k b n i (kc hh d) : ℝ) : EReal) := by
  have e : val_main_v18 (F := Ideal) X2 (ix5 b hh n i d) = val_main_v12 (F := Ideal) X2 (ix4 b (⟨64 * n.val + i.val, by omega⟩ : Fin 2112) hh d) := by
    unfold val_main_v18 val_main_v17
    generalize val_main_v12 (F := Ideal) X2 = w
    pointwise
    exact congrArg w (congrArg (ix4 b · hh d) (Fin.ext (by dsimp only; omega)))
  have e1 (r : Fin 2064) : val_main_v8 (F := Ideal) X2 (ix4 b r hh d) = X2 (ix3 b r (kc hh d)) := by
    pointwise [val_main_v8]
    exact congrArg X2 (congrArg (ix3 b r) (Fin.ext (by dsimp only; omega)))
  rw [e]
  refine (Layout.pad4_at _ _ _ _ rfl _ _ _ _).trans (Eq.trans ?_ (pad_eq (F := fun r => X2 (ix3 b r (kc hh d))) fun r => h.a2 b r _))
  simp only [e1, show val_main_call2_v0 (F := Ideal) (Shape.Idx.first Gen.h_S_) = 0 from zeroI_apply _]
/-- The values. -/
theorem v_at (b : Fin 2) (hh : Fin 4) (n : Fin 33) (i : Fin 64) (d : Fin 128) : val_main_v20 (F := Ideal) X3 (ix5 b hh n i d) = ((pd A.v b n i (vc hh d) : ℝ) : EReal) := by
  have e : val_main_v20 (F := Ideal) X3 (ix5 b hh n i d) = val_main_v13 (F := Ideal) X3 (ix4 b (⟨64 * n.val + i.val, by omega⟩ : Fin 2112) hh d) := by
    unfold val_main_v20 val_main_v19
    generalize val_main_v13 (F := Ideal) X3 = w
    pointwise
    exact congrArg w (congrArg (ix4 b · hh d) (Fin.ext (by dsimp only; omega)))
  have e1 (r : Fin 2064) : val_main_v9 (F := Ideal) X3 (ix4 b r hh d) = X3 (ix3 b r (vc hh d)) := by
    pointwise [val_main_v9]
    exact congrArg X3 (congrArg (ix3 b r) (Fin.ext (by dsimp only; omega)))
  rw [e]
  refine (Layout.pad4_at _ _ _ _ rfl _ _ _ _).trans (Eq.trans ?_ (pad_eq (F := fun r => X3 (ix3 b r (vc hh d))) fun r => h.a3 b r _))
  simp only [e1, show val_main_call3_v0 (F := Ideal) (Shape.Idx.first Gen.h_S_) = 0 from zeroI_apply _]
/-- The logarithms of the decays. -/
theorem l_at (b : Fin 2) (hh : Fin 4) (n : Fin 33) (i d : Fin 64) : val_main_v22 (F := Ideal) X5 X6 X7 (ix5 b hh n i d) = ((A.l b n i (kc hh d) : ℝ) : EReal) := by
  have e : val_main_v22 (F := Ideal) X5 X6 X7 (ix5 b hh n i d) = val_main_v14 (F := Ideal) X5 X6 X7 (ix4 b (⟨64 * n.val + i.val, by omega⟩ : Fin 2112) hh d) := by
    unfold val_main_v22 val_main_v21
    generalize val_main_v14 (F := Ideal) X5 X6 X7 = w
    pointwise
    exact congrArg w (congrArg (ix4 b · hh d) (Fin.ext (by dsimp only; omega)))
  have e1 (r : Fin 2064) : val_main_v10 (F := Ideal) X5 X6 X7 (ix4 b r hh d) = ((lsig (∑ g, A.gd b r g * A.gu g (kc hh d) + A.gb (kc hh d)) / 16 : ℝ) : EReal) := by
    refine Eq.trans ?_ (lg_at h b r (kc hh d))
    unfold val_main_v10
    generalize val_main_v6 (F := Ideal) X5 X6 X7 = w
    pointwise
    exact congrArg w (congrArg (ix3 b r) (Fin.ext (by dsimp only; omega)))
  rw [e]
  refine (Layout.pad4_at _ _ _ _ rfl _ _ _ _).trans ?_
  simp only [e1, show val_main_call4_v0 (F := Ideal) (Shape.Idx.first Gen.h_S_) = 0 from zeroI_apply _]
  unfold Inp.l lg Inp.z
  split_ifs with h1
  · simp only [pd, dif_pos (show 48 ≤ 64 * n.val + i.val ∧ 64 * n.val + i.val - 48 < 2064 by omega)]
  · rfl
/-- Their running sums. -/
theorem cum_at (b : Fin 2) (hh : Fin 4) (n : Fin 33) (i d : Fin 64) : val_main_v25 (F := Ideal) X5 X6 X7 (ix5 b hh n i d) = ((cum (A.l b n) i (kc hh d) : ℝ) : EReal) := by
  have e := l_at h b hh n
  unfold val_main_v25
  generalize val_main_v22 (F := Ideal) X5 X6 X7 = w at e ⊢
  refine (Layout.cumsum_at w (fun _ => val_main_call5_call0_v0 (F := Ideal) (Shape.Idx.first Gen.h_S_)) Gen.h_S_ ?_ Gen.reduceWindows_S2x4x33x64x64_S2x4x33x64x64_w1s1p0_0_w1s1p0_0_w1s1p0_0_w64s1p63_0_w1s1p0_0 b hh n i d).trans ?_
  · pointwise [val_main_call5_call0_v0, val_main_call5_call0_cst]
  · simp only [e, ← EReal.coe_zero, coe_ite, coe_sum, cum]
omit h in
theorem cum_last (l : Fin 64 → Fin 256 → ℝ) (c : Fin 256) : cum l 63 c = tot l c := by
  unfold cum tot
  exact Finset.sum_congr rfl fun s _ => if_pos (Fin.le_def.2 (by have := s.isLt; show s.val ≤ 63; omega))
/-- The queries and the keys with their decays. -/
theorem qe_at (b : Fin 2) (hh : Fin 4) (n : Fin 33) (i d : Fin 64) : val_main_v28 (F := Ideal) X1 X5 X6 X7 (ix5 b hh n i d) = ((qe (A.l b n) (pd A.q b n) i (kc hh d) : ℝ) : EReal) := by
  have e := cum_at h b hh n
  have e1 := q_at h b hh n
  unfold val_main_v28 val_main_v27 val_main_v24
  generalize val_main_v25 (F := Ideal) X5 X6 X7 = w at e ⊢
  generalize val_main_v16 (F := Ideal) X1 = u at e1 ⊢
  pointwise [val_main_v23, val_main_cst_3]
  simp only [e, e1, lit_8, Ideal.exp_coe, ← EReal.coe_mul, qe]
theorem ke_at (b : Fin 2) (hh : Fin 4) (n : Fin 33) (i d : Fin 64) : val_main_v31 (F := Ideal) X2 X5 X6 X7 (ix5 b hh n i d) = ((ke (A.l b n) (pd A.k b n) i (kc hh d) : ℝ) : EReal) := by
  have e := cum_at h b hh n
  have e1 := k_at h b hh n
  unfold val_main_v31 val_main_v30 val_main_v29
  generalize val_main_v25 (F := Ideal) X5 X6 X7 = w at e ⊢
  generalize val_main_v18 (F := Ideal) X2 = u at e1 ⊢
  pointwise
  simp only [e, e1, Ideal.exp_coe, ← EReal.coe_neg, ← EReal.coe_mul, ke]
theorem kd_at (b : Fin 2) (hh : Fin 4) (n : Fin 33) (i d : Fin 64) : val_main_v35 (F := Ideal) X2 X5 X6 X7 (ix5 b hh n i d) = ((kd (A.l b n) (pd A.k b n) i (kc hh d) : ℝ) : EReal) := by
  have e := cum_at h b hh n
  have e1 := k_at h b hh n
  unfold val_main_v35 val_main_v34 val_main_v33 val_main_v32 val_main_v26
  generalize val_main_v25 (F := Ideal) X5 X6 X7 = w at e ⊢
  generalize val_main_v18 (F := Ideal) X2 = u at e1 ⊢
  pointwise
  simp only [e, e1, Ideal.exp_coe, ← EReal.coe_sub, ← EReal.coe_mul, kd, ← cum_last]
/-- The decay over a chunk. -/
theorem gam_at (b : Fin 2) (hh : Fin 4) (n : Fin 33) (d : Fin 64) : val_main_v44 (F := Ideal) X5 X6 X7 (ix4 n b hh d) = ((Real.exp (tot (A.l b n) (kc hh d)) : ℝ) : EReal) := by
  have e := cum_at h b hh n
  unfold val_main_v44 val_main_v43 val_main_v42 val_main_v26
  generalize val_main_v25 (F := Ideal) X5 X6 X7 = w at e ⊢
  pointwise
  simp only [e, Ideal.exp_coe, ← cum_last]
/-- What a chunk adds to the state. -/
theorem inc_at (b : Fin 2) (hh : Fin 4) (n : Fin 33) (d : Fin 64) (x : Fin 128) : val_main_v45 (F := Ideal) X2 X3 X5 X6 X7 (ix5 n b hh d x)
    = ((∑ s, kd (A.l b n) (pd A.k b n) s (kc hh d) * pd A.v b n s (vc hh x) : ℝ) : EReal) := by
  have e := kd_at h b hh n
  have e1 := v_at h b hh n
  unfold val_main_v45 val_main_v41
  generalize val_main_v35 (F := Ideal) X2 X5 X6 X7 = w at e ⊢
  generalize val_main_v20 (F := Ideal) X3 = u at e1 ⊢
  pointwise
  simp only [e, e1, ← EReal.coe_mul, coe_sum]
/-- The masked products within a chunk. -/
theorem att_at (b : Fin 2) (hh : Fin 4) (n : Fin 33) (i s : Fin 64) : val_main_v39 (F := Ideal) X1 X2 X5 X6 X7 (ix5 b hh n i s)
    = ((att (A.l b n) (pd A.q b n) (pd A.k b n) hh i s : ℝ) : EReal) := by
  have e := qe_at h b hh n
  have e1 := ke_at h b hh n
  unfold val_main_v39 val_main_v38
  generalize val_main_v28 (F := Ideal) X1 X5 X6 X7 = w at e ⊢
  generalize val_main_v31 (F := Ideal) X2 X5 X6 X7 = u at e1 ⊢
  pointwise [val_main_call7_v1, val_main_call7_v2, val_main_call7_v0, val_main_cst_5, val_main_v37, val_main_call6_v4, val_main_call6_v2, val_main_call6_v0, val_main_call6_v1, val_main_call6_c,
    val_main_call6_v3, val_main_v36, val_main_c_4, val_main_call6_v5, val_main_call6_c_0]
  rw [show IntOp.addi (BitVec.ofNat 32 i.val) 0#32 = BitVec.ofNat 32 i.val from BitVec.add_zero _, ge_eq,
    show (Scalar.select (if s ≤ i then 1#1 else 0#1) 1#1 0#1 : BitVec 1) = if s ≤ i then 1#1 else 0#1 by split_ifs <;> rfl, sel_ite,
    show id (constant (F := Ideal) S_ FTy.f32 0#32) ix0 = ((0 : ℝ) : EReal) from lit_0.trans EReal.coe_zero.symm]
  simp only [e, e1, ← EReal.coe_mul, coe_sum, coe_ite, att]
end Cert.Reference3Ideal.Gla
-- ==== Proof.GlaStatesRef.lean ====
module
public import proofs.«01_k».proof.Proof.GlaReference
@[expose] public section
set_option maxRecDepth 16384
/-! # The attention's reference: the states and the results -/
noncomputable section
namespace Cert.Reference3Ideal.Gla
open Cert.Reference3Ideal Cert.Reference3Ideal.Read Idealize.ShloMosaic Idealize.ShloMosaic.TcCoe Cert.Real Cert.Gla
open Cert.Kernel3Ideal.Gla (lit_16 lit_8 lit_128 lit_1 lit_0 sel_ite coe_ite coe_lsig coe_sigm)

abbrev St := FVec Ideal S2x4x64x128 .f32
theorem slicesD : ∀ k : Fin 33, S33x2x4x64.Slices ![k.val, 0, 0, 0] S1x2x4x64 := by decide +kernel
theorem slicesV : ∀ k : Fin 33, S33x2x4x64x128.Slices ![k.val, 0, 0, 0, 0] S1x2x4x64x128 := by decide +kernel
/-- One step of the scan. -/
def step (k : Fin 33) (D : FVec Ideal S33x2x4x64 .f32) (V : FVec Ideal S33x2x4x64x128 .f32) (S : St) : St :=
  addf (mulf (broadcastInDim S2x4x64x128 ![0, 1, 2, 3] Gen.bcast_S2x4x64x1_S2x4x64x128_0_1_2_3 (broadcastInDim S2x4x64x1 ![0, 1, 2] Gen.bcast_S2x4x64_S2x4x64x1_0_1_2
      (shapeCast _ (extractStridedSlice S1x2x4x64 ![k.val, 0, 0, 0] D (slicesD k)) Gen.shapeCasts_S1x2x4x64_S2x4x64))) S)
    (shapeCast _ (extractStridedSlice S1x2x4x64x128 ![k.val, 0, 0, 0, 0] V (slicesV k)) Gen.shapeCasts_S1x2x4x64x128_S2x4x64x128)
theorem step_at (k : Fin 33) (D V) (S : St) (b : Fin 2) (hh : Fin 4) (d : Fin 64) (e : Fin 128) :
    step k D V S (ix4 b hh d e) = D (ix4 k b hh d) * S (ix4 b hh d e) + V (ix5 k b hh d e) := by
  pointwise [step]

/-- Eleven states, one after another. -/
theorem run_at (f : Fin 11 → FVec Ideal S1x2x4x64x128 .f32) (hc) (n : Fin 11) (b : Fin 2) (hh : Fin 4) (d : Fin 64) (e : Fin 128) :
    concatenate S11x2x4x64x128 0 [⟨S1x2x4x64x128, f 0⟩, ⟨S1x2x4x64x128, f 1⟩, ⟨S1x2x4x64x128, f 2⟩, ⟨S1x2x4x64x128, f 3⟩, ⟨S1x2x4x64x128, f 4⟩, ⟨S1x2x4x64x128, f 5⟩, ⟨S1x2x4x64x128, f 6⟩, ⟨S1x2x4x64x128, f 7⟩, ⟨S1x2x4x64x128, f 8⟩, ⟨S1x2x4x64x128, f 9⟩, ⟨S1x2x4x64x128, f 10⟩] hc (ix5 n b hh d e) = f n (ix5 0 b hh d e) := by
  pointwise
  fin_cases n <;> rfl
variable (X2 : (⟨S2x2064x256, .f32⟩ : BufTy).Contents (Elt Ideal)) (X3 : (⟨S2x2064x512, .f32⟩ : BufTy).Contents (Elt Ideal))
    (X5 : (⟨S2x2064x16, .f32⟩ : BufTy).Contents (Elt Ideal)) (X6 : (⟨S16x256, .f32⟩ : BufTy).Contents (Elt Ideal))
    (X7 : (⟨S256, .f32⟩ : BufTy).Contents (Elt Ideal))
/-- The states before the chunks, in three runs of eleven. -/
def run1 : Fin 11 → St
  | 0 => val_main_v46 (F := Ideal)
  | 1 => val_main_v55 (F := Ideal) X2 X3 X5 X6 X7
  | 2 => val_main_v64 (F := Ideal) X2 X3 X5 X6 X7
  | 3 => val_main_v73 (F := Ideal) X2 X3 X5 X6 X7
  | 4 => val_main_v82 (F := Ideal) X2 X3 X5 X6 X7
  | 5 => val_main_v91 (F := Ideal) X2 X3 X5 X6 X7
  | 6 => val_main_v100 (F := Ideal) X2 X3 X5 X6 X7
  | 7 => val_main_v109 (F := Ideal) X2 X3 X5 X6 X7
  | 8 => val_main_v118 (F := Ideal) X2 X3 X5 X6 X7
  | 9 => val_main_v127 (F := Ideal) X2 X3 X5 X6 X7
  | 10 => val_main_v136 (F := Ideal) X2 X3 X5 X6 X7
def run2 : Fin 11 → St
  | 0 => val_main_v145 (F := Ideal) X2 X3 X5 X6 X7
  | 1 => val_main_v154 (F := Ideal) X2 X3 X5 X6 X7
  | 2 => val_main_v163 (F := Ideal) X2 X3 X5 X6 X7
  | 3 => val_main_v172 (F := Ideal) X2 X3 X5 X6 X7
  | 4 => val_main_v181 (F := Ideal) X2 X3 X5 X6 X7
  | 5 => val_main_v190 (F := Ideal) X2 X3 X5 X6 X7
  | 6 => val_main_v199 (F := Ideal) X2 X3 X5 X6 X7
  | 7 => val_main_v208 (F := Ideal) X2 X3 X5 X6 X7
  | 8 => val_main_v217 (F := Ideal) X2 X3 X5 X6 X7
  | 9 => val_main_v226 (F := Ideal) X2 X3 X5 X6 X7
  | 10 => val_main_v235 (F := Ideal) X2 X3 X5 X6 X7
def run3 : Fin 11 → St
  | 0 => val_main_v244 (F := Ideal) X2 X3 X5 X6 X7
  | 1 => val_main_v253 (F := Ideal) X2 X3 X5 X6 X7
  | 2 => val_main_v262 (F := Ideal) X2 X3 X5 X6 X7
  | 3 => val_main_v271 (F := Ideal) X2 X3 X5 X6 X7
  | 4 => val_main_v280 (F := Ideal) X2 X3 X5 X6 X7
  | 5 => val_main_v289 (F := Ideal) X2 X3 X5 X6 X7
  | 6 => val_main_v298 (F := Ideal) X2 X3 X5 X6 X7
  | 7 => val_main_v307 (F := Ideal) X2 X3 X5 X6 X7
  | 8 => val_main_v316 (F := Ideal) X2 X3 X5 X6 X7
  | 9 => val_main_v325 (F := Ideal) X2 X3 X5 X6 X7
  | 10 => val_main_v334 (F := Ideal) X2 X3 X5 X6 X7
/-- The state before a chunk. -/
def states (n : Fin 33) : St :=
  if h : n.val < 11 then run1 X2 X3 X5 X6 X7 ⟨n.val, h⟩ else if h : n.val - 11 < 11 then run2 X2 X3 X5 X6 X7 ⟨n.val - 11, h⟩ else run3 X2 X3 X5 X6 X7 ⟨n.val - 11 - 11, by omega⟩
theorem states_succ (n : Fin 32) : states X2 X3 X5 X6 X7 n.succ = step n.castSucc (val_main_v44 X5 X6 X7) (val_main_v45 X2 X3 X5 X6 X7) (states X2 X3 X5 X6 X7 n.castSucc) := by
  fin_cases n <;> rfl
theorem all_at (n : Fin 33) (b : Fin 2) (hh : Fin 4) (d : Fin 64) (e : Fin 128) : val_main_v347 (F := Ideal) X2 X3 X5 X6 X7 (ix5 n b hh d e) = states X2 X3 X5 X6 X7 n (ix4 b hh d e) := by
  let g (w : St) : FVec Ideal S1x2x4x64x128 .f32 := broadcastInDim S1x2x4x64x128 ![1, 2, 3, 4] Gen.bcast_S2x4x64x128_S1x2x4x64x128_1_2_3_4 w
  have hg (w : St) : g w (ix5 0 b hh d e) = w (ix4 b hh d e) := by
    show broadcastInDim S1x2x4x64x128 ![1, 2, 3, 4] Gen.bcast_S2x4x64x128_S1x2x4x64x128_1_2_3_4 w _ = _
    pointwise
  have e1 (j : Fin 11) : val_main_v344 (F := Ideal) X2 X3 X5 X6 X7 (ix5 j b hh d e) = run1 X2 X3 X5 X6 X7 j (ix4 b hh d e) := (run_at (fun j => g (run1 X2 X3 X5 X6 X7 j)) _ j b hh d e).trans (hg _)
  have e2 (j : Fin 11) : val_main_v345 (F := Ideal) X2 X3 X5 X6 X7 (ix5 j b hh d e) = run2 X2 X3 X5 X6 X7 j (ix4 b hh d e) := (run_at (fun j => g (run2 X2 X3 X5 X6 X7 j)) _ j b hh d e).trans (hg _)
  have e3 (j : Fin 11) : val_main_v346 (F := Ideal) X2 X3 X5 X6 X7 (ix5 j b hh d e) = run3 X2 X3 X5 X6 X7 j (ix4 b hh d e) := (run_at (fun j => g (run3 X2 X3 X5 X6 X7 j)) _ j b hh d e).trans (hg _)
  unfold val_main_v347 states
  generalize val_main_v344 (F := Ideal) X2 X3 X5 X6 X7 = w1 at e1 ⊢
  generalize val_main_v345 (F := Ideal) X2 X3 X5 X6 X7 = w2 at e2 ⊢
  generalize val_main_v346 (F := Ideal) X2 X3 X5 X6 X7 = w3 at e3 ⊢
  pointwise
  generalize run1 X2 X3 X5 X6 X7 = r1 at e1 ⊢
  generalize run2 X2 X3 X5 X6 X7 = r2 at e2 ⊢
  generalize run3 X2 X3 X5 X6 X7 = r3 at e3 ⊢
  split_ifs <;> first | exact e1 _ | exact e2 _ | exact e3 _
variable {X1 X2 : (⟨S2x2064x256, .f32⟩ : BufTy).Contents (Elt Ideal)} {X3 X4 : (⟨S2x2064x512, .f32⟩ : BufTy).Contents (Elt Ideal)}
    {X5 : (⟨S2x2064x16, .f32⟩ : BufTy).Contents (Elt Ideal)} {X6 : (⟨S16x256, .f32⟩ : BufTy).Contents (Elt Ideal)}
    {X7 : (⟨S256, .f32⟩ : BufTy).Contents (Elt Ideal)} {X8 : (⟨S128, .f32⟩ : BufTy).Contents (Elt Ideal)} {A : Inp} (h : Args X1 X2 X3 X4 X5 X6 X7 X8 A)
include h
theorem states_at (b : Fin 2) : ∀ (n : ℕ) (hn : n < 33) (hh : Fin 4) (d : Fin 64) (e : Fin 128), states X2 X3 X5 X6 X7 ⟨n, hn⟩ (ix4 b hh d e) = ((A.st b n hh d e : ℝ) : EReal) := by
  intro n
  induction n with
  | zero =>
    intro _ hh d e
    show val_main_v46 (F := Ideal) (ix4 b hh d e) = ((0 : ℝ) : EReal)
    pointwise [val_main_v46, val_main_cst_6]
    exact EReal.coe_zero.symm
  | succ n ih =>
    intro hn hh d e
    have e1 := states_succ X2 X3 X5 X6 X7 ⟨n, by omega⟩
    refine (congrFun e1 (ix4 b hh d e)).trans ((step_at _ _ _ _ b hh d e).trans ?_)
    rw [gam_at h, inc_at h]
    refine (congrArg (fun x => _ * x + _) (ih (by omega) hh d e)).trans ?_
    rw [← EReal.coe_mul, ← EReal.coe_add]
    rfl
theorem st_at (b : Fin 2) (hh : Fin 4) (n : Fin 33) (d : Fin 64) (e : Fin 128) : val_main_v348 (F := Ideal) X2 X3 X5 X6 X7 (ix5 b hh n d e) = ((A.st b n.val hh d e : ℝ) : EReal) := by
  have e1 := (all_at X2 X3 X5 X6 X7 n b hh d e).trans (states_at h b n.val n.isLt hh d e)
  unfold val_main_v348
  generalize val_main_v347 (F := Ideal) X2 X3 X5 X6 X7 = w at e1 ⊢
  pointwise
  exact e1
end Cert.Reference3Ideal.Gla
-- ==== Proof.GlaKernel.lean ====
module
public import proofs.«01_k».proof.Proof.GlaChunk
@[expose] public section
set_option maxRecDepth 16384
/-! # What the attention's kernel leaves after a grid point -/
noncomputable section
namespace Cert.Kernel3Ideal.Gla
open Cert.Kernel3Ideal Cert.Kernel3Ideal.Gen Idealize.ShloMosaic Idealize.ShloMosaic.TcCoe Cert.Real Cert.Gla

/-- Rows of chunk `j` and columns of head `h` of a block. -/
def cut {φ : FTy} (X : FVec Ideal S192x512 φ) (j : Fin 3) (h : Fin 4) : FVec Ideal S64x128 φ :=
  fun y => X ((Rect.unit (s := S192x512) ![64 * j.val, 128 * h.val] ![64, 128] (by
    intro a; match a with
    | ⟨0, _⟩ => show 64 * j.val + 64 ≤ 192; omega
    | ⟨1, _⟩ => show 128 * h.val + 128 ≤ 512; omega)).idx y)
/-- Rows of chunk `j` of a block, its left or its right half. -/
def half2 {φ : FTy} (X : FVec Ideal S192x512 φ) (j : Fin 3) (h : Fin 2) : FVec Ideal S64x256 φ :=
  fun y => X ((Rect.unit (s := S192x512) ![64 * j.val, 256 * h.val] ![64, 256] (by
    intro a; match a with
    | ⟨0, _⟩ => show 64 * j.val + 64 ≤ 192; omega
    | ⟨1, _⟩ => show 256 * h.val + 256 ≤ 512; omega)).idx y)
/-- Rows of chunk `j` of a block. -/
def cutRows {φ : FTy} (X : FVec Ideal S192x128 φ) (j : Fin 3) : FVec Ideal S64x128 φ :=
  fun y => X ((Rect.unit (s := S192x128) ![64 * j.val, 0] ![64, 128] (by
    intro a; match a with
    | ⟨0, _⟩ => show 64 * j.val + 64 ≤ 192; omega
    | ⟨1, _⟩ => show 0 + 128 ≤ 128; omega)).idx y)
/-- Which rows of chunk `j` are not in front of the sequence. -/
def rowMask (n j : BitVec 32) : IVec S64x1 1 :=
  cmpi .sge (addi (broadcast S64x1 (Scalar.muli (Scalar.addi n j) 64#32)) (iota .tc S64x1 32 [0] iota_S64x1_d0_w32)) (broadcast S64x1 48#32)

/-! ## The three chunks and the four heads: the same operations -/
/-- The pre-activation of the gate, at every chunk. -/
theorem same_z :
    k0_pay9 (F := Ideal) = k0_pay11 ∧ k0_pay10 (F := Ideal) = k0_pay11 :=
  ⟨rfl, rfl⟩
/-- The masked logarithms of the decays. -/
theorem same_lg :
    (∀ z i, k0_pay15 (F := Ideal) z (k0_pay12 i) k0_pay13 = k0_pay19 z (rowMask (Scalar.muli (BitVec.ofNat 32 (i 1)) 3#32) 0#32))
      ∧ (∀ z n, k0_pay18 (F := Ideal) (k0_pay16 z) (FloatOps.ofBits .f32 0#32) (k0_pay17 n) = k0_pay19 z (rowMask n 1#32)) ∧ (∀ n, k0_pay14 n = rowMask n 2#32) :=
  ⟨fun _ _ => rfl, fun _ _ => rfl, fun _ => rfl⟩
/-- The running sums. -/
theorem same_cum :
    (∀ z k, k0_pay35 (F := Ideal) k0_pay8 (k0_pay23 (k0_pay19 z k)) (k0_pay32 k0_pay8 (k0_pay19 z k)) = cumV z k)
      ∧ (∀ z n, k0_pay36 (F := Ideal) k0_pay8 (k0_pay27 (k0_pay16 z) (FloatOps.ofBits .f32 0#32) (k0_pay17 n)) (k0_pay33 k0_pay8 (k0_pay16 z) (FloatOps.ofBits .f32 0#32) (k0_pay17 n)) = cumV z (rowMask n 1#32)) :=
  ⟨fun _ _ => rfl, fun _ _ => rfl⟩
/-- Queries and keys times their decays. -/
theorem same_qk :
    (∀ a b d x, k0_pay41 (F := Ideal) a b d x = k0_pay54 (k0_pay35 a b d) x) ∧ (∀ a b d x, k0_pay42 (F := Ideal) a b d x = k0_pay55 (k0_pay35 a b d) x)
      ∧ (∀ a b d l x, k0_pay43 (F := Ideal) a l b d x = k0_pay56 l (k0_pay35 a b d) x) ∧ (∀ a b d x, k0_pay48 (F := Ideal) a b d x = k0_pay54 (k0_pay36 a b d) x)
      ∧ (∀ a b d x, k0_pay49 (F := Ideal) a b d x = k0_pay55 (k0_pay36 a b d) x) ∧ (∀ a b d l x, k0_pay50 (F := Ideal) (k0_pay45 x) (k0_pay46 a l b d) = k0_pay56 l (k0_pay36 a b d) x)
      ∧ k0_pay40 (F := Ideal) = k0_pay53 ∧ k0_pay47 (F := Ideal) = k0_pay53 :=
  ⟨fun _ _ _ _ => rfl, fun _ _ _ _ => rfl, fun _ _ _ _ _ => rfl, fun _ _ _ _ => rfl, fun _ _ _ _ => rfl, fun _ _ _ _ _ => rfl, rfl, rfl⟩
/-- A head's half of the lanes. -/
theorem same_qeH :
    (∀ x, k0_pay59 (F := Ideal) x = qeH x 0) ∧ (∀ x, k0_pay60 (F := Ideal) x = qeH x 0) ∧ (∀ x, k0_pay66 (F := Ideal) (k0_pay64 x) (FloatOps.ofBits .f32 0#32) k0_pay65 = qeH x 1)
      ∧ (∀ x, k0_pay67 (F := Ideal) x k0_pay63 = qeH x 1) ∧ (∀ x, k0_pay71 (F := Ideal) x = qeH x 2) ∧ (∀ x, k0_pay72 (F := Ideal) x = qeH x 2) ∧ (∀ x, k0_pay76 (F := Ideal) x = qeH x 3)
      ∧ (∀ x, k0_pay78 (F := Ideal) (k0_pay77 x) = qeH x 3) ∧ (∀ x, k0_pay82 (F := Ideal) x = qeH x 0) ∧ (∀ x, k0_pay83 (F := Ideal) x = qeH x 0) ∧ (∀ x, k0_pay87 (F := Ideal) x = qeH x 1)
      ∧ (∀ x, k0_pay88 (F := Ideal) x = qeH x 1) ∧ (∀ x, k0_pay92 (F := Ideal) x (iota .tc S1x128 32 [1] iota_S1x128_d1_w32) 64#32 = qeH x 2)
      ∧ (∀ x, k0_pay93 (F := Ideal) x (iota .tc S1x128 32 [1] iota_S1x128_d1_w32) 64#32 = qeH x 2) ∧ (∀ x, k0_pay97 (F := Ideal) x = qeH x 3) ∧ (∀ x, k0_pay98 (F := Ideal) x = qeH x 3)
      ∧ (∀ x, k0_pay102 (F := Ideal) x = qeH x 0) ∧ (∀ x, k0_pay104 (F := Ideal) k0_pay101 (k0_pay103 x) = qeH x 0) ∧ (∀ x, k0_pay108 (F := Ideal) x = qeH x 1)
      ∧ (∀ x, k0_pay109 (F := Ideal) x = qeH x 1) ∧ (∀ x, k0_pay113 (F := Ideal) x = qeH x 2) ∧ (∀ x, k0_pay114 (F := Ideal) x = qeH x 2) ∧ (∀ x, k0_pay118 (F := Ideal) x = qeH x 3)
      ∧ (∀ x, k0_pay119 (F := Ideal) x = qeH x 3) :=
  ⟨fun _ => rfl, fun _ => rfl, fun _ => rfl, fun _ => rfl, fun _ => rfl, fun _ => rfl, fun _ => rfl, fun _ => rfl, fun _ => rfl, fun _ => rfl, fun _ => rfl, fun _ => rfl,
   fun _ => rfl, fun _ => rfl, fun _ => rfl, fun _ => rfl, fun _ => rfl, fun _ => rfl, fun _ => rfl, fun _ => rfl, fun _ => rfl, fun _ => rfl, fun _ => rfl, fun _ => rfl⟩
/-- A head's lanes. -/
theorem same_keH :
    (∀ x, k0_pay61 (F := Ideal) x = keH x 0) ∧ (∀ x, k0_pay68 (F := Ideal) x = keH x 1) ∧ (∀ x, k0_pay73 (F := Ideal) x = keH x 2) ∧ (∀ x, k0_pay79 (F := Ideal) x = keH x 3)
      ∧ (∀ x, k0_pay84 (F := Ideal) x = keH x 0) ∧ (∀ x, k0_pay89 (F := Ideal) x = keH x 1) ∧ (∀ x, k0_pay94 (F := Ideal) x = keH x 2) ∧ (∀ x, k0_pay99 (F := Ideal) x = keH x 3)
      ∧ (∀ x, k0_pay105 (F := Ideal) x = keH x 0) ∧ (∀ x, k0_pay110 (F := Ideal) x = keH x 1) ∧ (∀ x, k0_pay115 (F := Ideal) x = keH x 2) ∧ (∀ x, k0_pay120 (F := Ideal) x = keH x 3) :=
  ⟨fun _ => rfl, fun _ => rfl, fun _ => rfl, fun _ => rfl, fun _ => rfl, fun _ => rfl, fun _ => rfl, fun _ => rfl, fun _ => rfl, fun _ => rfl, fun _ => rfl, fun _ => rfl⟩
/-- The values. -/
theorem same_v :
    k0_pay62 (F := Ideal) = k0_pay121 ∧ k0_pay69 (F := Ideal) = k0_pay121 ∧ k0_pay74 (F := Ideal) = k0_pay121 ∧ k0_pay80 (F := Ideal) = k0_pay121 ∧ k0_pay85 (F := Ideal) = k0_pay121
      ∧ k0_pay90 (F := Ideal) = k0_pay121 ∧ k0_pay95 (F := Ideal) = k0_pay121 ∧ k0_pay100 (F := Ideal) = k0_pay121 ∧ k0_pay106 (F := Ideal) = k0_pay121 ∧ k0_pay111 (F := Ideal) = k0_pay121
      ∧ k0_pay116 (F := Ideal) = k0_pay121 :=
  ⟨rfl, rfl, rfl, rfl, rfl, rfl, rfl, rfl, rfl, rfl, rfl⟩
/-- How rows attend to rows. -/
theorem same_att :
    k0_pay123 (F := Ideal) = k0_pay122 ∧ k0_pay124 (F := Ideal) = k0_pay122 ∧ k0_pay125 (F := Ideal) = k0_pay122 ∧ k0_pay126 (F := Ideal) = k0_pay122 ∧ k0_pay128 (F := Ideal) = k0_pay122
      ∧ k0_pay129 (F := Ideal) = k0_pay122 :=
  ⟨rfl, rfl, rfl, rfl, rfl, rfl⟩
/-- What the rows of the chunk add. -/
theorem same_intra :
    k0_pay131 (F := Ideal) = k0_pay130 ∧ k0_pay132 (F := Ideal) = k0_pay130 ∧ k0_pay133 (F := Ideal) = k0_pay130 ∧ k0_pay134 (F := Ideal) = k0_pay130 ∧ k0_pay140 (F := Ideal) = k0_pay130
      ∧ k0_pay141 (F := Ideal) = k0_pay130 ∧ (∀ w q k v, k0_pay135 (F := Ideal) w v (k0_pay127 q k) = k0_pay130 v (k0_pay122 w q k))
      ∧ (∀ w q k v, k0_pay136 (F := Ideal) w q k v = k0_pay130 v (k0_pay122 w q k)) ∧ (∀ w q k v, k0_pay137 (F := Ideal) w q k v = k0_pay130 v (k0_pay122 w q k))
      ∧ (∀ w q k v, k0_pay138 (F := Ideal) w q k v = k0_pay130 v (k0_pay122 w q k)) ∧ (∀ w q k v, k0_pay139 (F := Ideal) w q k v = k0_pay130 v (k0_pay122 w q k)) :=
  ⟨rfl, rfl, rfl, rfl, rfl, rfl, fun _ _ _ _ => rfl, fun _ _ _ _ => rfl, fun _ _ _ _ => rfl, fun _ _ _ _ => rfl, fun _ _ _ _ => rfl⟩
/-- What a chunk adds to a state. -/
theorem same_inc :
    k0_pay143 (F := Ideal) = k0_pay142 ∧ k0_pay144 (F := Ideal) = k0_pay142 ∧ k0_pay145 (F := Ideal) = k0_pay142 ∧ k0_pay146 (F := Ideal) = k0_pay142 ∧ k0_pay147 (F := Ideal) = k0_pay142
      ∧ k0_pay148 (F := Ideal) = k0_pay142 ∧ k0_pay149 (F := Ideal) = k0_pay142 ∧ k0_pay150 (F := Ideal) = k0_pay142 ∧ k0_pay151 (F := Ideal) = k0_pay142 ∧ k0_pay152 (F := Ideal) = k0_pay142
      ∧ k0_pay153 (F := Ideal) = k0_pay142 :=
  ⟨rfl, rfl, rfl, rfl, rfl, rfl, rfl, rfl, rfl, rfl, rfl⟩
/-- A state as the scratch holds it. -/
theorem same_load :
    k0_pay155 (F := Ideal) = k0_pay154 ∧ k0_pay156 (F := Ideal) = k0_pay154 ∧ k0_pay157 (F := Ideal) = k0_pay154 :=
  ⟨rfl, rfl, rfl⟩
/-- The state after a chunk. -/
theorem same_next :
    k0_pay160 (F := Ideal) = k0_pay164 ∧ k0_pay178 (F := Ideal) = k0_pay164 ∧ k0_pay183 (F := Ideal) = k0_pay164 ∧ k0_pay198 (F := Ideal) = k0_pay164 ∧ k0_pay204 (F := Ideal) = k0_pay164
      ∧ k0_pay173 (F := Ideal) = k0_pay168 ∧ k0_pay188 (F := Ideal) = k0_pay168 ∧ k0_pay193 (F := Ideal) = k0_pay168 ∧ k0_pay211 (F := Ideal) = k0_pay168 ∧ k0_pay214 (F := Ideal) = k0_pay168 :=
  ⟨rfl, rfl, rfl, rfl, rfl, rfl, rfl, rfl, rfl, rfl⟩
/-- The gated result. -/
theorem same_gated :
    k0_pay161 (F := Ideal) = k0_pay165 ∧ (∀ q o L, k0_pay159 (F := Ideal) q o L = k0_pay163 q o (k0_pay154 L))
      ∧ (∀ q o r S g, k0_pay170 (F := Ideal) (k0_pay167 q o S) (k0_pay169 q o S) r g = k0_pay165 (k0_pay163 q o S) r g)
      ∧ (∀ q o r S g, k0_pay175 (F := Ideal) (k0_pay172 q o S) (k0_pay174 q o S) (FloatOps.ofBits .f32 0x3727C5AC#32) r g = k0_pay165 (k0_pay163 q o S) r g)
      ∧ (∀ q o r S g, k0_pay180 (F := Ideal) (k0_pay177 q o S) (k0_pay179 q o S) r g = k0_pay165 (k0_pay163 q o S) r g)
      ∧ (∀ q o r S g, k0_pay186 (F := Ideal) (k0_pay182 q o S) (k0_pay184 r) (k0_pay185 q o S) g = k0_pay165 (k0_pay163 q o S) r g)
      ∧ (∀ q o r S g, k0_pay191 (F := Ideal) (k0_pay189 r) (k0_pay190 q o S) g = k0_pay165 (k0_pay163 q o S) r g)
      ∧ (∀ q o r S g, k0_pay196 (F := Ideal) (k0_pay194 r) (k0_pay195 q o S g) (FloatOps.ofBits .f32 0#32) = k0_pay165 (k0_pay163 q o S) r g)
      ∧ (∀ q o r S g, k0_pay202 (F := Ideal) (k0_pay199 r) (k0_pay200 q o S g) (k0_pay201 r) (FloatOps.ofBits .f32 0x3F800000#32) = k0_pay165 (k0_pay163 q o S) r g)
      ∧ (∀ q o r S g, k0_pay209 (F := Ideal) (k0_pay205 r) (k0_pay206 q o S g) (k0_pay207 r) k0_pay208 = k0_pay165 (k0_pay163 q o S) r g)
      ∧ (∀ q o r S g, k0_pay212 (F := Ideal) q o S r g = k0_pay165 (k0_pay163 q o S) r g) ∧ (∀ q o r S g, k0_pay215 (F := Ideal) q o S r g = k0_pay165 (k0_pay163 q o S) r g) :=
  ⟨rfl, fun _ _ _ => rfl, fun _ _ _ _ _ => rfl, fun _ _ _ _ _ => rfl, fun _ _ _ _ _ => rfl, fun _ _ _ _ _ => rfl, fun _ _ _ _ _ => rfl, fun _ _ _ _ _ => rfl, fun _ _ _ _ _ => rfl,
   fun _ _ _ _ _ => rfl, fun _ _ _ _ _ => rfl, fun _ _ _ _ _ => rfl⟩

def fam4 {α : Type} (a b c d : α) : Fin 4 → α
  | 0 => a | 1 => b | 2 => c | 3 => d
theorem fam4_forall {α : Type} (P : α → Fin 4 → Prop) (a b c d : α) (ha : P a 0) (hb : P b 1) (hc : P c 2) (hd : P d 3) (h : Fin 4) : P (fam4 a b c d h) h := by
  match h with
  | 0 => exact ha
  | 1 => exact hb
  | 2 => exact hc
  | 3 => exact hd

/-- The blocks that a grid point reads. -/
structure Blocks where
  (qk v r : FVec Ideal S192x512 .f32)
  (gd : FVec Ideal S192x128 .f32)
  (gu : FVec Ideal S128x256 .bf16)
  (gb : FVec Ideal S1x256 .f32)
  (gn : FVec Ideal S1x128 .f32)
  (n : BitVec 32)

namespace Blocks
variable (B : Blocks) (j : Fin 3)
def z : FVec Ideal S64x256 .f32 := k0_pay11 B.gu B.gb (cutRows B.gd j)
def msk : IVec S64x1 1 := rowMask B.n (BitVec.ofNat 32 j.val)
def l : FVec Ideal S64x256 .f32 := lgV (B.z j) (B.msk j)
def c : FVec Ideal S64x256 .f32 := cumV (B.z j) (B.msk j)
def qe : FVec Ideal S64x256 .f32 := k0_pay54 (B.c j) (half2 B.qk j 0)
def ke : FVec Ideal S64x256 .f32 := k0_pay55 (B.c j) (half2 B.qk j 1)
def kd : FVec Ideal S64x256 .f32 := k0_pay56 (B.l j) (B.c j) (half2 B.qk j 1)
def vh (h : Fin 4) : FVec Ideal S64x128 .bf16 := k0_pay121 (cut B.v j h)
/-- The state after chunk `j`. -/
def next (S : Fin 4 → FVec Ideal S128x128 .f32) (h : Fin 4) : FVec Ideal S128x128 .f32 :=
  nextH (k0_pay53 (B.l j)) (qeH (B.kd j) h) (B.vh j h) (S h) h
/-- The state before chunk `j`, given what the scratch holds. -/
def st (L : Fin 4 → FVec Ideal S1x128x128 .f32) : Fin 4 → Fin 4 → FVec Ideal S128x128 .f32
  | 0 => fun h => k0_pay154 (L h)
  | 1 => B.next 0 (fun h => k0_pay154 (L h))
  | 2 => B.next 1 (B.next 0 (fun h => k0_pay154 (L h)))
  | 3 => B.next 2 (B.next 1 (B.next 0 (fun h => k0_pay154 (L h))))
/-- The result of head `h` at chunk `j`. -/
def go (L : Fin 4 → FVec Ideal S1x128x128 .f32) (h : Fin 4) : FVec Ideal S64x128 .bf16 :=
  k0_pay165 (outH (qeH (B.qe j) h) (keH (B.ke j) h) (B.vh j h) (B.st L j.castSucc h)) (cut B.r j h) B.gn
end Blocks

variable (m : (ℓ : Loc nD τ sig) → Buf (Elt Ideal) ℓ) (c : Dev nD)
def blocks (t : Fin cfg0.N) : Blocks where
  qk := X0_0 m c t
  v := X0_1 m c t
  r := X0_2 m c t
  gd := iblk m c 3 t
  gu := iblk m c 4 t
  gb := iblk m c 5 t
  gn := iblk m c 6 t
  n := Scalar.muli (BitVec.ofNat 32 (grid0.coords t 1)) 3#32

end Cert.Kernel3Ideal.Gla
-- ==== Proof.GlaPoint.lean ====
module
public import proofs.«01_k».proof.Proof.GlaKernel
@[expose] public section
set_option maxRecDepth 16384
/-! # The values of a grid point of the attention's kernel -/
noncomputable section
namespace Cert.Kernel3Ideal.Gla
open Cert.Kernel3Ideal Cert.Kernel3Ideal.Gen Idealize.ShloMosaic Idealize.ShloMosaic.TcCoe Cert.Real Cert.Gla

/-- Row `i` of chunk `j` in a block. -/
abbrev brow (j : Fin 3) (i : Fin 64) : Fin 192 := ⟨64 * j.val + i.val, by omega⟩

/-- The blocks hold the rows of chunks `n0`, `n0 + 1` and `n0 + 2` of sequence `b`. -/
structure Good (B : Blocks) (A : Inp) (b : Fin 2) (n0 : ℕ) : Prop where
  q : ∀ j i (c : Fin 256), B.qk (ix2 (brow j i) (⟨c.val, by omega⟩ : Fin 512)) = ((pd A.q b (n0 + j.val) i c : ℝ) : EReal)
  k : ∀ j i (c : Fin 256), B.qk (ix2 (brow j i) (⟨256 + c.val, by omega⟩ : Fin 512)) = ((pd A.k b (n0 + j.val) i c : ℝ) : EReal)
  v : ∀ j i c, B.v (ix2 (brow j i) c) = ((pd A.v b (n0 + j.val) i c : ℝ) : EReal)
  r : ∀ j i c, B.r (ix2 (brow j i) c) = ((pd A.r b (n0 + j.val) i c : ℝ) : EReal)
  gd : ∀ j i (g : Fin 128), B.gd (ix2 (brow j i) g) = (((if H : g.val < 16 then pd A.gd b (n0 + j.val) i ⟨g.val, H⟩ else 0) : ℝ) : EReal)
  gu : ∀ (g : Fin 128) c, B.gu (ix2 g c) = (((if H : g.val < 16 then A.gu ⟨g.val, H⟩ c else 0) : ℝ) : EReal)
  gb : ∀ c, B.gb (ix2 0 c) = ((A.gb c : ℝ) : EReal)
  gn : ∀ c, B.gn (ix2 0 c) = ((A.gn c : ℝ) : EReal)
  n : ∀ (j : Fin 3) (i : Fin 64), rowMask B.n (BitVec.ofNat 32 j.val) (ix2 i 0) = if 48 ≤ 64 * (n0 + j.val) + i.val then 1#1 else 0#1

variable {B : Blocks} {A : Inp} {b : Fin 2} {n0 : ℕ} (G : Good B A b n0) (j : Fin 3)
include G
namespace Good

theorem z_at (i : Fin 64) (c : Fin 256) : B.z j (ix2 i c) = ((A.z b (n0 + j.val) i c : ℝ) : EReal) := by
  refine (Gla.z_at G.gu G.gb (fun i g => (show cutRows B.gd j (ix2 i g) = B.gd (ix2 (brow j i) g) from ?_).trans (G.gd j i g)) i c).trans ?_
  · pointwise [cutRows]
  · simp only [Inp.z, ← sum_16]
    congr 2
    refine Finset.sum_congr rfl fun g _ => ?_
    split_ifs <;> simp
theorem l_at (i : Fin 64) (c : Fin 256) : B.l j (ix2 i c) = ((A.l b (n0 + j.val) i c : ℝ) : EReal) :=
  lg_at (G.z_at j) (G.n j) i c
theorem c_at (i : Fin 64) (c : Fin 256) : B.c j (ix2 i c) = ((cum (A.l b (n0 + j.val)) i c : ℝ) : EReal) :=
  cum_at (G.l_at j) i c
theorem q_at (i : Fin 64) (c : Fin 256) : half2 B.qk j 0 (ix2 i c) = ((pd A.q b (n0 + j.val) i c : ℝ) : EReal) :=
  (show half2 B.qk j 0 (ix2 i c) = B.qk (ix2 (brow j i) (⟨c.val, by omega⟩ : Fin 512)) by pointwise [half2]).trans (G.q j i c)
theorem k_at (i : Fin 64) (c : Fin 256) : half2 B.qk j 1 (ix2 i c) = ((pd A.k b (n0 + j.val) i c : ℝ) : EReal) :=
  (show half2 B.qk j 1 (ix2 i c) = B.qk (ix2 (brow j i) (⟨256 + c.val, by omega⟩ : Fin 512)) by pointwise [half2]).trans (G.k j i c)
theorem vh_at (h : Fin 4) (i : Fin 64) (e : Fin 128) : B.vh j h (ix2 i e) = ((pd A.v b (n0 + j.val) i (vc h e) : ℝ) : EReal) :=
  (show B.vh j h (ix2 i e) = B.v (ix2 (brow j i) (vc h e)) by pointwise [Blocks.vh, k0_pay121, cut]).trans (G.v j i _)
theorem r_at (h : Fin 4) (i : Fin 64) (e : Fin 128) : cut B.r j h (ix2 i e) = ((pd A.r b (n0 + j.val) i (vc h e) : ℝ) : EReal) :=
  (show cut B.r j h (ix2 i e) = B.r (ix2 (brow j i) (vc h e)) by pointwise [cut]).trans (G.r j i _)

/-- The next state. -/
theorem next_at {S : Fin 4 → FVec Ideal S128x128 .f32} (hS : ∀ h e l, S h (ix2 e l) = ((lanes (A.st b (n0 + j.val) h) h e l : ℝ) : EReal)) (h : Fin 4) (e l : Fin 128) :
    B.next j S h (ix2 e l) = ((lanes (A.st b (n0 + j.val + 1) h) h e l : ℝ) : EReal) :=
  Gla.next_at (Sr := A.st b (n0 + j.val)) (tot_at (G.l_at j)) (qeH_at (fun i c => kd_at (G.l_at j) (G.c_at j) (G.k_at j) i c) h) (G.vh_at j h) (hS h) e l

variable {L : Fin 4 → FVec Ideal S1x128x128 .f32} (hL : ∀ h e l, L h (ix3 0 e l) = ((lanes (A.st b n0 h) h e l : ℝ) : EReal))
include hL

/-- The states before the chunks and after the last. -/
theorem st_at : ∀ (j h : Fin 4) (e l : Fin 128), B.st L j h (ix2 e l) = ((lanes (A.st b (n0 + j.val) h) h e l : ℝ) : EReal) := by
  have h0 : ∀ (h : Fin 4) (e l : Fin 128), k0_pay154 (F := Ideal) (L h) (ix2 e l) = ((lanes (A.st b (n0 + (0 : Fin 3).val) h) h e l : ℝ) : EReal) := by
    intro h e l
    have e1 : k0_pay154 (F := Ideal) (L h) (ix2 e l) = L h (ix3 0 e l) := by pointwise [k0_pay154]
    rw [e1]; exact hL h e l
  intro j
  match j with
  | 0 => exact h0
  | 1 => exact G.next_at 0 h0
  | 2 => exact G.next_at 1 (G.next_at 0 h0)
  | 3 => exact G.next_at 2 (G.next_at 1 (G.next_at 0 h0))

/-- The gated results. -/
theorem go_at (h : Fin 4) (i : Fin 64) (e : Fin 128) : B.go j L h (ix2 i e) = ((A.res b (n0 + j.val) h i e : ℝ) : EReal) :=
  gated_at (orr := A.o b (n0 + j.val) h i)
    (out_at (Sr := A.st b (n0 + j.val)) (qeH_at (fun i c => qe_at (G.c_at j) (G.q_at j) i c) h) (keH_at (fun i c => ke_at (G.c_at j) (G.k_at j) i c) h) (G.vh_at j h)
      (G.st_at hL j.castSucc h) i)
    (G.r_at j h i) G.gn e
end Good
end Cert.Kernel3Ideal.Gla
-- ==== Proof.GlaEntry.lean ====
module
public import proofs.«01_k».proof.Proof.GlaPoint
public import proofs.«01_k».proof.Proof.HeadEntry
@[expose] public section
set_option maxRecDepth 16384
/-! # What the blocks of the attention's kernel hold -/
noncomputable section
namespace Cert.Kernel3Ideal.Gla
open Cert.Kernel3Ideal Cert.Kernel3Ideal.Gen Idealize.ShloMosaic Idealize.ShloMosaic.TcCoe Cert.Real Cert.Gla
variable (m : (ℓ : Loc nD τ sig) → Buf (Elt Ideal) ℓ) (c : Dev nD)

/-- The arguments that the results depend on, as real numbers. -/
structure Args (A : Inp) : Prop where
  a1 : ∀ b i k, m ((c : Thread nD τ).loc main_arg1) (ix3 b i k) = (A.q b i k : EReal)
  a2 : ∀ b i k, m ((c : Thread nD τ).loc main_arg2) (ix3 b i k) = (A.k b i k : EReal)
  a3 : ∀ b i k, m ((c : Thread nD τ).loc main_arg3) (ix3 b i k) = (A.v b i k : EReal)
  a4 : ∀ b i k, m ((c : Thread nD τ).loc main_arg4) (ix3 b i k) = (A.r b i k : EReal)
  a5 : ∀ b i k, m ((c : Thread nD τ).loc main_arg5) (ix3 b i k) = (A.gd b i k : EReal)
  a6 : ∀ i k, m ((c : Thread nD τ).loc main_arg6) (ix2 i k) = (A.gu i k : EReal)
  a7 : ∀ k, m ((c : Thread nD τ).loc main_arg7) (ix1 k) = (A.gb k : EReal)
  a8 : ∀ k, m ((c : Thread nD τ).loc main_arg8) (ix1 k) = (A.gn k : EReal)

variable {m c} {A : Inp} (h : Args m c A)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp

/-- The six arguments side by side. -/
abbrev cols : FVec Ideal S2x2064x2576 .f32 :=
  concatenate S2x2064x2576 2 [⟨S2x2064x1024, m ((c : Thread nD τ).loc main_arg0)⟩, ⟨S2x2064x256, m ((c : Thread nD τ).loc main_arg1)⟩,
    ⟨S2x2064x256, m ((c : Thread nD τ).loc main_arg2)⟩, ⟨S2x2064x512, m ((c : Thread nD τ).loc main_arg3)⟩, ⟨S2x2064x512, m ((c : Thread nD τ).loc main_arg4)⟩,
    ⟨S2x2064x16, m ((c : Thread nD τ).loc main_arg5)⟩] concatenates_S2x2064x1024_S2x2064x256_S2x2064x256_S2x2064x512_S2x2064x512_S2x2064x16_S2x2064x2576_d2
abbrev uRows : FVec Ideal S4224x2688 .f32 :=
  shapeCast S4224x2688 (pad S2x2112x2688 ![0, 48, 0] ![0, 0, 112] ![0, 0, 0] (cols (m := m) (c := c)) zeroI
    pads_S2x2064x2576_S2x2112x2688_000_4800_01120 h_S_) shapeCasts_S2x2112x2688_S4224x2688

/-- Row `i` of chunk `n` of sequence `b` among all the rows. -/
abbrev crow (b : Fin 2) (n : Fin 33) (i : Fin 64) : Fin 4224 := ⟨b.val * 2112 + (64 * n.val + i.val), by omega⟩

theorem uRows_at (b : Fin 2) (n : Fin 33) (i : Fin 64) (k : Fin 2688) : uRows (m := m) (c := c) (ix2 (crow b n i) k)
    = if H : 48 ≤ 64 * n.val + i.val ∧ k.val < 2576 then cols (m := m) (c := c) (ix3 b (⟨64 * n.val + i.val - 48, by omega⟩ : Fin 2064) (⟨k.val, H.2⟩ : Fin 2576)) else 0 := by
  refine (Layout.rows_at _ _ rfl b (⟨64 * n.val + i.val, by omega⟩ : Fin 2112) k).trans ((Layout.pad3_at _ _ _ _ rfl _ _ _).trans ?_)
  simp only [zeroI_apply]
set_option maxHeartbeats 1000000 in
include h in
/-- The columns of the four arguments, rows of zeros in front. -/
theorem u_at (b : Fin 2) (n : Fin 33) (i : Fin 64) :
    (∀ k : Fin 256, uRows (m := m) (c := c) (ix2 (crow b n i) (⟨1024 + k.val, by omega⟩ : Fin 2688)) = ((pd A.q b n i k : ℝ) : EReal))
    ∧ (∀ k : Fin 256, uRows (m := m) (c := c) (ix2 (crow b n i) (⟨1280 + k.val, by omega⟩ : Fin 2688)) = ((pd A.k b n i k : ℝ) : EReal))
    ∧ (∀ k : Fin 512, uRows (m := m) (c := c) (ix2 (crow b n i) (⟨1536 + k.val, by omega⟩ : Fin 2688)) = ((pd A.v b n i k : ℝ) : EReal))
    ∧ (∀ k : Fin 512, uRows (m := m) (c := c) (ix2 (crow b n i) (⟨2048 + k.val, by omega⟩ : Fin 2688)) = ((pd A.r b n i k : ℝ) : EReal))
    ∧ (∀ k : Fin 128, uRows (m := m) (c := c) (ix2 (crow b n i) (⟨2560 + k.val, by omega⟩ : Fin 2688))
        = (((if H : k.val < 16 then pd A.gd b n i ⟨k.val, H⟩ else 0) : ℝ) : EReal)) := by
  refine ⟨fun k => ?_, fun k => ?_, fun k => ?_, fun k => ?_, fun k => ?_⟩ <;> rw [uRows_at]
  · simp only [pd]
    split_ifs with h1 h2 h2
    · exact Eq.trans (by unfold cols; pointwise) (h.a1 b _ k)
    all_goals first | omega | rfl
  · simp only [pd]
    split_ifs with h1 h2 h2
    · refine Eq.trans ?_ (h.a2 b _ k)
      unfold cols; pointwise
      split_ifs <;> first | omega | exact congrArg _ (congrArg (ix3 b _) (Fin.ext (by dsimp only; omega)))
    all_goals first | omega | rfl
  · simp only [pd]
    split_ifs with h1 h2 h2
    · refine Eq.trans ?_ (h.a3 b _ k)
      unfold cols; pointwise
      split_ifs <;> first | omega | exact congrArg _ (congrArg (ix3 b _) (Fin.ext (by dsimp only; omega)))
    all_goals first | omega | rfl
  · simp only [pd]
    split_ifs with h1 h2 h2
    · refine Eq.trans ?_ (h.a4 b _ k)
      unfold cols; pointwise
      split_ifs <;> first | omega | exact congrArg _ (congrArg (ix3 b _) (Fin.ext (by dsimp only; omega)))
    all_goals first | omega | rfl
  · simp only [pd]
    split_ifs with h1 h2 h3 h2 h3
    · refine Eq.trans ?_ (h.a5 b _ ⟨k.val, h2⟩)
      unfold cols; pointwise
      split_ifs <;> first | omega | exact congrArg _ (congrArg (ix3 b _) (Fin.ext (by dsimp only; omega)))
    all_goals first | omega | rfl

/-- Every prepared array as the host computes it. -/
theorem V_all :
    V m c main_v2 = uRows (m := m) (c := c)
    ∧ V m c main_v4 = truncf .bf16 (pad S128x256 ![0, 0] ![112, 0] ![0, 0] (m ((c : Thread nD τ).loc main_arg6)) zeroI pads_S16x256_S128x256_01120_000 h_S_) bitsLt_bf16_f32
    ∧ V m c main_v5 = broadcastInDim S1x256 ![1] bcast_S256_S1x256_1 (m ((c : Thread nD τ).loc main_arg7))
    ∧ V m c main_v6 = broadcastInDim S1x128 ![1] bcast_S128_S1x128_1 (m ((c : Thread nD τ).loc main_arg8)) := by
  simp only [V, hostOps0, hostOps0_1, hostOps0_2, hostOps0_3, hostOps0_4, List.flatten_cons, List.flatten_nil, List.cons_append, List.nil_append, List.append_nil]
  refine ⟨?_, ?_, ?_, ?_⟩ <;> (entry_read; rfl)

theorem idx : ∀ t : Fin cfg0.N, win0_0.index t = ![t.val, 2] ∧ win0_1.index t = ![t.val, 3] ∧ win0_2.index t = ![t.val, 4] ∧ win0_3.index t = ![t.val, 20]
    ∧ win0_4.index t = ![0, 0] ∧ win0_5.index t = ![0, 0] ∧ win0_6.index t = ![0, 0] ∧ win0_7.index t = ![t.val, 0] ∧ win0_8.index t = ![t.val, 0, 0, 0] :=
  (by decide +kernel : ∀ t : Fin grid0.N, _)

theorem t_lt (t : Fin cfg0.N) : t.val < 22 := by have := t.isLt; simp only [show cfg0.N = 22 from N_0] at this; exact this
/-- The sequence and the first chunk that a grid point works on. -/
abbrev seq (t : Fin cfg0.N) : Fin 2 := ⟨t.val / 11, by have := t_lt t; omega⟩
abbrev chunk (t : Fin cfg0.N) (j : Fin 3) : Fin 33 := ⟨3 * (t.val % 11) + j.val, by omega⟩

section
variable (t : Fin cfg0.N) (j : Fin 3) (i : Fin 64)
theorem row_eq : t.val * 192 + (64 * j.val + i.val) = t.val / 11 * 2112 + (64 * (3 * (t.val % 11) + j.val) + i.val) := by omega
theorem b0 (k : Fin 512) : X0_0 m c t (ix2 (brow j i) k) = V m c main_v2 (ix2 (crow (seq t) (chunk t j) i) (⟨1024 + k.val, by omega⟩ : Fin 2688)) := by
  unfold X0_0 Pipeline.Window.fill
  rw [dif_pos (moved0_0 t _)]
  show V m c main_v2 (((cfg0.win 0).blk t).view.emb _) = _; blk_ext [idx t]
theorem b1 (k : Fin 512) : X0_1 m c t (ix2 (brow j i) k) = V m c main_v2 (ix2 (crow (seq t) (chunk t j) i) (⟨1536 + k.val, by omega⟩ : Fin 2688)) := by
  unfold X0_1 Pipeline.Window.fill
  rw [dif_pos (moved0_1 t _)]
  show V m c main_v2 (((cfg0.win 1).blk t).view.emb _) = _; blk_ext [idx t]
theorem b2 (k : Fin 512) : X0_2 m c t (ix2 (brow j i) k) = V m c main_v2 (ix2 (crow (seq t) (chunk t j) i) (⟨2048 + k.val, by omega⟩ : Fin 2688)) := by
  unfold X0_2 Pipeline.Window.fill
  rw [dif_pos (moved0_2 t _)]
  show V m c main_v2 (((cfg0.win 2).blk t).view.emb _) = _; blk_ext [idx t]
theorem b3 (k : Fin 128) : iblk m c 3 t (ix2 (brow j i) k) = V m c main_v2 (ix2 (crow (seq t) (chunk t j) i) (⟨2560 + k.val, by omega⟩ : Fin 2688)) := by
  show V m c main_v2 (((cfg0.win 3).blk t).view.emb _) = _; blk_ext [idx t]
theorem b4 (g : Fin 128) (k : Fin 256) : iblk m c 4 t (ix2 g k) = V m c main_v4 (ix2 g k) := by
  show V m c main_v4 (((cfg0.win 4).blk t).view.emb _) = _; blk_ext [idx t]
theorem b5 (k : Fin 256) : iblk m c 5 t (ix2 0 k) = V m c main_v5 (ix2 0 k) := by
  show V m c main_v5 (((cfg0.win 5).blk t).view.emb _) = _; blk_ext [idx t]
theorem b6 (k : Fin 128) : iblk m c 6 t (ix2 0 k) = V m c main_v6 (ix2 0 k) := by
  show V m c main_v6 (((cfg0.win 6).blk t).view.emb _) = _; blk_ext [idx t]
end

/-- The rows of zeros in front are those that the kernel masks. -/
theorem mask_at : ∀ (t : Fin 22) (j : Fin 3) (i : Fin 64),
    (IntOp.cmpi .sge (IntOp.addi (IntOp.muli (IntOp.addi (Scalar.muli (BitVec.ofNat 32 (t.val % 11)) 3#32) (BitVec.ofNat 32 j.val)) 64#32) (BitVec.ofNat 32 i.val)) 48#32)
      = if 48 ≤ 64 * (3 * (t.val % 11) + j.val) + i.val then 1#1 else 0#1 := by
  decide +kernel
theorem coord : ∀ t : Fin cfg0.N, (grid0.coords t 1).val = t.val % 11 := (by decide +kernel : ∀ t : Fin grid0.N, _)

include h in
theorem good (t : Fin cfg0.N) : Good (blocks m c t) A (seq t) (3 * (t.val % 11)) where
  q j i k := (b0 t j i _).trans ((congrFun V_all.1 _).trans ((congrArg _ (congrArg (ix2 _) (Fin.ext rfl))).trans ((u_at h _ (chunk t j) i).1 k)))
  k j i k := (b0 t j i _).trans ((congrFun V_all.1 _).trans ((congrArg _ (congrArg (ix2 _) (Fin.ext (by dsimp only; omega)))).trans ((u_at h _ (chunk t j) i).2.1 k)))
  v j i k := (b1 t j i _).trans ((congrFun V_all.1 _).trans ((u_at h _ (chunk t j) i).2.2.1 k))
  r j i k := (b2 t j i _).trans ((congrFun V_all.1 _).trans ((u_at h _ (chunk t j) i).2.2.2.1 k))
  gd j i k := (b3 t j i _).trans ((congrFun V_all.1 _).trans ((u_at h _ (chunk t j) i).2.2.2.2 k))
  gu g k := by
    refine (b4 t g k).trans ((congrFun V_all.2.1 _).trans ((Layout.pad2_at _ _ pads_S16x256_S128x256_01120_000 h_S_ g k).trans ?_))
    simp only [zeroI_apply]
    split_ifs
    · exact h.a6 _ _
    all_goals first | omega | rfl
  gb k := (b5 t k).trans ((congrFun V_all.2.2.1 _).trans (Eq.trans (by pointwise) (h.a7 k)))
  gn k := (b6 t k).trans ((congrFun V_all.2.2.2 _).trans (Eq.trans (by pointwise) (h.a8 k)))
  n j i := by
    refine Eq.trans ?_ (mask_at ⟨t.val, t_lt t⟩ j i)
    unfold blocks; dsimp only
    rw [coord t]
    unfold rowMask
    pointwise
    rfl
end Cert.Kernel3Ideal.Gla
-- ==== Proof.GlaOut.lean ====
module
public import proofs.«01_k».proof.Proof.GlaEntry
public import Idealize.ShloMosaic.Lib.Pipeline.ReadBack
@[expose] public section
set_option maxRecDepth 16384
/-! # What the attention's kernel leaves after a grid point -/
noncomputable section
namespace Cert.Kernel3Ideal.Gla
open Cert.Kernel3Ideal Cert.Kernel3Ideal.Gen Idealize.ShloMosaic Idealize.ShloMosaic.TcCoe Cert.Real Cert.Gla

/-- Head `h` of the carried states, as the kernel loads it. -/
def slab (X : FVec Ideal S4x128x128 .f32) : Fin 4 → FVec Ideal S1x128x128 .f32
  | 0 => fun y => X ((Rect.unit (s := S4x128x128) ![0, 0, 0] ![1, 128, 128] inb_S4x128x128_S1x128x128_0_0_0).idx y)
  | 1 => fun y => X ((Rect.unit (s := S4x128x128) ![1, 0, 0] ![1, 128, 128] inb_S4x128x128_S1x128x128_1_0_0).idx y)
  | 2 => fun y => X ((Rect.unit (s := S4x128x128) ![2, 0, 0] ![1, 128, 128] inb_S4x128x128_S1x128x128_2_0_0).idx y)
  | 3 => fun y => X ((Rect.unit (s := S4x128x128) ![3, 0, 0] ![1, 128, 128] inb_S4x128x128_S1x128x128_3_0_0).idx y)
theorem slab_at (X : FVec Ideal S4x128x128 .f32) (h : Fin 4) (e l : Fin 128) : slab X h (ix3 0 e l) = X (ix3 h e l) := by
  match h with
  | 0 => simp only [slab]; pointwise
  | 1 => simp only [slab]; pointwise
  | 2 => simp only [slab]; pointwise
  | 3 => simp only [slab]; pointwise

theorem slab_eq {X : FVec Ideal S4x128x128 .f32} {L0 L1 L2 L3 : FVec Ideal S1x128x128 .f32} (h0 : slab X 0 = L0) (h1 : slab X 1 = L1) (h2 : slab X 2 = L2) (h3 : slab X 3 = L3) :
    slab X = fam4 L0 L1 L2 L3 := by
  funext h
  match h with
  | 0 => exact h0
  | 1 => exact h1
  | 2 => exact h2
  | 3 => exact h3

section
variable {B : Blocks} {L : Fin 4 → FVec Ideal S1x128x128 .f32}
/-- A stored tile at an element of the array that it lies in. -/
theorem rows_of {T : Fin 192 → Fin 512 → EReal} {a : Fin 192} {b : Fin 512} (P : ∀ j h i e, B.go j L h (ix2 i e) = T (brow j i) (vc h e))
    (j : Fin 3) (h : Fin 4) (x : S64x128.Idx) (ha : a.val = 64 * j.val + (x 0).val) (hb : b.val = 128 * h.val + (x 1).val) : B.go j L h x = T a b := by
  obtain ⟨i, e, rfl⟩ : ∃ (i : Fin 64) (e : Fin 128), x = ix2 i e := ⟨x 0, x 1, by funext d; match d with | ⟨0, _⟩ => rfl | ⟨1, _⟩ => rfl⟩
  rw [P j h i e]
  exact congrArg₂ T (Fin.ext ha.symm) (Fin.ext hb.symm)
theorem state_of {T : Fin 4 → Fin 128 → Fin 128 → EReal} {a : Fin 4} {b d : Fin 128} (P : ∀ h e l, B.st L 3 h (ix2 e l) = T h e l)
    (h : Fin 4) (x : S1x128x128.Idx) (ha : a.val = h.val + (x 0).val) (hb : b.val = (x 1).val) (hd : d.val = (x 2).val) : k0_pay1 (B.st L 3 h) x = T a b d := by
  obtain ⟨z, i, e, rfl⟩ : ∃ (z : Fin 1) (i e : Fin 128), x = ix3 z i e := ⟨x 0, x 1, x 2, by funext d; match d with | ⟨0, _⟩ => rfl | ⟨1, _⟩ => rfl | ⟨2, _⟩ => rfl⟩
  have e1 : k0_pay1 (B.st L 3 h) (ix3 z i e) = B.st L 3 h (ix2 i e) := by pointwise [k0_pay1]
  rw [e1, P h i e]
  have hz : z.val = 0 := by omega
  obtain rfl : a = h := Fin.ext (ha.trans (show h.val + z.val = h.val by omega))
  obtain rfl : b = i := Fin.ext hb
  obtain rfl : d = e := Fin.ext hd
  rfl
theorem states_of {T : Fin 3 → Fin 4 → Fin 128 → Fin 128 → EReal} {g : Fin 3} {a : Fin 4} {b d : Fin 128}
    (P : ∀ (j : Fin 3) h e l, B.st L j.castSucc h (ix2 e l) = T j h e l)
    (j : Fin 3) (h : Fin 4) (x : S1x1x128x128.Idx) (hg : g.val = j.val + (x 0).val) (ha : a.val = h.val + (x 1).val) (hb : b.val = (x 2).val) (hd : d.val = (x 3).val) :
    k0_pay162 (B.st L j.castSucc h) x = T g a b d := by
  obtain ⟨y, z, i, e, rfl⟩ : ∃ (y z : Fin 1) (i e : Fin 128), x = ix4 y z i e :=
    ⟨x 0, x 1, x 2, x 3, by funext d; match d with | ⟨0, _⟩ => rfl | ⟨1, _⟩ => rfl | ⟨2, _⟩ => rfl | ⟨3, _⟩ => rfl⟩
  have e1 : k0_pay162 (B.st L j.castSucc h) (ix4 y z i e) = B.st L j.castSucc h (ix2 i e) := by pointwise [k0_pay162]
  rw [e1, P j h i e]
  have hz : z.val = 0 := by omega
  have hy : y.val = 0 := by omega
  obtain rfl : g = j := Fin.ext (hg.trans (show j.val + y.val = j.val by omega))
  obtain rfl : a = h := Fin.ext (ha.trans (show h.val + z.val = h.val by omega))
  obtain rfl : b = i := Fin.ext hb
  obtain rfl : d = e := Fin.ext hd
  rfl
end

/-- A state, as the kernel stores it. -/
theorem same_store : k0_pay2 (F := Ideal) = k0_pay1 ∧ k0_pay3 (F := Ideal) = k0_pay1 ∧ k0_pay4 (F := Ideal) = k0_pay1 := ⟨rfl, rfl, rfl⟩
theorem same_state : (∀ L, k0_pay158 (F := Ideal) L = k0_pay162 (k0_pay154 L)) ∧ k0_pay166 (F := Ideal) = k0_pay162 ∧ k0_pay171 (F := Ideal) = k0_pay162
    ∧ k0_pay176 (F := Ideal) = k0_pay162 ∧ k0_pay181 (F := Ideal) = k0_pay162 ∧ k0_pay187 (F := Ideal) = k0_pay162 ∧ k0_pay192 (F := Ideal) = k0_pay162
    ∧ k0_pay197 (F := Ideal) = k0_pay162 ∧ k0_pay203 (F := Ideal) = k0_pay162 ∧ k0_pay210 (F := Ideal) = k0_pay162 ∧ k0_pay213 (F := Ideal) = k0_pay162 :=
  ⟨fun _ => rfl, rfl, rfl, rfl, rfl, rfl, rfl, rfl, rfl, rfl, rfl⟩
/-- Stores before others that cover an index do not show there. -/
theorem canon_drop {s : Shape} {ty : EltTy} {y : s.Idx} (L' : List (View.Piece (Elt Ideal) s ty)) : ∀ L : List (View.Piece (Elt Ideal) s ty), (∃ p ∈ L, y ∈ p.1.set) →
    View.canon (L ++ L') y = View.canon L y
  | [], h => by obtain ⟨p, hp, _⟩ := h; exact absurd hp List.not_mem_nil
  | p :: L, h => by
    by_cases hy : y ∈ p.1.set
    · obtain ⟨x, rfl⟩ : ∃ x, p.1.emb x = y := p.1.exists_idx_of_mem hy
      exact (View.canon_cons_emb p.1 p.2 (L ++ L') x).trans (View.canon_cons_emb p.1 p.2 L x).symm
    · refine (View.canon_cons_of_not_mem p (L ++ L') hy).trans ((canon_drop L' L ?_).trans (View.canon_cons_of_not_mem p L hy).symm)
      obtain ⟨q, hq, hq'⟩ := h
      rcases List.mem_cons.mp hq with rfl | hq
      · exact absurd hq' hy
      · exact ⟨q, hq, hq'⟩
theorem slab_mem {k : ℕ} (inb : ∀ a : Fin S4x128x128.rank, (![k, 0, 0] : Fin 3 → ℕ) a + (![1, 128, 128] : Fin 3 → ℕ) a ≤ S4x128x128.size a) (h : Fin 4) (e l : Fin 128)
    (hk : h.val = k) : (ix3 h e l : S4x128x128.Idx) ∈ (Rect.unit (s := S4x128x128) ![k, 0, 0] ![1, 128, 128] inb).set := by
  rw [Rect.mem_set_unit]
  intro a
  match a with
  | ⟨0, _⟩ => show k ≤ h.val ∧ h.val < k + 1; omega
  | ⟨1, _⟩ => show 0 ≤ e.val ∧ e.val < 0 + 128; omega
  | ⟨2, _⟩ => show 0 ≤ l.val ∧ l.val < 0 + 128; omega
theorem slab_cover (h : Fin 4) (e l : Fin 128) :
    (ix3 h e l : S4x128x128.Idx) ∈ (Rect.unit (s := S4x128x128) ![3, 0, 0] ![1, 128, 128] inb_S4x128x128_S1x128x128_3_0_0).set
    ∨ (ix3 h e l : S4x128x128.Idx) ∈ (Rect.unit (s := S4x128x128) ![2, 0, 0] ![1, 128, 128] inb_S4x128x128_S1x128x128_2_0_0).set
    ∨ (ix3 h e l : S4x128x128.Idx) ∈ (Rect.unit (s := S4x128x128) ![1, 0, 0] ![1, 128, 128] inb_S4x128x128_S1x128x128_1_0_0).set
    ∨ (ix3 h e l : S4x128x128.Idx) ∈ (Rect.unit (s := S4x128x128) ![0, 0, 0] ![1, 128, 128] inb_S4x128x128_S1x128x128_0_0_0).set := by
  match h with
  | 3 => exact .inl (slab_mem _ _ e l rfl)
  | 2 => exact .inr (.inl (slab_mem _ _ e l rfl))
  | 1 => exact .inr (.inr (.inl (slab_mem _ _ e l rfl)))
  | 0 => exact .inr (.inr (.inr (slab_mem _ _ e l rfl)))
theorem zero3 : ∀ a : Fin S4x128x128.rank, (![0, 0, 0] : Fin 3 → ℕ) a = 0 := by decide
variable (m : (ℓ : Loc nD τ sig) → Buf (Elt Ideal) ℓ) (c : Dev nD) (t : Fin cfg0.N)
set_option maxHeartbeats 4000000 in
theorem scratch_A (h0 : t.val % 11 = 0) {T : Fin 4 → Fin 128 → Fin 128 → EReal} (P : ∀ h e l, (blocks m c t).st (slab (k0_pay5 (F := Ideal))) 3 h (ix2 e l) = T h e l) (h : Fin 4) (e l : Fin 128) :
    (outsAt0 m c t.val t.isLt).2.2 (ix3 h e l) = T h e l := by
  rw [outsAt0_A m c t h0]; frame_out
  simp only [View.readCov_fill _ _ _ _ _ zero3]
  generalize hL0 : View.ld (Val := Elt Ideal) (e' := .f32) (k0_pay5 (F := Ideal)) (Rect.unit (s := S4x128x128) ![0, 0, 0] ![1, 128, 128] inb_S4x128x128_S1x128x128_0_0_0) = L0
  generalize hL1 : View.ld (Val := Elt Ideal) (e' := .f32) (k0_pay5 (F := Ideal)) (Rect.unit (s := S4x128x128) ![1, 0, 0] ![1, 128, 128] inb_S4x128x128_S1x128x128_1_0_0) = L1
  generalize hL2 : View.ld (Val := Elt Ideal) (e' := .f32) (k0_pay5 (F := Ideal)) (Rect.unit (s := S4x128x128) ![2, 0, 0] ![1, 128, 128] inb_S4x128x128_S1x128x128_2_0_0) = L2
  generalize hL3 : View.ld (Val := Elt Ideal) (e' := .f32) (k0_pay5 (F := Ideal)) (Rect.unit (s := S4x128x128) ![3, 0, 0] ![1, 128, 128] inb_S4x128x128_S1x128x128_3_0_0) = L3
  have e : slab (k0_pay5 (F := Ideal)) = fam4 (α := FVec Ideal S1x128x128 .f32) L0 L1 L2 L3 := slab_eq hL0 hL1 hL2 hL3
  rw [e] at P
  clear hL0 hL1 hL2 hL3 e
  have Q := fun h' x k0 k1 k2 => state_of (a := h) (b := e) (d := l) P h' x k0 k1 k2
  refine (canon_drop [_] [_, _, _, _] ?cover).trans ?_
  case cover =>
    rcases slab_cover h e l with k | k | k | k
    · exact ⟨_, List.mem_cons_self, k⟩
    · exact ⟨_, List.mem_cons_of_mem _ List.mem_cons_self, k⟩
    · exact ⟨_, List.mem_cons_of_mem _ (List.mem_cons_of_mem _ List.mem_cons_self), k⟩
    · exact ⟨_, List.mem_cons_of_mem _ (List.mem_cons_of_mem _ (List.mem_cons_of_mem _ List.mem_cons_self)), k⟩
  canon_tiles x h
  all_goals try simp only [same_z, same_lg, same_cum, same_qk, same_qeH, same_keH, same_v, same_att, same_intra, same_inc, same_load, same_next, same_gated, same_store, same_state]
  case piece0 => exact Q 3 x h0 h1 h2
  case piece1 => exact Q 2 x h0 h1 h2
  case piece2 => exact Q 1 x h0 h1 h2
  case piece3 => exact Q 0 x (h0.trans (Nat.zero_add _).symm) h1 h2

set_option maxHeartbeats 4000000 in
theorem scratch_B (h0 : ¬ t.val % 11 = 0) {T : Fin 4 → Fin 128 → Fin 128 → EReal} (P : ∀ h e l, (blocks m c t).st (slab (outsAt0 m c (t.val - 1) (by have := t.isLt; omega)).2.2) 3 h (ix2 e l) = T h e l) (h : Fin 4) (e l : Fin 128) :
    (outsAt0 m c t.val t.isLt).2.2 (ix3 h e l) = T h e l := by
  rw [outsAt0_B m c t h0]; frame_out
  simp only [read_unread_whole]
  generalize hL0 : View.ld (Val := Elt Ideal) (e' := .f32) (outsAt0 m c (t.val - 1) (by have := t.isLt; omega)).2.2 (Rect.unit (s := S4x128x128) ![0, 0, 0] ![1, 128, 128] inb_S4x128x128_S1x128x128_0_0_0) = L0
  generalize hL1 : View.ld (Val := Elt Ideal) (e' := .f32) (outsAt0 m c (t.val - 1) (by have := t.isLt; omega)).2.2 (Rect.unit (s := S4x128x128) ![1, 0, 0] ![1, 128, 128] inb_S4x128x128_S1x128x128_1_0_0) = L1
  generalize hL2 : View.ld (Val := Elt Ideal) (e' := .f32) (outsAt0 m c (t.val - 1) (by have := t.isLt; omega)).2.2 (Rect.unit (s := S4x128x128) ![2, 0, 0] ![1, 128, 128] inb_S4x128x128_S1x128x128_2_0_0) = L2
  generalize hL3 : View.ld (Val := Elt Ideal) (e' := .f32) (outsAt0 m c (t.val - 1) (by have := t.isLt; omega)).2.2 (Rect.unit (s := S4x128x128) ![3, 0, 0] ![1, 128, 128] inb_S4x128x128_S1x128x128_3_0_0) = L3
  have e : slab (outsAt0 m c (t.val - 1) (by have := t.isLt; omega)).2.2 = fam4 (α := FVec Ideal S1x128x128 .f32) L0 L1 L2 L3 := slab_eq hL0 hL1 hL2 hL3
  rw [e] at P
  clear hL0 hL1 hL2 hL3 e
  have Q := fun h' x k0 k1 k2 => state_of (a := h) (b := e) (d := l) P h' x k0 k1 k2
  canon_tiles x h
  all_goals try simp only [same_z, same_lg, same_cum, same_qk, same_qeH, same_keH, same_v, same_att, same_intra, same_inc, same_load, same_next, same_gated, same_store, same_state]
  case piece0 => exact Q 3 x h0 h1 h2
  case piece1 => exact Q 2 x h0 h1 h2
  case piece2 => exact Q 1 x h0 h1 h2
  case piece3 => exact Q 0 x (h0.trans (Nat.zero_add _).symm) h1 h2
end Cert.Kernel3Ideal.Gla
-- ==== Proof.GlaOutA.lean ====
module
public import proofs.«01_k».proof.Proof.GlaOut
@[expose] public section
set_option maxRecDepth 16384
/-! # What the attention's kernel leaves of its first result after a point that starts a sequence -/
noncomputable section
namespace Cert.Kernel3Ideal.Gla
open Cert.Kernel3Ideal Cert.Kernel3Ideal.Gen Idealize.ShloMosaic Idealize.ShloMosaic.TcCoe Cert.Real Cert.Gla

variable (m : (ℓ : Loc nD τ sig) → Buf (Elt Ideal) ℓ) (c : Dev nD) (t : Fin cfg0.N)
set_option maxHeartbeats 4000000 in
theorem out_A (h0 : t.val % 11 = 0) {T : Fin 192 → Fin 512 → EReal} (P : ∀ j h i e, (blocks m c t).go j (slab (k0_pay5 (F := Ideal))) h (ix2 i e) = T (brow j i) (vc h e)) (a : Fin 192) (b : Fin 512) :
    (outsAt0 m c t.val t.isLt).1 (ix2 a b) = T a b := by
  rw [outsAt0_A m c t h0]; frame_out
  simp only [View.readCov_fill _ _ _ _ _ zero3]
  generalize hL0 : View.ld (Val := Elt Ideal) (e' := .f32) (k0_pay5 (F := Ideal)) (Rect.unit (s := S4x128x128) ![0, 0, 0] ![1, 128, 128] inb_S4x128x128_S1x128x128_0_0_0) = L0
  generalize hL1 : View.ld (Val := Elt Ideal) (e' := .f32) (k0_pay5 (F := Ideal)) (Rect.unit (s := S4x128x128) ![1, 0, 0] ![1, 128, 128] inb_S4x128x128_S1x128x128_1_0_0) = L1
  generalize hL2 : View.ld (Val := Elt Ideal) (e' := .f32) (k0_pay5 (F := Ideal)) (Rect.unit (s := S4x128x128) ![2, 0, 0] ![1, 128, 128] inb_S4x128x128_S1x128x128_2_0_0) = L2
  generalize hL3 : View.ld (Val := Elt Ideal) (e' := .f32) (k0_pay5 (F := Ideal)) (Rect.unit (s := S4x128x128) ![3, 0, 0] ![1, 128, 128] inb_S4x128x128_S1x128x128_3_0_0) = L3
  have e : slab (k0_pay5 (F := Ideal)) = fam4 (α := FVec Ideal S1x128x128 .f32) L0 L1 L2 L3 := slab_eq hL0 hL1 hL2 hL3
  rw [e] at P
  clear hL0 hL1 hL2 hL3 e
  have Q := fun j h x k0 k1 => rows_of (a := a) (b := b) P j h x k0 k1
  canon_tiles x h
  all_goals try simp only [same_z, same_lg, same_cum, same_qk, same_qeH, same_keH, same_v, same_att, same_intra, same_inc, same_load, same_next, same_gated, same_store, same_state]
  case piece0 => exact Q 2 3 x h0 h1
  case piece1 => exact Q 2 2 x h0 h1
  case piece2 => exact Q 2 1 x h0 h1
  case piece3 => exact Q 2 0 x h0 (h1.trans (Nat.zero_add _).symm)
  case piece4 => exact Q 1 3 x h0 h1
  case piece5 => exact Q 1 2 x h0 h1
  case piece6 => exact Q 1 1 x h0 h1
  case piece7 => exact Q 1 0 x h0 (h1.trans (Nat.zero_add _).symm)
  case piece8 => exact Q 0 3 x (h0.trans (Nat.zero_add _).symm) h1
  case piece9 => exact Q 0 2 x (h0.trans (Nat.zero_add _).symm) h1
  case piece10 => exact Q 0 1 x (h0.trans (Nat.zero_add _).symm) h1
  case piece11 => exact Q 0 0 x (h0.trans (Nat.zero_add _).symm) (h1.trans (Nat.zero_add _).symm)
end Cert.Kernel3Ideal.Gla
-- ==== Proof.GlaOutB.lean ====
module
public import proofs.«01_k».proof.Proof.GlaOut
@[expose] public section
set_option maxRecDepth 16384
/-! # What the attention's kernel leaves of its first result after a later point -/
noncomputable section
namespace Cert.Kernel3Ideal.Gla
open Cert.Kernel3Ideal Cert.Kernel3Ideal.Gen Idealize.ShloMosaic Idealize.ShloMosaic.TcCoe Cert.Real Cert.Gla

variable (m : (ℓ : Loc nD τ sig) → Buf (Elt Ideal) ℓ) (c : Dev nD) (t : Fin cfg0.N)
set_option maxHeartbeats 4000000 in
theorem out_B (h0 : ¬ t.val % 11 = 0) {T : Fin 192 → Fin 512 → EReal} (P : ∀ j h i e, (blocks m c t).go j (slab (outsAt0 m c (t.val - 1) (by have := t.isLt; omega)).2.2) h (ix2 i e) = T (brow j i) (vc h e)) (a : Fin 192) (b : Fin 512) :
    (outsAt0 m c t.val t.isLt).1 (ix2 a b) = T a b := by
  rw [outsAt0_B m c t h0]; frame_out
  simp only [read_unread_whole]
  generalize hL0 : View.ld (Val := Elt Ideal) (e' := .f32) (outsAt0 m c (t.val - 1) (by have := t.isLt; omega)).2.2 (Rect.unit (s := S4x128x128) ![0, 0, 0] ![1, 128, 128] inb_S4x128x128_S1x128x128_0_0_0) = L0
  generalize hL1 : View.ld (Val := Elt Ideal) (e' := .f32) (outsAt0 m c (t.val - 1) (by have := t.isLt; omega)).2.2 (Rect.unit (s := S4x128x128) ![1, 0, 0] ![1, 128, 128] inb_S4x128x128_S1x128x128_1_0_0) = L1
  generalize hL2 : View.ld (Val := Elt Ideal) (e' := .f32) (outsAt0 m c (t.val - 1) (by have := t.isLt; omega)).2.2 (Rect.unit (s := S4x128x128) ![2, 0, 0] ![1, 128, 128] inb_S4x128x128_S1x128x128_2_0_0) = L2
  generalize hL3 : View.ld (Val := Elt Ideal) (e' := .f32) (outsAt0 m c (t.val - 1) (by have := t.isLt; omega)).2.2 (Rect.unit (s := S4x128x128) ![3, 0, 0] ![1, 128, 128] inb_S4x128x128_S1x128x128_3_0_0) = L3
  have e : slab (outsAt0 m c (t.val - 1) (by have := t.isLt; omega)).2.2 = fam4 (α := FVec Ideal S1x128x128 .f32) L0 L1 L2 L3 := slab_eq hL0 hL1 hL2 hL3
  rw [e] at P
  clear hL0 hL1 hL2 hL3 e
  have Q := fun j h x k0 k1 => rows_of (a := a) (b := b) P j h x k0 k1
  canon_tiles x h
  all_goals try simp only [same_z, same_lg, same_cum, same_qk, same_qeH, same_keH, same_v, same_att, same_intra, same_inc, same_load, same_next, same_gated, same_store, same_state]
  case piece0 => exact Q 2 3 x h0 h1
  case piece1 => exact Q 2 2 x h0 h1
  case piece2 => exact Q 2 1 x h0 h1
  case piece3 => exact Q 2 0 x h0 (h1.trans (Nat.zero_add _).symm)
  case piece4 => exact Q 1 3 x h0 h1
  case piece5 => exact Q 1 2 x h0 h1
  case piece6 => exact Q 1 1 x h0 h1
  case piece7 => exact Q 1 0 x h0 (h1.trans (Nat.zero_add _).symm)
  case piece8 => exact Q 0 3 x (h0.trans (Nat.zero_add _).symm) h1
  case piece9 => exact Q 0 2 x (h0.trans (Nat.zero_add _).symm) h1
  case piece10 => exact Q 0 1 x (h0.trans (Nat.zero_add _).symm) h1
  case piece11 => exact Q 0 0 x (h0.trans (Nat.zero_add _).symm) (h1.trans (Nat.zero_add _).symm)
end Cert.Kernel3Ideal.Gla
-- ==== Proof.GlaStates.lean ====
module
public import proofs.«01_k».proof.Proof.GlaOut
@[expose] public section
set_option maxRecDepth 16384
/-! # What the attention's kernel leaves of the states -/
noncomputable section
namespace Cert.Kernel3Ideal.Gla
open Cert.Kernel3Ideal Cert.Kernel3Ideal.Gen Idealize.ShloMosaic Idealize.ShloMosaic.TcCoe Cert.Real Cert.Gla

variable (m : (ℓ : Loc nD τ sig) → Buf (Elt Ideal) ℓ) (c : Dev nD) (t : Fin cfg0.N)
set_option maxHeartbeats 4000000 in
theorem states_A (h0 : t.val % 11 = 0) {T : Fin 3 → Fin 4 → Fin 128 → Fin 128 → EReal} (P : ∀ (j : Fin 3) h e l, (blocks m c t).st (slab (k0_pay5 (F := Ideal))) j.castSucc h (ix2 e l) = T j h e l) (j : Fin 3) (h : Fin 4) (e l : Fin 128) :
    (outsAt0 m c t.val t.isLt).2.1 (ix4 j h e l) = T j h e l := by
  rw [outsAt0_A m c t h0]; frame_out
  simp only [View.readCov_fill _ _ _ _ _ zero3]
  generalize hL0 : View.ld (Val := Elt Ideal) (e' := .f32) (k0_pay5 (F := Ideal)) (Rect.unit (s := S4x128x128) ![0, 0, 0] ![1, 128, 128] inb_S4x128x128_S1x128x128_0_0_0) = L0
  generalize hL1 : View.ld (Val := Elt Ideal) (e' := .f32) (k0_pay5 (F := Ideal)) (Rect.unit (s := S4x128x128) ![1, 0, 0] ![1, 128, 128] inb_S4x128x128_S1x128x128_1_0_0) = L1
  generalize hL2 : View.ld (Val := Elt Ideal) (e' := .f32) (k0_pay5 (F := Ideal)) (Rect.unit (s := S4x128x128) ![2, 0, 0] ![1, 128, 128] inb_S4x128x128_S1x128x128_2_0_0) = L2
  generalize hL3 : View.ld (Val := Elt Ideal) (e' := .f32) (k0_pay5 (F := Ideal)) (Rect.unit (s := S4x128x128) ![3, 0, 0] ![1, 128, 128] inb_S4x128x128_S1x128x128_3_0_0) = L3
  have e : slab (k0_pay5 (F := Ideal)) = fam4 (α := FVec Ideal S1x128x128 .f32) L0 L1 L2 L3 := slab_eq hL0 hL1 hL2 hL3
  rw [e] at P
  clear hL0 hL1 hL2 hL3 e
  have Q := fun j' h' x k0 k1 k2 k3 => states_of (g := j) (a := h) (b := e) (d := l) P j' h' x k0 k1 k2 k3
  canon_tiles x h
  all_goals try simp only [same_z, same_lg, same_cum, same_qk, same_qeH, same_keH, same_v, same_att, same_intra, same_inc, same_load, same_next, same_gated, same_store, same_state]
  case piece0 => exact Q 2 3 x h0 h1 h2 h3
  case piece1 => exact Q 2 2 x h0 h1 h2 h3
  case piece2 => exact Q 2 1 x h0 h1 h2 h3
  case piece3 => exact Q 2 0 x h0 (h1.trans (Nat.zero_add _).symm) h2 h3
  case piece4 => exact Q 1 3 x h0 h1 h2 h3
  case piece5 => exact Q 1 2 x h0 h1 h2 h3
  case piece6 => exact Q 1 1 x h0 h1 h2 h3
  case piece7 => exact Q 1 0 x h0 (h1.trans (Nat.zero_add _).symm) h2 h3
  case piece8 => exact Q 0 3 x (h0.trans (Nat.zero_add _).symm) h1 h2 h3
  case piece9 => exact Q 0 2 x (h0.trans (Nat.zero_add _).symm) h1 h2 h3
  case piece10 => exact Q 0 1 x (h0.trans (Nat.zero_add _).symm) h1 h2 h3
  case piece11 => exact Q 0 0 x (h0.trans (Nat.zero_add _).symm) (h1.trans (Nat.zero_add _).symm) h2 h3

set_option maxHeartbeats 4000000 in
theorem states_B (h0 : ¬ t.val % 11 = 0) {T : Fin 3 → Fin 4 → Fin 128 → Fin 128 → EReal} (P : ∀ (j : Fin 3) h e l, (blocks m c t).st (slab (outsAt0 m c (t.val - 1) (by have := t.isLt; omega)).2.2) j.castSucc h (ix2 e l) = T j h e l) (j : Fin 3) (h : Fin 4) (e l : Fin 128) :
    (outsAt0 m c t.val t.isLt).2.1 (ix4 j h e l) = T j h e l := by
  rw [outsAt0_B m c t h0]; frame_out
  simp only [read_unread_whole]
  generalize hL0 : View.ld (Val := Elt Ideal) (e' := .f32) (outsAt0 m c (t.val - 1) (by have := t.isLt; omega)).2.2 (Rect.unit (s := S4x128x128) ![0, 0, 0] ![1, 128, 128] inb_S4x128x128_S1x128x128_0_0_0) = L0
  generalize hL1 : View.ld (Val := Elt Ideal) (e' := .f32) (outsAt0 m c (t.val - 1) (by have := t.isLt; omega)).2.2 (Rect.unit (s := S4x128x128) ![1, 0, 0] ![1, 128, 128] inb_S4x128x128_S1x128x128_1_0_0) = L1
  generalize hL2 : View.ld (Val := Elt Ideal) (e' := .f32) (outsAt0 m c (t.val - 1) (by have := t.isLt; omega)).2.2 (Rect.unit (s := S4x128x128) ![2, 0, 0] ![1, 128, 128] inb_S4x128x128_S1x128x128_2_0_0) = L2
  generalize hL3 : View.ld (Val := Elt Ideal) (e' := .f32) (outsAt0 m c (t.val - 1) (by have := t.isLt; omega)).2.2 (Rect.unit (s := S4x128x128) ![3, 0, 0] ![1, 128, 128] inb_S4x128x128_S1x128x128_3_0_0) = L3
  have e : slab (outsAt0 m c (t.val - 1) (by have := t.isLt; omega)).2.2 = fam4 (α := FVec Ideal S1x128x128 .f32) L0 L1 L2 L3 := slab_eq hL0 hL1 hL2 hL3
  rw [e] at P
  clear hL0 hL1 hL2 hL3 e
  have Q := fun j' h' x k0 k1 k2 k3 => states_of (g := j) (a := h) (b := e) (d := l) P j' h' x k0 k1 k2 k3
  canon_tiles x h
  all_goals try simp only [same_z, same_lg, same_cum, same_qk, same_qeH, same_keH, same_v, same_att, same_intra, same_inc, same_load, same_next, same_gated, same_store, same_state]
  case piece0 => exact Q 2 3 x h0 h1 h2 h3
  case piece1 => exact Q 2 2 x h0 h1 h2 h3
  case piece2 => exact Q 2 1 x h0 h1 h2 h3
  case piece3 => exact Q 2 0 x h0 (h1.trans (Nat.zero_add _).symm) h2 h3
  case piece4 => exact Q 1 3 x h0 h1 h2 h3
  case piece5 => exact Q 1 2 x h0 h1 h2 h3
  case piece6 => exact Q 1 1 x h0 h1 h2 h3
  case piece7 => exact Q 1 0 x h0 (h1.trans (Nat.zero_add _).symm) h2 h3
  case piece8 => exact Q 0 3 x (h0.trans (Nat.zero_add _).symm) h1 h2 h3
  case piece9 => exact Q 0 2 x (h0.trans (Nat.zero_add _).symm) h1 h2 h3
  case piece10 => exact Q 0 1 x (h0.trans (Nat.zero_add _).symm) h1 h2 h3
  case piece11 => exact Q 0 0 x (h0.trans (Nat.zero_add _).symm) (h1.trans (Nat.zero_add _).symm) h2 h3
end Cert.Kernel3Ideal.Gla
-- ==== Proof.GlaArray.lean ====
module
public import proofs.«01_k».proof.Proof.GlaOutA
public import proofs.«01_k».proof.Proof.GlaOutB
public import proofs.«01_k».proof.Proof.GlaStates
public import proofs.«01_k».proof.Proof.HeadKernel
@[expose] public section
set_option maxRecDepth 16384
/-! # The arrays that the attention's kernel returns -/
noncomputable section
namespace Cert.Gla
variable (A : Inp)
/-- The gated result at a row of all rows. -/
def resAt (r : Fin 4224) (k : Fin 512) : ℝ := A.res ⟨r.val / 2112, by omega⟩ (r.val % 2112 / 64) ⟨k.val / 128, by omega⟩ ⟨r.val % 64, by omega⟩ ⟨k.val % 128, by omega⟩
/-- The state before a chunk of all chunks. -/
def stAt (g : Fin 66) (h : Fin 4) : Fin 128 → Fin 128 → ℝ := lanes (A.st ⟨g.val / 33, by omega⟩ (g.val % 33) h) h
theorem resAt_eq (b : Fin 2) (n : Fin 33) (i : Fin 64) (h : Fin 4) (e : Fin 128) (r : Fin 4224) (hr : r.val = b.val * 2112 + (64 * n.val + i.val)) :
    resAt A r (vc h e) = A.res b n.val h i e := by
  unfold resAt
  have e1 : (⟨r.val / 2112, by omega⟩ : Fin 2) = b := Fin.ext (by show r.val / 2112 = b.val; omega)
  have e2 : r.val % 2112 / 64 = n.val := by omega
  have e3 : (⟨r.val % 64, by omega⟩ : Fin 64) = i := Fin.ext (by show r.val % 64 = i.val; omega)
  have e4 : (⟨(vc h e).val / 128, by omega⟩ : Fin 4) = h := Fin.ext (by show (128 * h.val + e.val) / 128 = h.val; omega)
  have e5 : (⟨(vc h e).val % 128, by omega⟩ : Fin 128) = e := Fin.ext (by show (128 * h.val + e.val) % 128 = e.val; omega)
  rw [e1, e2, e3, e4, e5]
theorem stAt_eq (b : Fin 2) (n : Fin 33) (h : Fin 4) (g : Fin 66) (hg : g.val = b.val * 33 + n.val) : stAt A g h = lanes (A.st b n.val h) h := by
  unfold stAt
  have e1 : (⟨g.val / 33, by omega⟩ : Fin 2) = b := Fin.ext (by show g.val / 33 = b.val; omega)
  have e2 : g.val % 33 = n.val := by omega
  rw [e1, e2]
end Cert.Gla

namespace Cert.Kernel3Ideal.Gla
open Cert.Kernel3Ideal Cert.Kernel3Ideal.Gen Idealize.ShloMosaic Idealize.ShloMosaic.TcCoe Cert.Real Cert.Gla
variable {m : (ℓ : Loc nD τ sig) → Buf (Elt Ideal) ℓ} {c : Dev nD} {A : Inp} (H : Args m c A)

/-- Whatever the scratch held before a point, the point's blocks are those of its chunks. -/
abbrev Starts (A : Inp) (t : Fin cfg0.N) (X : FVec Ideal S4x128x128 .f32) : Prop :=
  ∀ h e l, slab X h (ix3 0 e l) = ((lanes (A.st (seq t) (3 * (t.val % 11)) h) h e l : ℝ) : EReal)
theorem starts_A (t : Fin cfg0.N) (h0 : t.val % 11 = 0) : Starts A t (k0_pay5 (F := Ideal)) := by
  intro h e l
  rw [slab_at, h0]
  have e1 : (k0_pay5 (F := Ideal)) (ix3 h e l) = 0 := by pointwise [k0_pay5]
  rw [e1]
  simp [lanes, Inp.st]

include H in
/-- The scratch holds the states after the point's chunks. -/
theorem carried : ∀ (n : ℕ) (hn : n < cfg0.N) (h : Fin 4) (e l : Fin 128),
    (outsAt0 m c n hn).2.2 (ix3 h e l) = ((lanes (A.st (seq ⟨n, hn⟩) (3 * (n % 11) + 3) h) h e l : ℝ) : EReal) := by
  intro n
  induction n with
  | zero => intro hn; exact scratch_A m c ⟨0, hn⟩ rfl ((good H _).st_at (starts_A _ rfl) 3)
  | succ n ih =>
    intro hn
    by_cases h0 : (n + 1) % 11 = 0
    · exact scratch_A m c ⟨n + 1, hn⟩ h0 ((good H _).st_at (starts_A _ h0) 3)
    · refine scratch_B m c ⟨n + 1, hn⟩ h0 ((good H _).st_at ?_ 3)
      intro h e l
      refine (slab_at _ h e l).trans ((ih (by omega) h e l).trans ?_)
      have e1 : seq ⟨n, by omega⟩ = seq (⟨n + 1, hn⟩ : Fin cfg0.N) := Fin.ext (by show n / 11 = (n + 1) / 11; omega)
      have e2 : 3 * (n % 11) + 3 = 3 * ((n + 1) % 11) := by omega
      rw [e1, e2]
include H in
theorem starts_B (t : Fin cfg0.N) (h0 : ¬ t.val % 11 = 0) : Starts A t (outsAt0 m c (t.val - 1) (by have := t.isLt; omega)).2.2 := by
  intro h e l
  refine (slab_at _ h e l).trans ((carried H _ _ h e l).trans ?_)
  have e1 : seq ⟨t.val - 1, by have := t.isLt; omega⟩ = seq t := Fin.ext (by show (t.val - 1) / 11 = t.val / 11; omega)
  have e2 : 3 * ((t.val - 1) % 11) + 3 = 3 * (t.val % 11) := by omega
  rw [e1, e2]

include H in
/-- The gated rows. -/
theorem out7 (r : Fin 4224) (k : Fin 512) : (dats m 0 c).arrAt 7 cfg0.N (ix2 r k) = ((resAt A r k : ℝ) : EReal) := by
  let G : S4224x512.Idx → EReal := fun j => ((resAt A (j 0) (j 1) : ℝ) : EReal)
  have e : (dats m 0 c).arrAt 7 cfg0.N = G := by
    refine (dats m 0 c).arrAt_eq_of_covers 7 G (by decide +kernel) fun t hf y => ?_
    obtain ⟨i, k, rfl⟩ : ∃ (i : Fin 192) (k : Fin 512), y = ix2 i k := Cert.KernelIdeal.Head.idx2 y
    have ht := t_lt t
    have P (X) (hX : Starts A t X) (j : Fin 3) (h : Fin 4) (i : Fin 64) (e : Fin 128) : (blocks m c t).go j (slab X) h (ix2 i e)
        = (fun (a : Fin 192) (b : Fin 512) => ((resAt A ⟨t.val * 192 + a.val, by omega⟩ b : ℝ) : EReal)) (brow j i) (vc h e) :=
      ((good H t).go_at j hX h i e).trans (congrArg _ (resAt_eq A (seq t) (chunk t j) i h e _ (row_eq t j i)).symm)
    have hs : ((dats m 0 c).after 7 t : S192x512.Idx → EReal) (ix2 i k) = ((resAt A ⟨t.val * 192 + i.val, by omega⟩ k : ℝ) : EReal) := by
      rw [after0_7]
      by_cases h0 : t.val % 11 = 0
      · exact out_A m c t h0 (T := fun (a : Fin 192) (b : Fin 512) => ((resAt A ⟨t.val * 192 + a.val, by omega⟩ b : ℝ) : EReal)) (P _ (starts_A t h0)) i k
      · exact out_B m c t h0 (T := fun (a : Fin 192) (b : Fin 512) => ((resAt A ⟨t.val * 192 + a.val, by omega⟩ b : ℝ) : EReal)) (P _ (starts_B H t h0)) i k
    blk_simp
    refine hs.trans (show G (ix2 (⟨t.val * 192 + i.val, by omega⟩ : Fin 4224) k) = _ from congrArg G ?_)
    symm; blk_ext [idx t]
  rw [e]; rfl
include H in
/-- The states before the chunks. -/
theorem out8 (g : Fin 66) (h : Fin 4) (e l : Fin 128) : (dats m 0 c).arrAt 8 cfg0.N (ix4 g h e l) = ((stAt A g h e l : ℝ) : EReal) := by
  let G : S66x4x128x128.Idx → EReal := fun j => ((stAt A (j 0) (j 1) (j 2) (j 3) : ℝ) : EReal)
  have e : (dats m 0 c).arrAt 8 cfg0.N = G := by
    refine (dats m 0 c).arrAt_eq_of_covers 8 G (by decide +kernel) fun t hf y => ?_
    obtain ⟨j, h, e, l, rfl⟩ : ∃ (j : Fin 3) (h : Fin 4) (e l : Fin 128), y = ix4 j h e l :=
      ⟨y 0, y 1, y 2, y 3, by funext d; match d with | ⟨0, _⟩ => rfl | ⟨1, _⟩ => rfl | ⟨2, _⟩ => rfl | ⟨3, _⟩ => rfl⟩
    have ht := t_lt t
    have P (X) (hX : Starts A t X) (j : Fin 3) (h : Fin 4) (e l : Fin 128) : (blocks m c t).st (slab X) j.castSucc h (ix2 e l)
        = (fun (j : Fin 3) h e l => ((stAt A ⟨t.val * 3 + j.val, by omega⟩ h e l : ℝ) : EReal)) j h e l := by
      refine ((good H t).st_at hX j.castSucc h e l).trans (congrArg _ ?_)
      rw [stAt_eq A (seq t) (chunk t j) h _ (show t.val * 3 + j.val = t.val / 11 * 33 + (3 * (t.val % 11) + j.val) by omega)]
      rfl
    have hs : ((dats m 0 c).after 8 t : S3x4x128x128.Idx → EReal) (ix4 j h e l) = ((stAt A ⟨t.val * 3 + j.val, by omega⟩ h e l : ℝ) : EReal) := by
      rw [after0_8]
      by_cases h0 : t.val % 11 = 0
      · exact states_A m c t h0 (T := fun (j : Fin 3) h e l => ((stAt A ⟨t.val * 3 + j.val, by omega⟩ h e l : ℝ) : EReal)) (P _ (starts_A t h0)) j h e l
      · exact states_B m c t h0 (T := fun (j : Fin 3) h e l => ((stAt A ⟨t.val * 3 + j.val, by omega⟩ h e l : ℝ) : EReal)) (P _ (starts_B H t h0)) j h e l
    blk_simp
    refine hs.trans (show G (ix4 (⟨t.val * 3 + j.val, by omega⟩ : Fin 66) h e l) = _ from congrArg G ?_)
    symm; blk_ext [idx t]
  rw [e]; rfl
end Cert.Kernel3Ideal.Gla
-- ==== Proof.GlaOutRef.lean ====
module
public import proofs.«01_k».proof.Proof.GlaStatesRef
public import proofs.«01_k».proof.Proof.GlaArray
@[expose] public section
set_option maxRecDepth 16384
/-! # The attention's reference: the results -/
noncomputable section
namespace Cert.Reference3Ideal.Gla
open Cert.Reference3Ideal Cert.Reference3Ideal.Read Idealize.ShloMosaic Idealize.ShloMosaic.TcCoe Cert.Real Cert.Gla
open Cert.Kernel3Ideal.Gla (lit_16 lit_8 lit_128 lit_1 lit_0 sel_ite coe_ite coe_lsig coe_sigm)

variable {X1 X2 : (⟨S2x2064x256, .f32⟩ : BufTy).Contents (Elt Ideal)} {X3 X4 : (⟨S2x2064x512, .f32⟩ : BufTy).Contents (Elt Ideal)}
    {X5 : (⟨S2x2064x16, .f32⟩ : BufTy).Contents (Elt Ideal)} {X6 : (⟨S16x256, .f32⟩ : BufTy).Contents (Elt Ideal)}
    {X7 : (⟨S256, .f32⟩ : BufTy).Contents (Elt Ideal)} {X8 : (⟨S128, .f32⟩ : BufTy).Contents (Elt Ideal)} {A : Inp} (h : Args X1 X2 X3 X4 X5 X6 X7 X8 A)
include h
/-- The attention's output. -/
theorem o_at (b : Fin 2) (hh : Fin 4) (n : Fin 33) (i : Fin 64) (e : Fin 128) : val_main_v350 (F := Ideal) X1 X2 X3 X5 X6 X7 (ix5 b hh n i e) = ((A.o b n.val hh i e : ℝ) : EReal) := by
  have e1 := att_at h b hh n
  have e2 := v_at h b hh n
  have e3 := qe_at h b hh n
  have e4 := st_at h b hh n
  unfold val_main_v350 val_main_v40 val_main_v349
  generalize val_main_v39 (F := Ideal) X1 X2 X5 X6 X7 = w1 at e1 ⊢
  generalize val_main_v20 (F := Ideal) X3 = w2 at e2 ⊢
  generalize val_main_v28 (F := Ideal) X1 X5 X6 X7 = w3 at e3 ⊢
  generalize val_main_v348 (F := Ideal) X2 X3 X5 X6 X7 = w4 at e4 ⊢
  pointwise
  simp only [e1, e2, e3, e4, ← EReal.coe_mul, coe_sum, ← EReal.coe_add, Inp.o, out]
/-- It at a row that is not padding. -/
theorem row_at (b : Fin 2) (r : Fin 2064) (hh : Fin 4) (e : Fin 128) (n : Fin 33) (i : Fin 64) (hr : r.val + 48 = 64 * n.val + i.val) :
    val_main_v353 (F := Ideal) X1 X2 X3 X5 X6 X7 (ix4 b r hh e) = ((A.o b n.val hh i e : ℝ) : EReal) := by
  have e1 := o_at h b hh n i e
  unfold val_main_v353 val_main_v352 val_main_v351
  generalize val_main_v350 (F := Ideal) X1 X2 X3 X5 X6 X7 = w at e1 ⊢
  pointwise
  rw [← e1]
  exact congrArg₂ (fun n i => w (ix5 b hh n i e)) (Fin.ext (by dsimp only; omega)) (Fin.ext (by dsimp only; omega))
/-- The gated rows. -/
theorem gated_at (b : Fin 2) (r : Fin 2064) (hh : Fin 4) (e : Fin 128) (n : Fin 33) (i : Fin 64) (hr : r.val + 48 = 64 * n.val + i.val) :
    val_main_v369 (F := Ideal) X1 X2 X3 X4 X5 X6 X7 X8 (ix4 b r hh e) = ((A.res b n.val hh i e : ℝ) : EReal) := by
  have e1 := fun e => row_at h b r hh e n i hr
  have e2 (e) : pd A.r b n.val i (vc hh e) = A.r b r (vc hh e) := by
    unfold pd
    rw [dif_pos (by omega)]
    exact congrArg (fun r => A.r b r (vc hh e)) (Fin.ext (by dsimp only; omega))
  have e3 : val_main_v367 (F := Ideal) X4 (ix4 b r hh e) = ((A.r b r (vc hh e) : ℝ) : EReal) := by
    rw [← h.a4]
    pointwise [val_main_v367]
    exact congrArg X4 (congrArg (ix3 b r) (Fin.ext (by dsimp only; omega)))
  have e4 : val_main_v368 (F := Ideal) X4 (ix4 b r hh e) = ((A.r b r (vc hh e) * sigm (A.r b r (vc hh e)) : ℝ) : EReal) := by
    unfold val_main_v368 val_main_call8_v5 val_main_call8_v3 val_main_call8_v1 val_main_call8_v0
    generalize val_main_v367 (F := Ideal) X4 = w at e3 ⊢
    pointwise [val_main_call8_v4, val_main_call8_v2, val_main_call8_cst, val_main_call8_cst_0]
    simp only [e3, lit_1, ← EReal.coe_neg, Ideal.exp_coe]
    rw [← EReal.coe_one, ← EReal.coe_add, div_coe _ _ (show 1 + Real.exp (-A.r b r (vc hh e)) ≠ 0 by positivity), ← EReal.coe_mul, sigm]
  unfold val_main_v369 val_main_v366 val_main_v363 val_main_v362 val_main_v361 val_main_v360 val_main_v358 val_main_v356 val_main_v355 val_main_v354
  generalize val_main_v353 (F := Ideal) X1 X2 X3 X5 X6 X7 = w at e1 ⊢
  generalize val_main_v368 (F := Ideal) X4 = u at e4 ⊢
  pointwise [val_main_v365, val_main_v364, val_main_v359, val_main_v357, val_main_cst_9, val_main_cst_8, val_main_cst_7]
  simp only [e1, e4, h.a8, lit_128, lit_eps, ← EReal.coe_mul, coe_sum, div_coe _ _ (by norm_num : (128 : ℝ) ≠ 0), ← EReal.coe_add, rsqrt_coe_pos _ (var_eps_pos _ 128 (by norm_num)), Inp.res, gated, e2]
end Cert.Reference3Ideal.Gla
-- ==== Proof.GlaClaim.lean ====
module
public import proofs.«01_k».proof.Defs
public import proofs.«01_k».proof.Proof.GlaOutRef
public import proofs.«01_k».proof.Proof.Finite
public import proofs.«01_k».proof.Proof.Gen.Pre_finite3
public import Idealize.ShloMosaic.Adequacy
public import Idealize.ShloMosaic.Init
@[expose] public section
set_option maxRecDepth 16384
/-! # The attention: the results and the claims -/
noncomputable section
namespace Cert.Reference3Ideal.Gla
open Cert.Reference3Ideal Cert.Reference3Ideal.Read Idealize.ShloMosaic Idealize.ShloMosaic.TcCoe Cert.Real Cert.Gla
open Cert.Kernel3Ideal.Gla (sel_ite)
variable {X1 X2 : (⟨S2x2064x256, .f32⟩ : BufTy).Contents (Elt Ideal)} {X3 X4 : (⟨S2x2064x512, .f32⟩ : BufTy).Contents (Elt Ideal)}
    {X5 : (⟨S2x2064x16, .f32⟩ : BufTy).Contents (Elt Ideal)} {X6 : (⟨S16x256, .f32⟩ : BufTy).Contents (Elt Ideal)}
    {X7 : (⟨S256, .f32⟩ : BufTy).Contents (Elt Ideal)} {X8 : (⟨S128, .f32⟩ : BufTy).Contents (Elt Ideal)} {A : Inp} (h : Args X1 X2 X3 X4 X5 X6 X7 X8 A)
include h
/-- The first result. -/
theorem res_at (r : Fin 4224) (k : Fin 512) : val_main_v382 (F := Ideal) X1 X2 X3 X4 X5 X6 X7 X8 (ix2 r k) = ((resAt A r k : ℝ) : EReal) := by
  have hk : vc ⟨k.val / 128, by omega⟩ ⟨k.val % 128, by omega⟩ = k := Fin.ext (by show 128 * (k.val / 128) + k.val % 128 = k.val; omega)
  rw [← hk, resAt_eq A ⟨r.val / 2112, by omega⟩ ⟨r.val % 2112 / 64, by omega⟩ ⟨r.val % 64, by omega⟩ _ _ r (by dsimp only; omega), hk]
  have e1 (r' : Fin 2064) : val_main_v379 (F := Ideal) X1 X2 X3 X4 X5 X6 X7 X8 (ix3 ⟨r.val / 2112, by omega⟩ r' k)
      = val_main_v369 (F := Ideal) X1 X2 X3 X4 X5 X6 X7 X8 (ix4 ⟨r.val / 2112, by omega⟩ r' ⟨k.val / 128, by omega⟩ ⟨k.val % 128, by omega⟩) := by
    unfold val_main_v379
    generalize val_main_v369 (F := Ideal) X1 X2 X3 X4 X5 X6 X7 X8 = w
    pointwise
  have e2 := gated_at h
  unfold val_main_v382 val_main_v381 val_main_v380
  generalize val_main_v379 (F := Ideal) X1 X2 X3 X4 X5 X6 X7 X8 = w at e1 ⊢
  generalize val_main_v369 (F := Ideal) X1 X2 X3 X4 X5 X6 X7 X8 = u at e1 e2
  pointwise [val_main_call12_v0, val_main_c_14]
  split_ifs with h1
  · exact (e1 _).trans (e2 _ _ _ _ ⟨r.val % 2112 / 64, by omega⟩ ⟨r.val % 64, by omega⟩ (by dsimp only; omega))
  · have e3 (c) : pd A.r ⟨r.val / 2112, by omega⟩ (r.val % 2112 / 64) ⟨r.val % 64, by omega⟩ c = 0 := dif_neg (by dsimp only; omega)
    simp only [Inp.res, gated, e3, zero_mul, mul_zero]
    exact zeroI_apply ix0
/-- The second result. -/
theorem lanes_at (g : Fin 66) (hh : Fin 4) (e l : Fin 128) : val_main_v383 (F := Ideal) X2 X3 X5 X6 X7 (ix4 g hh e l) = ((stAt A g hh e l : ℝ) : EReal) := by
  rw [stAt_eq A ⟨g.val / 33, by omega⟩ ⟨g.val % 33, by omega⟩ hh g (by dsimp only; omega)]
  have e1 := st_at h ⟨g.val / 33, by omega⟩ hh ⟨g.val % 33, by omega⟩
  unfold val_main_v383 val_main_v378 val_main_v376 val_main_v377 val_main_v370
  generalize val_main_v348 (F := Ideal) X2 X3 X5 X6 X7 = w at e1 ⊢
  have e2 : ∀ hh : Fin 4, val_main_v374 (F := Ideal) (ix1 hh) = if hh.val % 2 = 0 then 1#1 else 0#1 := by
    intro hh
    pointwise [val_main_v374, val_main_v373, val_main_c_11, val_main_v372, val_main_call9_v14, val_main_call9_v13, val_main_call9_v12, val_main_call9_v11, val_main_call9_v10, val_main_call9_v9,
      val_main_call9_c_3, val_main_call9_v8, val_main_call9_v7, val_main_call9_c_2, val_main_call9_v6, val_main_call9_v5, val_main_call9_c_1, val_main_call9_v4, val_main_call9_v3, val_main_call9_v2,
      val_main_call9_c_0, val_main_call9_v1, val_main_call9_c, val_main_call9_v0, val_main_c_10, val_main_v371]
    rw [show id (constantI S_ 32 2#32) ix0 = 2#32 from rfl]
    clear e1
    revert hh
    decide +kernel
  pointwise [val_main_call10_v2, val_main_call10_v1, val_main_call10_v0, val_main_v375, val_main_cst_12, val_main_call11_v2, val_main_call11_v1, val_main_call11_v0, val_main_cst_13]
  rw [e2]
  have E (d : Fin 64) (hd : d.val = l.val % 64) : w (ix5 ⟨g.val / 33, by omega⟩ hh ⟨g.val % 33, by omega⟩ d e)
      = ((A.st ⟨g.val / 33, by omega⟩ (g.val % 33) hh ⟨l.val % 64, Nat.mod_lt _ (by norm_num)⟩ e : ℝ) : EReal) := by
    rw [show d = ⟨l.val % 64, Nat.mod_lt _ (by norm_num)⟩ from Fin.ext hd]
    exact e1 _ _
  by_cases hc : l.val / 64 = hh.val % 2
  · rw [lanes, if_pos hc]
    split_ifs <;> first
      | omega
      | exact E ⟨l.val, by omega⟩ (by show l.val = l.val % 64; omega)
      | exact E ⟨l.val - 64, by omega⟩ (by show l.val - 64 = l.val % 64; omega)
  · rw [lanes, if_neg hc]
    split_ifs <;> first
      | omega
      | exact Cert.Kernel3Ideal.Gla.lit_0
end Cert.Reference3Ideal.Gla

namespace Cert.Proof.Gla
open Idealize.ShloMosaic Idealize.SL.Sem Cert.Kernel3

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two programs end with equal results where every argument but the first is finite. -/
theorem value : Cert.algebraic_Kernel3Ideal_Reference3Ideal_pre_finite3 := by
  intro m g m' g' hp hm
  have hx (c : Dev Cert.Kernel3Ideal.nD) : ∃ A, Cert.Kernel3Ideal.Gla.Args m c A := by
    obtain ⟨p1, p2, p3, p4, p5, p6, p7, p8⟩ := hp c
    choose x1 h1 using Cert.Real.finite_at _ _ _ p1
    choose x2 h2 using Cert.Real.finite_at _ _ _ p2
    choose x3 h3 using Cert.Real.finite_at _ _ _ p3
    choose x4 h4 using Cert.Real.finite_at _ _ _ p4
    choose x5 h5 using Cert.Real.finite_at _ _ _ p5
    choose x6 h6 using Cert.Real.finite_at _ _ _ p6
    choose x7 h7 using Cert.Real.finite_at _ _ _ p7
    choose x8 h8 using Cert.Real.finite_at _ _ _ p8
    exact ⟨{ q := fun b i k => x1 (ix3 b i k), k := fun b i k => x2 (ix3 b i k), v := fun b i k => x3 (ix3 b i k), r := fun b i k => x4 (ix3 b i k), gd := fun b i k => x5 (ix3 b i k),
             gu := fun i k => x6 (ix2 i k), gb := fun k => x7 (ix1 k), gn := fun k => x8 (ix1 k) },
      ⟨fun _ _ _ => h1 _, fun _ _ _ => h2 _, fun _ _ _ => h3 _, fun _ _ _ => h4 _, fun _ _ _ => h5 _, fun _ _ => h6 _, fun _ => h7 _, fun _ => h8 _⟩⟩
  choose A hk using hx
  have hr (c : Dev Cert.Reference3Ideal.nD) : Cert.Reference3Ideal.Gla.Args (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (A c) := by
    obtain ⟨_, q1, q2, q3, q4, q5, q6, q7, q8⟩ := hm c
    exact ⟨fun b i k => (congrFun q1 _).trans ((hk c).a1 b i k), fun b i k => (congrFun q2 _).trans ((hk c).a2 b i k), fun b i k => (congrFun q3 _).trans ((hk c).a3 b i k),
      fun b i k => (congrFun q4 _).trans ((hk c).a4 b i k), fun b i k => (congrFun q5 _).trans ((hk c).a5 b i k), fun i k => (congrFun q6 _).trans ((hk c).a6 i k),
      fun k => (congrFun q7 _).trans ((hk c).a7 k), fun k => (congrFun q8 _).trans ((hk c).a8 k)⟩
  refine ⟨_, _, Cert.Kernel3Ideal.Value.run_blocks (F := Ideal) m g,
    (θ_run Cert.Reference3Ideal.defs _ _).mono (fun r h c => ?_) (Cert.Reference3Ideal.Value.run (F := Ideal) m' g')⟩
  obtain ⟨e0, e1, ha⟩ := h c
  refine ⟨(e0.trans (Cert.Reference3Ideal.Read.val_main_v382_eq (F := Ideal) (StableHlo.launchContents m' c))).trans (funext fun j => ?_), (e1.trans (Cert.Reference3Ideal.Read.val_main_v383_eq (F := Ideal) (StableHlo.launchContents m' c))).trans (funext fun j => ?_), ha⟩
  · obtain ⟨r, k, rfl⟩ := Cert.KernelIdeal.Head.idx2 j
    exact (Cert.Reference3Ideal.Gla.res_at (hr c) r k).trans (Cert.Kernel3Ideal.Gla.out7 (hk c) r k).symm
  · obtain ⟨i, h, e, l, rfl⟩ : ∃ (i : Fin 66) (h : Fin 4) (e l : Fin 128), j = ix4 i h e l :=
      ⟨j 0, j 1, j 2, j 3, by funext d; match d with | ⟨0, _⟩ => rfl | ⟨1, _⟩ => rfl | ⟨2, _⟩ => rfl | ⟨3, _⟩ => rfl⟩
    exact (Cert.Reference3Ideal.Gla.lanes_at (hr c) i h e l).trans (Cert.Kernel3Ideal.Gla.out8 (hk c) i h e l).symm
end Cert.Proof.Gla
-- ==== Proof.Rows.lean ====
module
public import proofs.«01_k».proof.Proof.Layout
public import proofs.«01_k».proof.Proof.Reals
@[expose] public section
/-! # Sequences as padded rows of one matrix

Every sequence has 2064 positions and, before them, 48 rows of zeros; the rows of both sequences follow each other. -/
noncomputable section
namespace Cert.Rows
open Idealize.ShloMosaic Cert.Real
open scoped BigOperators

/-- A function of the positions as one of the rows, zero in front of a sequence. -/
def onRows (g : Fin 2 → Fin 2064 → ℝ) (r : Fin 4224) : ℝ :=
  if 48 ≤ r.val % 2112 then g ⟨r.val / 2112, by omega⟩ ⟨r.val % 2112 - 48, by omega⟩ else 0

theorem onRows_pos (g : Fin 2 → Fin 2064 → ℝ) (b : Fin 2) (i : Fin 2064) (r : Fin 4224) (hr : r.val = b.val * 2112 + (48 + i.val)) : onRows g r = g b i := by
  have e1 : (⟨r.val / 2112, by omega⟩ : Fin 2) = b := Fin.ext (by show r.val / 2112 = b.val; omega)
  have e2 : (⟨r.val % 2112 - 48, by omega⟩ : Fin 2064) = i := Fin.ext (by show r.val % 2112 - 48 = i.val; omega)
  rw [onRows, if_pos (by omega), e1, e2]

/-- Functions of the positions meet row by row. -/
theorem onRows_map (F : ℝ → ℝ) (h0 : F 0 = 0) (g : Fin 2 → Fin 2064 → ℝ) (r : Fin 4224) : F (onRows g r) = onRows (fun b i => F (g b i)) r := by
  unfold onRows; split_ifs <;> simp [h0]
theorem onRows_mul (g g' : Fin 2 → Fin 2064 → ℝ) (r : Fin 4224) : onRows g r * onRows g' r = onRows (fun b i => g b i * g' b i) r := by
  unfold onRows; split_ifs <;> simp
theorem onRows_add (g g' : Fin 2 → Fin 2064 → ℝ) (r : Fin 4224) : onRows g r + onRows g' r = onRows (fun b i => g b i + g' b i) r := by
  unfold onRows; split_ifs <;> simp

/-- A sum over the rows is one over the positions. -/
theorem sum_onRows (g : Fin 2 → Fin 2064 → ℝ) : ∑ r, onRows g r = ∑ b, ∑ i, g b i := by
  rw [← Fintype.sum_prod_type']
  have e : ∀ r : Fin 4224, onRows g r ≠ 0 → 48 ≤ r.val % 2112 := fun r h => by by_contra hc; exact h (by rw [onRows, if_neg hc])
  refine (Finset.sum_of_injOn (fun p : Fin 2 × Fin 2064 => (⟨p.1.val * 2112 + (48 + p.2.val), by omega⟩ : Fin 4224)) ?_ (by simp) ?_ ?_).symm
  · intro p _ q _ h
    have := congrArg Fin.val h
    dsimp only at this
    exact Prod.ext (Fin.ext (by omega)) (Fin.ext (by omega))
  · intro r _ hr
    by_contra hc
    exact hr ⟨(⟨r.val / 2112, by omega⟩, ⟨r.val % 2112 - 48, by omega⟩), by simp, Fin.ext (by have := e r hc; dsimp only; omega)⟩
  · intro p _
    exact (onRows_pos g p.1 p.2 _ rfl).symm

/-- The host's padding and reshaping, at one place. -/
theorem host_at {c : ℕ} {u : Shape} (x : (⟨3, ![2, 2064, c]⟩ : Shape).Idx → EReal) (v : u.Idx → EReal)
    (hp : (⟨3, ![2, 2064, c]⟩ : Shape).Pads ![0, 48, 0] ![0, 0, 0] ![0, 0, 0] ⟨3, ![2, 2112, c]⟩) (hu : 0 < u.numel) (hv : v (Shape.Idx.first hu) = 0)
    (hs : (⟨3, ![2, 2112, c]⟩ : Shape).ShapeCasts ⟨2, ![4224, c]⟩) {g : Fin 2 → Fin 2064 → Fin c → ℝ} (e : ∀ b i k, x (ix3 b i k) = (g b i k : EReal))
    (r : Fin 4224) (k : Fin c) :
    shapeCast ⟨2, ![4224, c]⟩ (pad ⟨3, ![2, 2112, c]⟩ ![0, 48, 0] ![0, 0, 0] ![0, 0, 0] x v hp hu) hs (ix2 r k) = ((onRows (fun b i => g b i k) r : ℝ) : EReal) := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  refine (Layout.rows_at _ _ rfl b j k).trans ((Layout.pad3_at (b' := 2112) (l := 48) x v hp hu rfl b j k).trans ?_)
  by_cases hj : 48 ≤ j.val
  · rw [dif_pos ⟨hj, k.isLt⟩, e, onRows_pos (fun b i => g b i k) b ⟨j.val - 48, by omega⟩ _ (by dsimp only; omega)]
  · rw [dif_neg (fun H => hj H.1), hv, onRows, if_neg (by dsimp only; omega)]; rfl

/-- What the first `n` terms add up to. -/
def upTo {N : ℕ} (f : Fin N → ℝ) (n : ℕ) : ℝ := ∑ r ∈ Finset.range n, if h : r < N then f ⟨r, h⟩ else 0
theorem upTo_zero {N : ℕ} (f : Fin N → ℝ) : upTo f 0 = 0 := rfl
theorem upTo_all {N : ℕ} (f : Fin N → ℝ) : upTo f N = ∑ r, f r := by
  rw [upTo, Finset.sum_range]
  exact Finset.sum_congr rfl fun r _ => dif_pos r.isLt
/-- Another `k` terms. -/
theorem upTo_add {N : ℕ} (f : Fin N → ℝ) (n k : ℕ) (h : n + k ≤ N) : upTo f n + ∑ i : Fin k, f ⟨n + i.val, by omega⟩ = upTo f (n + k) := by
  rw [upTo, upTo, Finset.sum_range_add, Finset.sum_range (n := k)]
  congr 1
  exact Finset.sum_congr rfl fun i _ => by rw [dif_pos (show n + i.val < N by omega)]

end Cert.Rows
-- ==== Proof.WeightsEntry.lean ====
module
public import proofs.«01_k».proof.Proof.Rows
public import proofs.«01_k».proof.Proof.Gen.Kernel4Ideal.Value
public import proofs.«01_k».proof.Proof.Gen.Kernel4Ideal
@[expose] public section
set_option maxRecDepth 16384
/-! # What the blocks of the two weights' gradient hold -/
noncomputable section
namespace Cert.Weights
/-- The squared-ReLU layer before its activation. -/
def pre (x0 : Fin 2 → Fin 2064 → Fin 1024 → ℝ) (x1 : Fin 1024 → Fin 4096 → ℝ) (b : Fin 2) (i : Fin 2064) (f : Fin 4096) : ℝ := ∑ k, x0 b i k * x1 k f
/-- The gradient there. -/
def dpre (x0 : Fin 2 → Fin 2064 → Fin 1024 → ℝ) (x1 : Fin 1024 → Fin 4096 → ℝ) (x2 : Fin 4096 → Fin 1024 → ℝ) (x3 : Fin 2 → Fin 2064 → Fin 1024 → ℝ)
    (b : Fin 2) (i : Fin 2064) (f : Fin 4096) : ℝ := (∑ k, x3 b i k * x2 f k) * (2 * max (pre x0 x1 b i f) 0)
theorem coe_max0 (x : ℝ) : max (x : EReal) 0 = ((max x 0 : ℝ) : EReal) := by
  rw [← EReal.coe_zero]; exact (EReal.coe_strictMono.monotone.map_max).symm
end Cert.Weights

namespace Cert.Kernel4Ideal.Weights
open Cert.Kernel4Ideal Cert.Kernel4Ideal.Gen Idealize.ShloMosaic Idealize.ShloMosaic.TcCoe Cert.Real Cert.Rows Cert.Weights
variable (m : (ℓ : Loc nD τ sig) → Buf (Elt Ideal) ℓ) (c : Dev nD)

/-- The arguments as real numbers. -/
structure Args (x0 : Fin 2 → Fin 2064 → Fin 1024 → ℝ) (x1 : Fin 1024 → Fin 4096 → ℝ) (x2 : Fin 4096 → Fin 1024 → ℝ) (x3 : Fin 2 → Fin 2064 → Fin 1024 → ℝ) : Prop where
  a0 : ∀ b i k, m ((c : Thread nD τ).loc main_arg0) (ix3 b i k) = (x0 b i k : EReal)
  a1 : ∀ k f, m ((c : Thread nD τ).loc main_arg1) (ix2 k f) = (x1 k f : EReal)
  a2 : ∀ f k, m ((c : Thread nD τ).loc main_arg2) (ix2 f k) = (x2 f k : EReal)
  a3 : ∀ b i k, m ((c : Thread nD τ).loc main_arg3) (ix3 b i k) = (x3 b i k : EReal)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
/-- The layer before its activation, and the gradient there, as the host writes them. -/
abbrev hOf (x : FVec Ideal S2x2064x1024 .f32) (w : FVec Ideal S1024x4096 .f32) : FVec Ideal S2x2064x4096 .f32 :=
  Host.dotGeneral dot_S2x2064x1024_S1024x4096_S2x2064x4096_2_0_01_1_n_n none x w
abbrev hHost : FVec Ideal S2x2064x4096 .f32 := hOf (m ((c : Thread nD τ).loc main_arg0)) (m ((c : Thread nD τ).loc main_arg1))
abbrev dhOf (w : FVec Ideal S4096x1024 .f32) (ct : FVec Ideal S2x2064x1024 .f32) (hm : FVec Ideal S2x2064x4096 .f32) : FVec Ideal S2x2064x4096 .f32 :=
  mulf (hOf ct (transpose S1024x4096 [1, 0] w transposes_S4096x1024_S1024x4096_1_0))
    (mulf (broadcastInDim S2x2064x4096 ![] bcast_S_S2x2064x4096 (constant S_ .f32 0x40000000#32))
      (maximumf hm (broadcastInDim S2x2064x4096 ![] bcast_S_S2x2064x4096 (constant S_ .f32 0x00000000#32))))
abbrev dhHost : FVec Ideal S2x2064x4096 .f32 := dhOf (m ((c : Thread nD τ).loc main_arg2)) (m ((c : Thread nD τ).loc main_arg3)) (hHost m c)

variable {m c} {x0 : Fin 2 → Fin 2064 → Fin 1024 → ℝ} {x1 : Fin 1024 → Fin 4096 → ℝ} {x2 : Fin 4096 → Fin 1024 → ℝ} {x3 : Fin 2 → Fin 2064 → Fin 1024 → ℝ}
    (h : Args m c x0 x1 x2 x3)
include h in
theorem hHost_at (b : Fin 2) (i : Fin 2064) (f : Fin 4096) : hHost m c (ix3 b i f) = ((pre x0 x1 b i f : ℝ) : EReal) := by
  unfold hHost hOf
  pointwise
  simp only [h.a0, h.a1, ← EReal.coe_mul, coe_sum, pre]
include h in
theorem dhHost_at (b : Fin 2) (i : Fin 2064) (f : Fin 4096) : dhHost m c (ix3 b i f) = ((dpre x0 x1 x2 x3 b i f : ℝ) : EReal) := by
  have e := hHost_at h b i f
  unfold dhHost dhOf
  generalize hHost m c = w at e ⊢
  unfold hOf
  pointwise
  simp only [e, h.a2, h.a3, lit_two, coe_max0, ← EReal.coe_mul, coe_sum, dpre]

theorem V_all :
    V m c main_v10 = truncf .bf16 (shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024) bitsLt_bf16_f32
    ∧ V m c main_v13 = truncf .bf16 (shapeCast S4224x4096 (pad S2x2112x4096 ![0, 48, 0] ![0, 0, 0] ![0, 0, 0] (hHost m c) zeroI
        pads_S2x2064x4096_S2x2112x4096_000_4800_000 h_S_) shapeCasts_S2x2112x4096_S4224x4096) bitsLt_bf16_f32
    ∧ V m c main_v16 = truncf .bf16 (shapeCast S4224x4096 (pad S2x2112x4096 ![0, 48, 0] ![0, 0, 0] ![0, 0, 0] (dhHost m c) zeroI
        pads_S2x2064x4096_S2x2112x4096_000_4800_000 h_S_) shapeCasts_S2x2112x4096_S4224x4096) bitsLt_bf16_f32
    ∧ V m c main_v19 = truncf .bf16 (shapeCast S4224x1024 (pad S2x2112x1024 ![0, 48, 0] ![0, 0, 0] ![0, 0, 0] (m ((c : Thread nD τ).loc main_arg3)) zeroI
        pads_S2x2064x1024_S2x2112x1024_000_4800_000 h_S_) shapeCasts_S2x2112x1024_S4224x1024) bitsLt_bf16_f32 := by
  simp only [V, hostOps0, hostOps0_1, hostOps0_2, hostOps0_3, hostOps0_4, hostOps0_5, hostOps0_6, hostOps0_7, hostOps0_8, List.flatten_cons, List.flatten_nil, List.cons_append, List.nil_append, List.append_nil]
  refine ⟨?_, ?_, ?_, ?_⟩ <;> (entry_read; rfl)

include h in
theorem s_at (r : Fin 4224) (k : Fin 1024) : V m c main_v10 (ix2 r k) = ((onRows (fun b i => x0 b i k) r : ℝ) : EReal) := by
  rw [V_all.1]; exact host_at _ zeroI pads_S2x2064x1024_S2x2112x1024_000_4800_000 h_S_ (zeroI_apply _) shapeCasts_S2x2112x1024_S4224x1024 h.a0 r k
include h in
theorem h_at (r : Fin 4224) (f : Fin 4096) : V m c main_v13 (ix2 r f) = ((onRows (fun b i => pre x0 x1 b i f) r : ℝ) : EReal) := by
  rw [V_all.2.1]; exact host_at _ zeroI pads_S2x2064x4096_S2x2112x4096_000_4800_000 h_S_ (zeroI_apply _) shapeCasts_S2x2112x4096_S4224x4096 (hHost_at h) r f
include h in
theorem dh_at (r : Fin 4224) (f : Fin 4096) : V m c main_v16 (ix2 r f) = ((onRows (fun b i => dpre x0 x1 x2 x3 b i f) r : ℝ) : EReal) := by
  rw [V_all.2.2.1]; exact host_at _ zeroI pads_S2x2064x4096_S2x2112x4096_000_4800_000 h_S_ (zeroI_apply _) shapeCasts_S2x2112x4096_S4224x4096 (dhHost_at h) r f
include h in
theorem ct_at (r : Fin 4224) (k : Fin 1024) : V m c main_v19 (ix2 r k) = ((onRows (fun b i => x3 b i k) r : ℝ) : EReal) := by
  rw [V_all.2.2.2]; exact host_at _ zeroI pads_S2x2064x1024_S2x2112x1024_000_4800_000 h_S_ (zeroI_apply _) shapeCasts_S2x2112x1024_S4224x1024 h.a3 r k

end Cert.Kernel4Ideal.Weights
-- ==== Proof.WeightsKernel.lean ====
module
public import proofs.«01_k».proof.Proof.WeightsEntry
public import proofs.«01_k».proof.Proof.HeadKernel
public import Idealize.ShloMosaic.Lib.Pipeline.ReadBack
@[expose] public section
set_option maxRecDepth 16384
/-! # What the two weights' gradient computes -/
noncomputable section
namespace Cert.Kernel4Ideal.Weights
open Cert.Kernel4Ideal Cert.Kernel4Ideal.Gen Idealize.ShloMosaic Idealize.ShloMosaic.TcCoe Cert.Real Cert.Rows Cert.Weights
variable (m : (ℓ : Loc nD τ sig) → Buf (Elt Ideal) ℓ) (c : Dev nD)

/-- A grid point's tile of rows and its pair of column blocks. -/
theorem idx : ∀ t : Fin cfg0.N, win0_0.index t = ![t.val % 6, 0] ∧ win0_1.index t = ![t.val % 6, t.val / 6] ∧ win0_2.index t = ![t.val % 6, t.val / 6]
    ∧ win0_3.index t = ![t.val % 6, 0] ∧ win0_4.index t = ![t.val / 6, 0, 0] ∧ win0_5.index t = ![t.val / 6, 0, 0] :=
  (by decide +kernel : ∀ t : Fin grid0.N, _)
theorem tlt (t : Fin cfg0.N) : t.val < 24 := by have := t.isLt; simp only [show cfg0.N = 24 from N_0] at this; exact this
abbrev row (t : Fin cfg0.N) (i : Fin 704) : Fin 4224 := ⟨704 * (t.val % 6) + i.val, by omega⟩
/-- Column `a` of block `s` of a pair of column blocks. -/
abbrev colAt (j : ℕ) (s : Fin 2) (a : Fin 512) : Fin 4096 := ⟨(1024 * j + (512 * s.val + a.val)) % 4096, Nat.mod_lt _ (by norm_num)⟩

section
variable (t : Fin cfg0.N) (i : Fin 704)
theorem b0 (k : Fin 1024) : iblk m c 0 t (ix2 i k) = V m c main_v10 (ix2 (row t i) k) := by
  show V m c main_v10 (((cfg0.win 0).blk t).view.emb _) = _; blk_ext [idx t]
theorem b1 (k : Fin 1024) : iblk m c 1 t (ix2 i k) = V m c main_v13 (ix2 (row t i) (⟨1024 * (t.val / 6) + k.val, by have := tlt t; omega⟩ : Fin 4096)) := by
  show V m c main_v13 (((cfg0.win 1).blk t).view.emb _) = _; blk_ext [idx t]
theorem b2 (k : Fin 1024) : iblk m c 2 t (ix2 i k) = V m c main_v16 (ix2 (row t i) (⟨1024 * (t.val / 6) + k.val, by have := tlt t; omega⟩ : Fin 4096)) := by
  show V m c main_v16 (((cfg0.win 2).blk t).view.emb _) = _; blk_ext [idx t]
theorem b3 (k : Fin 1024) : iblk m c 3 t (ix2 i k) = V m c main_v19 (ix2 (row t i) k) := by
  show V m c main_v19 (((cfg0.win 3).blk t).view.emb _) = _; blk_ext [idx t]
end

/-! ## What one point adds -/
theorem add1 (v3 : Vec Ideal S1x1024x512 .f32) (v5 : Vec Ideal S704x1024 .bf16) (v7 : Vec Ideal S704x512 .bf16) (k : Fin 1024) (a : Fin 512) :
    k0_pay7 v3 v5 v7 (ix3 0 k a) = v3 (ix3 0 k a) + ∑ i, v5 (ix2 i k) * v7 (ix2 i a) := by pointwise [k0_pay7]
theorem same1 : k0_pay8 (F := Ideal) = k0_pay7 := rfl
theorem add2 (v41 : Vec Ideal S704x512 .bf16) (v48 : Vec Ideal S1x512x1024 .f32) (v50 : Vec Ideal S704x1024 .bf16) (a : Fin 512) (k : Fin 1024) :
    k0_pay2 v41 v48 v50 (ix3 0 a k) = v48 (ix3 0 a k) + ∑ i, max (v41 (ix2 i a)) 0 * max (v41 (ix2 i a)) 0 * v50 (ix2 i k) := by pointwise [k0_pay2]
theorem same2 (v : Vec Ideal S704x512 .bf16) (x : Ideal .f32) (hx : x = Scalar.ofBits .f32 0x00000000#32) : k0_pay1 (F := Ideal) (k0_pay9 v) x = k0_pay2 v := by rw [hx]; rfl

/-- Stores that hold an element already hide what was stored before them. -/
theorem canon_drop {s : Shape} {ty : EltTy} {y : s.Idx} (L' : List (View.Piece (Elt Ideal) s ty)) (L : List (View.Piece (Elt Ideal) s ty)) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨x, rfl⟩ : ∃ x, p.1.emb x = y := p.1.exists_idx_of_mem hy
      exact (View.canon_cons_emb p.1 p.2 (L ++ L') x).trans (View.canon_cons_emb p.1 p.2 L x).symm
    · refine (View.canon_cons_of_not_mem p (L ++ L') hy).trans ((ih ?_).trans (View.canon_cons_of_not_mem p L hy).symm)
      obtain ⟨q, hq, hq'⟩ := h
      rcases List.mem_cons.mp hq with rfl | hq
      · exact absurd hq' hy
      · exact ⟨q, hq, hq'⟩
theorem mem1 (s : Fin 2) (k : Fin 1024) (a : Fin 512) : (ix3 s k a : S2x1024x512.Idx) ∈ (Rect.unit (s := S2x1024x512) ![1, 0, 0] ![1, 1024, 512] inb_S2x1024x512_S1x1024x512_1_0_0).set
    ∨ (ix3 s k a : S2x1024x512.Idx) ∈ (Rect.unit (s := S2x1024x512) ![0, 0, 0] ![1, 1024, 512] inb_S2x1024x512_S1x1024x512_0_0_0).set := by
  simp only [Rect.mem_set_unit]
  match s with
  | 1 => exact .inl fun d => match d with | ⟨0, _⟩ => ⟨le_refl 1, Nat.lt_succ_self 1⟩ | ⟨1, _⟩ => ⟨Nat.zero_le _, by have := k.isLt; show k.val < 0 + 1024; omega⟩ | ⟨2, _⟩ => ⟨Nat.zero_le _, by have := a.isLt; show a.val < 0 + 512; omega⟩
  | 0 => exact .inr fun d => match d with | ⟨0, _⟩ => ⟨le_refl 0, Nat.lt_succ_self 0⟩ | ⟨1, _⟩ => ⟨Nat.zero_le _, by have := k.isLt; show k.val < 0 + 1024; omega⟩ | ⟨2, _⟩ => ⟨Nat.zero_le _, by have := a.isLt; show a.val < 0 + 512; omega⟩
theorem mem2 (s : Fin 2) (a : Fin 512) (k : Fin 1024) : (ix3 s a k : S2x512x1024.Idx) ∈ (Rect.unit (s := S2x512x1024) ![1, 0, 0] ![1, 512, 1024] inb_S2x512x1024_S1x512x1024_1_0_0).set
    ∨ (ix3 s a k : S2x512x1024.Idx) ∈ (Rect.unit (s := S2x512x1024) ![0, 0, 0] ![1, 512, 1024] inb_S2x512x1024_S1x512x1024_0_0_0).set := by
  simp only [Rect.mem_set_unit]
  match s with
  | 1 => exact .inl fun d => match d with | ⟨0, _⟩ => ⟨le_refl 1, Nat.lt_succ_self 1⟩ | ⟨1, _⟩ => ⟨Nat.zero_le _, by have := a.isLt; show a.val < 0 + 512; omega⟩ | ⟨2, _⟩ => ⟨Nat.zero_le _, by have := k.isLt; show k.val < 0 + 1024; omega⟩
  | 0 => exact .inr fun d => match d with | ⟨0, _⟩ => ⟨le_refl 0, Nat.lt_succ_self 0⟩ | ⟨1, _⟩ => ⟨Nat.zero_le _, by have := a.isLt; show a.val < 0 + 512; omega⟩ | ⟨2, _⟩ => ⟨Nat.zero_le _, by have := k.isLt; show k.val < 0 + 1024; omega⟩

/-- A tile of one block, at an element of the array that it lies in. -/
theorem tile_at {n1 n2 : ℕ} {T : Fin 2 → Fin n1 → Fin n2 → EReal} {s : Fin 2} {k : Fin n1} {a : Fin n2} (s0 : Fin 2) {w : (⟨3, ![1, n1, n2]⟩ : Shape).Idx → EReal}
    (hw : ∀ k a, w (ix3 0 k a) = T s0 k a) (x : (⟨3, ![1, n1, n2]⟩ : Shape).Idx) (h0 : s.val = s0.val + (x 0).val) (h1 : k.val = (x 1).val) (h2 : a.val = (x 2).val) :
    w x = T s k a := by
  obtain ⟨z, k', a', rfl⟩ : ∃ (z : Fin 1) (k' : Fin n1) (a' : Fin n2), x = ix3 z k' a' := ⟨x 0, x 1, x 2, by funext d; match d with | ⟨0, _⟩ => rfl | ⟨1, _⟩ => rfl | ⟨2, _⟩ => rfl⟩
  obtain rfl : z = 0 := Subsingleton.elim _ _
  obtain rfl : s = s0 := Fin.ext h0
  obtain rfl : k = k' := Fin.ext h1
  obtain rfl : a = a' := Fin.ext h2
  exact hw k a
/-- Where the slices of a point lie in what they are taken from. -/
theorem slice1 (X : FVec Ideal S2x1024x512 .f32) (k : Fin 1024) (a : Fin 512) :
    X ((Rect.unit (s := S2x1024x512) ![0, 0, 0] ![1, 1024, 512] inb_S2x1024x512_S1x1024x512_0_0_0).idx (ix3 0 k a)) = X (ix3 0 k a)
    ∧ X ((Rect.unit (s := S2x1024x512) ![1, 0, 0] ![1, 1024, 512] inb_S2x1024x512_S1x1024x512_1_0_0).idx (ix3 0 k a)) = X (ix3 1 k a) := by
  constructor <;> pointwise
theorem slice2 (X : FVec Ideal S2x512x1024 .f32) (a : Fin 512) (k : Fin 1024) :
    X ((Rect.unit (s := S2x512x1024) ![0, 0, 0] ![1, 512, 1024] inb_S2x512x1024_S1x512x1024_0_0_0).idx (ix3 0 a k)) = X (ix3 0 a k)
    ∧ X ((Rect.unit (s := S2x512x1024) ![1, 0, 0] ![1, 512, 1024] inb_S2x512x1024_S1x512x1024_1_0_0).idx (ix3 0 a k)) = X (ix3 1 a k) := by
  constructor <;> pointwise
theorem cols (X : FVec Ideal S704x1024 .bf16) (i : Fin 704) (a : Fin 512) :
    X ((Rect.unit (s := S704x1024) ![0, 0] ![704, 512] inb_S704x1024_S704x512_0_0).idx (ix2 i a)) = X (ix2 i (⟨512 * (0 : Fin 2).val + a.val, by have := a.isLt; show 512 * 0 + a.val < 1024; omega⟩ : Fin 1024))
    ∧ X ((Rect.unit (s := S704x1024) ![0, 512] ![704, 512] inb_S704x1024_S704x512_0_512).idx (ix2 i a)) = X (ix2 i (⟨512 * (1 : Fin 2).val + a.val, by have := a.isLt; show 512 * 1 + a.val < 1024; omega⟩ : Fin 1024)) := by
  constructor
  · refine congrArg X (funext fun d => Fin.ext ((Rect.idx_unit_val (s := S704x1024) ![0, 0] ![704, 512] inb_S704x1024_S704x512_0_0 (ix2 i a) d).trans ?_))
    match d with
    | ⟨0, _⟩ => exact Nat.zero_add _
    | ⟨1, _⟩ => rfl
  · refine congrArg X (funext fun d => Fin.ext ((Rect.idx_unit_val (s := S704x1024) ![0, 512] ![704, 512] inb_S704x1024_S704x512_0_512 (ix2 i a) d).trans ?_))
    match d with
    | ⟨0, _⟩ => exact Nat.zero_add _
    | ⟨1, _⟩ => rfl
theorem zero3 : ∀ a : Fin S2x1024x512.rank, (![0, 0, 0] : Fin 3 → ℕ) a = 0 := by decide
theorem zero3' : ∀ a : Fin S2x512x1024.rank, (![0, 0, 0] : Fin 3 → ℕ) a = 0 := by decide

variable {m c} {x0 : Fin 2 → Fin 2064 → Fin 1024 → ℝ} {x1 : Fin 1024 → Fin 4096 → ℝ} {x2 : Fin 4096 → Fin 1024 → ℝ} {x3 : Fin 2 → Fin 2064 → Fin 1024 → ℝ}
    (h : Args m c x0 x1 x2 x3)

section terms
variable (x0 x1 x2 x3)
/-- What one position adds to an element of the first weight's gradient, and of the second's. -/
def term1 (f : Fin 4096) (k : Fin 1024) : Fin 2 → Fin 2064 → ℝ := fun b i => x0 b i k * dpre x0 x1 x2 x3 b i f
def term2 (f : Fin 4096) (k : Fin 1024) : Fin 2 → Fin 2064 → ℝ := fun b i => max (pre x0 x1 b i f) 0 * max (pre x0 x1 b i f) 0 * x3 b i k
/-- The two sums over the first rows. -/
def acc1 (j q : ℕ) (s : Fin 2) (k : Fin 1024) (a : Fin 512) : EReal := ((upTo (onRows (term1 x0 x1 x2 x3 (colAt j s a) k)) (704 * q) : ℝ) : EReal)
def acc2 (j q : ℕ) (s : Fin 2) (a : Fin 512) (k : Fin 1024) : EReal := ((upTo (onRows (term2 x0 x1 x3 (colAt j s a) k)) (704 * q) : ℝ) : EReal)
end terms

include h in
theorem piece1 (t : Fin cfg0.N) (s : Fin 2) {v3 : Vec Ideal S1x1024x512 .f32} {v7 : Vec Ideal S704x512 .bf16}
    (hv : ∀ k a, v3 (ix3 0 k a) = acc1 x0 x1 x2 x3 (t.val / 6) (t.val % 6) s k a) (hw : ∀ i a, v7 (ix2 i a) = iblk m c 2 t (ix2 i (⟨512 * s.val + a.val, by omega⟩ : Fin 1024)))
    (k : Fin 1024) (a : Fin 512) : k0_pay7 v3 (iblk m c 0 t) v7 (ix3 0 k a) = acc1 x0 x1 x2 x3 (t.val / 6) (t.val % 6 + 1) s k a := by
  have e (i : Fin 704) : HMul.hMul (α := EReal) (β := EReal) (iblk m c 0 t (ix2 i k)) (v7 (ix2 i a)) = ((onRows (term1 x0 x1 x2 x3 (colAt (t.val / 6) s a) k) (row t i) : ℝ) : EReal) := by
    have ef : (⟨1024 * (t.val / 6) + (512 * s.val + a.val), by have := tlt t; omega⟩ : Fin 4096) = colAt (t.val / 6) s a :=
      Fin.ext (by have := tlt t; dsimp only; omega)
    rw [hw, b0, b2, s_at h, dh_at h, ← EReal.coe_mul, onRows_mul, ef]; rfl
  rw [add1, hv, Finset.sum_congr rfl fun i _ => e i, coe_sum, acc1, acc1, ← EReal.coe_add, upTo_add _ _ 704 (by omega)]
  rfl
include h in
theorem piece2 (t : Fin cfg0.N) (s : Fin 2) {v48 : Vec Ideal S1x512x1024 .f32} {v41 : Vec Ideal S704x512 .bf16}
    (hv : ∀ a k, v48 (ix3 0 a k) = acc2 x0 x1 x3 (t.val / 6) (t.val % 6) s a k) (hw : ∀ i a, v41 (ix2 i a) = iblk m c 1 t (ix2 i (⟨512 * s.val + a.val, by omega⟩ : Fin 1024)))
    (a : Fin 512) (k : Fin 1024) : k0_pay2 v41 v48 (iblk m c 3 t) (ix3 0 a k) = acc2 x0 x1 x3 (t.val / 6) (t.val % 6 + 1) s a k := by
  have e (i : Fin 704) : max (v41 (ix2 i a) : EReal) 0 * max (v41 (ix2 i a) : EReal) 0 * (iblk m c 3 t (ix2 i k) : EReal)
      = ((onRows (term2 x0 x1 x3 (colAt (t.val / 6) s a) k) (row t i) : ℝ) : EReal) := by
    have ef : (⟨1024 * (t.val / 6) + (512 * s.val + a.val), by have := tlt t; omega⟩ : Fin 4096) = colAt (t.val / 6) s a :=
      Fin.ext (by have := tlt t; dsimp only; omega)
    rw [hw, b1, b3, h_at h, ct_at h, coe_max0, ← EReal.coe_mul, ← EReal.coe_mul, onRows_map (fun x => max x 0) (max_self 0), onRows_mul, onRows_mul, ef]; rfl
  rw [add2, hv, Finset.sum_congr rfl fun i _ => e i, coe_sum, acc2, acc2, ← EReal.coe_add, upTo_add _ _ 704 (by omega)]
  rfl
theorem acc_zero (j : ℕ) (s : Fin 2) (a : Fin 512) (k : Fin 1024) : acc1 x0 x1 x2 x3 j 0 s k a = 0 ∧ acc2 x0 x1 x3 j 0 s a k = 0 := by
  simp [acc1, acc2, upTo_zero]

/-- What the sums hold before a point, and after it. -/
def Held (x0 : Fin 2 → Fin 2064 → Fin 1024 → ℝ) (x1 : Fin 1024 → Fin 4096 → ℝ) (x2 : Fin 4096 → Fin 1024 → ℝ) (x3 : Fin 2 → Fin 2064 → Fin 1024 → ℝ) (j q : ℕ)
    (X : FVec Ideal S2x1024x512 .f32) (Y : FVec Ideal S2x512x1024 .f32) : Prop :=
  (∀ s k a, X (ix3 s k a) = acc1 x0 x1 x2 x3 j q s k a) ∧ ∀ s a k, Y (ix3 s a k) = acc2 x0 x1 x3 j q s a k

variable (m c) in
/-- The two sums after a point. -/
abbrev after (t : Fin cfg0.N) : Prop := Held x0 x1 x2 x3 (t.val / 6) (t.val % 6 + 1) (outsAt0 m c t.val t.isLt).2.2.1 (outsAt0 m c t.val t.isLt).2.2.2

include h in
theorem start (t : Fin cfg0.N) (h0 : t.val % 6 = 0) : after m c (x0 := x0) (x1 := x1) (x2 := x2) (x3 := x3) t := by
  constructor
  · intro s k a
    have z : ∀ s k a, (k0_pay5 (F := Ideal)) (ix3 s k a) = acc1 x0 x1 x2 x3 (t.val / 6) (t.val % 6) s k a := fun s k a => by
      rw [h0, (acc_zero _ _ _ _).1]; pointwise [k0_pay5]
    have Q := fun s' v3 v7 hv hw x k0 k1 k2 => tile_at (s := s) (k := k) (a := a) s' (piece1 h t s' (v3 := v3) (v7 := v7) hv hw) x k0 k1 k2
    rw [outsAt0_A m c t h0 (by omega)]; frame_out
    simp (disch := decide) only [↓View.readCov_skip, View.readCov_fill _ _ _ _ _ zero3]
    refine (canon_drop [_] [_, _] ?_).trans ?_
    · rcases mem1 s k a with e | e
      · exact ⟨_, List.mem_cons_self, e⟩
      · exact ⟨_, List.mem_cons_of_mem _ List.mem_cons_self, e⟩
    canon_tiles x h
    case piece0 => exact Q 1 _ _ (fun k a => (slice1 _ k a).2.trans (z 1 k a)) (fun i a => (cols _ i a).2) x h0 h1 h2
    case piece1 => exact Q 0 _ _ (fun k a => (slice1 _ k a).1.trans (z 0 k a)) (fun i a => (cols _ i a).1) x (h0.trans (Nat.zero_add _).symm) h1 h2
  · intro s a k
    have z : ∀ s a k, (k0_pay6 (F := Ideal)) (ix3 s a k) = acc2 x0 x1 x3 (t.val / 6) (t.val % 6) s a k := fun s a k => by
      rw [h0, (acc_zero (x2 := x2) _ _ _ _).2]; pointwise [k0_pay6]
    have Q := fun s' v48 v41 hv hw x k0 k1 k2 => tile_at (s := s) (k := a) (a := k) s' (piece2 h t s' (v48 := v48) (v41 := v41) hv hw) x k0 k1 k2
    rw [outsAt0_A m c t h0 (by omega)]; frame_out
    simp (disch := decide) only [↓View.readCov_skip, View.readCov_fill _ _ _ _ _ zero3']
    refine (canon_drop [_] [_, _] ?_).trans ?_
    · rcases mem2 s a k with e | e
      · exact ⟨_, List.mem_cons_self, e⟩
      · exact ⟨_, List.mem_cons_of_mem _ List.mem_cons_self, e⟩
    canon_tiles x h
    case piece0 => exact Q 1 _ _ (fun a k => (slice2 _ a k).2.trans (z 1 a k)) (fun i a => (cols _ i a).2) x h0 h1 h2
    case piece1 => exact Q 0 _ _ (fun a k => (slice2 _ a k).1.trans (z 0 a k)) (fun i a => (cols _ i a).1) x (h0.trans (Nat.zero_add _).symm) h1 h2

include h in
theorem next (t : Fin cfg0.N) (h0 : ¬ t.val % 6 = 0)
    (P : Held x0 x1 x2 x3 (t.val / 6) (t.val % 6) (outsAt0 m c (t.val - 1) (by have := t.isLt; omega)).2.2.1 (outsAt0 m c (t.val - 1) (by have := t.isLt; omega)).2.2.2) :
    after m c (x0 := x0) (x1 := x1) (x2 := x2) (x3 := x3) t := by
  obtain ⟨z1, z2⟩ := P
  constructor
  · intro s k a
    have Q := fun s' v3 v7 hv hw x k0 k1 k2 => tile_at (s := s) (k := k) (a := a) s' (piece1 h t s' (v3 := v3) (v7 := v7) hv hw) x k0 k1 k2
    by_cases h5 : t.val % 6 = 5
    on_goal 1 => rw [outsAt0_C m c t h0 h5]
    on_goal 2 => rw [outsAt0_B m c t h0 h5]
    all_goals
      frame_out
      simp (disch := decide) only [↓View.readCov_skip, read_unread_whole]
      canon_tiles x h
      case piece0 => exact Q 1 _ _ (fun k a => (slice1 _ k a).2.trans (z1 1 k a)) (fun i a => (cols _ i a).2) x h0 h1 h2
      case piece1 => exact Q 0 _ _ (fun k a => (slice1 _ k a).1.trans (z1 0 k a)) (fun i a => (cols _ i a).1) x (h0.trans (Nat.zero_add _).symm) h1 h2
  · intro s a k
    have Q := fun s' v48 v41 hv hw x k0 k1 k2 => tile_at (s := s) (k := a) (a := k) s' (piece2 h t s' (v48 := v48) (v41 := v41) hv hw) x k0 k1 k2
    by_cases h5 : t.val % 6 = 5
    on_goal 1 => rw [outsAt0_C m c t h0 h5]
    on_goal 2 => rw [outsAt0_B m c t h0 h5]
    all_goals
      frame_out
      simp (disch := decide) only [↓View.readCov_skip, read_unread_whole]
      canon_tiles x h
      case piece0 => exact Q 1 _ _ (fun a k => (slice2 _ a k).2.trans (z2 1 a k)) (fun i a => (cols _ i a).2) x h0 h1 h2
      case piece1 => exact Q 0 _ _ (fun a k => (slice2 _ a k).1.trans (z2 0 a k)) (fun i a => (cols _ i a).1) x (h0.trans (Nat.zero_add _).symm) h1 h2

include h in
theorem carried : ∀ (n : ℕ) (hn : n < cfg0.N), after m c (x0 := x0) (x1 := x1) (x2 := x2) (x3 := x3) ⟨n, hn⟩ := by
  intro n
  induction n with
  | zero => intro hn; exact start h ⟨0, hn⟩ rfl
  | succ n ih =>
    intro hn
    by_cases h0 : (n + 1) % 6 = 0
    · exact start h ⟨n + 1, hn⟩ h0
    · refine next h ⟨n + 1, hn⟩ h0 ?_
      have e1 : n / 6 = (n + 1) / 6 := by omega
      have e2 : n % 6 + 1 = (n + 1) % 6 := by omega
      show Held x0 x1 x2 x3 ((n + 1) / 6) ((n + 1) % 6) _ _
      rw [← e1, ← e2]
      exact ih (by omega)

variable (m c) in
/-- At the end of a pair of column blocks both outputs take what the sums hold. -/
theorem flushed1 (t : Fin cfg0.N) (h5 : t.val % 6 = 5) (s : Fin 2) (k : Fin 1024) (a : Fin 512) :
    (outsAt0 m c t.val t.isLt).1 (ix3 s k a) = (outsAt0 m c t.val t.isLt).2.2.1 (ix3 s k a) := by
  rw [outsAt0_C m c t (by omega) h5]; frame_out
  simp only [View.readCov_eq_canon']
  generalize View.canon (Val := Elt Ideal) (s := S2x1024x512) (e := .f32) _ = w
  pointwise [k0_pay3]
variable (m c) in
theorem flushed2 (t : Fin cfg0.N) (h5 : t.val % 6 = 5) (s : Fin 2) (a : Fin 512) (k : Fin 1024) :
    (outsAt0 m c t.val t.isLt).2.1 (ix3 s a k) = (outsAt0 m c t.val t.isLt).2.2.2 (ix3 s a k) := by
  rw [outsAt0_C m c t (by omega) h5]; frame_out
  simp only [View.readCov_eq_canon']
  generalize View.canon (Val := Elt Ideal) _ = w
  pointwise [k0_pay4]

/-- Column `a` of block `g` of the eight. -/
abbrev colg (g : Fin 8) (a : Fin 512) : Fin 4096 := ⟨512 * g.val + a.val, by omega⟩
theorem colAt_eq (j : ℕ) (s : Fin 2) (a : Fin 512) (g : Fin 8) (hg : g.val = 2 * j + s.val) : colAt j s a = colg g a := Fin.ext (by dsimp only; omega)
theorem all1 (j : ℕ) (s : Fin 2) (k : Fin 1024) (a : Fin 512) (g : Fin 8) (hg : g.val = 2 * j + s.val) :
    acc1 x0 x1 x2 x3 j 6 s k a = ((∑ b, ∑ i, term1 x0 x1 x2 x3 (colg g a) k b i : ℝ) : EReal) := by
  rw [acc1, colAt_eq j s a g hg, show 704 * 6 = 4224 from rfl, upTo_all, sum_onRows]
theorem all2 (j : ℕ) (s : Fin 2) (a : Fin 512) (k : Fin 1024) (g : Fin 8) (hg : g.val = 2 * j + s.val) :
    acc2 x0 x1 x3 j 6 s a k = ((∑ b, ∑ i, term2 x0 x1 x3 (colg g a) k b i : ℝ) : EReal) := by
  rw [acc2, colAt_eq j s a g hg, show 704 * 6 = 4224 from rfl, upTo_all, sum_onRows]
theorem flush4 : ∀ t : Fin cfg0.N, (cfg0.win 4).flush t = true → t.val % 6 = 5 := (by decide +kernel : ∀ t : Fin grid0.N, _)
theorem flush5 : ∀ t : Fin cfg0.N, (cfg0.win 5).flush t = true → t.val % 6 = 5 := (by decide +kernel : ∀ t : Fin grid0.N, _)

include h in
/-- The gradient of the first weight. -/
theorem out4 (g : Fin 8) (k : Fin 1024) (a : Fin 512) : (dats m 0 c).arrAt 4 cfg0.N (ix3 g k a) = ((∑ b, ∑ i, term1 x0 x1 x2 x3 (colg g a) k b i : ℝ) : EReal) := by
  let G : S8x1024x512.Idx → EReal := fun j => ((∑ b, ∑ i, term1 x0 x1 x2 x3 (colg (j 0) (j 2)) (j 1) b i : ℝ) : EReal)
  have e : (dats m 0 c).arrAt 4 cfg0.N = G := by
    refine (dats m 0 c).arrAt_eq_of_covers 4 G (by decide +kernel) fun t hf y => ?_
    obtain ⟨s, k, a, rfl⟩ : ∃ (s : Fin 2) (k : Fin 1024) (a : Fin 512), y = ix3 s k a :=
      ⟨y 0, y 1, y 2, by funext d; match d with | ⟨0, _⟩ => rfl | ⟨1, _⟩ => rfl | ⟨2, _⟩ => rfl⟩
    have ht := tlt t
    have h5 := flush4 t hf
    have hs : ((dats m 0 c).after 4 t : S2x1024x512.Idx → EReal) (ix3 s k a) = ((∑ b, ∑ i, term1 x0 x1 x2 x3 (colg ⟨2 * (t.val / 6) + s.val, by omega⟩ a) k b i : ℝ) : EReal) := by
      rw [after0_4, flushed1 m c t h5, (carried h t.val t.isLt).1 s k a]
      show acc1 x0 x1 x2 x3 (t.val / 6) (t.val % 6 + 1) s k a = _
      rw [h5]; exact all1 _ s k a _ rfl
    blk_simp
    refine hs.trans (show G (ix3 (⟨2 * (t.val / 6) + s.val, by omega⟩ : Fin 8) k a) = _ from congrArg G ?_)
    symm; blk_ext [idx t]
  rw [e]; rfl
include h in
/-- The gradient of the second weight. -/
theorem out5 (g : Fin 8) (a : Fin 512) (k : Fin 1024) : (dats m 0 c).arrAt 5 cfg0.N (ix3 g a k) = ((∑ b, ∑ i, term2 x0 x1 x3 (colg g a) k b i : ℝ) : EReal) := by
  let G : S8x512x1024.Idx → EReal := fun j => ((∑ b, ∑ i, term2 x0 x1 x3 (colg (j 0) (j 1)) (j 2) b i : ℝ) : EReal)
  have e : (dats m 0 c).arrAt 5 cfg0.N = G := by
    refine (dats m 0 c).arrAt_eq_of_covers 5 G (by decide +kernel) fun t hf y => ?_
    obtain ⟨s, a, k, rfl⟩ : ∃ (s : Fin 2) (a : Fin 512) (k : Fin 1024), y = ix3 s a k :=
      ⟨y 0, y 1, y 2, by funext d; match d with | ⟨0, _⟩ => rfl | ⟨1, _⟩ => rfl | ⟨2, _⟩ => rfl⟩
    have ht := tlt t
    have h5 := flush5 t hf
    have hs : ((dats m 0 c).after 5 t : S2x512x1024.Idx → EReal) (ix3 s a k) = ((∑ b, ∑ i, term2 x0 x1 x3 (colg ⟨2 * (t.val / 6) + s.val, by omega⟩ a) k b i : ℝ) : EReal) := by
      rw [after0_5, flushed2 m c t h5, (carried h t.val t.isLt).2 s a k]
      show acc2 x0 x1 x3 (t.val / 6) (t.val % 6 + 1) s a k = _
      rw [h5]; exact all2 _ s a k _ rfl
    blk_simp
    refine hs.trans (show G (ix3 (⟨2 * (t.val / 6) + s.val, by omega⟩ : Fin 8) a k) = _ from congrArg G ?_)
    symm; blk_ext [idx t]
  rw [e]; rfl
end Cert.Kernel4Ideal.Weights
-- ==== Proof.WeightsReference.lean ====
module
public import proofs.«01_k».proof.Proof.WeightsKernel
public import proofs.«01_k».proof.Proof.Gen.Reference4Ideal.Run
public import proofs.«01_k».proof.Proof.Gen.Reference4Ideal.Read
@[expose] public section
set_option maxRecDepth 16384
/-! # What the reference of the two weights' gradient computes -/
noncomputable section
namespace Cert.Weights
open Idealize.ShloMosaic
/-- The gradient of the ReLU is nothing where the layer is not positive; so is what it is multiplied by. -/
theorem relu_gate (p x : ℝ) : (if (0 : EReal) < (p : EReal) then ((x * (2 * max p 0) : ℝ) : EReal) else 0) = ((x * (2 * max p 0) : ℝ) : EReal) := by
  split_ifs with hp
  · rfl
  · rw [EReal.coe_pos, not_lt] at hp
    rw [max_eq_right hp, mul_zero, mul_zero, EReal.coe_zero]
end Cert.Weights
namespace Cert.Reference4Ideal.Weights
open Cert.Reference4Ideal Cert.Reference4Ideal.Read Idealize.ShloMosaic Idealize.ShloMosaic.TcCoe Cert.Real Cert.Weights
open Cert.Kernel4Ideal.Weights (term1 term2 colg)
variable {X0 X3 : (⟨S2x2064x1024, .f32⟩ : BufTy).Contents (Elt Ideal)} {X1 : (⟨S1024x4096, .f32⟩ : BufTy).Contents (Elt Ideal)} {X2 : (⟨S4096x1024, .f32⟩ : BufTy).Contents (Elt Ideal)}
variable {x0 : Fin 2 → Fin 2064 → Fin 1024 → ℝ} {x1 : Fin 1024 → Fin 4096 → ℝ} {x2 : Fin 4096 → Fin 1024 → ℝ} {x3 : Fin 2 → Fin 2064 → Fin 1024 → ℝ}
variable (a0 : ∀ b i k, X0 (ix3 b i k) = (x0 b i k : EReal)) (a1 : ∀ k f, X1 (ix2 k f) = (x1 k f : EReal)) (a2 : ∀ f k, X2 (ix2 f k) = (x2 f k : EReal))
    (a3 : ∀ b i k, X3 (ix3 b i k) = (x3 b i k : EReal))
include a0 a1 in
theorem pre_at (b : Fin 2) (i : Fin 2064) (f : Fin 4096) : val_main_v0 (F := Ideal) X0 X1 (ix3 b i f) = ((pre x0 x1 b i f : ℝ) : EReal) := by
  pointwise [val_main_v0]
  simp only [a0, a1, ← EReal.coe_mul, coe_sum, pre]
include a0 a1 in
theorem act_at (b : Fin 2) (i : Fin 2064) (f : Fin 4096) : val_main_v1 (F := Ideal) X0 X1 (ix3 b i f) = ((max (pre x0 x1 b i f) 0 : ℝ) : EReal) := by
  have e := pre_at a0 a1 b i f
  unfold val_main_v1
  generalize val_main_v0 (F := Ideal) X0 X1 = w at e ⊢
  pointwise [val_main_call0_v0, val_main_call0_cst]
  rw [e, coe_max0]
include a0 a1 a3 in
theorem w2_at (f : Fin 4096) (k : Fin 1024) : val_main_v10 (F := Ideal) X0 X1 X3 (ix2 f k) = ((∑ b, ∑ i, term2 x0 x1 x3 f k b i : ℝ) : EReal) := by
  have e := act_at a0 a1
  unfold val_main_v10 val_main_v9 val_main_v5
  generalize val_main_v1 (F := Ideal) X0 X1 = w at e ⊢
  pointwise
  simp only [e, a3, ← EReal.coe_mul, coe_sum, term2, mul_comm]
include a0 a1 a2 a3 in
theorem d_at (b : Fin 2) (i : Fin 2064) (f : Fin 4096) : val_main_v14 (F := Ideal) X0 X1 X2 X3 (ix3 b i f) = ((dpre x0 x1 x2 x3 b i f : ℝ) : EReal) := by
  have e := act_at a0 a1 b i f
  have e' := pre_at a0 a1 b i f
  unfold val_main_v14 val_main_v12 val_main_v7 val_main_v3
  generalize val_main_v1 (F := Ideal) X0 X1 = w at e ⊢
  generalize val_main_v0 (F := Ideal) X0 X1 = w' at e' ⊢
  pointwise [val_main_v2, val_main_cst, val_main_v6, val_main_cst_1, val_main_v11, val_main_v13, val_main_cst_2]
  simp only [e, e', a2, a3, lit_two, ← EReal.coe_mul, coe_sum]
  exact relu_gate _ _
include a0 a1 a2 a3 in
theorem w1_at (k : Fin 1024) (f : Fin 4096) : val_main_v16 (F := Ideal) X0 X1 X2 X3 (ix2 k f) = ((∑ b, ∑ i, term1 x0 x1 x2 x3 f k b i : ℝ) : EReal) := by
  have e := d_at a0 a1 a2 a3
  unfold val_main_v16 val_main_v15
  generalize val_main_v14 (F := Ideal) X0 X1 X2 X3 = w at e ⊢
  pointwise
  simp only [e, a0, ← EReal.coe_mul, coe_sum, term1, mul_comm]
include a0 a1 a2 a3 in
theorem out0 (g : Fin 8) (k : Fin 1024) (a : Fin 512) : val_main_v19 (F := Ideal) X0 X1 X2 X3 (ix3 g k a) = ((∑ b, ∑ i, term1 x0 x1 x2 x3 (colg g a) k b i : ℝ) : EReal) := by
  have e := w1_at a0 a1 a2 a3 k (colg g a)
  unfold val_main_v19 val_main_v18 val_main_v17
  generalize val_main_v16 (F := Ideal) X0 X1 X2 X3 = w at e ⊢
  pointwise
  rw [← e]; exact congrArg (fun f => w (ix2 k f)) (Fin.ext (by dsimp only; omega))
include a0 a1 a3 in
theorem out1 (g : Fin 8) (a : Fin 512) (k : Fin 1024) : val_main_v21 (F := Ideal) X0 X1 X3 (ix3 g a k) = ((∑ b, ∑ i, term2 x0 x1 x3 (colg g a) k b i : ℝ) : EReal) := by
  have e := w2_at a0 a1 a3 (colg g a) k
  unfold val_main_v21 val_main_v20
  generalize val_main_v10 (F := Ideal) X0 X1 X3 = w at e ⊢
  pointwise
  rw [← e]; exact congrArg (fun f => w (ix2 f k)) (Fin.ext (by dsimp only; omega))
end Cert.Reference4Ideal.Weights
-- ==== Proof.WeightsClaim.lean ====
module
public import proofs.«01_k».proof.Defs
public import proofs.«01_k».proof.Proof.WeightsReference
public import proofs.«01_k».proof.Proof.Finite
public import proofs.«01_k».proof.Proof.Gen.Pre_finite4
public import Idealize.ShloMosaic.Adequacy
public import Idealize.ShloMosaic.Init
@[expose] public section
set_option maxRecDepth 16384
/-! # The two weights' gradients: the claims -/
noncomputable section
namespace Cert.Proof.Weights
open Idealize.ShloMosaic Idealize.SL.Sem Cert.Kernel4

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The two programs end with equal gradients where the arguments are finite. -/
theorem value : Cert.algebraic_Kernel4Ideal_Reference4Ideal_pre_finite4 := by
  intro m g m' g' hp hm
  have hx (c : Dev Cert.Kernel4Ideal.nD) : ∃ x0 x1 x2 x3, Cert.Kernel4Ideal.Weights.Args m c x0 x1 x2 x3 := by
    obtain ⟨p0, p1, p2, p3⟩ := hp c
    choose x0 h0 using Cert.Real.finite_at _ _ _ p0
    choose x1 h1 using Cert.Real.finite_at _ _ _ p1
    choose x2 h2 using Cert.Real.finite_at _ _ _ p2
    choose x3 h3 using Cert.Real.finite_at _ _ _ p3
    exact ⟨fun b i k => x0 (ix3 b i k), fun k f => x1 (ix2 k f), fun f k => x2 (ix2 f k), fun b i k => x3 (ix3 b i k),
      ⟨fun _ _ _ => h0 _, fun _ _ => h1 _, fun _ _ => h2 _, fun _ _ _ => h3 _⟩⟩
  choose x0 x1 x2 x3 hk using hx
  refine ⟨_, _, Cert.Kernel4Ideal.Value.run_blocks (F := Ideal) m g,
    (θ_run Cert.Reference4Ideal.defs _ _).mono (fun r h c => ?_) (Cert.Reference4Ideal.Value.run (F := Ideal) m' g')⟩
  obtain ⟨e0, e1, ha⟩ := h c
  obtain ⟨q0, q1, q2, q3⟩ := hm c
  have a0 := fun b i k => (congrFun q0 (ix3 b i k)).trans ((hk c).a0 b i k)
  have a1 := fun k f => (congrFun q1 (ix2 k f)).trans ((hk c).a1 k f)
  have a2 := fun f k => (congrFun q2 (ix2 f k)).trans ((hk c).a2 f k)
  have a3 := fun b i k => (congrFun q3 (ix3 b i k)).trans ((hk c).a3 b i k)
  refine ⟨(e0.trans (Cert.Reference4Ideal.Read.val_main_v19_eq (F := Ideal) _ _ _ _)).trans (funext fun j => ?_), (e1.trans (Cert.Reference4Ideal.Read.val_main_v21_eq (F := Ideal) _ _ _)).trans (funext fun j => ?_), ha⟩
  · obtain ⟨g, k, a, rfl⟩ : ∃ (g : Fin 8) (k : Fin 1024) (a : Fin 512), j = ix3 g k a :=
      ⟨j 0, j 1, j 2, by funext d; match d with | ⟨0, _⟩ => rfl | ⟨1, _⟩ => rfl | ⟨2, _⟩ => rfl⟩
    exact (Cert.Reference4Ideal.Weights.out0 (X0 := m' ((c.tc : Thread Cert.Reference4Ideal.nD Cert.Reference4Ideal.τ).loc Cert.Reference4Ideal.main_arg0)) (X3 := m' ((c.tc : Thread Cert.Reference4Ideal.nD Cert.Reference4Ideal.τ).loc Cert.Reference4Ideal.main_arg3)) (X1 := m' ((c.tc : Thread Cert.Reference4Ideal.nD Cert.Reference4Ideal.τ).loc Cert.Reference4Ideal.main_arg1)) (X2 := m' ((c.tc : Thread Cert.Reference4Ideal.nD Cert.Reference4Ideal.τ).loc Cert.Reference4Ideal.main_arg2)) a0 a1 a2 a3 g k a).trans (Cert.Kernel4Ideal.Weights.out4 (hk c) g k a).symm
  · obtain ⟨g, a, k, rfl⟩ : ∃ (g : Fin 8) (a : Fin 512) (k : Fin 1024), j = ix3 g a k :=
      ⟨j 0, j 1, j 2, by funext d; match d with | ⟨0, _⟩ => rfl | ⟨1, _⟩ => rfl | ⟨2, _⟩ => rfl⟩
    exact (Cert.Reference4Ideal.Weights.out1 (X0 := m' ((c.tc : Thread Cert.Reference4Ideal.nD Cert.Reference4Ideal.τ).loc Cert.Reference4Ideal.main_arg0)) (X3 := m' ((c.tc : Thread Cert.Reference4Ideal.nD Cert.Reference4Ideal.τ).loc Cert.Reference4Ideal.main_arg3)) (X1 := m' ((c.tc : Thread Cert.Reference4Ideal.nD Cert.Reference4Ideal.τ).loc Cert.Reference4Ideal.main_arg1)) a0 a1 a3 g a k).trans (Cert.Kernel4Ideal.Weights.out5 (hk c) g a k).symm
end Cert.Proof.Weights
-- ==== Proof.ActEntry.lean ====
module
public import proofs.«01_k».proof.Proof.WeightsEntry
public import proofs.«01_k».proof.Proof.HeadKernel
public import proofs.«01_k».proof.Proof.Gen.Kernel5Ideal.Value
public import proofs.«01_k».proof.Proof.Gen.Kernel5Ideal
@[expose] public section
set_option maxRecDepth 16384
/-! # What the blocks of the activation's gradient hold -/
noncomputable section
namespace Cert.Act
open Cert.Real Cert.Rows Cert.Weights

/-- The arguments as real numbers: the rows before the norm, its scale and shift, the two weights and the cotangent. -/
structure Inp where
  p : Fin 2 → Fin 2064 → Fin 1024 → ℝ
  g : Fin 1024 → ℝ
  b : Fin 1024 → ℝ
  w1 : Fin 1024 → Fin 4096 → ℝ
  w2 : Fin 4096 → Fin 1024 → ℝ
  ct : Fin 2 → Fin 2064 → Fin 1024 → ℝ

variable (I : Inp)
/-- The normalised rows, scaled and shifted. -/
def y (b : Fin 2) (i : Fin 2064) (k : Fin 1024) : ℝ := hat (I.p b i) k * I.g k + I.b k
/-- The layer before its activation, and its gradient. -/
def hid (b : Fin 2) (i : Fin 2064) (f : Fin 4096) : ℝ := pre (y I) I.w1 b i f
def dh (b : Fin 2) (i : Fin 2064) (f : Fin 4096) : ℝ := dpre (y I) I.w1 I.w2 I.ct b i f
/-- The gradient of the normalised rows: through the layer and past it. -/
def ds (b : Fin 2) (i : Fin 2064) (k : Fin 1024) : ℝ := (∑ f, dh I b i f * I.w1 k f) + alpha * I.ct b i k
/-- The gradient of the rows before the norm. -/
def dp (b : Fin 2) (i : Fin 2064) (k : Fin 1024) : ℝ := lnBwd (I.p b i) (fun j => ds I b i j * I.g j) k

/-! The same on the padded rows. -/
def P (r : Fin 4224) (k : Fin 1024) : ℝ := onRows (fun b i => I.p b i k) r
def C (r : Fin 4224) (k : Fin 1024) : ℝ := onRows (fun b i => I.ct b i k) r
def H (r : Fin 4224) (f : Fin 4096) : ℝ := onRows (fun b i => hid I b i f) r
def dhR (r : Fin 4224) (f : Fin 4096) : ℝ := onRows (fun b i => dh I b i f) r
def dsR (r : Fin 4224) (k : Fin 1024) : ℝ := onRows (fun b i => ds I b i k) r

theorem dhR_eq (r : Fin 4224) (f : Fin 4096) : (∑ k, C I r k * I.w2 f k) * (2 * max (H I r f) 0) = dhR I r f := by
  unfold C H dhR onRows
  split_ifs
  · rfl
  · simp
theorem dsR_eq (r : Fin 4224) (k : Fin 1024) : alpha * C I r k + ∑ f, dhR I r f * I.w1 k f = dsR I r k := by
  unfold C dhR dsR onRows
  split_ifs
  · exact add_comm _ _
  · simp
theorem dp_eq (r : Fin 4224) (k : Fin 1024) : lnBwd (P I r) (fun j => dsR I r j * I.g j) k = onRows (fun b i => dp I b i k) r := by
  by_cases h : 48 ≤ r.val % 2112
  · have e1 : P I r = I.p ⟨r.val / 2112, by omega⟩ ⟨r.val % 2112 - 48, by omega⟩ := funext fun j => by rw [P, onRows, if_pos h]
    have e2 : (fun j => dsR I r j * I.g j) = fun j => ds I ⟨r.val / 2112, by omega⟩ ⟨r.val % 2112 - 48, by omega⟩ j * I.g j := funext fun j => by rw [dsR, onRows, if_pos h]
    rw [e1, e2, onRows, if_pos h]; rfl
  · have e2 : (fun j => dsR I r j * I.g j) = fun _ => 0 := funext fun j => by rw [dsR, onRows, if_neg h, zero_mul]
    rw [e2, onRows, if_neg h]
    simp [lnBwd, mean]
theorem dg_eq (r : Fin 4224) (k : Fin 1024) : dsR I r k * hat (P I r) k = onRows (fun b i => ds I b i k * hat (I.p b i) k) r := by
  by_cases h : 48 ≤ r.val % 2112
  · have e1 : P I r = I.p ⟨r.val / 2112, by omega⟩ ⟨r.val % 2112 - 48, by omega⟩ := funext fun j => by rw [P, onRows, if_pos h]
    rw [e1, dsR, onRows, onRows, if_pos h, if_pos h]
  · rw [dsR, onRows, onRows, if_neg h, if_neg h, zero_mul]
end Cert.Act

namespace Cert.Kernel5Ideal.Act
open Cert.Kernel5Ideal Cert.Kernel5Ideal.Gen Idealize.ShloMosaic Idealize.ShloMosaic.TcCoe Cert.Real Cert.Rows Cert.Weights Cert.Act
open Cert.KernelIdeal.Head (n1024)
variable (m : (ℓ : Loc nD τ sig) → Buf (Elt Ideal) ℓ) (c : Dev nD)

/-- The memory holds the arguments. -/
structure Args (I : Inp) : Prop where
  a0 : ∀ b i k, m ((c : Thread nD τ).loc main_arg0) (ix3 b i k) = (I.p b i k : EReal)
  a1 : ∀ k, m ((c : Thread nD τ).loc main_arg1) (ix1 k) = (I.g k : EReal)
  a2 : ∀ k, m ((c : Thread nD τ).loc main_arg2) (ix1 k) = (I.b k : EReal)
  a3 : ∀ k f, m ((c : Thread nD τ).loc main_arg3) (ix2 k f) = (I.w1 k f : EReal)
  a4 : ∀ f k, m ((c : Thread nD τ).loc main_arg4) (ix2 f k) = (I.w2 f k : EReal)
  a5 : ∀ b i k, m ((c : Thread nD τ).loc main_arg5) (ix3 b i k) = (I.ct b i k : EReal)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
/-- The forward lines as the host writes them: the rows less their means, the variances, the norm and the layer. -/
abbrev meanOf (x : FVec Ideal S2x2064x1024 .f32) : FVec Ideal S2x2064x1 .f32 :=
  Host.divf (broadcastInDim S2x2064x1 ![0, 1] bcast_S2x2064_S2x2064x1_0_1 (Host.reduceAdd x (constant S_ .f32 0x00000000#32) reducesTo_S2x2064x1024_S2x2064_d2 h_S_))
    (broadcastInDim S2x2064x1 ![] bcast_S_S2x2064x1 (constant S_ .f32 0x44800000#32))
abbrev cenOf (x : FVec Ideal S2x2064x1024 .f32) : FVec Ideal S2x2064x1024 .f32 :=
  subf x (broadcastInDim S2x2064x1024 ![0, 1, 2] bcast_S2x2064x1_S2x2064x1024_0_1_2 (meanOf x))
abbrev rsOf (w : FVec Ideal S2x2064x1024 .f32) : FVec Ideal S2x2064x1 .f32 :=
  Host.rsqrt (addf (meanOf (mulf w w)) (broadcastInDim S2x2064x1 ![] bcast_S_S2x2064x1 (constant S_ .f32 0x3727C5AC#32)))
abbrev affOf (w : FVec Ideal S2x2064x1024 .f32) (r : FVec Ideal S2x2064x1 .f32) (g b : FVec Ideal S1024 .f32) : FVec Ideal S2x2064x1024 .f32 :=
  addf (mulf (mulf w (broadcastInDim S2x2064x1024 ![0, 1, 2] bcast_S2x2064x1_S2x2064x1024_0_1_2 r))
      (broadcastInDim S2x2064x1024 ![0, 1, 2] bcast_S1x1x1024_S2x2064x1024_0_1_2 (broadcastInDim S1x1x1024 ![2] bcast_S1024_S1x1x1024_2 g)))
    (broadcastInDim S2x2064x1024 ![0, 1, 2] bcast_S1x1x1024_S2x2064x1024_0_1_2 (broadcastInDim S1x1x1024 ![2] bcast_S1024_S1x1x1024_2 b))
abbrev hOf (x : FVec Ideal S2x2064x1024 .f32) (w : FVec Ideal S1024x4096 .f32) : FVec Ideal S2x2064x4096 .f32 :=
  Host.dotGeneral dot_S2x2064x1024_S1024x4096_S2x2064x4096_2_0_01_1_n_n none x w
abbrev w1Of (w : FVec Ideal S1024x4096 .f32) : FVec Ideal S8x1024x512 .bf16 :=
  truncf .bf16 (transpose S8x1024x512 [1, 0, 2] (shapeCast S1024x8x512 w shapeCasts_S1024x4096_S1024x8x512) transposes_S1024x8x512_S8x1024x512_1_0_2) bitsLt_bf16_f32
abbrev pHost : FVec Ideal S2x2064x1024 .f32 := m ((c : Thread nD τ).loc main_arg0)
abbrev yHost : FVec Ideal S2x2064x1024 .f32 := affOf (cenOf (pHost m c)) (rsOf (cenOf (pHost m c))) (m ((c : Thread nD τ).loc main_arg1)) (m ((c : Thread nD τ).loc main_arg2))
abbrev hHost : FVec Ideal S2x2064x4096 .f32 := hOf (yHost m c) (m ((c : Thread nD τ).loc main_arg3))

variable {m c} {I : Inp} (h : Args m c I)
include h in
theorem cen_at (b : Fin 2) (i : Fin 2064) (k : Fin 1024) : cenOf (pHost m c) (ix3 b i k) = (cen (I.p b i) k : EReal) := by
  unfold cenOf meanOf
  pointwise
  simp only [h.a0, lit_1024, coe_sum, div_coe _ _ (by norm_num : (1024 : ℝ) ≠ 0), ← EReal.coe_sub, cen, mean, n1024]
theorem rs_at' {w : FVec Ideal S2x2064x1024 .f32} {x : Fin 1024 → ℝ} {b : Fin 2} {i : Fin 2064} (e : ∀ k, w (ix3 b i k) = (cen x k : EReal)) : rsOf w (ix3 b i 0) = (rs x : EReal) := by
  unfold rsOf meanOf
  pointwise
  simp only [e, lit_1024, lit_eps, ← EReal.coe_mul, coe_sum, div_coe _ _ (by norm_num : (1024 : ℝ) ≠ 0), ← EReal.coe_add]
  rw [rsqrt_coe_pos _ (var_eps_pos _ _ (by norm_num))]
  simp only [rs, var, n1024]
include h in
theorem yHost_at (b : Fin 2) (i : Fin 2064) (k : Fin 1024) : yHost m c (ix3 b i k) = (y I b i k : EReal) := by
  have e1 := cen_at h b i
  have e2 := rs_at' e1
  unfold yHost
  generalize rsOf (cenOf (pHost m c)) = w' at e2 ⊢
  generalize cenOf (pHost m c) = w at e1 ⊢
  unfold affOf
  pointwise
  rw [e1, e2, h.a1, h.a2, y, hat]
  simp only [EReal.coe_mul, EReal.coe_add]
include h in
theorem hHost_at (b : Fin 2) (i : Fin 2064) (f : Fin 4096) : hHost m c (ix3 b i f) = (hid I b i f : EReal) := by
  have e := yHost_at h b i
  unfold hHost
  generalize yHost m c = w at e ⊢
  unfold hOf
  pointwise
  simp only [e, h.a3, ← EReal.coe_mul, coe_sum, hid, pre]

theorem V_all :
    V m c main_v27 = truncf .bf16 (shapeCast S4224x4096 (pad S2x2112x4096 ![0, 48, 0] ![0, 0, 0] ![0, 0, 0] (hHost m c) zeroI
        pads_S2x2064x4096_S2x2112x4096_000_4800_000 h_S_) shapeCasts_S2x2112x4096_S4224x4096) bitsLt_bf16_f32
    ∧ V m c main_v30 = w1Of (m ((c : Thread nD τ).loc main_arg3))
    ∧ V m c main_v32 = shapeCast S4224x1024 (pad S2x2112x1024 ![0, 48, 0] ![0, 0, 0] ![0, 0, 0] (m ((c : Thread nD τ).loc main_arg5)) zeroI
        pads_S2x2064x1024_S2x2112x1024_000_4800_000 h_S_) shapeCasts_S2x2112x1024_S4224x1024
    ∧ V m c main_v33 = truncf .bf16 (shapeCast S4224x1024 (pad S2x2112x1024 ![0, 48, 0] ![0, 0, 0] ![0, 0, 0] (m ((c : Thread nD τ).loc main_arg5)) zeroI
        pads_S2x2064x1024_S2x2112x1024_000_4800_000 h_S_) shapeCasts_S2x2112x1024_S4224x1024) bitsLt_bf16_f32
    ∧ V m c main_v34 = (truncf .bf16 (m ((c : Thread nD τ).loc main_arg4) : FVec Ideal S4096x1024 .f32) bitsLt_bf16_f32 : FVec Ideal S4096x1024 .bf16)
    ∧ V m c main_v36 = shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024
    ∧ V m c main_v37 = broadcastInDim S1x1024 ![1] bcast_S1024_S1x1024_1 (m ((c : Thread nD τ).loc main_arg1)) := by
  simp only [V, hostOps0, hostOps0_1, hostOps0_2, hostOps0_3, hostOps0_4, hostOps0_5, hostOps0_6, List.flatten_cons, List.flatten_nil, List.cons_append, List.nil_append, List.append_nil]
  refine ⟨?_, ?_, ?_, ?_, ?_, ?_, ?_⟩ <;> (entry_read; rfl)

include h in
theorem h_at (r : Fin 4224) (f : Fin 4096) : V m c main_v27 (ix2 r f) = (H I r f : EReal) := by
  rw [V_all.1]; exact host_at _ zeroI pads_S2x2064x4096_S2x2112x4096_000_4800_000 h_S_ (zeroI_apply _) shapeCasts_S2x2112x4096_S4224x4096 (hHost_at h) r f
/-- Column `a` of block `q` of the eight. -/
abbrev colg (q : Fin 8) (a : Fin 512) : Fin 4096 := ⟨512 * q.val + a.val, by omega⟩
include h in
theorem w1_at (q : Fin 8) (k : Fin 1024) (a : Fin 512) : V m c main_v30 (ix3 q k a) = (I.w1 k (colg q a) : EReal) := by
  rw [V_all.2.1, ← h.a3]
  generalize m ((c : Thread nD τ).loc main_arg3) = w
  unfold w1Of
  pointwise
  exact congrArg (fun f => w (ix2 k f)) (Fin.ext (by dsimp only; omega))
include h in
theorem ct_at (r : Fin 4224) (k : Fin 1024) : V m c main_v32 (ix2 r k) = (C I r k : EReal) ∧ V m c main_v33 (ix2 r k) = (C I r k : EReal) := by
  rw [V_all.2.2.1, V_all.2.2.2.1]
  have e := host_at _ zeroI pads_S2x2064x1024_S2x2112x1024_000_4800_000 h_S_ (zeroI_apply _) shapeCasts_S2x2112x1024_S4224x1024 h.a5 r k
  exact ⟨e, e⟩
include h in
theorem w2_at (f : Fin 4096) (k : Fin 1024) : V m c main_v34 (ix2 f k) = (I.w2 f k : EReal) := by
  rw [V_all.2.2.2.2.1]; exact h.a4 f k
include h in
theorem p_at (r : Fin 4224) (k : Fin 1024) : V m c main_v36 (ix2 r k) = (P I r k : EReal) := by
  rw [V_all.2.2.2.2.2.1]; exact host_at _ zeroI pads_S2x2064x1024_S2x2112x1024_000_4800_000 h_S_ (zeroI_apply _) shapeCasts_S2x2112x1024_S4224x1024 h.a0 r k
include h in
theorem g_at (k : Fin 1024) : V m c main_v37 (ix2 0 k) = (I.g k : EReal) := by
  rw [V_all.2.2.2.2.2.2, ← h.a1]
  generalize m ((c : Thread nD τ).loc main_arg1) = w
  pointwise

end Cert.Kernel5Ideal.Act
-- ==== Proof.ActPoint.lean ====
module
public import proofs.«01_k».proof.Proof.ActEntry
public import Idealize.ShloMosaic.Lib.Pipeline.ReadBack
@[expose] public section
set_option maxRecDepth 16384
/-! # What one point of the activation's gradient computes -/
noncomputable section
namespace Cert.Kernel5Ideal.Act
open Cert.Kernel5Ideal Cert.Kernel5Ideal.Gen Idealize.ShloMosaic Idealize.ShloMosaic.TcCoe Cert.Real Cert.Rows Cert.Weights Cert.Act
open Cert.KernelIdeal.Head (n1024)
variable (m : (ℓ : Loc nD τ sig) → Buf (Elt Ideal) ℓ) (c : Dev nD)

/-- A grid point's tile of rows and its pair of column blocks. -/
theorem idx : ∀ t : Fin cfg0.N, win0_0.index t = ![t.val / 4, 0] ∧ win0_1.index t = ![t.val / 4, 0] ∧ win0_2.index t = ![t.val / 4, t.val % 4]
    ∧ win0_3.index t = ![t.val % 4, 0, 0] ∧ win0_4.index t = ![t.val % 4, 0] ∧ win0_5.index t = ![t.val / 4, 0] ∧ win0_6.index t = ![0, 0]
    ∧ win0_7.index t = ![t.val / 4, t.val % 4] ∧ win0_8.index t = ![t.val / 4, 0] :=
  (by decide +kernel : ∀ t : Fin grid0.N, _)
theorem tlt (t : Fin cfg0.N) : t.val < 24 := by have := t.isLt; simp only [show cfg0.N = 24 from N_0] at this; exact this
abbrev row (t : Fin cfg0.N) (i : Fin 704) : Fin 4224 := ⟨704 * (t.val / 4) + i.val, by have := tlt t; omega⟩
/-- Column `a` of the pair of column blocks, and of one block of the pair. -/
abbrev pcol (t : Fin cfg0.N) (a : Fin 1024) : Fin 4096 := ⟨1024 * (t.val % 4) + a.val, by omega⟩
abbrev bcol (t : Fin cfg0.N) (s : Fin 2) (a : Fin 512) : Fin 4096 := ⟨1024 * (t.val % 4) + (512 * s.val + a.val), by omega⟩

section
variable (t : Fin cfg0.N) (i : Fin 704)
theorem b0 (k : Fin 1024) : iblk m c 0 t (ix2 i k) = V m c main_v32 (ix2 (row t i) k) := by
  show V m c main_v32 (((cfg0.win 0).blk t).view.emb _) = _; blk_ext [idx t]
theorem b1 (k : Fin 1024) : iblk m c 1 t (ix2 i k) = V m c main_v33 (ix2 (row t i) k) := by
  show V m c main_v33 (((cfg0.win 1).blk t).view.emb _) = _; blk_ext [idx t]
theorem b2 (a : Fin 1024) : iblk m c 2 t (ix2 i a) = V m c main_v27 (ix2 (row t i) (pcol t a)) := by
  show V m c main_v27 (((cfg0.win 2).blk t).view.emb _) = _; blk_ext [idx t]
theorem b3 (s : Fin 2) (k : Fin 1024) (a : Fin 512) : iblk m c 3 t (ix3 s k a) = V m c main_v30 (ix3 (⟨2 * (t.val % 4) + s.val, by omega⟩ : Fin 8) k a) := by
  show V m c main_v30 (((cfg0.win 3).blk t).view.emb _) = _; blk_ext [idx t]
theorem b4 (a k : Fin 1024) : iblk m c 4 t (ix2 a k) = V m c main_v34 (ix2 (pcol t a) k) := by
  show V m c main_v34 (((cfg0.win 4).blk t).view.emb _) = _; blk_ext [idx t]
theorem b5 (k : Fin 1024) : iblk m c 5 t (ix2 i k) = V m c main_v36 (ix2 (row t i) k) := by
  show V m c main_v36 (((cfg0.win 5).blk t).view.emb _) = _; blk_ext [idx t]
theorem b6 (k : Fin 1024) : iblk m c 6 t (ix2 0 k) = V m c main_v37 (ix2 0 k) := by
  show V m c main_v37 (((cfg0.win 6).blk t).view.emb _) = _; blk_ext [idx t]
end

/-! ## Slices -/
/-- A slice of a matrix, at one place. -/
theorem sub2 {α : Type} {N M n k : ℕ} (o p : ℕ) (inb : ∀ d, (![o, p] : Fin 2 → ℕ) d + (![n, k] : Fin 2 → ℕ) d ≤ (⟨2, ![N, M]⟩ : Shape).size d)
    (X : (⟨2, ![N, M]⟩ : Shape).Idx → α) (i : Fin n) (a : Fin k) (hi : o + i.val < N) (ha : p + a.val < M) :
    X ((Rect.unit (s := ⟨2, ![N, M]⟩) ![o, p] ![n, k] inb).idx (ix2 i a)) = X (ix2 (⟨o + i.val, hi⟩ : Fin N) (⟨p + a.val, ha⟩ : Fin M)) := by
  refine congrArg X (funext fun d => Fin.ext ((Rect.idx_unit_val (s := ⟨2, ![N, M]⟩) ![o, p] ![n, k] inb (ix2 i a) d).trans ?_))
  match d with
  | ⟨0, _⟩ => rfl
  | ⟨1, _⟩ => rfl
theorem slice1 (X : FVec Ideal S2x1024x512 .bf16) (k : Fin 1024) (a : Fin 512) :
    X ((Rect.unit (s := S2x1024x512) ![0, 0, 0] ![1, 1024, 512] inb_S2x1024x512_S1x1024x512_0_0_0).idx (ix3 0 k a)) = X (ix3 0 k a)
    ∧ X ((Rect.unit (s := S2x1024x512) ![1, 0, 0] ![1, 1024, 512] inb_S2x1024x512_S1x1024x512_1_0_0).idx (ix3 0 k a)) = X (ix3 1 k a) := by
  constructor <;> pointwise

/-! ## The payloads -/
theorem pay7_at (x : Vec Ideal S704x1024 .bf16) (w : Vec Ideal S512x1024 .bf16) (v : Vec Ideal S704x512 .bf16) (i : Fin 704) (a : Fin 512) :
    k0_pay7 x w v (ix2 i a) = (∑ k, x (ix2 i k) * w (ix2 a k)) * (Ideal.ofBits .f32 0x40000000#32 * max (v (ix2 i a)) 0) := by pointwise [k0_pay7]
theorem pay10_at (x : Vec Ideal S352x1024 .bf16) (w : Vec Ideal S512x1024 .bf16) (v : Vec Ideal S352x512 .bf16) (i : Fin 352) (a : Fin 512) :
    k0_pay10 x w v (ix2 i a) = (∑ k, x (ix2 i k) * w (ix2 a k)) * (Ideal.ofBits .f32 0x40000000#32 * max (v (ix2 i a)) 0) := by pointwise [k0_pay10]
theorem same9 (x : Vec Ideal S704x1024 .bf16) (w : Vec Ideal S512x1024 .bf16) (v : Vec Ideal S704x512 .bf16) : k0_pay4 (k0_pay9 x w v) = k0_pay7 x w v := rfl
theorem same12 (x : Vec Ideal S352x1024 .bf16) (w : Vec Ideal S512x1024 .bf16) (v : Vec Ideal S352x512 .bf16) : k0_pay13 (k0_pay12 x w v) = k0_pay10 x w v := rfl
theorem same16 : k0_pay16 (F := Ideal) = k0_pay10 := rfl
theorem same18 (x : Vec Ideal S352x1024 .bf16) (w : Vec Ideal S512x1024 .bf16) (v : Vec Ideal S352x512 .bf16) : k0_pay18 (k0_pay15 x w) v = k0_pay10 x w v := rfl
/-- A tile's running sum after its two blocks of columns. -/
theorem sum704 (x : Vec Ideal S704x1024 .bf16) (w0 w1 : Vec Ideal S512x1024 .bf16) (z : Vec Ideal S704x1024 .f32) (v0 v1 : Vec Ideal S704x512 .bf16) (u0 u1 : Vec Ideal S1x1024x512 .bf16)
    (i : Fin 704) (k : Fin 1024) : k0_pay5 (k0_pay8 x w0 z v0 u0) (k0_pay9 x w1 v1) u1 (ix2 i k)
      = z (ix2 i k) + ∑ a, k0_pay7 x w0 v0 (ix2 i a) * u0 (ix3 0 k a) + ∑ a, k0_pay7 x w1 v1 (ix2 i a) * u1 (ix3 0 k a) := by
  rw [← same9 x w1 v1]
  unfold k0_pay5 k0_pay8
  generalize k0_pay4 (k0_pay9 x w1 v1) = d1
  generalize k0_pay7 x w0 v0 = d0
  pointwise
/-- The same for one half of a tile. -/
abbrev half (x : Vec Ideal S352x1024 .bf16) (w0 w1 : Vec Ideal S512x1024 .bf16) (z : Vec Ideal S352x1024 .f32) (v0 v1 : Vec Ideal S352x512 .bf16) (u0 u1 : Vec Ideal S1x1024x512 .bf16) :
    FVec Ideal S352x1024 .f32 := k0_pay14 (k0_pay11 x w0 z v0 u0) (k0_pay12 x w1 v1) u1
theorem sum352 (x : Vec Ideal S352x1024 .bf16) (w0 w1 : Vec Ideal S512x1024 .bf16) (z : Vec Ideal S352x1024 .f32) (v0 v1 : Vec Ideal S352x512 .bf16) (u0 u1 : Vec Ideal S1x1024x512 .bf16)
    (i : Fin 352) (k : Fin 1024) : half x w0 w1 z v0 v1 u0 u1 (ix2 i k)
      = z (ix2 i k) + ∑ a, k0_pay10 x w0 v0 (ix2 i a) * u0 (ix3 0 k a) + ∑ a, k0_pay10 x w1 v1 (ix2 i a) * u1 (ix3 0 k a) := by
  rw [← same12 x w1 v1]
  unfold half k0_pay14 k0_pay11
  generalize k0_pay13 (k0_pay12 x w1 v1) = d1
  generalize k0_pay10 x w0 v0 = d0
  pointwise
theorem half2 (x : Vec Ideal S352x1024 .bf16) (w0 w1 : Vec Ideal S512x1024 .bf16) (z : Vec Ideal S352x1024 .f32) (v0 v1 : Vec Ideal S352x512 .bf16) (u0 u1 : Vec Ideal S1x1024x512 .bf16) :
    k0_pay19 (k0_pay15 x w1) z (k0_pay17 x w0 v0 u0) v1 u1 = half x w0 w1 z v0 v1 u0 u1 := rfl

/-! The norm's gradient on one half of a tile. -/
section
variable {p : Vec Ideal S352x1024 .f32} {d : FVec Ideal S352x1024 .f32} {g : Vec Ideal S1x1024 .f32} {X D : Fin 352 → Fin 1024 → ℝ} {G : Fin 1024 → ℝ}
variable (hp : ∀ i k, p (ix2 i k) = (X i k : EReal)) (hd : ∀ i k, d (ix2 i k) = (D i k : EReal)) (hg : ∀ k, g (ix2 0 k) = (G k : EReal))
include hp in
theorem cen352 (i : Fin 352) (k : Fin 1024) : k0_pay21 p (ix2 i k) = (cen (X i) k : EReal) := by
  pointwise [k0_pay21]
  simp only [hp, lit_1024, coe_sum, div_coe _ _ (by norm_num : (1024 : ℝ) ≠ 0), ← EReal.coe_sub, cen, mean, n1024]
include hp in
theorem rs352 (i : Fin 352) : k0_pay22 p (ix2 i 0) = (rs (X i) : EReal) := by
  unfold k0_pay22
  have := cen352 hp i
  generalize k0_pay21 p = w at this ⊢
  pointwise
  simp only [this, lit_1024, lit_eps, ← EReal.coe_mul, coe_sum, div_coe _ _ (by norm_num : (1024 : ℝ) ≠ 0), ← EReal.coe_add]
  rw [rsqrt_coe_pos _ (var_eps_pos _ _ (by norm_num))]
  simp only [rs, var, n1024]
include hp in
theorem hat352 (i : Fin 352) (k : Fin 1024) : k0_pay23 p (ix2 i k) = (hat (X i) k : EReal) := by
  unfold k0_pay23
  have e1 := cen352 hp i k
  have e2 := rs352 hp i
  generalize k0_pay21 p = w at e1 ⊢
  generalize k0_pay22 p = w' at e2 ⊢
  pointwise
  rw [e1, e2, ← EReal.coe_mul, hat]
include hp hd hg in
theorem dp352 (i : Fin 352) (k : Fin 1024) : k0_pay26 d (k0_pay22 p) (k0_pay23 p) g (ix2 i k) = (lnBwd (X i) (fun j => D i j * G j) k : EReal) := by
  have e1 := rs352 hp i
  have e2 := hat352 hp i
  generalize k0_pay23 p = w at e2 ⊢
  generalize k0_pay22 p = w' at e1 ⊢
  pointwise [k0_pay26]
  simp only [e1, e2, hd, hg, lit_1024, ← EReal.coe_mul, coe_sum, div_coe _ _ (by norm_num : (1024 : ℝ) ≠ 0), ← EReal.coe_sub, lnBwd, mean, n1024]
include hp hd in
theorem dg352 (z : Vec Ideal S1x1024 .f32) (k : Fin 1024) : k0_pay24 d (k0_pay23 p) z (ix2 0 k) = z (ix2 0 k) + ((∑ i, D i k * hat (X i) k : ℝ) : EReal) := by
  have e2 := fun i => hat352 hp i k
  generalize k0_pay23 p = w at e2 ⊢
  pointwise [k0_pay24]
  simp only [e2, hd, ← EReal.coe_mul, coe_sum]
include hd in
theorem db352 (z : Vec Ideal S1x1024 .f32) (k : Fin 1024) : k0_pay25 d z (ix2 0 k) = z (ix2 0 k) + ((∑ i, D i k : ℝ) : EReal) := by
  pointwise [k0_pay25]
  simp only [hd, coe_sum]
end
theorem ds352 (z : FVec Ideal S352x1024 .f32) (x : Vec Ideal S352x1024 .f32) (i : Fin 352) (k : Fin 1024) :
    k0_pay20 z x (ix2 i k) = (alpha : EReal) * x (ix2 i k) + z (ix2 i k) := by
  pointwise [k0_pay20]
  rw [lit_alpha]
section
variable (z : FVec Ideal S352x1024 .f32) (x p : Vec Ideal S352x1024 .f32) (g : Vec Ideal S1x1024 .f32)
/-- The second half is computed as the first. -/
theorem again_dp : k0_pay6 (k0_pay31 p) (k0_pay32 p) (k0_pay35 z (k0_pay27 x) k0_pay28 g) (k0_pay36 z (k0_pay27 x) k0_pay28 g) = k0_pay26 (k0_pay20 z x) (k0_pay22 p) (k0_pay23 p) g := rfl
theorem again_dg : k0_pay33 z (k0_pay27 x) k0_pay28 p g = k0_pay24 (k0_pay20 z x) (k0_pay23 p) g := rfl
theorem again_db : k0_pay34 z (k0_pay27 x) k0_pay28 g = k0_pay25 (k0_pay20 z x) g := rfl
end
end Cert.Kernel5Ideal.Act
-- ==== Proof.ActKernel.lean ====
module
public import proofs.«01_k».proof.Proof.ActPoint
@[expose] public section
set_option maxRecDepth 16384
set_option maxHeartbeats 400000
/-! # What the activation's gradient computes -/
noncomputable section
namespace Cert.Kernel5Ideal.Act
open Cert.Kernel5Ideal Cert.Kernel5Ideal.Gen Idealize.ShloMosaic Idealize.ShloMosaic.TcCoe Cert.Real Cert.Rows Cert.Weights Cert.Act
open Cert.KernelIdeal.Head (n1024 idx1 idx2)
variable {m : (ℓ : Loc nD τ sig) → Buf (Elt Ideal) ℓ} {c : Dev nD} {I : Inp} (h : Args m c I)

/-- A slice of a matrix, at the place that it comes from. -/
theorem from2 {α : Type} {N M n k : ℕ} {o p : ℕ} {inb : ∀ d, (![o, p] : Fin 2 → ℕ) d + (![n, k] : Fin 2 → ℕ) d ≤ (⟨2, ![N, M]⟩ : Shape).size d}
    (X : (⟨2, ![N, M]⟩ : Shape).Idx → α) {i : Fin n} {a : Fin k} (i' : Fin N) (a' : Fin M) (hi : i'.val = o + i.val) (ha : a'.val = p + a.val) :
    X ((Rect.unit (s := ⟨2, ![N, M]⟩) ![o, p] ![n, k] inb).idx (ix2 i a)) = X (ix2 i' a') := by
  obtain ⟨i', hi'⟩ := i'
  obtain ⟨a', ha'⟩ := a'
  dsimp only at hi ha
  subst hi ha
  exact sub2 o p inb X i a hi' ha'
/-- A tile of a matrix, at an element that lies in it. -/
theorem tile2 {N M n k : ℕ} {T : Fin N → Fin M → EReal} {i : Fin N} {a : Fin M} (o p : ℕ) {w : (⟨2, ![n, k]⟩ : Shape).Idx → EReal}
    (hw : ∀ (i' : Fin n) (a' : Fin k) (hi : o + i'.val < N) (ha : p + a'.val < M), w (ix2 i' a') = T ⟨o + i'.val, hi⟩ ⟨p + a'.val, ha⟩)
    (x : (⟨2, ![n, k]⟩ : Shape).Idx) (h0 : i.val = o + (x 0).val) (h1 : a.val = p + (x 1).val) : w x = T i a := by
  obtain ⟨i', a', rfl⟩ : ∃ (i' : Fin n) (a' : Fin k), x = ix2 i' a' := ⟨x 0, x 1, by funext d; match d with | ⟨0, _⟩ => rfl | ⟨1, _⟩ => rfl⟩
  obtain ⟨i, hi⟩ := i
  obtain ⟨a, ha⟩ := a
  change i = o + i'.val at h0
  change a = p + a'.val at h1
  subst h0 h1
  exact hw i' a' hi ha

/-! ## The gradient of the layer before its activation -/
abbrev pairAt (s : Fin 2) (a : Fin 512) : Fin 1024 := ⟨512 * s.val + a.val, by omega⟩
include h in
theorem gate (t : Fin cfg0.N) (s : Fin 2) (r : Fin 704) (a : Fin 512) {x w : Fin 1024 → EReal} {v : EReal} (hx : ∀ k, x k = iblk m c 1 t (ix2 r k))
    (hw : ∀ k, w k = iblk m c 4 t (ix2 (pairAt s a) k)) (hv : v = iblk m c 2 t (ix2 r (pairAt s a))) :
    (∑ k, x k * w k) * (Ideal.ofBits .f32 0x40000000#32 * max v 0) = (dhR I (row t r) (bcol t s a) : EReal) := by
  have ew (k : Fin 1024) : w k = (I.w2 (bcol t s a) k : EReal) := by rw [hw, b4, w2_at h]
  have ex (k : Fin 1024) : x k = (C I (row t r) k : EReal) := by rw [hx, b1, (ct_at h _ _).2]
  have ev : v = (H I (row t r) (bcol t s a) : EReal) := by rw [hv, b2, h_at h]
  simp only [ew, ex, ev, lit_two, coe_max0, ← EReal.coe_mul, coe_sum, dhR_eq]
include h in
theorem dh704 (t : Fin cfg0.N) (s : Fin 2) {x : Vec Ideal S704x1024 .bf16} {w : Vec Ideal S512x1024 .bf16} {v : Vec Ideal S704x512 .bf16}
    (hx : ∀ i k, x (ix2 i k) = iblk m c 1 t (ix2 i k)) (hw : ∀ a k, w (ix2 a k) = iblk m c 4 t (ix2 (pairAt s a) k))
    (hv : ∀ i a, v (ix2 i a) = iblk m c 2 t (ix2 i (pairAt s a))) (i : Fin 704) (a : Fin 512) : k0_pay7 x w v (ix2 i a) = (dhR I (row t i) (bcol t s a) : EReal) :=
  (pay7_at x w v i a).trans (gate h t s i a (hx i) (hw a) (hv i a))
include h in
theorem dh352 (t : Fin cfg0.N) (s : Fin 2) (ρ : Fin 352 → Fin 704) {x : Vec Ideal S352x1024 .bf16} {w : Vec Ideal S512x1024 .bf16} {v : Vec Ideal S352x512 .bf16}
    (hx : ∀ i k, x (ix2 i k) = iblk m c 1 t (ix2 (ρ i) k)) (hw : ∀ a k, w (ix2 a k) = iblk m c 4 t (ix2 (pairAt s a) k))
    (hv : ∀ i a, v (ix2 i a) = iblk m c 2 t (ix2 (ρ i) (pairAt s a))) (i : Fin 352) (a : Fin 512) : k0_pay10 x w v (ix2 i a) = (dhR I (row t (ρ i)) (bcol t s a) : EReal) :=
  (pay10_at x w v i a).trans (gate h t s (ρ i) a (hx i) (hw a) (hv i a))

/-! ## The running sum of its product with the first weight -/
section
variable (I)
abbrev term (r : Fin 4224) (k : Fin 1024) (f : Fin 4096) : ℝ := dhR I r f * I.w1 k f
/-- The sum over the first pairs of column blocks. -/
def acc (q : ℕ) (r : Fin 4224) (k : Fin 1024) : EReal := ((upTo (term I r k) (1024 * q) : ℝ) : EReal)
theorem acc_zero (r : Fin 4224) (k : Fin 1024) : acc I 0 r k = 0 := by simp [acc, upTo_zero]
theorem acc_all (r : Fin 4224) (k : Fin 1024) : acc I 4 r k = ((∑ f, dhR I r f * I.w1 k f : ℝ) : EReal) := by
  rw [acc, show 1024 * 4 = 4096 from rfl, upTo_all]
end
include h in
theorem grow (t : Fin cfg0.N) (r : Fin 4224) (k : Fin 1024) {d0 d1 u0 u1 : Fin 512 → EReal} (e0 : ∀ a, d0 a = (dhR I r (bcol t 0 a) : EReal)) (e1 : ∀ a, d1 a = (dhR I r (bcol t 1 a) : EReal))
    (f0 : ∀ a, u0 a = iblk m c 3 t (ix3 0 k a)) (f1 : ∀ a, u1 a = iblk m c 3 t (ix3 1 k a)) :
    acc I (t.val % 4) r k + ∑ a, d0 a * u0 a + ∑ a, d1 a * u1 a = acc I (t.val % 4 + 1) r k := by
  have ef (s : Fin 2) (a : Fin 512) : colg (⟨2 * (t.val % 4) + s.val, by omega⟩ : Fin 8) a = bcol t s a := Fin.ext (by dsimp only; omega)
  have g0 (a : Fin 512) : u0 a = (I.w1 k (bcol t 0 a) : EReal) := by rw [f0, b3, w1_at h, ef]
  have g1 (a : Fin 512) : u1 a = (I.w1 k (bcol t 1 a) : EReal) := by rw [f1, b3, w1_at h, ef]
  simp only [e0, e1, g0, g1, acc, ← EReal.coe_mul, coe_sum, ← EReal.coe_add, EReal.coe_eq_coe_iff]
  have A := upTo_add (term I r k) (1024 * (t.val % 4)) 512 (by omega)
  have B := upTo_add (term I r k) (1024 * (t.val % 4) + 512) 512 (by omega)
  rw [show 1024 * (t.val % 4 + 1) = 1024 * (t.val % 4) + 512 + 512 by omega, ← B, ← A]
  refine congrArg₂ (· + ·) (congrArg₂ (· + ·) rfl ?_) ?_
  · exact Finset.sum_congr rfl fun a _ => congrArg (term I r k) (Fin.ext (by show 1024 * (t.val % 4) + (512 * 0 + a.val) = 1024 * (t.val % 4) + a.val; omega))
  · exact Finset.sum_congr rfl fun a _ => congrArg (term I r k) (Fin.ext (by show 1024 * (t.val % 4) + (512 * 1 + a.val) = 1024 * (t.val % 4) + 512 + a.val; omega))

theorem lowCol (a : Fin 512) : (pairAt 0 a).val = 0 + a.val := rfl
theorem highCol (a : Fin 512) : (pairAt 1 a).val = 512 + a.val := rfl
/-- The tiles of a point, as it reads them. -/
abbrev w0 (X : Vec Ideal S1024x1024 .bf16) : Vec Ideal S512x1024 .bf16 := View.ld X (Rect.unit ![0, 0] ![512, 1024] inb_S1024x1024_S512x1024_0_0)
abbrev w1 (X : Vec Ideal S1024x1024 .bf16) : Vec Ideal S512x1024 .bf16 := View.ld X (Rect.unit ![512, 0] ![512, 1024] inb_S1024x1024_S512x1024_512_0)
abbrev u0 (X : Vec Ideal S2x1024x512 .bf16) : Vec Ideal S1x1024x512 .bf16 := View.ld X (Rect.unit ![0, 0, 0] ![1, 1024, 512] inb_S2x1024x512_S1x1024x512_0_0_0)
abbrev u1 (X : Vec Ideal S2x1024x512 .bf16) : Vec Ideal S1x1024x512 .bf16 := View.ld X (Rect.unit ![1, 0, 0] ![1, 1024, 512] inb_S2x1024x512_S1x1024x512_1_0_0)
theorem w0_at (X : Vec Ideal S1024x1024 .bf16) (a : Fin 512) (k : Fin 1024) : w0 X (ix2 a k) = X (ix2 (pairAt 0 a) k) := from2 X _ _ (lowCol a) (Nat.zero_add _).symm
theorem w1'_at (X : Vec Ideal S1024x1024 .bf16) (a : Fin 512) (k : Fin 1024) : w1 X (ix2 a k) = X (ix2 (pairAt 1 a) k) := from2 X _ _ (highCol a) (Nat.zero_add _).symm
abbrev v0 (X : Vec Ideal S704x1024 .bf16) : Vec Ideal S704x512 .bf16 := View.ld X (Rect.unit ![0, 0] ![704, 512] inb_S704x1024_S704x512_0_0)
abbrev v1 (X : Vec Ideal S704x1024 .bf16) : Vec Ideal S704x512 .bf16 := View.ld X (Rect.unit ![0, 512] ![704, 512] inb_S704x1024_S704x512_0_512)
theorem v0_at (X : Vec Ideal S704x1024 .bf16) (i : Fin 704) (a : Fin 512) : v0 X (ix2 i a) = X (ix2 i (pairAt 0 a)) := from2 X _ _ (Nat.zero_add _).symm (lowCol a)
theorem v1_at (X : Vec Ideal S704x1024 .bf16) (i : Fin 704) (a : Fin 512) : v1 X (ix2 i a) = X (ix2 i (pairAt 1 a)) := from2 X _ _ (Nat.zero_add _).symm (highCol a)
include h in
/-- The running sum of a whole tile. -/
theorem step704 (t : Fin cfg0.N) {z : Vec Ideal S704x1024 .f32} (hz : ∀ i k, z (ix2 i k) = acc I (t.val % 4) (row t i) k) (i : Fin 704) (k : Fin 1024) :
    k0_pay5 (k0_pay8 (iblk m c 1 t) (w0 (iblk m c 4 t)) z (v0 (iblk m c 2 t)) (u0 (iblk m c 3 t))) (k0_pay9 (iblk m c 1 t) (w1 (iblk m c 4 t)) (v1 (iblk m c 2 t))) (u1 (iblk m c 3 t)) (ix2 i k)
      = acc I (t.val % 4 + 1) (row t i) k := by
  rw [sum704, hz]
  exact grow h t (row t i) k (dh704 h t 0 (fun _ _ => rfl) (w0_at _) (v0_at _) i) (dh704 h t 1 (fun _ _ => rfl) (w1'_at _) (v1_at _) i)
    (fun a => (slice1 _ k a).1) (fun a => (slice1 _ k a).2)

/-! ## One half of a tile, at the last pair of column blocks -/
abbrev top (i : Fin 352) : Fin 704 := ⟨0 + i.val, by omega⟩
abbrev bot (i : Fin 352) : Fin 704 := ⟨352 + i.val, by omega⟩
abbrev topB (X : Vec Ideal S704x1024 .bf16) : Vec Ideal S352x1024 .bf16 := View.ld X (Rect.unit ![0, 0] ![352, 1024] inb_S704x1024_S352x1024_0_0)
abbrev botB (X : Vec Ideal S704x1024 .bf16) : Vec Ideal S352x1024 .bf16 := View.ld X (Rect.unit ![352, 0] ![352, 1024] inb_S704x1024_S352x1024_352_0)
abbrev topF (X : Vec Ideal S704x1024 .f32) : Vec Ideal S352x1024 .f32 := View.ld X (Rect.unit ![0, 0] ![352, 1024] inb_S704x1024_S352x1024_0_0)
abbrev botF (X : Vec Ideal S704x1024 .f32) : Vec Ideal S352x1024 .f32 := View.ld X (Rect.unit ![352, 0] ![352, 1024] inb_S704x1024_S352x1024_352_0)
theorem topB_at (X : Vec Ideal S704x1024 .bf16) (i : Fin 352) (k : Fin 1024) : topB X (ix2 i k) = X (ix2 (top i) k) := from2 X _ _ rfl (Nat.zero_add _).symm
theorem botB_at (X : Vec Ideal S704x1024 .bf16) (i : Fin 352) (k : Fin 1024) : botB X (ix2 i k) = X (ix2 (bot i) k) := from2 X _ _ rfl (Nat.zero_add _).symm
theorem topF_at (X : Vec Ideal S704x1024 .f32) (i : Fin 352) (k : Fin 1024) : topF X (ix2 i k) = X (ix2 (top i) k) := from2 X _ _ rfl (Nat.zero_add _).symm
theorem botF_at (X : Vec Ideal S704x1024 .f32) (i : Fin 352) (k : Fin 1024) : botF X (ix2 i k) = X (ix2 (bot i) k) := from2 X _ _ rfl (Nat.zero_add _).symm
abbrev top0 (X : Vec Ideal S704x1024 .bf16) : Vec Ideal S352x512 .bf16 := View.ld X (Rect.unit ![0, 0] ![352, 512] inb_S704x1024_S352x512_0_0)
abbrev top1 (X : Vec Ideal S704x1024 .bf16) : Vec Ideal S352x512 .bf16 := View.ld X (Rect.unit ![0, 512] ![352, 512] inb_S704x1024_S352x512_0_512)
abbrev bot0 (X : Vec Ideal S704x1024 .bf16) : Vec Ideal S352x512 .bf16 := View.ld X (Rect.unit ![352, 0] ![352, 512] inb_S704x1024_S352x512_352_0)
abbrev bot1 (X : Vec Ideal S704x1024 .bf16) : Vec Ideal S352x512 .bf16 := View.ld X (Rect.unit ![352, 512] ![352, 512] inb_S704x1024_S352x512_352_512)
theorem top0_at (X : Vec Ideal S704x1024 .bf16) (i : Fin 352) (a : Fin 512) : top0 X (ix2 i a) = X (ix2 (top i) (pairAt 0 a)) := from2 X _ _ rfl (lowCol a)
theorem top1_at (X : Vec Ideal S704x1024 .bf16) (i : Fin 352) (a : Fin 512) : top1 X (ix2 i a) = X (ix2 (top i) (pairAt 1 a)) := from2 X _ _ rfl (highCol a)
theorem bot0_at (X : Vec Ideal S704x1024 .bf16) (i : Fin 352) (a : Fin 512) : bot0 X (ix2 i a) = X (ix2 (bot i) (pairAt 0 a)) := from2 X _ _ rfl (lowCol a)
theorem bot1_at (X : Vec Ideal S704x1024 .bf16) (i : Fin 352) (a : Fin 512) : bot1 X (ix2 i a) = X (ix2 (bot i) (pairAt 1 a)) := from2 X _ _ rfl (highCol a)

variable (m c) in
/-- The gradient of the normalised rows, in both halves. -/
abbrev dsTop (t : Fin cfg0.N) (z : Vec Ideal S704x1024 .f32) : FVec Ideal S352x1024 .f32 :=
  k0_pay20 (half (topB (iblk m c 1 t)) (w0 (iblk m c 4 t)) (w1 (iblk m c 4 t)) (topF z) (top0 (iblk m c 2 t)) (top1 (iblk m c 2 t)) (u0 (iblk m c 3 t)) (u1 (iblk m c 3 t))) (topF (iblk m c 0 t))
variable (m c) in
abbrev dsBot (t : Fin cfg0.N) (z : Vec Ideal S704x1024 .f32) : FVec Ideal S352x1024 .f32 :=
  k0_pay20 (half (botB (iblk m c 1 t)) (w0 (iblk m c 4 t)) (w1 (iblk m c 4 t)) (botF z) (bot0 (iblk m c 2 t)) (bot1 (iblk m c 2 t)) (u0 (iblk m c 3 t)) (u1 (iblk m c 3 t))) (botF (iblk m c 0 t))
include h in
theorem dsHalf (t : Fin cfg0.N) (h3 : t.val % 4 = 3) {r : Fin 704} {k : Fin 1024} {zz xc : EReal} {d0 d1 : Fin 512 → EReal} {U0 U1 : Fin 512 → EReal} (hz : zz = acc I (t.val % 4) (row t r) k)
    (hc : xc = iblk m c 0 t (ix2 r k)) (e0 : ∀ a, d0 a = (dhR I (row t r) (bcol t 0 a) : EReal)) (e1 : ∀ a, d1 a = (dhR I (row t r) (bcol t 1 a) : EReal))
    (f0 : ∀ a, U0 a = iblk m c 3 t (ix3 0 k a)) (f1 : ∀ a, U1 a = iblk m c 3 t (ix3 1 k a)) :
    (alpha : EReal) * xc + (zz + ∑ a, d0 a * U0 a + ∑ a, d1 a * U1 a) = (dsR I (row t r) k : EReal) := by
  rw [hz, grow h t _ k e0 e1 f0 f1, h3, acc_all, hc, b0, (ct_at h _ _).1, ← EReal.coe_mul, ← EReal.coe_add, dsR_eq]
include h in
theorem dsTop_at (t : Fin cfg0.N) (h3 : t.val % 4 = 3) {z : Vec Ideal S704x1024 .f32} (hz : ∀ i k, z (ix2 i k) = acc I (t.val % 4) (row t i) k) (i : Fin 352) (k : Fin 1024) :
    dsTop m c t z (ix2 i k) = (dsR I (row t (top i)) k : EReal) := by
  refine (ds352 _ _ i k).trans ?_
  rw [sum352]
  exact dsHalf h t h3 ((topF_at z i k).trans (hz _ k)) (topF_at _ i k) (dh352 h t 0 top (topB_at _) (w0_at _) (top0_at _) i) (dh352 h t 1 top (topB_at _) (w1'_at _) (top1_at _) i)
    (fun a => (slice1 _ k a).1) (fun a => (slice1 _ k a).2)
include h in
theorem dsBot_at (t : Fin cfg0.N) (h3 : t.val % 4 = 3) {z : Vec Ideal S704x1024 .f32} (hz : ∀ i k, z (ix2 i k) = acc I (t.val % 4) (row t i) k) (i : Fin 352) (k : Fin 1024) :
    dsBot m c t z (ix2 i k) = (dsR I (row t (bot i)) k : EReal) := by
  refine (ds352 _ _ i k).trans ?_
  rw [sum352]
  exact dsHalf h t h3 ((botF_at z i k).trans (hz _ k)) (botF_at _ i k) (dh352 h t 0 bot (botB_at _) (w0_at _) (bot0_at _) i) (dh352 h t 1 bot (botB_at _) (w1'_at _) (bot1_at _) i)
    (fun a => (slice1 _ k a).1) (fun a => (slice1 _ k a).2)
include h in
theorem pTop_at (t : Fin cfg0.N) (i : Fin 352) (k : Fin 1024) : topF (iblk m c 5 t) (ix2 i k) = (P I (row t (top i)) k : EReal) := by rw [topF_at, b5, p_at h]
include h in
theorem pBot_at (t : Fin cfg0.N) (i : Fin 352) (k : Fin 1024) : botF (iblk m c 5 t) (ix2 i k) = (P I (row t (bot i)) k : EReal) := by rw [botF_at, b5, p_at h]
include h in
theorem scale_at (t : Fin cfg0.N) (k : Fin 1024) : iblk m c 6 t (ix2 0 k) = (I.g k : EReal) := by rw [b6, g_at h]

/-! ## What is carried from point to point -/
theorem zero2 : ∀ a : Fin S704x1024.rank, (![0, 0] : Fin 2 → ℕ) a = 0 := by decide
theorem zero2' : ∀ a : Fin S1x1024.rank, (![0, 0] : Fin 2 → ℕ) a = 0 := by decide
variable (m c I) in
abbrev sumAfter (t : Fin cfg0.N) : Prop := ∀ i k, (outsAt0 m c t.val t.isLt).2.2.2.2 (ix2 i k) = acc I (t.val % 4 + 1) (row t i) k
include h in
theorem sum_start (t : Fin cfg0.N) (h0 : t.val % 4 = 0) : sumAfter m c I t := by
  intro i k
  have z : ∀ i k, (k0_pay3 (F := Ideal)) (ix2 i k) = acc I (t.val % 4) (row t i) k := fun i k => by rw [h0, acc_zero]; pointwise [k0_pay3]
  by_cases h24 : t.val % 24 = 0
  on_goal 1 => rw [outsAt0_A m c t h24 h0 (by omega) (by omega)]
  on_goal 2 => rw [outsAt0_D m c t h24 h0 (by omega) (by omega)]
  all_goals
    frame_out
    exact step704 h t z i k
include h in
theorem sum_next (t : Fin cfg0.N) (h0 : ¬ t.val % 4 = 0) (h3 : ¬ t.val % 4 = 3)
    (z : ∀ i k, (outsAt0 m c (t.val - 1) (by have := t.isLt; omega)).2.2.2.2 (ix2 i k) = acc I (t.val % 4) (row t i) k) : sumAfter m c I t := by
  intro i k
  rw [outsAt0_B m c t (by omega) h0 (by omega) h3]
  frame_out
  simp (disch := decide) only [↓View.readCov_skip, read_unread_whole]
  exact step704 h t z i k
include h in
theorem sum_carried : ∀ (n : ℕ) (hn : n < cfg0.N), ¬ n % 4 = 3 → sumAfter m c I ⟨n, hn⟩ := by
  intro n
  induction n with
  | zero => intro hn _; exact sum_start h ⟨0, hn⟩ rfl
  | succ n ih =>
    intro hn h3
    by_cases h0 : (n + 1) % 4 = 0
    · exact sum_start h ⟨n + 1, hn⟩ h0
    · refine sum_next h ⟨n + 1, hn⟩ h0 h3 fun i k => (ih (by omega) (by omega) i k).trans ?_
      have e1 : n % 4 + 1 = (n + 1) % 4 := by omega
      have e2 : row (⟨n, by omega⟩ : Fin cfg0.N) i = row (⟨n + 1, hn⟩ : Fin cfg0.N) i := Fin.ext (by show 704 * (n / 4) + i.val = 704 * ((n + 1) / 4) + i.val; omega)
      show acc I (n % 4 + 1) _ k = acc I ((n + 1) % 4) _ k
      rw [e1, e2]
include h in
/-- The running sum that the last pair of column blocks finds. -/
theorem before (t : Fin cfg0.N) (h3 : t.val % 4 = 3) (i : Fin 704) (k : Fin 1024) :
    (outsAt0 m c (t.val - 1) (by have := t.isLt; omega)).2.2.2.2 (ix2 i k) = acc I (t.val % 4) (row t i) k := by
  refine (sum_carried h (t.val - 1) (by have := t.isLt; omega) (by omega) i k).trans ?_
  have e2 : row (⟨t.val - 1, by have := t.isLt; omega⟩ : Fin cfg0.N) i = row t i := Fin.ext (by show 704 * ((t.val - 1) / 4) + i.val = 704 * (t.val / 4) + i.val; omega)
  show acc I ((t.val - 1) % 4 + 1) _ k = _
  rw [e2, show (t.val - 1) % 4 + 1 = t.val % 4 by omega]

/-! ## What a point stores -/
include h in
theorem stored7 (t : Fin cfg0.N) (i : Fin 704) (a : Fin 1024) : (outsAt0 m c t.val t.isLt).1 (ix2 i a) = (dhR I (row t i) (pcol t a) : EReal) := by
  have z (i : Fin 704) (hi : 0 + i.val < 704) : (⟨0 + i.val, hi⟩ : Fin 704) = i := Fin.ext (Nat.zero_add _)
  have Q (p : ℕ) {w : FVec Ideal S704x512 .bf16} := tile2 (T := fun i a => (dhR I (row t i) (pcol t a) : EReal)) (i := i) (a := a) 0 p (w := w)
  have Q' (o p : ℕ) {w : FVec Ideal S352x512 .bf16} := tile2 (T := fun i a => (dhR I (row t i) (pcol t a) : EReal)) (i := i) (a := a) o p (w := w)
  by_cases h3 : t.val % 4 = 3
  · rw [outsAt0_C m c t (by omega) (by omega) (by omega) h3]
    frame_out
    canon_tiles x h

    case piece0 =>
      refine Q' 352 512 (fun i' a' hi ha => ?_) x h0 h1
      rw [same18]
      exact dh352 h t 1 bot (botB_at _) (w1'_at _) (bot1_at _) i' a'
    case piece1 =>
      refine Q' 352 0 (fun i' a' hi ha => ?_) x h0 (h1.trans (Nat.zero_add _).symm)
      rw [same16]
      exact dh352 h t 0 bot (botB_at _) (w0_at _) (bot0_at _) i' a'
    case piece2 =>
      refine Q' 0 512 (fun i' a' hi ha => ?_) x (h0.trans (Nat.zero_add _).symm) h1
      rw [same12]
      exact dh352 h t 1 top (topB_at _) (w1'_at _) (top1_at _) i' a'
    case piece3 =>
      refine Q' 0 0 (fun i' a' hi ha => ?_) x (h0.trans (Nat.zero_add _).symm) (h1.trans (Nat.zero_add _).symm)
      exact dh352 h t 0 top (topB_at _) (w0_at _) (top0_at _) i' a'
  · by_cases h24 : t.val % 24 = 0
    on_goal 1 => rw [outsAt0_A m c t h24 (by omega) (by omega) (by omega)]
    on_goal 2 =>
      by_cases h0 : t.val % 4 = 0
      on_goal 1 => rw [outsAt0_D m c t h24 h0 (by omega) (by omega)]
      on_goal 2 => rw [outsAt0_B m c t h24 h0 (by omega) h3]
    all_goals
      frame_out
      canon_tiles x h
      case piece0 =>
        refine Q 512 (fun i' a' hi ha => ?_) x (h0.trans (Nat.zero_add _).symm) h1
        rw [same9, z]
        exact dh704 h t 1 (fun _ _ => rfl) (w1'_at _) (v1_at _) i' a'
      case piece1 =>
        refine Q 0 (fun i' a' hi ha => ?_) x (h0.trans (Nat.zero_add _).symm) (h1.trans (Nat.zero_add _).symm)
        rw [z]
        exact dh704 h t 0 (fun _ _ => rfl) (w0_at _) (v0_at _) i' a'

include h in
/-- The gradient of the rows themselves, stored at the last pair of column blocks. -/
theorem stored8 (t : Fin cfg0.N) (h3 : t.val % 4 = 3) (i : Fin 704) (k : Fin 1024) :
    (outsAt0 m c t.val t.isLt).2.1 (ix2 i k) = (onRows (fun b j => dp I b j k) (row t i) : EReal) := by
  rw [← dp_eq]
  have Q (o : ℕ) {w : FVec Ideal S352x1024 .f32} := tile2 (T := fun i k => (lnBwd (P I (row t i)) (fun j => dsR I (row t i) j * I.g j) k : EReal)) (i := i) (a := k) o 0 (w := w)
  have z (k : Fin 1024) (hk : 0 + k.val < 1024) : (⟨0 + k.val, hk⟩ : Fin 1024) = k := Fin.ext (Nat.zero_add _)
  have hz := before h t h3
  rw [outsAt0_C m c t (by omega) (by omega) (by omega) h3]
  generalize (outsAt0 m c (t.val - 1) _) = prev at hz ⊢
  frame_out
  simp (disch := decide) only [↓View.readCov_skip, read_unread_whole]
  canon_tiles x h
  case piece0 =>
    refine Q 352 (fun i' a' hi ha => ?_) x h0 (h1.trans (Nat.zero_add _).symm)
    rw [half2, again_dp, z]
    exact dp352 (D := fun i k => dsR I (row t (bot i)) k) (X := fun i => P I (row t (bot i))) (pBot_at h t) (dsBot_at h t h3 hz) (scale_at h t) i' a'
  case piece1 =>
    refine Q 0 (fun i' a' hi ha => ?_) x (h0.trans (Nat.zero_add _).symm) (h1.trans (Nat.zero_add _).symm)
    rw [z]
    exact dp352 (D := fun i k => dsR I (row t (top i)) k) (X := fun i => P I (row t (top i))) (pTop_at h t) (dsTop_at h t h3 hz) (scale_at h t) i' a'

/-! ## The gradients of the scale and of the bias -/
section
variable (I)
abbrev gTerm (k : Fin 1024) (r : Fin 4224) : ℝ := dsR I r k * hat (P I r) k
abbrev bTerm (k : Fin 1024) (r : Fin 4224) : ℝ := dsR I r k
end
variable (m c I) in
abbrev sumsAfter (t : Fin cfg0.N) : Prop := ∀ k,
  (outsAt0 m c t.val t.isLt).2.2.1 (ix2 0 k) = ((upTo (gTerm I k) (704 * ((t.val + 1) / 4)) : ℝ) : EReal)
  ∧ (outsAt0 m c t.val t.isLt).2.2.2.1 (ix2 0 k) = ((upTo (bTerm I k) (704 * ((t.val + 1) / 4)) : ℝ) : EReal)
/-- A sum over the first rows, continued over the two halves of the next tile. -/
theorem halves (t : Fin cfg0.N) (f : Fin 4224 → ℝ) : ((upTo f (704 * (t.val / 4)) : ℝ) : EReal) + ((∑ i, f (row t (top i)) : ℝ) : EReal) + ((∑ i, f (row t (bot i)) : ℝ) : EReal)
    = ((upTo f (704 * (t.val / 4) + 704) : ℝ) : EReal) := by
  have A := upTo_add f (704 * (t.val / 4)) 352 (by have := tlt t; omega)
  have B := upTo_add f (704 * (t.val / 4) + 352) 352 (by have := tlt t; omega)
  rw [← EReal.coe_add, ← EReal.coe_add]
  refine congrArg _ ?_
  rw [show 704 * (t.val / 4) + 704 = 704 * (t.val / 4) + 352 + 352 by omega, ← B, ← A]
  refine congrArg₂ (· + ·) (congrArg₂ (· + ·) rfl ?_) ?_
  · exact Finset.sum_congr rfl fun a _ => congrArg f (Fin.ext (by show 704 * (t.val / 4) + (0 + a.val) = 704 * (t.val / 4) + a.val; omega))
  · exact Finset.sum_congr rfl fun a _ => congrArg f (Fin.ext (by show 704 * (t.val / 4) + (352 + a.val) = 704 * (t.val / 4) + 352 + a.val; omega))
include h in
theorem sums_last (t : Fin cfg0.N) (h3 : t.val % 4 = 3)
    (p : ∀ k, (outsAt0 m c (t.val - 1) (by have := t.isLt; omega)).2.2.1 (ix2 0 k) = ((upTo (gTerm I k) (704 * (t.val / 4)) : ℝ) : EReal)
      ∧ (outsAt0 m c (t.val - 1) (by have := t.isLt; omega)).2.2.2.1 (ix2 0 k) = ((upTo (bTerm I k) (704 * (t.val / 4)) : ℝ) : EReal)) : sumsAfter m c I t := by
  intro k
  have hz := before h t h3
  rw [outsAt0_C m c t (by omega) (by omega) (by omega) h3, show 704 * ((t.val + 1) / 4) = 704 * (t.val / 4) + 704 by omega]
  generalize (outsAt0 m c (t.val - 1) _) = prev at hz p ⊢
  constructor
  · frame_out
    simp (disch := decide) only [↓View.readCov_skip, read_unread_whole]
    rw [half2, again_dg]
    refine (dg352 (D := fun i k => dsR I (row t (bot i)) k) (X := fun i => P I (row t (bot i))) (pBot_at h t) (dsBot_at h t h3 hz) _ k).trans ?_
    refine (congrArg (· + _) (dg352 (D := fun i k => dsR I (row t (top i)) k) (X := fun i => P I (row t (top i))) (pTop_at h t) (dsTop_at h t h3 hz) _ k)).trans ?_
    refine (congrArg (fun u => u + _ + _) (p k).1).trans ?_
    exact halves t (gTerm I k)
  · frame_out
    simp (disch := decide) only [↓View.readCov_skip, read_unread_whole]
    rw [half2, again_db]
    refine (db352 (D := fun i k => dsR I (row t (bot i)) k) (dsBot_at h t h3 hz) _ k).trans ?_
    refine (congrArg (· + _) (db352 (D := fun i k => dsR I (row t (top i)) k) (dsTop_at h t h3 hz) _ k)).trans ?_
    refine (congrArg (fun u => u + _ + _) (p k).2).trans ?_
    exact halves t (bTerm I k)
include h in
theorem sums_carried : ∀ (n : ℕ) (hn : n < cfg0.N), sumsAfter m c I ⟨n, hn⟩ := by
  intro n
  induction n with
  | zero =>
    intro hn k
    have z1 : (k0_pay1 (F := Ideal)) (ix2 0 k) = 0 := by pointwise [k0_pay1]
    have z2 : (k0_pay2 (F := Ideal)) (ix2 0 k) = 0 := by pointwise [k0_pay2]
    rw [show 704 * ((0 + 1) / 4) = 0 from rfl, upTo_zero, upTo_zero, outsAt0_A m c ⟨0, hn⟩ rfl rfl (by show 0 % 4 ≤ 2; decide) (by show ¬ 0 % 4 = 3; decide)]
    exact ⟨by frame_out; exact z1, by frame_out; exact z2⟩
  | succ n ih =>
    intro hn
    have hp := ih (by omega)
    by_cases h3 : (n + 1) % 4 = 3
    · refine sums_last h ⟨n + 1, hn⟩ h3 fun k => ?_
      have e : 704 * ((n + 1) / 4) = 704 * ((n + 1) / 4) := rfl
      exact hp k
    · intro k
      have e : (n + 1 + 1) / 4 = (n + 1) / 4 := by omega
      have := hp k
      change _ = ((upTo (gTerm I k) (704 * ((n + 1 + 1) / 4)) : ℝ) : EReal) ∧ _ = ((upTo (bTerm I k) (704 * ((n + 1 + 1) / 4)) : ℝ) : EReal)
      rw [e]
      by_cases h0 : (n + 1) % 4 = 0
      · by_cases h24 : (n + 1) % 24 = 0
        · exfalso; have := tlt ⟨n + 1, hn⟩; simp only at this; omega
        · rw [outsAt0_D m c ⟨n + 1, hn⟩ h24 h0 (by show (n + 1) % 4 ≤ 2; omega) h3]
          exact this
      · rw [outsAt0_B m c ⟨n + 1, hn⟩ (by show ¬ (n + 1) % 24 = 0; omega) h0 (by show (n + 1) % 4 ≤ 2; omega) h3]
        exact this

/-! ## The arrays written -/
/-- The last point. -/
abbrev lastT : Fin cfg0.N := ⟨23, by rw [show cfg0.N = 24 from N_0]; decide⟩
theorem flush8 (t : Fin cfg0.N) : (cfg0.win 8).flush t = true → t.val % 4 = 3 := (by decide +kernel : ∀ t : Fin grid0.N, (cfg0.win 8).flush t = true → t.val % 4 = 3) t
include h in
/-- The gradient of the layer before its activation. -/
theorem out7 (r : Fin 4224) (f : Fin 4096) : (dats m 0 c).arrAt 7 cfg0.N (ix2 r f) = (dhR I r f : EReal) := by
  let G : S4224x4096.Idx → EReal := fun j => (dhR I (j 0) (j 1) : EReal)
  have e : (dats m 0 c).arrAt 7 cfg0.N = G := by
    refine (dats m 0 c).arrAt_eq_of_covers 7 G (by decide +kernel) fun t hf y => ?_
    obtain ⟨i, a, rfl⟩ := idx2 y
    have hs : ((dats m 0 c).after 7 t : S704x1024.Idx → EReal) (ix2 i a) = (dhR I (row t i) (pcol t a) : EReal) := by
      rw [after0_7]; exact stored7 h t i a
    blk_simp
    refine hs.trans (show G (ix2 (row t i) (pcol t a)) = _ from congrArg G ?_)
    symm; blk_ext [idx t]
  rw [e]; rfl
include h in
/-- The gradient of the rows before the norm. -/
theorem out8 (r : Fin 4224) (k : Fin 1024) : (dats m 0 c).arrAt 8 cfg0.N (ix2 r k) = ((onRows (fun b i => dp I b i k) r : ℝ) : EReal) := by
  let G : S4224x1024.Idx → EReal := fun j => ((onRows (fun b i => dp I b i (j 1)) (j 0) : ℝ) : EReal)
  have e : (dats m 0 c).arrAt 8 cfg0.N = G := by
    refine (dats m 0 c).arrAt_eq_of_covers 8 G (by decide +kernel) fun t hf y => ?_
    obtain ⟨i, k, rfl⟩ := idx2 y
    have hs : ((dats m 0 c).after 8 t : S704x1024.Idx → EReal) (ix2 i k) = ((onRows (fun b i => dp I b i k) (row t i) : ℝ) : EReal) := by
      rw [after0_8]; exact stored8 h t (flush8 t hf) i k
    blk_simp
    refine hs.trans (show G (ix2 (row t i) k) = _ from congrArg G ?_)
    symm; blk_ext [idx t]
  rw [e]; rfl
include h in
/-- The gradient of the norm's scale. -/
theorem out9 (k : Fin 1024) : (dats m 0 c).arrAt 9 cfg0.N (ix2 0 k) = ((∑ b, ∑ i, ds I b i k * hat (I.p b i) k : ℝ) : EReal) := by
  refine (congrFun ((dats m 0 c).arrAt_eq_of_after_last 9 lastT (by decide +kernel) (fun j => (outsAt0 m c lastT.val lastT.isLt).2.2.1 j) fun j => ?_) (ix2 0 k)).trans
    (((sums_carried h lastT.val lastT.isLt) k).1.trans ?_)
  · rw [after0_9]; blk_simp; rfl
  · refine congrArg _ ((upTo_all (gTerm I k)).trans ?_)
    rw [← sum_onRows]; exact Finset.sum_congr rfl fun r _ => dg_eq I r k
include h in
/-- The gradient of the norm's shift. -/
theorem out10 (k : Fin 1024) : (dats m 0 c).arrAt 10 cfg0.N (ix2 0 k) = ((∑ b, ∑ i, ds I b i k : ℝ) : EReal) := by
  refine (congrFun ((dats m 0 c).arrAt_eq_of_after_last 10 lastT (by decide +kernel) (fun j => (outsAt0 m c lastT.val lastT.isLt).2.2.2.1 j) fun j => ?_) (ix2 0 k)).trans
    (((sums_carried h lastT.val lastT.isLt) k).2.trans ?_)
  · rw [after0_10]; blk_simp; rfl
  · exact congrArg _ ((upTo_all (bTerm I k)).trans (sum_onRows _))
end Cert.Kernel5Ideal.Act
-- ==== Proof.ActReference.lean ====
module
public import proofs.«01_k».proof.Proof.ActKernel
public import proofs.«01_k».proof.Proof.WeightsReference
public import proofs.«01_k».proof.Proof.Gen.Reference5Ideal.Run
public import proofs.«01_k».proof.Proof.Gen.Reference5Ideal.Read
@[expose] public section
set_option maxRecDepth 16384
/-! # What the reference of the activation's gradient computes

The derivative of the forward lines, read one operation after another as real numbers. -/
noncomputable section
namespace Cert.Reference5Ideal.Act
open Cert.Reference5Ideal Cert.Reference5Ideal.Read Idealize.ShloMosaic Idealize.ShloMosaic.TcCoe Cert.Real Cert.Rows Cert.Weights Cert.Act
open Cert.KernelIdeal.Head (n1024)

/-- The arguments as real numbers. -/
structure Args (X0 : (⟨S2x2064x1024, .f32⟩ : BufTy).Contents (Elt Ideal)) (X1 X2 : (⟨S1024, .f32⟩ : BufTy).Contents (Elt Ideal)) (X3 : (⟨S1024x4096, .f32⟩ : BufTy).Contents (Elt Ideal))
    (X4 : (⟨S4096x1024, .f32⟩ : BufTy).Contents (Elt Ideal)) (X5 : (⟨S2x2064x1024, .f32⟩ : BufTy).Contents (Elt Ideal)) (I : Inp) : Prop where
  a0 : ∀ b i k, X0 (ix3 b i k) = (I.p b i k : EReal)
  a1 : ∀ k, X1 (ix1 k) = (I.g k : EReal)
  a2 : ∀ k, X2 (ix1 k) = (I.b k : EReal)
  a3 : ∀ k f, X3 (ix2 k f) = (I.w1 k f : EReal)
  a4 : ∀ f k, X4 (ix2 f k) = (I.w2 f k : EReal)
  a5 : ∀ b i k, X5 (ix3 b i k) = (I.ct b i k : EReal)

variable {X0 : (⟨S2x2064x1024, .f32⟩ : BufTy).Contents (Elt Ideal)} {X1 X2 : (⟨S1024, .f32⟩ : BufTy).Contents (Elt Ideal)} {X3 : (⟨S1024x4096, .f32⟩ : BufTy).Contents (Elt Ideal)}
    {X4 : (⟨S4096x1024, .f32⟩ : BufTy).Contents (Elt Ideal)} {X5 : (⟨S2x2064x1024, .f32⟩ : BufTy).Contents (Elt Ideal)} {I : Inp} (h : Args X0 X1 X2 X3 X4 X5 I)
include h

/-- The rows less their means, the two times the forward lines write them. -/
theorem cen_at (b : Fin 2) (i : Fin 2064) (k : Fin 1024) :
    val_main_v5 (F := Ideal) X0 (ix3 b i k) = (cen (I.p b i) k : EReal) ∧ val_main_v14 (F := Ideal) X0 (ix3 b i k) = (cen (I.p b i) k : EReal) := by
  constructor <;>
  · pointwise [val_main_v5, val_main_v4, val_main_v14, val_main_v13, val_main_v3, val_main_v2, val_main_v1, val_main_v0, val_main_cst, val_main_cst_0]
    simp only [h.a0, lit_1024, coe_sum, div_coe _ _ (by norm_num : (1024 : ℝ) ≠ 0), ← EReal.coe_sub, cen, mean, n1024]
/-- The variances, the literal added. -/
theorem var_at (b : Fin 2) (i : Fin 2064) : val_main_v16 (F := Ideal) X0 (ix3 b i 0) = ((var (I.p b i) + eps : ℝ) : EReal) := by
  have e := fun k => (cen_at h b i k).1
  unfold val_main_v16 val_main_v12 val_main_v10 val_main_v9 val_main_v6
  generalize val_main_v5 (F := Ideal) X0 = w at e ⊢
  pointwise [val_main_v15, val_main_v11, val_main_cst_2, val_main_cst_3, val_main_cst_4]
  simp only [e, lit_1024, lit_eps, ← EReal.coe_mul, coe_sum, div_coe _ _ (by norm_num : (1024 : ℝ) ≠ 0), ← EReal.coe_add, var, n1024]
theorem rs_at (b : Fin 2) (i : Fin 2064) : val_main_v17 (F := Ideal) X0 (ix3 b i 0) = (rs (I.p b i) : EReal) := by
  unfold val_main_v17
  have e := var_at h b i
  generalize val_main_v16 (F := Ideal) X0 = w at e ⊢
  pointwise
  rw [e, rsqrt_coe_pos _ (var_eps _), rs]
/-- The derivative of one over the root. -/
theorem rs3_at (b : Fin 2) (i : Fin 2064) : val_main_v20 (F := Ideal) X0 (ix3 b i 0) = ((-1 / 2 * (rs (I.p b i) / (var (I.p b i) + eps)) : ℝ) : EReal) := by
  have e := var_at h b i
  have e' := rs_at h b i
  unfold val_main_v20 val_main_v18
  generalize val_main_v16 (F := Ideal) X0 = w at e ⊢
  generalize val_main_v17 (F := Ideal) X0 = w' at e' ⊢
  pointwise [val_main_v19, val_main_cst_5]
  rw [e, e', lit_neg_half, div_coe _ _ (var_eps _).ne', ← EReal.coe_mul]
theorem hat_at (b : Fin 2) (i : Fin 2064) (k : Fin 1024) : val_main_v22 (F := Ideal) X0 (ix3 b i k) = (hat (I.p b i) k : EReal) := by
  have e := (cen_at h b i k).2
  have e' := rs_at h b i
  unfold val_main_v22 val_main_v21
  generalize val_main_v14 (F := Ideal) X0 = w at e ⊢
  generalize val_main_v17 (F := Ideal) X0 = w' at e' ⊢
  pointwise
  rw [e, e', ← EReal.coe_mul, hat]
theorem y_at (b : Fin 2) (i : Fin 2064) (k : Fin 1024) : val_main_v28 (F := Ideal) X0 X1 X2 (ix3 b i k) = (y I b i k : EReal) := by
  have e := hat_at h b i k
  unfold val_main_v28 val_main_v25
  generalize val_main_v22 (F := Ideal) X0 = w at e ⊢
  pointwise [val_main_v24, val_main_v23, val_main_v27, val_main_v26]
  rw [e, h.a1, h.a2, ← EReal.coe_mul, ← EReal.coe_add, y]
theorem hid_at (b : Fin 2) (i : Fin 2064) (f : Fin 4096) : val_main_v31 (F := Ideal) X0 X1 X2 X3 (ix3 b i f) = (hid I b i f : EReal) := by
  have e := y_at h b i
  unfold val_main_v31
  generalize val_main_v28 (F := Ideal) X0 X1 X2 = w at e ⊢
  pointwise
  simp only [e, h.a3, ← EReal.coe_mul, coe_sum, hid, pre]
/-- The gradient of the layer before its activation, the two times the lines write it. -/
theorem dh_at (b : Fin 2) (i : Fin 2064) (f : Fin 4096) : val_main_v46 (F := Ideal) X0 X1 X2 X3 X4 X5 (ix3 b i f) = (dh I b i f : EReal)
    ∧ val_main_v120 (F := Ideal) X0 X1 X2 X3 X4 X5 (ix3 b i f) = (dh I b i f : EReal) := by
  have e := hid_at h b i f
  constructor
  on_goal 1 => unfold val_main_v46 val_main_v34 val_main_v44 val_main_v38 val_main_v32 val_main_v43 val_main_v42
  on_goal 2 =>
    unfold val_main_v120 val_main_v111 val_main_v118 val_main_v115 val_main_v109 val_main_v117
    rw [show val_main_v108 (F := Ideal) X0 X1 X2 X3 = val_main_v31 (F := Ideal) X0 X1 X2 X3 from rfl]
  all_goals
    generalize val_main_v31 (F := Ideal) X0 X1 X2 X3 = w at e ⊢
    pointwise [val_main_v33, val_main_v37, val_main_v45, val_main_v110, val_main_v114, val_main_v119, val_main_call0_v0, val_main_call0_cst, val_main_call1_v0, val_main_call1_cst,
      val_main_cst_7, val_main_cst_9, val_main_cst_10, val_main_cst_28, val_main_cst_30, val_main_cst_31]
    simp only [e, h.a4, h.a5, lit_two, coe_max0, ← EReal.coe_mul, coe_sum]
    exact relu_gate _ _
/-- The gradient of the normalised rows. -/
theorem ds_at (b : Fin 2) (i : Fin 2064) (k : Fin 1024) : val_main_v50 (F := Ideal) X0 X1 X2 X3 X4 X5 (ix3 b i k) = (ds I b i k : EReal) := by
  have e := fun f => (dh_at h b i f).1
  unfold val_main_v50 val_main_v47
  generalize val_main_v46 (F := Ideal) X0 X1 X2 X3 X4 X5 = w at e ⊢
  pointwise [val_main_v49, val_main_v48, val_main_v41, val_main_cst_11]
  simp only [e, h.a3, h.a5, lit_alpha, ← EReal.coe_mul, coe_sum, ← EReal.coe_add, ds]
/-- The gradient times the scale. -/
theorem d_at (b : Fin 2) (i : Fin 2064) (k : Fin 1024) : val_main_v58 (F := Ideal) X0 X1 X2 X3 X4 X5 (ix3 b i k) = ((ds I b i k * I.g k : ℝ) : EReal) := by
  have e := ds_at h b i k
  unfold val_main_v58
  generalize val_main_v50 (F := Ideal) X0 X1 X2 X3 X4 X5 = w at e ⊢
  pointwise [val_main_v57, val_main_v23]
  rw [e, h.a1, EReal.coe_mul]
/-- The gradient through the variance. -/
theorem sq_at (b : Fin 2) (i : Fin 2064) (k : Fin 1024) : val_main_v73 (F := Ideal) X0 X1 X2 X3 X4 X5 (ix3 b i k)
    = (((∑ j, cen (I.p b i) j * (ds I b i j * I.g j)) * (-1 / 2 * (rs (I.p b i) / (var (I.p b i) + eps))) / 1024 * (2 * cen (I.p b i) k) : ℝ) : EReal) := by
  have e := fun k => (cen_at h b i k).2
  have e' := fun k => (cen_at h b i k).1
  have e1 := rs3_at h b i
  have e2 := d_at h b i
  unfold val_main_v73 val_main_v72 val_main_v71 val_main_v70 val_main_v65 val_main_v62 val_main_v61 val_main_v60 val_main_v8
  generalize val_main_v5 (F := Ideal) X0 = w at e' ⊢
  generalize val_main_v14 (F := Ideal) X0 = w at e ⊢
  generalize val_main_v20 (F := Ideal) X0 = w at e1 ⊢
  generalize val_main_v58 (F := Ideal) X0 X1 X2 X3 X4 X5 = w at e2 ⊢
  pointwise [val_main_v69, val_main_v7, val_main_cst_1, val_main_cst_16, val_main_cst_18, val_main_cst_19]
  simp only [Fin.sum_univ_one, e, e', e1, e2, lit_1024, lit_two, ← EReal.coe_mul, coe_sum, div_coe _ _ (by norm_num : (1024 : ℝ) ≠ 0)]
/-- The gradient of a row, as differentiation writes it. -/
theorem row_at (b : Fin 2) (i : Fin 2064) (k : Fin 1024) : val_main_v83 (F := Ideal) X0 X1 X2 X3 X4 X5 (ix3 b i k) = (dp I b i k : EReal) := by
  rw [dp, ← lnVjp_eq _ _ (by norm_num : 1024 ≠ 0)]
  have e1 := rs_at h b i
  have e2 := d_at h b i
  have e3 := sq_at h b i
  unfold val_main_v83 val_main_v82 val_main_v81 val_main_v80 val_main_v78 val_main_v77 val_main_v76 val_main_v75 val_main_v74 val_main_v68 val_main_v67 val_main_v66 val_main_v64 val_main_v63
  generalize val_main_v17 (F := Ideal) X0 = w at e1 ⊢
  generalize val_main_v58 (F := Ideal) X0 X1 X2 X3 X4 X5 = w at e2 ⊢
  generalize val_main_v73 (F := Ideal) X0 X1 X2 X3 X4 X5 = w at e3 ⊢
  pointwise [val_main_v79, val_main_cst_17, val_main_cst_20, val_main_cst_21, val_main_cst_22]
  simp only [Fin.sum_univ_one, e1, e2, e3, lit_1024, ← EReal.coe_mul, ← EReal.coe_neg, coe_sum, ← EReal.coe_add, div_coe _ _ (by norm_num : (1024 : ℝ) ≠ 0), lnVjp, n1024]

omit h in
theorem zero_int (i : S_.Idx) : sitofp (F := Ideal) FTy.f32 (constantI S_ 32 0#32) i = 0 := by
  show (((0#32 : BitVec 32).toInt : ℝ) : EReal) = 0
  simp
theorem out0 (r : Fin 4224) (f : Fin 4096) : val_main_v123 (F := Ideal) X0 X1 X2 X3 X4 X5 (ix2 r f) = (dhR I r f : EReal) :=
  host_at _ _ Gen.pads_S2x2064x4096_S2x2112x4096_000_4800_000 Gen.h_S_ (zero_int _) Gen.shapeCasts_S2x2112x4096_S4224x4096 (fun b i f => (dh_at h b i f).2) r f
theorem out1 (r : Fin 4224) (k : Fin 1024) : val_main_v125 (F := Ideal) X0 X1 X2 X3 X4 X5 (ix2 r k) = ((onRows (fun b i => dp I b i k) r : ℝ) : EReal) :=
  host_at _ _ Gen.pads_S2x2064x1024_S2x2112x1024_000_4800_000 Gen.h_S_ (zero_int _) Gen.shapeCasts_S2x2112x1024_S4224x1024 (row_at h) r k
omit h in
/-- The sums over the batch and the positions. -/
theorem sum_rows (w : FVec Ideal S2x2064x1024 .f32) (k : Fin 1024) :
    broadcastInDim S1x1024 ![1] Gen.bcast_S1024_S1x1024_1 (Host.reduceAdd (shapeCast S1x1x1024 (Host.reduceAdd w (constant S_ FTy.f32 0#32)
      Gen.reducesTo_S2x2064x1024_S1024_d0_1 Gen.h_S_) Gen.shapeCasts_S1024_S1x1x1024) (constant S_ FTy.f32 0#32) Gen.reducesTo_S1x1x1024_S1024_d0_1 Gen.h_S_) (ix2 0 k)
      = ∑ b, ∑ r, w (ix3 b r k) := by
  pointwise
  rw [Layout.hostReduceAdd_r3_a01]
  refine (zero_add _).trans (Eq.trans (Finset.sum_congr rfl fun i _ => Finset.sum_congr rfl fun j _ =>
    (show _ = Host.reduceAdd (F := Ideal) w (constant S_ FTy.f32 0#32) Gen.reducesTo_S2x2064x1024_S1024_d0_1 Gen.h_S_ (ix1 k) by pointwise)) ?_)
  simp only [Fin.sum_univ_one]
  pointwise
  rw [Layout.hostReduceAdd_r3_a01, zero_add]
/-- The gradient of the norm's scale. -/
theorem out2 (k : Fin 1024) : val_main_v126 (F := Ideal) X0 X1 X2 X3 X4 X5 (ix2 0 k) = ((∑ b, ∑ i, ds I b i k * hat (I.p b i) k : ℝ) : EReal) := by
  refine (sum_rows (val_main_v54 (F := Ideal) X0 X1 X2 X3 X4 X5) k).trans ?_
  simp only [val_main_v54_apply, hat_at h, ds_at h, coe_sum, Ideal.mulf_def, ← EReal.coe_mul, mul_comm]
/-- The gradient of the norm's shift. -/
theorem out3 (k : Fin 1024) : val_main_v127 (F := Ideal) X0 X1 X2 X3 X4 X5 (ix2 0 k) = ((∑ b, ∑ i, ds I b i k : ℝ) : EReal) := by
  refine (sum_rows (val_main_v50 (F := Ideal) X0 X1 X2 X3 X4 X5) k).trans ?_
  simp only [ds_at h, coe_sum]
end Cert.Reference5Ideal.Act
-- ==== Proof.ActClaim.lean ====
module
public import proofs.«01_k».proof.Defs
public import proofs.«01_k».proof.Proof.ActReference
public import proofs.«01_k».proof.Proof.Finite
public import proofs.«01_k».proof.Proof.Gen.Pre_finite5
public import Idealize.ShloMosaic.Adequacy
public import Idealize.ShloMosaic.Init
@[expose] public section
set_option maxRecDepth 16384
/-! # The activation's gradient: the claims -/
noncomputable section
namespace Cert.Proof.Act
open Idealize.ShloMosaic Idealize.SL.Sem Cert.Kernel5
open Cert.KernelIdeal.Head (idx1 idx2)

theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The two programs end with equal gradients where the arguments are finite. -/
theorem value : Cert.algebraic_Kernel5Ideal_Reference5Ideal_pre_finite5 := by
  intro m g m' g' hp hm
  have hx (c : Dev Cert.Kernel5Ideal.nD) : ∃ I, Cert.Kernel5Ideal.Act.Args m c I := by
    obtain ⟨p0, p1, p2, p3, p4, p5⟩ := hp c
    choose x0 h0 using Cert.Real.finite_at _ _ _ p0
    choose x1 h1 using Cert.Real.finite_at _ _ _ p1
    choose x2 h2 using Cert.Real.finite_at _ _ _ p2
    choose x3 h3 using Cert.Real.finite_at _ _ _ p3
    choose x4 h4 using Cert.Real.finite_at _ _ _ p4
    choose x5 h5 using Cert.Real.finite_at _ _ _ p5
    exact ⟨⟨fun b i k => x0 (ix3 b i k), fun k => x1 (ix1 k), fun k => x2 (ix1 k), fun k f => x3 (ix2 k f), fun f k => x4 (ix2 f k), fun b i k => x5 (ix3 b i k)⟩,
      ⟨fun _ _ _ => h0 _, fun _ => h1 _, fun _ => h2 _, fun _ _ => h3 _, fun _ _ => h4 _, fun _ _ _ => h5 _⟩⟩
  choose I hk using hx
  refine ⟨_, _, _, _, Cert.Kernel5Ideal.Value.run_blocks (F := Ideal) m g,
    (θ_run Cert.Reference5Ideal.defs _ _).mono (fun r h c => ?_) (Cert.Reference5Ideal.Value.run (F := Ideal) m' g')⟩
  obtain ⟨e0, e1, e2, e3, ha⟩ := h c
  obtain ⟨q0, q1, q2, q3, q4, q5⟩ := hm c
  have hr : Cert.Reference5Ideal.Act.Args (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (I c) :=
    ⟨fun b i k => (congrFun q0 (ix3 b i k)).trans ((hk c).a0 b i k), fun k => (congrFun q1 (ix1 k)).trans ((hk c).a1 k), fun k => (congrFun q2 (ix1 k)).trans ((hk c).a2 k),
      fun k f => (congrFun q3 (ix2 k f)).trans ((hk c).a3 k f), fun f k => (congrFun q4 (ix2 f k)).trans ((hk c).a4 f k), fun b i k => (congrFun q5 (ix3 b i k)).trans ((hk c).a5 b i k)⟩
  refine ⟨(e0.trans (Cert.Reference5Ideal.Read.val_main_v123_eq (F := Ideal) m' c)).trans (funext fun j => ?_), (e1.trans (Cert.Reference5Ideal.Read.val_main_v125_eq (F := Ideal) m' c)).trans (funext fun j => ?_),
    (e2.trans (Cert.Reference5Ideal.Read.val_main_v126_eq (F := Ideal) m' c)).trans (funext fun j => ?_), (e3.trans (Cert.Reference5Ideal.Read.val_main_v127_eq (F := Ideal) m' c)).trans (funext fun j => ?_), ha⟩
  · obtain ⟨r, f, rfl⟩ := idx2 j
    exact (Cert.Reference5Ideal.Act.out0 hr r f).trans (Cert.Kernel5Ideal.Act.out7 (hk c) r f).symm
  · obtain ⟨r, k, rfl⟩ := idx2 j
    exact (Cert.Reference5Ideal.Act.out1 hr r k).trans (Cert.Kernel5Ideal.Act.out8 (hk c) r k).symm
  · obtain ⟨k, rfl⟩ := idx1 j
    exact (Cert.Reference5Ideal.Act.out2 hr k).trans (Cert.Kernel5Ideal.Act.out9 (hk c) k).symm
  · obtain ⟨k, rfl⟩ := idx1 j
    exact (Cert.Reference5Ideal.Act.out3 hr k).trans (Cert.Kernel5Ideal.Act.out10 (hk c) k).symm
end Cert.Proof.Act
-- ==== Proof.LossEntry.lean ====
module
public import proofs.«01_k».proof.Proof.ActKernel
public import proofs.«01_k».proof.Proof.Gen.Kernel6Ideal.Value
public import proofs.«01_k».proof.Proof.Gen.Kernel6Ideal
@[expose] public section
set_option maxRecDepth 16384
/-! # What the blocks of the feed-forward layer and its loss hold -/
noncomputable section
namespace Cert.Loss
open Cert.Real Cert.Rows Cert.Weights

theorem lit_half : Idealize.ShloMosaic.Ideal.ofBits .f32 0x3F000000#32 = ((1 / 2 : ℝ) : EReal) := by
  simp [Idealize.ShloMosaic.Ideal.ofBits, Idealize.ShloMosaic.Ideal.ieee, -EReal.coe_mul]; norm_num
theorem lit_inv : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num

/-- The arguments as real numbers: the normalised rows, the two weights, the second norm's scale and shift, the targets. -/
structure Inp where
  s : Fin 2 → Fin 2064 → Fin 1024 → ℝ
  w1 : Fin 1024 → Fin 4096 → ℝ
  w2 : Fin 4096 → Fin 1024 → ℝ
  g : Fin 1024 → ℝ
  b : Fin 1024 → ℝ
  y : Fin 2 → Fin 2048 → Fin 1024 → ℝ

variable (I : Inp)
/-- The layer before its activation. -/
def hid (b : Fin 2) (i : Fin 2064) (f : Fin 4096) : ℝ := pre I.s I.w1 b i f
/-- The rows that the second norm reads. -/
def p (b : Fin 2) (i : Fin 2064) (k : Fin 1024) : ℝ := alpha * I.s b i k + ∑ f, max (hid I b i f) 0 * max (hid I b i f) 0 * I.w2 f k
/-- The errors of the tokens; the positions in front of them have none. -/
def err (b : Fin 2) (i : Fin 2064) (k : Fin 1024) : ℝ :=
  if h : 16 ≤ i.val then hat (p I b i) k * I.g k + I.b k - I.y b ⟨i.val - 16, by omega⟩ k else 0
/-- The mean of the squared errors of a position. -/
def mse (b : Fin 2) (i : Fin 2064) : ℝ := (∑ k, err I b i k * err I b i k) / 1024
def loss : ℝ := 1 / 2 * ∑ b, ∑ i, mse I b i
/-- The gradient of the second norm's output, and of what it reads. -/
def dy (b : Fin 2) (i : Fin 2064) (k : Fin 1024) : ℝ := err I b i k * (1 / 1024)
def dp (b : Fin 2) (i : Fin 2064) (k : Fin 1024) : ℝ := lnBwd (p I b i) (fun j => dy I b i j * I.g j) k

/-! The same on the padded rows. -/
def S (r : Fin 4224) (k : Fin 1024) : ℝ := onRows (fun b i => I.s b i k) r
def H (r : Fin 4224) (f : Fin 4096) : ℝ := onRows (fun b i => hid I b i f) r
def P (r : Fin 4224) (k : Fin 1024) : ℝ := onRows (fun b i => p I b i k) r
def E (r : Fin 4224) (k : Fin 1024) : ℝ := onRows (fun b i => err I b i k) r
def D (r : Fin 4224) (k : Fin 1024) : ℝ := E I r k * (1 / 1024)

theorem H_eq (r : Fin 4224) (f : Fin 4096) : ∑ k, S I r k * I.w1 k f = H I r f := by
  unfold S H onRows
  split_ifs
  · rfl
  · simp
theorem P_eq (r : Fin 4224) (k : Fin 1024) : alpha * S I r k + ∑ f, max (H I r f) 0 * max (H I r f) 0 * I.w2 f k = P I r k := by
  unfold S H P onRows
  split_ifs
  · rfl
  · simp
theorem P_row {r : Fin 4224} (h : 48 ≤ r.val % 2112) : P I r = p I ⟨r.val / 2112, by omega⟩ ⟨r.val % 2112 - 48, by omega⟩ :=
  funext fun j => by rw [P, onRows, if_pos h]
/-- The rows that hold tokens carry their errors. -/
theorem E_pos (r : Fin 4224) (h : 64 ≤ r.val % 2112) (k : Fin 1024) :
    hat (P I r) k * I.g k + I.b k - I.y ⟨r.val / 2112, by omega⟩ ⟨r.val % 2112 - 64, by omega⟩ k = E I r k := by
  rw [P_row I (by omega), E, onRows, if_pos (by omega), err, dif_pos (by dsimp only; omega)]
  exact congrArg (fun n => hat _ k * I.g k + I.b k - I.y _ n k) (Fin.ext (by dsimp only; omega))
theorem E_neg (r : Fin 4224) (h : ¬ 64 ≤ r.val % 2112) (k : Fin 1024) : E I r k = 0 := by
  unfold E onRows
  split_ifs
  · exact dif_neg (by dsimp only; omega)
  · rfl
theorem D_eq (r : Fin 4224) (k : Fin 1024) : D I r k = onRows (fun b i => dy I b i k) r := onRows_map (· * (1 / 1024)) (zero_mul _) _ r
theorem mse_eq (r : Fin 4224) : (∑ k, E I r k * E I r k) / 1024 = onRows (mse I) r := by
  unfold E onRows
  split_ifs
  · rfl
  · simp
theorem dp_eq (r : Fin 4224) (k : Fin 1024) : lnBwd (P I r) (fun j => D I r j * I.g j) k = onRows (fun b i => dp I b i k) r := by
  simp only [D_eq]
  by_cases h : 48 ≤ r.val % 2112
  · simp only [P_row I h, onRows, if_pos h]; rfl
  · simp [onRows, if_neg h, lnBwd, mean]
theorem dg_eq (r : Fin 4224) (k : Fin 1024) : D I r k * hat (P I r) k = onRows (fun b i => dy I b i k * hat (p I b i) k) r := by
  rw [D_eq]
  by_cases h : 48 ≤ r.val % 2112
  · simp only [P_row I h, onRows, if_pos h]
  · simp only [onRows, if_neg h, zero_mul]
end Cert.Loss

namespace Cert.Kernel6Ideal.Loss
open Cert.Kernel6Ideal Cert.Kernel6Ideal.Gen Idealize.ShloMosaic Idealize.ShloMosaic.TcCoe Cert.Real Cert.Rows Cert.Loss
variable (m : (ℓ : Loc nD τ sig) → Buf (Elt Ideal) ℓ) (c : Dev nD)

/-- The memory holds the arguments. -/
structure Args (I : Inp) : Prop where
  a0 : ∀ b i k, m ((c : Thread nD τ).loc main_arg0) (ix3 b i k) = (I.s b i k : EReal)
  a1 : ∀ k f, m ((c : Thread nD τ).loc main_arg1) (ix2 k f) = (I.w1 k f : EReal)
  a2 : ∀ f k, m ((c : Thread nD τ).loc main_arg2) (ix2 f k) = (I.w2 f k : EReal)
  a3 : ∀ k, m ((c : Thread nD τ).loc main_arg3) (ix1 k) = (I.g k : EReal)
  a4 : ∀ k, m ((c : Thread nD τ).loc main_arg4) (ix1 k) = (I.b k : EReal)
  a5 : ∀ b i k, m ((c : Thread nD τ).loc main_arg5) (ix3 b i k) = (I.y b i k : EReal)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
abbrev w1Of (w : FVec Ideal S1024x4096 .f32) : FVec Ideal S8x1024x512 .bf16 :=
  truncf .bf16 (transpose S8x1024x512 [1, 0, 2] (shapeCast S1024x8x512 w shapeCasts_S1024x4096_S1024x8x512) transposes_S1024x8x512_S8x1024x512_1_0_2) bitsLt_bf16_f32
abbrev rowOf (x : FVec Ideal S1024 .f32) : FVec Ideal S1x1024 .f32 := broadcastInDim S1x1024 ![1] bcast_S1024_S1x1024_1 x
abbrev tgtOf (x : FVec Ideal S2x2048x1024 .f32) : FVec Ideal S4096x1024 .f32 := shapeCast S4096x1024 x shapeCasts_S2x2048x1024_S4096x1024

variable {m c} {I : Inp} (h : Args m c I)
theorem V_all :
    V m c main_v2 = w1Of (m ((c : Thread nD τ).loc main_arg1))
    ∧ V m c main_v4 = shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024
    ∧ V m c main_v5 = truncf .bf16 (shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024) bitsLt_bf16_f32
    ∧ V m c main_v6 = (truncf .bf16 (m ((c : Thread nD τ).loc main_arg2) : FVec Ideal S4096x1024 .f32) bitsLt_bf16_f32 : FVec Ideal S4096x1024 .bf16)
    ∧ V m c main_v7 = rowOf (m ((c : Thread nD τ).loc main_arg3))
    ∧ V m c main_v8 = rowOf (m ((c : Thread nD τ).loc main_arg4))
    ∧ V m c main_v9 = tgtOf (m ((c : Thread nD τ).loc main_arg5)) := by
  simp only [V, hostOps0, hostOps0_1, hostOps0_2, List.flatten_cons, List.flatten_nil, List.cons_append, List.nil_append, List.append_nil]
  refine ⟨?_, ?_, ?_, ?_, ?_, ?_, ?_⟩ <;> (entry_read; rfl)

/-- Column `a` of block `q` of the eight. -/
abbrev colg (q : Fin 8) (a : Fin 512) : Fin 4096 := ⟨512 * q.val + a.val, by omega⟩
include h in
theorem w1_at (q : Fin 8) (k : Fin 1024) (a : Fin 512) : V m c main_v2 (ix3 q k a) = (I.w1 k (colg q a) : EReal) := by
  rw [V_all.1, ← h.a1]
  generalize m ((c : Thread nD τ).loc main_arg1) = w
  unfold w1Of
  pointwise
  exact congrArg (fun f => w (ix2 k f)) (Fin.ext (by dsimp only; omega))
include h in
theorem s_at (r : Fin 4224) (k : Fin 1024) : V m c main_v4 (ix2 r k) = (S I r k : EReal) ∧ V m c main_v5 (ix2 r k) = (S I r k : EReal) := by
  rw [V_all.2.1, V_all.2.2.1]
  have e := host_at _ zeroI pads_S2x2064x1024_S2x2112x1024_000_4800_000 h_S_ (zeroI_apply _) shapeCasts_S2x2112x1024_S4224x1024 h.a0 r k
  exact ⟨e, e⟩
include h in
theorem w2_at (f : Fin 4096) (k : Fin 1024) : V m c main_v6 (ix2 f k) = (I.w2 f k : EReal) := by
  rw [V_all.2.2.2.1]; exact h.a2 f k
include h in
theorem g_at (k : Fin 1024) : V m c main_v7 (ix2 0 k) = (I.g k : EReal) := by
  rw [V_all.2.2.2.2.1, ← h.a3]
  generalize m ((c : Thread nD τ).loc main_arg3) = w
  unfold rowOf
  pointwise
include h in
theorem b_at (k : Fin 1024) : V m c main_v8 (ix2 0 k) = (I.b k : EReal) := by
  rw [V_all.2.2.2.2.2.1, ← h.a4]
  generalize m ((c : Thread nD τ).loc main_arg4) = w
  unfold rowOf
  pointwise
include h in
theorem y_at (b : Fin 2) (i : Fin 2048) (r : Fin 4096) (k : Fin 1024) (hr : r.val = b.val * 2048 + i.val) : V m c main_v9 (ix2 r k) = (I.y b i k : EReal) := by
  rw [V_all.2.2.2.2.2.2, ← h.a5]
  refine (congrArg (fun r => tgtOf _ (ix2 r k)) (Fin.ext hr : r = ⟨b.val * 2048 + i.val, by omega⟩)).trans ?_
  exact Layout.rows_at _ _ rfl b i k

end Cert.Kernel6Ideal.Loss
-- ==== Proof.LossPoint.lean ====
module
public import proofs.«01_k».proof.Proof.LossEntry
public import Idealize.ShloMosaic.Lib.Pipeline.ReadBack
@[expose] public section
set_option maxRecDepth 16384
/-! # What one point of the feed-forward layer and its loss computes -/
noncomputable section
namespace Cert.Kernel6Ideal.Loss
open Cert.Kernel6Ideal Cert.Kernel6Ideal.Gen Idealize.ShloMosaic Idealize.ShloMosaic.TcCoe Cert.Real Cert.Rows Cert.Weights Cert.Loss
open Cert.KernelIdeal.Head (n1024)
open Cert.Kernel5Ideal.Act (top bot)
variable (m : (ℓ : Loc nD τ sig) → Buf (Elt Ideal) ℓ) (c : Dev nD)

theorem tlt (t : Fin cfg0.N) : t.val < 24 := by have := t.isLt; simp only [show cfg0.N = 24 from N_0] at this; exact this
/-- The first target that a tile of rows reads. -/
abbrev firstT (t : ℕ) : ℕ := 704 * (t / 4) - 64 * (704 * (t / 4) / 2112 + 1)
/-- A grid point's tile of rows and its pair of column blocks. -/
theorem idx : ∀ t : Fin cfg0.N, win0_0.index t = ![t.val / 4, 0] ∧ win0_1.index t = ![t.val / 4, 0] ∧ win0_2.index t = ![t.val % 4, 0, 0]
    ∧ win0_3.index t = ![t.val % 4, 0] ∧ win0_4.index t = ![0, 0] ∧ win0_5.index t = ![0, 0] ∧ win0_6.index t = ![firstT t.val, 0]
    ∧ win0_7.index t = ![t.val / 4, t.val % 4] ∧ win0_8.index t = ![t.val / 4, 0] ∧ win0_9.index t = ![t.val / 4, 0] :=
  (by decide +kernel : ∀ t : Fin grid0.N, _)
abbrev row (t : Fin cfg0.N) (i : Fin 704) : Fin 4224 := ⟨704 * (t.val / 4) + i.val, by have := tlt t; omega⟩
/-- Column `a` of the pair of column blocks, and of one block of the pair. -/
abbrev pcol (t : Fin cfg0.N) (a : Fin 1024) : Fin 4096 := ⟨1024 * (t.val % 4) + a.val, by omega⟩
abbrev bcol (t : Fin cfg0.N) (s : Fin 2) (a : Fin 512) : Fin 4096 := ⟨1024 * (t.val % 4) + (512 * s.val + a.val), by omega⟩

section
variable (t : Fin cfg0.N) (i : Fin 704)
theorem b0 (k : Fin 1024) : iblk m c 0 t (ix2 i k) = V m c main_v4 (ix2 (row t i) k) := by
  show V m c main_v4 (((cfg0.win 0).blk t).view.emb _) = _; blk_ext [idx t]
theorem b1 (k : Fin 1024) : iblk m c 1 t (ix2 i k) = V m c main_v5 (ix2 (row t i) k) := by
  show V m c main_v5 (((cfg0.win 1).blk t).view.emb _) = _; blk_ext [idx t]
theorem b2 (s : Fin 2) (k : Fin 1024) (a : Fin 512) : iblk m c 2 t (ix3 s k a) = V m c main_v2 (ix3 (⟨2 * (t.val % 4) + s.val, by omega⟩ : Fin 8) k a) := by
  show V m c main_v2 (((cfg0.win 2).blk t).view.emb _) = _; blk_ext [idx t]
theorem b3 (a k : Fin 1024) : iblk m c 3 t (ix2 a k) = V m c main_v6 (ix2 (pcol t a) k) := by
  show V m c main_v6 (((cfg0.win 3).blk t).view.emb _) = _; blk_ext [idx t]
theorem b4 (k : Fin 1024) : iblk m c 4 t (ix2 0 k) = V m c main_v7 (ix2 0 k) := by
  show V m c main_v7 (((cfg0.win 4).blk t).view.emb _) = _; blk_ext [idx t]
theorem b5 (k : Fin 1024) : iblk m c 5 t (ix2 0 k) = V m c main_v8 (ix2 0 k) := by
  show V m c main_v8 (((cfg0.win 5).blk t).view.emb _) = _; blk_ext [idx t]
theorem b6 (k : Fin 1024) (r : Fin 4096) (hr : r.val = firstT t.val + i.val) : iblk m c 6 t (ix2 i k) = V m c main_v9 (ix2 r k) := by
  refine congrArg (V m c main_v9) (funext fun d => Fin.ext ((Rect.idx_unit_val (s := S4096x1024) (win0_6.index t) S704x1024.size (hinbE0_6 (grid0.coords t)) (ix2 i k) d).trans ?_))
  have e := (idx t).2.2.2.2.2.2.1
  match d with
  | ⟨0, _⟩ => exact (congrArg (· + i.val) (congrFun e 0)).trans hr.symm
  | ⟨1, _⟩ => exact (congrArg (· + k.val) (congrFun e 1)).trans (Nat.zero_add _)
end

theorem slice1 (X : FVec Ideal S2x1024x512 .bf16) (k : Fin 1024) (a : Fin 512) :
    X ((Rect.unit (s := S2x1024x512) ![0, 0, 0] ![1, 1024, 512] inb_S2x1024x512_S1x1024x512_0_0_0).idx (ix3 0 k a)) = X (ix3 0 k a)
    ∧ X ((Rect.unit (s := S2x1024x512) ![1, 0, 0] ![1, 1024, 512] inb_S2x1024x512_S1x1024x512_1_0_0).idx (ix3 0 k a)) = X (ix3 1 k a) := by
  constructor <;> pointwise

/-! ## The layer -/
theorem pay11_at (x : Vec Ideal S704x1024 .bf16) (u : Vec Ideal S1x1024x512 .bf16) (i : Fin 704) (a : Fin 512) :
    k0_pay11 x u (ix2 i a) = ∑ k, x (ix2 i k) * u (ix3 0 k a) := by pointwise [k0_pay11, k0_pay9]
theorem pay16_at (x : Vec Ideal S352x1024 .bf16) (u : Vec Ideal S1x1024x512 .bf16) (i : Fin 352) (a : Fin 512) :
    k0_pay16 x u (ix2 i a) = ∑ k, x (ix2 i k) * u (ix3 0 k a) := by pointwise [k0_pay16, k0_pay14]
theorem same12 : k0_pay12 (F := Ideal) = k0_pay11 := rfl
theorem same17 : k0_pay17 (F := Ideal) = k0_pay16 := rfl
theorem same21 : k0_pay21 (F := Ideal) = k0_pay16 := rfl
theorem same22 : k0_pay22 (F := Ideal) = k0_pay16 := rfl
theorem same23 : k0_pay23 (F := Ideal) = k0_pay18 := rfl
/-- A tile's running sum after its two blocks of columns. -/
theorem sum704 (x : Vec Ideal S704x1024 .bf16) (u0 u1 : Vec Ideal S1x1024x512 .bf16) (z : Vec Ideal S704x1024 .f32) (w0 w1 : Vec Ideal S512x1024 .bf16)
    (i : Fin 704) (k : Fin 1024) : k0_pay5 (k0_pay13 x u0 x u1 z w0 w1) (ix2 i k)
      = z (ix2 i k) + ∑ a, max (k0_pay11 x u0 (ix2 i a)) 0 * max (k0_pay11 x u0 (ix2 i a)) 0 * w0 (ix2 a k)
        + ∑ a, max (k0_pay11 x u1 (ix2 i a)) 0 * max (k0_pay11 x u1 (ix2 i a)) 0 * w1 (ix2 a k) := by
  have e0 : k0_pay11 x u0 = k0_pay9 x u0 := rfl
  have e1 : k0_pay11 x u1 = k0_pay10 x u1 := rfl
  rw [e0, e1]
  unfold k0_pay5 k0_pay13
  generalize k0_pay10 x u1 = d1
  generalize k0_pay9 x u0 = d0
  pointwise
/-- The same for one half of a tile. -/
abbrev half (x : Vec Ideal S352x1024 .bf16) (u0 u1 : Vec Ideal S1x1024x512 .bf16) (z : Vec Ideal S352x1024 .f32) (w0 w1 : Vec Ideal S512x1024 .bf16) :
    FVec Ideal S352x1024 .f32 := k0_pay18 x u0 x u1 z w0 w1
theorem sum352 (x : Vec Ideal S352x1024 .bf16) (u0 u1 : Vec Ideal S1x1024x512 .bf16) (z : Vec Ideal S352x1024 .f32) (w0 w1 : Vec Ideal S512x1024 .bf16)
    (i : Fin 352) (k : Fin 1024) : half x u0 u1 z w0 w1 (ix2 i k)
      = z (ix2 i k) + ∑ a, max (k0_pay16 x u0 (ix2 i a)) 0 * max (k0_pay16 x u0 (ix2 i a)) 0 * w0 (ix2 a k)
        + ∑ a, max (k0_pay16 x u1 (ix2 i a)) 0 * max (k0_pay16 x u1 (ix2 i a)) 0 * w1 (ix2 a k) := by
  have e0 : k0_pay16 x u0 = k0_pay14 x u0 := rfl
  have e1 : k0_pay16 x u1 = k0_pay15 x u1 := rfl
  rw [e0, e1]
  unfold half k0_pay18
  generalize k0_pay15 x u1 = d1
  generalize k0_pay14 x u0 = d0
  pointwise

/-! ## The norm, the loss and the gradients on one half of a tile -/
section
variable {a s : Vec Ideal S352x1024 .f32} {g b : Vec Ideal S1x1024 .f32} {X : Fin 352 → Fin 1024 → ℝ} {G B : Fin 1024 → ℝ}
variable (hp : ∀ i k, (alpha : EReal) * s (ix2 i k) + a (ix2 i k) = (X i k : EReal)) (hg : ∀ k, g (ix2 0 k) = (G k : EReal)) (hb : ∀ k, b (ix2 0 k) = (B k : EReal))
include hp in
theorem cen352 (i : Fin 352) (k : Fin 1024) : k0_pay26 a s (ix2 i k) = (cen (X i) k : EReal) := by
  pointwise [k0_pay26]
  simp only [lit_alpha, hp, lit_1024, coe_sum, div_coe _ _ (by norm_num : (1024 : ℝ) ≠ 0), ← EReal.coe_sub, cen, mean, n1024]
include hp in
theorem rs352 (i : Fin 352) : k0_pay27 a s (ix2 i 0) = (rs (X i) : EReal) := by
  unfold k0_pay27
  have := cen352 hp i
  generalize k0_pay26 a s = w at this ⊢
  pointwise
  simp only [this, lit_1024, lit_eps, ← EReal.coe_mul, coe_sum, div_coe _ _ (by norm_num : (1024 : ℝ) ≠ 0), ← EReal.coe_add]
  rw [rsqrt_coe_pos _ (var_eps_pos _ _ (by norm_num))]
  simp only [rs, var, n1024]
include hp in
theorem hat352 (i : Fin 352) (k : Fin 1024) : k0_pay28 a s (ix2 i k) = (hat (X i) k : EReal) := by
  unfold k0_pay28
  have e1 := cen352 hp i k
  have e2 := rs352 hp i
  generalize k0_pay26 a s = w at e1 ⊢
  generalize k0_pay27 a s = w' at e2 ⊢
  pointwise
  rw [e1, e2, ← EReal.coe_mul, hat]
include hp hg hb in
theorem y352 (i : Fin 352) (k : Fin 1024) : k0_pay29 a s g b (ix2 i k) = ((hat (X i) k * G k + B k : ℝ) : EReal) := by
  unfold k0_pay29
  have e := hat352 hp i k
  generalize k0_pay28 a s = w at e ⊢
  pointwise
  rw [e, hg, hb, ← EReal.coe_mul, ← EReal.coe_add]

variable {M : IVec S352x1 1} {T : FVec Ideal S352x1024 .f32} {C : Fin 352 → Prop} [DecidablePred C] {E : Fin 352 → Fin 1024 → ℝ}
theorem sel_ite (c : Prop) [Decidable c] (a b : EReal) : Scalar.select (if c then 1#1 else 0#1) a b = if c then a else b := by
  split_ifs <;> rfl
theorem pick (y : FVec Ideal S352x1024 .f32) (i : Fin 352) (k : Fin 1024) (hm : ∀ i, M (ix2 i 0) = if C i then 1#1 else 0#1) :
    k0_pay32 y M T (ix2 i k) = if C i then y (ix2 i k) - T (ix2 i k) else 0 := by
  pointwise [k0_pay32]
  rw [hm, sel_ite]

/-- The errors of the rows, taken as known. -/
abbrev ErrIs (y : FVec Ideal S352x1024 .f32) (M : IVec S352x1 1) (T : FVec Ideal S352x1024 .f32) (E : Fin 352 → Fin 1024 → ℝ) : Prop := ∀ i k, k0_pay32 y M T (ix2 i k) = (E i k : EReal)
variable {y : FVec Ideal S352x1024 .f32} (he : ErrIs y M T E)
include he in
theorem loss352 (z : Vec Ideal S8x128 .f32) (i : Fin 8) (k : Fin 128) :
    k0_pay33 y M T z (ix2 i k) = z (ix2 i k) + ((1 / 2 * ∑ r, (∑ k, E r k * E r k) / 1024 : ℝ) : EReal) := by
  unfold k0_pay33
  unfold ErrIs at he
  generalize k0_pay32 y M T = w at he ⊢
  pointwise
  simp only [Fin.sum_univ_one, he, lit_1024, lit_half, ← EReal.coe_mul, coe_sum, div_coe _ _ (by norm_num : (1024 : ℝ) ≠ 0)]
include he in
theorem dy352 (i : Fin 352) (k : Fin 1024) : k0_pay34 y M T (ix2 i k) = ((E i k * (1 / 1024) : ℝ) : EReal) := by
  unfold k0_pay34
  unfold ErrIs at he
  generalize k0_pay32 y M T = w at he ⊢
  pointwise
  rw [he, lit_inv, ← EReal.coe_mul]
include hp hg he in
theorem dp352 (i : Fin 352) (k : Fin 1024) : k0_pay37 (k0_pay27 a s) (k0_pay28 a s) (k0_pay34 y M T) g (ix2 i k) = (lnBwd (X i) (fun j => E i j * (1 / 1024) * G j) k : EReal) := by
  have e1 := rs352 hp i
  have e2 := hat352 hp i
  have e3 := dy352 he i
  generalize k0_pay28 a s = w at e2 ⊢
  generalize k0_pay27 a s = w' at e1 ⊢
  generalize k0_pay34 y M T = d at e3 ⊢
  pointwise [k0_pay37]
  simp only [e1, e2, e3, hg, lit_1024, ← EReal.coe_mul, coe_sum, div_coe _ _ (by norm_num : (1024 : ℝ) ≠ 0), ← EReal.coe_sub, lnBwd, mean, n1024]
include hp he in
theorem dg352 (z : Vec Ideal S1x1024 .f32) (k : Fin 1024) : k0_pay35 (k0_pay28 a s) y M T z (ix2 0 k) = z (ix2 0 k) + ((∑ i, E i k * (1 / 1024) * hat (X i) k : ℝ) : EReal) := by
  have e2 := fun i => hat352 hp i k
  have e3 := fun i => dy352 he i k
  unfold k0_pay35
  generalize k0_pay28 a s = w at e2 ⊢
  generalize k0_pay34 y M T = d at e3 ⊢
  pointwise
  simp only [e2, e3, ← EReal.coe_mul, coe_sum]
include he in
theorem db352 (z : Vec Ideal S1x1024 .f32) (k : Fin 1024) : k0_pay36 y M T z (ix2 0 k) = z (ix2 0 k) + ((∑ i, E i k * (1 / 1024) : ℝ) : EReal) := by
  have e3 := fun i => dy352 he i k
  unfold k0_pay36
  generalize k0_pay34 y M T = d at e3 ⊢
  pointwise
  simp only [e3, coe_sum]
end

/-! ## The second half is computed as the first -/
section
/-- The lower half of the mask and of the targets. -/
abbrev botMask (M : IVec S704x1 1) : IVec S352x1 1 := extractStridedSlice S352x1 ![352, 0] M slices_S704x1_o352_0_S352x1
abbrev botRows (T : FVec Ideal S704x1024 .f32) : FVec Ideal S352x1024 .f32 := extractStridedSlice S352x1024 ![352, 0] T slices_S704x1024_o352_0_S352x1024
variable (M : IVec S704x1 1) (T : FVec Ideal S704x1024 .f32) (a : FVec Ideal S352x1024 .f32) (s : Vec Ideal S352x1024 .f32) (g b z : Vec Ideal S1x1024 .f32)
theorem again_loss (z : Vec Ideal S8x128 .f32) : k0_pay43 M T (k0_pay39 a s) (k0_pay40 a s) g b z = k0_pay33 (k0_pay29 a s g b) (botMask M) (botRows T) z := rfl
theorem again_dg : k0_pay45 M T (k0_pay39 a s) (k0_pay40 a s) g b z = k0_pay35 (k0_pay28 a s) (k0_pay29 a s g b) (botMask M) (botRows T) z := rfl
theorem again_db : k0_pay6 (k0_pay44 M T (k0_pay39 a s) (k0_pay40 a s) g b) z = k0_pay36 (k0_pay29 a s g b) (botMask M) (botRows T) z := rfl
theorem again_dp : k0_pay7 (k0_pay40 a s) (k0_pay41 (k0_pay39 a s) (k0_pay40 a s)) (k0_pay44 M T (k0_pay39 a s) (k0_pay40 a s) g b) g
    = k0_pay37 (k0_pay27 a s) (k0_pay28 a s) (k0_pay34 (k0_pay29 a s g b) (botMask M) (botRows T)) g := rfl
end

/-! ## Which rows hold tokens, and their targets -/
section
variable (t : Fin cfg0.N)
abbrev tileW (t : Fin cfg0.N) : BitVec 32 := BitVec.ofNat 32 (grid0.coords t 0).val
theorem rem_eq : ∀ t : Fin cfg0.N, Scalar.remsi (Scalar.muli (tileW t) 704#32) 2112#32 = BitVec.ofNat 32 (704 * (t.val / 4) % 2112) :=
  (by decide +kernel : ∀ t : Fin grid0.N, _)
theorem first_eq : ∀ t : Fin cfg0.N, Scalar.cmpi .eq (tileW t) 0#32 = if t.val / 4 = 0 then 1#1 else 0#1 :=
  (by decide +kernel : ∀ t : Fin grid0.N, _)
theorem ge_64 : ∀ n : Fin 2816, IntOp.cmpi CmpIPredicate.sge (BitVec.ofNat 32 n) 64#32 = if 64 ≤ n.val then 1#1 else 0#1 := by decide +kernel
theorem mask_at (i : Fin 704) : k0_pay24 (Scalar.muli (tileW t) 704#32) (ix2 i 0) = if 64 ≤ (row t i).val % 2112 then 1#1 else 0#1 := by
  unfold k0_pay24
  rw [rem_eq]
  pointwise
  rw [show IntOp.addi (BitVec.ofNat 32 (704 * (t.val / 4) % 2112)) (BitVec.ofNat 32 i.val) = BitVec.ofNat 32 (⟨704 * (t.val / 4) % 2112 + i.val, by omega⟩ : Fin 2816).val from (BitVec.ofNat_add _ _).symm, ge_64]
  exact if_congr (by dsimp only; omega) rfl rfl
theorem rolled (T : Vec Ideal S704x1024 .f32) (i : Fin 704) (k : Fin 1024) (h : 64 ≤ i.val ∨ t.val / 4 ≠ 0) :
    k0_pay25 (tileW t) T (ix2 i k) = T (ix2 (⟨if t.val / 4 = 0 then i.val - 64 else i.val, by split_ifs <;> omega⟩ : Fin 704) k) := by
  unfold k0_pay25
  rw [first_eq]
  by_cases h0 : t.val / 4 = 0
  · simp only [if_pos h0]
    pointwise
    exact congrArg (fun r => T (ix2 r k)) (Fin.ext (by dsimp only; omega))
  · simp only [if_neg h0]
    pointwise
end
end Cert.Kernel6Ideal.Loss
-- ==== Proof.LossKernel.lean ====
module
public import proofs.«01_k».proof.Proof.LossPoint
@[expose] public section
set_option maxRecDepth 16384
set_option maxHeartbeats 400000
/-! # What the feed-forward layer and its loss compute -/
noncomputable section
namespace Cert.Kernel6Ideal.Loss
open Cert.Kernel6Ideal Cert.Kernel6Ideal.Gen Idealize.ShloMosaic Idealize.ShloMosaic.TcCoe Cert.Real Cert.Rows Cert.Weights Cert.Loss
open Cert.KernelIdeal.Head (n1024 idx1 idx2)
open Cert.Kernel5Ideal.Act (tile2 pairAt w0 w1 u0 u1 w0_at w1'_at top bot topB botB topF botF topB_at botB_at topF_at botF_at)
variable {m : (ℓ : Loc nD τ sig) → Buf (Elt Ideal) ℓ} {c : Dev nD} {I : Inp} (h : Args m c I)

/-! ## The layer before its activation -/
include h in
theorem layer (t : Fin cfg0.N) (s : Fin 2) (r : Fin 704) (a : Fin 512) {x u : Fin 1024 → EReal} (hx : ∀ k, x k = iblk m c 1 t (ix2 r k))
    (hu : ∀ k, u k = iblk m c 2 t (ix3 s k a)) : ∑ k, x k * u k = (H I (row t r) (bcol t s a) : EReal) := by
  have ef : colg (⟨2 * (t.val % 4) + s.val, by omega⟩ : Fin 8) a = bcol t s a := Fin.ext (by dsimp only; omega)
  have eu (k : Fin 1024) : u k = (I.w1 k (bcol t s a) : EReal) := by rw [hu, b2, w1_at h, ef]
  have ex (k : Fin 1024) : x k = (S I (row t r) k : EReal) := by rw [hx, b1, (s_at h _ _).2]
  simp only [eu, ex, ← EReal.coe_mul, coe_sum, H_eq]
include h in
theorem h704 (t : Fin cfg0.N) (s : Fin 2) {x : Vec Ideal S704x1024 .bf16} {u : Vec Ideal S1x1024x512 .bf16} (hx : ∀ i k, x (ix2 i k) = iblk m c 1 t (ix2 i k))
    (hu : ∀ k a, u (ix3 0 k a) = iblk m c 2 t (ix3 s k a)) (i : Fin 704) (a : Fin 512) : k0_pay11 x u (ix2 i a) = (H I (row t i) (bcol t s a) : EReal) :=
  (pay11_at x u i a).trans (layer h t s i a (hx i) fun k => hu k a)
include h in
theorem h352 (t : Fin cfg0.N) (s : Fin 2) (ρ : Fin 352 → Fin 704) {x : Vec Ideal S352x1024 .bf16} {u : Vec Ideal S1x1024x512 .bf16} (hx : ∀ i k, x (ix2 i k) = iblk m c 1 t (ix2 (ρ i) k))
    (hu : ∀ k a, u (ix3 0 k a) = iblk m c 2 t (ix3 s k a)) (i : Fin 352) (a : Fin 512) : k0_pay16 x u (ix2 i a) = (H I (row t (ρ i)) (bcol t s a) : EReal) :=
  (pay16_at x u i a).trans (layer h t s (ρ i) a (hx i) fun k => hu k a)

/-! ## The running sum of the layer's second product -/
section
variable (I)
abbrev term (r : Fin 4224) (k : Fin 1024) (f : Fin 4096) : ℝ := max (H I r f) 0 * max (H I r f) 0 * I.w2 f k
/-- The sum over the first pairs of column blocks. -/
def acc (q : ℕ) (r : Fin 4224) (k : Fin 1024) : EReal := ((upTo (term I r k) (1024 * q) : ℝ) : EReal)
theorem acc_zero (r : Fin 4224) (k : Fin 1024) : acc I 0 r k = 0 := by simp [acc, upTo_zero]
theorem acc_all (r : Fin 4224) (k : Fin 1024) : acc I 4 r k = ((∑ f, term I r k f : ℝ) : EReal) := by
  rw [acc, show 1024 * 4 = 4096 from rfl, upTo_all]
end
include h in
theorem grow (t : Fin cfg0.N) (r : Fin 4224) (k : Fin 1024) {d0 d1 v0 v1 : Fin 512 → EReal} (e0 : ∀ a, d0 a = (H I r (bcol t 0 a) : EReal)) (e1 : ∀ a, d1 a = (H I r (bcol t 1 a) : EReal))
    (f0 : ∀ a, v0 a = iblk m c 3 t (ix2 (pairAt 0 a) k)) (f1 : ∀ a, v1 a = iblk m c 3 t (ix2 (pairAt 1 a) k)) :
    acc I (t.val % 4) r k + ∑ a, max (d0 a) 0 * max (d0 a) 0 * v0 a + ∑ a, max (d1 a) 0 * max (d1 a) 0 * v1 a = acc I (t.val % 4 + 1) r k := by
  have g0 (a : Fin 512) : v0 a = (I.w2 (bcol t 0 a) k : EReal) := by rw [f0, b3, w2_at h]
  have g1 (a : Fin 512) : v1 a = (I.w2 (bcol t 1 a) k : EReal) := by rw [f1, b3, w2_at h]
  simp only [e0, e1, g0, g1, acc, coe_max0, ← EReal.coe_mul, coe_sum, ← EReal.coe_add, EReal.coe_eq_coe_iff]
  have A := upTo_add (term I r k) (1024 * (t.val % 4)) 512 (by omega)
  have B := upTo_add (term I r k) (1024 * (t.val % 4) + 512) 512 (by omega)
  rw [show 1024 * (t.val % 4 + 1) = 1024 * (t.val % 4) + 512 + 512 by omega, ← B, ← A]
  refine congrArg₂ (· + ·) (congrArg₂ (· + ·) rfl ?_) ?_
  · exact Finset.sum_congr rfl fun a _ => congrArg (term I r k) (Fin.ext (by show 1024 * (t.val % 4) + (512 * 0 + a.val) = 1024 * (t.val % 4) + a.val; omega))
  · exact Finset.sum_congr rfl fun a _ => congrArg (term I r k) (Fin.ext (by show 1024 * (t.val % 4) + (512 * 1 + a.val) = 1024 * (t.val % 4) + 512 + a.val; omega))
theorem u0_at (X : FVec Ideal S2x1024x512 .bf16) (k : Fin 1024) (a : Fin 512) : u0 X (ix3 0 k a) = X (ix3 0 k a) := (slice1 X k a).1
theorem u1_at (X : FVec Ideal S2x1024x512 .bf16) (k : Fin 1024) (a : Fin 512) : u1 X (ix3 0 k a) = X (ix3 1 k a) := (slice1 X k a).2
include h in
/-- The running sum of a whole tile. -/
theorem step704 (t : Fin cfg0.N) {z : Vec Ideal S704x1024 .f32} (hz : ∀ i k, z (ix2 i k) = acc I (t.val % 4) (row t i) k) (i : Fin 704) (k : Fin 1024) :
    k0_pay5 (k0_pay13 (iblk m c 1 t) (u0 (iblk m c 2 t)) (iblk m c 1 t) (u1 (iblk m c 2 t)) z (w0 (iblk m c 3 t)) (w1 (iblk m c 3 t))) (ix2 i k)
      = acc I (t.val % 4 + 1) (row t i) k := by
  rw [sum704, hz]
  exact grow h t (row t i) k (h704 h t 0 (fun _ _ => rfl) (u0_at _) i) (h704 h t 1 (fun _ _ => rfl) (u1_at _) i) (fun a => w0_at _ a k) (fun a => w1'_at _ a k)

/-! ## One half of a tile, at the last pair of column blocks -/
variable (m c) in
abbrev aTop (t : Fin cfg0.N) (z : Vec Ideal S704x1024 .f32) : FVec Ideal S352x1024 .f32 :=
  half (topB (iblk m c 1 t)) (u0 (iblk m c 2 t)) (u1 (iblk m c 2 t)) (topF z) (w0 (iblk m c 3 t)) (w1 (iblk m c 3 t))
variable (m c) in
abbrev aBot (t : Fin cfg0.N) (z : Vec Ideal S704x1024 .f32) : FVec Ideal S352x1024 .f32 :=
  half (botB (iblk m c 1 t)) (u0 (iblk m c 2 t)) (u1 (iblk m c 2 t)) (botF z) (w0 (iblk m c 3 t)) (w1 (iblk m c 3 t))
include h in
/-- What the norm reads. -/
theorem pHalf (t : Fin cfg0.N) (h3 : t.val % 4 = 3) {r : Fin 704} {k : Fin 1024} {zz xs : EReal} {d0 d1 v0 v1 : Fin 512 → EReal} (hz : zz = acc I (t.val % 4) (row t r) k)
    (hs : xs = iblk m c 0 t (ix2 r k)) (e0 : ∀ a, d0 a = (H I (row t r) (bcol t 0 a) : EReal)) (e1 : ∀ a, d1 a = (H I (row t r) (bcol t 1 a) : EReal))
    (f0 : ∀ a, v0 a = iblk m c 3 t (ix2 (pairAt 0 a) k)) (f1 : ∀ a, v1 a = iblk m c 3 t (ix2 (pairAt 1 a) k)) :
    (alpha : EReal) * xs + (zz + ∑ a, max (d0 a) 0 * max (d0 a) 0 * v0 a + ∑ a, max (d1 a) 0 * max (d1 a) 0 * v1 a) = (P I (row t r) k : EReal) := by
  rw [hz, grow h t _ k e0 e1 f0 f1, h3, acc_all, hs, b0, (s_at h _ _).1, ← EReal.coe_mul, ← EReal.coe_add, P_eq]
section
variable (t : Fin cfg0.N) (h3 : t.val % 4 = 3) {z : Vec Ideal S704x1024 .f32} (hz : ∀ i k, z (ix2 i k) = acc I (t.val % 4) (row t i) k)
include h h3 hz in
theorem pTop (i : Fin 352) (k : Fin 1024) : (alpha : EReal) * topF (iblk m c 0 t) (ix2 i k) + aTop m c t z (ix2 i k) = (P I (row t (top i)) k : EReal) := by
  refine (congrArg (_ + ·) (sum352 _ _ _ _ _ _ i k)).trans ?_
  exact pHalf h t h3 ((topF_at z i k).trans (hz _ k)) (topF_at _ i k) (h352 h t 0 top (topB_at _) (u0_at _) i) (h352 h t 1 top (topB_at _) (u1_at _) i) (fun a => w0_at _ a k) (fun a => w1'_at _ a k)
include h h3 hz in
theorem pBot (i : Fin 352) (k : Fin 1024) : (alpha : EReal) * botF (iblk m c 0 t) (ix2 i k) + aBot m c t z (ix2 i k) = (P I (row t (bot i)) k : EReal) := by
  refine (congrArg (_ + ·) (sum352 _ _ _ _ _ _ i k)).trans ?_
  exact pHalf h t h3 ((botF_at z i k).trans (hz _ k)) (botF_at _ i k) (h352 h t 0 bot (botB_at _) (u0_at _) i) (h352 h t 1 bot (botB_at _) (u1_at _) i) (fun a => w0_at _ a k) (fun a => w1'_at _ a k)
include h in
theorem scale_at (k : Fin 1024) : iblk m c 4 t (ix2 0 k) = (I.g k : EReal) := by rw [b4, g_at h]
include h in
theorem shift_at (k : Fin 1024) : iblk m c 5 t (ix2 0 k) = (I.b k : EReal) := by rw [b5, b_at h]
include h in
/-- The target of a row that holds a token. -/
theorem target (i : Fin 704) (hi : 64 ≤ (row t i).val % 2112) (k : Fin 1024) :
    k0_pay25 (tileW t) (iblk m c 6 t) (ix2 i k) = (I.y ⟨(row t i).val / 2112, by omega⟩ ⟨(row t i).val % 2112 - 64, by omega⟩ k : EReal) := by
  have ht := tlt t
  dsimp only at hi
  rw [rolled t _ i k (by omega), b6 m c t _ k ⟨firstT t.val + (if t.val / 4 = 0 then i.val - 64 else i.val), by unfold firstT; split_ifs <;> omega⟩ rfl]
  refine y_at h _ _ _ k ?_
  dsimp only
  unfold firstT
  split_ifs <;> omega
include h in
/-- The errors of one half, whose rows lie at `ρ`. -/
theorem errs (ρ : Fin 352 → Fin 704) {M : IVec S352x1 1} {T a s : FVec Ideal S352x1024 .f32} (hp : ∀ i k, (alpha : EReal) * s (ix2 i k) + a (ix2 i k) = (P I (row t (ρ i)) k : EReal))
    (hm : ∀ i, M (ix2 i 0) = k0_pay24 (Scalar.muli (tileW t) 704#32) (ix2 (ρ i) 0)) (hT : ∀ i k, T (ix2 i k) = k0_pay25 (tileW t) (iblk m c 6 t) (ix2 (ρ i) k)) :
    ErrIs (k0_pay29 a s (iblk m c 4 t) (iblk m c 5 t)) M T fun i k => E I (row t (ρ i)) k := by
  intro i k
  rw [pick (C := fun i => 64 ≤ (row t (ρ i)).val % 2112) _ i k fun i => (hm i).trans (mask_at t (ρ i)), y352 (X := fun i => P I (row t (ρ i))) hp (scale_at h t) (shift_at h t), hT]
  by_cases hi : 64 ≤ (row t (ρ i)).val % 2112
  · rw [if_pos hi, target h t _ hi, ← EReal.coe_sub, E_pos I _ hi]
  · rw [if_neg hi]; exact (congrArg (fun x : ℝ => (x : EReal)) (E_neg I _ hi k)).symm
theorem topMask_at (i : Fin 352) : k0_pay30 (Scalar.muli (tileW t) 704#32) (ix2 i 0) = k0_pay24 (Scalar.muli (tileW t) 704#32) (ix2 (top i) 0) := by
  unfold k0_pay30
  generalize k0_pay24 (Scalar.muli (tileW t) 704#32) = w
  pointwise
  exact congrArg (fun r => w (ix2 r 0)) (Fin.ext (Nat.zero_add i.val).symm)
theorem botMask_at (w : IVec S704x1 1) (i : Fin 352) : botMask w (ix2 i 0) = w (ix2 (bot i) 0) := by
  unfold botMask
  pointwise
theorem topRows_at (X : Vec Ideal S704x1024 .f32) (i : Fin 352) (k : Fin 1024) : k0_pay31 (tileW t) X (ix2 i k) = k0_pay25 (tileW t) X (ix2 (top i) k) := by
  unfold k0_pay31
  generalize k0_pay25 (tileW t) X = w
  pointwise
  exact congrArg (fun r => w (ix2 r k)) (Fin.ext (Nat.zero_add i.val).symm)
theorem botRows_at (w : FVec Ideal S704x1024 .f32) (i : Fin 352) (k : Fin 1024) : botRows w (ix2 i k) = w (ix2 (bot i) k) := by
  unfold botRows
  pointwise
include h h3 hz in
theorem errTop : ErrIs (k0_pay29 (aTop m c t z) (topF (iblk m c 0 t)) (iblk m c 4 t) (iblk m c 5 t)) (k0_pay30 (Scalar.muli (tileW t) 704#32)) (k0_pay31 (tileW t) (iblk m c 6 t))
    fun i k => E I (row t (top i)) k := errs h t top (pTop h t h3 hz) (topMask_at t) (topRows_at t _)
include h h3 hz in
theorem errBot : ErrIs (k0_pay29 (aBot m c t z) (botF (iblk m c 0 t)) (iblk m c 4 t) (iblk m c 5 t)) (botMask (k0_pay24 (Scalar.muli (tileW t) 704#32))) (botRows (k0_pay25 (tileW t) (iblk m c 6 t)))
    fun i k => E I (row t (bot i)) k := errs h t bot (pBot h t h3 hz) (botMask_at _) (botRows_at _)
end

/-! ## What is carried from point to point -/
theorem zero2 : ∀ a : Fin S704x1024.rank, (![0, 0] : Fin 2 → ℕ) a = 0 := by decide
theorem zero2' : ∀ a : Fin S1x1024.rank, (![0, 0] : Fin 2 → ℕ) a = 0 := by decide
variable (m c I) in
abbrev sumAfter (t : Fin cfg0.N) : Prop := ∀ i k, (outsAt0 m c t.val t.isLt).2.2.2.2.2.2 (ix2 i k) = acc I (t.val % 4 + 1) (row t i) k
include h in
theorem sum_start (t : Fin cfg0.N) (h0 : t.val % 4 = 0) : sumAfter m c I t := by
  intro i k
  have z : ∀ i k, (k0_pay4 (F := Ideal)) (ix2 i k) = acc I (t.val % 4) (row t i) k := fun i k => by rw [h0, acc_zero]; pointwise [k0_pay4]
  by_cases h24 : t.val % 24 = 0
  on_goal 1 => rw [outsAt0_A m c t h24 h0 (by omega) (by omega)]
  on_goal 2 => rw [outsAt0_D m c t h24 h0 (by omega) (by omega)]
  all_goals
    frame_out
    exact step704 h t z i k
include h in
theorem sum_next (t : Fin cfg0.N) (h0 : ¬ t.val % 4 = 0) (h3 : ¬ t.val % 4 = 3)
    (z : ∀ i k, (outsAt0 m c (t.val - 1) (by have := t.isLt; omega)).2.2.2.2.2.2 (ix2 i k) = acc I (t.val % 4) (row t i) k) : sumAfter m c I t := by
  intro i k
  rw [outsAt0_B m c t (by omega) h0 (by omega) h3]
  frame_out
  simp (disch := decide) only [↓View.readCov_skip, read_unread_whole]
  exact step704 h t z i k
include h in
theorem sum_carried : ∀ (n : ℕ) (hn : n < cfg0.N), ¬ n % 4 = 3 → sumAfter m c I ⟨n, hn⟩ := by
  intro n
  induction n with
  | zero => intro hn _; exact sum_start h ⟨0, hn⟩ rfl
  | succ n ih =>
    intro hn h3
    by_cases h0 : (n + 1) % 4 = 0
    · exact sum_start h ⟨n + 1, hn⟩ h0
    · refine sum_next h ⟨n + 1, hn⟩ h0 h3 fun i k => (ih (by omega) (by omega) i k).trans ?_
      have e1 : n % 4 + 1 = (n + 1) % 4 := by omega
      have e2 : row (⟨n, by omega⟩ : Fin cfg0.N) i = row (⟨n + 1, hn⟩ : Fin cfg0.N) i := Fin.ext (by show 704 * (n / 4) + i.val = 704 * ((n + 1) / 4) + i.val; omega)
      show acc I (n % 4 + 1) _ k = acc I ((n + 1) % 4) _ k
      rw [e1, e2]
include h in
/-- The running sum that the last pair of column blocks finds. -/
theorem before (t : Fin cfg0.N) (h3 : t.val % 4 = 3) (i : Fin 704) (k : Fin 1024) :
    (outsAt0 m c (t.val - 1) (by have := t.isLt; omega)).2.2.2.2.2.2 (ix2 i k) = acc I (t.val % 4) (row t i) k := by
  refine (sum_carried h (t.val - 1) (by have := t.isLt; omega) (by omega) i k).trans ?_
  have e2 : row (⟨t.val - 1, by have := t.isLt; omega⟩ : Fin cfg0.N) i = row t i := Fin.ext (by show 704 * ((t.val - 1) / 4) + i.val = 704 * (t.val / 4) + i.val; omega)
  show acc I ((t.val - 1) % 4 + 1) _ k = _
  rw [e2, show (t.val - 1) % 4 + 1 = t.val % 4 by omega]

/-! ## What a point stores -/
include h in
theorem stored7 (t : Fin cfg0.N) (i : Fin 704) (a : Fin 1024) : (outsAt0 m c t.val t.isLt).1 (ix2 i a) = (H I (row t i) (pcol t a) : EReal) := by
  have z (i : Fin 704) (hi : 0 + i.val < 704) : (⟨0 + i.val, hi⟩ : Fin 704) = i := Fin.ext (Nat.zero_add _)
  have Q (p : ℕ) {w : FVec Ideal S704x512 .bf16} := tile2 (T := fun i a => (H I (row t i) (pcol t a) : EReal)) (i := i) (a := a) 0 p (w := w)
  have Q' (o p : ℕ) {w : FVec Ideal S352x512 .bf16} := tile2 (T := fun i a => (H I (row t i) (pcol t a) : EReal)) (i := i) (a := a) o p (w := w)
  by_cases h3 : t.val % 4 = 3
  · rw [outsAt0_C m c t (by omega) (by omega) (by omega) h3]
    frame_out
    canon_tiles x h
    case piece0 =>
      refine Q' 352 512 (fun i' a' hi ha => ?_) x h0 h1
      rw [same22]
      exact h352 h t 1 bot (botB_at _) (u1_at _) i' a'
    case piece1 =>
      refine Q' 352 0 (fun i' a' hi ha => ?_) x h0 (h1.trans (Nat.zero_add _).symm)
      rw [same21]
      exact h352 h t 0 bot (botB_at _) (u0_at _) i' a'
    case piece2 =>
      refine Q' 0 512 (fun i' a' hi ha => ?_) x (h0.trans (Nat.zero_add _).symm) h1
      rw [same17]
      exact h352 h t 1 top (topB_at _) (u1_at _) i' a'
    case piece3 =>
      refine Q' 0 0 (fun i' a' hi ha => ?_) x (h0.trans (Nat.zero_add _).symm) (h1.trans (Nat.zero_add _).symm)
      exact h352 h t 0 top (topB_at _) (u0_at _) i' a'
  · by_cases h24 : t.val % 24 = 0
    on_goal 1 => rw [outsAt0_A m c t h24 (by omega) (by omega) (by omega)]
    on_goal 2 =>
      by_cases h0 : t.val % 4 = 0
      on_goal 1 => rw [outsAt0_D m c t h24 h0 (by omega) (by omega)]
      on_goal 2 => rw [outsAt0_B m c t h24 h0 (by omega) h3]
    all_goals
      frame_out
      canon_tiles x h
      case piece0 =>
        refine Q 512 (fun i' a' hi ha => ?_) x (h0.trans (Nat.zero_add _).symm) h1
        rw [same12, z]
        exact h704 h t 1 (fun _ _ => rfl) (u1_at _) i' a'
      case piece1 =>
        refine Q 0 (fun i' a' hi ha => ?_) x (h0.trans (Nat.zero_add _).symm) (h1.trans (Nat.zero_add _).symm)
        rw [z]
        exact h704 h t 0 (fun _ _ => rfl) (u0_at _) i' a'

theorem same8 : k0_pay8 (F := Ideal) = k0_pay7 := rfl
theorem same38 : k0_pay38 (F := Ideal) = k0_pay37 := rfl
include h in
/-- The gradient of what the norm reads, stored twice at the last pair of column blocks. -/
theorem stored89 (t : Fin cfg0.N) (h3 : t.val % 4 = 3) (i : Fin 704) (k : Fin 1024) :
    (outsAt0 m c t.val t.isLt).2.1 (ix2 i k) = ((onRows (fun b j => dp I b j k) (row t i) : ℝ) : EReal)
    ∧ (outsAt0 m c t.val t.isLt).2.2.1 (ix2 i k) = ((onRows (fun b j => dp I b j k) (row t i) : ℝ) : EReal) := by
  rw [← dp_eq]
  have Q (o : ℕ) {w : S352x1024.Idx → EReal} := tile2 (T := fun i k => (lnBwd (P I (row t i)) (fun j => D I (row t i) j * I.g j) k : EReal)) (i := i) (a := k) o 0 (w := w)
  have z (k : Fin 1024) (hk : 0 + k.val < 1024) : (⟨0 + k.val, hk⟩ : Fin 1024) = k := Fin.ext (Nat.zero_add _)
  have hz := before h t h3
  rw [outsAt0_C m c t (by omega) (by omega) (by omega) h3]
  generalize (outsAt0 m c (t.val - 1) _) = prev at hz ⊢
  constructor
  all_goals
    frame_out
    simp (disch := decide) only [↓View.readCov_skip, read_unread_whole]
    canon_tiles x h
    case piece0 =>
      refine Q 352 (fun i' a' hi ha => ?_) x h0 (h1.trans (Nat.zero_add _).symm)
      first | rw [same8, same23, again_dp, z] | rw [same23, again_dp, z]
      exact dp352 (E := fun i k => E I (row t (bot i)) k) (X := fun i => P I (row t (bot i))) (pBot h t h3 hz) (scale_at h t) (errBot h t h3 hz) i' a'
    case piece1 =>
      refine Q 0 (fun i' a' hi ha => ?_) x (h0.trans (Nat.zero_add _).symm) (h1.trans (Nat.zero_add _).symm)
      first | rw [same38, z] | rw [z]
      exact dp352 (E := fun i k => E I (row t (top i)) k) (X := fun i => P I (row t (top i))) (pTop h t h3 hz) (scale_at h t) (errTop h t h3 hz) i' a'

/-! ## The loss and the gradients of the scale and of the shift -/
section
variable (I)
abbrev lTerm (r : Fin 4224) : ℝ := (∑ k, E I r k * E I r k) / 1024
abbrev gTerm (k : Fin 1024) (r : Fin 4224) : ℝ := D I r k * hat (P I r) k
abbrev bTerm (k : Fin 1024) (r : Fin 4224) : ℝ := D I r k
end
variable (m c I) in
abbrev lossAt (t n : ℕ) (ht : t < cfg0.N) : Prop := ∀ i k, (outsAt0 m c t ht).2.2.2.1 (ix2 i k) = ((1 / 2 * upTo (lTerm I) n : ℝ) : EReal)
variable (m c I) in
abbrev gradsAt (t n : ℕ) (ht : t < cfg0.N) : Prop := ∀ k, (outsAt0 m c t ht).2.2.2.2.1 (ix2 0 k) = ((upTo (gTerm I k) n : ℝ) : EReal)
  ∧ (outsAt0 m c t ht).2.2.2.2.2.1 (ix2 0 k) = ((upTo (bTerm I k) n : ℝ) : EReal)
/-- A sum over the first rows, continued over the two halves of the next tile. -/
theorem halves (t : Fin cfg0.N) (f : Fin 4224 → ℝ) : upTo f (704 * (t.val / 4)) + ∑ i, f (row t (top i)) + ∑ i, f (row t (bot i)) = upTo f (704 * (t.val / 4) + 704) := by
  have A := upTo_add f (704 * (t.val / 4)) 352 (by have := tlt t; omega)
  have B := upTo_add f (704 * (t.val / 4) + 352) 352 (by have := tlt t; omega)
  rw [show 704 * (t.val / 4) + 704 = 704 * (t.val / 4) + 352 + 352 by omega, ← B, ← A]
  refine congrArg₂ (· + ·) (congrArg₂ (· + ·) rfl ?_) ?_
  · exact Finset.sum_congr rfl fun a _ => congrArg f (Fin.ext (by show 704 * (t.val / 4) + (0 + a.val) = 704 * (t.val / 4) + a.val; omega))
  · exact Finset.sum_congr rfl fun a _ => congrArg f (Fin.ext (by show 704 * (t.val / 4) + (352 + a.val) = 704 * (t.val / 4) + 352 + a.val; omega))
theorem halvesC (t : Fin cfg0.N) (f : Fin 4224 → ℝ) : ((upTo f (704 * (t.val / 4)) : ℝ) : EReal) + ((∑ i, f (row t (top i)) : ℝ) : EReal) + ((∑ i, f (row t (bot i)) : ℝ) : EReal)
    = ((upTo f (704 * (t.val / 4) + 704) : ℝ) : EReal) := by
  rw [← EReal.coe_add, ← EReal.coe_add, halves]
theorem halvesL (t : Fin cfg0.N) (f : Fin 4224 → ℝ) : ((1 / 2 * upTo f (704 * (t.val / 4)) : ℝ) : EReal) + ((1 / 2 * ∑ i, f (row t (top i)) : ℝ) : EReal) + ((1 / 2 * ∑ i, f (row t (bot i)) : ℝ) : EReal)
    = ((1 / 2 * upTo f (704 * (t.val / 4) + 704) : ℝ) : EReal) := by
  rw [← EReal.coe_add, ← EReal.coe_add, ← halves, mul_add, mul_add]
include h in
theorem loss_last (t : Fin cfg0.N) (h3 : t.val % 4 = 3) (p : lossAt m c I (t.val - 1) (704 * (t.val / 4)) (by have := t.isLt; omega)) :
    lossAt m c I t.val (704 * (t.val / 4) + 704) t.isLt := by
  intro i k
  have hz := before h t h3
  unfold lossAt at p
  rw [outsAt0_C m c t (by omega) (by omega) (by omega) h3]
  generalize (outsAt0 m c (t.val - 1) _) = prev at hz p ⊢
  frame_out
  simp (disch := decide) only [↓View.readCov_skip, read_unread_whole]
  rw [same23, again_loss]
  refine (loss352 (errBot h t h3 hz) _ i k).trans ?_
  refine (congrArg (· + _) (loss352 (errTop h t h3 hz) _ i k)).trans ?_
  refine (congrArg (fun u => u + _ + _) (p i k)).trans ?_
  exact halvesL t (lTerm I)
include h in
theorem grads_last (t : Fin cfg0.N) (h3 : t.val % 4 = 3) (p : gradsAt m c I (t.val - 1) (704 * (t.val / 4)) (by have := t.isLt; omega)) :
    gradsAt m c I t.val (704 * (t.val / 4) + 704) t.isLt := by
  intro k
  have hz := before h t h3
  unfold gradsAt at p
  rw [outsAt0_C m c t (by omega) (by omega) (by omega) h3]
  generalize (outsAt0 m c (t.val - 1) _) = prev at hz p ⊢
  constructor
  · frame_out
    simp (disch := decide) only [↓View.readCov_skip, read_unread_whole]
    rw [same23, again_dg]
    refine (dg352 (X := fun i => P I (row t (bot i))) (pBot h t h3 hz) (errBot h t h3 hz) _ k).trans ?_
    refine (congrArg (· + _) (dg352 (X := fun i => P I (row t (top i))) (pTop h t h3 hz) (errTop h t h3 hz) _ k)).trans ?_
    refine (congrArg (fun u => u + _ + _) (p k).1).trans ?_
    exact halvesC t (gTerm I k)
  · frame_out
    simp (disch := decide) only [↓View.readCov_skip, read_unread_whole]
    rw [same23, again_db]
    refine (db352 (errBot h t h3 hz) _ k).trans ?_
    refine (congrArg (· + _) (db352 (errTop h t h3 hz) _ k)).trans ?_
    refine (congrArg (fun u => u + _ + _) (p k).2).trans ?_
    exact halvesC t (bTerm I k)
include h in
theorem sums_carried : ∀ (n : ℕ) (hn : n < cfg0.N), lossAt m c I n (704 * ((n + 1) / 4)) hn ∧ gradsAt m c I n (704 * ((n + 1) / 4)) hn := by
  intro n
  induction n with
  | zero =>
    intro hn
    have z1 (i : Fin 8) (k : Fin 128) : (k0_pay1 (F := Ideal)) (ix2 i k) = 0 := by pointwise [k0_pay1]
    have z2 (k : Fin 1024) : (k0_pay2 (F := Ideal)) (ix2 0 k) = 0 := by pointwise [k0_pay2]
    have z3 (k : Fin 1024) : (k0_pay3 (F := Ideal)) (ix2 0 k) = 0 := by pointwise [k0_pay3]
    unfold lossAt gradsAt
    simp only [show 704 * ((0 + 1) / 4) = 0 from rfl, upTo_zero, mul_zero]
    rw [outsAt0_A m c ⟨0, hn⟩ rfl rfl (by show 0 % 4 ≤ 2; decide) (by show ¬ 0 % 4 = 3; decide)]
    exact ⟨fun i k => by frame_out; exact z1 i k, fun k => ⟨by frame_out; exact z2 k, by frame_out; exact z3 k⟩⟩
  | succ n ih =>
    intro hn
    have hp := ih (by omega)
    by_cases h3 : (n + 1) % 4 = 3
    · rw [show 704 * ((n + 1 + 1) / 4) = 704 * ((n + 1) / 4) + 704 by omega]
      exact ⟨loss_last h ⟨n + 1, hn⟩ h3 hp.1, grads_last h ⟨n + 1, hn⟩ h3 hp.2⟩
    · rw [show (n + 1 + 1) / 4 = (n + 1) / 4 by omega]
      unfold lossAt gradsAt at hp ⊢
      by_cases h0 : (n + 1) % 4 = 0
      · by_cases h24 : (n + 1) % 24 = 0
        · exfalso; have := tlt ⟨n + 1, hn⟩; simp only at this; omega
        · rw [outsAt0_D m c ⟨n + 1, hn⟩ h24 h0 (by show (n + 1) % 4 ≤ 2; omega) h3]
          exact hp
      · rw [outsAt0_B m c ⟨n + 1, hn⟩ (by show ¬ (n + 1) % 24 = 0; omega) h0 (by show (n + 1) % 4 ≤ 2; omega) h3]
        exact hp

/-! ## The arrays written -/
/-- The last point. -/
abbrev lastT : Fin cfg0.N := ⟨23, by rw [show cfg0.N = 24 from N_0]; decide⟩
include h in
/-- The layer before its activation. -/
theorem out7 (r : Fin 4224) (f : Fin 4096) : (dats m 0 c).arrAt 7 cfg0.N (ix2 r f) = (H I r f : EReal) := by
  let G : S4224x4096.Idx → EReal := fun j => (H I (j 0) (j 1) : EReal)
  have e : (dats m 0 c).arrAt 7 cfg0.N = G := by
    refine (dats m 0 c).arrAt_eq_of_covers 7 G (by decide +kernel) fun t hf y => ?_
    obtain ⟨i, a, rfl⟩ := idx2 y
    have hs : ((dats m 0 c).after 7 t : S704x1024.Idx → EReal) (ix2 i a) = (H I (row t i) (pcol t a) : EReal) := by
      rw [after0_7]; exact stored7 h t i a
    blk_simp
    refine hs.trans (show G (ix2 (row t i) (pcol t a)) = _ from congrArg G ?_)
    symm; blk_ext [idx t]
  rw [e]; rfl
include h in
/-- The gradient of what the norm reads. -/
theorem out8 (r : Fin 4224) (k : Fin 1024) : (dats m 0 c).arrAt 8 cfg0.N (ix2 r k) = ((onRows (fun b i => dp I b i k) r : ℝ) : EReal) := by
  let G : S4224x1024.Idx → EReal := fun j => ((onRows (fun b i => dp I b i (j 1)) (j 0) : ℝ) : EReal)
  have e : (dats m 0 c).arrAt 8 cfg0.N = G := by
    refine (dats m 0 c).arrAt_eq_of_covers 8 G (by decide +kernel) fun t hf y => ?_
    obtain ⟨i, k, rfl⟩ := idx2 y
    have hs : ((dats m 0 c).after 8 t : S704x1024.Idx → EReal) (ix2 i k) = ((onRows (fun b i => dp I b i k) (row t i) : ℝ) : EReal) := by
      rw [after0_8]; exact (stored89 h t ((flush0_8 t).mp hf) i k).1
    blk_simp
    refine hs.trans (show G (ix2 (row t i) k) = _ from congrArg G ?_)
    symm; blk_ext [idx t]
  rw [e]; rfl
include h in
/-- The same, rounded. -/
theorem out9 (r : Fin 4224) (k : Fin 1024) : (dats m 0 c).arrAt 9 cfg0.N (ix2 r k) = ((onRows (fun b i => dp I b i k) r : ℝ) : EReal) := by
  let G : S4224x1024.Idx → EReal := fun j => ((onRows (fun b i => dp I b i (j 1)) (j 0) : ℝ) : EReal)
  have e : (dats m 0 c).arrAt 9 cfg0.N = G := by
    refine (dats m 0 c).arrAt_eq_of_covers 9 G (by decide +kernel) fun t hf y => ?_
    obtain ⟨i, k, rfl⟩ := idx2 y
    have hs : ((dats m 0 c).after 9 t : S704x1024.Idx → EReal) (ix2 i k) = ((onRows (fun b i => dp I b i k) (row t i) : ℝ) : EReal) := by
      rw [after0_9]; exact (stored89 h t ((flush0_9 t).mp hf) i k).2
    blk_simp
    refine hs.trans (show G (ix2 (row t i) k) = _ from congrArg G ?_)
    symm; blk_ext [idx t]
  rw [e]; rfl
include h in
/-- The loss. -/
theorem out10 (i : Fin 8) (k : Fin 128) : (dats m 0 c).arrAt 10 cfg0.N (ix2 i k) = (loss I : EReal) := by
  refine (congrFun ((dats m 0 c).arrAt_eq_of_after_last 10 lastT (by decide +kernel) (fun j => (outsAt0 m c lastT.val lastT.isLt).2.2.2.1 j) fun j => ?_) (ix2 i k)).trans
    (((sums_carried h lastT.val lastT.isLt).1 i k).trans ?_)
  · rw [after0_10]; blk_simp; rfl
  · refine congrArg (fun x : ℝ => ((1 / 2 * x : ℝ) : EReal)) ((upTo_all (lTerm I)).trans ?_)
    rw [← sum_onRows]; exact Finset.sum_congr rfl fun r _ => mse_eq I r
include h in
/-- The gradient of the norm's scale. -/
theorem out11 (k : Fin 1024) : (dats m 0 c).arrAt 11 cfg0.N (ix2 0 k) = ((∑ b, ∑ i, dy I b i k * hat (p I b i) k : ℝ) : EReal) := by
  refine (congrFun ((dats m 0 c).arrAt_eq_of_after_last 11 lastT (by decide +kernel) (fun j => (outsAt0 m c lastT.val lastT.isLt).2.2.2.2.1 j) fun j => ?_) (ix2 0 k)).trans
    (((sums_carried h lastT.val lastT.isLt).2 k).1.trans ?_)
  · rw [after0_11]; blk_simp; rfl
  · refine congrArg _ ((upTo_all (gTerm I k)).trans ?_)
    rw [← sum_onRows]; exact Finset.sum_congr rfl fun r _ => dg_eq I r k
include h in
/-- The gradient of the norm's shift. -/
theorem out12 (k : Fin 1024) : (dats m 0 c).arrAt 12 cfg0.N (ix2 0 k) = ((∑ b, ∑ i, dy I b i k : ℝ) : EReal) := by
  refine (congrFun ((dats m 0 c).arrAt_eq_of_after_last 12 lastT (by decide +kernel) (fun j => (outsAt0 m c lastT.val lastT.isLt).2.2.2.2.2.1 j) fun j => ?_) (ix2 0 k)).trans
    (((sums_carried h lastT.val lastT.isLt).2 k).2.trans ?_)
  · rw [after0_12]; blk_simp; rfl
  · refine congrArg _ ((upTo_all (bTerm I k)).trans ?_)
    rw [← sum_onRows]; exact Finset.sum_congr rfl fun r _ => D_eq I r k
end Cert.Kernel6Ideal.Loss
-- ==== Proof.LossReference.lean ====
module
public import proofs.«01_k».proof.Proof.LossKernel
public import proofs.«01_k».proof.Proof.ActReference
public import proofs.«01_k».proof.Proof.GlaChunk
public import proofs.«01_k».proof.Proof.Gen.Reference6Ideal.Run
public import proofs.«01_k».proof.Proof.Gen.Reference6Ideal.Read
@[expose] public section
set_option maxRecDepth 16384
/-! # What the reference of the feed-forward layer and its loss computes

The forward lines and their derivative, read one operation after another as real numbers. -/
noncomputable section
namespace Cert.Reference6Ideal.Loss
open Cert.Reference6Ideal Cert.Reference6Ideal.Read Idealize.ShloMosaic Idealize.ShloMosaic.TcCoe Cert.Real Cert.Rows Cert.Weights Cert.Loss
open Cert.KernelIdeal.Head (n1024)
open Cert.Kernel3Ideal.Gla (lit_1)
open Cert.Reference5Ideal.Act (sum_rows zero_int)

/-- The arguments as real numbers. -/
structure Args (X0 : (⟨S2x2064x1024, .f32⟩ : BufTy).Contents (Elt Ideal)) (X1 : (⟨S1024x4096, .f32⟩ : BufTy).Contents (Elt Ideal)) (X2 : (⟨S4096x1024, .f32⟩ : BufTy).Contents (Elt Ideal))
    (X3 X4 : (⟨S1024, .f32⟩ : BufTy).Contents (Elt Ideal)) (X5 : (⟨S2x2048x1024, .f32⟩ : BufTy).Contents (Elt Ideal)) (I : Inp) : Prop where
  a0 : ∀ b i k, X0 (ix3 b i k) = (I.s b i k : EReal)
  a1 : ∀ k f, X1 (ix2 k f) = (I.w1 k f : EReal)
  a2 : ∀ f k, X2 (ix2 f k) = (I.w2 f k : EReal)
  a3 : ∀ k, X3 (ix1 k) = (I.g k : EReal)
  a4 : ∀ k, X4 (ix1 k) = (I.b k : EReal)
  a5 : ∀ b i k, X5 (ix3 b i k) = (I.y b i k : EReal)

variable {X0 : (⟨S2x2064x1024, .f32⟩ : BufTy).Contents (Elt Ideal)} {X1 : (⟨S1024x4096, .f32⟩ : BufTy).Contents (Elt Ideal)} {X2 : (⟨S4096x1024, .f32⟩ : BufTy).Contents (Elt Ideal)}
    {X3 X4 : (⟨S1024, .f32⟩ : BufTy).Contents (Elt Ideal)} {X5 : (⟨S2x2048x1024, .f32⟩ : BufTy).Contents (Elt Ideal)} {I : Inp} (h : Args X0 X1 X2 X3 X4 X5 I)

/-- The sum over all rows of a batch, those without a token first. -/
theorem sum_tokens (f : Fin 2064 → ℝ) (h0 : ∀ i : Fin 2064, i.val < 16 → f i = 0) : ∑ i : Fin 2048, f ⟨16 + i.val, by omega⟩ = ∑ i, f i := by
  rw [show ∑ i, f i = ∑ i : Fin (16 + 2048), f i from rfl, Fin.sum_univ_add, Finset.sum_eq_zero fun i _ => h0 (Fin.castAdd 2048 i) i.isLt, zero_add]
  rfl
/-- The front rows' padding, at one place. -/
theorem pad16_at (x : S2x2048x1024.Idx → EReal) (v : S_.Idx → EReal) (hv : ∀ i, v i = 0) (b : Fin 2) (i : Fin 2064) (k : Fin 1024) :
    pad S2x2064x1024 ![0, 16, 0] ![0, 0, 0] ![0, 0, 0] x v Gen.pads_S2x2048x1024_S2x2064x1024_000_1600_000 Gen.h_S_ (ix3 b i k)
      = if h : 16 ≤ i.val then x (ix3 b ⟨i.val - 16, by omega⟩ k) else 0 := by
  refine (Layout.pad3_at (b' := 2064) (l := 16) x v Gen.pads_S2x2048x1024_S2x2064x1024_000_1600_000 Gen.h_S_ rfl b i k).trans ?_
  by_cases hi : 16 ≤ i.val
  · rw [dif_pos ⟨hi, k.isLt⟩, dif_pos hi]
  · rw [dif_neg (fun H => hi H.1), dif_neg hi, hv]

include h
theorem hid_at (b : Fin 2) (i : Fin 2064) (f : Fin 4096) : val_main_v0 (F := Ideal) X0 X1 (ix3 b i f) = (hid I b i f : EReal) := by
  pointwise [val_main_v0]
  simp only [h.a0, h.a1, ← EReal.coe_mul, coe_sum, hid, pre]
theorem p_at (b : Fin 2) (i : Fin 2064) (k : Fin 1024) : val_main_v6 (F := Ideal) X0 X1 X2 (ix3 b i k) = (p I b i k : EReal) := by
  have e := hid_at h b i
  unfold val_main_v6 val_main_v5 val_main_v4 val_main_v3
  generalize val_main_v0 (F := Ideal) X0 X1 = w at e ⊢
  pointwise [val_main_v2, val_main_v1, val_main_cst, val_main_call0_v0, val_main_call0_cst]
  simp only [e, h.a0, h.a2, lit_alpha, coe_max0, ← EReal.coe_mul, coe_sum, ← EReal.coe_add, p]
/-- The rows less their means, the two times the forward lines write them. -/
theorem cen_at (b : Fin 2) (i : Fin 2064) (k : Fin 1024) :
    val_main_v12 (F := Ideal) X0 X1 X2 (ix3 b i k) = (cen (p I b i) k : EReal) ∧ val_main_v21 (F := Ideal) X0 X1 X2 (ix3 b i k) = (cen (p I b i) k : EReal) := by
  have e := p_at h b i
  constructor
  on_goal 1 => unfold val_main_v12 val_main_v11 val_main_v10 val_main_v8 val_main_v7
  on_goal 2 => unfold val_main_v21 val_main_v20 val_main_v10 val_main_v8 val_main_v7
  all_goals
    generalize val_main_v6 (F := Ideal) X0 X1 X2 = w at e ⊢
    pointwise [val_main_v9, val_main_cst_0, val_main_cst_1]
    simp only [e, lit_1024, coe_sum, div_coe _ _ (by norm_num : (1024 : ℝ) ≠ 0), ← EReal.coe_sub, cen, mean, n1024]
/-- The variances, the literal added. -/
theorem var_at (b : Fin 2) (i : Fin 2064) : val_main_v23 (F := Ideal) X0 X1 X2 (ix3 b i 0) = ((var (p I b i) + eps : ℝ) : EReal) := by
  have e := fun k => (cen_at h b i k).1
  unfold val_main_v23 val_main_v19 val_main_v17 val_main_v16 val_main_v13
  generalize val_main_v12 (F := Ideal) X0 X1 X2 = w at e ⊢
  pointwise [val_main_v22, val_main_v18, val_main_cst_3, val_main_cst_4, val_main_cst_5]
  simp only [e, lit_1024, lit_eps, ← EReal.coe_mul, coe_sum, div_coe _ _ (by norm_num : (1024 : ℝ) ≠ 0), ← EReal.coe_add, var, n1024]
theorem rs_at (b : Fin 2) (i : Fin 2064) : val_main_v24 (F := Ideal) X0 X1 X2 (ix3 b i 0) = (rs (p I b i) : EReal) := by
  unfold val_main_v24
  have e := var_at h b i
  generalize val_main_v23 (F := Ideal) X0 X1 X2 = w at e ⊢
  pointwise
  rw [e, rsqrt_coe_pos _ (var_eps _), rs]
/-- The derivative of one over the root. -/
theorem rs3_at (b : Fin 2) (i : Fin 2064) : val_main_v27 (F := Ideal) X0 X1 X2 (ix3 b i 0) = ((-1 / 2 * (rs (p I b i) / (var (p I b i) + eps)) : ℝ) : EReal) := by
  have e := var_at h b i
  have e' := rs_at h b i
  unfold val_main_v27 val_main_v25
  generalize val_main_v23 (F := Ideal) X0 X1 X2 = w at e ⊢
  generalize val_main_v24 (F := Ideal) X0 X1 X2 = w' at e' ⊢
  pointwise [val_main_v26, val_main_cst_6]
  rw [e, e', lit_neg_half, div_coe _ _ (var_eps _).ne', ← EReal.coe_mul]
theorem hat_at (b : Fin 2) (i : Fin 2064) (k : Fin 1024) : val_main_v29 (F := Ideal) X0 X1 X2 (ix3 b i k) = (hat (p I b i) k : EReal) := by
  have e := (cen_at h b i k).2
  have e' := rs_at h b i
  unfold val_main_v29 val_main_v28
  generalize val_main_v21 (F := Ideal) X0 X1 X2 = w at e ⊢
  generalize val_main_v24 (F := Ideal) X0 X1 X2 = w' at e' ⊢
  pointwise
  rw [e, e', ← EReal.coe_mul, hat]
/-- The errors of the tokens. -/
theorem err_at (b : Fin 2) (i : Fin 2048) (k : Fin 1024) : val_main_v37 (F := Ideal) X0 X1 X2 X3 X4 X5 (ix3 b i k) = (err I b ⟨16 + i.val, by omega⟩ k : EReal) := by
  have e := hat_at h b ⟨16 + i.val, by omega⟩ k
  unfold val_main_v37 val_main_v36 val_main_v35 val_main_v32
  generalize val_main_v29 (F := Ideal) X0 X1 X2 = w at e ⊢
  pointwise [val_main_v31, val_main_v30, val_main_v34, val_main_v33]
  rw [e, h.a3, h.a4, h.a5, ← EReal.coe_mul, ← EReal.coe_add, ← EReal.coe_sub, err, dif_pos (by dsimp only; omega)]
  exact congrArg (fun n => ((hat _ k * I.g k + I.b k - I.y b n k : ℝ) : EReal)) (Fin.ext (by dsimp only; omega))
/-- The loss. -/
theorem loss_at (j : S_.Idx) : val_main_v45 (F := Ideal) X0 X1 X2 X3 X4 X5 j = (loss I : EReal) := by
  have e := err_at h
  unfold val_main_v45 val_main_v44 val_main_v43 val_main_v41 val_main_v38
  generalize val_main_v37 (F := Ideal) X0 X1 X2 X3 X4 X5 = w at e ⊢
  pointwise [val_main_v42, val_main_cst_8, val_main_cst_9, val_main_cst_10, val_main_cst_11]
  simp only [e, lit_half, lit_1024, ← EReal.coe_mul, coe_sum, div_coe _ _ (by norm_num : (1024 : ℝ) ≠ 0), loss, EReal.coe_eq_coe_iff]
  refine congrArg _ (Finset.sum_congr rfl fun b _ => sum_tokens (mse I b) fun i hi => ?_)
  simp only [mse, err, dif_neg (show ¬ 16 ≤ i.val by omega), mul_zero, Finset.sum_const_zero, zero_div]
/-- The gradient of the second norm's output. -/
theorem dy_at (b : Fin 2) (i : Fin 2064) (k : Fin 1024) : val_main_v52 (F := Ideal) X0 X1 X2 X3 X4 X5 (ix3 b i k) = (dy I b i k : EReal) := by
  unfold val_main_v52
  refine (pad16_at _ _ (fun j => by pointwise [val_main_cst_15]) b i k).trans ?_
  by_cases hi : 16 ≤ i.val
  · have e := err_at h b ⟨i.val - 16, by omega⟩ k
    rw [dif_pos hi]
    unfold val_main_v51 val_main_v40
    generalize val_main_v37 (F := Ideal) X0 X1 X2 X3 X4 X5 = w at e ⊢
    pointwise [val_main_v50, val_main_v49, val_main_v48, val_main_v47, val_main_v46, val_main_v39, val_main_cst_7, val_main_cst_12, val_main_cst_13, val_main_cst_14]
    simp only [e, lit_half, lit_1, lit_two, lit_1024, ← EReal.coe_mul, div_coe _ _ (by norm_num : (1024 : ℝ) ≠ 0), EReal.coe_eq_coe_iff]
    rw [show (⟨16 + (i.val - 16), by omega⟩ : Fin 2064) = i from Fin.ext (by dsimp only; omega), dy]
    ring
  · rw [dif_neg hi, dy, err, dif_neg hi, zero_mul]; rfl
/-- The gradient times the scale. -/
theorem d_at (b : Fin 2) (i : Fin 2064) (k : Fin 1024) : val_main_v60 (F := Ideal) X0 X1 X2 X3 X4 X5 (ix3 b i k) = ((dy I b i k * I.g k : ℝ) : EReal) := by
  have e := dy_at h b i k
  unfold val_main_v60
  generalize val_main_v52 (F := Ideal) X0 X1 X2 X3 X4 X5 = w at e ⊢
  pointwise [val_main_v59, val_main_v30]
  rw [e, h.a3, EReal.coe_mul]
/-- The gradient through the variance. -/
theorem sq_at (b : Fin 2) (i : Fin 2064) (k : Fin 1024) : val_main_v75 (F := Ideal) X0 X1 X2 X3 X4 X5 (ix3 b i k)
    = (((∑ j, cen (p I b i) j * (dy I b i j * I.g j)) * (-1 / 2 * (rs (p I b i) / (var (p I b i) + eps))) / 1024 * (2 * cen (p I b i) k) : ℝ) : EReal) := by
  have e := fun k => (cen_at h b i k).2
  have e' := fun k => (cen_at h b i k).1
  have e1 := rs3_at h b i
  have e2 := d_at h b i
  unfold val_main_v75 val_main_v74 val_main_v73 val_main_v72 val_main_v67 val_main_v64 val_main_v63 val_main_v62 val_main_v15
  generalize val_main_v12 (F := Ideal) X0 X1 X2 = w at e' ⊢
  generalize val_main_v21 (F := Ideal) X0 X1 X2 = w at e ⊢
  generalize val_main_v27 (F := Ideal) X0 X1 X2 = w at e1 ⊢
  generalize val_main_v60 (F := Ideal) X0 X1 X2 X3 X4 X5 = w at e2 ⊢
  pointwise [val_main_v71, val_main_v14, val_main_cst_2, val_main_cst_20, val_main_cst_22, val_main_cst_23]
  simp only [Fin.sum_univ_one, e, e', e1, e2, lit_1024, lit_two, ← EReal.coe_mul, coe_sum, div_coe _ _ (by norm_num : (1024 : ℝ) ≠ 0)]
/-- The gradient of a row, as differentiation writes it. -/
theorem row_at (b : Fin 2) (i : Fin 2064) (k : Fin 1024) : val_main_v85 (F := Ideal) X0 X1 X2 X3 X4 X5 (ix3 b i k) = (dp I b i k : EReal) := by
  rw [dp, ← lnVjp_eq _ _ (by norm_num : 1024 ≠ 0)]
  have e1 := rs_at h b i
  have e2 := d_at h b i
  have e3 := sq_at h b i
  unfold val_main_v85 val_main_v84 val_main_v83 val_main_v82 val_main_v80 val_main_v79 val_main_v78 val_main_v77 val_main_v76 val_main_v70 val_main_v69 val_main_v68 val_main_v66 val_main_v65
  generalize val_main_v24 (F := Ideal) X0 X1 X2 = w at e1 ⊢
  generalize val_main_v60 (F := Ideal) X0 X1 X2 X3 X4 X5 = w at e2 ⊢
  generalize val_main_v75 (F := Ideal) X0 X1 X2 X3 X4 X5 = w at e3 ⊢
  pointwise [val_main_v81, val_main_cst_21, val_main_cst_24, val_main_cst_25, val_main_cst_26]
  simp only [Fin.sum_univ_one, e1, e2, e3, lit_1024, ← EReal.coe_mul, ← EReal.coe_neg, coe_sum, ← EReal.coe_add, div_coe _ _ (by norm_num : (1024 : ℝ) ≠ 0), lnVjp, n1024]

theorem out0 (r : Fin 4224) (f : Fin 4096) : val_main_v88 (F := Ideal) X0 X1 (ix2 r f) = (H I r f : EReal) :=
  host_at _ _ Gen.pads_S2x2064x4096_S2x2112x4096_000_4800_000 Gen.h_S_ (zero_int _) Gen.shapeCasts_S2x2112x4096_S4224x4096 (hid_at h) r f
theorem out1 (r : Fin 4224) (k : Fin 1024) : val_main_v90 (F := Ideal) X0 X1 X2 X3 X4 X5 (ix2 r k) = ((onRows (fun b i => dp I b i k) r : ℝ) : EReal) :=
  host_at _ _ Gen.pads_S2x2064x1024_S2x2112x1024_000_4800_000 Gen.h_S_ (zero_int _) Gen.shapeCasts_S2x2112x1024_S4224x1024 (row_at h) r k
theorem out2 (r : Fin 4224) (k : Fin 1024) : val_main_v93 (F := Ideal) X0 X1 X2 X3 X4 X5 (ix2 r k) = ((onRows (fun b i => dp I b i k) r : ℝ) : EReal) := out1 h r k
theorem out3 (i : Fin 8) (k : Fin 128) : val_main_v94 (F := Ideal) X0 X1 X2 X3 X4 X5 (ix2 i k) = (loss I : EReal) := loss_at h _
/-- The gradient of the norm's scale. -/
theorem out4 (k : Fin 1024) : val_main_v95 (F := Ideal) X0 X1 X2 X3 X4 X5 (ix2 0 k) = ((∑ b, ∑ i, dy I b i k * hat (p I b i) k : ℝ) : EReal) := by
  refine (sum_rows (val_main_v56 (F := Ideal) X0 X1 X2 X3 X4 X5) k).trans ?_
  simp only [val_main_v56_apply, hat_at h, dy_at h, coe_sum, Ideal.mulf_def, ← EReal.coe_mul, mul_comm]
/-- The gradient of the norm's shift. -/
theorem out5 (k : Fin 1024) : val_main_v96 (F := Ideal) X0 X1 X2 X3 X4 X5 (ix2 0 k) = ((∑ b, ∑ i, dy I b i k : ℝ) : EReal) := by
  refine (sum_rows (val_main_v52 (F := Ideal) X0 X1 X2 X3 X4 X5) k).trans ?_
  simp only [dy_at h, coe_sum]
end Cert.Reference6Ideal.Loss
-- ==== Proof.LossClaim.lean ====
module
public import proofs.«01_k».proof.Defs
public import proofs.«01_k».proof.Proof.LossReference
public import proofs.«01_k».proof.Proof.Finite
public import proofs.«01_k».proof.Proof.Gen.Pre_finite6
public import Idealize.ShloMosaic.Adequacy
public import Idealize.ShloMosaic.Init
@[expose] public section
set_option maxRecDepth 16384
/-! # The feed-forward layer and its loss: the claims -/
noncomputable section
namespace Cert.Proof.Loss
open Idealize.ShloMosaic Idealize.SL.Sem Cert.Kernel6
open Cert.KernelIdeal.Head (idx1 idx2)

theorem frame_reference : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- The two programs end with equal losses and gradients where the arguments are finite. -/
theorem value : Cert.algebraic_Kernel6Ideal_Reference6Ideal_pre_finite6 := by
  intro m g m' g' hp hm
  have hx (c : Dev Cert.Kernel6Ideal.nD) : ∃ I, Cert.Kernel6Ideal.Loss.Args m c I := by
    obtain ⟨p0, p1, p2, p3, p4, p5⟩ := hp c
    choose x0 h0 using Cert.Real.finite_at _ _ _ p0
    choose x1 h1 using Cert.Real.finite_at _ _ _ p1
    choose x2 h2 using Cert.Real.finite_at _ _ _ p2
    choose x3 h3 using Cert.Real.finite_at _ _ _ p3
    choose x4 h4 using Cert.Real.finite_at _ _ _ p4
    choose x5 h5 using Cert.Real.finite_at _ _ _ p5
    exact ⟨⟨fun b i k => x0 (ix3 b i k), fun k f => x1 (ix2 k f), fun f k => x2 (ix2 f k), fun k => x3 (ix1 k), fun k => x4 (ix1 k), fun b i k => x5 (ix3 b i k)⟩,
      ⟨fun _ _ _ => h0 _, fun _ _ => h1 _, fun _ _ => h2 _, fun _ => h3 _, fun _ => h4 _, fun _ _ _ => h5 _⟩⟩
  choose I hk using hx
  refine ⟨_, _, _, _, _, _, Cert.Kernel6Ideal.Value.run_blocks (F := Ideal) m g,
    (θ_run Cert.Reference6Ideal.defs _ _).mono (fun r h c => ?_) (Cert.Reference6Ideal.Value.run (F := Ideal) m' g')⟩
  obtain ⟨e0, e1, e2, e3, e4, e5, ha⟩ := h c
  obtain ⟨q0, q1, q2, q3, q4, q5⟩ := hm c
  have hr : Cert.Reference6Ideal.Loss.Args (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (I c) :=
    ⟨fun b i k => (congrFun q0 (ix3 b i k)).trans ((hk c).a0 b i k), fun k f => (congrFun q1 (ix2 k f)).trans ((hk c).a1 k f), fun f k => (congrFun q2 (ix2 f k)).trans ((hk c).a2 f k),
      fun k => (congrFun q3 (ix1 k)).trans ((hk c).a3 k), fun k => (congrFun q4 (ix1 k)).trans ((hk c).a4 k), fun b i k => (congrFun q5 (ix3 b i k)).trans ((hk c).a5 b i k)⟩
  refine ⟨e0.trans (funext fun j => ?_), (e1.trans (Cert.Reference6Ideal.Read.val_main_v90_eq (F := Ideal) m' c)).trans (funext fun j => ?_),
    (e2.trans (Cert.Reference6Ideal.Read.val_main_v93_eq (F := Ideal) m' c)).trans (funext fun j => ?_), (e3.trans (Cert.Reference6Ideal.Read.val_main_v94_eq (F := Ideal) m' c)).trans (funext fun j => ?_),
    (e4.trans (Cert.Reference6Ideal.Read.val_main_v95_eq (F := Ideal) m' c)).trans (funext fun j => ?_), (e5.trans (Cert.Reference6Ideal.Read.val_main_v96_eq (F := Ideal) m' c)).trans (funext fun j => ?_), ha⟩
  · obtain ⟨r, f, rfl⟩ := idx2 j
    exact (Cert.Reference6Ideal.Loss.out0 hr r f).trans (Cert.Kernel6Ideal.Loss.out7 (hk c) r f).symm
  · obtain ⟨r, k, rfl⟩ := idx2 j
    exact (Cert.Reference6Ideal.Loss.out1 hr r k).trans (Cert.Kernel6Ideal.Loss.out8 (hk c) r k).symm
  · obtain ⟨r, k, rfl⟩ := idx2 j
    exact (Cert.Reference6Ideal.Loss.out2 hr r k).trans (Cert.Kernel6Ideal.Loss.out9 (hk c) r k).symm
  · obtain ⟨i, k, rfl⟩ := idx2 j
    exact (Cert.Reference6Ideal.Loss.out3 hr i k).trans (Cert.Kernel6Ideal.Loss.out10 (hk c) i k).symm
  · obtain ⟨k, rfl⟩ := idx1 j
    exact (Cert.Reference6Ideal.Loss.out4 hr k).trans (Cert.Kernel6Ideal.Loss.out11 (hk c) k).symm
  · obtain ⟨k, rfl⟩ := idx1 j
    exact (Cert.Reference6Ideal.Loss.out5 hr k).trans (Cert.Kernel6Ideal.Loss.out12 (hk c) k).symm
end Cert.Proof.Loss
-- ==== Proof.ProjEntry.lean ====
module
public import proofs.«01_k».proof.Proof.ActKernel
public import proofs.«01_k».proof.Proof.Gen.Kernel7Ideal.Value
public import proofs.«01_k».proof.Proof.Gen.Kernel7Ideal
@[expose] public section
set_option maxRecDepth 16384
/-! # What the blocks of the output projection hold

The claim has no precondition, so everything here is an extended real: an infinite or undefined argument goes through both programs alike. -/
noncomputable section
namespace Cert.Proj
open Idealize.ShloMosaic Cert.Real
open scoped BigOperators

/-- The arguments: the rows of the residual, of the convolution and of the recurrence, the weight, the norm's scale and shift. -/
structure Inp where
  s : Fin 2 → Fin 2064 → Fin 1024 → EReal
  co : Fin 2 → Fin 2064 → Fin 512 → EReal
  go : Fin 2 → Fin 2064 → Fin 512 → EReal
  w : Fin 1024 → Fin 1024 → EReal
  g : Fin 1024 → EReal
  b : Fin 1024 → EReal

/-- A function of the positions as one of the rows, zero in front of a sequence. -/
def onRowsE (f : Fin 2 → Fin 2064 → EReal) (r : Fin 4224) : EReal :=
  if 48 ≤ r.val % 2112 then f ⟨r.val / 2112, by omega⟩ ⟨r.val % 2112 - 48, by omega⟩ else 0

theorem onRowsE_pos (f : Fin 2 → Fin 2064 → EReal) (b : Fin 2) (i : Fin 2064) (r : Fin 4224) (hr : r.val = b.val * 2112 + (48 + i.val)) : onRowsE f r = f b i := by
  have e1 : (⟨r.val / 2112, by omega⟩ : Fin 2) = b := Fin.ext (by show r.val / 2112 = b.val; omega)
  have e2 : (⟨r.val % 2112 - 48, by omega⟩ : Fin 2064) = i := Fin.ext (by show r.val % 2112 - 48 = i.val; omega)
  rw [onRowsE, if_pos (by omega), e1, e2]

/-- The host's padding and reshaping, at one place. -/
theorem host_atE {c : ℕ} {u : Shape} (x : (⟨3, ![2, 2064, c]⟩ : Shape).Idx → EReal) (v : u.Idx → EReal)
    (hp : (⟨3, ![2, 2064, c]⟩ : Shape).Pads ![0, 48, 0] ![0, 0, 0] ![0, 0, 0] ⟨3, ![2, 2112, c]⟩) (hu : 0 < u.numel) (hv : v (Shape.Idx.first hu) = 0)
    (hs : (⟨3, ![2, 2112, c]⟩ : Shape).ShapeCasts ⟨2, ![4224, c]⟩) {f : Fin 2 → Fin 2064 → Fin c → EReal} (e : ∀ b i k, x (ix3 b i k) = f b i k)
    (r : Fin 4224) (k : Fin c) :
    shapeCast ⟨2, ![4224, c]⟩ (pad ⟨3, ![2, 2112, c]⟩ ![0, 48, 0] ![0, 0, 0] ![0, 0, 0] x v hp hu) hs (ix2 r k) = onRowsE (fun b i => f b i k) r := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  refine (Layout.rows_at _ _ rfl b j k).trans ((Layout.pad3_at (b' := 2112) (l := 48) x v hp hu rfl b j k).trans ?_)
  by_cases hj : 48 ≤ j.val
  · rw [dif_pos ⟨hj, k.isLt⟩, e, onRowsE_pos (fun b i => f b i k) b ⟨j.val - 48, by omega⟩ _ (by dsimp only; omega)]
  · rw [dif_neg (fun H => hj H.1), hv, onRowsE, if_neg (by dsimp only; omega)]

/-- A row normalised, scaled and shifted: less its mean, times one over the root of its variance and a small number. -/
def meanE (p : Fin 1024 → EReal) : EReal := Ideal.div (∑ k, p k) (Ideal.ofBits .f32 0x44800000#32)
def varE (p : Fin 1024 → EReal) : EReal := Ideal.div (∑ k, (p k - meanE p) * (p k - meanE p)) (Ideal.ofBits .f32 0x44800000#32)
def lnE (p g b : Fin 1024 → EReal) (k : Fin 1024) : EReal := (p k - meanE p) * Ideal.rsqrt (varE p + Ideal.ofBits .f32 0x3727C5AC#32) * g k + b k

variable (I : Inp)
/-- The two mixed rows beside each other. -/
def cat (b : Fin 2) (i : Fin 2064) (a : Fin 1024) : EReal := if h : a.val < 512 then I.co b i ⟨a.val, h⟩ else I.go b i ⟨a.val - 512, by omega⟩
/-- The rows that the norm reads. -/
def p (b : Fin 2) (i : Fin 2064) (k : Fin 1024) : EReal := Ideal.ofBits .f32 0x3F9837F0#32 * I.s b i k + ∑ a, cat I b i a * I.w a k
def P (r : Fin 4224) (k : Fin 1024) : EReal := onRowsE (fun b i => p I b i k) r

/-- The upper and the lower half of the weight's rows. -/
abbrev lo (a : Fin 512) : Fin 1024 := ⟨a.val, by omega⟩
abbrev up (a : Fin 512) : Fin 1024 := ⟨512 + a.val, by omega⟩
/-- The product with the whole weight is the sum of the two products with its halves. -/
theorem sum_cat (b : Fin 2) (i : Fin 2064) (k : Fin 1024) :
    (∑ a, I.co b i a * I.w (lo a) k) + ∑ a, I.go b i a * I.w (up a) k = ∑ a, cat I b i a * I.w a k := by
  rw [show ∑ a, cat I b i a * I.w a k = ∑ a : Fin (512 + 512), cat I b i a * I.w a k from rfl, Fin.sum_univ_add]
  congr 1
/-- On the rows in front of a sequence both products vanish. -/
theorem P_eq (r : Fin 4224) (k : Fin 1024) :
    Ideal.ofBits .f32 0x3F9837F0#32 * onRowsE (fun b i => I.s b i k) r
      + ((∑ a, onRowsE (fun b i => I.co b i a) r * I.w (lo a) k) + ∑ a, onRowsE (fun b i => I.go b i a) r * I.w (up a) k) = P I r k := by
  unfold P onRowsE
  split_ifs
  · rw [sum_cat]; rfl
  · simp
end Cert.Proj

namespace Cert.Kernel7Ideal.Proj
open Cert.Kernel7Ideal Cert.Kernel7Ideal.Gen Idealize.ShloMosaic Idealize.ShloMosaic.TcCoe Cert.Real Cert.Proj
variable (m : (ℓ : Loc nD τ sig) → Buf (Elt Ideal) ℓ) (c : Dev nD)

/-- The memory holds the arguments. -/
structure Args (I : Inp) : Prop where
  a0 : ∀ b i k, m ((c : Thread nD τ).loc main_arg0) (ix3 b i k) = I.s b i k
  a1 : ∀ b i k, m ((c : Thread nD τ).loc main_arg1) (ix3 b i k) = I.co b i k
  a2 : ∀ b i k, m ((c : Thread nD τ).loc main_arg2) (ix3 b i k) = I.go b i k
  a3 : ∀ a k, m ((c : Thread nD τ).loc main_arg3) (ix2 a k) = I.w a k
  a4 : ∀ k, m ((c : Thread nD τ).loc main_arg4) (ix1 k) = I.g k
  a5 : ∀ k, m ((c : Thread nD τ).loc main_arg5) (ix1 k) = I.b k

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
abbrev rowOf (x : FVec Ideal S1024 .f32) : FVec Ideal S1x1024 .f32 := broadcastInDim S1x1024 ![1] bcast_S1024_S1x1024_1 x
abbrev rows512 (x : FVec Ideal S2x2064x512 .f32) : FVec Ideal S4224x512 .bf16 :=
  truncf .bf16 (shapeCast S4224x512 (pad S2x2112x512 ![0, 48, 0] ![0, 0, 0] ![0, 0, 0] x zeroI pads_S2x2064x512_S2x2112x512_000_4800_000 h_S_) shapeCasts_S2x2112x512_S4224x512) bitsLt_bf16_f32

variable {m c} {I : Inp} (h : Args m c I)
theorem V_all :
    V m c main_v1 = shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024
    ∧ V m c main_v4 = rows512 (m ((c : Thread nD τ).loc main_arg1))
    ∧ V m c main_v7 = rows512 (m ((c : Thread nD τ).loc main_arg2))
    ∧ V m c main_v8 = (truncf .bf16 (m ((c : Thread nD τ).loc main_arg3) : FVec Ideal S1024x1024 .f32) bitsLt_bf16_f32 : FVec Ideal S1024x1024 .bf16)
    ∧ V m c main_v9 = rowOf (m ((c : Thread nD τ).loc main_arg4))
    ∧ V m c main_v10 = rowOf (m ((c : Thread nD τ).loc main_arg5)) := by
  simp only [V, hostOps0, hostOps0_1, hostOps0_2, hostOps0_3, hostOps0_4, hostOps0_5, hostOps0_6, List.flatten_cons, List.flatten_nil, List.cons_append, List.nil_append, List.append_nil]
  refine ⟨?_, ?_, ?_, ?_, ?_, ?_⟩ <;> (entry_read; rfl)

include h in
theorem s_at (r : Fin 4224) (k : Fin 1024) : V m c main_v1 (ix2 r k) = onRowsE (fun b i => I.s b i k) r := by
  rw [V_all.1]
  exact host_atE _ zeroI pads_S2x2064x1024_S2x2112x1024_000_4800_000 h_S_ (zeroI_apply _) shapeCasts_S2x2112x1024_S4224x1024 h.a0 r k
include h in
theorem co_at (r : Fin 4224) (k : Fin 512) : V m c main_v4 (ix2 r k) = onRowsE (fun b i => I.co b i k) r := by
  rw [V_all.2.1]
  exact host_atE _ zeroI pads_S2x2064x512_S2x2112x512_000_4800_000 h_S_ (zeroI_apply _) shapeCasts_S2x2112x512_S4224x512 h.a1 r k
include h in
theorem go_at (r : Fin 4224) (k : Fin 512) : V m c main_v7 (ix2 r k) = onRowsE (fun b i => I.go b i k) r := by
  rw [V_all.2.2.1]
  exact host_atE _ zeroI pads_S2x2064x512_S2x2112x512_000_4800_000 h_S_ (zeroI_apply _) shapeCasts_S2x2112x512_S4224x512 h.a2 r k
include h in
theorem w_at (a k : Fin 1024) : V m c main_v8 (ix2 a k) = I.w a k := by
  rw [V_all.2.2.2.1]; exact h.a3 a k
include h in
theorem g_at (k : Fin 1024) : V m c main_v9 (ix2 0 k) = I.g k := by
  rw [V_all.2.2.2.2.1, ← h.a4]
  generalize m ((c : Thread nD τ).loc main_arg4) = w
  unfold rowOf
  pointwise
include h in
theorem b_at (k : Fin 1024) : V m c main_v10 (ix2 0 k) = I.b k := by
  rw [V_all.2.2.2.2.2, ← h.a5]
  generalize m ((c : Thread nD τ).loc main_arg5) = w
  unfold rowOf
  pointwise

/-! ## The blocks of a grid point -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] :=
  (by decide +kernel : ∀ t : Fin grid0.N, _)
theorem tlt (t : Fin cfg0.N) : t.val < 6 := by have := t.isLt; simp only [show cfg0.N = 6 from N_0] at this; exact this
/-- Row `i` of a tile. -/
abbrev row (t : Fin cfg0.N) (i : Fin 704) : Fin 4224 := ⟨t.val * 704 + i.val, by have := tlt t; omega⟩
include h
theorem b0 (t : Fin cfg0.N) (i : Fin 704) (k : Fin 1024) : iblk m c 0 t (ix2 i k) = onRowsE (fun b i => I.s b i k) (row t i) := by
  rw [← s_at h]; show V m c main_v1 (((cfg0.win 0).blk t).view.emb _) = _; blk_ext [idx t]
theorem b1 (t : Fin cfg0.N) (i : Fin 704) (k : Fin 512) : iblk m c 1 t (ix2 i k) = onRowsE (fun b i => I.co b i k) (row t i) := by
  rw [← co_at h]; show V m c main_v4 (((cfg0.win 1).blk t).view.emb _) = _; blk_ext [idx t]
theorem b2 (t : Fin cfg0.N) (i : Fin 704) (k : Fin 512) : iblk m c 2 t (ix2 i k) = onRowsE (fun b i => I.go b i k) (row t i) := by
  rw [← go_at h]; show V m c main_v7 (((cfg0.win 2).blk t).view.emb _) = _; blk_ext [idx t]
theorem b3 (t : Fin cfg0.N) (a k : Fin 1024) : iblk m c 3 t (ix2 a k) = I.w a k := by
  rw [← w_at h]; show V m c main_v8 (((cfg0.win 3).blk t).view.emb _) = _; blk_ext [idx t]
theorem b4 (t : Fin cfg0.N) (k : Fin 1024) : iblk m c 4 t (ix2 0 k) = I.g k := by
  rw [← g_at h]; show V m c main_v9 (((cfg0.win 4).blk t).view.emb _) = _; blk_ext [idx t]
theorem b5 (t : Fin cfg0.N) (k : Fin 1024) : iblk m c 5 t (ix2 0 k) = I.b k := by
  rw [← b_at h]; show V m c main_v10 (((cfg0.win 5).blk t).view.emb _) = _; blk_ext [idx t]
end Cert.Kernel7Ideal.Proj
-- ==== Proof.ProjKernel.lean ====
module
public import proofs.«01_k».proof.Proof.ProjEntry
@[expose] public section
set_option maxRecDepth 16384
/-! # What the output projection computes

Each grid point stores its tile in four blocks of 176 rows; the blocks differ only in the rows that they read. -/
noncomputable section
namespace Cert.Kernel7Ideal.Proj
open Cert.Kernel7Ideal Cert.Kernel7Ideal.Gen Idealize.ShloMosaic Idealize.ShloMosaic.TcCoe Cert.Real Cert.Proj
open Cert.KernelIdeal.Head (idx2)
open Cert.Kernel5Ideal.Act (tile2 from2)

/-! ## One block -/
section
variable (x y : Vec Ideal S176x512 .bf16) (u v : Vec Ideal S512x1024 .bf16) (s : Vec Ideal S176x1024 .f32) (g b : Vec Ideal S1x1024 .f32)
theorem mix_at (i : Fin 176) (k : Fin 1024) :
    k0_pay1 x u y v (ix2 i k) = (∑ a : Fin 512, x (ix2 i a) * u (ix2 a k)) + ∑ a : Fin 512, y (ix2 i a) * v (ix2 a k) := by
  pointwise [k0_pay1]
theorem res_at (M : FVec Ideal S176x1024 .f32) (i : Fin 176) (k : Fin 1024) :
    k0_pay7 M s (ix2 i k) = Ideal.ofBits .f32 0x3F9837F0#32 * s (ix2 i k) + M (ix2 i k) := by
  pointwise [k0_pay7]
theorem cen_at (M : FVec Ideal S176x1024 .f32) {X : Fin 176 → Fin 1024 → EReal} (hX : ∀ i k, k0_pay7 M s (ix2 i k) = X i k) (i : Fin 176) (k : Fin 1024) :
    k0_pay8 M s (ix2 i k) = (X i k - meanE (X i)) * Ideal.rsqrt (varE (X i) + Ideal.ofBits .f32 0x3727C5AC#32) := by
  unfold k0_pay8
  generalize k0_pay7 M s = w at hX ⊢
  pointwise
  simp only [hX, meanE, varE]
theorem norm_at (M : FVec Ideal S176x1024 .f32) {X : Fin 176 → Fin 1024 → EReal} {G B : Fin 1024 → EReal} (hX : ∀ i k, k0_pay7 M s (ix2 i k) = X i k)
    (hg : ∀ k, g (ix2 0 k) = G k) (hb : ∀ k, b (ix2 0 k) = B k) (i : Fin 176) (k : Fin 1024) :
    k0_pay9 (k0_pay8 M s) g b (ix2 i k) = lnE (X i) G B k := by
  have e := cen_at s M hX i k
  unfold k0_pay9
  generalize k0_pay8 M s = w at e ⊢
  pointwise
  rw [e, hg, hb, lnE]
end

variable {m : (ℓ : Loc nD τ sig) → Buf (Elt Ideal) ℓ} {c : Dev nD} {I : Inp} (h : Args m c I)

/-- Row `i` of block `q` of a tile. -/
abbrev blk4 (q : Fin 4) (i : Fin 176) : Fin 704 := ⟨176 * q.val + i.val, by omega⟩
include h in
/-- The rows that the norm reads, from a block's pieces. -/
theorem p_at (t : Fin cfg0.N) (q : Fin 4) {x y : Vec Ideal S176x512 .bf16} {u v : Vec Ideal S512x1024 .bf16} {s : Vec Ideal S176x1024 .f32}
    (hx : ∀ i a, x (ix2 i a) = iblk m c 1 t (ix2 (blk4 q i) a)) (hy : ∀ i a, y (ix2 i a) = iblk m c 2 t (ix2 (blk4 q i) a))
    (hu : ∀ a k, u (ix2 a k) = iblk m c 3 t (ix2 (lo a) k)) (hv : ∀ a k, v (ix2 a k) = iblk m c 3 t (ix2 (up a) k))
    (hs : ∀ i k, s (ix2 i k) = iblk m c 0 t (ix2 (blk4 q i) k)) (i : Fin 176) (k : Fin 1024) :
    k0_pay7 (k0_pay1 x u y v) s (ix2 i k) = P I (row t (blk4 q i)) k := by
  rw [res_at, mix_at, ← P_eq]
  simp only [hx, hy, hu, hv, hs, b0 h, b1 h, b2 h, b3 h]

theorem u_at (X : Vec Ideal S1024x1024 .bf16) (a : Fin 512) (k : Fin 1024) : View.ld X r0_1 (ix2 a k) = X (ix2 (lo a) k) :=
  from2 X (lo a) k (Nat.zero_add _).symm (Nat.zero_add _).symm
theorem v_at (X : Vec Ideal S1024x1024 .bf16) (a : Fin 512) (k : Fin 1024) : View.ld X r0_2 (ix2 a k) = X (ix2 (up a) k) :=
  from2 X (up a) k rfl (Nat.zero_add _).symm
theorem gb_at (X : Vec Ideal S1x1024 .f32) (k : Fin 1024) : View.ld X r0_7 (ix2 0 k) = X (ix2 0 k) :=
  from2 X 0 k rfl (Nat.zero_add _).symm
theorem sub512 (X : Vec Ideal S704x512 .bf16) (q : Fin 4) {o : ℕ} (ho : o = 176 * q.val) {inb : ∀ d, (![o, 0] : Fin 2 → ℕ) d + (![176, 512] : Fin 2 → ℕ) d ≤ (⟨2, ![704, 512]⟩ : Shape).size d}
    (i : Fin 176) (a : Fin 512) : View.ld X (Rect.unit (s := S704x512) ![o, 0] ![176, 512] inb) (ix2 i a) = X (ix2 (blk4 q i) a) :=
  from2 X (blk4 q i) a (by rw [ho]) (Nat.zero_add _).symm
theorem sub1024 (X : Vec Ideal S704x1024 .f32) (q : Fin 4) {o : ℕ} (ho : o = 176 * q.val) {inb : ∀ d, (![o, 0] : Fin 2 → ℕ) d + (![176, 1024] : Fin 2 → ℕ) d ≤ (⟨2, ![704, 1024]⟩ : Shape).size d}
    (i : Fin 176) (k : Fin 1024) : View.ld X (Rect.unit (s := S704x1024) ![o, 0] ![176, 1024] inb) (ix2 i k) = X (ix2 (blk4 q i) k) :=
  from2 X (blk4 q i) k (by rw [ho]) (Nat.zero_add _).symm

/-! ## The three tiles -/
section
include h
theorem blk0 (t : Fin cfg0.N) (i : Fin 176) (k : Fin 1024) :
    k0_pay7 (k0_pay21 (iblk m c 0 t) (iblk m c 1 t) (iblk m c 2 t) (iblk m c 3 t) (iblk m c 4 t) (iblk m c 5 t)) (View.ld (iblk m c 0 t) r0_6) (ix2 i k) = P I (row t (blk4 0 i)) k :=
  p_at h t 0 (sub512 _ 0 rfl) (sub512 _ 0 rfl) (u_at _) (v_at _) (sub1024 _ 0 rfl) i k
theorem blk1 (t : Fin cfg0.N) (i : Fin 176) (k : Fin 1024) :
    k0_pay7 (k0_pay22 (iblk m c 0 t) (iblk m c 1 t) (iblk m c 2 t) (iblk m c 3 t) (iblk m c 4 t) (iblk m c 5 t)) (View.ld (iblk m c 0 t) r0_8) (ix2 i k) = P I (row t (blk4 1 i)) k :=
  p_at h t 1 (sub512 _ 1 rfl) (sub512 _ 1 rfl) (u_at _) (v_at _) (sub1024 _ 1 rfl) i k
theorem blk2 (t : Fin cfg0.N) (i : Fin 176) (k : Fin 1024) :
    k0_pay7 (k0_pay23 (iblk m c 0 t) (iblk m c 1 t) (iblk m c 2 t) (iblk m c 3 t) (iblk m c 4 t) (iblk m c 5 t)) (View.ld (iblk m c 0 t) r0_9) (ix2 i k) = P I (row t (blk4 2 i)) k :=
  p_at h t 2 (sub512 _ 2 rfl) (sub512 _ 2 rfl) (u_at _) (v_at _) (sub1024 _ 2 rfl) i k
theorem blk3 (t : Fin cfg0.N) (i : Fin 176) (k : Fin 1024) :
    k0_pay7 (k0_pay24 (iblk m c 0 t) (iblk m c 1 t) (iblk m c 2 t) (iblk m c 3 t) (iblk m c 4 t) (iblk m c 5 t)) (View.ld (iblk m c 0 t) r0_10) (ix2 i k) = P I (row t (blk4 3 i)) k :=
  p_at h t 3 (sub512 _ 3 rfl) (sub512 _ 3 rfl) (u_at _) (v_at _) (sub1024 _ 3 rfl) i k
/-- A block's norm. -/
theorem ln_at (t : Fin cfg0.N) (q : Fin 4) {M : FVec Ideal S176x1024 .f32} {s : Vec Ideal S176x1024 .f32} (hp : ∀ i k, k0_pay7 M s (ix2 i k) = P I (row t (blk4 q i)) k)
    (i : Fin 176) (k : Fin 1024) :
    k0_pay9 (k0_pay8 M s) (View.ld (iblk m c 4 t) r0_7) (View.ld (iblk m c 5 t) r0_7) (ix2 i k) = lnE (P I (row t (blk4 q i))) I.g I.b k :=
  norm_at s _ _ M hp (fun k => (gb_at _ k).trans (b4 h t k)) (fun k => (gb_at _ k).trans (b5 h t k)) i k

theorem stored6 (t : Fin cfg0.N) (i : Fin 704) (k : Fin 1024) :
    out0_6 (iblk m c 0 t) (iblk m c 1 t) (iblk m c 2 t) (iblk m c 3 t) (iblk m c 4 t) (iblk m c 5 t) (ix2 i k) = P I (row t i) k := by
  have Q (o : ℕ) {w : S176x1024.Idx → EReal} := tile2 (T := fun i k => P I (row t i) k) (i := i) (a := k) o 0 (w := w)
  have z (a : ℕ) (ha : 0 + a < 1024) : (⟨0 + a, ha⟩ : Fin 1024) = ⟨a, by omega⟩ := Fin.ext (Nat.zero_add _)
  unfold out0_6
  canon_tiles x h
  case piece0 =>
    exact Q 528 (fun i' a' hi ha => (blk3 h t i' a').trans (congrArg (P I _) (z _ ha).symm)) x h0 (h1.trans (Nat.zero_add _).symm)
  case piece1 =>
    exact Q 352 (fun i' a' hi ha => (blk2 h t i' a').trans (congrArg (P I _) (z _ ha).symm)) x h0 (h1.trans (Nat.zero_add _).symm)
  case piece2 =>
    exact Q 176 (fun i' a' hi ha => (blk1 h t i' a').trans (congrArg (P I _) (z _ ha).symm)) x h0 (h1.trans (Nat.zero_add _).symm)
  case piece3 =>
    exact Q 0 (fun i' a' hi ha => (blk0 h t i' a').trans (congrArg (P I _) (z _ ha).symm)) x (h0.trans (Nat.zero_add _).symm) (h1.trans (Nat.zero_add _).symm)
theorem stored7 (t : Fin cfg0.N) (i : Fin 704) (k : Fin 1024) :
    out0_7 (iblk m c 0 t) (iblk m c 1 t) (iblk m c 2 t) (iblk m c 3 t) (iblk m c 4 t) (iblk m c 5 t) (ix2 i k) = lnE (P I (row t i)) I.g I.b k := by
  have Q (o : ℕ) {w : S176x1024.Idx → EReal} := tile2 (T := fun i k => lnE (P I (row t i)) I.g I.b k) (i := i) (a := k) o 0 (w := w)
  have z (a : ℕ) (ha : 0 + a < 1024) : (⟨0 + a, ha⟩ : Fin 1024) = ⟨a, by omega⟩ := Fin.ext (Nat.zero_add _)
  unfold out0_7
  canon_tiles x h
  case piece0 =>
    exact Q 528 (fun i' a' hi ha => (ln_at h t 3 (blk3 h t) i' a').trans (congrArg (lnE _ _ _) (z _ ha).symm)) x h0 (h1.trans (Nat.zero_add _).symm)
  case piece1 =>
    exact Q 352 (fun i' a' hi ha => (ln_at h t 2 (blk2 h t) i' a').trans (congrArg (lnE _ _ _) (z _ ha).symm)) x h0 (h1.trans (Nat.zero_add _).symm)
  case piece2 =>
    exact Q 176 (fun i' a' hi ha => (ln_at h t 1 (blk1 h t) i' a').trans (congrArg (lnE _ _ _) (z _ ha).symm)) x h0 (h1.trans (Nat.zero_add _).symm)
  case piece3 =>
    exact Q 0 (fun i' a' hi ha => (ln_at h t 0 (blk0 h t) i' a').trans (congrArg (lnE _ _ _) (z _ ha).symm)) x (h0.trans (Nat.zero_add _).symm) (h1.trans (Nat.zero_add _).symm)
/-- The rounded tile is the same. -/
theorem stored8 (t : Fin cfg0.N) (i : Fin 704) (k : Fin 1024) :
    out0_8 (iblk m c 0 t) (iblk m c 1 t) (iblk m c 2 t) (iblk m c 3 t) (iblk m c 4 t) (iblk m c 5 t) (ix2 i k) = lnE (P I (row t i)) I.g I.b k :=
  stored7 h t i k

/-! ## The three results -/
theorem out6 (r : Fin 4224) (k : Fin 1024) : (dats m 0 c).arrAt 6 cfg0.N (ix2 r k) = P I r k := by
  let G : S4224x1024.Idx → EReal := fun j => P I (j 0) (j 1)
  have e : (dats m 0 c).arrAt 6 cfg0.N = G := by
    refine (dats m 0 c).arrAt_eq_of_covers 6 G (by decide +kernel) fun t hf y => ?_
    obtain ⟨i, k, rfl⟩ := idx2 y
    have hs : ((dats m 0 c).after 6 t : S704x1024.Idx → EReal) (ix2 i k) = P I (row t i) k := by
      rw [after0_6]; exact stored6 h t i k
    blk_simp
    refine hs.trans (show G (ix2 (row t i) k) = _ from congrArg G ?_)
    symm; blk_ext [idx t]
  rw [e]; rfl
theorem out7 (r : Fin 4224) (k : Fin 1024) : (dats m 0 c).arrAt 7 cfg0.N (ix2 r k) = lnE (P I r) I.g I.b k := by
  let G : S4224x1024.Idx → EReal := fun j => lnE (P I (j 0)) I.g I.b (j 1)
  have e : (dats m 0 c).arrAt 7 cfg0.N = G := by
    refine (dats m 0 c).arrAt_eq_of_covers 7 G (by decide +kernel) fun t hf y => ?_
    obtain ⟨i, k, rfl⟩ := idx2 y
    have hs : ((dats m 0 c).after 7 t : S704x1024.Idx → EReal) (ix2 i k) = lnE (P I (row t i)) I.g I.b k := by
      rw [after0_7]; exact stored7 h t i k
    blk_simp
    refine hs.trans (show G (ix2 (row t i) k) = _ from congrArg G ?_)
    symm; blk_ext [idx t]
  rw [e]; rfl
theorem out8 (r : Fin 4224) (k : Fin 1024) : (dats m 0 c).arrAt 8 cfg0.N (ix2 r k) = lnE (P I r) I.g I.b k := by
  let G : S4224x1024.Idx → EReal := fun j => lnE (P I (j 0)) I.g I.b (j 1)
  have e : (dats m 0 c).arrAt 8 cfg0.N = G := by
    refine (dats m 0 c).arrAt_eq_of_covers 8 G (by decide +kernel) fun t hf y => ?_
    obtain ⟨i, k, rfl⟩ := idx2 y
    have hs : ((dats m 0 c).after 8 t : S704x1024.Idx → EReal) (ix2 i k) = lnE (P I (row t i)) I.g I.b k := by
      rw [after0_8]; exact stored8 h t i k
    blk_simp
    refine hs.trans (show G (ix2 (row t i) k) = _ from congrArg G ?_)
    symm; blk_ext [idx t]
  rw [e]; rfl
end
end Cert.Kernel7Ideal.Proj
-- ==== Proof.ProjReference.lean ====
module
public import proofs.«01_k».proof.Proof.ProjKernel
public import proofs.«01_k».proof.Proof.Gen.Reference7Ideal.Run
public import proofs.«01_k».proof.Proof.Gen.Reference7Ideal.Read
@[expose] public section
set_option maxRecDepth 16384
/-! # What the reference of the output projection computes -/
noncomputable section
namespace Cert.Reference7Ideal.Proj
open Cert.Reference7Ideal Cert.Reference7Ideal.Read Idealize.ShloMosaic Idealize.ShloMosaic.TcCoe Cert.Real Cert.Proj

/-- The arguments. -/
structure Args (X0 : (⟨S2x2064x1024, .f32⟩ : BufTy).Contents (Elt Ideal)) (X1 X2 : (⟨S2x2064x512, .f32⟩ : BufTy).Contents (Elt Ideal)) (X3 : (⟨S1024x1024, .f32⟩ : BufTy).Contents (Elt Ideal))
    (X4 X5 : (⟨S1024, .f32⟩ : BufTy).Contents (Elt Ideal)) (I : Inp) : Prop where
  a0 : ∀ b i k, X0 (ix3 b i k) = I.s b i k
  a1 : ∀ b i k, X1 (ix3 b i k) = I.co b i k
  a2 : ∀ b i k, X2 (ix3 b i k) = I.go b i k
  a3 : ∀ a k, X3 (ix2 a k) = I.w a k
  a4 : ∀ k, X4 (ix1 k) = I.g k
  a5 : ∀ k, X5 (ix1 k) = I.b k

variable {X0 : (⟨S2x2064x1024, .f32⟩ : BufTy).Contents (Elt Ideal)} {X1 X2 : (⟨S2x2064x512, .f32⟩ : BufTy).Contents (Elt Ideal)} {X3 : (⟨S1024x1024, .f32⟩ : BufTy).Contents (Elt Ideal)}
    {X4 X5 : (⟨S1024, .f32⟩ : BufTy).Contents (Elt Ideal)} {I : Inp} (h : Args X0 X1 X2 X3 X4 X5 I)
include h
theorem cat_at (b : Fin 2) (i : Fin 2064) (a : Fin 1024) : val_main_v0 (F := Ideal) X1 X2 (ix3 b i a) = cat I b i a := by
  pointwise [val_main_v0]
  simp only [h.a1, h.a2, cat]
theorem p_at (b : Fin 2) (i : Fin 2064) (k : Fin 1024) : val_main_v4 (F := Ideal) X0 X1 X2 X3 (ix3 b i k) = p I b i k := by
  have e := cat_at h b i
  unfold val_main_v4 val_main_v3 val_main_v1
  generalize val_main_v0 (F := Ideal) X1 X2 = w at e ⊢
  pointwise [val_main_v2, val_main_cst]
  simp only [e, h.a0, h.a3, p]
/-- The rows that the norm reads. -/
theorem out0 (r : Fin 4224) (k : Fin 1024) : val_main_v6 (F := Ideal) X0 X1 X2 X3 (ix2 r k) = P I r k := by
  refine host_atE (val_main_v4 (F := Ideal) X0 X1 X2 X3) (val_main_call0_v0 (F := Ideal)) Gen.pads_S2x2064x1024_S2x2112x1024_000_4800_000 Gen.h_S_ ?_
    Gen.shapeCasts_S2x2112x1024_S4224x1024 (p_at h) r k
  exact Cert.Kernel7Ideal.Proj.zeroI_apply _
theorem cen_at (r : Fin 4224) (k : Fin 1024) : val_main_v12 (F := Ideal) X0 X1 X2 X3 (ix2 r k) = P I r k - meanE (P I r)
    ∧ val_main_v19 (F := Ideal) X0 X1 X2 X3 (ix2 r k) = P I r k - meanE (P I r) := by
  have e := out0 h r
  constructor
  on_goal 1 => unfold val_main_v12 val_main_v11 val_main_v10 val_main_v8 val_main_v7
  on_goal 2 => unfold val_main_v19 val_main_v18 val_main_v10 val_main_v8 val_main_v7
  all_goals
    generalize val_main_v6 (F := Ideal) X0 X1 X2 X3 = w at e ⊢
    pointwise [val_main_v9, val_main_cst_0, val_main_cst_1]
    simp only [e, meanE]
theorem rs_at (r : Fin 4224) : val_main_v22 (F := Ideal) X0 X1 X2 X3 (ix2 r 0) = Ideal.rsqrt (varE (P I r) + Ideal.ofBits .f32 0x3727C5AC#32) := by
  have e := fun k => (cen_at h r k).1
  unfold val_main_v22 val_main_v21 val_main_v17 val_main_v15 val_main_v14 val_main_v13
  generalize val_main_v12 (F := Ideal) X0 X1 X2 X3 = w at e ⊢
  pointwise [val_main_v20, val_main_v16, val_main_cst_2, val_main_cst_3, val_main_cst_4]
  simp only [e, varE]
/-- The normalised rows, scaled and shifted. -/
theorem out1 (r : Fin 4224) (k : Fin 1024) : val_main_v30 (F := Ideal) X0 X1 X2 X3 X4 X5 (ix2 r k) = lnE (P I r) I.g I.b k := by
  have e := (cen_at h r k).2
  have e' := rs_at h r
  unfold val_main_v30 val_main_v27 val_main_v24 val_main_v23
  generalize val_main_v19 (F := Ideal) X0 X1 X2 X3 = w at e ⊢
  generalize val_main_v22 (F := Ideal) X0 X1 X2 X3 = w' at e' ⊢
  pointwise [val_main_v25, val_main_v26, val_main_v28, val_main_v29]
  rw [e, e', h.a4, h.a5, lnE]
/-- The same, rounded. -/
theorem out2 (r : Fin 4224) (k : Fin 1024) : val_main_v31 (F := Ideal) X0 X1 X2 X3 X4 X5 (ix2 r k) = lnE (P I r) I.g I.b k := out1 h r k
end Cert.Reference7Ideal.Proj
-- ==== Proof.ProjClaim.lean ====
module
public import proofs.«01_k».proof.Defs
public import proofs.«01_k».proof.Proof.ProjReference
public import Idealize.ShloMosaic.Adequacy
public import Idealize.ShloMosaic.Init
@[expose] public section
set_option maxRecDepth 16384
/-! # The output projection: the claims -/
noncomputable section
namespace Cert.Proof.Proj
open Idealize.ShloMosaic Idealize.SL.Sem Cert.Kernel7
open Cert.KernelIdeal.Head (idx2)

theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The arguments as the kernel's memory holds them. -/
abbrev inp (m : (ℓ : Loc Cert.Kernel7Ideal.nD Cert.Kernel7Ideal.τ Cert.Kernel7Ideal.sig) → Buf (Elt Ideal) ℓ) (c : Dev Cert.Kernel7Ideal.nD) : Cert.Proj.Inp where
  s := fun b i k => m ((c.tc : Thread Cert.Kernel7Ideal.nD Cert.Kernel7Ideal.τ).loc Cert.Kernel7Ideal.main_arg0) (ix3 b i k)
  co := fun b i k => m ((c.tc : Thread Cert.Kernel7Ideal.nD Cert.Kernel7Ideal.τ).loc Cert.Kernel7Ideal.main_arg1) (ix3 b i k)
  go := fun b i k => m ((c.tc : Thread Cert.Kernel7Ideal.nD Cert.Kernel7Ideal.τ).loc Cert.Kernel7Ideal.main_arg2) (ix3 b i k)
  w := fun a k => m ((c.tc : Thread Cert.Kernel7Ideal.nD Cert.Kernel7Ideal.τ).loc Cert.Kernel7Ideal.main_arg3) (ix2 a k)
  g := fun k => m ((c.tc : Thread Cert.Kernel7Ideal.nD Cert.Kernel7Ideal.τ).loc Cert.Kernel7Ideal.main_arg4) (ix1 k)
  b := fun k => m ((c.tc : Thread Cert.Kernel7Ideal.nD Cert.Kernel7Ideal.τ).loc Cert.Kernel7Ideal.main_arg5) (ix1 k)

/-- The two programs end with equal rows, whatever the arguments. -/
theorem value : Cert.algebraic_Kernel7Ideal_Reference7Ideal := by
  intro m g m' g' _ hm
  have hk (c : Dev Cert.Kernel7Ideal.nD) : Cert.Kernel7Ideal.Proj.Args m c (inp m c) :=
    ⟨fun _ _ _ => rfl, fun _ _ _ => rfl, fun _ _ _ => rfl, fun _ _ => rfl, fun _ => rfl, fun _ => rfl⟩
  refine ⟨_, _, _, Cert.Kernel7Ideal.Value.run_blocks (F := Ideal) m g,
    (θ_run Cert.Reference7Ideal.defs _ _).mono (fun r h c => ?_) (Cert.Reference7Ideal.Value.run (F := Ideal) m' g')⟩
  obtain ⟨e0, e1, e2, ha⟩ := h c
  obtain ⟨q0, q1, q2, q3, q4, q5⟩ := hm c
  have hr : Cert.Reference7Ideal.Proj.Args _ _ _ _ _ _ (inp m c) :=
    ⟨fun b i k => congrFun q0 (ix3 b i k), fun b i k => congrFun q1 (ix3 b i k), fun b i k => congrFun q2 (ix3 b i k),
      fun a k => congrFun q3 (ix2 a k), fun k => congrFun q4 (ix1 k), fun k => congrFun q5 (ix1 k)⟩
  refine ⟨e0.trans (funext fun j => ?_), (e1.trans (Cert.Reference7Ideal.Read.val_main_v30_eq (F := Ideal) m' c)).trans (funext fun j => ?_),
    (e2.trans (Cert.Reference7Ideal.Read.val_main_v31_eq (F := Ideal) m' c)).trans (funext fun j => ?_), ha⟩
  · obtain ⟨r, k, rfl⟩ := idx2 j
    exact (Cert.Reference7Ideal.Proj.out0 hr r k).trans (Cert.Kernel7Ideal.Proj.out6 (hk c) r k).symm
  · obtain ⟨r, k, rfl⟩ := idx2 j
    exact (Cert.Reference7Ideal.Proj.out1 hr r k).trans (Cert.Kernel7Ideal.Proj.out7 (hk c) r k).symm
  · obtain ⟨r, k, rfl⟩ := idx2 j
    exact (Cert.Reference7Ideal.Proj.out2 hr r k).trans (Cert.Kernel7Ideal.Proj.out8 (hk c) r k).symm
end Cert.Proof.Proj
-- ==== Proof.ConvTrip.lean ====
module
public import proofs.«01_k».proof.Proof.ProjEntry
public import proofs.«01_k».proof.Proof.Gen.Kernel8Ideal.Value
public import proofs.«01_k».proof.Proof.Gen.Kernel8Ideal
@[expose] public section
set_option maxRecDepth 16384
/-! # What one trip of the convolution's loop stores -/
noncomputable section
namespace Cert.Conv
open Idealize.ShloMosaic
open scoped BigOperators

/-- A row of the convolution: 31 rows, the first at `r`, each times its row of the weight, and the bias. -/
def tapsE (H W : ℕ → Fin 512 → EReal) (B : Fin 512 → EReal) (r : ℕ) (k : Fin 512) : EReal := (∑ q : Fin 31, H (r + q.val) k * W q.val k) + B k
/-- A row normalised, scaled and shifted, then times its own logistic function. -/
def meanE (p : Fin 512 → EReal) : EReal := Ideal.div (∑ k, p k) (Ideal.ofBits .f32 0x44000000#32)
def varE (p : Fin 512 → EReal) : EReal := Ideal.div (∑ k, (p k - meanE p) * (p k - meanE p)) (Ideal.ofBits .f32 0x44000000#32)
def hatE (p : Fin 512 → EReal) (k : Fin 512) : EReal := (p k - meanE p) * Ideal.rsqrt (varE p + Ideal.ofBits .f32 0x3727C5AC#32)
def sigE (x : EReal) : EReal := Ideal.div 1 (1 + Ideal.exp (0 - x))
def siluE (x : EReal) : EReal := x * sigE x
def actE (p g b : Fin 512 → EReal) (k : Fin 512) : EReal := siluE (hatE p k * g k + b k)

/-- The kernel takes the taps by their remainder modulo 8. -/
theorem order31 (T : ℕ → EReal) :
    T 6 + T 14 + T 22 + T 30 + T 7 + T 15 + T 23 + T 0 + T 8 + T 16 + T 24 + T 1 + T 9 + T 17 + T 25 + T 2 + T 10 + T 18 + T 26 + T 3 + T 11 + T 19 + T 27
      + T 4 + T 12 + T 20 + T 28 + T 5 + T 13 + T 21 + T 29 = ∑ q : Fin 31, T q.val := by
  rw [Fin.sum_univ_eq_sum_range]
  simp only [Finset.sum_range_succ, Finset.sum_range_zero, zero_add]
  abel
end Cert.Conv

namespace Cert.Kernel8Ideal.Conv
open Cert.Kernel8Ideal Cert.Kernel8Ideal.Gen Idealize.ShloMosaic Idealize.ShloMosaic.TcCoe Cert.Conv
open Cert.KernelIdeal.Head (idx2)

theorem trips : k0_t1_loop.trips = 11 := by decide
theorem off (n : Fin k0_t1_loop.trips) : k0_off1 n = ![64 * n.val, 0] ∧ k0_off2 n = ![64 * n.val, 0] :=
  (by decide +kernel : ∀ n : Fin k0_t1_loop.trips, k0_off1 n = ![64 * n.val, 0] ∧ k0_off2 n = ![64 * n.val, 0]) n

variable (c : Dev nD) (i : grid0.Coords) (arg1 : Memref sig .tc .vmem S704x512 .f32) (harg1 : arg1.IsWhole) (arg2 : Memref sig .tc .vmem S704x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
  (arg9 : Memref sig .tc .vmem S704x512 .f32) (harg9 : arg9.IsWhole) (arg10 : Memref sig .tc .vmem S704x512 .bf16) (harg10 : arg10.IsWhole) (arg11 : Memref sig .tc .vmem S736x512 .f32) (harg11 : arg11.IsWhole)
variable (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X11 : BufTy.Contents (Elt Ideal) arg11.view.ty)
variable {H W : ℕ → Fin 512 → EReal} {B G S : Fin 512 → EReal}

/-- What a trip reads: the weight's rows, the bias, the norm's scale and shift, and the 96 rows at its place of the staged rows. -/
structure Reads (n : ℕ) : Prop where
  w : ∀ (q : ℕ) (inb : ∀ a, (![q, 0] : Fin 2 → ℕ) a + (![1, 512] : Fin 2 → ℕ) a ≤ S32x512.size a) k, View.readAt (Elt Ideal) arg5.view (Rect.unit (s := S32x512) ![q, 0] ![1, 512] inb).toLoadRect X5 (ix2 0 k) = W q k
  b : ∀ (inb : ∀ a, (![0, 0] : Fin 2 → ℕ) a + (![1, 512] : Fin 2 → ℕ) a ≤ S1x512.size a) k, View.readAt (Elt Ideal) arg6.view (Rect.unit (s := S1x512) ![0, 0] ![1, 512] inb).toLoadRect X6 (ix2 0 k) = B k
  g : ∀ (inb : ∀ a, (![0, 0] : Fin 2 → ℕ) a + (![1, 512] : Fin 2 → ℕ) a ≤ S1x512.size a) k, View.readAt (Elt Ideal) arg7.view (Rect.unit (s := S1x512) ![0, 0] ![1, 512] inb).toLoadRect X7 (ix2 0 k) = G k
  s : ∀ (inb : ∀ a, (![0, 0] : Fin 2 → ℕ) a + (![1, 512] : Fin 2 → ℕ) a ≤ S1x512.size a) k, View.readAt (Elt Ideal) arg8.view (Rect.unit (s := S1x512) ![0, 0] ![1, 512] inb).toLoadRect X8 (ix2 0 k) = S k
  h : ∀ (o : ℕ) (inb : ∀ a, (![o, 0] : Fin 2 → ℕ) a + (![96, 512] : Fin 2 → ℕ) a ≤ S736x512.size a), o = 64 * n → ∀ (j : Fin 96) k, View.readAt (Elt Ideal) arg11.view (Rect.unit (s := S736x512) ![o, 0] ![96, 512] inb).toLoadRect X11 (ix2 j k) = H (64 * n + j.val) k
variable (n : Fin k0_t1_loop.trips)
theorem inb_of : ∀ n : Fin k0_t1_loop.trips, ∀ a, (![(Scalar.indexCast (Scalar.muli (Scf.iv 0#32 1#32 n.val) 64#32)).toNat, 0] : Fin 2 → ℕ) a + (![96, 512] : Fin 2 → ℕ) a ≤ S736x512.size a := k0_off1_inb
/-- A trip's place in the tile. -/
theorem at0 (inb : ∀ a, (![(Scalar.indexCast (Scalar.muli (Scf.iv 0#32 1#32 n.val) 64#32)).toNat, 0] : Fin 2 → ℕ) a + (![64, 512] : Fin 2 → ℕ) a ≤ S704x512.size a) (j : Fin 64) (k : Fin 512) :
    ((Rect.unit (s := S704x512) ![(Scalar.indexCast (Scalar.muli (Scf.iv 0#32 1#32 n.val) 64#32)).toNat, 0] ![64, 512] inb).emb (ix2 j k) 0).val = 64 * n.val + j.val :=
  (congrArg (· + 1 * j.val) (congrFun (off n).1 0)).trans (by show 64 * n.val + 1 * j.val = _; rw [one_mul])
theorem at1 (inb : ∀ a, (![(Scalar.indexCast (Scalar.muli (Scf.iv 0#32 1#32 n.val) 64#32)).toNat, 0] : Fin 2 → ℕ) a + (![64, 512] : Fin 2 → ℕ) a ≤ S704x512.size a) (j : Fin 64) (k : Fin 512) :
    (Rect.unit (s := S704x512) ![(Scalar.indexCast (Scalar.muli (Scf.iv 0#32 1#32 n.val) 64#32)).toNat, 0] ![64, 512] inb).emb (ix2 j k) 1 = k :=
  Fin.ext ((Nat.zero_add _).trans (Nat.one_mul _))
/-- The convolution's rows at a trip's place, in the order that the kernel adds them. -/
theorem taps_at (hr : Reads (H := H) (W := W) (B := B) (G := G) (S := S) arg5 arg6 arg7 arg8 arg11 X5 X6 X7 X8 X11 n.val) :
    ∀ p ∈ (trip_k0_t1 (F := Ideal) Variants.none c none i arg1 harg1 arg2 harg2 arg3 harg3 arg4 harg4 arg5 harg5 arg6 harg6 arg7 harg7 arg8 harg8 arg9 harg9 arg10 harg10 arg11 harg11 X5 X6 X7 X8 X11 n).1, ∀ x : p.1.shape.Idx,
      p.2 x = (fun y => tapsE H W B ((y 0).val + 2) (y 1) : S704x512.Idx → EReal) (p.1.emb x) := by
  have ho : (Scalar.indexCast (Scalar.muli (Scf.iv 0#32 1#32 n.val) 64#32)).toNat = 64 * n.val := congrFun (off n).1 0
  unfold trip_k0_t1
  sl_unfold_words
  dsimp only
  intro p hp x
  rw [List.mem_singleton] at hp
  subst hp
  dsimp only at x ⊢
  obtain ⟨j, k, rfl⟩ := idx2 (n := 64) (k := 512) x
  have hj := j.isLt
  pointwise [k0_pay14, k0_pay13, k0_pay12, k0_pay11, k0_pay10, k0_pay9, k0_pay8, k0_pay7, k0_pay6, k0_pay5, k0_pay4, k0_pay3, k0_pay2]
  simp (disch := omega) only [Nat.mod_eq_of_lt]
  simp only [hr.w, hr.b]
  repeat rw [hr.h _ (inb_of n) ho]
  refine Eq.trans ?_ (congrArg₂ (fun r k => tapsE H W B (r + 2) k) (at0 n (k0_off2_inb n) j k) (at1 n (k0_off2_inb n) j k)).symm
  dsimp only
  unfold tapsE
  rw [← order31 (fun q => H (64 * n.val + j.val + 2 + q) k * W q k)]
  have e : ∀ a b, a = b → H a k = H b k := fun _ _ h => congrArg (H · k) h
  congr 1
  iterate 30 refine congrArg₂ (· + ·) ?_ (congrArg (· * _) (e _ _ (by omega)))
  exact congrArg (· * _) (e _ _ (by omega))
/-- The norm of a tile's rows. -/
theorem hat_at (v206 : FVec Ideal S64x512 .f32) (v207 : FVec Ideal S96x512 .f32) (v208 : FVec Ideal S64x512 .f32) (v209 v215 v221 v227 v232 : Vec Ideal S1x512 .f32) {P : Fin 64 → Fin 512 → EReal}
    (hP : ∀ j k, k0_pay14 v206 v207 v208 v209 v215 v221 v227 v232 (ix2 j k) = P j k) (j : Fin 64) (k : Fin 512) :
    k0_pay15 v206 v207 v208 v209 v215 v221 v227 v232 (ix2 j k) = hatE (P j) k := by
  unfold k0_pay15
  generalize k0_pay14 v206 v207 v208 v209 v215 v221 v227 v232 = w at hP ⊢
  pointwise
  simp only [hP, hatE, meanE, varE]
theorem act_at (M : FVec Ideal S64x512 .f32) (g s : Vec Ideal S1x512 .f32) (j : Fin 64) (k : Fin 512) :
    k0_pay1 M g s (ix2 j k) = siluE (M (ix2 j k) * g (ix2 0 k) + s (ix2 0 k)) := by
  pointwise [k0_pay1]
  rw [siluE, sigE]
/-- The convolution's rows normalised and activated, at a trip's place. -/
theorem acts_at (hr : Reads (H := H) (W := W) (B := B) (G := G) (S := S) arg5 arg6 arg7 arg8 arg11 X5 X6 X7 X8 X11 n.val) :
    ∀ p ∈ (trip_k0_t1 (F := Ideal) Variants.none c none i arg1 harg1 arg2 harg2 arg3 harg3 arg4 harg4 arg5 harg5 arg6 harg6 arg7 harg7 arg8 harg8 arg9 harg9 arg10 harg10 arg11 harg11 X5 X6 X7 X8 X11 n).2.1, ∀ x : p.1.shape.Idx,
      p.2 x = (fun y => actE (tapsE H W B ((y 0).val + 2)) G S (y 1) : S704x512.Idx → EReal) (p.1.emb x) := by
  have e := taps_at c i arg1 harg1 arg2 harg2 arg3 harg3 arg4 harg4 arg5 harg5 arg6 harg6 arg7 harg7 arg8 harg8 arg9 harg9 arg10 harg10 arg11 harg11 X5 X6 X7 X8 X11 n hr
  unfold trip_k0_t1 at e ⊢
  dsimp only at e ⊢
  have e' := e _ (List.mem_singleton_self _)
  intro p hp x
  rw [List.mem_singleton] at hp
  subst hp
  dsimp only at x e' ⊢
  obtain ⟨j, k, rfl⟩ := idx2 (n := 64) (k := 512) x
  have eP : ∀ k' : Fin 512, tapsE H W B (((Rect.unit (s := S704x512) (k0_off2 n) S64x512.size (k0_off2_inb n)).emb (ix2 j k') 0).val + 2)
      ((Rect.unit (s := S704x512) (k0_off2 n) S64x512.size (k0_off2_inb n)).emb (ix2 j k') 1) = tapsE H W B (64 * n.val + j.val + 2) k' :=
    fun k' => congrArg₂ (fun r k => tapsE H W B (r + 2) k) (at0 n (k0_off2_inb n) j k') (at1 n (k0_off2_inb n) j k')
  have eQ : actE (tapsE H W B (((Rect.unit (s := S704x512) (k0_off2 n) S64x512.size (k0_off2_inb n)).emb (ix2 j k) 0).val + 2)) G S
      ((Rect.unit (s := S704x512) (k0_off2 n) S64x512.size (k0_off2_inb n)).emb (ix2 j k) 1) = actE (tapsE H W B (64 * n.val + j.val + 2)) G S k :=
    congrArg₂ (fun r k => actE (tapsE H W B (r + 2)) G S k) (at0 n (k0_off2_inb n) j k) (at1 n (k0_off2_inb n) j k)
  refine ((act_at _ _ _ j k).trans (congrArg siluE (congrArg₂ (· + ·) (congrArg₂ (· * ·) (hat_at _ _ _ _ _ _ _ _ (fun j k => e' (ix2 j k)) j k) (hr.g _ k)) (hr.s _ k)))).trans ?_
  refine Eq.trans ?_ eQ.symm
  exact congrArg (fun p => siluE (hatE p k * G k + S k)) (funext eP)
end Cert.Kernel8Ideal.Conv
-- ==== Proof.ConvTile.lean ====
module
public import proofs.«01_k».proof.Proof.ConvTrip
public import Idealize.ShloMosaic.Lib.WholeRead
@[expose] public section
set_option maxRecDepth 16384
/-! # What the convolution's body leaves in its two tiles -/
noncomputable section
namespace Cert.Kernel8Ideal.Conv
open Cert.Kernel8Ideal Cert.Kernel8Ideal.Gen Idealize.ShloMosaic Idealize.ShloMosaic.TcCoe Cert.Conv
open Cert.KernelIdeal.Head (idx2)
open Cert.Kernel5Ideal.Act (from2)

variable (c : Dev nD) (i : grid0.Coords) (arg1 : Memref sig .tc .vmem S704x512 .f32) (harg1 : arg1.IsWhole) (arg2 : Memref sig .tc .vmem S704x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
  (arg9 : Memref sig .tc .vmem S704x512 .f32) (harg9 : arg9.IsWhole) (arg10 : Memref sig .tc .vmem S704x512 .bf16) (harg10 : arg10.IsWhole) (arg11 : Memref sig .tc .vmem S736x512 .f32) (harg11 : arg11.IsWhole)
section
variable (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X11 : BufTy.Contents (Elt Ideal) arg11.view.ty)
variable {H W : ℕ → Fin 512 → EReal} {B G S : Fin 512 → EReal}
/-- Every tile that the trips before `n` store holds the rows that it stands for. -/
theorem pieces_at (hr : ∀ n, n < 11 → Reads (H := H) (W := W) (B := B) (G := G) (S := S) arg5 arg6 arg7 arg8 arg11 X5 X6 X7 X8 X11 n) : ∀ n : ℕ, n ≤ 11 →
    (∀ p ∈ (pb_k0_t1 (F := Ideal) Variants.none c none i arg1 harg1 arg2 harg2 arg3 harg3 arg4 harg4 arg5 harg5 arg6 harg6 arg7 harg7 arg8 harg8 arg9 harg9 arg10 harg10 arg11 harg11 X5 X6 X7 X8 X11 n).1, ∀ x : p.1.shape.Idx, p.2 x = (fun y => tapsE H W B ((y 0).val + 2) (y 1) : S704x512.Idx → EReal) (p.1.emb x))
    ∧ ∀ p ∈ (pb_k0_t1 (F := Ideal) Variants.none c none i arg1 harg1 arg2 harg2 arg3 harg3 arg4 harg4 arg5 harg5 arg6 harg6 arg7 harg7 arg8 harg8 arg9 harg9 arg10 harg10 arg11 harg11 X5 X6 X7 X8 X11 n).2, ∀ x : p.1.shape.Idx, p.2 x = (fun y => actE (tapsE H W B ((y 0).val + 2)) G S (y 1) : S704x512.Idx → EReal) (p.1.emb x)
  | 0, _ => ⟨fun _ h => absurd h List.not_mem_nil, fun _ h => absurd h List.not_mem_nil⟩
  | n + 1, hn => by
    have hn' : n < k0_t1_loop.trips := by rw [trips]; omega
    obtain ⟨e1, e2⟩ := pieces_at hr n (by omega)
    rw [pb_k0_t1_succ Variants.none c none i arg1 harg1 arg2 harg2 arg3 harg3 arg4 harg4 arg5 harg5 arg6 harg6 arg7 harg7 arg8 harg8 arg9 harg9 arg10 harg10 arg11 harg11 X5 X6 X7 X8 X11 ⟨n, hn'⟩]
    refine ⟨fun p hp => ?_, fun p hp => ?_⟩
    · rcases List.mem_append.mp hp with hp | hp
      · exact taps_at c i arg1 harg1 arg2 harg2 arg3 harg3 arg4 harg4 arg5 harg5 arg6 harg6 arg7 harg7 arg8 harg8 arg9 harg9 arg10 harg10 arg11 harg11 X5 X6 X7 X8 X11 ⟨n, hn'⟩ (hr n (by omega)) p hp
      · exact e1 p hp
    · rcases List.mem_append.mp hp with hp | hp
      · exact acts_at c i arg1 harg1 arg2 harg2 arg3 harg3 arg4 harg4 arg5 harg5 arg6 harg6 arg7 harg7 arg8 harg8 arg9 harg9 arg10 harg10 arg11 harg11 X5 X6 X7 X8 X11 ⟨n, hn'⟩ (hr n (by omega)) p hp
      · exact e2 p hp
end

variable (x0 x1 : Vec Ideal S704x512 .f32) (x2 x3 : Vec Ideal S32x512 .f32) (x4 : Vec Ideal S32x512 .f32) (x5 x6 x7 : Vec Ideal S1x512 .f32)
/-- A whole buffer read. -/
theorem whole2 {κ : Kind} {n k : ℕ} {mr : Memref sig κ .vmem ⟨2, ![n, k]⟩ .f32} (hm : mr.IsWhole) (x : Vec Ideal ⟨2, ![n, k]⟩ .f32)
    (inb : ∀ a, (![0, 0] : Fin 2 → ℕ) a + (![n, k] : Fin 2 → ℕ) a ≤ (⟨2, ![n, k]⟩ : Shape).size a) :
    View.readAt (Elt Ideal) mr.view (Rect.unit (s := ⟨2, ![n, k]⟩) ![0, 0] ![n, k] inb).toLoadRect (hm.unread x) = x := by
  funext y
  rw [hm.readAt_unread]
  obtain ⟨a, b, rfl⟩ := idx2 (n := n) (k := k) y
  exact from2 x a b (Nat.zero_add _).symm (Nat.zero_add _).symm

/-- The staged rows: the halo's, then the tile's. -/
def rowsE (i : grid0.Coords) (ρ : ℕ) (k : Fin 512) : EReal :=
  if h : ρ < 32 then k0_pay16 i x2 x3 (ix2 ⟨ρ, h⟩ k) else if h' : ρ - 32 < 704 then k0_pay17 x0 x1 (ix2 ⟨ρ - 32, h'⟩ k) else 0
def weightE (q : ℕ) (k : Fin 512) : EReal := if h : q < 32 then x4 (ix2 ⟨q, h⟩ k) else 0

theorem staged_at (y : S736x512.Idx) :
    arg11.view.read (Elt Ideal) (arg11.view.writes (Elt Ideal) arg11.view.junk (kernelRun0_A.sl.HS0_2 c i arg1 harg1 arg2 harg2 arg3 harg3 arg4 harg4 x0 x1 x2 x3)) y
      = rowsE x0 x1 x2 x3 i (y 0).val (y 1) := by
  refine View.read_writes_apply_of_pieces (Val := Elt Ideal) (e := .f32) _ _ (fun y : S736x512.Idx => rowsE x0 x1 x2 x3 i (y 0).val (y 1)) _ ?_ y ?_
  · unfold kernelRun0_A.sl.HS0_2
    sl_unfold_words
    rw [whole2 harg1, whole2 harg2, whole2 harg3, whole2 harg4]
    intro p hp x
    rcases List.mem_cons.mp hp with rfl | hp
    · obtain ⟨ρ, k, rfl⟩ := idx2 (n := 704) (k := 512) x
      have e0 : ((Rect.unit (s := S736x512) ![32, 0] S704x512.size inb_S736x512_S704x512_32_0).emb (ix2 ρ k) 0).val = 32 + ρ.val := by
        show 32 + 1 * ρ.val = _; omega
      have e1 : (Rect.unit (s := S736x512) ![32, 0] S704x512.size inb_S736x512_S704x512_32_0).emb (ix2 ρ k) 1 = k := Fin.ext ((Nat.zero_add _).trans (Nat.one_mul _))
      refine Eq.trans ?_ (congrArg₂ (rowsE x0 x1 x2 x3 i) e0 e1).symm
      have e : (⟨32 + ρ.val - 32, by omega⟩ : Fin 704) = ρ := Fin.ext (by show 32 + ρ.val - 32 = ρ.val; omega)
      rw [rowsE, dif_neg (by omega), dif_pos (by omega : 32 + ρ.val - 32 < 704), e]
    · rw [List.mem_singleton] at hp
      subst hp
      obtain ⟨ρ, k, rfl⟩ := idx2 (n := 32) (k := 512) x
      have e0 : ((Rect.unit (s := S736x512) ![0, 0] S32x512.size inb_S736x512_S32x512_0_0).emb (ix2 ρ k) 0).val = ρ.val := by
        show 0 + 1 * ρ.val = _; omega
      have e1 : (Rect.unit (s := S736x512) ![0, 0] S32x512.size inb_S736x512_S32x512_0_0).emb (ix2 ρ k) 1 = k := Fin.ext ((Nat.zero_add _).trans (Nat.one_mul _))
      refine Eq.trans ?_ (congrArg₂ (rowsE x0 x1 x2 x3 i) e0 e1).symm
      rw [rowsE, dif_pos ρ.isLt]
  · unfold kernelRun0_A.sl.HS0_2
    have h0 : (y 0).val < 736 := (y 0).isLt
    have h1 : (y 1).val < 512 := (y 1).isLt
    by_cases hy : 32 ≤ (y 0).val
    · exact ⟨_, List.mem_cons_self, (Rect.mem_set_unit (inb := inb_S736x512_S704x512_32_0)).mpr fun a => match a with
        | ⟨0, _⟩ => ⟨hy, by show (y 0).val < 32 + 704; omega⟩
        | ⟨1, _⟩ => ⟨Nat.zero_le _, by show (y 1).val < 0 + 512; omega⟩⟩
    · exact ⟨_, List.mem_cons_of_mem _ (List.mem_singleton_self _), (Rect.mem_set_unit (inb := inb_S736x512_S32x512_0_0)).mpr fun a => match a with
        | ⟨0, _⟩ => ⟨Nat.zero_le _, by show (y 0).val < 0 + 32; omega⟩
        | ⟨1, _⟩ => ⟨Nat.zero_le _, by show (y 1).val < 0 + 512; omega⟩⟩

theorem reads_at (n : ℕ) (hn : n < 11) : Reads (H := rowsE x0 x1 x2 x3 i) (W := weightE x4) (B := fun k => x5 (ix2 0 k)) (G := fun k => x6 (ix2 0 k)) (S := fun k => x7 (ix2 0 k))
    arg5 arg6 arg7 arg8 arg11 (harg5.unread x4) (harg6.unread x5) (harg7.unread x6) (harg8.unread x7)
    (arg11.view.writes (Elt Ideal) arg11.view.junk (kernelRun0_A.sl.HS0_2 c i arg1 harg1 arg2 harg2 arg3 harg3 arg4 harg4 x0 x1 x2 x3)) n where
  w := by
    intro q inb k
    have hq : q < 32 := by have := inb 0; simp at this; omega
    rw [harg5.readAt_unread, weightE, dif_pos hq]
    exact from2 x4 ⟨q, hq⟩ k rfl (Nat.zero_add _).symm
  b := fun inb k => congrFun (whole2 harg6 x5 inb) (ix2 0 k)
  g := fun inb k => congrFun (whole2 harg7 x6 inb) (ix2 0 k)
  s := fun inb k => congrFun (whole2 harg8 x7 inb) (ix2 0 k)
  h := by
    intro o inb ho j k
    subst ho
    refine (staged_at c i arg1 harg1 arg2 harg2 arg3 harg3 arg4 harg4 arg11 x0 x1 x2 x3 _).trans (congrArg₂ (rowsE x0 x1 x2 x3 i) ?_ (Fin.ext ?_))
    · show 64 * n + 1 * j.val = _; omega
    · show 0 + 1 * k.val = _; omega

theorem tile8 (r : Fin 704) (k : Fin 512) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix2 r k)
    = tapsE (rowsE x0 x1 x2 x3 i) (weightE x4) (fun k => x5 (ix2 0 k)) (r.val + 2) k := by
  unfold out0_A_8
  refine View.read_writes_apply_of_pieces (Val := Elt Ideal) (e := .f32) _ _ (fun y : S704x512.Idx => tapsE (rowsE x0 x1 x2 x3 i) (weightE x4) (fun k => x5 (ix2 0 k)) ((y 0).val + 2) (y 1)) _ ?_ (ix2 r k)
    (cover0_A_8 c i arg1 harg1 arg2 harg2 arg3 harg3 arg4 harg4 arg5 harg5 arg6 harg6 arg7 harg7 arg8 harg8 arg9 harg9 arg10 harg10 arg11 harg11 x0 x1 x2 x3 x4 x5 x6 x7 (ix2 r k))
  unfold kernelRun0_A
  exact (pieces_at c i arg1 harg1 arg2 harg2 arg3 harg3 arg4 harg4 arg5 harg5 arg6 harg6 arg7 harg7 arg8 harg8 arg9 harg9 arg10 harg10 arg11 harg11 _ _ _ _ _ (fun n hn => reads_at c i arg1 harg1 arg2 harg2 arg3 harg3 arg4 harg4 arg5 harg5 arg6 harg6 arg7 harg7 arg8 harg8 arg11 x0 x1 x2 x3 x4 x5 x6 x7 n hn) 11 le_rfl).1
theorem tile9 (r : Fin 704) (k : Fin 512) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix2 r k)
    = actE (tapsE (rowsE x0 x1 x2 x3 i) (weightE x4) (fun k => x5 (ix2 0 k)) (r.val + 2)) (fun k => x6 (ix2 0 k)) (fun k => x7 (ix2 0 k)) k := by
  unfold out0_A_9
  refine View.read_writes_apply_of_pieces (Val := Elt Ideal) (e := .bf16) _ _ (fun y : S704x512.Idx => actE (tapsE (rowsE x0 x1 x2 x3 i) (weightE x4) (fun k => x5 (ix2 0 k)) ((y 0).val + 2)) (fun k => x6 (ix2 0 k)) (fun k => x7 (ix2 0 k)) (y 1)) _ ?_ (ix2 r k)
    (cover0_A_9 c i arg1 harg1 arg2 harg2 arg3 harg3 arg4 harg4 arg5 harg5 arg6 harg6 arg7 harg7 arg8 harg8 arg9 harg9 arg10 harg10 arg11 harg11 x0 x1 x2 x3 x4 x5 x6 x7 (ix2 r k))
  unfold kernelRun0_A
  exact (pieces_at c i arg1 harg1 arg2 harg2 arg3 harg3 arg4 harg4 arg5 harg5 arg6 harg6 arg7 harg7 arg8 harg8 arg9 harg9 arg10 harg10 arg11 harg11 _ _ _ _ _ (fun n hn => reads_at c i arg1 harg1 arg2 harg2 arg3 harg3 arg4 harg4 arg5 harg5 arg6 harg6 arg7 harg7 arg8 harg8 arg11 x0 x1 x2 x3 x4 x5 x6 x7 n hn) 11 le_rfl).2
end Cert.Kernel8Ideal.Conv
-- ==== Proof.ConvEntry.lean ====
module
public import proofs.«01_k».proof.Proof.ConvTile
@[expose] public section
set_option maxRecDepth 16384
/-! # What the convolution's kernel computes

The claim has no precondition, so everything here is an extended real. -/
noncomputable section
namespace Cert.Conv
open Idealize.ShloMosaic Cert.Real
open Cert.Proj (onRowsE onRowsE_pos)
open scoped BigOperators

/-- The arguments that the results depend on: the values and their gates, the taps, their bias, the norm's scale and shift. -/
structure Inp where
  a : Fin 2 → Fin 2064 → Fin 512 → EReal
  g : Fin 2 → Fin 2064 → Fin 512 → EReal
  w : Fin 31 → Fin 512 → EReal
  b : Fin 512 → EReal
  ls : Fin 512 → EReal
  lb : Fin 512 → EReal
variable (I : Inp)
/-- The gated values. -/
def glu (b : Fin 2) (i : Fin 2064) (k : Fin 512) : EReal := I.a b i k * sigE (I.g b i k)
/-- The gated values of a sequence with 78 rows of zeros in front: 48 of padding, 30 of the convolution's own. -/
def hpad (b : Fin 2) (τ : ℕ) (k : Fin 512) : EReal := if h : 78 ≤ τ ∧ τ < 2142 then glu I b ⟨τ - 78, by omega⟩ k else 0
def wE (q : ℕ) (k : Fin 512) : EReal := if h : q < 31 then I.w ⟨q, h⟩ k else 0
/-- The convolution's row of a sequence. -/
def convE (b : Fin 2) (t : ℕ) : Fin 512 → EReal := tapsE (hpad I b) (wE I) I.b t
def C (r : Fin 4224) : Fin 512 → EReal := convE I ⟨r.val / 2112, by omega⟩ (r.val % 2112)
def N (r : Fin 4224) : Fin 512 → EReal := actE (C I r) I.ls I.lb

/-- Gating the padded rows pads the gated rows. -/
theorem glu_rows (b : Fin 2) (j : ℕ) (hj : j < 2112) (r : Fin 4224) (hr : r.val = b.val * 2112 + j) (k : Fin 512) :
    onRowsE (fun b i => I.a b i k) r * sigE (onRowsE (fun b i => I.g b i k) r) = hpad I b (j + 30) k := by
  by_cases h : 48 ≤ j
  · have e : r.val = b.val * 2112 + (48 + (⟨j - 48, by omega⟩ : Fin 2064).val) := by dsimp only; omega
    rw [onRowsE_pos _ b ⟨j - 48, by omega⟩ r e, onRowsE_pos _ b ⟨j - 48, by omega⟩ r e, hpad, dif_pos (by omega)]
    exact congrArg (fun i => glu I b i k) (Fin.ext (by dsimp only; omega))
  · rw [onRowsE, if_neg (by omega), zero_mul, hpad, dif_neg (by omega)]
/-- Two sums of taps over equal rows. -/
theorem taps_congr {H H' W W' : ℕ → Fin 512 → EReal} {B B' : Fin 512 → EReal} {r r' : ℕ} (hH : ∀ q < 31, ∀ k, H (r + q) k = H' (r' + q) k)
    (hW : ∀ q < 31, ∀ k, W q k = W' q k) (hB : ∀ k, B k = B' k) : tapsE H W B r = tapsE H' W' B' r' := by
  funext k
  unfold tapsE
  rw [hB, Finset.sum_congr rfl fun q _ => by rw [hH q.val q.isLt k, hW q.val q.isLt k]]
end Cert.Conv

namespace Cert.Kernel8Ideal.Conv
open Cert.Kernel8Ideal Cert.Kernel8Ideal.Gen Idealize.ShloMosaic Idealize.ShloMosaic.TcCoe Cert.Conv
open Cert.Proj (onRowsE onRowsE_pos)
open Cert.KernelIdeal.Head (idx2)
variable (m : (ℓ : Loc nD τ sig) → Buf (Elt Ideal) ℓ) (c : Dev nD)

/-- The memory holds the arguments. -/
structure Args (I : Inp) : Prop where
  a0 : ∀ b i k, m ((c : Thread nD τ).loc main_arg0) (ix3 b i k) = I.a b i k
  a1 : ∀ b i k, m ((c : Thread nD τ).loc main_arg1) (ix3 b i k) = I.g b i k
  a3 : ∀ q k, m ((c : Thread nD τ).loc main_arg3) (ix2 q k) = I.w q k
  a4 : ∀ k, m ((c : Thread nD τ).loc main_arg4) (ix1 k) = I.b k
  a5 : ∀ k, m ((c : Thread nD τ).loc main_arg5) (ix1 k) = I.ls k
  a6 : ∀ k, m ((c : Thread nD τ).loc main_arg6) (ix1 k) = I.lb k
variable {m c} {I : Inp} (h : Args m c I)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
/-- The arguments side by side. -/
abbrev cols : FVec Ideal S2x2064x2576 .f32 :=
  concatenate S2x2064x2576 2 [⟨S2x2064x512, m ((c : Thread nD τ).loc main_arg0)⟩, ⟨S2x2064x512, m ((c : Thread nD τ).loc main_arg1)⟩,
    ⟨S2x2064x1552, m ((c : Thread nD τ).loc main_arg2)⟩] concatenates_S2x2064x512_S2x2064x512_S2x2064x1552_S2x2064x2576_d2
abbrev uRows : FVec Ideal S4224x2688 .f32 :=
  shapeCast S4224x2688 (pad S2x2112x2688 ![0, 48, 0] ![0, 0, 112] ![0, 0, 0] (cols (m := m) (c := c)) zeroI
    pads_S2x2064x2576_S2x2112x2688_000_4800_01120 h_S_) shapeCasts_S2x2112x2688_S4224x2688
abbrev rowOf (x : FVec Ideal S512 .f32) : FVec Ideal S1x512 .f32 := broadcastInDim S1x512 ![1] bcast_S512_S1x512_1 x

theorem uRows_at (r : Fin 4224) (k : Fin 2688) (hk : k.val < 2576) : uRows (m := m) (c := c) (ix2 r k)
    = onRowsE (fun b i => cols (m := m) (c := c) (ix3 b i (⟨k.val, hk⟩ : Fin 2576))) r := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  refine (Layout.rows_at _ _ rfl b j k).trans ((Layout.pad3_at _ _ _ _ rfl _ _ _).trans ?_)
  by_cases hj : 48 ≤ j.val
  · rw [dif_pos ⟨hj, hk⟩, onRowsE_pos _ b ⟨j.val - 48, by omega⟩ _ (by dsimp only; omega)]
  · rw [dif_neg (fun H => hj H.1), zeroI_apply, onRowsE, if_neg (by dsimp only; omega)]

theorem V_all :
    V m c main_v2 = uRows (m := m) (c := c)
    ∧ V m c main_v3 = pad S32x512 ![0, 0] ![1, 0] ![0, 0] (m ((c : Thread nD τ).loc main_arg3)) zeroI pads_S31x512_S32x512_010_000 h_S_
    ∧ V m c main_v4 = rowOf (m ((c : Thread nD τ).loc main_arg4))
    ∧ V m c main_v5 = rowOf (m ((c : Thread nD τ).loc main_arg5))
    ∧ V m c main_v6 = rowOf (m ((c : Thread nD τ).loc main_arg6)) := by
  simp only [V, hostOps0, hostOps0_1, hostOps0_2, hostOps0_3, hostOps0_4, List.flatten_cons, List.flatten_nil, List.cons_append, List.nil_append, List.append_nil]
  refine ⟨?_, ?_, ?_, ?_, ?_⟩ <;> (entry_read; rfl)

include h in
theorem a_at (r : Fin 4224) (k : Fin 512) : V m c main_v2 (ix2 r (⟨k.val, by omega⟩ : Fin 2688)) = onRowsE (fun b i => I.a b i k) r := by
  rw [V_all.1, uRows_at r _ (by dsimp only; omega)]
  refine congrArg (fun f => onRowsE f r) (funext fun b => funext fun i => Eq.trans ?_ (h.a0 b i k))
  unfold cols; pointwise
include h in
theorem g_at (r : Fin 4224) (k : Fin 512) : V m c main_v2 (ix2 r (⟨512 + k.val, by omega⟩ : Fin 2688)) = onRowsE (fun b i => I.g b i k) r := by
  rw [V_all.1, uRows_at r _ (by dsimp only; omega)]
  refine congrArg (fun f => onRowsE f r) (funext fun b => funext fun i => Eq.trans ?_ (h.a1 b i k))
  unfold cols; pointwise
include h in
theorem w_at (q : Fin 32) (k : Fin 512) (hq : q.val < 31) : V m c main_v3 (ix2 q k) = I.w ⟨q.val, hq⟩ k := by
  rw [V_all.2.1]
  refine (Layout.pad2_at _ _ pads_S31x512_S32x512_010_000 h_S_ q k).trans ?_
  rw [dif_pos ⟨Nat.zero_le _, hq⟩]
  exact h.a3 _ _
theorem rowOf_at (x : FVec Ideal S512 .f32) (k : Fin 512) : rowOf x (ix2 0 k) = x (ix1 k) := by
  unfold rowOf
  pointwise

/-! ## The blocks of a grid point -/
theorem idx : ∀ t : Fin cfg0.N, win0_0.index t = ![t.val, 0] ∧ win0_1.index t = ![t.val, 1] ∧ win0_2.index t = ![22 * t.val - 1, 0] ∧ win0_3.index t = ![22 * t.val - 1, 1]
    ∧ win0_4.index t = ![0, 0] ∧ win0_5.index t = ![0, 0] ∧ win0_6.index t = ![0, 0] ∧ win0_7.index t = ![0, 0] ∧ win0_8.index t = ![t.val, 0] ∧ win0_9.index t = ![t.val, 0] :=
  (by decide +kernel : ∀ t : Fin grid0.N, _)
theorem tlt (t : Fin cfg0.N) : t.val < 6 := by have := t.isLt; simp only [show cfg0.N = 6 from N_0] at this; exact this
/-- Row `i` of a tile, and of the rows in front of it. -/
abbrev row (t : Fin cfg0.N) (i : Fin 704) : Fin 4224 := ⟨t.val * 704 + i.val, by have := tlt t; omega⟩
abbrev halo (t : Fin cfg0.N) (i : Fin 32) : Fin 4224 := ⟨(22 * t.val - 1) * 32 + i.val, by have := tlt t; omega⟩
section
variable (t : Fin cfg0.N)
include h
theorem b0 (i : Fin 704) (k : Fin 512) : X0_0 m c t (ix2 i k) = onRowsE (fun b i => I.a b i k) (row t i) := by
  rw [← a_at h _ k]; unfold X0_0 Pipeline.Window.fill; rw [dif_pos (moved0_0 t _)]
  show V m c main_v2 (((cfg0.win 0).blk t).view.emb _) = _; blk_ext [idx t]
theorem b1 (i : Fin 704) (k : Fin 512) : X0_1 m c t (ix2 i k) = onRowsE (fun b i => I.g b i k) (row t i) := by
  rw [← g_at h _ k]; unfold X0_1 Pipeline.Window.fill; rw [dif_pos (moved0_1 t _)]
  show V m c main_v2 (((cfg0.win 1).blk t).view.emb _) = _; blk_ext [idx t]
theorem b2 (i : Fin 32) (k : Fin 512) : X0_2 m c t (ix2 i k) = onRowsE (fun b i => I.a b i k) (halo t i) := by
  rw [← a_at h _ k]; unfold X0_2 Pipeline.Window.fill; rw [dif_pos (moved0_2 t _)]
  show V m c main_v2 (((cfg0.win 2).blk t).view.emb _) = _; blk_ext [idx t]
theorem b3 (i : Fin 32) (k : Fin 512) : X0_3 m c t (ix2 i k) = onRowsE (fun b i => I.g b i k) (halo t i) := by
  rw [← g_at h _ k]; unfold X0_3 Pipeline.Window.fill; rw [dif_pos (moved0_3 t _)]
  show V m c main_v2 (((cfg0.win 3).blk t).view.emb _) = _; blk_ext [idx t]
theorem b4 (q : Fin 32) (k : Fin 512) (hq : q.val < 31) : iblk m c 4 t (ix2 q k) = I.w ⟨q.val, hq⟩ k := by
  rw [← w_at h q k]; show V m c main_v3 (((cfg0.win 4).blk t).view.emb _) = _; blk_ext [idx t]
theorem b5 (k : Fin 512) : iblk m c 5 t (ix2 0 k) = I.b k := by
  refine Eq.trans ?_ ((congrFun V_all.2.2.1 (ix2 0 k)).trans ((rowOf_at _ k).trans (h.a4 k)))
  show V m c main_v4 (((cfg0.win 5).blk t).view.emb _) = _; blk_ext [idx t]
theorem b6 (k : Fin 512) : iblk m c 6 t (ix2 0 k) = I.ls k := by
  refine Eq.trans ?_ ((congrFun V_all.2.2.2.1 (ix2 0 k)).trans ((rowOf_at _ k).trans (h.a5 k)))
  show V m c main_v5 (((cfg0.win 6).blk t).view.emb _) = _; blk_ext [idx t]
theorem b7 (k : Fin 512) : iblk m c 7 t (ix2 0 k) = I.lb k := by
  refine Eq.trans ?_ ((congrFun V_all.2.2.2.2 (ix2 0 k)).trans ((rowOf_at _ k).trans (h.a6 k)))
  show V m c main_v6 (((cfg0.win 7).blk t).view.emb _) = _; blk_ext [idx t]
end

/-! ## The staged rows -/
section
variable (x y : Vec Ideal S32x512 .f32) (x' y' : Vec Ideal S704x512 .f32)
/-- The tiles in front of which the rows are zero. -/
theorem first_at : ∀ t : Fin cfg0.N, Scalar.cmpi .eq (Scalar.remsi (Scalar.muli (BitVec.ofNat 32 (grid0.coords t 0).val) 704#32) 2112#32) 0#32 = if t.val % 3 = 0 then 1#1 else 0#1 :=
  (by decide +kernel : ∀ t : Fin grid0.N, _)
theorem halo_at (t : Fin cfg0.N) (ρ : Fin 32) (k : Fin 512) : k0_pay16 (grid0.coords t) x y (ix2 ρ k)
    = if t.val % 3 = 0 then 0 else x (ix2 ρ k) * sigE (y (ix2 ρ k)) := by
  have e := first_at t
  generalize grid0.coords t = i at e ⊢
  pointwise [k0_pay16]
  rw [e]
  split_ifs <;> rfl
theorem body_at (ρ : Fin 704) (k : Fin 512) : k0_pay17 x' y' (ix2 ρ k) = x' (ix2 ρ k) * sigE (y' (ix2 ρ k)) := by
  pointwise [k0_pay17]
  rfl
end
variable (t : Fin cfg0.N)
include h in
theorem rows_at (ρ : ℕ) (h2 : 2 ≤ ρ) (hρ : ρ < 736) (k : Fin 512) :
    rowsE (X0_0 m c t) (X0_1 m c t) (X0_2 m c t) (X0_3 m c t) (grid0.coords t) ρ k = hpad I ⟨t.val / 3, by have := tlt t; omega⟩ (704 * (t.val % 3) + ρ - 2) k := by
  have ht := tlt t
  unfold rowsE
  by_cases hl : ρ < 32
  · rw [dif_pos hl, halo_at]
    by_cases h3 : t.val % 3 = 0
    · rw [if_pos h3, hpad, dif_neg (by omega)]
    · rw [if_neg h3, b2 h, b3 h, glu_rows I ⟨t.val / 3, by omega⟩ (704 * (t.val % 3) + ρ - 32) (by omega) _ (by dsimp only; omega)]
      exact congrArg (fun τ => hpad I _ τ k) (by omega)
  · rw [dif_neg hl, dif_pos (by omega : ρ - 32 < 704), body_at, b0 h, b1 h, glu_rows I ⟨t.val / 3, by omega⟩ (704 * (t.val % 3) + ρ - 32) (by omega) _ (by dsimp only; omega)]
    exact congrArg (fun τ => hpad I _ τ k) (by omega)
include h in
theorem conv_at (r : Fin 704) : tapsE (rowsE (X0_0 m c t) (X0_1 m c t) (X0_2 m c t) (X0_3 m c t) (grid0.coords t)) (weightE (iblk m c 4 t)) (fun k => iblk m c 5 t (ix2 0 k)) (r.val + 2)
    = C I (row t r) := by
  have ht := tlt t
  have e1 : (⟨t.val / 3, by omega⟩ : Fin 2) = ⟨(row t r).val / 2112, by omega⟩ := Fin.ext (by dsimp only; omega)
  refine taps_congr (fun q hq k => ?_) (fun q hq k => ?_) fun k => b5 h t k
  · rw [rows_at h t _ (by omega) (by omega), e1]
    exact congrArg (fun τ => hpad I _ τ k) (by dsimp only; omega)
  · rw [weightE, dif_pos (by omega : q < 32), wE, dif_pos hq]
    exact b4 h t ⟨q, by omega⟩ k hq

/-! ## The results -/
include h in
theorem out8 (r : Fin 4224) (k : Fin 512) : (dats m 0 c).arrAt 8 cfg0.N (ix2 r k) = C I r k := by
  let G : S4224x512.Idx → EReal := fun j => C I (j 0) (j 1)
  have e : (dats m 0 c).arrAt 8 cfg0.N = G := by
    refine (dats m 0 c).arrAt_eq_of_covers 8 G (by decide +kernel) fun t hf y => ?_
    obtain ⟨i, k, rfl⟩ := idx2 y
    have hs : ((dats m 0 c).after 8 t : S704x512.Idx → EReal) (ix2 i k) = C I (row t i) k := by
      rw [after0_8]
      exact (tile8 c _ _ _ _ _ _ _ _ _ _ _ _ _ _ _ _ _ _ _ _ _ _ _ _ _ _ _ _ _ _ _ i k).trans (congrFun (conv_at h t i) k)
    blk_simp
    refine hs.trans (show G (ix2 (row t i) k) = _ from congrArg G ?_)
    symm; blk_ext [idx t]
  rw [e]; rfl
include h in
theorem out9 (r : Fin 4224) (k : Fin 512) : (dats m 0 c).arrAt 9 cfg0.N (ix2 r k) = N I r k := by
  let G : S4224x512.Idx → EReal := fun j => N I (j 0) (j 1)
  have e : (dats m 0 c).arrAt 9 cfg0.N = G := by
    refine (dats m 0 c).arrAt_eq_of_covers 9 G (by decide +kernel) fun t hf y => ?_
    obtain ⟨i, k, rfl⟩ := idx2 y
    have hs : ((dats m 0 c).after 9 t : S704x512.Idx → EReal) (ix2 i k) = N I (row t i) k := by
      rw [after0_9]
      refine (tile9 c _ _ _ _ _ _ _ _ _ _ _ _ _ _ _ _ _ _ _ _ _ _ _ _ _ _ _ _ _ _ _ i k).trans ?_
      rw [conv_at h t i, show (fun k => iblk m c 6 t (ix2 0 k)) = I.ls from funext (b6 h t), show (fun k => iblk m c 7 t (ix2 0 k)) = I.lb from funext (b7 h t)]
      rfl
    blk_simp
    refine hs.trans (show G (ix2 (row t i) k) = _ from congrArg G ?_)
    symm; blk_ext [idx t]
  rw [e]; rfl
end Cert.Kernel8Ideal.Conv
-- ==== Proof.ConvReference.lean ====
module
public import proofs.«01_k».proof.Proof.ConvEntry
public import proofs.«01_k».proof.Proof.Gen.Reference8Ideal.Run
public import proofs.«01_k».proof.Proof.Gen.Reference8Ideal.Read
@[expose] public section
set_option maxRecDepth 16384
/-! # What the reference of the convolution computes -/
noncomputable section
namespace Cert.Reference8Ideal.Conv
open Cert.Reference8Ideal Cert.Reference8Ideal.Read Idealize.ShloMosaic Idealize.ShloMosaic.TcCoe Cert.Real Cert.Conv
open Cert.Proj (onRowsE onRowsE_pos)
open scoped BigOperators

/-- The arguments. -/
structure Args (X0 X1 : (⟨S2x2064x512, .f32⟩ : BufTy).Contents (Elt Ideal)) (X3 : (⟨S31x512, .f32⟩ : BufTy).Contents (Elt Ideal))
    (X4 X5 X6 : (⟨S512, .f32⟩ : BufTy).Contents (Elt Ideal)) (I : Inp) : Prop where
  a0 : ∀ b i k, X0 (ix3 b i k) = I.a b i k
  a1 : ∀ b i k, X1 (ix3 b i k) = I.g b i k
  a3 : ∀ q k, X3 (ix2 q k) = I.w q k
  a4 : ∀ k, X4 (ix1 k) = I.b k
  a5 : ∀ k, X5 (ix1 k) = I.ls k
  a6 : ∀ k, X6 (ix1 k) = I.lb k

/-- The padded rows in front of a sequence. -/
theorem pad_at {X : (⟨S2x2064x512, .f32⟩ : BufTy).Contents (Elt Ideal)} {f : Fin 2 → Fin 2064 → Fin 512 → EReal} (hX : ∀ b i k, X (ix3 b i k) = f b i k) (b : Fin 2) (j : Fin 2112) (k : Fin 512) :
    val_main_v0 (F := Ideal) X (ix3 b j k) = onRowsE (fun b i => f b i k) ⟨b.val * 2112 + j.val, by omega⟩ := by
  refine (Layout.pad3_at _ _ _ _ rfl _ _ _).trans ?_
  by_cases hj : 48 ≤ j.val
  · rw [dif_pos ⟨hj, k.isLt⟩, hX, onRowsE_pos (fun b i => f b i k) b ⟨j.val - 48, by omega⟩ _ (by dsimp only; omega)]
  · rw [dif_neg (fun H => hj H.1), onRowsE, if_neg (by dsimp only; omega)]
    exact Cert.Kernel8Ideal.Conv.zeroI_apply _

variable {X0 X1 : (⟨S2x2064x512, .f32⟩ : BufTy).Contents (Elt Ideal)} {X3 : (⟨S31x512, .f32⟩ : BufTy).Contents (Elt Ideal)} {X4 X5 X6 : (⟨S512, .f32⟩ : BufTy).Contents (Elt Ideal)} {I : Inp}
section
variable (h : Args X0 X1 X3 X4 X5 X6 I)
include h
theorem glu_at (b : Fin 2) (j : Fin 2112) (k : Fin 512) : val_main_v8 (F := Ideal) X0 X1 (ix3 b j k) = hpad I b (j.val + 30) k := by
  have e0 := pad_at h.a0 b j k
  have e1 : val_main_v1 (F := Ideal) X1 (ix3 b j k) = _ := pad_at h.a1 b j k
  rw [← glu_rows I b j.val j.isLt ⟨b.val * 2112 + j.val, by omega⟩ rfl k, ← e0, ← e1]
  unfold val_main_v8 val_main_v7 val_main_v5 val_main_v3 val_main_v2
  generalize val_main_v0 (F := Ideal) X0 = x
  generalize val_main_v1 (F := Ideal) X1 = y
  pointwise [val_main_v4, val_main_v6, val_main_cst, val_main_cst_1]
  simp only [sigE, zero_sub]
theorem hpad_at (b : Fin 2) (τ : Fin 2142) (k : Fin 512) : val_main_v9 (F := Ideal) X0 X1 (ix3 b τ k) = hpad I b τ.val k := by
  refine (Layout.pad3_at _ _ _ _ rfl _ _ _).trans ?_
  by_cases hj : 30 ≤ τ.val
  · rw [dif_pos ⟨hj, k.isLt⟩, glu_at h b ⟨τ.val - 30, by omega⟩ k]
    exact congrArg (fun τ => hpad I b τ k) (by dsimp only; omega)
  · rw [dif_neg (fun H => hj H.1), hpad, dif_neg (by omega)]
    exact Cert.Kernel8Ideal.Conv.zeroI_apply _
end

/-- A window's row: no index is negative or too large. -/
theorem wrap_at : ∀ n : Fin 2142, (Scalar.select (IntOp.cmpi .slt (BitVec.ofNat 32 n.val) 0#32) (IntOp.addi (BitVec.ofNat 32 n.val) 2142#32) (BitVec.ofNat 32 n.val)).toInt.toNat = n.val := by
  decide +kernel
theorem at_at (t : Fin 2112) (q : Fin 31) : (val_main_v22 (F := Ideal) (ix3 t q 0)).toInt.toNat = t.val + q.val := by
  have e : val_main_v16 (F := Ideal) (ix2 t q) = BitVec.ofNat 32 (t.val + q.val) := by
    rw [BitVec.ofNat_add]
    pointwise [val_main_v16, val_main_v14, val_main_v11, val_main_v10, val_main_v15, val_main_v13, val_main_v12]
    rfl
  refine Eq.trans ?_ (wrap_at ⟨t.val + q.val, by omega⟩)
  unfold val_main_v22 val_main_v21 val_main_v18 val_main_v20
  generalize val_main_v16 (F := Ideal) = w at e ⊢
  pointwise [val_main_v17, val_main_c_3, val_main_v19, val_main_c_4]
  rw [e]

theorem gather_at (x : FVec Ideal S2x2142x512 .f32) (ix : IVec S2112x31x1 32) (b : Fin 2) (t : Fin 2112) (q : Fin 31) (k : Fin 512) :
    Host.gather gather_S2x2142x512_S2112x31x1_S2x2112x31x512_03_1_n_n_1_2_21512 x ix (ix4 b t q k) = x (ix3 b ⟨min (ix (ix3 t q 0)).toInt.toNat 2141, by omega⟩ k) := by
  let d := gather_S2x2142x512_S2112x31x1_S2x2112x31x512_03_1_n_n_1_2_21512
  have hb (a : Fin 3) : d.batchCoord (ix4 b t q k) a = 0 := d.batchCoord_eq_zero _ _ List.not_mem_nil
  unfold Host.gather
  congr 1
  funext a
  refine Fin.ext ?_
  show d.start (ix4 b t q k) ix a + d.batchCoord (ix4 b t q k) a + d.offCoord (ix4 b t q k) a = _
  rw [hb, Nat.add_zero]
  match a with
  | ⟨0, _⟩ =>
    have e1 : d.start (ix4 b t q k) ix (0 : Fin 3) = 0 := by
      unfold GatherDims.start; rw [dif_neg (show (0 : Fin 3) ∉ d.startIndexMap by decide)]
    have e2 : d.offCoord (ix4 b t q k) (0 : Fin 3) = b.val := by
      unfold GatherDims.offCoord; rw [dif_pos (show (0 : Fin 3) ∈ d.sKept by decide)]; rfl
    exact (congrArg₂ (· + ·) e1 e2).trans (Nat.zero_add _)
  | ⟨1, _⟩ =>
    have e2 : d.offCoord (ix4 b t q k) (1 : Fin 3) = 0 := by
      unfold GatherDims.offCoord; rw [dif_neg (show (1 : Fin 3) ∉ d.sKept by decide)]
    have e1 : d.start (ix4 b t q k) ix (1 : Fin 3) = min (ix (ix3 t q 0)).toInt.toNat 2141 := by
      unfold GatherDims.start
      rw [dif_pos (show (1 : Fin 3) ∈ d.startIndexMap by decide)]
      have hs : d.siIdx (ix4 b t q k) ⟨List.idxOf (1 : Fin 3) d.startIndexMap, List.idxOf_lt_length_iff.2 (by decide)⟩ = ix3 t q 0 := by
        funext a; refine Fin.ext ?_
        match a with
        | ⟨0, _⟩ => rfl
        | ⟨1, _⟩ => rfl
        | ⟨2, _⟩ => rfl
      rw [hs]; rfl
    exact congrArg₂ (· + ·) e1 e2
  | ⟨2, _⟩ =>
    have e1 : d.start (ix4 b t q k) ix (2 : Fin 3) = 0 := by
      unfold GatherDims.start; rw [dif_neg (show (2 : Fin 3) ∉ d.startIndexMap by decide)]
    have e2 : d.offCoord (ix4 b t q k) (2 : Fin 3) = k.val := by
      unfold GatherDims.offCoord; rw [dif_pos (show (2 : Fin 3) ∈ d.sKept by decide)]; rfl
    exact (congrArg₂ (· + ·) e1 e2).trans (Nat.zero_add _)

variable (h : Args X0 X1 X3 X4 X5 X6 I)
include h
theorem window_at (b : Fin 2) (t : Fin 2112) (q : Fin 31) (k : Fin 512) : val_main_v23 (F := Ideal) X0 X1 (ix4 b t q k) = hpad I b (t.val + q.val) k := by
  unfold val_main_v23
  rw [gather_at, hpad_at h]
  exact congrArg (fun τ => hpad I b τ k) (by have := at_at t q; dsimp only; omega)
theorem conv_at (b : Fin 2) (t : Fin 2112) (k : Fin 512) : val_main_v28 (F := Ideal) X0 X1 X3 X4 (ix3 b t k) = convE I b t.val k := by
  have e := window_at h b t
  unfold val_main_v28 val_main_v25 val_main_v24
  generalize val_main_v23 (F := Ideal) X0 X1 = w at e ⊢
  pointwise [val_main_v27, val_main_v26]
  rw [convE, tapsE, h.a4]
  refine congrArg (· + I.b k) (Finset.sum_congr rfl fun q _ => ?_)
  rw [e, h.a3, wE, dif_pos q.isLt, mul_comm]
/-- The convolution's rows. -/
theorem out0 (r : Fin 4224) (k : Fin 512) : val_main_v29 (F := Ideal) X0 X1 X3 X4 (ix2 r k) = C I r k := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  refine (Layout.rows_at _ _ rfl b j k).trans ((conv_at h b j k).trans ?_)
  exact congrFun (congrArg₂ (convE I) (Fin.ext (by dsimp only; omega)) (by dsimp only; omega)) k
theorem cen_at (r : Fin 4224) (k : Fin 512) : val_main_v35 (F := Ideal) X0 X1 X3 X4 (ix2 r k) = C I r k - meanE (C I r)
    ∧ val_main_v42 (F := Ideal) X0 X1 X3 X4 (ix2 r k) = C I r k - meanE (C I r) := by
  have e := out0 h r
  constructor
  on_goal 1 => unfold val_main_v35 val_main_v34 val_main_v33 val_main_v31 val_main_v30
  on_goal 2 => unfold val_main_v42 val_main_v41 val_main_v33 val_main_v31 val_main_v30
  all_goals
    generalize val_main_v29 (F := Ideal) X0 X1 X3 X4 = w at e ⊢
    pointwise [val_main_v32, val_main_cst_5, val_main_cst_6]
    simp only [e, meanE]
theorem rs_at (r : Fin 4224) : val_main_v45 (F := Ideal) X0 X1 X3 X4 (ix2 r 0) = Ideal.rsqrt (varE (C I r) + Ideal.ofBits .f32 0x3727C5AC#32) := by
  have e := fun k => (cen_at h r k).1
  unfold val_main_v45 val_main_v44 val_main_v40 val_main_v38 val_main_v37 val_main_v36
  generalize val_main_v35 (F := Ideal) X0 X1 X3 X4 = w at e ⊢
  pointwise [val_main_v43, val_main_v39, val_main_cst_7, val_main_cst_8, val_main_cst_9]
  simp only [e, varE]
theorem norm_at (r : Fin 4224) (k : Fin 512) : val_main_v53 (F := Ideal) X0 X1 X3 X4 X5 X6 (ix2 r k) = hatE (C I r) k * I.ls k + I.lb k := by
  have e := (cen_at h r k).2
  have e' := rs_at h r
  unfold val_main_v53 val_main_v50 val_main_v47 val_main_v46
  generalize val_main_v42 (F := Ideal) X0 X1 X3 X4 = w at e ⊢
  generalize val_main_v45 (F := Ideal) X0 X1 X3 X4 = w' at e' ⊢
  pointwise [val_main_v48, val_main_v49, val_main_v51, val_main_v52]
  rw [e, e', h.a5, h.a6, hatE]
/-- The activated rows. -/
theorem out1 (r : Fin 4224) (k : Fin 512) : val_main_v55 (F := Ideal) X0 X1 X3 X4 X5 X6 (ix2 r k) = N I r k := by
  have e := norm_at h r k
  unfold N actE
  rw [← e]
  unfold val_main_v55 val_main_v54 val_main_call3_v5 val_main_call3_v3 val_main_call3_v1 val_main_call3_v0
  generalize val_main_v53 (F := Ideal) X0 X1 X3 X4 X5 X6 = w
  pointwise [val_main_call3_v2, val_main_call3_v4, val_main_call3_cst, val_main_call3_cst_0]
  simp only [siluE, sigE, zero_sub]
end Cert.Reference8Ideal.Conv
-- ==== Proof.ConvClaim.lean ====
module
public import proofs.«01_k».proof.Defs
public import proofs.«01_k».proof.Proof.ConvReference
public import Idealize.ShloMosaic.Adequacy
public import Idealize.ShloMosaic.Init
@[expose] public section
set_option maxRecDepth 16384
/-! # The convolution: the claims -/
noncomputable section
namespace Cert.Proof.Conv
open Idealize.ShloMosaic Idealize.SL.Sem Cert.Kernel8
open Cert.KernelIdeal.Head (idx2)

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The arguments as the kernel's memory holds them. -/
abbrev inp (m : (ℓ : Loc Cert.Kernel8Ideal.nD Cert.Kernel8Ideal.τ Cert.Kernel8Ideal.sig) → Buf (Elt Ideal) ℓ) (c : Dev Cert.Kernel8Ideal.nD) : Cert.Conv.Inp where
  a := fun b i k => m ((c.tc : Thread Cert.Kernel8Ideal.nD Cert.Kernel8Ideal.τ).loc Cert.Kernel8Ideal.main_arg0) (ix3 b i k)
  g := fun b i k => m ((c.tc : Thread Cert.Kernel8Ideal.nD Cert.Kernel8Ideal.τ).loc Cert.Kernel8Ideal.main_arg1) (ix3 b i k)
  w := fun q k => m ((c.tc : Thread Cert.Kernel8Ideal.nD Cert.Kernel8Ideal.τ).loc Cert.Kernel8Ideal.main_arg3) (ix2 q k)
  b := fun k => m ((c.tc : Thread Cert.Kernel8Ideal.nD Cert.Kernel8Ideal.τ).loc Cert.Kernel8Ideal.main_arg4) (ix1 k)
  ls := fun k => m ((c.tc : Thread Cert.Kernel8Ideal.nD Cert.Kernel8Ideal.τ).loc Cert.Kernel8Ideal.main_arg5) (ix1 k)
  lb := fun k => m ((c.tc : Thread Cert.Kernel8Ideal.nD Cert.Kernel8Ideal.τ).loc Cert.Kernel8Ideal.main_arg6) (ix1 k)

/-- The two programs end with equal rows, whatever the arguments. -/
theorem value : Cert.algebraic_Kernel8Ideal_Reference8Ideal := by
  intro m g m' g' _ hm
  have hk (c : Dev Cert.Kernel8Ideal.nD) : Cert.Kernel8Ideal.Conv.Args m c (inp m c) :=
    ⟨fun _ _ _ => rfl, fun _ _ _ => rfl, fun _ _ => rfl, fun _ => rfl, fun _ => rfl, fun _ => rfl⟩
  refine ⟨_, _, Cert.Kernel8Ideal.Value.run_blocks (F := Ideal) m g,
    (θ_run Cert.Reference8Ideal.defs _ _).mono (fun r h c => ?_) (Cert.Reference8Ideal.Value.run (F := Ideal) m' g')⟩
  obtain ⟨e0, e1, ha⟩ := h c
  obtain ⟨q0, q1, q2, q3, q4, q5, q6⟩ := hm c
  have hr : Cert.Reference8Ideal.Conv.Args _ _ _ _ _ _ (inp m c) :=
    ⟨fun b i k => congrFun q0 (ix3 b i k), fun b i k => congrFun q1 (ix3 b i k), fun q k => congrFun q3 (ix2 q k),
      fun k => congrFun q4 (ix1 k), fun k => congrFun q5 (ix1 k), fun k => congrFun q6 (ix1 k)⟩
  refine ⟨(e0.trans (Cert.Reference8Ideal.Read.val_main_v29_eq (F := Ideal) _ _ _ _)).trans (funext fun j => ?_),
    (e1.trans (Cert.Reference8Ideal.Read.val_main_v55_eq (F := Ideal) m' c)).trans (funext fun j => ?_), ha⟩
  · obtain ⟨r, k, rfl⟩ := idx2 j
    exact (Cert.Reference8Ideal.Conv.out0 hr r k).trans (Cert.Kernel8Ideal.Conv.out8 (hk c) r k).symm
  · obtain ⟨r, k, rfl⟩ := idx2 j
    exact (Cert.Reference8Ideal.Conv.out1 hr r k).trans (Cert.Kernel8Ideal.Conv.out9 (hk c) r k).symm
end Cert.Proof.Conv
-- ==== Proof.NormKernel.lean ====
module
public import proofs.«01_k».proof.Proof.ProjKernel
public import proofs.«01_k».proof.Proof.Gen.Kernel9Ideal.Value
public import proofs.«01_k».proof.Proof.Gen.Kernel9Ideal
@[expose] public section
set_option maxRecDepth 16384
/-! # The first norm at the learned rows: what the kernel computes

A grid point writes 64 rows, 48 of padding and the learned rows, in front of a sequence; the other rows stay as they were handed over.
The claim has no precondition, so everything here is an extended real. -/
noncomputable section
namespace Cert.Norm
open Idealize.ShloMosaic Cert.Real
open Cert.Proj (lnE)

/-- The arguments: the learned rows, the norm's scale and shift, the rows of the tokens. -/
structure Inp where
  l : Fin 16 → Fin 1024 → EReal
  g : Fin 1024 → EReal
  b : Fin 1024 → EReal
  x : Fin 2 → Fin 2048 → Fin 1024 → EReal
variable (I : Inp)
/-- The 64 rows in front of a sequence's tokens. -/
def front (i : Fin 64) (k : Fin 1024) : EReal := if h : 48 ≤ i.val then lnE (I.l ⟨i.val - 48, by omega⟩) I.g I.b k else 0
/-- A sequence's rows. -/
def row (b : Fin 2) (j : Fin 2112) (k : Fin 1024) : EReal := if h : j.val < 64 then front I ⟨j.val, h⟩ k else I.x b ⟨j.val - 64, by omega⟩ k
def S (r : Fin 4224) (k : Fin 1024) : EReal := row I ⟨r.val / 2112, by omega⟩ ⟨r.val % 2112, Nat.mod_lt _ (by norm_num)⟩ k
theorem S_eq (b : Fin 2) (j : Fin 2112) (r : Fin 4224) (hr : r.val = b.val * 2112 + j.val) (k : Fin 1024) : S I r k = row I b j k := by
  rw [S, show (⟨r.val / 2112, by omega⟩ : Fin 2) = b from Fin.ext (by dsimp only; omega),
    show (⟨r.val % 2112, Nat.mod_lt _ (by norm_num)⟩ : Fin 2112) = j from Fin.ext (by dsimp only; omega)]
end Cert.Norm

namespace Cert.Kernel9Ideal.Norm
open Cert.Kernel9Ideal Cert.Kernel9Ideal.Gen Idealize.ShloMosaic Idealize.ShloMosaic.TcCoe Cert.Norm
open Cert.Proj (lnE meanE varE)
open Cert.KernelIdeal.Head (idx2)
variable (m : (ℓ : Loc nD τ sig) → Buf (Elt Ideal) ℓ) (c : Dev nD)

/-- The memory holds the arguments. -/
structure Args (I : Inp) : Prop where
  a0 : ∀ i k, m ((c : Thread nD τ).loc main_arg0) (ix2 i k) = I.l i k
  a1 : ∀ k, m ((c : Thread nD τ).loc main_arg1) (ix1 k) = I.g k
  a2 : ∀ k, m ((c : Thread nD τ).loc main_arg2) (ix1 k) = I.b k
  a3 : ∀ b i k, m ((c : Thread nD τ).loc main_arg3) (ix3 b i k) = I.x b i k
variable {m c} {I : Inp} (h : Args m c I)

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
abbrev rowOf (x : FVec Ideal S1024 .f32) : FVec Ideal S1x1024 .f32 := broadcastInDim S1x1024 ![1] bcast_S1024_S1x1024_1 x
theorem rowOf_at (x : FVec Ideal S1024 .f32) (k : Fin 1024) : rowOf x (ix2 0 k) = x (ix1 k) := by
  unfold rowOf
  pointwise
abbrev tokens : FVec Ideal S4224x1024 .f32 :=
  shapeCast S4224x1024 (pad S2x2112x1024 ![0, 64, 0] ![0, 0, 0] ![0, 0, 0] (m ((c : Thread nD τ).loc main_arg3)) zeroI
    pads_S2x2048x1024_S2x2112x1024_000_6400_000 h_S_) shapeCasts_S2x2112x1024_S4224x1024

theorem V_all :
    V m c main_v0 = pad S64x1024 ![48, 0] ![0, 0] ![0, 0] (m ((c : Thread nD τ).loc main_arg0)) zeroI pads_S16x1024_S64x1024_4800_000 h_S_
    ∧ V m c main_v3 = rowOf (m ((c : Thread nD τ).loc main_arg1))
    ∧ V m c main_v4 = rowOf (m ((c : Thread nD τ).loc main_arg2))
    ∧ V m c main_v6_0 = tokens (m := m) (c := c)
    ∧ V m c main_v6_1 = (truncf .bf16 (tokens (m := m) (c := c)) bitsLt_bf16_f32 : FVec Ideal S4224x1024 .bf16) := by
  simp only [V, hostOps0, hostOps0_1, hostOps0_2, hostOps0_3, hostOps0_4, List.flatten_cons, List.flatten_nil, List.cons_append, List.nil_append, List.append_nil]
  refine ⟨?_, ?_, ?_, ?_, ?_⟩ <;> (entry_read; rfl)

include h in
theorem l_at (i : Fin 64) (k : Fin 1024) (hi : 48 ≤ i.val) : V m c main_v0 (ix2 i k) = I.l ⟨i.val - 48, by omega⟩ k := by
  rw [V_all.1]
  refine (Layout.pad2_at _ _ pads_S16x1024_S64x1024_4800_000 h_S_ i k).trans ?_
  rw [dif_pos ⟨hi, by omega⟩]
  exact h.a0 _ _
include h in
/-- The rows handed over, past the front of a sequence. -/
theorem tokens_at (r : Fin 4224) (k : Fin 1024) (hr : ¬ r.val / 64 % 33 = 0) : tokens (m := m) (c := c) (ix2 r k) = S I r k := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  have hj : ¬ j.val < 64 := by dsimp only at hr; omega
  refine (Layout.rows_at _ _ rfl b j k).trans ((Layout.pad3_at _ _ _ _ rfl _ _ _).trans ?_)
  rw [dif_pos ⟨by omega, k.isLt⟩, S_eq I b j _ rfl, row, dif_neg hj]
  exact h.a3 _ _ _

/-! ## The blocks of a grid point -/
theorem idx : ∀ t : Fin cfg0.N, win0_0.index t = ![0, 0] ∧ win0_1.index t = ![0, 0] ∧ win0_2.index t = ![0, 0] ∧ win0_3.index t = ![33 * t.val, 0] ∧ win0_4.index t = ![33 * t.val, 0] :=
  (by decide +kernel : ∀ t : Fin grid0.N, _)
theorem tlt (t : Fin cfg0.N) : t.val < 2 := by have := t.isLt; simp only [show cfg0.N = 2 from N_0] at this; exact this
/-- Row `i` of a written block. -/
abbrev at' (t : Fin cfg0.N) (i : Fin 64) : Fin 4224 := ⟨33 * t.val * 64 + i.val, by have := tlt t; omega⟩
section
variable (t : Fin cfg0.N)
include h
theorem b0 (i : Fin 64) (k : Fin 1024) (hi : 48 ≤ i.val) : iblk m c 0 t (ix2 i k) = I.l ⟨i.val - 48, by omega⟩ k := by
  rw [← l_at h i k hi]; show V m c main_v0 (((cfg0.win 0).blk t).view.emb _) = _; blk_ext [idx t]
theorem b1 (k : Fin 1024) : iblk m c 1 t (ix2 0 k) = I.g k := by
  refine Eq.trans ?_ ((congrFun V_all.2.1 (ix2 0 k)).trans ((rowOf_at _ k).trans (h.a1 k)))
  show V m c main_v3 (((cfg0.win 1).blk t).view.emb _) = _; blk_ext [idx t]
theorem b2 (k : Fin 1024) : iblk m c 2 t (ix2 0 k) = I.b k := by
  refine Eq.trans ?_ ((congrFun V_all.2.2.1 (ix2 0 k)).trans ((rowOf_at _ k).trans (h.a2 k)))
  show V m c main_v4 (((cfg0.win 2).blk t).view.emb _) = _; blk_ext [idx t]
end

/-- The norm of a block, with the padding masked. -/
theorem pay_at (x : Vec Ideal S64x1024 .f32) (g b : Vec Ideal S1x1024 .f32) (i : Fin 64) (k : Fin 1024) :
    k0_pay1 x g b (ix2 i k) = if 48 ≤ i.val then lnE (fun k => x (ix2 i k)) (fun k => g (ix2 0 k)) (fun k => b (ix2 0 k)) k else 0 := by
  pointwise [k0_pay1]
  rw [(by decide : ∀ i : Fin 64, IntOp.cmpi .sge (BitVec.ofNat 32 i.val) 48#32 = if 48 ≤ i.val then 1#1 else 0#1) i]
  split_ifs <;> rfl
include h in
theorem stored (t : Fin cfg0.N) (i : Fin 64) (k : Fin 1024) : k0_pay1 (iblk m c 0 t) (iblk m c 1 t) (iblk m c 2 t) (ix2 i k) = S I (at' t i) k := by
  rw [pay_at, S_eq I ⟨t.val, tlt t⟩ ⟨i.val, by omega⟩ _ (by dsimp only; omega), row, dif_pos i.isLt, front]
  split_ifs with hi
  · rw [show (fun k => iblk m c 0 t (ix2 i k)) = I.l ⟨i.val - 48, by omega⟩ from funext fun k => b0 h t i k hi,
      show (fun k => iblk m c 1 t (ix2 0 k)) = I.g from funext (b1 h t), show (fun k => iblk m c 2 t (ix2 0 k)) = I.b from funext (b2 h t)]
  · rfl

include h in
theorem after3 (t : Fin cfg0.N) (i : Fin 64) (k : Fin 1024) : ((dats m 0 c).after 3 t : S64x1024.Idx → EReal) (ix2 i k) = S I (at' t i) k := by
  rw [after0_3]
  unfold outsAt0 out0_A_3
  frame_out
  exact stored h t i k
include h in
theorem after4 (t : Fin cfg0.N) (i : Fin 64) (k : Fin 1024) : ((dats m 0 c).after 4 t : S64x1024.Idx → EReal) (ix2 i k) = S I (at' t i) k := by
  rw [after0_4]
  unfold outsAt0 out0_A_4
  frame_out
  exact stored h t i k

/-! ## The results -/
include h in
theorem out3 (r : Fin 4224) (k : Fin 1024) : (dats m 0 c).arrAt 3 cfg0.N (ix2 r k) = S I r k := by
  let G : S4224x1024.Idx → EReal := fun j => S I (j 0) (j 1)
  refine ((dats m 0 c).arrAt_apply_of_coversWhere 3 G (P := fun j => (j 0).val / 64 % 33 = 0) (fun β => β 0 % 33 = 0) (by decide +kernel) (fun t hf y => ?_)
    (fun j => Iff.rfl) (ix2 r k)).trans ?_
  · obtain ⟨i, k, rfl⟩ := idx2 y
    have hs : ((dats m 0 c).after 3 t : S64x1024.Idx → EReal) (ix2 i k) = S I (at' t i) k := by
      exact after3 h t i k
    blk_simp
    refine hs.trans (show G (ix2 (at' t i) k) = _ from congrArg G ?_)
    symm; blk_ext [idx t]
  · split_ifs with hr
    · rfl
    · rw [A_eq]
      exact (congrFun V_all.2.2.2.1 (ix2 r k)).trans (tokens_at h r k hr)
include h in
/-- The rounded rows are the same. -/
theorem out4 (r : Fin 4224) (k : Fin 1024) : (dats m 0 c).arrAt 4 cfg0.N (ix2 r k) = S I r k := by
  let G : S4224x1024.Idx → EReal := fun j => S I (j 0) (j 1)
  refine ((dats m 0 c).arrAt_apply_of_coversWhere 4 G (P := fun j => (j 0).val / 64 % 33 = 0) (fun β => β 0 % 33 = 0) (by decide +kernel) (fun t hf y => ?_)
    (fun j => Iff.rfl) (ix2 r k)).trans ?_
  · obtain ⟨i, k, rfl⟩ := idx2 y
    have hs : ((dats m 0 c).after 4 t : S64x1024.Idx → EReal) (ix2 i k) = S I (at' t i) k := by
      exact after4 h t i k
    blk_simp
    refine hs.trans (show G (ix2 (at' t i) k) = _ from congrArg G ?_)
    symm; blk_ext [idx t]
  · split_ifs with hr
    · rfl
    · rw [A_eq]
      exact (congrFun V_all.2.2.2.2 (ix2 r k)).trans (tokens_at h r k hr)
end Cert.Kernel9Ideal.Norm
-- ==== Proof.NormReference.lean ====
module
public import proofs.«01_k».proof.Proof.NormKernel
public import proofs.«01_k».proof.Proof.Gen.Reference9Ideal.Run
public import proofs.«01_k».proof.Proof.Gen.Reference9Ideal.Read
@[expose] public section
set_option maxRecDepth 16384
/-! # The first norm at the learned rows: what the reference computes -/
noncomputable section
namespace Cert.Reference9Ideal.Norm
open Cert.Reference9Ideal Cert.Reference9Ideal.Read Idealize.ShloMosaic Idealize.ShloMosaic.TcCoe Cert.Norm
open Cert.Proj (lnE meanE varE)

/-- The arguments. -/
structure Args (X0 : (⟨S16x1024, .f32⟩ : BufTy).Contents (Elt Ideal)) (X1 X2 : (⟨S1024, .f32⟩ : BufTy).Contents (Elt Ideal))
    (X3 : (⟨S2x2048x1024, .f32⟩ : BufTy).Contents (Elt Ideal)) (I : Inp) : Prop where
  a0 : ∀ i k, X0 (ix2 i k) = I.l i k
  a1 : ∀ k, X1 (ix1 k) = I.g k
  a2 : ∀ k, X2 (ix1 k) = I.b k
  a3 : ∀ b i k, X3 (ix3 b i k) = I.x b i k

variable {X0 : (⟨S16x1024, .f32⟩ : BufTy).Contents (Elt Ideal)} {X1 X2 : (⟨S1024, .f32⟩ : BufTy).Contents (Elt Ideal)}
    {X3 : (⟨S2x2048x1024, .f32⟩ : BufTy).Contents (Elt Ideal)} {I : Inp} (h : Args X0 X1 X2 X3 I)
include h
theorem cen_at (i : Fin 16) (k : Fin 1024) : val_main_v5 (F := Ideal) X0 (ix2 i k) = I.l i k - meanE (I.l i)
    ∧ val_main_v12 (F := Ideal) X0 (ix2 i k) = I.l i k - meanE (I.l i) := by
  constructor
  on_goal 1 => unfold val_main_v5 val_main_v4 val_main_v3 val_main_v1 val_main_v0
  on_goal 2 => unfold val_main_v12 val_main_v11 val_main_v3 val_main_v1 val_main_v0
  all_goals
    pointwise [val_main_v2, val_main_cst, val_main_cst_0]
    simp only [h.a0, meanE]
theorem rs_at (i : Fin 16) : val_main_v15 (F := Ideal) X0 (ix2 i 0) = Ideal.rsqrt (varE (I.l i) + Ideal.ofBits .f32 0x3727C5AC#32) := by
  have e := fun k => (cen_at h i k).1
  unfold val_main_v15 val_main_v14 val_main_v10 val_main_v8 val_main_v7 val_main_v6
  generalize val_main_v5 (F := Ideal) X0 = w at e ⊢
  pointwise [val_main_v13, val_main_v9, val_main_cst_1, val_main_cst_2, val_main_cst_3]
  simp only [e, varE]
/-- The normalised learned rows, scaled and shifted. -/
theorem ln_at (i : Fin 16) (k : Fin 1024) : val_main_v23 (F := Ideal) X0 X1 X2 (ix2 i k) = lnE (I.l i) I.g I.b k := by
  have e := (cen_at h i k).2
  have e' := rs_at h i
  unfold val_main_v23 val_main_v20 val_main_v17 val_main_v16
  generalize val_main_v12 (F := Ideal) X0 = w at e ⊢
  generalize val_main_v15 (F := Ideal) X0 = w' at e' ⊢
  pointwise [val_main_v18, val_main_v19, val_main_v21, val_main_v22]
  rw [e, e', h.a1, h.a2, lnE]
/-- In front of a sequence's tokens. -/
theorem seq_at (b : Fin 2) (i : Fin 2064) (k : Fin 1024) :
    val_main_v26 (F := Ideal) X0 X1 X2 X3 (ix3 b i k) = if hi : i.val < 16 then lnE (I.l ⟨i.val, hi⟩) I.g I.b k else I.x b ⟨i.val - 16, by omega⟩ k := by
  have e := ln_at h
  unfold val_main_v26 val_main_v25 val_main_v24
  generalize val_main_v23 (F := Ideal) X0 X1 X2 = w at e ⊢
  pointwise
  simp only [e, h.a3]
theorem out0 (r : Fin 4224) (k : Fin 1024) : val_main_v28 (F := Ideal) X0 X1 X2 X3 (ix2 r k) = S I r k := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  refine (Layout.rows_at _ _ rfl b j k).trans ((Layout.pad3_at (b' := 2112) (l := 48) (val_main_v26 (F := Ideal) X0 X1 X2 X3) _ _ _ rfl b j k).trans ?_)
  rw [S_eq I b j _ rfl, row]
  by_cases hj : 48 ≤ j.val
  · rw [dif_pos ⟨hj, k.isLt⟩, seq_at h]
    by_cases h6 : j.val < 64
    · rw [dif_pos (by dsimp only; omega), dif_pos h6, front, dif_pos hj]
    · rw [dif_neg (by dsimp only; omega), dif_neg h6]
      exact congrArg (fun i => I.x b i k) (Fin.ext (by dsimp only; omega))
  · rw [dif_neg (fun H => hj H.1), dif_pos (by omega), front, dif_neg hj]
    exact Cert.Kernel9Ideal.Norm.zeroI_apply _
/-- The same, rounded. -/
theorem out1 (r : Fin 4224) (k : Fin 1024) : val_main_v29 (F := Ideal) X0 X1 X2 X3 (ix2 r k) = S I r k := out0 h r k
end Cert.Reference9Ideal.Norm
-- ==== Proof.NormClaim.lean ====
module
public import proofs.«01_k».proof.Defs
public import proofs.«01_k».proof.Proof.NormReference
public import Idealize.ShloMosaic.Adequacy
public import Idealize.ShloMosaic.Init
@[expose] public section
set_option maxRecDepth 16384
/-! # The first norm at the learned rows: the claims -/
noncomputable section
namespace Cert.Proof.Norm
open Idealize.ShloMosaic Idealize.SL.Sem Cert.Kernel9
open Cert.KernelIdeal.Head (idx2)

theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The arguments as the kernel's memory holds them. -/
abbrev inp (m : (ℓ : Loc Cert.Kernel9Ideal.nD Cert.Kernel9Ideal.τ Cert.Kernel9Ideal.sig) → Buf (Elt Ideal) ℓ) (c : Dev Cert.Kernel9Ideal.nD) : Cert.Norm.Inp where
  l := fun i k => m ((c.tc : Thread Cert.Kernel9Ideal.nD Cert.Kernel9Ideal.τ).loc Cert.Kernel9Ideal.main_arg0) (ix2 i k)
  g := fun k => m ((c.tc : Thread Cert.Kernel9Ideal.nD Cert.Kernel9Ideal.τ).loc Cert.Kernel9Ideal.main_arg1) (ix1 k)
  b := fun k => m ((c.tc : Thread Cert.Kernel9Ideal.nD Cert.Kernel9Ideal.τ).loc Cert.Kernel9Ideal.main_arg2) (ix1 k)
  x := fun b i k => m ((c.tc : Thread Cert.Kernel9Ideal.nD Cert.Kernel9Ideal.τ).loc Cert.Kernel9Ideal.main_arg3) (ix3 b i k)

/-- The two programs end with equal rows, whatever the arguments. -/
theorem value : Cert.algebraic_Kernel9Ideal_Reference9Ideal := by
  intro m g m' g' _ hm
  have hk (c : Dev Cert.Kernel9Ideal.nD) : Cert.Kernel9Ideal.Norm.Args m c (inp m c) :=
    ⟨fun _ _ => rfl, fun _ => rfl, fun _ => rfl, fun _ _ _ => rfl⟩
  refine ⟨_, _, Cert.Kernel9Ideal.Value.run_blocks (F := Ideal) m g,
    (θ_run Cert.Reference9Ideal.defs _ _).mono (fun r h c => ?_) (Cert.Reference9Ideal.Value.run (F := Ideal) m' g')⟩
  obtain ⟨e0, e1, ha⟩ := h c
  obtain ⟨q0, q1, q2, q3⟩ := hm c
  have hr : Cert.Reference9Ideal.Norm.Args _ _ _ _ (inp m c) :=
    ⟨fun i k => congrFun q0 (ix2 i k), fun k => congrFun q1 (ix1 k), fun k => congrFun q2 (ix1 k), fun b i k => congrFun q3 (ix3 b i k)⟩
  refine ⟨(e0.trans (Cert.Reference9Ideal.Read.val_main_v28_eq (F := Ideal) _ _ _ _)).trans (funext fun j => ?_),
    (e1.trans (Cert.Reference9Ideal.Read.val_main_v29_eq (F := Ideal) _ _ _ _)).trans (funext fun j => ?_), ha⟩
  · obtain ⟨r, k, rfl⟩ := idx2 j
    exact (Cert.Reference9Ideal.Norm.out0 hr r k).trans (Cert.Kernel9Ideal.Norm.out3 (hk c) r k).symm
  · obtain ⟨r, k, rfl⟩ := idx2 j
    exact (Cert.Reference9Ideal.Norm.out1 hr r k).trans (Cert.Kernel9Ideal.Norm.out4 (hk c) r k).symm
end Cert.Proof.Norm
-- ==== Proof.MixKernel.lean ====
module
public import proofs.«01_k».proof.Proof.WeightsKernel
public import proofs.«01_k».proof.Proof.ProjKernel
public import proofs.«01_k».proof.Proof.Gen.Kernel10Ideal.Value
public import proofs.«01_k».proof.Proof.Gen.Kernel10Ideal
@[expose] public section
set_option maxRecDepth 16384
/-! # What the gradient of the output projection computes

A grid point multiplies its 704 rows with the weight, and adds its rows' share of the weight's gradient to a sum carried in scratch.
The claim has no precondition, so everything here is an extended real. -/
noncomputable section
namespace Cert.Mix
open Idealize.ShloMosaic Cert.Real
open Cert.Proj (onRowsE onRowsE_pos)

/-- The arguments: the gradient of the projection's output, the convolution's and the attention's outputs, the weight. -/
structure Inp where
  dp : Fin 2 → Fin 2064 → Fin 1024 → EReal
  co : Fin 2 → Fin 2064 → Fin 512 → EReal
  go : Fin 2 → Fin 2064 → Fin 512 → EReal
  w : Fin 1024 → Fin 1024 → EReal
variable (I : Inp)
/-- The two mixed rows beside each other. -/
def cat (b : Fin 2) (i : Fin 2064) (a : Fin 1024) : EReal := if h : a.val < 512 then I.co b i ⟨a.val, h⟩ else I.go b i ⟨a.val - 512, by omega⟩
/-- The gradient of the mixed rows. -/
def dmi (b : Fin 2) (i : Fin 2064) (a : Fin 1024) : EReal := ∑ k, I.dp b i k * I.w a k
/-- What one position adds to an element of the weight's gradient. -/
def term (a k : Fin 1024) : Fin 2 → Fin 2064 → EReal := fun b i => cat I b i a * I.dp b i k

theorem onRowsE_mul (f g : Fin 2 → Fin 2064 → EReal) (r : Fin 4224) : onRowsE f r * onRowsE g r = onRowsE (fun b i => f b i * g b i) r := by
  unfold onRowsE; split_ifs <;> simp
/-- On the rows in front of a sequence the product with the weight vanishes. -/
theorem dmi_eq (r : Fin 4224) (a : Fin 1024) : ∑ k, onRowsE (fun b i => I.dp b i k) r * I.w a k = onRowsE (fun b i => dmi I b i a) r := by
  unfold onRowsE; split_ifs
  · rfl
  · simp
/-- A sum over the rows is one over the positions. -/
theorem sum_onRowsE (g : Fin 2 → Fin 2064 → EReal) : ∑ r, onRowsE g r = ∑ b, ∑ i, g b i := by
  rw [← Fintype.sum_prod_type']
  have e : ∀ r : Fin 4224, onRowsE g r ≠ 0 → 48 ≤ r.val % 2112 := fun r h => by by_contra hc; exact h (by rw [onRowsE, if_neg hc])
  refine (Finset.sum_of_injOn (fun p : Fin 2 × Fin 2064 => (⟨p.1.val * 2112 + (48 + p.2.val), by omega⟩ : Fin 4224)) ?_ (by simp) ?_ ?_).symm
  · intro p _ q _ h
    have := congrArg Fin.val h
    dsimp only at this
    exact Prod.ext (Fin.ext (by omega)) (Fin.ext (by omega))
  · intro r _ hr
    by_contra hc
    exact hr ⟨(⟨r.val / 2112, by omega⟩, ⟨r.val % 2112 - 48, by omega⟩), by simp, Fin.ext (by have := e r hc; dsimp only; omega)⟩
  · intro p _
    exact (onRowsE_pos g p.1 p.2 _ rfl).symm

/-- The weight's gradient over the first rows. -/
def acc (n : ℕ) (a k : Fin 1024) : EReal := ∑ r ∈ Finset.range n, if h : r < 4224 then onRowsE (term I a k) ⟨r, h⟩ else 0
theorem acc_zero (a k : Fin 1024) : acc I 0 a k = 0 := rfl
theorem acc_all (a k : Fin 1024) : acc I 4224 a k = ∑ b, ∑ i, term I a k b i := by
  rw [acc, Finset.sum_range, ← sum_onRowsE]
  exact Finset.sum_congr rfl fun r _ => dif_pos r.isLt
theorem acc_add (n : ℕ) (h : n + 704 ≤ 4224) (a k : Fin 1024) : acc I n a k + ∑ i : Fin 704, onRowsE (term I a k) ⟨n + i.val, by omega⟩ = acc I (n + 704) a k := by
  rw [acc, acc, Finset.sum_range_add, Finset.sum_range (n := 704)]
  congr 1
  exact Finset.sum_congr rfl fun i _ => by rw [dif_pos (show n + i.val < 4224 by omega)]
end Cert.Mix

namespace Cert.Kernel10Ideal.Mix
open Cert.Kernel10Ideal Cert.Kernel10Ideal.Gen Idealize.ShloMosaic Idealize.ShloMosaic.TcCoe Cert.Mix
open Cert.Proj (onRowsE host_atE lo up)
open Cert.KernelIdeal.Head (idx2)
open Cert.Kernel5Ideal.Act (tile2 from2)
open Cert.Kernel4Ideal.Weights (canon_drop)
variable (m : (ℓ : Loc nD τ sig) → Buf (Elt Ideal) ℓ) (c : Dev nD)

/-- The memory holds the arguments. -/
structure Args (I : Inp) : Prop where
  a0 : ∀ b i k, m ((c : Thread nD τ).loc main_arg0) (ix3 b i k) = I.dp b i k
  a1 : ∀ b i k, m ((c : Thread nD τ).loc main_arg1) (ix3 b i k) = I.co b i k
  a2 : ∀ b i k, m ((c : Thread nD τ).loc main_arg2) (ix3 b i k) = I.go b i k
  a3 : ∀ a k, m ((c : Thread nD τ).loc main_arg3) (ix2 a k) = I.w a k

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
abbrev rows512 (x : FVec Ideal S2x2064x512 .f32) : FVec Ideal S4224x512 .bf16 :=
  truncf .bf16 (shapeCast S4224x512 (pad S2x2112x512 ![0, 48, 0] ![0, 0, 0] ![0, 0, 0] x zeroI pads_S2x2064x512_S2x2112x512_000_4800_000 h_S_) shapeCasts_S2x2112x512_S4224x512) bitsLt_bf16_f32

variable {m c} {I : Inp} (h : Args m c I)
theorem V_all :
    V m c main_v2 = shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024
    ∧ V m c main_v5 = rows512 (m ((c : Thread nD τ).loc main_arg1))
    ∧ V m c main_v8 = rows512 (m ((c : Thread nD τ).loc main_arg2))
    ∧ V m c main_v9 = (truncf .bf16 (m ((c : Thread nD τ).loc main_arg3) : FVec Ideal S1024x1024 .f32) bitsLt_bf16_f32 : FVec Ideal S1024x1024 .bf16) := by
  simp only [V, hostOps0, hostOps0_1, hostOps0_2, hostOps0_3, hostOps0_4, hostOps0_5, hostOps0_6, List.flatten_cons, List.flatten_nil, List.cons_append, List.nil_append, List.append_nil]
  refine ⟨?_, ?_, ?_, ?_⟩ <;> (entry_read; rfl)

/-! ## The blocks of a grid point -/
theorem idx : ∀ t : Fin cfg0.N, win0_0.index t = ![t.val, 0] ∧ win0_1.index t = ![t.val, 0] ∧ win0_2.index t = ![t.val, 0] ∧ win0_3.index t = ![0, 0] ∧ win0_4.index t = ![t.val, 0]
    ∧ win0_5.index t = ![0, 0] :=
  (by decide +kernel : ∀ t : Fin grid0.N, _)
theorem tlt (t : Fin cfg0.N) : t.val < 6 := by have := t.isLt; simp only [show cfg0.N = 6 from N_0] at this; exact this
/-- Row `i` of a tile. -/
abbrev row (t : Fin cfg0.N) (i : Fin 704) : Fin 4224 := ⟨704 * t.val + i.val, by have := tlt t; omega⟩
section
include h
theorem b0 (t : Fin cfg0.N) (i : Fin 704) (k : Fin 1024) : iblk m c 0 t (ix2 i k) = onRowsE (fun b i => I.dp b i k) (row t i) := by
  rw [← host_atE _ zeroI pads_S2x2064x1024_S2x2112x1024_000_4800_000 h_S_ (zeroI_apply _) shapeCasts_S2x2112x1024_S4224x1024 h.a0 (row t i) k, ← V_all.1]
  show V m c main_v2 (((cfg0.win 0).blk t).view.emb _) = _; blk_ext [idx t]
theorem co_at (r : Fin 4224) (k : Fin 512) : V m c main_v5 (ix2 r k) = onRowsE (fun b i => I.co b i k) r := by
  rw [V_all.2.1]
  exact host_atE _ zeroI pads_S2x2064x512_S2x2112x512_000_4800_000 h_S_ (zeroI_apply _) shapeCasts_S2x2112x512_S4224x512 h.a1 r k
theorem go_at (r : Fin 4224) (k : Fin 512) : V m c main_v8 (ix2 r k) = onRowsE (fun b i => I.go b i k) r := by
  rw [V_all.2.2.1]
  exact host_atE _ zeroI pads_S2x2064x512_S2x2112x512_000_4800_000 h_S_ (zeroI_apply _) shapeCasts_S2x2112x512_S4224x512 h.a2 r k
theorem b1 (t : Fin cfg0.N) (i : Fin 704) (a : Fin 512) : iblk m c 1 t (ix2 i a) = onRowsE (fun b i => cat I b i (lo a)) (row t i) := by
  have e : (fun b i => cat I b i (lo a)) = fun b i => I.co b i a := by funext b i; exact dif_pos a.isLt
  rw [e, ← co_at h]; show V m c main_v5 (((cfg0.win 1).blk t).view.emb _) = _; blk_ext [idx t]
theorem b2 (t : Fin cfg0.N) (i : Fin 704) (a : Fin 512) : iblk m c 2 t (ix2 i a) = onRowsE (fun b i => cat I b i (up a)) (row t i) := by
  have e : (fun b i => cat I b i (up a)) = fun b i => I.go b i a := by
    funext b i
    refine (dif_neg (show ¬ 512 + a.val < 512 by omega)).trans (congrArg (I.go b i) (Fin.ext ?_))
    show 512 + a.val - 512 = a.val; omega
  rw [e, ← go_at h]; show V m c main_v8 (((cfg0.win 2).blk t).view.emb _) = _; blk_ext [idx t]
theorem b3 (t : Fin cfg0.N) (a k : Fin 1024) : iblk m c 3 t (ix2 a k) = I.w a k := by
  rw [← h.a3, show m ((c : Thread nD τ).loc main_arg3) (ix2 a k) = V m c main_v9 (ix2 a k) by rw [V_all.2.2.2]; rfl]
  show V m c main_v9 (((cfg0.win 3).blk t).view.emb _) = _; blk_ext [idx t]
end

/-! ## What one point computes -/
theorem prod_at (x : Vec Ideal S704x1024 .f32) (y : Vec Ideal S1024x1024 .bf16) (i : Fin 704) (a : Fin 1024) :
    k0_pay3 x y (ix2 i a) = ∑ k, x (ix2 i k) * y (ix2 a k) := by pointwise [k0_pay3, k0_pay2]
theorem add_at (x : Vec Ideal S704x1024 .f32) (v : Vec Ideal S512x1024 .f32) (y : Vec Ideal S704x512 .bf16) (a : Fin 512) (k : Fin 1024) :
    k0_pay4 x v y (ix2 a k) = v (ix2 a k) + ∑ i, y (ix2 i a) * x (ix2 i k) := by pointwise [k0_pay4, k0_pay2]
theorem same : k0_pay5 (F := Ideal) = k0_pay4 := rfl

include h in
/-- The gradient of the mixed rows, a tile of it. -/
theorem stored4 (t : Fin cfg0.N) (i : Fin 704) (a : Fin 1024) : (outsAt0 m c t.val t.isLt).1 (ix2 i a) = onRowsE (fun b i => dmi I b i a) (row t i) := by
  have e : k0_pay3 (iblk m c 0 t) (iblk m c 3 t) (ix2 i a) = onRowsE (fun b i => dmi I b i a) (row t i) := by
    rw [prod_at, ← dmi_eq]
    exact Finset.sum_congr rfl fun k _ => by rw [b0 h, b3 h]
  by_cases h0 : t.val % 6 = 0
  · rw [outsAt0_A m c t h0 (by omega)]; frame_out; exact e
  · by_cases h5 : t.val % 6 = 5
    · rw [outsAt0_C m c t h0 h5]; frame_out; exact e
    · rw [outsAt0_B m c t h0 h5]; frame_out; exact e

/-- The sum holds the weight's gradient over the first `q` tiles. -/
def Held (I : Inp) (q : ℕ) (X : FVec Ideal S1024x1024 .f32) : Prop := ∀ a k, X (ix2 a k) = acc I (704 * q) a k

section
include h
theorem pieceLo (t : Fin cfg0.N) {v : Vec Ideal S512x1024 .f32} (hv : ∀ a k, v (ix2 a k) = acc I (704 * t.val) (lo a) k) (a : Fin 512) (k : Fin 1024) :
    k0_pay4 (iblk m c 0 t) v (iblk m c 1 t) (ix2 a k) = acc I (704 * (t.val + 1)) (lo a) k := by
  have ht := tlt t
  rw [add_at, hv, Nat.mul_succ, ← acc_add I _ (by omega)]
  congr 1
  exact Finset.sum_congr rfl fun i _ => by rw [b0 h, b1 h, onRowsE_mul]; rfl
theorem pieceUp (t : Fin cfg0.N) {v : Vec Ideal S512x1024 .f32} (hv : ∀ a k, v (ix2 a k) = acc I (704 * t.val) (up a) k) (a : Fin 512) (k : Fin 1024) :
    k0_pay5 (iblk m c 0 t) v (iblk m c 2 t) (ix2 a k) = acc I (704 * (t.val + 1)) (up a) k := by
  have ht := tlt t
  rw [same, add_at, hv, Nat.mul_succ, ← acc_add I _ (by omega)]
  congr 1
  exact Finset.sum_congr rfl fun i _ => by rw [b0 h, b2 h, onRowsE_mul]; rfl
end

theorem mem (a k : Fin 1024) : (ix2 a k : S1024x1024.Idx) ∈ (Rect.unit (s := S1024x1024) ![512, 0] ![512, 1024] inb_S1024x1024_S512x1024_512_0).set
    ∨ (ix2 a k : S1024x1024.Idx) ∈ (Rect.unit (s := S1024x1024) ![0, 0] ![512, 1024] inb_S1024x1024_S512x1024_0_0).set := by
  simp only [Rect.mem_set_unit]
  by_cases ha : 512 ≤ a.val
  · exact .inl fun d => match d with | ⟨0, _⟩ => ⟨ha, by show a.val < 512 + 512; omega⟩ | ⟨1, _⟩ => ⟨Nat.zero_le _, by have := k.isLt; show k.val < 0 + 1024; omega⟩
  · exact .inr fun d => match d with | ⟨0, _⟩ => ⟨Nat.zero_le _, by show a.val < 0 + 512; omega⟩ | ⟨1, _⟩ => ⟨Nat.zero_le _, by have := k.isLt; show k.val < 0 + 1024; omega⟩
theorem zero2 : ∀ a : Fin S1024x1024.rank, (![0, 0] : Fin 2 → ℕ) a = 0 := by decide

/-- Where the two halves of the sum lie. -/
theorem half (X : Vec Ideal S1024x1024 .f32) (a : Fin 512) (k : Fin 1024) :
    View.ld X (Rect.unit (s := S1024x1024) ![0, 0] ![512, 1024] inb_S1024x1024_S512x1024_0_0) (ix2 a k) = X (ix2 (lo a) k)
    ∧ View.ld X (Rect.unit (s := S1024x1024) ![512, 0] ![512, 1024] inb_S1024x1024_S512x1024_512_0) (ix2 a k) = X (ix2 (up a) k) :=
  ⟨from2 X (lo a) k (Nat.zero_add _).symm (Nat.zero_add _).symm, from2 X (up a) k rfl (Nat.zero_add _).symm⟩

section
include h
/-- The two blocks that a point stores, from what the sum held before. -/
theorem storedUp (t : Fin cfg0.N) {X : Vec Ideal S1024x1024 .f32} (hX : Held I t.val X) {a k : Fin 1024} (x : S512x1024.Idx) (h0 : a.val = 512 + (x 0).val) (h1 : k.val = (x 1).val) :
    k0_pay5 (iblk m c 0 t) (View.ld X (Rect.unit (s := S1024x1024) ![512, 0] ![512, 1024] inb_S1024x1024_S512x1024_512_0)) (iblk m c 2 t) x = acc I (704 * (t.val + 1)) a k := by
  refine tile2 (T := acc I (704 * (t.val + 1))) 512 0 (fun a' k' _ hk => ?_) x h0 (h1.trans (Nat.zero_add _).symm)
  rw [show (⟨0 + k'.val, hk⟩ : Fin 1024) = k' from Fin.ext (Nat.zero_add _)]
  exact pieceUp h t (fun a k => ((half X a k).2).trans (hX _ _)) a' k'
theorem storedLo (t : Fin cfg0.N) {X : Vec Ideal S1024x1024 .f32} (hX : Held I t.val X) {a k : Fin 1024} (x : S512x1024.Idx) (h0 : a.val = (x 0).val) (h1 : k.val = (x 1).val) :
    k0_pay4 (iblk m c 0 t) (View.ld X (Rect.unit (s := S1024x1024) ![0, 0] ![512, 1024] inb_S1024x1024_S512x1024_0_0)) (iblk m c 1 t) x = acc I (704 * (t.val + 1)) a k := by
  refine tile2 (T := acc I (704 * (t.val + 1))) 0 0 (fun a' k' ha hk => ?_) x (h0.trans (Nat.zero_add _).symm) (h1.trans (Nat.zero_add _).symm)
  rw [show (⟨0 + k'.val, hk⟩ : Fin 1024) = k' from Fin.ext (Nat.zero_add _), show (⟨0 + a'.val, ha⟩ : Fin 1024) = lo a' from Fin.ext (Nat.zero_add _)]
  exact pieceLo h t (fun a k => ((half X a k).1).trans (hX _ _)) a' k'

theorem start (t : Fin cfg0.N) (h0 : t.val % 6 = 0) : Held I (t.val + 1) (outsAt0 m c t.val t.isLt).2.2 := by
  intro a k
  have ht := tlt t
  have z : Held I t.val (k0_pay1 (F := Ideal)) := fun a k => by
    rw [show t.val = 0 by omega, Nat.mul_zero, acc_zero]; pointwise [k0_pay1]
  rw [outsAt0_A m c t h0 (by omega)]; frame_out
  simp (disch := decide) only [↓View.readCov_skip, View.readCov_fill _ _ _ _ _ zero2]
  refine (canon_drop [_] [_, _] ?_).trans ?_
  · rcases mem a k with e | e
    · exact ⟨_, List.mem_cons_self, e⟩
    · exact ⟨_, List.mem_cons_of_mem _ List.mem_cons_self, e⟩
  canon_tiles x h
  case piece0 => exact storedUp h t z x h0 h1
  case piece1 => exact storedLo h t z x h0 h1
theorem next (t : Fin cfg0.N) (h0 : ¬ t.val % 6 = 0) (P : Held I t.val (outsAt0 m c (t.val - 1) (by have := t.isLt; omega)).2.2) :
    Held I (t.val + 1) (outsAt0 m c t.val t.isLt).2.2 := by
  intro a k
  by_cases h5 : t.val % 6 = 5
  on_goal 1 => rw [outsAt0_C m c t h0 h5]
  on_goal 2 => rw [outsAt0_B m c t h0 h5]
  all_goals
    frame_out
    simp (disch := decide) only [↓View.readCov_skip, read_unread_whole]
    canon_tiles x h
    case piece0 => exact storedUp h t P x h0 h1
    case piece1 => exact storedLo h t P x h0 h1
theorem carried : ∀ (n : ℕ) (hn : n < cfg0.N), Held I (n + 1) (outsAt0 m c n hn).2.2 := by
  intro n
  induction n with
  | zero => intro hn; exact start h ⟨0, hn⟩ rfl
  | succ n ih =>
    intro hn
    have ht := tlt ⟨n + 1, hn⟩
    dsimp only at ht
    exact next h ⟨n + 1, hn⟩ (by dsimp only; omega) (ih (by omega))
end

variable (m c) in
/-- The last point writes out what the sum holds. -/
theorem flushed (t : Fin cfg0.N) (h5 : t.val % 6 = 5) (a k : Fin 1024) : (outsAt0 m c t.val t.isLt).2.1 (ix2 a k) = (outsAt0 m c t.val t.isLt).2.2 (ix2 a k) := by
  rw [outsAt0_C m c t (by omega) h5]; frame_out
  simp only [View.readCov_eq_canon']
  generalize View.canon (Val := Elt Ideal) (s := S1024x1024) (e := .f32) _ = w
  pointwise [k0_pay6]
theorem flush5 : ∀ t : Fin cfg0.N, (cfg0.win 5).flush t = true → t.val % 6 = 5 := (by decide +kernel : ∀ t : Fin grid0.N, _)

include h in
/-- The gradient of the mixed rows. -/
theorem out4 (r : Fin 4224) (a : Fin 1024) : (dats m 0 c).arrAt 4 cfg0.N (ix2 r a) = onRowsE (fun b i => dmi I b i a) r := by
  let G : S4224x1024.Idx → EReal := fun j => onRowsE (fun b i => dmi I b i (j 1)) (j 0)
  have e : (dats m 0 c).arrAt 4 cfg0.N = G := by
    refine (dats m 0 c).arrAt_eq_of_covers 4 G (by decide +kernel) fun t hf y => ?_
    obtain ⟨i, a, rfl⟩ := idx2 y
    have hs : ((dats m 0 c).after 4 t : S704x1024.Idx → EReal) (ix2 i a) = onRowsE (fun b i => dmi I b i a) (row t i) := by
      rw [after0_4, stored4 h t i a]
    blk_simp
    refine hs.trans (show G (ix2 (row t i) a) = _ from congrArg G ?_)
    symm; blk_ext [idx t]
  rw [e]; rfl
include h in
/-- The gradient of the weight. -/
theorem out5 (a k : Fin 1024) : (dats m 0 c).arrAt 5 cfg0.N (ix2 a k) = ∑ b, ∑ i, term I a k b i := by
  let G : S1024x1024.Idx → EReal := fun j => ∑ b, ∑ i, term I (j 0) (j 1) b i
  have e : (dats m 0 c).arrAt 5 cfg0.N = G := by
    refine (dats m 0 c).arrAt_eq_of_covers 5 G (by decide +kernel) fun t hf y => ?_
    obtain ⟨a, k, rfl⟩ := idx2 y
    have h5 := flush5 t hf
    have ht := tlt t
    have hs : ((dats m 0 c).after 5 t : S1024x1024.Idx → EReal) (ix2 a k) = ∑ b, ∑ i, term I a k b i := by
      rw [after0_5, flushed m c t h5, carried h t.val t.isLt a k, show 704 * (t.val + 1) = 4224 by omega, acc_all]
    blk_simp
    refine hs.trans (show G (ix2 a k) = _ from congrArg G ?_)
    symm; blk_ext [idx t]
  rw [e]; rfl
end Cert.Kernel10Ideal.Mix
-- ==== Proof.MixReference.lean ====
module
public import proofs.«01_k».proof.Proof.MixKernel
public import proofs.«01_k».proof.Proof.Gen.Reference10Ideal.Run
public import proofs.«01_k».proof.Proof.Gen.Reference10Ideal.Read
@[expose] public section
set_option maxRecDepth 16384
/-! # What the reference of the output projection's gradient computes -/
noncomputable section
namespace Cert.Reference10Ideal.Mix
open Cert.Reference10Ideal Cert.Reference10Ideal.Read Idealize.ShloMosaic Idealize.ShloMosaic.TcCoe Cert.Mix
open Cert.Proj (onRowsE host_atE)

/-- The arguments. -/
structure Args (X0 : (⟨S2x2064x1024, .f32⟩ : BufTy).Contents (Elt Ideal)) (X1 X2 : (⟨S2x2064x512, .f32⟩ : BufTy).Contents (Elt Ideal))
    (X3 : (⟨S1024x1024, .f32⟩ : BufTy).Contents (Elt Ideal)) (I : Inp) : Prop where
  a0 : ∀ b i k, X0 (ix3 b i k) = I.dp b i k
  a1 : ∀ b i k, X1 (ix3 b i k) = I.co b i k
  a2 : ∀ b i k, X2 (ix3 b i k) = I.go b i k
  a3 : ∀ a k, X3 (ix2 a k) = I.w a k

variable {X0 : (⟨S2x2064x1024, .f32⟩ : BufTy).Contents (Elt Ideal)} {X1 X2 : (⟨S2x2064x512, .f32⟩ : BufTy).Contents (Elt Ideal)}
    {X3 : (⟨S1024x1024, .f32⟩ : BufTy).Contents (Elt Ideal)} {I : Inp} (h : Args X0 X1 X2 X3 I)
include h
theorem cat_at (b : Fin 2) (i : Fin 2064) (a : Fin 1024) : val_main_v0 (F := Ideal) X1 X2 (ix3 b i a) = cat I b i a := by
  unfold val_main_v0
  pointwise
  simp only [h.a1, h.a2]
  rfl
theorem out1 (a k : Fin 1024) : val_main_v10 (F := Ideal) X0 X1 X2 (ix2 a k) = ∑ b, ∑ i, term I a k b i := by
  have e := cat_at h
  unfold val_main_v10 val_main_v3 val_main_v2
  generalize val_main_v0 (F := Ideal) X1 X2 = w at e ⊢
  pointwise
  simp only [e, h.a0, term, mul_comm]
theorem dmi_at (b : Fin 2) (i : Fin 2064) (a : Fin 1024) : val_main_v7 (F := Ideal) X0 X3 (ix3 b i a) = dmi I b i a := by
  have e : ∀ b i a, val_main_v4 (F := Ideal) X0 X3 (ix3 b i a) = dmi I b i a := fun b i a => by
    unfold val_main_v4
    pointwise
    simp only [h.a0, h.a3, dmi]
  unfold val_main_v7 val_main_v6 val_main_v5
  generalize val_main_v4 (F := Ideal) X0 X3 = w at e ⊢
  pointwise
  simp only [e]
  by_cases ha : a.val < 512
  · exact dif_pos ha
  · refine (dif_neg ha).trans ?_
    exact congrArg (dmi I b i) (Fin.ext (by dsimp only; omega))
theorem out0 (r : Fin 4224) (a : Fin 1024) : val_main_v9 (F := Ideal) X0 X3 (ix2 r a) = onRowsE (fun b i => dmi I b i a) r := by
  refine host_atE (val_main_v7 (F := Ideal) X0 X3) (val_main_call0_v0 (F := Ideal)) _ _ ?_ _ (dmi_at h) r a
  show (((0#32 : BitVec 32).toInt : ℝ) : EReal) = 0
  simp
end Cert.Reference10Ideal.Mix
-- ==== Proof.MixClaim.lean ====
module
public import proofs.«01_k».proof.Defs
public import proofs.«01_k».proof.Proof.MixReference
public import Idealize.ShloMosaic.Adequacy
public import Idealize.ShloMosaic.Init
@[expose] public section
set_option maxRecDepth 16384
/-! # The gradient of the output projection: the claims -/
noncomputable section
namespace Cert.Proof.Mix
open Idealize.ShloMosaic Idealize.SL.Sem Cert.Kernel10
open Cert.KernelIdeal.Head (idx2)

theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The arguments as the kernel's memory holds them. -/
abbrev inp (m : (ℓ : Loc Cert.Kernel10Ideal.nD Cert.Kernel10Ideal.τ Cert.Kernel10Ideal.sig) → Buf (Elt Ideal) ℓ) (c : Dev Cert.Kernel10Ideal.nD) : Cert.Mix.Inp where
  dp := fun b i k => m ((c.tc : Thread Cert.Kernel10Ideal.nD Cert.Kernel10Ideal.τ).loc Cert.Kernel10Ideal.main_arg0) (ix3 b i k)
  co := fun b i k => m ((c.tc : Thread Cert.Kernel10Ideal.nD Cert.Kernel10Ideal.τ).loc Cert.Kernel10Ideal.main_arg1) (ix3 b i k)
  go := fun b i k => m ((c.tc : Thread Cert.Kernel10Ideal.nD Cert.Kernel10Ideal.τ).loc Cert.Kernel10Ideal.main_arg2) (ix3 b i k)
  w := fun a k => m ((c.tc : Thread Cert.Kernel10Ideal.nD Cert.Kernel10Ideal.τ).loc Cert.Kernel10Ideal.main_arg3) (ix2 a k)

/-- The two programs end with equal gradients, whatever the arguments. -/
theorem value : Cert.algebraic_Kernel10Ideal_Reference10Ideal := by
  intro m g m' g' _ hm
  have hk (c : Dev Cert.Kernel10Ideal.nD) : Cert.Kernel10Ideal.Mix.Args m c (inp m c) :=
    ⟨fun _ _ _ => rfl, fun _ _ _ => rfl, fun _ _ _ => rfl, fun _ _ => rfl⟩
  refine ⟨_, _, Cert.Kernel10Ideal.Value.run_blocks (F := Ideal) m g,
    (θ_run Cert.Reference10Ideal.defs _ _).mono (fun r h c => ?_) (Cert.Reference10Ideal.Value.run (F := Ideal) m' g')⟩
  obtain ⟨e0, e1, ha⟩ := h c
  obtain ⟨q0, q1, q2, q3⟩ := hm c
  have hr : Cert.Reference10Ideal.Mix.Args _ _ _ _ (inp m c) :=
    ⟨fun b i k => congrFun q0 (ix3 b i k), fun b i k => congrFun q1 (ix3 b i k), fun b i k => congrFun q2 (ix3 b i k), fun a k => congrFun q3 (ix2 a k)⟩
  refine ⟨(e0.trans (Cert.Reference10Ideal.Read.val_main_v9_eq (F := Ideal) _ _)).trans (funext fun j => ?_),
    (e1.trans (Cert.Reference10Ideal.Read.val_main_v10_eq (F := Ideal) _ _ _)).trans (funext fun j => ?_), ha⟩
  · obtain ⟨r, k, rfl⟩ := idx2 j
    exact (Cert.Reference10Ideal.Mix.out0 hr r k).trans (Cert.Kernel10Ideal.Mix.out4 (hk c) r k).symm
  · obtain ⟨a, k, rfl⟩ := idx2 j
    exact (Cert.Reference10Ideal.Mix.out1 hr a k).trans (Cert.Kernel10Ideal.Mix.out5 (hk c) a k).symm
end Cert.Proof.Mix
-- ==== Proof.InGradKernel.lean ====
module
public import proofs.«01_k».proof.Proof.MixKernel
public import proofs.«01_k».proof.Proof.Gen.Kernel11Ideal.Value
public import proofs.«01_k».proof.Proof.Gen.Kernel11Ideal
@[expose] public section
set_option maxRecDepth 16384
/-! # What the gradient of the input projection's weight computes

A grid point adds its 704 rows' share of the gradient to the result, in five blocks of rows of it.
The claim has no precondition, so everything here is an extended real. -/
noncomputable section
namespace Cert.InGrad
open Idealize.ShloMosaic Cert.Real
open Cert.Proj (onRowsE onRowsE_pos)

/-- The arguments: the rows that go in, and the gradient of what comes out. -/
structure Inp where
  s : Fin 2 → Fin 2064 → Fin 1024 → EReal
  du : Fin 2 → Fin 2064 → Fin 2576 → EReal
/-- A row with zeros after it. -/
def wide (f : Fin 2576 → EReal) (j : Fin 2688) : EReal := if h : j.val < 2576 then f ⟨j.val, h⟩ else 0
variable (I : Inp)
/-- What one position adds to an element of the gradient. -/
def term (j : Fin 2688) (k : Fin 1024) : Fin 2 → Fin 2064 → EReal := fun b i => wide (I.du b i) j * I.s b i k

/-- The layout of a sequence's rows, with columns of zeros after them. -/
theorem wide_at {u : Shape} (x : (⟨3, ![2, 2064, 2576]⟩ : Shape).Idx → EReal) (v : u.Idx → EReal)
    (hp : (⟨3, ![2, 2064, 2576]⟩ : Shape).Pads ![0, 48, 0] ![0, 0, 112] ![0, 0, 0] ⟨3, ![2, 2112, 2688]⟩) (hu : 0 < u.numel) (hv : v (Shape.Idx.first hu) = 0)
    (hc : (⟨3, ![2, 2112, 2688]⟩ : Shape).ShapeCasts ⟨2, ![4224, 2688]⟩) {f : Fin 2 → Fin 2064 → Fin 2576 → EReal} (hx : ∀ b i k, x (ix3 b i k) = f b i k)
    (r : Fin 4224) (k : Fin 2688) :
    shapeCast ⟨2, ![4224, 2688]⟩ (pad ⟨3, ![2, 2112, 2688]⟩ ![0, 48, 0] ![0, 0, 112] ![0, 0, 0] x v hp hu) hc (ix2 r k) = onRowsE (fun b i => wide (f b i) k) r := by
  obtain ⟨b, j, rfl⟩ : ∃ (b : Fin 2) (j : Fin 2112), r = ⟨b.val * 2112 + j.val, by omega⟩ :=
    ⟨⟨r.val / 2112, by omega⟩, ⟨r.val % 2112, by omega⟩, Fin.ext (by dsimp only; omega)⟩
  refine (Layout.rows_at _ hc rfl b j k).trans ((Layout.pad3_at x v hp hu rfl b j k).trans ?_)
  by_cases hj : 48 ≤ j.val
  · rw [onRowsE_pos _ b ⟨j.val - 48, by omega⟩ _ (by dsimp only; omega), wide]
    by_cases hk : k.val < 2576
    · rw [dif_pos ⟨hj, hk⟩, dif_pos hk, hx]
    · rw [dif_neg (fun H => hk H.2), dif_neg hk, hv]
  · rw [dif_neg (fun H => hj H.1), hv, onRowsE, if_neg (by dsimp only; omega)]

/-- The gradient over the first rows. -/
def acc (n : ℕ) (j : Fin 2688) (k : Fin 1024) : EReal := ∑ r ∈ Finset.range n, if h : r < 4224 then onRowsE (term I j k) ⟨r, h⟩ else 0
theorem acc_zero (j : Fin 2688) (k : Fin 1024) : acc I 0 j k = 0 := rfl
theorem acc_all (j : Fin 2688) (k : Fin 1024) : acc I 4224 j k = ∑ b, ∑ i, term I j k b i := by
  rw [acc, Finset.sum_range, ← Mix.sum_onRowsE]
  exact Finset.sum_congr rfl fun r _ => dif_pos r.isLt
theorem acc_add (n : ℕ) (h : n + 704 ≤ 4224) (j : Fin 2688) (k : Fin 1024) :
    acc I n j k + ∑ i : Fin 704, onRowsE (term I j k) ⟨n + i.val, by omega⟩ = acc I (n + 704) j k := by
  rw [acc, acc, Finset.sum_range_add, Finset.sum_range (n := 704)]
  congr 1
  exact Finset.sum_congr rfl fun i _ => by rw [dif_pos (show n + i.val < 4224 by omega)]
end Cert.InGrad

namespace Cert.Kernel11Ideal.InGrad
open Cert.Kernel11Ideal Cert.Kernel11Ideal.Gen Idealize.ShloMosaic Idealize.ShloMosaic.TcCoe Cert.InGrad
open Cert.Proj (onRowsE host_atE)
open Cert.KernelIdeal.Head (idx2)
open Cert.Kernel5Ideal.Act (tile2 from2)
open Cert.Kernel4Ideal.Weights (canon_drop)
variable (m : (ℓ : Loc nD τ sig) → Buf (Elt Ideal) ℓ) (c : Dev nD)

/-- The memory holds the arguments. -/
structure Args (I : Inp) : Prop where
  a0 : ∀ b i k, m ((c : Thread nD τ).loc main_arg0) (ix3 b i k) = I.s b i k
  a1 : ∀ b i k, m ((c : Thread nD τ).loc main_arg1) (ix3 b i k) = I.du b i k

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp
abbrev duRows : FVec Ideal S4224x2688 .f32 :=
  shapeCast S4224x2688 (pad S2x2112x2688 ![0, 48, 0] ![0, 0, 112] ![0, 0, 0] (m ((c : Thread nD τ).loc main_arg1)) zeroI
    pads_S2x2064x2576_S2x2112x2688_000_4800_01120 h_S_) shapeCasts_S2x2112x2688_S4224x2688

variable {m c} {I : Inp} (h : Args m c I)
theorem V_all :
    V m c main_v2 = extractStridedSlice S4224x1024 ![0, 0] (duRows m c) slices_S4224x2688_S4224x1024_0_0
    ∧ V m c main_v3 = extractStridedSlice S4224x512 ![0, 1024] (duRows m c) slices_S4224x2688_S4224x512_0_1024
    ∧ V m c main_v4 = extractStridedSlice S4224x512 ![0, 1536] (duRows m c) slices_S4224x2688_S4224x512_0_1536
    ∧ V m c main_v5 = extractStridedSlice S4224x512 ![0, 2048] (duRows m c) slices_S4224x2688_S4224x512_0_2048
    ∧ V m c main_v6 = extractStridedSlice S4224x128 ![0, 2560] (duRows m c) slices_S4224x2688_S4224x128_0_2560
    ∧ V m c main_v9 = truncf .bf16 (shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024) bitsLt_bf16_f32 := by
  simp only [V, hostOps0, hostOps0_1, hostOps0_2, hostOps0_3, hostOps0_4, List.flatten_cons, List.flatten_nil, List.cons_append, List.nil_append, List.append_nil]
  refine ⟨?_, ?_, ?_, ?_, ?_, ?_⟩ <;> (entry_read; rfl)

/-! ## The blocks of a grid point -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![0, 0] :=
  (by decide +kernel : ∀ t : Fin grid0.N, _)
theorem tlt (t : Fin cfg0.N) : t.val < 6 := by have := t.isLt; simp only [show cfg0.N = 6 from N_0] at this; exact this
/-- Row `i` of a tile. -/
abbrev row (t : Fin cfg0.N) (i : Fin 704) : Fin 4224 := ⟨704 * t.val + i.val, by have := tlt t; omega⟩
/-- Some columns of the gradient's rows. -/
def cols (I : Inp) (r : Fin 4224) (j : Fin 2688) : EReal := onRowsE (fun b i => wide (I.du b i) j) r
section
include h
theorem du_at (r : Fin 4224) (j : Fin 2688) : duRows m c (ix2 r j) = cols I r j :=
  wide_at _ zeroI pads_S2x2064x2576_S2x2112x2688_000_4800_01120 h_S_ (zeroI_apply _) shapeCasts_S2x2112x2688_S4224x2688 h.a1 r j
/-- A slice of the gradient's columns. -/
theorem slice_at {n o : ℕ} (hs : S4224x2688.Slices ![0, o] ⟨2, ![4224, n]⟩) (hn : o + n ≤ 2688) (r : Fin 4224) (a : Fin n) :
    extractStridedSlice ⟨2, ![4224, n]⟩ ![0, o] (duRows m c) hs (ix2 r a) = cols I r ⟨o + a.val, by omega⟩ := by
  have e := du_at h
  generalize duRows m c = w at e ⊢
  rw [← e]
  pointwise
theorem b0 (t : Fin cfg0.N) (i : Fin 704) (k : Fin 1024) : iblk m c 0 t (ix2 i k) = onRowsE (fun b i => I.s b i k) (row t i) := by
  rw [← host_atE _ zeroI pads_S2x2064x1024_S2x2112x1024_000_4800_000 h_S_ (zeroI_apply _) shapeCasts_S2x2112x1024_S4224x1024 h.a0 (row t i) k]
  refine Eq.trans ?_ (congrFun V_all.2.2.2.2.2 (ix2 (row t i) k))
  show V m c main_v9 (((cfg0.win 0).blk t).view.emb _) = _; blk_ext [idx t]
theorem b1 (t : Fin cfg0.N) (i : Fin 704) (a : Fin 1024) : iblk m c 1 t (ix2 i a) = cols I (row t i) ⟨0 + a.val, by omega⟩ := by
  rw [← slice_at h slices_S4224x2688_S4224x1024_0_0 (by decide), ← V_all.1]
  show V m c main_v2 (((cfg0.win 1).blk t).view.emb _) = _; blk_ext [idx t]
theorem b2 (t : Fin cfg0.N) (i : Fin 704) (a : Fin 512) : iblk m c 2 t (ix2 i a) = cols I (row t i) ⟨1024 + a.val, by omega⟩ := by
  rw [← slice_at h slices_S4224x2688_S4224x512_0_1024 (by decide), ← V_all.2.1]
  show V m c main_v3 (((cfg0.win 2).blk t).view.emb _) = _; blk_ext [idx t]
theorem b3 (t : Fin cfg0.N) (i : Fin 704) (a : Fin 512) : iblk m c 3 t (ix2 i a) = cols I (row t i) ⟨1536 + a.val, by omega⟩ := by
  rw [← slice_at h slices_S4224x2688_S4224x512_0_1536 (by decide), ← V_all.2.2.1]
  show V m c main_v4 (((cfg0.win 3).blk t).view.emb _) = _; blk_ext [idx t]
theorem b4 (t : Fin cfg0.N) (i : Fin 704) (a : Fin 512) : iblk m c 4 t (ix2 i a) = cols I (row t i) ⟨2048 + a.val, by omega⟩ := by
  rw [← slice_at h slices_S4224x2688_S4224x512_0_2048 (by decide), ← V_all.2.2.2.1]
  show V m c main_v5 (((cfg0.win 4).blk t).view.emb _) = _; blk_ext [idx t]
theorem b5 (t : Fin cfg0.N) (i : Fin 704) (a : Fin 128) : iblk m c 5 t (ix2 i a) = cols I (row t i) ⟨2560 + a.val, by omega⟩ := by
  rw [← slice_at h slices_S4224x2688_S4224x128_0_2560 (by decide), ← V_all.2.2.2.2.1]
  show V m c main_v6 (((cfg0.win 5).blk t).view.emb _) = _; blk_ext [idx t]
end

/-! ## What one point computes -/
theorem add512 (v : Vec Ideal S512x1024 .f32) (y : Vec Ideal S704x512 .f32) (x : Vec Ideal S704x1024 .bf16) (a : Fin 512) (k : Fin 1024) :
    k0_pay2 v y x (ix2 a k) = v (ix2 a k) + ∑ i, y (ix2 i a) * x (ix2 i k) := by pointwise [k0_pay2]
theorem add128 (v : Vec Ideal S128x1024 .f32) (y : Vec Ideal S704x128 .f32) (x : Vec Ideal S704x1024 .bf16) (a : Fin 128) (k : Fin 1024) :
    k0_pay3 v y x (ix2 a k) = v (ix2 a k) + ∑ i, y (ix2 i a) * x (ix2 i k) := by pointwise [k0_pay3]
theorem add1024 (v : Vec Ideal S1024x1024 .f32) (y : Vec Ideal S704x1024 .f32) (x : Vec Ideal S704x1024 .bf16) (a k : Fin 1024) :
    k0_pay5 v y x (ix2 a k) = v (ix2 a k) + ∑ i, y (ix2 i a) * x (ix2 i k) := by pointwise [k0_pay5]
theorem same (v : Vec Ideal S512x1024 .f32) (y : Vec Ideal S704x512 .f32) (x : Vec Ideal S704x1024 .bf16) :
    k0_pay6 v y x = k0_pay2 v y x ∧ k0_pay1 (k0_pay7 v) (k0_pay8 y) (k0_pay9 x) = k0_pay2 v y x := ⟨rfl, rfl⟩

/-- The result holds the gradient over the first `q` tiles. -/
def Held (I : Inp) (q : ℕ) (X : FVec Ideal S2688x1024 .f32) : Prop := ∀ j k, X (ix2 j k) = acc I (704 * q) j k

include h in
/-- A block of rows that a point stores, from what the result held before. -/
theorem piece (t : Fin cfg0.N) {X : FVec Ideal S2688x1024 .f32} (hX : Held I t.val X) {n o : ℕ}
    {inb : ∀ d, (![o, 0] : Fin 2 → ℕ) d + (![n, 1024] : Fin 2 → ℕ) d ≤ S2688x1024.size d} {w : (⟨2, ![n, 1024]⟩ : Shape).Idx → EReal} {y : (⟨2, ![704, n]⟩ : Shape).Idx → EReal}
    (hn : o + n ≤ 2688) (hw : ∀ a k, w (ix2 a k) = X ((Rect.unit (s := S2688x1024) ![o, 0] ![n, 1024] inb).idx (ix2 a k)) + ∑ i, y (ix2 i a) * iblk m c 0 t (ix2 i k))
    (hy : ∀ i a, y (ix2 i a) = cols I (row t i) ⟨o + a.val, by omega⟩)
    {j : Fin 2688} {k : Fin 1024} (x : (⟨2, ![n, 1024]⟩ : Shape).Idx) (h0 : j.val = o + (x 0).val) (h1 : k.val = (x 1).val) :
    w x = acc I (704 * (t.val + 1)) j k := by
  have ht := tlt t
  refine tile2 (T := acc I (704 * (t.val + 1))) o 0 (fun a k' ha hk => ?_) x h0 (h1.trans (Nat.zero_add _).symm)
  rw [hw, from2 X ⟨o + a.val, ha⟩ ⟨0 + k'.val, hk⟩ rfl rfl, hX, Nat.mul_succ, ← acc_add I _ (by omega)]
  congr 1
  refine Finset.sum_congr rfl fun i _ => ?_
  rw [hy, b0 h, cols, Mix.onRowsE_mul, show (⟨0 + k'.val, hk⟩ : Fin 1024) = k' from Fin.ext (Nat.zero_add _)]
  rfl

theorem zero2 : ∀ a : Fin S2688x1024.rank, (![0, 0] : Fin 2 → ℕ) a = 0 := by decide
variable (m c) in
/-- The blocks of rows that a point stores, the last first. -/
abbrev blocks (t : Fin cfg0.N) (X : Vec Ideal S2688x1024 .f32) : List (View.Piece (Elt Ideal) S2688x1024 .f32) :=
  [⟨Rect.unit ![2560, 0] ![128, 1024] inb_S2688x1024_S128x1024_2560_0,
      k0_pay3 (View.ld X (Rect.unit ![2560, 0] ![128, 1024] inb_S2688x1024_S128x1024_2560_0)) (iblk m c 5 t) (iblk m c 0 t)⟩,
    ⟨Rect.unit ![2048, 0] ![512, 1024] inb_S2688x1024_S512x1024_2048_0,
      k0_pay2 (View.ld X (Rect.unit ![2048, 0] ![512, 1024] inb_S2688x1024_S512x1024_2048_0)) (iblk m c 4 t) (iblk m c 0 t)⟩,
    ⟨Rect.unit ![1536, 0] ![512, 1024] inb_S2688x1024_S512x1024_1536_0,
      k0_pay1 (k0_pay7 (View.ld X (Rect.unit ![1536, 0] ![512, 1024] inb_S2688x1024_S512x1024_1536_0))) (k0_pay8 (iblk m c 3 t)) (k0_pay9 (iblk m c 0 t))⟩,
    ⟨Rect.unit ![1024, 0] ![512, 1024] inb_S2688x1024_S512x1024_1024_0,
      k0_pay6 (View.ld X (Rect.unit ![1024, 0] ![512, 1024] inb_S2688x1024_S512x1024_1024_0)) (iblk m c 2 t) (iblk m c 0 t)⟩,
    ⟨Rect.unit ![0, 0] ![1024, 1024] inb_S2688x1024_S1024x1024_0_0,
      k0_pay5 (View.ld X (Rect.unit ![0, 0] ![1024, 1024] inb_S2688x1024_S1024x1024_0_0)) (iblk m c 1 t) (iblk m c 0 t)⟩]
variable (m c) in
theorem cover (t : Fin cfg0.N) (X : Vec Ideal S2688x1024 .f32) (y : S2688x1024.Idx) : ∃ p ∈ blocks m c t X, y ∈ p.1.set :=
  View.cover_of_tiledBy (blocks m c t X) ![128, 1024] (by sl_kernel_rfl) y
section
include h
theorem stored (t : Fin cfg0.N) {X : FVec Ideal S2688x1024 .f32} (hX : Held I t.val X) (j : Fin 2688) (k : Fin 1024) :
    View.canon (blocks m c t X) (ix2 j k) = acc I (704 * (t.val + 1)) j k := by
  canon_tiles x h using cover m c t X _
  case piece0 => exact piece h t hX (by decide) (add128 _ _ _) (b5 h t) x h0 h1
  case piece1 => exact piece h t hX (by decide) (add512 _ _ _) (b4 h t) x h0 h1
  case piece2 => exact piece h t hX (by decide) (fun a k => (congrFun (same _ _ _).2 _).trans (add512 _ _ _ a k)) (b3 h t) x h0 h1
  case piece3 => exact piece h t hX (by decide) (fun a k => (congrFun (same _ _ _).1 _).trans (add512 _ _ _ a k)) (b2 h t) x h0 h1
  case piece4 => exact piece h t hX (by decide) (add1024 _ _ _) (b1 h t) x (h0.trans (Nat.zero_add _).symm) h1
theorem start (t : Fin cfg0.N) (h0 : t.val % 6 = 0) : Held I (t.val + 1) (outsAt0 m c t.val t.isLt) := by
  intro j k
  have ht := tlt t
  have z : Held I t.val (k0_pay4 (F := Ideal)) := fun j k => by
    rw [show t.val = 0 by omega, Nat.mul_zero, acc_zero]; pointwise [k0_pay4]
  rw [outsAt0_A m c t h0]; frame_out
  simp (disch := decide) only [↓View.readCov_skip, View.readCov_fill _ _ _ _ _ zero2]
  refine (canon_drop [_] [_, _, _, _, _] ?_).trans ?_
  · exact cover m c t (k0_pay4 (F := Ideal)) (ix2 j k)
  · exact stored h t z j k
theorem next (t : Fin cfg0.N) (h0 : ¬ t.val % 6 = 0) (P : Held I t.val (outsAt0 m c (t.val - 1) (by have := t.isLt; omega))) :
    Held I (t.val + 1) (outsAt0 m c t.val t.isLt) := by
  intro j k
  rw [outsAt0_B m c t h0]; frame_out
  exact stored h t P j k
theorem carried : ∀ (n : ℕ) (hn : n < cfg0.N), Held I (n + 1) (outsAt0 m c n hn) := by
  intro n
  induction n with
  | zero => intro hn; exact start h ⟨0, hn⟩ rfl
  | succ n ih =>
    intro hn
    have ht := tlt ⟨n + 1, hn⟩
    dsimp only at ht
    exact next h ⟨n + 1, hn⟩ (by dsimp only; omega) (ih (by omega))
end
theorem flush6 : ∀ t : Fin cfg0.N, (cfg0.win 6).flush t = true → t.val % 6 = 5 := (by decide +kernel : ∀ t : Fin grid0.N, _)

include h in
/-- The gradient of the weight. -/
theorem out6 (j : Fin 2688) (k : Fin 1024) : (dats m 0 c).arrAt 6 cfg0.N (ix2 j k) = ∑ b, ∑ i, term I j k b i := by
  let G : S2688x1024.Idx → EReal := fun j => ∑ b, ∑ i, term I (j 0) (j 1) b i
  have e : (dats m 0 c).arrAt 6 cfg0.N = G := by
    refine (dats m 0 c).arrAt_eq_of_covers 6 G (by decide +kernel) fun t hf y => ?_
    obtain ⟨j, k, rfl⟩ := idx2 y
    have h5 := flush6 t hf
    have ht := tlt t
    have hs : ((dats m 0 c).after 6 t : S2688x1024.Idx → EReal) (ix2 j k) = ∑ b, ∑ i, term I j k b i := by
      rw [after0_6, carried h t.val t.isLt j k, show 704 * (t.val + 1) = 4224 by omega, acc_all]
    blk_simp
    refine hs.trans (show G (ix2 j k) = _ from congrArg G ?_)
    symm; blk_ext [idx t]
  rw [e]; rfl
end Cert.Kernel11Ideal.InGrad
-- ==== Proof.InGradClaim.lean ====
module
public import proofs.«01_k».proof.Defs
public import proofs.«01_k».proof.Proof.InGradKernel
public import proofs.«01_k».proof.Proof.Gen.Reference11Ideal.Run
public import proofs.«01_k».proof.Proof.Gen.Reference11Ideal.Read
public import Idealize.ShloMosaic.Adequacy
public import Idealize.ShloMosaic.Init
@[expose] public section
set_option maxRecDepth 16384
/-! # The gradient of the input projection's weight: the reference and the claims -/
noncomputable section
namespace Cert.Proof.InGrad
open Idealize.ShloMosaic Idealize.SL.Sem Cert.Kernel11 Cert.InGrad
open Cert.KernelIdeal.Head (idx2)
open Cert.Reference11Ideal.Read (val_main_v2 val_main_v3 val_main_v4 val_main_v5 val_main_call0_v0)

/-- What the reference computes. -/
theorem reference_at {X0 : (⟨S2x2064x1024, .f32⟩ : BufTy).Contents (Elt Ideal)} {X1 : (⟨S2x2064x2576, .f32⟩ : BufTy).Contents (Elt Ideal)} {I : Inp}
    (h0 : ∀ b i k, X0 (ix3 b i k) = I.s b i k) (h1 : ∀ b i j, X1 (ix3 b i j) = I.du b i j) (j : Fin 2688) (k : Fin 1024) :
    val_main_v5 (F := Ideal) X0 X1 (ix2 j k) = ∑ b, ∑ i, term I j k b i := by
  refine (Layout.pad2_at (val_main_v4 (F := Ideal) X0 X1) (val_main_call0_v0 (F := Ideal)) _ _ j k).trans ?_
  by_cases hj : j.val < 2576
  · rw [dif_pos ⟨Nat.zero_le _, hj⟩]
    unfold val_main_v4 val_main_v3 val_main_v2
    pointwise
    simp only [h0, h1, term, wide, dif_pos hj, Nat.sub_zero]
  · rw [dif_neg (fun H => hj H.2)]
    simp only [term, wide, dif_neg hj, zero_mul, Finset.sum_const_zero]
    show (((0#32 : BitVec 32).toInt : ℝ) : EReal) = 0
    simp

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The arguments as the kernel's memory holds them. -/
abbrev inp (m : (ℓ : Loc Cert.Kernel11Ideal.nD Cert.Kernel11Ideal.τ Cert.Kernel11Ideal.sig) → Buf (Elt Ideal) ℓ) (c : Dev Cert.Kernel11Ideal.nD) : Inp where
  s := fun b i k => m ((c.tc : Thread Cert.Kernel11Ideal.nD Cert.Kernel11Ideal.τ).loc Cert.Kernel11Ideal.main_arg0) (ix3 b i k)
  du := fun b i j => m ((c.tc : Thread Cert.Kernel11Ideal.nD Cert.Kernel11Ideal.τ).loc Cert.Kernel11Ideal.main_arg1) (ix3 b i j)

/-- The two programs end with equal gradients, whatever the arguments. -/
theorem value : Cert.algebraic_Kernel11Ideal_Reference11Ideal := by
  intro m g m' g' _ hm
  have hk (c : Dev Cert.Kernel11Ideal.nD) : Cert.Kernel11Ideal.InGrad.Args m c (inp m c) := ⟨fun _ _ _ => rfl, fun _ _ _ => rfl⟩
  refine ⟨_, Cert.Kernel11Ideal.Value.run_blocks (F := Ideal) m g,
    (θ_run Cert.Reference11Ideal.defs _ _).mono (fun r h c => ?_) (Cert.Reference11Ideal.Value.run (F := Ideal) m' g')⟩
  obtain ⟨e0, ha⟩ := h c
  obtain ⟨q0, q1⟩ := hm c
  refine ⟨(e0.trans (Cert.Reference11Ideal.Read.val_main_v5_eq (F := Ideal) _ _)).trans (funext fun j => ?_), ha⟩
  obtain ⟨j, k, rfl⟩ := idx2 j
  exact (reference_at (I := inp m c) (fun b i k => congrFun q0 (ix3 b i k)) (fun b i j => congrFun q1 (ix3 b i j)) j k).trans (Cert.Kernel11Ideal.InGrad.out6 (hk c) j k).symm
end Cert.Proof.InGrad
-- ==== Proof.InProjClaim.lean ====
module
public import proofs.«01_k».proof.Defs
public import proofs.«01_k».proof.Proof.InGradKernel
public import proofs.«01_k».proof.Proof.Gen.Kernel12Ideal.Value
public import proofs.«01_k».proof.Proof.Gen.Kernel12Ideal
public import proofs.«01_k».proof.Proof.Gen.Reference12Ideal.Run
public import proofs.«01_k».proof.Proof.Gen.Reference12Ideal.Read
public import Idealize.ShloMosaic.Adequacy
public import Idealize.ShloMosaic.Init
@[expose] public section
set_option maxRecDepth 16384
/-! # The input projection

A grid point multiplies its 704 rows with the transposed weight, which has rows of zeros after it.
The claim has no precondition, so everything here is an extended real. -/
noncomputable section
namespace Cert.InProj
open Idealize.ShloMosaic Cert.InGrad
open Cert.Proj (onRowsE)

/-- The arguments: the rows that go in, and the weight. -/
structure Inp where
  s : Fin 2 → Fin 2064 → Fin 1024 → EReal
  w : Fin 1024 → Fin 2576 → EReal
variable (I : Inp)
/-- The projection of a row. -/
def u (b : Fin 2) (i : Fin 2064) (j : Fin 2576) : EReal := ∑ k, I.s b i k * I.w k j
/-- Multiplying the padded rows with the padded weight pads the projected rows. -/
theorem u_eq (r : Fin 4224) (j : Fin 2688) : ∑ k, onRowsE (fun b i => I.s b i k) r * wide (I.w k) j = onRowsE (fun b i => wide (u I b i) j) r := by
  unfold onRowsE wide
  split_ifs
  · rfl
  · simp
  · simp
  · simp
end Cert.InProj

namespace Cert.Kernel12Ideal.InProj
open Cert.Kernel12Ideal Cert.Kernel12Ideal.Gen Idealize.ShloMosaic Idealize.ShloMosaic.TcCoe Cert.InProj Cert.InGrad
open Cert.Proj (onRowsE host_atE)
open Cert.KernelIdeal.Head (idx2)
open Cert.Kernel5Ideal.Act (tile2 from2)
variable (m : (ℓ : Loc nD τ sig) → Buf (Elt Ideal) ℓ) (c : Dev nD)

/-- The memory holds the arguments. -/
structure Args (I : InProj.Inp) : Prop where
  a0 : ∀ b i k, m ((c : Thread nD τ).loc main_arg0) (ix3 b i k) = I.s b i k
  a1 : ∀ k j, m ((c : Thread nD τ).loc main_arg1) (ix2 k j) = I.w k j

abbrev zeroI : FVec Ideal S_ .f32 := sitofp (F := Ideal) FTy.f32 (constantI S_ 32 0#32)
theorem zeroI_apply (i : S_.Idx) : zeroI i = 0 := by
  show (((0#32 : BitVec 32).toInt : ℝ) : EReal) = 0
  simp

variable {m c} {I : InProj.Inp} (h : Args m c I)
theorem V_all :
    V m c main_v5 = truncf .bf16 (shapeCast S4224x1024 (pad S2x2112x1024 ![0, 48, 0] ![0, 0, 0] ![0, 0, 0] (m ((c : Thread nD τ).loc main_arg0)) zeroI
        pads_S2x2064x1024_S2x2112x1024_000_4800_000 h_S_) shapeCasts_S2x2112x1024_S4224x1024) bitsLt_bf16_f32
    ∧ V m c main_v2 = truncf .bf16 (pad S2688x1024 ![0, 0] ![112, 0] ![0, 0]
        (transpose S2576x1024 [1, 0] (m ((c : Thread nD τ).loc main_arg1)) transposes_S1024x2576_S2576x1024_1_0) zeroI pads_S2576x1024_S2688x1024_01120_000 h_S_) bitsLt_bf16_f32 := by
  simp only [V, hostOps0, hostOps0_1, hostOps0_2, hostOps0_3, hostOps0_4, List.flatten_cons, List.flatten_nil, List.cons_append, List.nil_append, List.append_nil]
  refine ⟨?_, ?_⟩ <;> (entry_read; rfl)

theorem idx : ∀ t : Fin cfg0.N, win0_0.index t = ![t.val, 0] ∧ win0_1.index t = ![0, 0] ∧ win0_2.index t = ![t.val, 0] := (by decide +kernel : ∀ t : Fin grid0.N, _)
theorem tlt (t : Fin cfg0.N) : t.val < 6 := by have := t.isLt; simp only [show cfg0.N = 6 from N_0] at this; exact this
/-- Row `i` of a tile. -/
abbrev row (t : Fin cfg0.N) (i : Fin 704) : Fin 4224 := ⟨704 * t.val + i.val, by have := tlt t; omega⟩
section
include h
theorem b0 (t : Fin cfg0.N) (i : Fin 704) (k : Fin 1024) : iblk m c 0 t (ix2 i k) = onRowsE (fun b i => I.s b i k) (row t i) := by
  rw [← host_atE _ zeroI pads_S2x2064x1024_S2x2112x1024_000_4800_000 h_S_ (zeroI_apply _) shapeCasts_S2x2112x1024_S4224x1024 h.a0 (row t i) k]
  refine Eq.trans ?_ (congrFun V_all.1 (ix2 (row t i) k))
  show V m c main_v5 (((cfg0.win 0).blk t).view.emb _) = _; blk_ext [idx t]
/-- The weight, transposed and with rows of zeros after it. -/
theorem w_at (j : Fin 2688) (k : Fin 1024) : V m c main_v2 (ix2 j k) = wide (I.w k) j := by
  rw [V_all.2]
  refine (Layout.pad2_at _ _ pads_S2576x1024_S2688x1024_01120_000 _ j k).trans ?_
  simp only [Nat.zero_le, true_and, Nat.sub_zero, zeroI_apply, wide]
  split_ifs with hk
  · exact (show transpose S2576x1024 [1, 0] (m ((c : Thread nD τ).loc main_arg1)) transposes_S1024x2576_S2576x1024_1_0 (ix2 (⟨j, hk⟩ : Fin 2576) k)
      = m ((c : Thread nD τ).loc main_arg1) (ix2 k (⟨j, hk⟩ : Fin 2576)) by pointwise).trans (h.a1 _ _)
  · rfl
theorem b1 (t : Fin cfg0.N) (j : Fin 2688) (k : Fin 1024) : iblk m c 1 t (ix2 j k) = wide (I.w k) j := by
  rw [← w_at h]; show V m c main_v2 (((cfg0.win 1).blk t).view.emb _) = _; blk_ext [idx t]
end

theorem prod_at (x : Vec Ideal S704x1024 .bf16) (y : Vec Ideal S2688x1024 .bf16) (i : Fin 704) (j : Fin 2688) :
    k0_pay1 x y (ix2 i j) = ∑ k, x (ix2 i k) * y (ix2 j k) := by pointwise [k0_pay1]
include h in
theorem stored (t : Fin cfg0.N) (i : Fin 704) (j : Fin 2688) : out0_2 (iblk m c 0 t) (iblk m c 1 t) (ix2 i j) = onRowsE (fun b i => wide (u I b i) j) (row t i) := by
  unfold out0_2
  canon_tiles x h
  case piece0 =>
    refine tile2 (T := fun i j => onRowsE (fun b i => wide (u I b i) j) (row t i)) 0 0 (fun i j hi hj => ?_) x (h0.trans (Nat.zero_add _).symm) (h1.trans (Nat.zero_add _).symm)
    rw [prod_at, show (⟨0 + i.val, hi⟩ : Fin 704) = i from Fin.ext (Nat.zero_add _), show (⟨0 + j.val, hj⟩ : Fin 2688) = j from Fin.ext (Nat.zero_add _), ← u_eq]
    refine Finset.sum_congr rfl fun k _ => ?_
    rw [← b0 h, ← b1 h t]
    exact congrArg₂ (· * ·) (from2 (iblk m c 0 t) i k (Nat.zero_add _).symm (Nat.zero_add _).symm) (from2 (iblk m c 1 t) j k (Nat.zero_add _).symm (Nat.zero_add _).symm)
include h in
theorem out2 (r : Fin 4224) (j : Fin 2688) : (dats m 0 c).arrAt 2 cfg0.N (ix2 r j) = onRowsE (fun b i => wide (u I b i) j) r := by
  let G : S4224x2688.Idx → EReal := fun j => onRowsE (fun b i => wide (u I b i) (j 1)) (j 0)
  have e : (dats m 0 c).arrAt 2 cfg0.N = G := by
    refine (dats m 0 c).arrAt_eq_of_covers 2 G (by decide +kernel) fun t hf y => ?_
    obtain ⟨i, j, rfl⟩ := idx2 y
    have hs : ((dats m 0 c).after 2 t : S704x2688.Idx → EReal) (ix2 i j) = onRowsE (fun b i => wide (u I b i) j) (row t i) := by
      rw [after0_2, stored h t i j]
    blk_simp
    refine hs.trans (show G (ix2 (row t i) j) = _ from congrArg G ?_)
    symm; blk_ext [idx t]
  rw [e]; rfl
end Cert.Kernel12Ideal.InProj

namespace Cert.Proof.InProj
open Idealize.ShloMosaic Idealize.SL.Sem Cert.Kernel12 Cert.InGrad
open Cert.Proj (onRowsE)
open Cert.KernelIdeal.Head (idx2)

/-- What the reference computes. -/
theorem reference_at {X0 : (⟨S2x2064x1024, .f32⟩ : BufTy).Contents (Elt Ideal)} {X1 : (⟨S1024x2576, .f32⟩ : BufTy).Contents (Elt Ideal)} {I : InProj.Inp}
    (h0 : ∀ b i k, X0 (ix3 b i k) = I.s b i k) (h1 : ∀ k j, X1 (ix2 k j) = I.w k j) (r : Fin 4224) (j : Fin 2688) :
    Cert.Reference12Ideal.Read.val_main_v2 (F := Ideal) X0 X1 (ix2 r j) = onRowsE (fun b i => wide (InProj.u I b i) j) r := by
  refine wide_at (Cert.Reference12Ideal.Read.val_main_v0 (F := Ideal) X0 X1) (Cert.Reference12Ideal.Read.val_main_call0_v0 (F := Ideal)) _ _ ?_ _ (fun b i j => ?_) r j
  · show (((0#32 : BitVec 32).toInt : ℝ) : EReal) = 0
    simp
  · unfold Cert.Reference12Ideal.Read.val_main_v0
    pointwise
    simp only [h0, h1, InProj.u]

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The arguments as the kernel's memory holds them. -/
abbrev inp (m : (ℓ : Loc Cert.Kernel12Ideal.nD Cert.Kernel12Ideal.τ Cert.Kernel12Ideal.sig) → Buf (Elt Ideal) ℓ) (c : Dev Cert.Kernel12Ideal.nD) : Cert.InProj.Inp where
  s := fun b i k => m ((c.tc : Thread Cert.Kernel12Ideal.nD Cert.Kernel12Ideal.τ).loc Cert.Kernel12Ideal.main_arg0) (ix3 b i k)
  w := fun k j => m ((c.tc : Thread Cert.Kernel12Ideal.nD Cert.Kernel12Ideal.τ).loc Cert.Kernel12Ideal.main_arg1) (ix2 k j)

/-- The two programs end with equal rows, whatever the arguments. -/
theorem value : Cert.algebraic_Kernel12Ideal_Reference12Ideal := by
  intro m g m' g' _ hm
  have hk (c : Dev Cert.Kernel12Ideal.nD) : Cert.Kernel12Ideal.InProj.Args m c (inp m c) := ⟨fun _ _ _ => rfl, fun _ _ => rfl⟩
  refine ⟨_, Cert.Kernel12Ideal.Value.run_blocks (F := Ideal) m g,
    (θ_run Cert.Reference12Ideal.defs _ _).mono (fun r h c => ?_) (Cert.Reference12Ideal.Value.run (F := Ideal) m' g')⟩
  obtain ⟨e0, ha⟩ := h c
  obtain ⟨q0, q1⟩ := hm c
  refine ⟨(e0.trans (Cert.Reference12Ideal.Read.val_main_v2_eq (F := Ideal) _ _)).trans (funext fun j => ?_), ha⟩
  obtain ⟨r, j, rfl⟩ := idx2 j
  exact (reference_at (I := inp m c) (fun b i k => congrFun q0 (ix3 b i k)) (fun k j => congrFun q1 (ix2 k j)) r j).trans (Cert.Kernel12Ideal.InProj.out2 (hk c) r j).symm
end Cert.Proof.InProj
-- ==== Proof.HeadReference.lean ====
module
public import proofs.«01_k».proof.Proof.HeadKernel
public import proofs.«01_k».proof.Proof.Gen.ReferenceIdeal.Run
public import proofs.«01_k».proof.Proof.Gen.ReferenceIdeal.Read
@[expose] public section
set_option maxRecDepth 16384
/-! # What the reference computes

The derivative of the forward lines, read one operation after another as real numbers. -/
noncomputable section
namespace Cert.ReferenceIdeal.Head
open Cert.ReferenceIdeal Cert.ReferenceIdeal.Read Idealize.ShloMosaic Idealize.ShloMosaic.TcCoe Cert.Real
open Cert.KernelIdeal.Head (dsR n1024)

/-- The arguments as real numbers. -/
structure Args (X0 : (⟨S16x1024, .f32⟩ : BufTy).Contents (Elt Ideal)) (X1 : (⟨S1024, .f32⟩ : BufTy).Contents (Elt Ideal))
    (X2 : (⟨S1024x2576, .f32⟩ : BufTy).Contents (Elt Ideal)) (X3 : (⟨S2x2064x1024, .f32⟩ : BufTy).Contents (Elt Ideal))
    (X4 : (⟨S2x2064x2576, .f32⟩ : BufTy).Contents (Elt Ideal))
    (x0 : Fin 16 → Fin 1024 → ℝ) (x1 : Fin 1024 → ℝ) (x2 : Fin 1024 → Fin 2576 → ℝ) (x3 : Fin 2 → Fin 2064 → Fin 1024 → ℝ)
    (x4 : Fin 2 → Fin 2064 → Fin 2576 → ℝ) : Prop where
  a0 : ∀ i k, X0 (ix2 i k) = (x0 i k : EReal)
  a1 : ∀ k, X1 (ix1 k) = (x1 k : EReal)
  a2 : ∀ k j, X2 (ix2 k j) = (x2 k j : EReal)
  a3 : ∀ b i k, X3 (ix3 b i k) = (x3 b i k : EReal)
  a4 : ∀ b i j, X4 (ix3 b i j) = (x4 b i j : EReal)

variable {X0 : (⟨S16x1024, .f32⟩ : BufTy).Contents (Elt Ideal)} {X1 : (⟨S1024, .f32⟩ : BufTy).Contents (Elt Ideal)}
    {X2 : (⟨S1024x2576, .f32⟩ : BufTy).Contents (Elt Ideal)} {X3 : (⟨S2x2064x1024, .f32⟩ : BufTy).Contents (Elt Ideal)}
    {X4 : (⟨S2x2064x2576, .f32⟩ : BufTy).Contents (Elt Ideal)}
    {x0 : Fin 16 → Fin 1024 → ℝ} {x1 : Fin 1024 → ℝ} {x2 : Fin 1024 → Fin 2576 → ℝ} {x3 : Fin 2 → Fin 2064 → Fin 1024 → ℝ}
    {x4 : Fin 2 → Fin 2064 → Fin 2576 → ℝ} (h : Args X0 X1 X2 X3 X4 x0 x1 x2 x3 x4)
include h

/-- The gradient of the normalised rows. -/
theorem ds_at (b : Fin 2) (r : Fin 16) (k : Fin 1024) : val_main_v40 (F := Ideal) X2 X3 X4 (ix3 b r k) = (dsR x2 x3 x4 b r k : EReal) := by
  pointwise [val_main_v40, val_main_v37, val_main_v39, val_main_v38, val_main_v36, val_main_v35, val_main_cst_8]
  simp only [h.a2, h.a3, h.a4, lit_alpha, ← EReal.coe_mul, coe_sum, ← EReal.coe_add, dsR]
/-- The rows less their means, the two times the forward lines write them. -/
theorem cen_at (b : Fin 2) (r : Fin 16) (k : Fin 1024) :
    val_main_v8 (F := Ideal) X0 (ix3 b r k) = (cen (x0 r) k : EReal) ∧ val_main_v17 (F := Ideal) X0 (ix3 b r k) = (cen (x0 r) k : EReal) := by
  constructor <;>
  · pointwise [val_main_v8, val_main_v7, val_main_v17, val_main_v16, val_main_v6, val_main_v5, val_main_v4, val_main_v3, val_main_v2, val_main_v1, val_main_cst_0, val_main_cst_1]
    simp only [h.a0, lit_1024, coe_sum, div_coe _ _ (by norm_num : (1024 : ℝ) ≠ 0), ← EReal.coe_sub, cen, mean, n1024]
/-- The variances, the literal added. -/
theorem var_at (b : Fin 2) (r : Fin 16) : val_main_v19 (F := Ideal) X0 (ix3 b r 0) = ((var (x0 r) + eps : ℝ) : EReal) := by
  have e := fun k => (cen_at h b r k).1
  pointwise [val_main_v19, val_main_v15, val_main_v18, val_main_v14, val_main_v13, val_main_v12, val_main_v9, val_main_cst_3, val_main_cst_4, val_main_cst_5]
  simp only [e, lit_1024, lit_eps, ← EReal.coe_mul, coe_sum, div_coe _ _ (by norm_num : (1024 : ℝ) ≠ 0), ← EReal.coe_add, var, n1024]
theorem rs_at (b : Fin 2) (r : Fin 16) : val_main_v20 (F := Ideal) X0 (ix3 b r 0) = (rs (x0 r) : EReal) := by
  unfold val_main_v20
  have e := var_at h b r
  generalize val_main_v19 (F := Ideal) X0 = w at e ⊢
  pointwise
  rw [e, rsqrt_coe_pos _ (var_eps _), rs]
/-- The derivative of one over the root. -/
theorem rs3_at (b : Fin 2) (r : Fin 16) : val_main_v23 (F := Ideal) X0 (ix3 b r 0) = ((-1 / 2 * (rs (x0 r) / (var (x0 r) + eps)) : ℝ) : EReal) := by
  have e := var_at h b r
  have e' := rs_at h b r
  unfold val_main_v23 val_main_v21
  generalize val_main_v19 (F := Ideal) X0 = w at e ⊢
  generalize val_main_v20 (F := Ideal) X0 = w' at e' ⊢
  pointwise [val_main_v22, val_main_cst_6]
  rw [e, e', lit_neg_half, div_coe _ _ (var_eps _).ne', ← EReal.coe_mul]
theorem hat_at (b : Fin 2) (r : Fin 16) (k : Fin 1024) : val_main_v25 (F := Ideal) X0 (ix3 b r k) = (hat (x0 r) k : EReal) := by
  have e := (cen_at h b r k).2
  have e' := rs_at h b r
  unfold val_main_v25 val_main_v24
  generalize val_main_v17 (F := Ideal) X0 = w at e ⊢
  generalize val_main_v20 (F := Ideal) X0 = w' at e' ⊢
  pointwise
  rw [e, e', ← EReal.coe_mul, hat]
/-- The gradient times the scale. -/
theorem d_at (b : Fin 2) (r : Fin 16) (k : Fin 1024) : val_main_v48 (F := Ideal) X1 X2 X3 X4 (ix3 b r k) = ((dsR x2 x3 x4 b r k * x1 k : ℝ) : EReal) := by
  unfold val_main_v48
  have e := ds_at h b r k
  generalize val_main_v40 (F := Ideal) X2 X3 X4 = w at e ⊢
  pointwise [val_main_v47, val_main_v26]
  rw [e, h.a1, EReal.coe_mul]
/-- The gradient through the variance. -/
theorem sq_at (b : Fin 2) (r : Fin 16) (k : Fin 1024) : val_main_v63 (F := Ideal) X0 X1 X2 X3 X4 (ix3 b r k)
    = (((∑ i, cen (x0 r) i * (dsR x2 x3 x4 b r i * x1 i)) * (-1 / 2 * (rs (x0 r) / (var (x0 r) + eps))) / 1024 * (2 * cen (x0 r) k) : ℝ) : EReal) := by
  have e := fun k => (cen_at h b r k).2
  have e' := fun k => (cen_at h b r k).1
  have e1 := rs3_at h b r
  have e2 := d_at h b r
  unfold val_main_v63 val_main_v62 val_main_v61 val_main_v60 val_main_v55 val_main_v52 val_main_v51 val_main_v50 val_main_v11
  generalize val_main_v8 (F := Ideal) X0 = w at e' ⊢
  generalize val_main_v17 (F := Ideal) X0 = w at e ⊢
  generalize val_main_v23 (F := Ideal) X0 = w at e1 ⊢
  generalize val_main_v48 (F := Ideal) X1 X2 X3 X4 = w at e2 ⊢
  pointwise [val_main_v59, val_main_v10, val_main_cst_2, val_main_cst_13, val_main_cst_15, val_main_cst_16]
  simp only [Fin.sum_univ_one, e, e', e1, e2, lit_1024, lit_two, ← EReal.coe_mul, coe_sum, div_coe _ _ (by norm_num : (1024 : ℝ) ≠ 0)]
/-- The gradient of a row, as differentiation writes it. -/
theorem row_at (b : Fin 2) (r : Fin 16) (k : Fin 1024) : val_main_v73 (F := Ideal) X0 X1 X2 X3 X4 (ix3 b r k)
    = (lnVjp (x0 r) (fun j => dsR x2 x3 x4 b r j * x1 j) k : EReal) := by
  have e1 := rs_at h b r
  have e2 := d_at h b r
  have e3 := sq_at h b r
  unfold val_main_v73 val_main_v72 val_main_v71 val_main_v70 val_main_v68 val_main_v67 val_main_v66 val_main_v65 val_main_v64 val_main_v58 val_main_v57 val_main_v56 val_main_v54 val_main_v53
  generalize val_main_v20 (F := Ideal) X0 = w at e1 ⊢
  generalize val_main_v48 (F := Ideal) X1 X2 X3 X4 = w at e2 ⊢
  generalize val_main_v63 (F := Ideal) X0 X1 X2 X3 X4 = w at e3 ⊢
  pointwise [val_main_v69, val_main_cst_14, val_main_cst_17, val_main_cst_18, val_main_cst_19]
  simp only [Fin.sum_univ_one, e1, e2, e3, lit_1024, ← EReal.coe_mul, ← EReal.coe_neg, coe_sum, ← EReal.coe_add, div_coe _ _ (by norm_num : (1024 : ℝ) ≠ 0), lnVjp, n1024]

/-- The gradient of the learned rows. -/
theorem out0 (r : Fin 16) (k : Fin 1024) : val_main_v76 (F := Ideal) X0 X1 X2 X3 X4 (ix2 r k)
    = ((∑ b, lnBwd (x0 r) (fun j => dsR x2 x3 x4 b r j * x1 j) k : ℝ) : EReal) := by
  have e := fun b => row_at h b r k
  unfold val_main_v76 val_main_v75 val_main_v74
  generalize val_main_v73 (F := Ideal) X0 X1 X2 X3 X4 = w at e ⊢
  pointwise [val_main_cst_20, val_main_cst_21]
  simp only [Fin.sum_univ_one, e, coe_sum, lnVjp_eq _ _ (by norm_num : 1024 ≠ 0)]
omit h in
/-- The sums over the batch and the rows. -/
theorem sum_rows (w : FVec Ideal S2x16x1024 .f32) (k : Fin 1024) :
    broadcastInDim S1x1024 ![1] Gen.bcast_S1024_S1x1024_1 (Host.reduceAdd (shapeCast S1x1x1024 (Host.reduceAdd w (constant S_ FTy.f32 0#32)
      Gen.reducesTo_S2x16x1024_S1024_d0_1 Gen.h_S_) Gen.shapeCasts_S1024_S1x1x1024) (constant S_ FTy.f32 0#32) Gen.reducesTo_S1x1x1024_S1024_d0_1 Gen.h_S_) (ix2 0 k)
      = ∑ b, ∑ r, w (ix3 b r k) := by
  pointwise
  rw [Layout.hostReduceAdd_r3_a01]
  refine (zero_add _).trans (Eq.trans (Finset.sum_congr rfl fun i _ => Finset.sum_congr rfl fun j _ =>
    (show _ = Host.reduceAdd (F := Ideal) w (constant S_ FTy.f32 0#32) Gen.reducesTo_S2x16x1024_S1024_d0_1 Gen.h_S_ (ix1 k) by pointwise)) ?_)
  simp only [Fin.sum_univ_one]
  pointwise
  rw [Layout.hostReduceAdd_r3_a01, zero_add]
/-- The gradient of the norm's scale. -/
theorem out1 (k : Fin 1024) : val_main_v77 (F := Ideal) X0 X2 X3 X4 (ix2 0 k)
    = ((∑ b, ∑ r : Fin 16, dsR x2 x3 x4 b r k * hat (x0 r) k : ℝ) : EReal) := by
  refine (sum_rows (val_main_v44 (F := Ideal) X0 X2 X3 X4) k).trans ?_
  simp only [val_main_v44_apply, hat_at h, ds_at h, coe_sum, Ideal.mulf_def, ← EReal.coe_mul, mul_comm]
/-- The gradient of the norm's shift. -/
theorem out2 (k : Fin 1024) : val_main_v78 (F := Ideal) X2 X3 X4 (ix2 0 k) = ((∑ b, ∑ r : Fin 16, dsR x2 x3 x4 b r k : ℝ) : EReal) := by
  refine (sum_rows (val_main_v40 (F := Ideal) X2 X3 X4) k).trans ?_
  simp only [ds_at h, coe_sum]
end Cert.ReferenceIdeal.Head
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Kernel2Ideal.Value
public import proofs.«01_k».proof.Proof.Gen.Reference2Ideal.Run
public import proofs.«01_k».proof.Proof.Gen.Reference2Ideal.Read
public import proofs.«01_k».proof.Proof.TokensClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.Gen.Reference3Ideal.Read
public import proofs.«01_k».proof.Proof.GlaClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel4Ideal.Value
public import proofs.«01_k».proof.Proof.Gen.Reference4Ideal.Run
public import proofs.«01_k».proof.Proof.Gen.Reference4Ideal.Read
public import proofs.«01_k».proof.Proof.WeightsClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite5
public import proofs.«01_k».proof.Proof.Gen.Kernel5Ideal.Value
public import proofs.«01_k».proof.Proof.Gen.Reference5Ideal.Run
public import proofs.«01_k».proof.Proof.Gen.Reference5Ideal.Read
public import proofs.«01_k».proof.Proof.ActClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.LossClaim
public import proofs.«01_k».proof.Proof.ProjClaim
public import proofs.«01_k».proof.Proof.ConvClaim
public import proofs.«01_k».proof.Proof.NormClaim
public import proofs.«01_k».proof.Proof.MixClaim
public import proofs.«01_k».proof.Proof.InGradClaim
public import proofs.«01_k».proof.Proof.InProjClaim
public import proofs.«01_k».proof.Proof.HeadReference
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference's frame: its run writes no argument, and it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two programs end with equal results where every argument is finite. -/
theorem head : Cert.algebraic_KernelIdeal_ReferenceIdeal_pre_finite := by
  intro m g m' g' hp hm
  have hx (c : Dev Cert.KernelIdeal.nD) : ∃ x0 x1 x2 x3 x4, Cert.KernelIdeal.Head.Args m c x0 x1 x2 x3 x4 := by
    obtain ⟨p0, p1, p2, p3, p4⟩ := hp c
    choose x0 h0 using Cert.Real.finite_at _ _ _ p0
    choose x1 h1 using Cert.Real.finite_at _ _ _ p1
    choose x2 h2 using Cert.Real.finite_at _ _ _ p2
    choose x3 h3 using Cert.Real.finite_at _ _ _ p3
    choose x4 h4 using Cert.Real.finite_at _ _ _ p4
    exact ⟨fun i k => x0 (ix2 i k), fun k => x1 (ix1 k), fun k j => x2 (ix2 k j), fun b i k => x3 (ix3 b i k), fun b i j => x4 (ix3 b i j),
      fun i k => h0 _, fun k => h1 _, fun k j => h2 _, fun b i k => h3 _, fun b i j => h4 _⟩
  choose x0 x1 x2 x3 x4 hk using hx
  have hr (c) : Cert.ReferenceIdeal.Head.Args _ _ _ _ _ (x0 c) (x1 c) (x2 c) (x3 c) (x4 c) := ⟨fun i k => (congrFun (hm c).1 _).trans ((hk c).a0 i k),
    fun k => (congrFun (hm c).2.1 _).trans ((hk c).a1 k), fun k j => (congrFun (hm c).2.2.1 _).trans ((hk c).a2 k j),
    fun b i k => (congrFun (hm c).2.2.2.1 _).trans ((hk c).a3 b i k), fun b i j => (congrFun (hm c).2.2.2.2 _).trans ((hk c).a4 b i j)⟩
  refine ⟨_, _, _, Cert.KernelIdeal.Value.run_blocks (F := Ideal) m g,
    (θ_run Cert.ReferenceIdeal.defs _ _).mono (fun r h c => ?_) (Cert.ReferenceIdeal.Value.run (F := Ideal) m' g')⟩
  obtain ⟨e0, e1, e2, ha⟩ := h c
  refine ⟨(e0.trans (Cert.ReferenceIdeal.Read.val_main_v76_eq m' c)).trans (funext fun j => ?_), e1.trans (funext fun j => ?_), e2.trans (funext fun j => ?_), ha⟩
  · obtain ⟨i, k, rfl⟩ := Cert.KernelIdeal.Head.idx2 j
    exact (Cert.ReferenceIdeal.Head.out0 (hr c) i k).trans (Cert.KernelIdeal.Head.out9 (hk c) i k).symm
  · obtain ⟨k, rfl⟩ := Cert.KernelIdeal.Head.idx1 j
    exact (Cert.ReferenceIdeal.Head.out1 (hr c) k).trans (Cert.KernelIdeal.Head.out10 (hk c) k).symm
  · obtain ⟨k, rfl⟩ := Cert.KernelIdeal.Head.idx1 j
    exact (Cert.ReferenceIdeal.Head.out2 (hr c) k).trans (Cert.KernelIdeal.Head.out11 (hk c) k).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite2.Gen.facts, Cert.Pre_finite3.Gen.facts, Cert.Pre_finite4.Gen.facts, Cert.Pre_finite5.Gen.facts, Cert.Pre_finite6.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  Tokens.frame_reference, fun m ρ _ => Tokens.frame_reference m ρ trivial,
  fun m ρ _ => Cert.Kernel3.Gen.frame m ρ, fun m ρ _ => Cert.Kernel3Ideal.Gen.frame m ρ, fun m ρ _ => Cert.Kernel3Ideal.Gen.frame m ρ,
  Gla.frame_reference, fun m ρ _ => Gla.frame_reference m ρ trivial,
  fun m ρ _ => Cert.Kernel4.Gen.frame m ρ, fun m ρ _ => Cert.Kernel4Ideal.Gen.frame m ρ, fun m ρ _ => Cert.Kernel4Ideal.Gen.frame m ρ,
  Weights.frame_reference, fun m ρ _ => Weights.frame_reference m ρ trivial,
  fun m ρ _ => Cert.Kernel5.Gen.frame m ρ, fun m ρ _ => Cert.Kernel5Ideal.Gen.frame m ρ, fun m ρ _ => Cert.Kernel5Ideal.Gen.frame m ρ,
  Act.frame_reference, fun m ρ _ => Act.frame_reference m ρ trivial,
  fun m ρ _ => Cert.Kernel6.Gen.frame m ρ, fun m ρ _ => Cert.Kernel6Ideal.Gen.frame m ρ, fun m ρ _ => Cert.Kernel6Ideal.Gen.frame m ρ,
  Loss.frame_reference, fun m ρ _ => Loss.frame_reference m ρ trivial,
  fun m ρ _ => Cert.Kernel7.Gen.frame m ρ, fun m ρ _ => Cert.Kernel7Ideal.Gen.frame m ρ, Proj.frame_reference,
  fun m ρ _ => Cert.Kernel8.Gen.frame m ρ, fun m ρ _ => Cert.Kernel8Ideal.Gen.frame m ρ, Conv.frame_reference,
  fun m ρ _ => Cert.Kernel9.Gen.frame m ρ, fun m ρ _ => Cert.Kernel9Ideal.Gen.frame m ρ, Norm.frame_reference,
  fun m ρ _ => Cert.Kernel10.Gen.frame m ρ, fun m ρ _ => Cert.Kernel10Ideal.Gen.frame m ρ, Mix.frame_reference,
  fun m ρ _ => Cert.Kernel11.Gen.frame m ρ, fun m ρ _ => Cert.Kernel11Ideal.Gen.frame m ρ, InGrad.frame_reference,
  fun m ρ _ => Cert.Kernel12.Gen.frame m ρ, fun m ρ _ => Cert.Kernel12Ideal.Gen.frame m ρ, InProj.frame_reference,
  trivial, head, trivial, Tokens.value, trivial, Gla.value, trivial, Weights.value, trivial, Act.value, trivial, Loss.value, trivial, Proj.value, trivial, Conv.value, trivial, Norm.value, trivial, Mix.value, trivial, InGrad.value, trivial, InProj.value⟩

end Cert.Proof

end
